-- ==== Defs.lean ====
def Pre_Experts [hPre_tables : Cert.Pre_tables.Facts] (m : (ℓ : Loc Cert.Experts.nD Cert.Experts.τ Cert.Experts.sig) → Buf (Elt Bits) ℓ) : Prop :=
  ∀ c : Dev Cert.Experts.nD,
    (Cert.Pre_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_tables : Cert.Pre_tables.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ReferenceIdeal [hPre_tables : Cert.Pre_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def quiescent_Experts [hExperts : Cert.Experts.Facts] [hPre_tables : Cert.Pre_tables.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_tables : Cert.Pre_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ReferenceIdeal [hReferenceIdeal : Cert.ReferenceIdeal.Facts] [hPre_tables : Cert.Pre_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6)
      ∧ r.2.mem ((c.tc : Thread Cert.Outproj.nD Cert.Outproj.τ).loc Cert.Outproj.main_arg7) = m ((c.tc : Thread Cert.Outproj.nD Cert.Outproj.τ).loc Cert.Outproj.main_arg7)
      ∧ r.2.mem ((c.tc : Thread Cert.Outproj.nD Cert.Outproj.τ).loc Cert.Outproj.main_arg8) = m ((c.tc : Thread Cert.Outproj.nD Cert.Outproj.τ).loc Cert.Outproj.main_arg8)
      ∧ r.2.mem ((c.tc : Thread Cert.Outproj.nD Cert.Outproj.τ).loc Cert.Outproj.main_arg9) = m ((c.tc : Thread Cert.Outproj.nD Cert.Outproj.τ).loc Cert.Outproj.main_arg9)
      ∧ r.2.mem ((c.tc : Thread Cert.Outproj.nD Cert.Outproj.τ).loc Cert.Outproj.main_arg10) = m ((c.tc : Thread Cert.Outproj.nD Cert.Outproj.τ).loc Cert.Outproj.main_arg10))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
      ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
      ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8)
      ∧ r.2.mem ((c.tc : Thread Cert.OutprojIdeal.nD Cert.OutprojIdeal.τ).loc Cert.OutprojIdeal.main_arg9) = m ((c.tc : Thread Cert.OutprojIdeal.nD Cert.OutprojIdeal.τ).loc Cert.OutprojIdeal.main_arg9)
      ∧ r.2.mem ((c.tc : Thread Cert.OutprojIdeal.nD Cert.OutprojIdeal.τ).loc Cert.OutprojIdeal.main_arg10) = m ((c.tc : Thread Cert.OutprojIdeal.nD Cert.OutprojIdeal.τ).loc Cert.OutprojIdeal.main_arg10))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5)
      ∧ r.2.mem ((c.tc : Thread Cert.OutprojRefIdeal.nD Cert.OutprojRefIdeal.τ).loc Cert.OutprojRefIdeal.main_arg6) = m ((c.tc : Thread Cert.OutprojRefIdeal.nD Cert.OutprojRefIdeal.τ).loc Cert.OutprojRefIdeal.main_arg6)
      ∧ r.2.mem ((c.tc : Thread Cert.OutprojRefIdeal.nD Cert.OutprojRefIdeal.τ).loc Cert.OutprojRefIdeal.main_arg7) = m ((c.tc : Thread Cert.OutprojRefIdeal.nD Cert.OutprojRefIdeal.τ).loc Cert.OutprojRefIdeal.main_arg7)
      ∧ r.2.mem ((c.tc : Thread Cert.OutprojRefIdeal.nD Cert.OutprojRefIdeal.τ).loc Cert.OutprojRefIdeal.main_arg8) = m ((c.tc : Thread Cert.OutprojRefIdeal.nD Cert.OutprojRefIdeal.τ).loc Cert.OutprojRefIdeal.main_arg8)
      ∧ r.2.mem ((c.tc : Thread Cert.OutprojRefIdeal.nD Cert.OutprojRefIdeal.τ).loc Cert.OutprojRefIdeal.main_arg9) = m ((c.tc : Thread Cert.OutprojRefIdeal.nD Cert.OutprojRefIdeal.τ).loc Cert.OutprojRefIdeal.main_arg9)
      ∧ r.2.mem ((c.tc : Thread Cert.OutprojRefIdeal.nD Cert.OutprojRefIdeal.τ).loc Cert.OutprojRefIdeal.main_arg10) = m ((c.tc : Thread Cert.OutprojRefIdeal.nD Cert.OutprojRefIdeal.τ).loc Cert.OutprojRefIdeal.main_arg10))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def preserves_Experts_ExpertsIdeal : Prop :=
  IdealRules.bf16_pair.PackStatement Cert.ExpertsIdeal.S512x256
  ∧ IdealRules.bf16_pair.Statement Cert.ExpertsIdeal.S512x2x128 Cert.ExpertsIdeal.S512x1x128

def algebraic_ExpertsIdeal_ReferenceIdeal [hExpertsIdeal : Cert.ExpertsIdeal.Facts] [hReferenceIdeal : Cert.ReferenceIdeal.Facts] [hPre_tables : Cert.Pre_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_ExpertsIdeal m →
    (∀ c : Dev Cert.ExpertsIdeal.nD,
      m' ((c.tc : Thread Cert.ReferenceIdeal.nD Cert.ReferenceIdeal.τ).loc Cert.ReferenceIdeal.main_arg0) = m ((c.tc : Thread Cert.ExpertsIdeal.nD Cert.ExpertsIdeal.τ).loc Cert.ExpertsIdeal.main_arg0)
      ∧ m' ((c.tc : Thread Cert.ReferenceIdeal.nD Cert.ReferenceIdeal.τ).loc Cert.ReferenceIdeal.main_arg1) = m ((c.tc : Thread Cert.ExpertsIdeal.nD Cert.ExpertsIdeal.τ).loc Cert.ExpertsIdeal.main_arg1)
      ∧ m' ((c.tc : Thread Cert.ReferenceIdeal.nD Cert.ReferenceIdeal.τ).loc Cert.ReferenceIdeal.main_arg2) = m ((c.tc : Thread Cert.ExpertsIdeal.nD Cert.ExpertsIdeal.τ).loc Cert.ExpertsIdeal.main_arg2)
      ∧ m' ((c.tc : Thread Cert.ReferenceIdeal.nD Cert.ReferenceIdeal.τ).loc Cert.ReferenceIdeal.main_arg3) = m ((c.tc : Thread Cert.ExpertsIdeal.nD Cert.ExpertsIdeal.τ).loc Cert.ExpertsIdeal.main_arg3)
      ∧ m' ((c.tc : Thread Cert.ReferenceIdeal.nD Cert.ReferenceIdeal.τ).loc Cert.ReferenceIdeal.main_arg4) = m ((c.tc : Thread Cert.ExpertsIdeal.nD Cert.ExpertsIdeal.τ).loc Cert.ExpertsIdeal.main_arg4)
      ∧ m' ((c.tc : Thread Cert.ReferenceIdeal.nD Cert.ReferenceIdeal.τ).loc Cert.ReferenceIdeal.main_arg5) = m ((c.tc : Thread Cert.ExpertsIdeal.nD Cert.ExpertsIdeal.τ).loc Cert.ExpertsIdeal.main_arg5)
      ∧ m' ((c.tc : Thread Cert.ReferenceIdeal.nD Cert.ReferenceIdeal.τ).loc Cert.ReferenceIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v0_0)) (v1 : (c : Dev Cert.InprojIdeal.nD) → Buf (Elt Ideal) ((c.tc : Thread Cert.InprojIdeal.nD Cert.InprojIdeal.τ).loc Cert.InprojIdeal.main_v0_1)) (v2 : (c : Dev Cert.InprojIdeal.nD) → Buf (Elt Ideal) ((c.tc : Thread Cert.InprojIdeal.nD Cert.InprojIdeal.τ).loc Cert.InprojIdeal.main_v0_2)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v0_0) = v0 c
          ∧ r.2.mem ((c.tc : Thread Cert.InprojIdeal.nD Cert.InprojIdeal.τ).loc Cert.InprojIdeal.main_v0_1) = v1 c
          ∧ r.2.mem ((c.tc : Thread Cert.InprojIdeal.nD Cert.InprojIdeal.τ).loc Cert.InprojIdeal.main_v0_2) = v2 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v32) = v0 c
          ∧ r.2.mem ((c.tc : Thread Cert.InprojRefIdeal.nD Cert.InprojRefIdeal.τ).loc Cert.InprojRefIdeal.main_v43) = v1 c
          ∧ r.2.mem ((c.tc : Thread Cert.InprojRefIdeal.nD Cert.InprojRefIdeal.τ).loc Cert.InprojRefIdeal.main_v44) = v2 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_Outproj_OutprojIdeal : Prop :=
  IdealRules.bf16_pair.PackStatement Cert.OutprojIdeal.S256x1024
  ∧ IdealRules.bf16_pair.Statement Cert.OutprojIdeal.S256x2x128 Cert.OutprojIdeal.S256x1x128

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)
      ∧ m' ((c.tc : Thread Cert.OutprojRefIdeal.nD Cert.OutprojRefIdeal.τ).loc Cert.OutprojRefIdeal.main_arg5) = m ((c.tc : Thread Cert.OutprojIdeal.nD Cert.OutprojIdeal.τ).loc Cert.OutprojIdeal.main_arg5)
      ∧ m' ((c.tc : Thread Cert.OutprojRefIdeal.nD Cert.OutprojRefIdeal.τ).loc Cert.OutprojRefIdeal.main_arg6) = m ((c.tc : Thread Cert.OutprojIdeal.nD Cert.OutprojIdeal.τ).loc Cert.OutprojIdeal.main_arg6)
      ∧ m' ((c.tc : Thread Cert.OutprojRefIdeal.nD Cert.OutprojRefIdeal.τ).loc Cert.OutprojRefIdeal.main_arg7) = m ((c.tc : Thread Cert.OutprojIdeal.nD Cert.OutprojIdeal.τ).loc Cert.OutprojIdeal.main_arg7)
      ∧ m' ((c.tc : Thread Cert.OutprojRefIdeal.nD Cert.OutprojRefIdeal.τ).loc Cert.OutprojRefIdeal.main_arg8) = m ((c.tc : Thread Cert.OutprojIdeal.nD Cert.OutprojIdeal.τ).loc Cert.OutprojIdeal.main_arg8)
      ∧ m' ((c.tc : Thread Cert.OutprojRefIdeal.nD Cert.OutprojRefIdeal.τ).loc Cert.OutprojRefIdeal.main_arg9) = m ((c.tc : Thread Cert.OutprojIdeal.nD Cert.OutprojIdeal.τ).loc Cert.OutprojIdeal.main_arg9)
      ∧ m' ((c.tc : Thread Cert.OutprojRefIdeal.nD Cert.OutprojRefIdeal.τ).loc Cert.OutprojRefIdeal.main_arg10) = m ((c.tc : Thread Cert.OutprojIdeal.nD Cert.OutprojIdeal.τ).loc Cert.OutprojIdeal.main_arg10)) →
    ∃ (v0 : (c : Dev Cert.OutprojIdeal.nD) → Buf (Elt Ideal) ((c.tc : Thread Cert.OutprojIdeal.nD Cert.OutprojIdeal.τ).loc Cert.OutprojIdeal.main_v0_0)) (v1 : (c : Dev Cert.OutprojIdeal.nD) → Buf (Elt Ideal) ((c.tc : Thread Cert.OutprojIdeal.nD Cert.OutprojIdeal.τ).loc Cert.OutprojIdeal.main_v0_1)) (v2 : (c : Dev Cert.OutprojIdeal.nD) → Buf (Elt Ideal) ((c.tc : Thread Cert.OutprojIdeal.nD Cert.OutprojIdeal.τ).loc Cert.OutprojIdeal.main_v0_2)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v0_0) = v0 c
          ∧ r.2.mem ((c.tc : Thread Cert.OutprojIdeal.nD Cert.OutprojIdeal.τ).loc Cert.OutprojIdeal.main_v0_1) = v1 c
          ∧ r.2.mem ((c.tc : Thread Cert.OutprojIdeal.nD Cert.OutprojIdeal.τ).loc Cert.OutprojIdeal.main_v0_2) = v2 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
          ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
          ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8)
          ∧ r.2.mem ((c.tc : Thread Cert.OutprojIdeal.nD Cert.OutprojIdeal.τ).loc Cert.OutprojIdeal.main_arg9) = m ((c.tc : Thread Cert.OutprojIdeal.nD Cert.OutprojIdeal.τ).loc Cert.OutprojIdeal.main_arg9)
          ∧ r.2.mem ((c.tc : Thread Cert.OutprojIdeal.nD Cert.OutprojIdeal.τ).loc Cert.OutprojIdeal.main_arg10) = m ((c.tc : Thread Cert.OutprojIdeal.nD Cert.OutprojIdeal.τ).loc Cert.OutprojIdeal.main_arg10))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v21) = v0 c
          ∧ r.2.mem ((c.tc : Thread Cert.OutprojRefIdeal.nD Cert.OutprojRefIdeal.τ).loc Cert.OutprojRefIdeal.main_v49) = v1 c
          ∧ r.2.mem ((c.tc : Thread Cert.OutprojRefIdeal.nD Cert.OutprojRefIdeal.τ).loc Cert.OutprojRefIdeal.main_v45) = v2 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4)
          ∧ r.2.mem ((c.tc : Thread Cert.OutprojRefIdeal.nD Cert.OutprojRefIdeal.τ).loc Cert.OutprojRefIdeal.main_arg5) = m' ((c.tc : Thread Cert.OutprojRefIdeal.nD Cert.OutprojRefIdeal.τ).loc Cert.OutprojRefIdeal.main_arg5)
          ∧ r.2.mem ((c.tc : Thread Cert.OutprojRefIdeal.nD Cert.OutprojRefIdeal.τ).loc Cert.OutprojRefIdeal.main_arg6) = m' ((c.tc : Thread Cert.OutprojRefIdeal.nD Cert.OutprojRefIdeal.τ).loc Cert.OutprojRefIdeal.main_arg6)
          ∧ r.2.mem ((c.tc : Thread Cert.OutprojRefIdeal.nD Cert.OutprojRefIdeal.τ).loc Cert.OutprojRefIdeal.main_arg7) = m' ((c.tc : Thread Cert.OutprojRefIdeal.nD Cert.OutprojRefIdeal.τ).loc Cert.OutprojRefIdeal.main_arg7)
          ∧ r.2.mem ((c.tc : Thread Cert.OutprojRefIdeal.nD Cert.OutprojRefIdeal.τ).loc Cert.OutprojRefIdeal.main_arg8) = m' ((c.tc : Thread Cert.OutprojRefIdeal.nD Cert.OutprojRefIdeal.τ).loc Cert.OutprojRefIdeal.main_arg8)
          ∧ r.2.mem ((c.tc : Thread Cert.OutprojRefIdeal.nD Cert.OutprojRefIdeal.τ).loc Cert.OutprojRefIdeal.main_arg9) = m' ((c.tc : Thread Cert.OutprojRefIdeal.nD Cert.OutprojRefIdeal.τ).loc Cert.OutprojRefIdeal.main_arg9)
          ∧ r.2.mem ((c.tc : Thread Cert.OutprojRefIdeal.nD Cert.OutprojRefIdeal.τ).loc Cert.OutprojRefIdeal.main_arg10) = m' ((c.tc : Thread Cert.OutprojRefIdeal.nD Cert.OutprojRefIdeal.τ).loc Cert.OutprojRefIdeal.main_arg10))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v0_0)) (v1 : (c : Dev Cert.MixIdeal.nD) → Buf (Elt Ideal) ((c.tc : Thread Cert.MixIdeal.nD Cert.MixIdeal.τ).loc Cert.MixIdeal.main_v0_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0_0) = v0 c
          ∧ r.2.mem ((c.tc : Thread Cert.MixIdeal.nD Cert.MixIdeal.τ).loc Cert.MixIdeal.main_v0_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v282) = v0 c
          ∧ r.2.mem ((c.tc : Thread Cert.MixRefIdeal.nD Cert.MixRefIdeal.τ).loc Cert.MixRefIdeal.main_v283) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9))

def Claim : Prop :=
  ∃ (hExperts : Cert.Experts.Facts) (hExpertsIdeal : Cert.ExpertsIdeal.Facts) (hReferenceIdeal : Cert.ReferenceIdeal.Facts) (hInproj : Cert.Inproj.Facts) (hInprojIdeal : Cert.InprojIdeal.Facts) (hInprojRefIdeal : Cert.InprojRefIdeal.Facts) (hOutproj : Cert.Outproj.Facts) (hOutprojIdeal : Cert.OutprojIdeal.Facts) (hOutprojRefIdeal : Cert.OutprojRefIdeal.Facts) (hMix : Cert.Mix.Facts) (hMixIdeal : Cert.MixIdeal.Facts) (hMixRefIdeal : Cert.MixRefIdeal.Facts) (hPre_tables : Cert.Pre_tables.Facts),
    quiescent_Experts (hExperts := hExperts) (hPre_tables := hPre_tables)
    ∧ quiescent_ExpertsIdeal (hExpertsIdeal := hExpertsIdeal) (hPre_tables := hPre_tables)
    ∧ quiescent_ReferenceIdeal (hReferenceIdeal := hReferenceIdeal) (hPre_tables := hPre_tables)
    ∧ quiescent_Inproj (hInproj := hInproj)
    ∧ quiescent_InprojIdeal (hInprojIdeal := hInprojIdeal)
    ∧ quiescent_InprojRefIdeal (hInprojRefIdeal := hInprojRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Mix (hMix := hMix)
    ∧ quiescent_MixIdeal (hMixIdeal := hMixIdeal)
    ∧ quiescent_MixRefIdeal (hMixRefIdeal := hMixRefIdeal)
    ∧ preserves_Experts_ExpertsIdeal
    ∧ algebraic_ExpertsIdeal_ReferenceIdeal (hExpertsIdeal := hExpertsIdeal) (hReferenceIdeal := hReferenceIdeal) (hPre_tables := hPre_tables)
    ∧ preserves_Inproj_InprojIdeal
    ∧ algebraic_InprojIdeal_InprojRefIdeal (hInprojIdeal := hInprojIdeal) (hInprojRefIdeal := hInprojRefIdeal)
    ∧ preserves_Outproj_OutprojIdeal
    ∧ algebraic_OutprojIdeal_OutprojRefIdeal (hOutprojIdeal := hOutprojIdeal) (hOutprojRefIdeal := hOutprojRefIdeal)
    ∧ preserves_Mix_MixIdeal
    ∧ algebraic_MixIdeal_MixRefIdeal (hMixIdeal := hMixIdeal) (hMixRefIdeal := hMixRefIdeal)
-- ==== Pre_tables.lean ====
abbrev S192 : Shape := ⟨1, ![192]⟩
abbrev S1 : Shape := ⟨1, ![1]⟩
abbrev S786432x128 : Shape := ⟨2, ![786432, 128]⟩
abbrev S2x32x2048x512 : Shape := ⟨4, ![2, 32, 2048, 512]⟩
abbrev S2x32x512x2048 : Shape := ⟨4, ![2, 32, 512, 2048]⟩
abbrev S_ : Shape := ⟨0, ![]⟩

class Facts : Prop where
  bcast_S_S192 : S_.BroadcastsInDim S192 (![] : Fin 0 → Fin S192.rank)

variable [Facts]

def fn {F : FTy → Type} [FloatOps F] (main_arg0 : IVec S192 32) (main_arg1 : IVec S192 32) (main_arg2 : IVec S1 32) (main_arg3 : IVec S786432x128 32) (main_arg4 : FVec F S2x32x2048x512 .f32) (main_arg5 : FVec F S2x32x2048x512 .f32) (main_arg6 : FVec F S2x32x512x2048 .f32) : IVec S192 1 :=
  let main_c : IVec S_ 32 := constantI S_ 32 0#32
  let main_v0 : IVec S192 32 := broadcastInDim S192 ![] bcast_S_S192 main_c
  let main_v1 : IVec S192 1 := cmpi .sge main_arg0 main_v0
  let main_c_0 : IVec S_ 32 := constantI S_ 32 32#32
  let main_v2 : IVec S192 32 := broadcastInDim S192 ![] bcast_S_S192 main_c_0
  let main_v3 : IVec S192 1 := cmpi .slt main_arg0 main_v2
  let main_v4 : IVec S192 1 := andi main_v1 main_v3
  let main_c_1 : IVec S_ 32 := constantI S_ 32 0#32
  let main_v5 : IVec S192 32 := broadcastInDim S192 ![] bcast_S_S192 main_c_1
  let main_v6 : IVec S192 1 := cmpi .sge main_arg1 main_v5
  let main_c_2 : IVec S_ 32 := constantI S_ 32 192#32
  let main_v7 : IVec S192 32 := broadcastInDim S192 ![] bcast_S_S192 main_c_2
  let main_v8 : IVec S192 1 := cmpi .slt main_arg1 main_v7
  let main_v9 : IVec S192 1 := andi main_v6 main_v8
  let main_v10 : IVec S192 1 := andi main_v4 main_v9
  main_v10
-- ==== Experts.lean ====
abbrev S192 : Shape := ⟨1, ![192]⟩
abbrev S1 : Shape := ⟨1, ![1]⟩
abbrev S786432x128 : Shape := ⟨2, ![786432, 128]⟩
abbrev S2x32x2048x512 : Shape := ⟨4, ![2, 32, 2048, 512]⟩
abbrev S2x32x512x2048 : Shape := ⟨4, ![2, 32, 512, 2048]⟩
abbrev S1572864x128 : Shape := ⟨2, ![1572864, 128]⟩
abbrev S4096x128 : Shape := ⟨2, ![4096, 128]⟩
abbrev S1x1x2048x512 : Shape := ⟨4, ![1, 1, 2048, 512]⟩
abbrev S1x1x512x2048 : Shape := ⟨4, ![1, 1, 512, 2048]⟩
abbrev S8192x128 : Shape := ⟨2, ![8192, 128]⟩
abbrev S2048x512 : Shape := ⟨2, ![2048, 512]⟩
abbrev S512x2048 : Shape := ⟨2, ![512, 2048]⟩
abbrev S512x128 : Shape := ⟨2, ![512, 128]⟩
abbrev S2048x256 : Shape := ⟨2, ![2048, 256]⟩
abbrev S512x256 : Shape := ⟨2, ![512, 256]⟩
abbrev S512x512 : Shape := ⟨2, ![512, 512]⟩
abbrev S4096x2x128 : Shape := ⟨3, ![4096, 2, 128]⟩
abbrev S512x2x128 : Shape := ⟨3, ![512, 2, 128]⟩
abbrev S512x1x128 : Shape := ⟨3, ![512, 1, 128]⟩

abbrev nBuf : Space → Nat
  | .hbm => 5
  | .vmem => 13
  | .smem => 3
  | _ => 0

abbrev bufTy : (tb : Table) → Fin (tcTables nBuf tb) → BufTy
  | .hbm, ⟨0, _⟩ => ⟨S786432x128, .i32⟩
  | .hbm, ⟨1, _⟩ => ⟨S2x32x2048x512, .f32⟩
  | .hbm, ⟨2, _⟩ => ⟨S2x32x2048x512, .f32⟩
  | .hbm, ⟨3, _⟩ => ⟨S2x32x512x2048, .f32⟩
  | .hbm, ⟨4, _⟩ => ⟨S1572864x128, .bf16⟩
  | .local _ .vmem, ⟨0, _⟩ => ⟨S4096x128, .i32⟩
  | .local _ .vmem, ⟨1, _⟩ => ⟨S4096x128, .i32⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1x1x512x2048, .f32⟩
  | .local _ .vmem, ⟨7, _⟩ => ⟨S1x1x512x2048, .f32⟩
  | .local _ .vmem, ⟨8, _⟩ => ⟨S8192x128, .bf16⟩
  | .local _ .vmem, ⟨9, _⟩ => ⟨S8192x128, .bf16⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .smem, ⟨0, _⟩ => ⟨S192, .i32⟩
  | .local _ .smem, ⟨1, _⟩ => ⟨S192, .i32⟩
  | .local _ .smem, ⟨2, _⟩ => ⟨S1, .i32⟩
  | _, _ => ⟨S786432x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨1, ![192], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v6 : Index := Scalar.indexCast arg0
  ![v6.toNat]
def k0_off3 (i : grid0.Coords) : Fin 1 → Nat :=
  let arg0 : BitVec 32 := BitVec.ofNat 32 (i 0).val
  let c1_i32 : BitVec 32 := 1#32
  let v8 : BitVec 32 := Scalar.subi arg0 c1_i32
  let c0_i32_1 : BitVec 32 := 0#32
  let v9 : BitVec 32 := Scalar.maxsi v8 c0_i32_1
  let v10 : Index := Scalar.indexCast v9
  ![v10.toNat]
def k0_cond1 (i : grid0.Coords) (v0 : BitVec 32) : BitVec 1 :=
  let arg0 : BitVec 32 := BitVec.ofNat 32 (i 0).val
  let v1 : BitVec 1 := Scalar.cmpi .slt arg0 v0
  let v_true : BitVec 1 := 1#1
  let v2 : BitVec 1 := Scalar.xori v1 v_true
  let v3 : BitVec 32 := Scalar.extui v2
  let c0_i32 : BitVec 32 := 0#32
  let v4 : BitVec 1 := Scalar.cmpi .ne v3 c0_i32
  v4

def k0_cond3 (i : grid0.Coords) (v0 : BitVec 32) : BitVec 1 :=
  let arg0 : BitVec 32 := BitVec.ofNat 32 (i 0).val
  let v1 : BitVec 1 := Scalar.cmpi .slt arg0 v0
  let v17 : BitVec 32 := Scalar.extui v1
  let c0_i32_3 : BitVec 32 := 0#32
  let v18 : BitVec 1 := Scalar.cmpi .ne v17 c0_i32_3
  v18

def cc0_transform_0 (k0_off1_inb : ∀ i : grid0.Coords, ∀ a, (k0_off1 i) a + S1.size a ≤ S192.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S192) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S192.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S192) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S192.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S192) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S192.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S192) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsIdeal.lean ====
variable {F : FTy → Type} [FloatOps F]
-- ==== ReferenceIdeal.lean ====
abbrev S192 : Shape := ⟨1, ![192]⟩
abbrev S1 : Shape := ⟨1, ![1]⟩
abbrev S786432x128 : Shape := ⟨2, ![786432, 128]⟩
abbrev S2x32x2048x512 : Shape := ⟨4, ![2, 32, 2048, 512]⟩
abbrev S2x32x512x2048 : Shape := ⟨4, ![2, 32, 512, 2048]⟩
abbrev S192x512x1024 : Shape := ⟨3, ![192, 512, 1024]⟩
abbrev S_ : Shape := ⟨0, ![]⟩
abbrev S192x512x2048 : Shape := ⟨3, ![192, 512, 2048]⟩
abbrev S192x1 : Shape := ⟨2, ![192, 1]⟩
abbrev S1x32x2048x512 : Shape := ⟨4, ![1, 32, 2048, 512]⟩
abbrev S32x2048x512 : Shape := ⟨3, ![32, 2048, 512]⟩
abbrev S192x2048x512 : Shape := ⟨3, ![192, 2048, 512]⟩
abbrev S192x512x512 : Shape := ⟨3, ![192, 512, 512]⟩
abbrev S1x32x512x2048 : Shape := ⟨4, ![1, 32, 512, 2048]⟩
abbrev S32x512x2048 : Shape := ⟨3, ![32, 512, 2048]⟩
abbrev S192x1x1 : Shape := ⟨3, ![192, 1, 1]⟩
abbrev S192x512x2x8x128 : Shape := ⟨5, ![192, 512, 2, 8, 128]⟩
abbrev S192x512x8x2x128 : Shape := ⟨5, ![192, 512, 8, 2, 128]⟩
abbrev S1572864x128 : Shape := ⟨2, ![1572864, 128]⟩

abbrev nBuf : Space → Nat
  | .hbm => 86
  | .vmem => 0
  | .smem => 0
  | _ => 0

abbrev bufTy : (tb : Table) → Fin (tcTables nBuf tb) → BufTy
  | .hbm, ⟨0, _⟩ => ⟨S192, .i32⟩
  | .hbm, ⟨1, _⟩ => ⟨S192, .i32⟩
  | .hbm, ⟨2, _⟩ => ⟨S1, .i32⟩
  | .hbm, ⟨3, _⟩ => ⟨S786432x128, .i32⟩
  | .hbm, ⟨4, _⟩ => ⟨S2x32x2048x512, .f32⟩
  | .hbm, ⟨5, _⟩ => ⟨S2x32x2048x512, .f32⟩
  | .hbm, ⟨6, _⟩ => ⟨S2x32x512x2048, .f32⟩
  | .hbm, ⟨7, _⟩ => ⟨S192x512x1024, .i32⟩
  | .hbm, ⟨8, _⟩ => ⟨S_, .i32⟩
  | .hbm, ⟨9, _⟩ => ⟨S192x512x1024, .i32⟩
  | .hbm, ⟨10, _⟩ => ⟨S192x512x1024, .i32⟩
  | .hbm, ⟨11, _⟩ => ⟨S192x512x1024, .f32⟩
  | .hbm, ⟨12, _⟩ => ⟨S_, .i32⟩
  | .hbm, ⟨13, _⟩ => ⟨S192x512x1024, .i32⟩
  | .hbm, ⟨14, _⟩ => ⟨S192x512x1024, .i32⟩
  | .hbm, ⟨15, _⟩ => ⟨S192x512x1024, .f32⟩
  | .hbm, ⟨16, _⟩ => ⟨S192x512x2048, .f32⟩
  | .hbm, ⟨17, _⟩ => ⟨S_, .i32⟩
  | .hbm, ⟨18, _⟩ => ⟨S192, .i32⟩
  | .hbm, ⟨19, _⟩ => ⟨S192, .i1⟩
  | .hbm, ⟨20, _⟩ => ⟨S_, .i32⟩
  | .hbm, ⟨21, _⟩ => ⟨S192, .i32⟩
  | .hbm, ⟨22, _⟩ => ⟨S192, .i32⟩
  | .hbm, ⟨23, _⟩ => ⟨S192, .i32⟩
  | .hbm, ⟨24, _⟩ => ⟨S192x1, .i32⟩
  | .hbm, ⟨25, _⟩ => ⟨S192x512x2048, .f32⟩
  | .hbm, ⟨26, _⟩ => ⟨S1x32x2048x512, .f32⟩
  | .hbm, ⟨27, _⟩ => ⟨S32x2048x512, .f32⟩
  | .hbm, ⟨28, _⟩ => ⟨S_, .i32⟩
  | .hbm, ⟨29, _⟩ => ⟨S192, .i32⟩
  | .hbm, ⟨30, _⟩ => ⟨S192, .i1⟩
  | .hbm, ⟨31, _⟩ => ⟨S_, .i32⟩
  | .hbm, ⟨32, _⟩ => ⟨S192, .i32⟩
  | .hbm, ⟨33, _⟩ => ⟨S192, .i32⟩
  | .hbm, ⟨34, _⟩ => ⟨S192, .i32⟩
  | .hbm, ⟨35, _⟩ => ⟨S192x1, .i32⟩
  | .hbm, ⟨36, _⟩ => ⟨S192x2048x512, .f32⟩
  | .hbm, ⟨37, _⟩ => ⟨S192x512x512, .f32⟩
  | .hbm, ⟨38, _⟩ => ⟨S1x32x2048x512, .f32⟩
  | .hbm, ⟨39, _⟩ => ⟨S32x2048x512, .f32⟩
  | .hbm, ⟨40, _⟩ => ⟨S_, .i32⟩
  | .hbm, ⟨41, _⟩ => ⟨S192, .i32⟩
  | .hbm, ⟨42, _⟩ => ⟨S192, .i1⟩
  | .hbm, ⟨43, _⟩ => ⟨S_, .i32⟩
  | .hbm, ⟨44, _⟩ => ⟨S192, .i32⟩
  | .hbm, ⟨45, _⟩ => ⟨S192, .i32⟩
  | .hbm, ⟨46, _⟩ => ⟨S192, .i32⟩
  | .hbm, ⟨47, _⟩ => ⟨S192x1, .i32⟩
  | .hbm, ⟨48, _⟩ => ⟨S192x2048x512, .f32⟩
  | .hbm, ⟨49, _⟩ => ⟨S192x512x512, .f32⟩
  | .hbm, ⟨50, _⟩ => ⟨S192x512x512, .f32⟩
  | .hbm, ⟨51, _⟩ => ⟨S192x512x512, .f32⟩
  | .hbm, ⟨52, _⟩ => ⟨S_, .f32⟩
  | .hbm, ⟨53, _⟩ => ⟨S192x512x512, .f32⟩
  | .hbm, ⟨54, _⟩ => ⟨S192x512x512, .f32⟩
  | .hbm, ⟨55, _⟩ => ⟨S_, .f32⟩
  | .hbm, ⟨56, _⟩ => ⟨S192x512x512, .f32⟩
  | .hbm, ⟨57, _⟩ => ⟨S192x512x512, .f32⟩
  | .hbm, ⟨58, _⟩ => ⟨S192x512x512, .f32⟩
  | .hbm, ⟨59, _⟩ => ⟨S192x512x512, .f32⟩
  | .hbm, ⟨60, _⟩ => ⟨S1x32x512x2048, .f32⟩
  | .hbm, ⟨61, _⟩ => ⟨S32x512x2048, .f32⟩
  | .hbm, ⟨62, _⟩ => ⟨S_, .i32⟩
  | .hbm, ⟨63, _⟩ => ⟨S192, .i32⟩
  | .hbm, ⟨64, _⟩ => ⟨S192, .i1⟩
  | .hbm, ⟨65, _⟩ => ⟨S_, .i32⟩
  | .hbm, ⟨66, _⟩ => ⟨S192, .i32⟩
  | .hbm, ⟨67, _⟩ => ⟨S192, .i32⟩
  | .hbm, ⟨68, _⟩ => ⟨S192, .i32⟩
  | .hbm, ⟨69, _⟩ => ⟨S192x1, .i32⟩
  | .hbm, ⟨70, _⟩ => ⟨S192x512x2048, .f32⟩
  | .hbm, ⟨71, _⟩ => ⟨S192x512x2048, .f32⟩
  | .hbm, ⟨72, _⟩ => ⟨S192, .i32⟩
  | .hbm, ⟨73, _⟩ => ⟨S_, .i32⟩
  | .hbm, ⟨74, _⟩ => ⟨S192, .i32⟩
  | .hbm, ⟨75, _⟩ => ⟨S192, .i1⟩
  | .hbm, ⟨76, _⟩ => ⟨S192x1x1, .i1⟩
  | .hbm, ⟨77, _⟩ => ⟨S_, .f32⟩
  | .hbm, ⟨78, _⟩ => ⟨S_, .f32⟩
  | .hbm, ⟨79, _⟩ => ⟨S192x512x2048, .i1⟩
  | .hbm, ⟨80, _⟩ => ⟨S192x512x2048, .f32⟩
  | .hbm, ⟨81, _⟩ => ⟨S192x512x2048, .f32⟩
  | .hbm, ⟨82, _⟩ => ⟨S192x512x2x8x128, .f32⟩
  | .hbm, ⟨83, _⟩ => ⟨S192x512x8x2x128, .f32⟩
  | .hbm, ⟨84, _⟩ => ⟨S1572864x128, .f32⟩
  | .hbm, ⟨85, _⟩ => ⟨S1572864x128, .bf16⟩
  | _, _ => ⟨S192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_7 : Ref sig .tc := ⟨.hbm, 62, rfl⟩
abbrev main_v39 : Ref sig .tc := ⟨.hbm, 63, rfl⟩
abbrev main_v40 : Ref sig .tc := ⟨.hbm, 64, rfl⟩
abbrev main_c_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩

abbrev nD : Nat := 1
abbrev τ : Topo := Topo.v7x

variable {F : FTy → Type} [FloatOps F]
-- ==== Inproj.lean ====
abbrev S8192x2048 : Shape := ⟨2, ![8192, 2048]⟩
abbrev S32768x2048 : Shape := ⟨2, ![32768, 2048]⟩
abbrev S1x2048 : Shape := ⟨2, ![1, 2048]⟩
abbrev S8x6x1x2048 : Shape := ⟨4, ![8, 6, 1, 2048]⟩
abbrev S2048x3072 : Shape := ⟨2, ![2048, 3072]⟩
abbrev S40960x512 : Shape := ⟨2, ![40960, 512]⟩
abbrev S40960x1024 : Shape := ⟨2, ![40960, 1024]⟩
abbrev S512x2048 : Shape := ⟨2, ![512, 2048]⟩
abbrev S1x1x1x2048 : Shape := ⟨4, ![1, 1, 1, 2048]⟩
abbrev S512x512 : Shape := ⟨2, ![512, 512]⟩
abbrev S512x1024 : Shape := ⟨2, ![512, 1024]⟩
abbrev S256x2048 : Shape := ⟨2, ![256, 2048]⟩
abbrev S256 : Shape := ⟨1, ![256]⟩
abbrev S256x1 : Shape := ⟨2, ![256, 1]⟩
abbrev S2048x512 : Shape := ⟨2, ![2048, 512]⟩
abbrev S256x512 : Shape := ⟨2, ![256, 512]⟩
abbrev S2048x1024 : Shape := ⟨2, ![2048, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S32768x2048, .f32⟩
  | .hbm, ⟨2, _⟩ => ⟨S1x2048, .f32⟩
  | .hbm, ⟨3, _⟩ => ⟨S8x6x1x2048, .f32⟩
  | .hbm, ⟨4, _⟩ => ⟨S2048x3072, .bf16⟩
  | .hbm, ⟨5, _⟩ => ⟨S40960x512, .f32⟩
  | .hbm, ⟨6, _⟩ => ⟨S40960x1024, .bf16⟩
  | .hbm, ⟨7, _⟩ => ⟨S40960x512, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S1x1x1x2048, .f32⟩
  | .local _ .vmem, ⟨8, _⟩ => ⟨S1x1x1x2048, .f32⟩
  | .local _ .vmem, ⟨9, _⟩ => ⟨S2048x3072, .bf16⟩
  | .local _ .vmem, ⟨10, _⟩ => ⟨S512x512, .f32⟩
  | .local _ .vmem, ⟨11, _⟩ => ⟨S512x512, .f32⟩
  | .local _ .vmem, ⟨12, _⟩ => ⟨S512x1024, .bf16⟩
  | .local _ .vmem, ⟨13, _⟩ => ⟨S512x1024, .bf16⟩
  | .local _ .vmem, ⟨14, _⟩ => ⟨S512x512, .bf16⟩
  | .local _ .vmem, ⟨15, _⟩ => ⟨S512x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c16_i32 : BitVec 32 := 16#32
  let v0 : BitVec 1 := Scalar.cmpi .slt arg0 c16_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let v18 : BitVec 32 := Scalar.subi arg0 c16_i32_4
  let c16_i32_5 : BitVec 32 := 16#32
  let v19 : BitVec 32 := Scalar.divsi v18 c16_i32_5
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c0_i32_8 : BitVec 32 := 0#32
  let v25 : BitVec 1 := Scalar.cmpi .sgt c16_i32_5 c0_i32_8
  let v26 : BitVec 32 := Scalar.extui v25
  let c0_i32_9 : BitVec 32 := 0#32
  let v27 : BitVec 1 := Scalar.cmpi .slt c16_i32_5 c0_i32_9
  let v28 : BitVec 32 := Scalar.extui v27
  let v29 : BitVec 32 := Scalar.subi v26 v28
  let v30 : BitVec 1 := Scalar.cmpi .ne v24 v29
  let v31 : BitVec 32 := Scalar.remsi v18 c16_i32_5
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c4_i32_12 : BitVec 32 := 4#32
  let v36 : BitVec 32 := Scalar.addi c4_i32_12 v35
  let v37 : BitVec 32 := Scalar.select v0 v17 v36
  let c1_i32_13 : BitVec 32 := 1#32
  let c0_i32_14 : BitVec 32 := 0#32
  let c0_i32_15 : BitVec 32 := 0#32
  let c0_i32_16 : BitVec 32 := 0#32
  ![v37.toNat, c1_i32_13.toNat, c0_i32_14.toNat, c0_i32_15.toNat]

def cc0_transform_4 (i : grid0.Coords) : Fin 4 → Nat :=
  let arg0 : BitVec 32 := BitVec.ofNat 32 (i 0).val
  let c16_i32 : BitVec 32 := 16#32
  let v0 : BitVec 1 := Scalar.cmpi .slt arg0 c16_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let v18 : BitVec 32 := Scalar.subi arg0 c16_i32_4
  let c16_i32_5 : BitVec 32 := 16#32
  let v19 : BitVec 32 := Scalar.divsi v18 c16_i32_5
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c0_i32_8 : BitVec 32 := 0#32
  let v25 : BitVec 1 := Scalar.cmpi .sgt c16_i32_5 c0_i32_8
  let v26 : BitVec 32 := Scalar.extui v25
  let c0_i32_9 : BitVec 32 := 0#32
  let v27 : BitVec 1 := Scalar.cmpi .slt c16_i32_5 c0_i32_9
  let v28 : BitVec 32 := Scalar.extui v27
  let v29 : BitVec 32 := Scalar.subi v26 v28
  let v30 : BitVec 1 := Scalar.cmpi .ne v24 v29
  let v31 : BitVec 32 := Scalar.remsi v18 c16_i32_5
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c4_i32_12 : BitVec 32 := 4#32
  let v36 : BitVec 32 := Scalar.addi c4_i32_12 v35
  let v37 : BitVec 32 := Scalar.select v0 v17 v36
  let c0_i32_13 : BitVec 32 := 0#32
  let c0_i32_14 : BitVec 32 := 0#32
  let c0_i32_15 : BitVec 32 := 0#32
  let c0_i32_16 : BitVec 32 := 0#32
  ![v37.toNat, c0_i32_13.toNat, c0_i32_14.toNat, c0_i32_15.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InprojRefIdeal.lean ====
abbrev S8192x2048 : Shape := ⟨2, ![8192, 2048]⟩
abbrev S32768x2048 : Shape := ⟨2, ![32768, 2048]⟩
abbrev S1x2048 : Shape := ⟨2, ![1, 2048]⟩
abbrev S8x6x1x2048 : Shape := ⟨4, ![8, 6, 1, 2048]⟩
abbrev S2048x3072 : Shape := ⟨2, ![2048, 3072]⟩
abbrev S40960x2048 : Shape := ⟨2, ![40960, 2048]⟩
abbrev S4x6x1x2048 : Shape := ⟨4, ![4, 6, 1, 2048]⟩
abbrev S4x6x2048 : Shape := ⟨3, ![4, 6, 2048]⟩
abbrev S4x2048x6x2048 : Shape := ⟨4, ![4, 2048, 6, 2048]⟩
abbrev S8192x6x2048 : Shape := ⟨3, ![8192, 6, 2048]⟩
abbrev S4x8192x6x2048 : Shape := ⟨4, ![4, 8192, 6, 2048]⟩
abbrev S32768x6x2048 : Shape := ⟨3, ![32768, 6, 2048]⟩
abbrev S40960x6x2048 : Shape := ⟨3, ![40960, 6, 2048]⟩
abbrev S_ : Shape := ⟨0, ![]⟩
abbrev S40960 : Shape := ⟨1, ![40960]⟩
abbrev S40960x1 : Shape := ⟨2, ![40960, 1]⟩
abbrev S40960x1x2048 : Shape := ⟨3, ![40960, 1, 2048]⟩
abbrev S40960x3072 : Shape := ⟨2, ![40960, 3072]⟩
abbrev S40960x512 : Shape := ⟨2, ![40960, 512]⟩
abbrev S40960x1024 : Shape := ⟨2, ![40960, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S32768x2048, .f32⟩
  | .hbm, ⟨2, _⟩ => ⟨S1x2048, .f32⟩
  | .hbm, ⟨3, _⟩ => ⟨S8x6x1x2048, .f32⟩
  | .hbm, ⟨4, _⟩ => ⟨S2048x3072, .bf16⟩
  | .hbm, ⟨5, _⟩ => ⟨S40960x2048, .f32⟩
  | .hbm, ⟨6, _⟩ => ⟨S4x6x1x2048, .f32⟩
  | .hbm, ⟨7, _⟩ => ⟨S4x6x2048, .f32⟩
  | .hbm, ⟨8, _⟩ => ⟨S4x2048x6x2048, .f32⟩
  | .hbm, ⟨9, _⟩ => ⟨S8192x6x2048, .f32⟩
  | .hbm, ⟨10, _⟩ => ⟨S4x6x1x2048, .f32⟩
  | .hbm, ⟨11, _⟩ => ⟨S4x6x2048, .f32⟩
  | .hbm, ⟨12, _⟩ => ⟨S4x8192x6x2048, .f32⟩
  | .hbm, ⟨13, _⟩ => ⟨S32768x6x2048, .f32⟩
  | .hbm, ⟨14, _⟩ => ⟨S40960x6x2048, .f32⟩
  | .hbm, ⟨15, _⟩ => ⟨S40960x2048, .f32⟩
  | .hbm, ⟨16, _⟩ => ⟨S_, .f32⟩
  | .hbm, ⟨17, _⟩ => ⟨S40960, .f32⟩
  | .hbm, ⟨18, _⟩ => ⟨S40960x1, .f32⟩
  | .hbm, ⟨19, _⟩ => ⟨S_, .f32⟩
  | .hbm, ⟨20, _⟩ => ⟨S40960x1, .f32⟩
  | .hbm, ⟨21, _⟩ => ⟨S40960x1, .f32⟩
  | .hbm, ⟨22, _⟩ => ⟨S_, .f32⟩
  | .hbm, ⟨23, _⟩ => ⟨S40960x1, .f32⟩
  | .hbm, ⟨24, _⟩ => ⟨S40960x1, .f32⟩
  | .hbm, ⟨25, _⟩ => ⟨S40960x1, .f32⟩
  | .hbm, ⟨26, _⟩ => ⟨S40960x2048, .f32⟩
  | .hbm, ⟨27, _⟩ => ⟨S40960x2048, .f32⟩
  | .hbm, ⟨28, _⟩ => ⟨S40960x2048, .f32⟩
  | .hbm, ⟨29, _⟩ => ⟨S40960x2048, .f32⟩
  | .hbm, ⟨30, _⟩ => ⟨S40960x1x2048, .f32⟩
  | .hbm, ⟨31, _⟩ => ⟨S40960x2048, .f32⟩
  | .hbm, ⟨32, _⟩ => ⟨S_, .f32⟩
  | .hbm, ⟨33, _⟩ => ⟨S40960x2048, .f32⟩
  | .hbm, ⟨34, _⟩ => ⟨S40960x2048, .f32⟩
  | .hbm, ⟨35, _⟩ => ⟨S40960x2048, .f32⟩
  | .hbm, ⟨36, _⟩ => ⟨S40960x1x2048, .f32⟩
  | .hbm, ⟨37, _⟩ => ⟨S40960x2048, .f32⟩
  | .hbm, ⟨38, _⟩ => ⟨S40960x2048, .f32⟩
  | .hbm, ⟨39, _⟩ => ⟨S2048x3072, .f32⟩
  | .hbm, ⟨40, _⟩ => ⟨S40960x3072, .f32⟩
  | .hbm, ⟨41, _⟩ => ⟨S40960x512, .f32⟩
  | .hbm, ⟨42, _⟩ => ⟨S40960x1024, .f32⟩
  | .hbm, ⟨43, _⟩ => ⟨S40960x1024, .f32⟩
  | .hbm, ⟨44, _⟩ => ⟨S40960x512, .f32⟩
  | .hbm, ⟨45, _⟩ => ⟨S40960x1024, .f32⟩
  | .hbm, ⟨46, _⟩ => ⟨S40960x1024, .f32⟩
  | .hbm, ⟨47, _⟩ => ⟨S_, .f32⟩
  | .hbm, ⟨48, _⟩ => ⟨S40960x1024, .f32⟩
  | .hbm, ⟨49, _⟩ => ⟨S40960x1024, .f32⟩
  | .hbm, ⟨50, _⟩ => ⟨S_, .f32⟩
  | .hbm, ⟨51, _⟩ => ⟨S40960x1024, .f32⟩
  | .hbm, ⟨52, _⟩ => ⟨S40960x1024, .f32⟩
  | .hbm, ⟨53, _⟩ => ⟨S40960x1024, .f32⟩
  | .hbm, ⟨54, _⟩ => ⟨S40960x1024, .bf16⟩
  | .hbm, ⟨55, _⟩ => ⟨S40960x512, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_3 : Ref sig .tc := ⟨.hbm, 47, rfl⟩
abbrev main_v38 : Ref sig .tc := ⟨.hbm, 48, rfl⟩
abbrev main_v39 : Ref sig .tc := ⟨.hbm, 49, rfl⟩
abbrev main_cst_4 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]
-- ==== Outproj.lean ====
abbrev S8192x2048 : Shape := ⟨2, ![8192, 2048]⟩
abbrev S32768x2048 : Shape := ⟨2, ![32768, 2048]⟩
abbrev S40960x512 : Shape := ⟨2, ![40960, 512]⟩
abbrev S40960x1024 : Shape := ⟨2, ![40960, 1024]⟩
abbrev S8192x512 : Shape := ⟨2, ![8192, 512]⟩
abbrev S32768x512 : Shape := ⟨2, ![32768, 512]⟩
abbrev S2048x2048 : Shape := ⟨2, ![2048, 2048]⟩
abbrev S8x6x1x2048 : Shape := ⟨4, ![8, 6, 1, 2048]⟩
abbrev S1x2048 : Shape := ⟨2, ![1, 2048]⟩
abbrev S2048x128 : Shape := ⟨2, ![2048, 128]⟩
abbrev S1x128 : Shape := ⟨2, ![1, 128]⟩
abbrev S40960x2048 : Shape := ⟨2, ![40960, 2048]⟩
abbrev S655360x128 : Shape := ⟨2, ![655360, 128]⟩
abbrev S40960x128 : Shape := ⟨2, ![40960, 128]⟩
abbrev S512x2048 : Shape := ⟨2, ![512, 2048]⟩
abbrev S512x512 : Shape := ⟨2, ![512, 512]⟩
abbrev S512x1024 : Shape := ⟨2, ![512, 1024]⟩
abbrev S1x1x1x2048 : Shape := ⟨4, ![1, 1, 1, 2048]⟩
abbrev S8192x128 : Shape := ⟨2, ![8192, 128]⟩
abbrev S512x128 : Shape := ⟨2, ![512, 128]⟩
abbrev S256x2048 : Shape := ⟨2, ![256, 2048]⟩
abbrev S256x512 : Shape := ⟨2, ![256, 512]⟩
abbrev S256x1024 : Shape := ⟨2, ![256, 1024]⟩
abbrev S1024x2048 : Shape := ⟨2, ![1024, 2048]⟩
abbrev S256 : Shape := ⟨1, ![256]⟩
abbrev S256x1 : Shape := ⟨2, ![256, 1]⟩
abbrev S256x128 : Shape := ⟨2, ![256, 128]⟩
abbrev S4096x128 : Shape := ⟨2, ![4096, 128]⟩
abbrev S4096x2x128 : Shape := ⟨3, ![4096, 2, 128]⟩
abbrev S256x2x128 : Shape := ⟨3, ![256, 2, 128]⟩
abbrev S256x1x128 : Shape := ⟨3, ![256, 1, 128]⟩

abbrev nBuf : Space → Nat
  | .hbm => 14
  | .vmem => 28
  | .smem => 0
  | _ => 0

abbrev bufTy : (tb : Table) → Fin (tcTables nBuf tb) → BufTy
  | .hbm, ⟨0, _⟩ => ⟨S8192x2048, .f32⟩
  | .hbm, ⟨1, _⟩ => ⟨S32768x2048, .f32⟩
  | .hbm, ⟨2, _⟩ => ⟨S40960x512, .bf16⟩
  | .hbm, ⟨3, _⟩ => ⟨S40960x1024, .bf16⟩
  | .hbm, ⟨4, _⟩ => ⟨S8192x512, .bf16⟩
  | .hbm, ⟨5, _⟩ => ⟨S32768x512, .bf16⟩
  | .hbm, ⟨6, _⟩ => ⟨S2048x2048, .bf16⟩
  | .hbm, ⟨7, _⟩ => ⟨S8x6x1x2048, .f32⟩
  | .hbm, ⟨8, _⟩ => ⟨S1x2048, .f32⟩
  | .hbm, ⟨9, _⟩ => ⟨S2048x128, .bf16⟩
  | .hbm, ⟨10, _⟩ => ⟨S1x128, .f32⟩
  | .hbm, ⟨11, _⟩ => ⟨S40960x2048, .f32⟩
  | .hbm, ⟨12, _⟩ => ⟨S655360x128, .bf16⟩
  | .hbm, ⟨13, _⟩ => ⟨S40960x128, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S2048x2048, .bf16⟩
  | .local _ .vmem, ⟨13, _⟩ => ⟨S1x1x1x2048, .f32⟩
  | .local _ .vmem, ⟨14, _⟩ => ⟨S1x1x1x2048, .f32⟩
  | .local _ .vmem, ⟨15, _⟩ => ⟨S1x2048, .f32⟩
  | .local _ .vmem, ⟨16, _⟩ => ⟨S1x1x1x2048, .f32⟩
  | .local _ .vmem, ⟨17, _⟩ => ⟨S1x1x1x2048, .f32⟩
  | .local _ .vmem, ⟨18, _⟩ => ⟨S1x1x1x2048, .f32⟩
  | .local _ .vmem, ⟨19, _⟩ => ⟨S1x1x1x2048, .f32⟩
  | .local _ .vmem, ⟨20, _⟩ => ⟨S2048x128, .bf16⟩
  | .local _ .vmem, ⟨21, _⟩ => ⟨S1x128, .f32⟩
  | .local _ .vmem, ⟨22, _⟩ => ⟨S512x2048, .f32⟩
  | .local _ .vmem, ⟨23, _⟩ => ⟨S512x2048, .f32⟩
  | .local _ .vmem, ⟨24, _⟩ => ⟨S8192x128, .bf16⟩
  | .local _ .vmem, ⟨25, _⟩ => ⟨S8192x128, .bf16⟩
  | .local _ .vmem, ⟨26, _⟩ => ⟨S512x128, .f32⟩
  | .local _ .vmem, ⟨27, _⟩ => ⟨S512x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [BitOps F]

abbrev grid0 : Pipeline.Grid := ⟨1, ![80], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c16_i32 : BitVec 32 := 16#32
  let v0 : BitVec 1 := Scalar.cmpi .slt arg0 c16_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let v18 : BitVec 32 := Scalar.subi arg0 c16_i32_4
  let c16_i32_5 : BitVec 32 := 16#32
  let v19 : BitVec 32 := Scalar.divsi v18 c16_i32_5
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c0_i32_8 : BitVec 32 := 0#32
  let v25 : BitVec 1 := Scalar.cmpi .sgt c16_i32_5 c0_i32_8
  let v26 : BitVec 32 := Scalar.extui v25
  let c0_i32_9 : BitVec 32 := 0#32
  let v27 : BitVec 1 := Scalar.cmpi .slt c16_i32_5 c0_i32_9
  let v28 : BitVec 32 := Scalar.extui v27
  let v29 : BitVec 32 := Scalar.subi v26 v28
  let v30 : BitVec 1 := Scalar.cmpi .ne v24 v29
  let v31 : BitVec 32 := Scalar.remsi v18 c16_i32_5
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c4_i32_12 : BitVec 32 := 4#32
  let v36 : BitVec 32 := Scalar.addi c4_i32_12 v35
  let v37 : BitVec 32 := Scalar.select v0 v17 v36
  let c2_i32 : BitVec 32 := 2#32
  let c0_i32_13 : BitVec 32 := 0#32
  let c0_i32_14 : BitVec 32 := 0#32
  let c0_i32_15 : BitVec 32 := 0#32
  ![v37.toNat, c2_i32.toNat, c0_i32_13.toNat, c0_i32_14.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c16_i32 : BitVec 32 := 16#32
  let v0 : BitVec 1 := Scalar.cmpi .slt arg0 c16_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let v18 : BitVec 32 := Scalar.subi arg0 c16_i32_4
  let c16_i32_5 : BitVec 32 := 16#32
  let v19 : BitVec 32 := Scalar.divsi v18 c16_i32_5
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c0_i32_8 : BitVec 32 := 0#32
  let v25 : BitVec 1 := Scalar.cmpi .sgt c16_i32_5 c0_i32_8
  let v26 : BitVec 32 := Scalar.extui v25
  let c0_i32_9 : BitVec 32 := 0#32
  let v27 : BitVec 1 := Scalar.cmpi .slt c16_i32_5 c0_i32_9
  let v28 : BitVec 32 := Scalar.extui v27
  let v29 : BitVec 32 := Scalar.subi v26 v28
  let v30 : BitVec 1 := Scalar.cmpi .ne v24 v29
  let v31 : BitVec 32 := Scalar.remsi v18 c16_i32_5
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c4_i32_12 : BitVec 32 := 4#32
  let v36 : BitVec 32 := Scalar.addi c4_i32_12 v35
  let v37 : BitVec 32 := Scalar.select v0 v17 v36
  let c4_i32_13 : BitVec 32 := 4#32
  let c0_i32_14 : BitVec 32 := 0#32
  let c0_i32_15 : BitVec 32 := 0#32
  let c0_i32_16 : BitVec 32 := 0#32
  ![v37.toNat, c4_i32_13.toNat, c0_i32_14.toNat, c0_i32_15.toNat]

def cc0_transform_10 (i : grid0.Coords) : Fin 4 → Nat :=
  let arg0 : BitVec 32 := BitVec.ofNat 32 (i 0).val
  let c16_i32 : BitVec 32 := 16#32
  let v0 : BitVec 1 := Scalar.cmpi .slt arg0 c16_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let v18 : BitVec 32 := Scalar.subi arg0 c16_i32_4
  let c16_i32_5 : BitVec 32 := 16#32
  let v19 : BitVec 32 := Scalar.divsi v18 c16_i32_5
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c0_i32_8 : BitVec 32 := 0#32
  let v25 : BitVec 1 := Scalar.cmpi .sgt c16_i32_5 c0_i32_8
  let v26 : BitVec 32 := Scalar.extui v25
  let c0_i32_9 : BitVec 32 := 0#32
  let v27 : BitVec 1 := Scalar.cmpi .slt c16_i32_5 c0_i32_9
  let v28 : BitVec 32 := Scalar.extui v27
  let v29 : BitVec 32 := Scalar.subi v26 v28
  let v30 : BitVec 1 := Scalar.cmpi .ne v24 v29
  let v31 : BitVec 32 := Scalar.remsi v18 c16_i32_5
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c4_i32_12 : BitVec 32 := 4#32
  let v36 : BitVec 32 := Scalar.addi c4_i32_12 v35
  let v37 : BitVec 32 := Scalar.select v0 v17 v36
  let c3_i32 : BitVec 32 := 3#32
  let c0_i32_13 : BitVec 32 := 0#32
  let c0_i32_14 : BitVec 32 := 0#32
  let c0_i32_15 : BitVec 32 := 0#32
  ![v37.toNat, c3_i32.toNat, c0_i32_13.toNat, c0_i32_14.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S2048x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8192x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== OutprojIdeal.lean ====
variable {F : FTy → Type} [FloatOps F]
-- ==== OutprojRefIdeal.lean ====
abbrev S8192x2048 : Shape := ⟨2, ![8192, 2048]⟩
abbrev S32768x2048 : Shape := ⟨2, ![32768, 2048]⟩
abbrev S40960x512 : Shape := ⟨2, ![40960, 512]⟩
abbrev S40960x1024 : Shape := ⟨2, ![40960, 1024]⟩
abbrev S8192x512 : Shape := ⟨2, ![8192, 512]⟩
abbrev S32768x512 : Shape := ⟨2, ![32768, 512]⟩
abbrev S2048x2048 : Shape := ⟨2, ![2048, 2048]⟩
abbrev S8x6x1x2048 : Shape := ⟨4, ![8, 6, 1, 2048]⟩
abbrev S1x2048 : Shape := ⟨2, ![1, 2048]⟩
abbrev S2048x128 : Shape := ⟨2, ![2048, 128]⟩
abbrev S1x128 : Shape := ⟨2, ![1, 128]⟩
abbrev S40960x2048 : Shape := ⟨2, ![40960, 2048]⟩
abbrev S4x6x1x2048 : Shape := ⟨4, ![4, 6, 1, 2048]⟩
abbrev S4x6x2048 : Shape := ⟨3, ![4, 6, 2048]⟩
abbrev S4x2048x6x2048 : Shape := ⟨4, ![4, 2048, 6, 2048]⟩
abbrev S8192x6x2048 : Shape := ⟨3, ![8192, 6, 2048]⟩
abbrev S4x8192x6x2048 : Shape := ⟨4, ![4, 8192, 6, 2048]⟩
abbrev S32768x6x2048 : Shape := ⟨3, ![32768, 6, 2048]⟩
abbrev S40960x6x2048 : Shape := ⟨3, ![40960, 6, 2048]⟩
abbrev S40960x1x2048 : Shape := ⟨3, ![40960, 1, 2048]⟩
abbrev S_ : Shape := ⟨0, ![]⟩
abbrev S40960 : Shape := ⟨1, ![40960]⟩
abbrev S40960x1 : Shape := ⟨2, ![40960, 1]⟩
abbrev S40960x128 : Shape := ⟨2, ![40960, 128]⟩
abbrev S40960x2x8x128 : Shape := ⟨4, ![40960, 2, 8, 128]⟩
abbrev S40960x8x2x128 : Shape := ⟨4, ![40960, 8, 2, 128]⟩
abbrev S655360x128 : Shape := ⟨2, ![655360, 128]⟩

abbrev nBuf : Space → Nat
  | .hbm => 65
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S32768x2048, .f32⟩
  | .hbm, ⟨2, _⟩ => ⟨S40960x512, .bf16⟩
  | .hbm, ⟨3, _⟩ => ⟨S40960x1024, .bf16⟩
  | .hbm, ⟨4, _⟩ => ⟨S8192x512, .bf16⟩
  | .hbm, ⟨5, _⟩ => ⟨S32768x512, .bf16⟩
  | .hbm, ⟨6, _⟩ => ⟨S2048x2048, .bf16⟩
  | .hbm, ⟨7, _⟩ => ⟨S8x6x1x2048, .f32⟩
  | .hbm, ⟨8, _⟩ => ⟨S1x2048, .f32⟩
  | .hbm, ⟨9, _⟩ => ⟨S2048x128, .bf16⟩
  | .hbm, ⟨10, _⟩ => ⟨S1x128, .f32⟩
  | .hbm, ⟨11, _⟩ => ⟨S40960x2048, .f32⟩
  | .hbm, ⟨12, _⟩ => ⟨S40960x512, .f32⟩
  | .hbm, ⟨13, _⟩ => ⟨S40960x1024, .f32⟩
  | .hbm, ⟨14, _⟩ => ⟨S8192x512, .f32⟩
  | .hbm, ⟨15, _⟩ => ⟨S32768x512, .f32⟩
  | .hbm, ⟨16, _⟩ => ⟨S40960x512, .f32⟩
  | .hbm, ⟨17, _⟩ => ⟨S40960x2048, .f32⟩
  | .hbm, ⟨18, _⟩ => ⟨S4x6x1x2048, .f32⟩
  | .hbm, ⟨19, _⟩ => ⟨S4x6x2048, .f32⟩
  | .hbm, ⟨20, _⟩ => ⟨S4x2048x6x2048, .f32⟩
  | .hbm, ⟨21, _⟩ => ⟨S8192x6x2048, .f32⟩
  | .hbm, ⟨22, _⟩ => ⟨S4x6x1x2048, .f32⟩
  | .hbm, ⟨23, _⟩ => ⟨S4x6x2048, .f32⟩
  | .hbm, ⟨24, _⟩ => ⟨S4x8192x6x2048, .f32⟩
  | .hbm, ⟨25, _⟩ => ⟨S32768x6x2048, .f32⟩
  | .hbm, ⟨26, _⟩ => ⟨S40960x6x2048, .f32⟩
  | .hbm, ⟨27, _⟩ => ⟨S40960x1x2048, .f32⟩
  | .hbm, ⟨28, _⟩ => ⟨S40960x2048, .f32⟩
  | .hbm, ⟨29, _⟩ => ⟨S2048x2048, .f32⟩
  | .hbm, ⟨30, _⟩ => ⟨S40960x2048, .f32⟩
  | .hbm, ⟨31, _⟩ => ⟨S40960x2048, .f32⟩
  | .hbm, ⟨32, _⟩ => ⟨S40960x2048, .f32⟩
  | .hbm, ⟨33, _⟩ => ⟨S40960x2048, .f32⟩
  | .hbm, ⟨34, _⟩ => ⟨S_, .f32⟩
  | .hbm, ⟨35, _⟩ => ⟨S40960, .f32⟩
  | .hbm, ⟨36, _⟩ => ⟨S40960x1, .f32⟩
  | .hbm, ⟨37, _⟩ => ⟨S_, .f32⟩
  | .hbm, ⟨38, _⟩ => ⟨S40960x1, .f32⟩
  | .hbm, ⟨39, _⟩ => ⟨S40960x1, .f32⟩
  | .hbm, ⟨40, _⟩ => ⟨S_, .f32⟩
  | .hbm, ⟨41, _⟩ => ⟨S40960x1, .f32⟩
  | .hbm, ⟨42, _⟩ => ⟨S40960x1, .f32⟩
  | .hbm, ⟨43, _⟩ => ⟨S40960x1, .f32⟩
  | .hbm, ⟨44, _⟩ => ⟨S40960x2048, .f32⟩
  | .hbm, ⟨45, _⟩ => ⟨S40960x2048, .f32⟩
  | .hbm, ⟨46, _⟩ => ⟨S40960x2048, .f32⟩
  | .hbm, ⟨47, _⟩ => ⟨S40960x2048, .f32⟩
  | .hbm, ⟨48, _⟩ => ⟨S40960x1x2048, .f32⟩
  | .hbm, ⟨49, _⟩ => ⟨S40960x2048, .f32⟩
  | .hbm, ⟨50, _⟩ => ⟨S_, .f32⟩
  | .hbm, ⟨51, _⟩ => ⟨S40960x2048, .f32⟩
  | .hbm, ⟨52, _⟩ => ⟨S40960x2048, .f32⟩
  | .hbm, ⟨53, _⟩ => ⟨S40960x2048, .f32⟩
  | .hbm, ⟨54, _⟩ => ⟨S40960x1x2048, .f32⟩
  | .hbm, ⟨55, _⟩ => ⟨S40960x2048, .f32⟩
  | .hbm, ⟨56, _⟩ => ⟨S40960x2048, .f32⟩
  | .hbm, ⟨57, _⟩ => ⟨S2048x128, .f32⟩
  | .hbm, ⟨58, _⟩ => ⟨S40960x128, .f32⟩
  | .hbm, ⟨59, _⟩ => ⟨S40960x128, .f32⟩
  | .hbm, ⟨60, _⟩ => ⟨S40960x128, .f32⟩
  | .hbm, ⟨61, _⟩ => ⟨S40960x2x8x128, .f32⟩
  | .hbm, ⟨62, _⟩ => ⟨S40960x8x2x128, .f32⟩
  | .hbm, ⟨63, _⟩ => ⟨S655360x128, .f32⟩
  | .hbm, ⟨64, _⟩ => ⟨S655360x128, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_cst_0 : Ref sig .tc := ⟨.hbm, 37, rfl⟩
abbrev main_v25 : Ref sig .tc := ⟨.hbm, 38, rfl⟩
abbrev main_v26 : Ref sig .tc := ⟨.hbm, 39, rfl⟩
abbrev main_cst_1 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_2 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]
-- ==== Mix.lean ====
abbrev S40960x512 : Shape := ⟨2, ![40960, 512]⟩
abbrev S40960x1024 : Shape := ⟨2, ![40960, 1024]⟩
abbrev S4x128x128 : Shape := ⟨3, ![4, 128, 128]⟩
abbrev S1x512 : Shape := ⟨2, ![1, 512]⟩
abbrev S31x1024 : Shape := ⟨2, ![31, 1024]⟩
abbrev S1x1024 : Shape := ⟨2, ![1, 1024]⟩
abbrev S1024x1024 : Shape := ⟨2, ![1024, 1024]⟩
abbrev S256x512 : Shape := ⟨2, ![256, 512]⟩
abbrev S8x512 : Shape := ⟨2, ![8, 512]⟩
abbrev S256x1024 : Shape := ⟨2, ![256, 1024]⟩
abbrev S16x1024 : Shape := ⟨2, ![16, 1024]⟩
abbrev S272x512 : Shape := ⟨2, ![272, 512]⟩
abbrev S8x288x1024 : Shape := ⟨3, ![8, 288, 1024]⟩
abbrev S256x1 : Shape := ⟨2, ![256, 1]⟩
abbrev S256x128 : Shape := ⟨2, ![256, 128]⟩
abbrev S1x128x128 : Shape := ⟨3, ![1, 128, 128]⟩
abbrev S128x128 : Shape := ⟨2, ![128, 128]⟩
abbrev S1x128 : Shape := ⟨2, ![1, 128]⟩
abbrev S1x16x1024 : Shape := ⟨3, ![1, 16, 1024]⟩
abbrev S1x256x1024 : Shape := ⟨3, ![1, 256, 1024]⟩
abbrev S1x280x1024 : Shape := ⟨3, ![1, 280, 1024]⟩
abbrev S280x1024 : Shape := ⟨2, ![280, 1024]⟩
abbrev S64x128 : Shape := ⟨2, ![64, 128]⟩
abbrev S1x80x128 : Shape := ⟨3, ![1, 80, 128]⟩
abbrev S80x128 : Shape := ⟨2, ![80, 128]⟩
abbrev S1x88x128 : Shape := ⟨3, ![1, 88, 128]⟩
abbrev S88x128 : Shape := ⟨2, ![88, 128]⟩
abbrev S256 : Shape := ⟨1, ![256]⟩

abbrev nBuf : Space → Nat
  | .hbm => 12
  | .vmem => 27
  | .smem => 0
  | _ => 0

abbrev bufTy : (tb : Table) → Fin (tcTables nBuf tb) → BufTy
  | .hbm, ⟨0, _⟩ => ⟨S40960x512, .f32⟩
  | .hbm, ⟨1, _⟩ => ⟨S40960x1024, .bf16⟩
  | .hbm, ⟨2, _⟩ => ⟨S4x128x128, .bf16⟩
  | .hbm, ⟨3, _⟩ => ⟨S1x512, .f32⟩
  | .hbm, ⟨4, _⟩ => ⟨S31x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1024x1024, .bf16⟩
  | .hbm, ⟨9, _⟩ => ⟨S1x1024, .f32⟩
  | .hbm, ⟨10, _⟩ => ⟨S40960x512, .bf16⟩
  | .hbm, ⟨11, _⟩ => ⟨S40960x1024, .bf16⟩
  | .local _ .vmem, ⟨0, _⟩ => ⟨S256x512, .f32⟩
  | .local _ .vmem, ⟨1, _⟩ => ⟨S256x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S256x1024, .bf16⟩
  | .local _ .vmem, ⟨7, _⟩ => ⟨S256x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S4x128x128, .bf16⟩
  | .local _ .vmem, ⟨13, _⟩ => ⟨S1x512, .f32⟩
  | .local _ .vmem, ⟨14, _⟩ => ⟨S31x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1024x1024, .bf16⟩
  | .local _ .vmem, ⟨19, _⟩ => ⟨S1x1024, .f32⟩
  | .local _ .vmem, ⟨20, _⟩ => ⟨S256x512, .bf16⟩
  | .local _ .vmem, ⟨21, _⟩ => ⟨S256x512, .bf16⟩
  | .local _ .vmem, ⟨22, _⟩ => ⟨S256x1024, .bf16⟩
  | .local _ .vmem, ⟨23, _⟩ => ⟨S256x1024, .bf16⟩
  | .local _ .vmem, ⟨24, _⟩ => ⟨S272x512, .f32⟩
  | .local _ .vmem, ⟨25, _⟩ => ⟨S8x288x1024, .f32⟩
  | .local _ .vmem, ⟨26, _⟩ => ⟨S256x1024, .f32⟩
  | _, _ => ⟨S40960x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![160], ![false]⟩

@[reducible] def k0_t1_loop : Scf.Loop 32 :=
  let c0_i32_164 : BitVec 32 := 0#32
  let c4_i32_165 : BitVec 32 := 4#32
  let v251 : BitVec 32 := Scalar.addi c0_i32_164 c4_i32_165
  let c1_i32_166 : BitVec 32 := 1#32
  ⟨c0_i32_164, v251, c1_i32_166⟩
def k0_mult1 (k0_t1 : Fin k0_t1_loop.trips) : BitVec 32 :=
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  v285
def k0_off1 (k0_t1 : Fin k0_t1_loop.trips) : Fin 3 → Nat :=
  let c0_189 : Index := 0#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c8_i32_188 : BitVec 32 := 8#32
  let v290 : BitVec 32 := Scalar.addi v286 c8_i32_188
  let v291 : Index := Scalar.indexCast v290
  let c0_190 : Index := 0#32
  ![0, v291.toNat, 0]
def k0_off2 (k0_t1 : Fin k0_t1_loop.trips) : Fin 3 → Nat :=
  let c1_197 : Index := 1#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_196 : BitVec 32 := 0#32
  let v309 : BitVec 32 := Scalar.addi v286 c0_i32_196
  let v310 : Index := Scalar.indexCast v309
  let c0_198 : Index := 0#32
  ![1, v310.toNat, 0]
def k0_off3 (k0_t1 : Fin k0_t1_loop.trips) : Fin 3 → Nat :=
  let c2_207 : Index := 2#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_206 : BitVec 32 := 0#32
  let v333 : BitVec 32 := Scalar.addi v286 c0_i32_206
  let v334 : Index := Scalar.indexCast v333
  let c0_208 : Index := 0#32
  ![2, v334.toNat, 0]
def k0_off4 (k0_t1 : Fin k0_t1_loop.trips) : Fin 3 → Nat :=
  let c3_216 : Index := 3#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_215 : BitVec 32 := 0#32
  let v357 : BitVec 32 := Scalar.addi v286 c0_i32_215
  let v358 : Index := Scalar.indexCast v357
  let c0_217 : Index := 0#32
  ![3, v358.toNat, 0]
def k0_off5 (k0_t1 : Fin k0_t1_loop.trips) : Fin 3 → Nat :=
  let c4_225 : Index := 4#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_224 : BitVec 32 := 0#32
  let v381 : BitVec 32 := Scalar.addi v286 c0_i32_224
  let v382 : Index := Scalar.indexCast v381
  let c0_226 : Index := 0#32
  ![4, v382.toNat, 0]
def k0_off6 (k0_t1 : Fin k0_t1_loop.trips) : Fin 3 → Nat :=
  let c5_234 : Index := 5#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_233 : BitVec 32 := 0#32
  let v405 : BitVec 32 := Scalar.addi v286 c0_i32_233
  let v406 : Index := Scalar.indexCast v405
  let c0_235 : Index := 0#32
  ![5, v406.toNat, 0]
def k0_off7 (k0_t1 : Fin k0_t1_loop.trips) : Fin 3 → Nat :=
  let c6_243 : Index := 6#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_242 : BitVec 32 := 0#32
  let v429 : BitVec 32 := Scalar.addi v286 c0_i32_242
  let v430 : Index := Scalar.indexCast v429
  let c0_244 : Index := 0#32
  ![6, v430.toNat, 0]
def k0_off8 (k0_t1 : Fin k0_t1_loop.trips) : Fin 3 → Nat :=
  let c7_252 : Index := 7#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_251 : BitVec 32 := 0#32
  let v453 : BitVec 32 := Scalar.addi v286 c0_i32_251
  let v454 : Index := Scalar.indexCast v453
  let c0_253 : Index := 0#32
  ![7, v454.toNat, 0]
def k0_off9 (k0_t1 : Fin k0_t1_loop.trips) : Fin 2 → Nat :=
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let v477 : Index := Scalar.indexCast v286
  let c0_260 : Index := 0#32
  ![v477.toNat, 0]
def k0_off10 (k0_t1 : Fin k0_t1_loop.trips) : Fin 3 → Nat :=
  let c0_264 : Index := 0#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c8_i32_263 : BitVec 32 := 8#32
  let v484 : BitVec 32 := Scalar.addi v286 c8_i32_263
  let v485 : Index := Scalar.indexCast v484
  let c128_265 : Index := 128#32
  ![0, v485.toNat, 128]
def k0_off11 (k0_t1 : Fin k0_t1_loop.trips) : Fin 3 → Nat :=
  let c1_273 : Index := 1#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_272 : BitVec 32 := 0#32
  let v503 : BitVec 32 := Scalar.addi v286 c0_i32_272
  let v504 : Index := Scalar.indexCast v503
  let c128_274 : Index := 128#32
  ![1, v504.toNat, 128]
def k0_off12 (k0_t1 : Fin k0_t1_loop.trips) : Fin 3 → Nat :=
  let c2_284 : Index := 2#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_283 : BitVec 32 := 0#32
  let v527 : BitVec 32 := Scalar.addi v286 c0_i32_283
  let v528 : Index := Scalar.indexCast v527
  let c128_285 : Index := 128#32
  ![2, v528.toNat, 128]
def k0_off13 (k0_t1 : Fin k0_t1_loop.trips) : Fin 3 → Nat :=
  let c3_295 : Index := 3#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_294 : BitVec 32 := 0#32
  let v551 : BitVec 32 := Scalar.addi v286 c0_i32_294
  let v552 : Index := Scalar.indexCast v551
  let c128_296 : Index := 128#32
  ![3, v552.toNat, 128]
def k0_off14 (k0_t1 : Fin k0_t1_loop.trips) : Fin 3 → Nat :=
  let c4_306 : Index := 4#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_305 : BitVec 32 := 0#32
  let v575 : BitVec 32 := Scalar.addi v286 c0_i32_305
  let v576 : Index := Scalar.indexCast v575
  let c128_307 : Index := 128#32
  ![4, v576.toNat, 128]
def k0_off15 (k0_t1 : Fin k0_t1_loop.trips) : Fin 3 → Nat :=
  let c5_317 : Index := 5#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_316 : BitVec 32 := 0#32
  let v599 : BitVec 32 := Scalar.addi v286 c0_i32_316
  let v600 : Index := Scalar.indexCast v599
  let c128_318 : Index := 128#32
  ![5, v600.toNat, 128]
def k0_off16 (k0_t1 : Fin k0_t1_loop.trips) : Fin 3 → Nat :=
  let c6_328 : Index := 6#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_327 : BitVec 32 := 0#32
  let v623 : BitVec 32 := Scalar.addi v286 c0_i32_327
  let v624 : Index := Scalar.indexCast v623
  let c128_329 : Index := 128#32
  ![6, v624.toNat, 128]
def k0_off17 (k0_t1 : Fin k0_t1_loop.trips) : Fin 3 → Nat :=
  let c7_339 : Index := 7#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_338 : BitVec 32 := 0#32
  let v647 : BitVec 32 := Scalar.addi v286 c0_i32_338
  let v648 : Index := Scalar.indexCast v647
  let c128_340 : Index := 128#32
  ![7, v648.toNat, 128]
def k0_off18 (k0_t1 : Fin k0_t1_loop.trips) : Fin 2 → Nat :=
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let v671 : Index := Scalar.indexCast v286
  let c128_349 : Index := 128#32
  ![v671.toNat, 128]
def k0_off19 (k0_t1 : Fin k0_t1_loop.trips) : Fin 3 → Nat :=
  let c0_353 : Index := 0#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c8_i32_352 : BitVec 32 := 8#32
  let v678 : BitVec 32 := Scalar.addi v286 c8_i32_352
  let v679 : Index := Scalar.indexCast v678
  let c256_354 : Index := 256#32
  ![0, v679.toNat, 256]
def k0_off20 (k0_t1 : Fin k0_t1_loop.trips) : Fin 3 → Nat :=
  let c1_362 : Index := 1#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_361 : BitVec 32 := 0#32
  let v697 : BitVec 32 := Scalar.addi v286 c0_i32_361
  let v698 : Index := Scalar.indexCast v697
  let c256_363 : Index := 256#32
  ![1, v698.toNat, 256]
def k0_off21 (k0_t1 : Fin k0_t1_loop.trips) : Fin 3 → Nat :=
  let c2_373 : Index := 2#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_372 : BitVec 32 := 0#32
  let v721 : BitVec 32 := Scalar.addi v286 c0_i32_372
  let v722 : Index := Scalar.indexCast v721
  let c256_374 : Index := 256#32
  ![2, v722.toNat, 256]
def k0_off22 (k0_t1 : Fin k0_t1_loop.trips) : Fin 3 → Nat :=
  let c3_384 : Index := 3#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_383 : BitVec 32 := 0#32
  let v745 : BitVec 32 := Scalar.addi v286 c0_i32_383
  let v746 : Index := Scalar.indexCast v745
  let c256_385 : Index := 256#32
  ![3, v746.toNat, 256]
def k0_off23 (k0_t1 : Fin k0_t1_loop.trips) : Fin 3 → Nat :=
  let c4_395 : Index := 4#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_394 : BitVec 32 := 0#32
  let v769 : BitVec 32 := Scalar.addi v286 c0_i32_394
  let v770 : Index := Scalar.indexCast v769
  let c256_396 : Index := 256#32
  ![4, v770.toNat, 256]
def k0_off24 (k0_t1 : Fin k0_t1_loop.trips) : Fin 3 → Nat :=
  let c5_406 : Index := 5#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_405 : BitVec 32 := 0#32
  let v793 : BitVec 32 := Scalar.addi v286 c0_i32_405
  let v794 : Index := Scalar.indexCast v793
  let c256_407 : Index := 256#32
  ![5, v794.toNat, 256]
def k0_off25 (k0_t1 : Fin k0_t1_loop.trips) : Fin 3 → Nat :=
  let c6_417 : Index := 6#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_416 : BitVec 32 := 0#32
  let v817 : BitVec 32 := Scalar.addi v286 c0_i32_416
  let v818 : Index := Scalar.indexCast v817
  let c256_418 : Index := 256#32
  ![6, v818.toNat, 256]
def k0_off26 (k0_t1 : Fin k0_t1_loop.trips) : Fin 3 → Nat :=
  let c7_428 : Index := 7#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_427 : BitVec 32 := 0#32
  let v841 : BitVec 32 := Scalar.addi v286 c0_i32_427
  let v842 : Index := Scalar.indexCast v841
  let c256_429 : Index := 256#32
  ![7, v842.toNat, 256]
def k0_off27 (k0_t1 : Fin k0_t1_loop.trips) : Fin 2 → Nat :=
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let v865 : Index := Scalar.indexCast v286
  let c256_438 : Index := 256#32
  ![v865.toNat, 256]
def k0_off28 (k0_t1 : Fin k0_t1_loop.trips) : Fin 3 → Nat :=
  let c0_442 : Index := 0#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c8_i32_441 : BitVec 32 := 8#32
  let v872 : BitVec 32 := Scalar.addi v286 c8_i32_441
  let v873 : Index := Scalar.indexCast v872
  let c384_443 : Index := 384#32
  ![0, v873.toNat, 384]
def k0_off29 (k0_t1 : Fin k0_t1_loop.trips) : Fin 3 → Nat :=
  let c1_451 : Index := 1#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_450 : BitVec 32 := 0#32
  let v891 : BitVec 32 := Scalar.addi v286 c0_i32_450
  let v892 : Index := Scalar.indexCast v891
  let c384_452 : Index := 384#32
  ![1, v892.toNat, 384]
def k0_off30 (k0_t1 : Fin k0_t1_loop.trips) : Fin 3 → Nat :=
  let c2_462 : Index := 2#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_461 : BitVec 32 := 0#32
  let v915 : BitVec 32 := Scalar.addi v286 c0_i32_461
  let v916 : Index := Scalar.indexCast v915
  let c384_463 : Index := 384#32
  ![2, v916.toNat, 384]
def k0_off31 (k0_t1 : Fin k0_t1_loop.trips) : Fin 3 → Nat :=
  let c3_473 : Index := 3#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_472 : BitVec 32 := 0#32
  let v939 : BitVec 32 := Scalar.addi v286 c0_i32_472
  let v940 : Index := Scalar.indexCast v939
  let c384_474 : Index := 384#32
  ![3, v940.toNat, 384]
def k0_off32 (k0_t1 : Fin k0_t1_loop.trips) : Fin 3 → Nat :=
  let c4_484 : Index := 4#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_483 : BitVec 32 := 0#32
  let v963 : BitVec 32 := Scalar.addi v286 c0_i32_483
  let v964 : Index := Scalar.indexCast v963
  let c384_485 : Index := 384#32
  ![4, v964.toNat, 384]
def k0_off33 (k0_t1 : Fin k0_t1_loop.trips) : Fin 3 → Nat :=
  let c5_495 : Index := 5#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_494 : BitVec 32 := 0#32
  let v987 : BitVec 32 := Scalar.addi v286 c0_i32_494
  let v988 : Index := Scalar.indexCast v987
  let c384_496 : Index := 384#32
  ![5, v988.toNat, 384]
def k0_off34 (k0_t1 : Fin k0_t1_loop.trips) : Fin 3 → Nat :=
  let c6_506 : Index := 6#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_505 : BitVec 32 := 0#32
  let v1011 : BitVec 32 := Scalar.addi v286 c0_i32_505
  let v1012 : Index := Scalar.indexCast v1011
  let c384_507 : Index := 384#32
  ![6, v1012.toNat, 384]
def k0_off35 (k0_t1 : Fin k0_t1_loop.trips) : Fin 3 → Nat :=
  let c7_517 : Index := 7#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_516 : BitVec 32 := 0#32
  let v1035 : BitVec 32 := Scalar.addi v286 c0_i32_516
  let v1036 : Index := Scalar.indexCast v1035
  let c384_518 : Index := 384#32
  ![7, v1036.toNat, 384]
def k0_off36 (k0_t1 : Fin k0_t1_loop.trips) : Fin 2 → Nat :=
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let v1059 : Index := Scalar.indexCast v286
  let c384_527 : Index := 384#32
  ![v1059.toNat, 384]
def k0_off37 (k0_t1 : Fin k0_t1_loop.trips) : Fin 3 → Nat :=
  let c0_530 : Index := 0#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c8_i32_529 : BitVec 32 := 8#32
  let v1066 : BitVec 32 := Scalar.addi v286 c8_i32_529
  let v1067 : Index := Scalar.indexCast v1066
  let c512_531 : Index := 512#32
  ![0, v1067.toNat, 512]
def k0_off38 (k0_t1 : Fin k0_t1_loop.trips) : Fin 3 → Nat :=
  let c1_539 : Index := 1#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_538 : BitVec 32 := 0#32
  let v1085 : BitVec 32 := Scalar.addi v286 c0_i32_538
  let v1086 : Index := Scalar.indexCast v1085
  let c512_540 : Index := 512#32
  ![1, v1086.toNat, 512]
def k0_off39 (k0_t1 : Fin k0_t1_loop.trips) : Fin 3 → Nat :=
  let c2_550 : Index := 2#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_549 : BitVec 32 := 0#32
  let v1109 : BitVec 32 := Scalar.addi v286 c0_i32_549
  let v1110 : Index := Scalar.indexCast v1109
  let c512_551 : Index := 512#32
  ![2, v1110.toNat, 512]
def k0_off40 (k0_t1 : Fin k0_t1_loop.trips) : Fin 3 → Nat :=
  let c3_561 : Index := 3#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_560 : BitVec 32 := 0#32
  let v1133 : BitVec 32 := Scalar.addi v286 c0_i32_560
  let v1134 : Index := Scalar.indexCast v1133
  let c512_562 : Index := 512#32
  ![3, v1134.toNat, 512]
def k0_off41 (k0_t1 : Fin k0_t1_loop.trips) : Fin 3 → Nat :=
  let c4_572 : Index := 4#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_571 : BitVec 32 := 0#32
  let v1157 : BitVec 32 := Scalar.addi v286 c0_i32_571
  let v1158 : Index := Scalar.indexCast v1157
  let c512_573 : Index := 512#32
  ![4, v1158.toNat, 512]
def k0_off42 (k0_t1 : Fin k0_t1_loop.trips) : Fin 3 → Nat :=
  let c5_583 : Index := 5#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_582 : BitVec 32 := 0#32
  let v1181 : BitVec 32 := Scalar.addi v286 c0_i32_582
  let v1182 : Index := Scalar.indexCast v1181
  let c512_584 : Index := 512#32
  ![5, v1182.toNat, 512]
def k0_off43 (k0_t1 : Fin k0_t1_loop.trips) : Fin 3 → Nat :=
  let c6_594 : Index := 6#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_593 : BitVec 32 := 0#32
  let v1205 : BitVec 32 := Scalar.addi v286 c0_i32_593
  let v1206 : Index := Scalar.indexCast v1205
  let c512_595 : Index := 512#32
  ![6, v1206.toNat, 512]
def k0_off44 (k0_t1 : Fin k0_t1_loop.trips) : Fin 3 → Nat :=
  let c7_605 : Index := 7#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_604 : BitVec 32 := 0#32
  let v1229 : BitVec 32 := Scalar.addi v286 c0_i32_604
  let v1230 : Index := Scalar.indexCast v1229
  let c512_606 : Index := 512#32
  ![7, v1230.toNat, 512]
def k0_off45 (k0_t1 : Fin k0_t1_loop.trips) : Fin 2 → Nat :=
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let v1253 : Index := Scalar.indexCast v286
  let c512_615 : Index := 512#32
  ![v1253.toNat, 512]
def k0_off46 (k0_t1 : Fin k0_t1_loop.trips) : Fin 3 → Nat :=
  let c0_618 : Index := 0#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c8_i32_617 : BitVec 32 := 8#32
  let v1260 : BitVec 32 := Scalar.addi v286 c8_i32_617
  let v1261 : Index := Scalar.indexCast v1260
  let c640_619 : Index := 640#32
  ![0, v1261.toNat, 640]
def k0_off47 (k0_t1 : Fin k0_t1_loop.trips) : Fin 3 → Nat :=
  let c1_627 : Index := 1#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_626 : BitVec 32 := 0#32
  let v1279 : BitVec 32 := Scalar.addi v286 c0_i32_626
  let v1280 : Index := Scalar.indexCast v1279
  let c640_628 : Index := 640#32
  ![1, v1280.toNat, 640]
def k0_off48 (k0_t1 : Fin k0_t1_loop.trips) : Fin 3 → Nat :=
  let c2_638 : Index := 2#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_637 : BitVec 32 := 0#32
  let v1303 : BitVec 32 := Scalar.addi v286 c0_i32_637
  let v1304 : Index := Scalar.indexCast v1303
  let c640_639 : Index := 640#32
  ![2, v1304.toNat, 640]
def k0_off49 (k0_t1 : Fin k0_t1_loop.trips) : Fin 3 → Nat :=
  let c3_649 : Index := 3#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_648 : BitVec 32 := 0#32
  let v1327 : BitVec 32 := Scalar.addi v286 c0_i32_648
  let v1328 : Index := Scalar.indexCast v1327
  let c640_650 : Index := 640#32
  ![3, v1328.toNat, 640]
def k0_off50 (k0_t1 : Fin k0_t1_loop.trips) : Fin 3 → Nat :=
  let c4_660 : Index := 4#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_659 : BitVec 32 := 0#32
  let v1351 : BitVec 32 := Scalar.addi v286 c0_i32_659
  let v1352 : Index := Scalar.indexCast v1351
  let c640_661 : Index := 640#32
  ![4, v1352.toNat, 640]
def k0_off51 (k0_t1 : Fin k0_t1_loop.trips) : Fin 3 → Nat :=
  let c5_671 : Index := 5#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_670 : BitVec 32 := 0#32
  let v1375 : BitVec 32 := Scalar.addi v286 c0_i32_670
  let v1376 : Index := Scalar.indexCast v1375
  let c640_672 : Index := 640#32
  ![5, v1376.toNat, 640]
def k0_off52 (k0_t1 : Fin k0_t1_loop.trips) : Fin 3 → Nat :=
  let c6_682 : Index := 6#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_681 : BitVec 32 := 0#32
  let v1399 : BitVec 32 := Scalar.addi v286 c0_i32_681
  let v1400 : Index := Scalar.indexCast v1399
  let c640_683 : Index := 640#32
  ![6, v1400.toNat, 640]
def k0_off53 (k0_t1 : Fin k0_t1_loop.trips) : Fin 3 → Nat :=
  let c7_693 : Index := 7#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_692 : BitVec 32 := 0#32
  let v1423 : BitVec 32 := Scalar.addi v286 c0_i32_692
  let v1424 : Index := Scalar.indexCast v1423
  let c640_694 : Index := 640#32
  ![7, v1424.toNat, 640]
def k0_off54 (k0_t1 : Fin k0_t1_loop.trips) : Fin 2 → Nat :=
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let v1447 : Index := Scalar.indexCast v286
  let c640_703 : Index := 640#32
  ![v1447.toNat, 640]
def k0_off55 (k0_t1 : Fin k0_t1_loop.trips) : Fin 3 → Nat :=
  let c0_706 : Index := 0#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c8_i32_705 : BitVec 32 := 8#32
  let v1454 : BitVec 32 := Scalar.addi v286 c8_i32_705
  let v1455 : Index := Scalar.indexCast v1454
  let c768_707 : Index := 768#32
  ![0, v1455.toNat, 768]
def k0_off56 (k0_t1 : Fin k0_t1_loop.trips) : Fin 3 → Nat :=
  let c1_715 : Index := 1#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_714 : BitVec 32 := 0#32
  let v1473 : BitVec 32 := Scalar.addi v286 c0_i32_714
  let v1474 : Index := Scalar.indexCast v1473
  let c768_716 : Index := 768#32
  ![1, v1474.toNat, 768]
def k0_off57 (k0_t1 : Fin k0_t1_loop.trips) : Fin 3 → Nat :=
  let c2_726 : Index := 2#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_725 : BitVec 32 := 0#32
  let v1497 : BitVec 32 := Scalar.addi v286 c0_i32_725
  let v1498 : Index := Scalar.indexCast v1497
  let c768_727 : Index := 768#32
  ![2, v1498.toNat, 768]
def k0_off58 (k0_t1 : Fin k0_t1_loop.trips) : Fin 3 → Nat :=
  let c3_737 : Index := 3#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_736 : BitVec 32 := 0#32
  let v1521 : BitVec 32 := Scalar.addi v286 c0_i32_736
  let v1522 : Index := Scalar.indexCast v1521
  let c768_738 : Index := 768#32
  ![3, v1522.toNat, 768]
def k0_off59 (k0_t1 : Fin k0_t1_loop.trips) : Fin 3 → Nat :=
  let c4_748 : Index := 4#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_747 : BitVec 32 := 0#32
  let v1545 : BitVec 32 := Scalar.addi v286 c0_i32_747
  let v1546 : Index := Scalar.indexCast v1545
  let c768_749 : Index := 768#32
  ![4, v1546.toNat, 768]
def k0_off60 (k0_t1 : Fin k0_t1_loop.trips) : Fin 3 → Nat :=
  let c5_759 : Index := 5#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_758 : BitVec 32 := 0#32
  let v1569 : BitVec 32 := Scalar.addi v286 c0_i32_758
  let v1570 : Index := Scalar.indexCast v1569
  let c768_760 : Index := 768#32
  ![5, v1570.toNat, 768]
def k0_off61 (k0_t1 : Fin k0_t1_loop.trips) : Fin 3 → Nat :=
  let c6_770 : Index := 6#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_769 : BitVec 32 := 0#32
  let v1593 : BitVec 32 := Scalar.addi v286 c0_i32_769
  let v1594 : Index := Scalar.indexCast v1593
  let c768_771 : Index := 768#32
  ![6, v1594.toNat, 768]
def k0_off62 (k0_t1 : Fin k0_t1_loop.trips) : Fin 3 → Nat :=
  let c7_781 : Index := 7#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_780 : BitVec 32 := 0#32
  let v1617 : BitVec 32 := Scalar.addi v286 c0_i32_780
  let v1618 : Index := Scalar.indexCast v1617
  let c768_782 : Index := 768#32
  ![7, v1618.toNat, 768]
def k0_off63 (k0_t1 : Fin k0_t1_loop.trips) : Fin 2 → Nat :=
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let v1641 : Index := Scalar.indexCast v286
  let c768_791 : Index := 768#32
  ![v1641.toNat, 768]
def k0_off64 (k0_t1 : Fin k0_t1_loop.trips) : Fin 3 → Nat :=
  let c0_794 : Index := 0#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c8_i32_793 : BitVec 32 := 8#32
  let v1648 : BitVec 32 := Scalar.addi v286 c8_i32_793
  let v1649 : Index := Scalar.indexCast v1648
  let c896_795 : Index := 896#32
  ![0, v1649.toNat, 896]
def k0_off65 (k0_t1 : Fin k0_t1_loop.trips) : Fin 3 → Nat :=
  let c1_803 : Index := 1#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_802 : BitVec 32 := 0#32
  let v1667 : BitVec 32 := Scalar.addi v286 c0_i32_802
  let v1668 : Index := Scalar.indexCast v1667
  let c896_804 : Index := 896#32
  ![1, v1668.toNat, 896]
def k0_off66 (k0_t1 : Fin k0_t1_loop.trips) : Fin 3 → Nat :=
  let c2_814 : Index := 2#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_813 : BitVec 32 := 0#32
  let v1691 : BitVec 32 := Scalar.addi v286 c0_i32_813
  let v1692 : Index := Scalar.indexCast v1691
  let c896_815 : Index := 896#32
  ![2, v1692.toNat, 896]
def k0_off67 (k0_t1 : Fin k0_t1_loop.trips) : Fin 3 → Nat :=
  let c3_825 : Index := 3#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_824 : BitVec 32 := 0#32
  let v1715 : BitVec 32 := Scalar.addi v286 c0_i32_824
  let v1716 : Index := Scalar.indexCast v1715
  let c896_826 : Index := 896#32
  ![3, v1716.toNat, 896]
def k0_off68 (k0_t1 : Fin k0_t1_loop.trips) : Fin 3 → Nat :=
  let c4_836 : Index := 4#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_835 : BitVec 32 := 0#32
  let v1739 : BitVec 32 := Scalar.addi v286 c0_i32_835
  let v1740 : Index := Scalar.indexCast v1739
  let c896_837 : Index := 896#32
  ![4, v1740.toNat, 896]
def k0_off69 (k0_t1 : Fin k0_t1_loop.trips) : Fin 3 → Nat :=
  let c5_847 : Index := 5#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_846 : BitVec 32 := 0#32
  let v1763 : BitVec 32 := Scalar.addi v286 c0_i32_846
  let v1764 : Index := Scalar.indexCast v1763
  let c896_848 : Index := 896#32
  ![5, v1764.toNat, 896]
def k0_off70 (k0_t1 : Fin k0_t1_loop.trips) : Fin 3 → Nat :=
  let c6_858 : Index := 6#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_857 : BitVec 32 := 0#32
  let v1787 : BitVec 32 := Scalar.addi v286 c0_i32_857
  let v1788 : Index := Scalar.indexCast v1787
  let c896_859 : Index := 896#32
  ![6, v1788.toNat, 896]
def k0_off71 (k0_t1 : Fin k0_t1_loop.trips) : Fin 3 → Nat :=
  let c7_869 : Index := 7#32
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let c0_i32_868 : BitVec 32 := 0#32
  let v1811 : BitVec 32 := Scalar.addi v286 c0_i32_868
  let v1812 : Index := Scalar.indexCast v1811
  let c896_870 : Index := 896#32
  ![7, v1812.toNat, 896]
def k0_off72 (k0_t1 : Fin k0_t1_loop.trips) : Fin 2 → Nat :=
  let c0_i32_164 : BitVec 32 := 0#32
  let c1_i32_166 : BitVec 32 := 1#32
  let arg20 : BitVec 32 := Scf.iv c0_i32_164 c1_i32_166 k0_t1
  let c64_i32 : BitVec 32 := 64#32
  let v285 : BitVec 32 := Scalar.muli arg20 c64_i32
  let v286 : BitVec 32 := v285
  let v1835 : Index := Scalar.indexCast v286
  let c896_879 : Index := 896#32
  ![v1835.toNat, 896]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c5119_i32 : BitVec 32 := 5119#32
  let v2 : BitVec 32 := Scalar.minsi v1 c5119_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c2559_i32 : BitVec 32 := 2559#32
  let v2 : BitVec 32 := Scalar.minsi v1 c2559_i32
  let c0_i32 : BitVec 32 := 0#32
  let c0_i32_0 : BitVec 32 := 0#32
  ![v2.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S31x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MixRefIdeal.lean ====
abbrev S40960x512 : Shape := ⟨2, ![40960, 512]⟩
abbrev S40960x1024 : Shape := ⟨2, ![40960, 1024]⟩
abbrev S4x128x128 : Shape := ⟨3, ![4, 128, 128]⟩
abbrev S1x512 : Shape := ⟨2, ![1, 512]⟩
abbrev S31x1024 : Shape := ⟨2, ![31, 1024]⟩
abbrev S1x1024 : Shape := ⟨2, ![1, 1024]⟩
abbrev S1024x1024 : Shape := ⟨2, ![1024, 1024]⟩
abbrev S2048 : Shape := ⟨1, ![2048]⟩
abbrev S1x2048 : Shape := ⟨2, ![1, 2048]⟩
abbrev S4x2048 : Shape := ⟨2, ![4, 2048]⟩
abbrev S8192 : Shape := ⟨1, ![8192]⟩
abbrev S1x8192 : Shape := ⟨2, ![1, 8192]⟩
abbrev S4x8192 : Shape := ⟨2, ![4, 8192]⟩
abbrev S32768 : Shape := ⟨1, ![32768]⟩
abbrev S40960 : Shape := ⟨1, ![40960]⟩
abbrev S_ : Shape := ⟨0, ![]⟩
abbrev S40960x128 : Shape := ⟨2, ![40960, 128]⟩
abbrev S2 : Shape := ⟨1, ![2]⟩
abbrev S40960x1 : Shape := ⟨2, ![40960, 1]⟩
abbrev S1x2 : Shape := ⟨2, ![1, 2]⟩
abbrev S40960x2 : Shape := ⟨2, ![40960, 2]⟩
abbrev S40960x2x1 : Shape := ⟨3, ![40960, 2, 1]⟩
abbrev S40960x2x128 : Shape := ⟨3, ![40960, 2, 128]⟩
abbrev S1x128x128 : Shape := ⟨3, ![1, 128, 128]⟩
abbrev S128x128 : Shape := ⟨2, ![128, 128]⟩
abbrev S4 : Shape := ⟨1, ![4]⟩
abbrev S1x4 : Shape := ⟨2, ![1, 4]⟩
abbrev S40960x4 : Shape := ⟨2, ![40960, 4]⟩
abbrev S40960x4x1 : Shape := ⟨3, ![40960, 4, 1]⟩
abbrev S40960x4x128 : Shape := ⟨3, ![40960, 4, 128]⟩
abbrev S8 : Shape := ⟨1, ![8]⟩
abbrev S1x8 : Shape := ⟨2, ![1, 8]⟩
abbrev S40960x8 : Shape := ⟨2, ![40960, 8]⟩
abbrev S40960x8x1 : Shape := ⟨3, ![40960, 8, 1]⟩
abbrev S40960x8x128 : Shape := ⟨3, ![40960, 8, 128]⟩
abbrev S16 : Shape := ⟨1, ![16]⟩
abbrev S1x16 : Shape := ⟨2, ![1, 16]⟩
abbrev S40960x16 : Shape := ⟨2, ![40960, 16]⟩
abbrev S40960x16x1 : Shape := ⟨3, ![40960, 16, 1]⟩
abbrev S40960x16x128 : Shape := ⟨3, ![40960, 16, 128]⟩
abbrev S31 : Shape := ⟨1, ![31]⟩
abbrev S1x31 : Shape := ⟨2, ![1, 31]⟩
abbrev S40960x31 : Shape := ⟨2, ![40960, 31]⟩
abbrev S40960x31x1 : Shape := ⟨3, ![40960, 31, 1]⟩
abbrev S40960x31x1024 : Shape := ⟨3, ![40960, 31, 1024]⟩
abbrev S1x31x1024 : Shape := ⟨3, ![1, 31, 1024]⟩

abbrev nBuf : Space → Nat
  | .hbm => 401
  | .vmem => 0
  | .smem => 0
  | _ => 0

abbrev hbmTy0_0 (i : Nat) : BufTy := match i % 128 with
  | 0 => ⟨S40960x512, .f32⟩
  | 1 => ⟨S40960x1024, .bf16⟩
  | 2 => ⟨S4x128x128, .bf16⟩
  | 3 => ⟨S1x512, .f32⟩
  | 4 => ⟨S31x1024, .f32⟩
  | 5 => ⟨S1x1024, .f32⟩
  | 6 => ⟨S1x1024, .f32⟩
  | 7 => ⟨S1x1024, .f32⟩
  | 8 => ⟨S1024x1024, .bf16⟩
  | 9 => ⟨S1x1024, .f32⟩
  | 10 => ⟨S2048, .i32⟩
  | 11 => ⟨S1x2048, .i32⟩
  | 12 => ⟨S4x2048, .i32⟩
  | 13 => ⟨S8192, .i32⟩
  | 14 => ⟨S8192, .i32⟩
  | 15 => ⟨S1x8192, .i32⟩
  | 16 => ⟨S4x8192, .i32⟩
  | 17 => ⟨S32768, .i32⟩
  | 18 => ⟨S40960, .i32⟩
  | 19 => ⟨S_, .i32⟩
  | 20 => ⟨S8192, .i32⟩
  | 21 => ⟨S_, .i32⟩
  | 22 => ⟨S32768, .i32⟩
  | 23 => ⟨S40960, .i32⟩
  | 24 => ⟨S40960x128, .f32⟩
  | 25 => ⟨S2, .i32⟩
  | 26 => ⟨S_, .i32⟩
  | 27 => ⟨S2, .i32⟩
  | 28 => ⟨S2, .i32⟩
  | 29 => ⟨S40960x1, .i32⟩
  | 30 => ⟨S1x2, .i32⟩
  | 31 => ⟨S40960x2, .i32⟩
  | 32 => ⟨S40960x2, .i32⟩
  | 33 => ⟨S40960x2, .i32⟩
  | 34 => ⟨S40960, .i32⟩
  | 35 => ⟨S40960x1, .i32⟩
  | 36 => ⟨S1x2, .i32⟩
  | 37 => ⟨S40960x2, .i32⟩
  | 38 => ⟨S40960x2, .i32⟩
  | 39 => ⟨S40960x2, .i32⟩
  | 40 => ⟨S_, .i32⟩
  | 41 => ⟨S_, .i32⟩
  | 42 => ⟨S_, .i32⟩
  | 43 => ⟨S40960x2, .i32⟩
  | 44 => ⟨S40960x2, .i32⟩
  | 45 => ⟨S_, .i32⟩
  | 46 => ⟨S40960x2, .i32⟩
  | 47 => ⟨S40960x2, .i32⟩
  | 48 => ⟨S_, .i32⟩
  | 49 => ⟨S40960x2, .i32⟩
  | 50 => ⟨S40960x2, .i1⟩
  | 51 => ⟨S40960x1, .i32⟩
  | 52 => ⟨S40960x1, .i32⟩
  | 53 => ⟨S40960x2, .i32⟩
  | 54 => ⟨S40960x2, .i1⟩
  | 55 => ⟨S40960x2, .i1⟩
  | 56 => ⟨S40960x2x1, .i1⟩
  | 57 => ⟨S_, .i32⟩
  | 58 => ⟨S40960x2, .i32⟩
  | 59 => ⟨S40960x2, .i1⟩
  | 60 => ⟨S_, .i32⟩
  | 61 => ⟨S40960x2, .i32⟩
  | 62 => ⟨S40960x2, .i32⟩
  | 63 => ⟨S40960x2, .i32⟩
  | 64 => ⟨S40960x2x1, .i32⟩
  | 65 => ⟨S40960x2x128, .f32⟩
  | 66 => ⟨S_, .f32⟩
  | 67 => ⟨S_, .f32⟩
  | 68 => ⟨S40960x2x128, .i1⟩
  | 69 => ⟨S40960x2x128, .f32⟩
  | 70 => ⟨S40960x2x128, .f32⟩
  | 71 => ⟨S_, .f32⟩
  | 72 => ⟨S40960x128, .f32⟩
  | 73 => ⟨S_, .i32⟩
  | 74 => ⟨S40960, .i32⟩
  | 75 => ⟨S40960, .i32⟩
  | 76 => ⟨S40960, .i32⟩
  | 77 => ⟨S40960, .i32⟩
  | 78 => ⟨S_, .i32⟩
  | 79 => ⟨S40960, .i32⟩
  | 80 => ⟨S40960, .i32⟩
  | 81 => ⟨S_, .i32⟩
  | 82 => ⟨S40960, .i32⟩
  | 83 => ⟨S40960, .i32⟩
  | 84 => ⟨S40960, .i32⟩
  | 85 => ⟨S40960, .f32⟩
  | 86 => ⟨S40960x1, .f32⟩
  | 87 => ⟨S40960x128, .f32⟩
  | 88 => ⟨S40960x128, .f32⟩
  | 89 => ⟨S40960x128, .f32⟩
  | 90 => ⟨S1x128x128, .bf16⟩
  | 91 => ⟨S128x128, .bf16⟩
  | 92 => ⟨S128x128, .f32⟩
  | 93 => ⟨S40960x128, .f32⟩
  | 94 => ⟨S40960x128, .f32⟩
  | 95 => ⟨S4, .i32⟩
  | 96 => ⟨S_, .i32⟩
  | 97 => ⟨S4, .i32⟩
  | 98 => ⟨S4, .i32⟩
  | 99 => ⟨S40960x1, .i32⟩
  | 100 => ⟨S1x4, .i32⟩
  | 101 => ⟨S40960x4, .i32⟩
  | 102 => ⟨S40960x4, .i32⟩
  | 103 => ⟨S40960x4, .i32⟩
  | 104 => ⟨S40960, .i32⟩
  | 105 => ⟨S40960x1, .i32⟩
  | 106 => ⟨S1x4, .i32⟩
  | 107 => ⟨S40960x4, .i32⟩
  | 108 => ⟨S40960x4, .i32⟩
  | 109 => ⟨S40960x4, .i32⟩
  | 110 => ⟨S_, .i32⟩
  | 111 => ⟨S_, .i32⟩
  | 112 => ⟨S_, .i32⟩
  | 113 => ⟨S40960x4, .i32⟩
  | 114 => ⟨S40960x4, .i32⟩
  | 115 => ⟨S_, .i32⟩
  | 116 => ⟨S40960x4, .i32⟩
  | 117 => ⟨S40960x4, .i32⟩
  | 118 => ⟨S_, .i32⟩
  | 119 => ⟨S40960x4, .i32⟩
  | 120 => ⟨S40960x4, .i1⟩
  | 121 => ⟨S40960x1, .i32⟩
  | 122 => ⟨S40960x1, .i32⟩
  | 123 => ⟨S40960x4, .i32⟩
  | 124 => ⟨S40960x4, .i1⟩
  | 125 => ⟨S40960x4, .i1⟩
  | 126 => ⟨S40960x4x1, .i1⟩
  | 127 => ⟨S_, .i32⟩
  | _ => ⟨S40960x512, .f32⟩

abbrev hbmTy0_1 (i : Nat) : BufTy := match i % 128 with
  | 0 => ⟨S40960x4, .i32⟩
  | 1 => ⟨S40960x4, .i1⟩
  | 2 => ⟨S_, .i32⟩
  | 3 => ⟨S40960x4, .i32⟩
  | 4 => ⟨S40960x4, .i32⟩
  | 5 => ⟨S40960x4, .i32⟩
  | 6 => ⟨S40960x4x1, .i32⟩
  | 7 => ⟨S40960x4x128, .f32⟩
  | 8 => ⟨S_, .f32⟩
  | 9 => ⟨S_, .f32⟩
  | 10 => ⟨S40960x4x128, .i1⟩
  | 11 => ⟨S40960x4x128, .f32⟩
  | 12 => ⟨S40960x4x128, .f32⟩
  | 13 => ⟨S_, .f32⟩
  | 14 => ⟨S40960x128, .f32⟩
  | 15 => ⟨S_, .i32⟩
  | 16 => ⟨S40960, .i32⟩
  | 17 => ⟨S40960, .i32⟩
  | 18 => ⟨S40960, .i32⟩
  | 19 => ⟨S40960, .i32⟩
  | 20 => ⟨S_, .i32⟩
  | 21 => ⟨S40960, .i32⟩
  | 22 => ⟨S40960, .i32⟩
  | 23 => ⟨S_, .i32⟩
  | 24 => ⟨S40960, .i32⟩
  | 25 => ⟨S40960, .i32⟩
  | 26 => ⟨S40960, .i32⟩
  | 27 => ⟨S40960, .f32⟩
  | 28 => ⟨S40960x1, .f32⟩
  | 29 => ⟨S40960x128, .f32⟩
  | 30 => ⟨S40960x128, .f32⟩
  | 31 => ⟨S40960x128, .f32⟩
  | 32 => ⟨S1x128x128, .bf16⟩
  | 33 => ⟨S128x128, .bf16⟩
  | 34 => ⟨S128x128, .f32⟩
  | 35 => ⟨S40960x128, .f32⟩
  | 36 => ⟨S40960x128, .f32⟩
  | 37 => ⟨S8, .i32⟩
  | 38 => ⟨S_, .i32⟩
  | 39 => ⟨S8, .i32⟩
  | 40 => ⟨S8, .i32⟩
  | 41 => ⟨S40960x1, .i32⟩
  | 42 => ⟨S1x8, .i32⟩
  | 43 => ⟨S40960x8, .i32⟩
  | 44 => ⟨S40960x8, .i32⟩
  | 45 => ⟨S40960x8, .i32⟩
  | 46 => ⟨S40960, .i32⟩
  | 47 => ⟨S40960x1, .i32⟩
  | 48 => ⟨S1x8, .i32⟩
  | 49 => ⟨S40960x8, .i32⟩
  | 50 => ⟨S40960x8, .i32⟩
  | 51 => ⟨S40960x8, .i32⟩
  | 52 => ⟨S_, .i32⟩
  | 53 => ⟨S_, .i32⟩
  | 54 => ⟨S_, .i32⟩
  | 55 => ⟨S40960x8, .i32⟩
  | 56 => ⟨S40960x8, .i32⟩
  | 57 => ⟨S_, .i32⟩
  | 58 => ⟨S40960x8, .i32⟩
  | 59 => ⟨S40960x8, .i32⟩
  | 60 => ⟨S_, .i32⟩
  | 61 => ⟨S40960x8, .i32⟩
  | 62 => ⟨S40960x8, .i1⟩
  | 63 => ⟨S40960x1, .i32⟩
  | 64 => ⟨S40960x1, .i32⟩
  | 65 => ⟨S40960x8, .i32⟩
  | 66 => ⟨S40960x8, .i1⟩
  | 67 => ⟨S40960x8, .i1⟩
  | 68 => ⟨S40960x8x1, .i1⟩
  | 69 => ⟨S_, .i32⟩
  | 70 => ⟨S40960x8, .i32⟩
  | 71 => ⟨S40960x8, .i1⟩
  | 72 => ⟨S_, .i32⟩
  | 73 => ⟨S40960x8, .i32⟩
  | 74 => ⟨S40960x8, .i32⟩
  | 75 => ⟨S40960x8, .i32⟩
  | 76 => ⟨S40960x8x1, .i32⟩
  | 77 => ⟨S40960x8x128, .f32⟩
  | 78 => ⟨S_, .f32⟩
  | 79 => ⟨S_, .f32⟩
  | 80 => ⟨S40960x8x128, .i1⟩
  | 81 => ⟨S40960x8x128, .f32⟩
  | 82 => ⟨S40960x8x128, .f32⟩
  | 83 => ⟨S_, .f32⟩
  | 84 => ⟨S40960x128, .f32⟩
  | 85 => ⟨S_, .i32⟩
  | 86 => ⟨S40960, .i32⟩
  | 87 => ⟨S40960, .i32⟩
  | 88 => ⟨S40960, .i32⟩
  | 89 => ⟨S40960, .i32⟩
  | 90 => ⟨S_, .i32⟩
  | 91 => ⟨S40960, .i32⟩
  | 92 => ⟨S40960, .i32⟩
  | 93 => ⟨S_, .i32⟩
  | 94 => ⟨S40960, .i32⟩
  | 95 => ⟨S40960, .i32⟩
  | 96 => ⟨S40960, .i32⟩
  | 97 => ⟨S40960, .f32⟩
  | 98 => ⟨S40960x1, .f32⟩
  | 99 => ⟨S40960x128, .f32⟩
  | 100 => ⟨S40960x128, .f32⟩
  | 101 => ⟨S40960x128, .f32⟩
  | 102 => ⟨S1x128x128, .bf16⟩
  | 103 => ⟨S128x128, .bf16⟩
  | 104 => ⟨S128x128, .f32⟩
  | 105 => ⟨S40960x128, .f32⟩
  | 106 => ⟨S40960x128, .f32⟩
  | 107 => ⟨S16, .i32⟩
  | 108 => ⟨S_, .i32⟩
  | 109 => ⟨S16, .i32⟩
  | 110 => ⟨S16, .i32⟩
  | 111 => ⟨S40960x1, .i32⟩
  | 112 => ⟨S1x16, .i32⟩
  | 113 => ⟨S40960x16, .i32⟩
  | 114 => ⟨S40960x16, .i32⟩
  | 115 => ⟨S40960x16, .i32⟩
  | 116 => ⟨S40960, .i32⟩
  | 117 => ⟨S40960x1, .i32⟩
  | 118 => ⟨S1x16, .i32⟩
  | 119 => ⟨S40960x16, .i32⟩
  | 120 => ⟨S40960x16, .i32⟩
  | 121 => ⟨S40960x16, .i32⟩
  | 122 => ⟨S_, .i32⟩
  | 123 => ⟨S_, .i32⟩
  | 124 => ⟨S_, .i32⟩
  | 125 => ⟨S40960x16, .i32⟩
  | 126 => ⟨S40960x16, .i32⟩
  | 127 => ⟨S_, .i32⟩
  | _ => ⟨S40960x512, .f32⟩

abbrev hbmTy0_2 (i : Nat) : BufTy := match i % 128 with
  | 0 => ⟨S40960x16, .i32⟩
  | 1 => ⟨S40960x16, .i32⟩
  | 2 => ⟨S_, .i32⟩
  | 3 => ⟨S40960x16, .i32⟩
  | 4 => ⟨S40960x16, .i1⟩
  | 5 => ⟨S40960x1, .i32⟩
  | 6 => ⟨S40960x1, .i32⟩
  | 7 => ⟨S40960x16, .i32⟩
  | 8 => ⟨S40960x16, .i1⟩
  | 9 => ⟨S40960x16, .i1⟩
  | 10 => ⟨S40960x16x1, .i1⟩
  | 11 => ⟨S_, .i32⟩
  | 12 => ⟨S40960x16, .i32⟩
  | 13 => ⟨S40960x16, .i1⟩
  | 14 => ⟨S_, .i32⟩
  | 15 => ⟨S40960x16, .i32⟩
  | 16 => ⟨S40960x16, .i32⟩
  | 17 => ⟨S40960x16, .i32⟩
  | 18 => ⟨S40960x16x1, .i32⟩
  | 19 => ⟨S40960x16x128, .f32⟩
  | 20 => ⟨S_, .f32⟩
  | 21 => ⟨S_, .f32⟩
  | 22 => ⟨S40960x16x128, .i1⟩
  | 23 => ⟨S40960x16x128, .f32⟩
  | 24 => ⟨S40960x16x128, .f32⟩
  | 25 => ⟨S_, .f32⟩
  | 26 => ⟨S40960x128, .f32⟩
  | 27 => ⟨S_, .i32⟩
  | 28 => ⟨S40960, .i32⟩
  | 29 => ⟨S40960, .i32⟩
  | 30 => ⟨S40960, .i32⟩
  | 31 => ⟨S40960, .i32⟩
  | 32 => ⟨S_, .i32⟩
  | 33 => ⟨S40960, .i32⟩
  | 34 => ⟨S40960, .i32⟩
  | 35 => ⟨S_, .i32⟩
  | 36 => ⟨S40960, .i32⟩
  | 37 => ⟨S40960, .i32⟩
  | 38 => ⟨S40960, .i32⟩
  | 39 => ⟨S40960, .f32⟩
  | 40 => ⟨S40960x1, .f32⟩
  | 41 => ⟨S40960x128, .f32⟩
  | 42 => ⟨S40960x128, .f32⟩
  | 43 => ⟨S40960x128, .f32⟩
  | 44 => ⟨S1x128x128, .bf16⟩
  | 45 => ⟨S128x128, .bf16⟩
  | 46 => ⟨S128x128, .f32⟩
  | 47 => ⟨S40960x128, .f32⟩
  | 48 => ⟨S40960x512, .f32⟩
  | 49 => ⟨S40960x512, .f32⟩
  | 50 => ⟨S40960x512, .f32⟩
  | 51 => ⟨S40960x1024, .f32⟩
  | 52 => ⟨S31, .i32⟩
  | 53 => ⟨S_, .i32⟩
  | 54 => ⟨S31, .i32⟩
  | 55 => ⟨S31, .i32⟩
  | 56 => ⟨S40960x1, .i32⟩
  | 57 => ⟨S1x31, .i32⟩
  | 58 => ⟨S40960x31, .i32⟩
  | 59 => ⟨S40960x31, .i32⟩
  | 60 => ⟨S40960x31, .i32⟩
  | 61 => ⟨S40960, .i32⟩
  | 62 => ⟨S40960x1, .i32⟩
  | 63 => ⟨S1x31, .i32⟩
  | 64 => ⟨S40960x31, .i32⟩
  | 65 => ⟨S40960x31, .i32⟩
  | 66 => ⟨S40960x31, .i32⟩
  | 67 => ⟨S_, .i32⟩
  | 68 => ⟨S_, .i32⟩
  | 69 => ⟨S_, .i32⟩
  | 70 => ⟨S40960x31, .i32⟩
  | 71 => ⟨S40960x31, .i32⟩
  | 72 => ⟨S_, .i32⟩
  | 73 => ⟨S40960x31, .i32⟩
  | 74 => ⟨S40960x31, .i32⟩
  | 75 => ⟨S_, .i32⟩
  | 76 => ⟨S40960x31, .i32⟩
  | 77 => ⟨S40960x31, .i1⟩
  | 78 => ⟨S40960x1, .i32⟩
  | 79 => ⟨S40960x1, .i32⟩
  | 80 => ⟨S40960x31, .i32⟩
  | 81 => ⟨S40960x31, .i1⟩
  | 82 => ⟨S40960x31, .i1⟩
  | 83 => ⟨S40960x31x1, .i1⟩
  | 84 => ⟨S_, .i32⟩
  | 85 => ⟨S40960x31, .i32⟩
  | 86 => ⟨S40960x31, .i1⟩
  | 87 => ⟨S_, .i32⟩
  | 88 => ⟨S40960x31, .i32⟩
  | 89 => ⟨S40960x31, .i32⟩
  | 90 => ⟨S40960x31, .i32⟩
  | 91 => ⟨S40960x31x1, .i32⟩
  | 92 => ⟨S40960x31x1024, .f32⟩
  | 93 => ⟨S_, .f32⟩
  | 94 => ⟨S_, .f32⟩
  | 95 => ⟨S40960x31x1024, .i1⟩
  | 96 => ⟨S40960x31x1024, .f32⟩
  | 97 => ⟨S40960x31x1024, .f32⟩
  | 98 => ⟨S1x31x1024, .f32⟩
  | 99 => ⟨S40960x31x1024, .f32⟩
  | 100 => ⟨S40960x31x1024, .f32⟩
  | 101 => ⟨S_, .f32⟩
  | 102 => ⟨S40960x1024, .f32⟩
  | 103 => ⟨S40960x1024, .f32⟩
  | 104 => ⟨S40960x1024, .f32⟩
  | 105 => ⟨S_, .f32⟩
  | 106 => ⟨S40960, .f32⟩
  | 107 => ⟨S40960x1, .f32⟩
  | 108 => ⟨S_, .f32⟩
  | 109 => ⟨S40960x1, .f32⟩
  | 110 => ⟨S40960x1, .f32⟩
  | 111 => ⟨S40960x1024, .f32⟩
  | 112 => ⟨S40960x1024, .f32⟩
  | 113 => ⟨S40960x1024, .f32⟩
  | 114 => ⟨S_, .f32⟩
  | 115 => ⟨S40960, .f32⟩
  | 116 => ⟨S40960x1, .f32⟩
  | 117 => ⟨S_, .f32⟩
  | 118 => ⟨S40960x1, .f32⟩
  | 119 => ⟨S40960x1, .f32⟩
  | 120 => ⟨S_, .f32⟩
  | 121 => ⟨S40960x1, .f32⟩
  | 122 => ⟨S40960x1, .f32⟩
  | 123 => ⟨S40960x1, .f32⟩
  | 124 => ⟨S40960x1024, .f32⟩
  | 125 => ⟨S40960x1024, .f32⟩
  | 126 => ⟨S40960x1024, .f32⟩
  | 127 => ⟨S40960x1024, .f32⟩
  | _ => ⟨S40960x512, .f32⟩

abbrev hbmTy0_3 (i : Nat) : BufTy := match i % 128 with
  | 0 => ⟨S40960x1024, .f32⟩
  | 1 => ⟨S40960x1024, .f32⟩
  | 2 => ⟨S40960x1024, .f32⟩
  | 3 => ⟨S40960x1024, .f32⟩
  | 4 => ⟨S_, .f32⟩
  | 5 => ⟨S40960x1024, .f32⟩
  | 6 => ⟨S40960x1024, .f32⟩
  | 7 => ⟨S_, .f32⟩
  | 8 => ⟨S40960x1024, .f32⟩
  | 9 => ⟨S40960x1024, .f32⟩
  | 10 => ⟨S40960x1024, .f32⟩
  | 11 => ⟨S1024x1024, .f32⟩
  | 12 => ⟨S40960x1024, .f32⟩
  | 13 => ⟨S40960x1024, .f32⟩
  | 14 => ⟨S40960x1024, .f32⟩
  | 15 => ⟨S40960x512, .bf16⟩
  | 16 => ⟨S40960x1024, .bf16⟩
  | _ => ⟨S40960x512, .f32⟩

abbrev hbmTy (i : Nat) : BufTy := match i / 128 with
  | 0 => hbmTy0_0 i
  | 1 => hbmTy0_1 i
  | 2 => hbmTy0_2 i
  | 3 => hbmTy0_3 i
  | _ => ⟨S40960x512, .f32⟩

abbrev bufTy : (tb : Table) → Fin (tcTables nBuf tb) → BufTy
  | .hbm, ⟨i, _⟩ => hbmTy i
  | _, _ => ⟨S40960x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_2 : Ref sig .tc := ⟨.hbm, 40, rfl⟩
abbrev main_c_3 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_v27 : Ref sig .tc := ⟨.hbm, 47, rfl⟩
abbrev main_c_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_5 : Ref sig .tc := ⟨.hbm, 57, rfl⟩
abbrev main_v36 : Ref sig .tc := ⟨.hbm, 58, rfl⟩
abbrev main_v37 : Ref sig .tc := ⟨.hbm, 59, rfl⟩
abbrev main_c_6 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v43 : Ref sig .tc := ⟨.hbm, 70, rfl⟩
abbrev main_cst_7 : Ref sig .tc := ⟨.hbm, 71, rfl⟩
abbrev main_v44 : Ref sig .tc := ⟨.hbm, 72, rfl⟩
abbrev main_c_8 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_c_9 : Ref sig .tc := ⟨.hbm, 78, rfl⟩
abbrev main_v49 : Ref sig .tc := ⟨.hbm, 79, rfl⟩
abbrev main_v50 : Ref sig .tc := ⟨.hbm, 80, rfl⟩
abbrev main_c_10 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_c_11 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_c_12 : Ref sig .tc := ⟨.hbm, 110, rfl⟩
abbrev main_c_13 : Ref sig .tc := ⟨.hbm, 111, rfl⟩
abbrev main_call2_v0 : Ref sig .tc := ⟨.hbm, 112, rfl⟩
abbrev main_call2_v1 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_v78 : Ref sig .tc := ⟨.hbm, 117, rfl⟩
abbrev main_c_14 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_c_15 : Ref sig .tc := ⟨.hbm, 127, rfl⟩
abbrev main_v87 : Ref sig .tc := ⟨.hbm, 128, rfl⟩
abbrev main_v88 : Ref sig .tc := ⟨.hbm, 129, rfl⟩
abbrev main_c_16 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_17 : Ref sig .tc := ⟨.hbm, 136, rfl⟩
abbrev main_call3_v0 : Ref sig .tc := ⟨.hbm, 137, rfl⟩
abbrev main_call3_v1 : Ref sig .tc := ⟨.hbm, 138, rfl⟩
abbrev main_call3_v2 : Ref sig .tc := ⟨.hbm, 139, rfl⟩
abbrev main_v94 : Ref sig .tc := ⟨.hbm, 140, rfl⟩
abbrev main_cst_18 : Ref sig .tc := ⟨.hbm, 141, rfl⟩
abbrev main_v95 : Ref sig .tc := ⟨.hbm, 142, rfl⟩
abbrev main_c_19 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_c_20 : Ref sig .tc := ⟨.hbm, 148, rfl⟩
abbrev main_v100 : Ref sig .tc := ⟨.hbm, 149, rfl⟩
abbrev main_v101 : Ref sig .tc := ⟨.hbm, 150, rfl⟩
abbrev main_c_21 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_c_22 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_c_23 : Ref sig .tc := ⟨.hbm, 180, rfl⟩
abbrev main_c_24 : Ref sig .tc := ⟨.hbm, 181, rfl⟩
abbrev main_call4_v0 : Ref sig .tc := ⟨.hbm, 182, rfl⟩
abbrev main_call4_v1 : Ref sig .tc := ⟨.hbm, 183, rfl⟩
abbrev main_call4_v2 : Ref sig .tc := ⟨.hbm, 184, rfl⟩
abbrev main_call4_v3 : Ref sig .tc := ⟨.hbm, 185, rfl⟩
abbrev main_call4_v4 : Ref sig .tc := ⟨.hbm, 186, rfl⟩
abbrev main_v129 : Ref sig .tc := ⟨.hbm, 187, rfl⟩
abbrev main_c_25 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_c_26 : Ref sig .tc := ⟨.hbm, 197, rfl⟩
abbrev main_v138 : Ref sig .tc := ⟨.hbm, 198, rfl⟩
abbrev main_v139 : Ref sig .tc := ⟨.hbm, 199, rfl⟩
abbrev main_c_27 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_cst_28 : Ref sig .tc := ⟨.hbm, 206, rfl⟩
abbrev main_call5_v0 : Ref sig .tc := ⟨.hbm, 207, rfl⟩
abbrev main_call5_v1 : Ref sig .tc := ⟨.hbm, 208, rfl⟩
abbrev main_call5_v2 : Ref sig .tc := ⟨.hbm, 209, rfl⟩
abbrev main_v145 : Ref sig .tc := ⟨.hbm, 210, rfl⟩
abbrev main_cst_29 : Ref sig .tc := ⟨.hbm, 211, rfl⟩
abbrev main_v146 : Ref sig .tc := ⟨.hbm, 212, rfl⟩
abbrev main_c_30 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_c_31 : Ref sig .tc := ⟨.hbm, 218, rfl⟩
abbrev main_v151 : Ref sig .tc := ⟨.hbm, 219, rfl⟩
abbrev main_v152 : Ref sig .tc := ⟨.hbm, 220, rfl⟩
abbrev main_c_32 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_v159 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_c_33 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_c_34 : Ref sig .tc := ⟨.hbm, 250, rfl⟩
abbrev main_c_35 : Ref sig .tc := ⟨.hbm, 251, rfl⟩
abbrev main_call6_v0 : Ref sig .tc := ⟨.hbm, 252, rfl⟩
abbrev main_call6_v1 : Ref sig .tc := ⟨.hbm, 253, rfl⟩
abbrev main_call6_v2 : Ref sig .tc := ⟨.hbm, 254, rfl⟩
abbrev main_call6_v3 : Ref sig .tc := ⟨.hbm, 255, rfl⟩
abbrev main_call6_v4 : Ref sig .tc := ⟨.hbm, 256, rfl⟩
abbrev main_v180 : Ref sig .tc := ⟨.hbm, 257, rfl⟩
abbrev main_c_36 : Ref sig .tc := ⟨.hbm, 258, rfl⟩
abbrev main_v181 : Ref sig .tc := ⟨.hbm, 259, rfl⟩
abbrev main_v182 : Ref sig .tc := ⟨.hbm, 260, rfl⟩
abbrev main_v183 : Ref sig .tc := ⟨.hbm, 261, rfl⟩
abbrev main_v184 : Ref sig .tc := ⟨.hbm, 262, rfl⟩
abbrev main_v185 : Ref sig .tc := ⟨.hbm, 263, rfl⟩
abbrev main_v186 : Ref sig .tc := ⟨.hbm, 264, rfl⟩
abbrev main_v187 : Ref sig .tc := ⟨.hbm, 265, rfl⟩
abbrev main_v188 : Ref sig .tc := ⟨.hbm, 266, rfl⟩
abbrev main_c_37 : Ref sig .tc := ⟨.hbm, 267, rfl⟩
abbrev main_v189 : Ref sig .tc := ⟨.hbm, 268, rfl⟩
abbrev main_v190 : Ref sig .tc := ⟨.hbm, 269, rfl⟩
abbrev main_c_38 : Ref sig .tc := ⟨.hbm, 270, rfl⟩
abbrev main_v191 : Ref sig .tc := ⟨.hbm, 271, rfl⟩
abbrev main_v192 : Ref sig .tc := ⟨.hbm, 272, rfl⟩
abbrev main_v193 : Ref sig .tc := ⟨.hbm, 273, rfl⟩
abbrev main_v194 : Ref sig .tc := ⟨.hbm, 274, rfl⟩
abbrev main_v195 : Ref sig .tc := ⟨.hbm, 275, rfl⟩
abbrev main_cst_39 : Ref sig .tc := ⟨.hbm, 276, rfl⟩
abbrev main_call7_v0 : Ref sig .tc := ⟨.hbm, 277, rfl⟩
abbrev main_call7_v1 : Ref sig .tc := ⟨.hbm, 278, rfl⟩
abbrev main_call7_v2 : Ref sig .tc := ⟨.hbm, 279, rfl⟩
abbrev main_v196 : Ref sig .tc := ⟨.hbm, 280, rfl⟩
abbrev main_cst_40 : Ref sig .tc := ⟨.hbm, 281, rfl⟩
abbrev main_v197 : Ref sig .tc := ⟨.hbm, 282, rfl⟩
abbrev main_c_41 : Ref sig .tc := ⟨.hbm, 283, rfl⟩
abbrev main_v198 : Ref sig .tc := ⟨.hbm, 284, rfl⟩
abbrev main_v199 : Ref sig .tc := ⟨.hbm, 285, rfl⟩
abbrev main_v200 : Ref sig .tc := ⟨.hbm, 286, rfl⟩
abbrev main_v201 : Ref sig .tc := ⟨.hbm, 287, rfl⟩
abbrev main_c_42 : Ref sig .tc := ⟨.hbm, 288, rfl⟩
abbrev main_v202 : Ref sig .tc := ⟨.hbm, 289, rfl⟩
abbrev main_v203 : Ref sig .tc := ⟨.hbm, 290, rfl⟩
abbrev main_c_43 : Ref sig .tc := ⟨.hbm, 291, rfl⟩
abbrev main_v204 : Ref sig .tc := ⟨.hbm, 292, rfl⟩
abbrev main_v205 : Ref sig .tc := ⟨.hbm, 293, rfl⟩
abbrev main_v206 : Ref sig .tc := ⟨.hbm, 294, rfl⟩
abbrev main_v207 : Ref sig .tc := ⟨.hbm, 295, rfl⟩
abbrev main_v208 : Ref sig .tc := ⟨.hbm, 296, rfl⟩
abbrev main_v209 : Ref sig .tc := ⟨.hbm, 297, rfl⟩
abbrev main_v210 : Ref sig .tc := ⟨.hbm, 298, rfl⟩
abbrev main_v211 : Ref sig .tc := ⟨.hbm, 299, rfl⟩
abbrev main_v212 : Ref sig .tc := ⟨.hbm, 300, rfl⟩
abbrev main_v213 : Ref sig .tc := ⟨.hbm, 301, rfl⟩
abbrev main_v214 : Ref sig .tc := ⟨.hbm, 302, rfl⟩
abbrev main_v215 : Ref sig .tc := ⟨.hbm, 303, rfl⟩
abbrev main_v216 : Ref sig .tc := ⟨.hbm, 304, rfl⟩
abbrev main_v217 : Ref sig .tc := ⟨.hbm, 305, rfl⟩
abbrev main_v218 : Ref sig .tc := ⟨.hbm, 306, rfl⟩
abbrev main_v219 : Ref sig .tc := ⟨.hbm, 307, rfl⟩
abbrev main_v220 : Ref sig .tc := ⟨.hbm, 308, rfl⟩
abbrev main_c_44 : Ref sig .tc := ⟨.hbm, 309, rfl⟩
abbrev main_v221 : Ref sig .tc := ⟨.hbm, 310, rfl⟩
abbrev main_v222 : Ref sig .tc := ⟨.hbm, 311, rfl⟩
abbrev main_v223 : Ref sig .tc := ⟨.hbm, 312, rfl⟩
abbrev main_v224 : Ref sig .tc := ⟨.hbm, 313, rfl⟩
abbrev main_v225 : Ref sig .tc := ⟨.hbm, 314, rfl⟩
abbrev main_v226 : Ref sig .tc := ⟨.hbm, 315, rfl⟩
abbrev main_v227 : Ref sig .tc := ⟨.hbm, 316, rfl⟩
abbrev main_v228 : Ref sig .tc := ⟨.hbm, 317, rfl⟩
abbrev main_v229 : Ref sig .tc := ⟨.hbm, 318, rfl⟩
abbrev main_v230 : Ref sig .tc := ⟨.hbm, 319, rfl⟩
abbrev main_v231 : Ref sig .tc := ⟨.hbm, 320, rfl⟩
abbrev main_v232 : Ref sig .tc := ⟨.hbm, 321, rfl⟩
abbrev main_v233 : Ref sig .tc := ⟨.hbm, 322, rfl⟩
abbrev main_c_45 : Ref sig .tc := ⟨.hbm, 323, rfl⟩
abbrev main_c_46 : Ref sig .tc := ⟨.hbm, 324, rfl⟩
abbrev main_call8_v0 : Ref sig .tc := ⟨.hbm, 325, rfl⟩
abbrev main_call8_v1 : Ref sig .tc := ⟨.hbm, 326, rfl⟩
abbrev main_call8_v2 : Ref sig .tc := ⟨.hbm, 327, rfl⟩
abbrev main_call8_v3 : Ref sig .tc := ⟨.hbm, 328, rfl⟩
abbrev main_call8_v4 : Ref sig .tc := ⟨.hbm, 329, rfl⟩
abbrev main_v234 : Ref sig .tc := ⟨.hbm, 330, rfl⟩
abbrev main_c_47 : Ref sig .tc := ⟨.hbm, 331, rfl⟩
abbrev main_v235 : Ref sig .tc := ⟨.hbm, 332, rfl⟩
abbrev main_v236 : Ref sig .tc := ⟨.hbm, 333, rfl⟩
abbrev main_v237 : Ref sig .tc := ⟨.hbm, 334, rfl⟩
abbrev main_v238 : Ref sig .tc := ⟨.hbm, 335, rfl⟩
abbrev main_v239 : Ref sig .tc := ⟨.hbm, 336, rfl⟩
abbrev main_v240 : Ref sig .tc := ⟨.hbm, 337, rfl⟩
abbrev main_v241 : Ref sig .tc := ⟨.hbm, 338, rfl⟩
abbrev main_v242 : Ref sig .tc := ⟨.hbm, 339, rfl⟩
abbrev main_c_48 : Ref sig .tc := ⟨.hbm, 340, rfl⟩
abbrev main_v243 : Ref sig .tc := ⟨.hbm, 341, rfl⟩
abbrev main_v244 : Ref sig .tc := ⟨.hbm, 342, rfl⟩
abbrev main_c_49 : Ref sig .tc := ⟨.hbm, 343, rfl⟩
abbrev main_v245 : Ref sig .tc := ⟨.hbm, 344, rfl⟩
abbrev main_v246 : Ref sig .tc := ⟨.hbm, 345, rfl⟩
abbrev main_v247 : Ref sig .tc := ⟨.hbm, 346, rfl⟩
abbrev main_v248 : Ref sig .tc := ⟨.hbm, 347, rfl⟩
abbrev main_v249 : Ref sig .tc := ⟨.hbm, 348, rfl⟩
abbrev main_cst_50 : Ref sig .tc := ⟨.hbm, 349, rfl⟩
abbrev main_call9_v0 : Ref sig .tc := ⟨.hbm, 350, rfl⟩
abbrev main_call9_v1 : Ref sig .tc := ⟨.hbm, 351, rfl⟩
abbrev main_call9_v2 : Ref sig .tc := ⟨.hbm, 352, rfl⟩
abbrev main_v250 : Ref sig .tc := ⟨.hbm, 353, rfl⟩
abbrev main_v251 : Ref sig .tc := ⟨.hbm, 354, rfl⟩
abbrev main_v252 : Ref sig .tc := ⟨.hbm, 355, rfl⟩
abbrev main_v253 : Ref sig .tc := ⟨.hbm, 356, rfl⟩
abbrev main_cst_51 : Ref sig .tc := ⟨.hbm, 357, rfl⟩
abbrev main_v254 : Ref sig .tc := ⟨.hbm, 358, rfl⟩
abbrev main_v255 : Ref sig .tc := ⟨.hbm, 359, rfl⟩
abbrev main_v256 : Ref sig .tc := ⟨.hbm, 360, rfl⟩
abbrev main_cst_52 : Ref sig .tc := ⟨.hbm, 361, rfl⟩
abbrev main_v257 : Ref sig .tc := ⟨.hbm, 362, rfl⟩
abbrev main_v258 : Ref sig .tc := ⟨.hbm, 363, rfl⟩
abbrev main_cst_53 : Ref sig .tc := ⟨.hbm, 364, rfl⟩
abbrev main_v259 : Ref sig .tc := ⟨.hbm, 365, rfl⟩
abbrev main_v260 : Ref sig .tc := ⟨.hbm, 366, rfl⟩
abbrev main_v261 : Ref sig .tc := ⟨.hbm, 367, rfl⟩
abbrev main_v262 : Ref sig .tc := ⟨.hbm, 368, rfl⟩
abbrev main_v263 : Ref sig .tc := ⟨.hbm, 369, rfl⟩
abbrev main_cst_54 : Ref sig .tc := ⟨.hbm, 370, rfl⟩
abbrev main_v264 : Ref sig .tc := ⟨.hbm, 371, rfl⟩
abbrev main_v265 : Ref sig .tc := ⟨.hbm, 372, rfl⟩
abbrev main_cst_55 : Ref sig .tc := ⟨.hbm, 373, rfl⟩
abbrev main_v266 : Ref sig .tc := ⟨.hbm, 374, rfl⟩
abbrev main_v267 : Ref sig .tc := ⟨.hbm, 375, rfl⟩
abbrev main_cst_56 : Ref sig .tc := ⟨.hbm, 376, rfl⟩
abbrev main_v268 : Ref sig .tc := ⟨.hbm, 377, rfl⟩
abbrev main_v269 : Ref sig .tc := ⟨.hbm, 378, rfl⟩
abbrev main_v270 : Ref sig .tc := ⟨.hbm, 379, rfl⟩
abbrev main_v271 : Ref sig .tc := ⟨.hbm, 380, rfl⟩
abbrev main_v272 : Ref sig .tc := ⟨.hbm, 381, rfl⟩
abbrev main_v273 : Ref sig .tc := ⟨.hbm, 382, rfl⟩
abbrev main_v274 : Ref sig .tc := ⟨.hbm, 383, rfl⟩
abbrev main_v275 : Ref sig .tc := ⟨.hbm, 384, rfl⟩
abbrev main_v276 : Ref sig .tc := ⟨.hbm, 385, rfl⟩
abbrev main_call10_v0 : Ref sig .tc := ⟨.hbm, 386, rfl⟩
abbrev main_call10_v1 : Ref sig .tc := ⟨.hbm, 387, rfl⟩
abbrev main_call10_cst : Ref sig .tc := ⟨.hbm, 388, rfl⟩
abbrev main_call10_v2 : Ref sig .tc := ⟨.hbm, 389, rfl⟩
abbrev main_call10_v3 : Ref sig .tc := ⟨.hbm, 390, rfl⟩
abbrev main_call10_cst_0 : Ref sig .tc := ⟨.hbm, 391, rfl⟩
abbrev main_call10_v4 : Ref sig .tc := ⟨.hbm, 392, rfl⟩
abbrev main_call10_v5 : Ref sig .tc := ⟨.hbm, 393, rfl⟩
abbrev main_v277 : Ref sig .tc := ⟨.hbm, 394, rfl⟩
abbrev main_v278 : Ref sig .tc := ⟨.hbm, 395, rfl⟩
abbrev main_v279 : Ref sig .tc := ⟨.hbm, 396, rfl⟩
abbrev main_v280 : Ref sig .tc := ⟨.hbm, 397, rfl⟩
abbrev main_v281 : Ref sig .tc := ⟨.hbm, 398, rfl⟩
abbrev main_v282 : Ref sig .tc := ⟨.hbm, 399, rfl⟩
abbrev main_v283 : Ref sig .tc := ⟨.hbm, 400, rfl⟩

abbrev nD : Nat := 1
abbrev τ : Topo := Topo.v7x

variable {F : FTy → Type} [FloatOps F]
-- ==== Proof.ExpertsRuns.lean ====
module

public import proofs.«01_k».proof.Proof.Gen.Experts.Skeleton
public import proofs.«01_k».proof.Proof.Gen.Experts.Launch
public import Idealize.ShloMosaic.Lib.Pipeline.Kit
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.PureOps.BitExact
public import Idealize.ShloMosaic.Lib.VecWindow

@[expose] public section

set_option maxRecDepth 16384
set_option Elab.async false

noncomputable section

namespace Cert.Experts.Hand

open Cert.Experts Cert.Experts.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Bits) ℕ (UR sig nD τ) ℕ

/-- The block-to-expert table, whole. -/
abbrev tb0 : Memref sig .tc .smem S192 .i32 := Memref.whole main_arg0
/-- The block-to-block table, whole. -/
abbrev tb1 : Memref sig .tc .smem S192 .i32 := Memref.whole main_arg1
/-- The count of blocks in use, whole. -/
abbrev tb2 : Memref sig .tc .smem S1 .i32 := Memref.whole main_arg2
/-- The gate weights kept between points, whole. -/
abbrev sc0 : Memref sig .tc .vmem S2048x512 .bf16 := Memref.whole cc0_scratch0
/-- The up weights kept between points, whole. -/
abbrev sc1 : Memref sig .tc .vmem S2048x512 .bf16 := Memref.whole cc0_scratch1
/-- The down weights kept between points, whole. -/
abbrev sc2 : Memref sig .tc .vmem S512x2048 .bf16 := Memref.whole cc0_scratch2

/-- The count of blocks in use, as the body reads it. -/
def wNu (T2 : S1.Idx → Elt Bits .i32) : BitVec 32 :=
  View.readAt (Elt Bits) tb2.view (Rect.unit (s := S1) ![0] S1.size inb_S1_S1_0).toLoadRect T2 (Shape.Idx.first (numel1_S1.symm ▸ Nat.one_pos))
/-- This point's expert, as the body reads it. -/
def wBe (i : grid0.Coords) (T0 : S192.Idx → Elt Bits .i32) : BitVec 32 :=
  View.readAt (Elt Bits) tb0.view (Rect.unit (s := S192) (k0_off2 i) S1.size (k0_off2_inb i)).toLoadRect T0 (Shape.Idx.first (numel1_S1.symm ▸ Nat.one_pos))
/-- The expert of the point before (of the first point at the first), as the body reads it. -/
def wBp (i : grid0.Coords) (T0 : S192.Idx → Elt Bits .i32) : BitVec 32 :=
  View.readAt (Elt Bits) tb0.view (Rect.unit (s := S192) (k0_off3 i) S1.size (k0_off3_inb i)).toLoadRect T0 (Shape.Idx.first (numel1_S1.symm ▸ Nat.one_pos))
/-- The word that decides whether the weights are loaded anew. -/
def wLd (i : grid0.Coords) (T0 : S192.Idx → Elt Bits .i32) (T2 : S1.Idx → Elt Bits .i32) : BitVec 1 :=
  Scalar.cmpi .ne (Scalar.extui (Scalar.andi (Scalar.cmpi .slt (BitVec.ofNat 32 (i 0).val) (wNu T2))
    (Scalar.ori (Scalar.cmpi .eq (BitVec.ofNat 32 (i 0).val) 0#32) (Scalar.cmpi .ne (wBe i T0) (wBp i T0))))) 0#32

/-- What the body is handed at a point: its blocks, the tables, the output's buffer, the scratches. -/
def Held (c : Dev nD) (a4 : Memref sig .tc .vmem S4096x128 .i32) (a5 a6 : Memref sig .tc .vmem S1x1x2048x512 .f32) (a7 : Memref sig .tc .vmem S1x1x512x2048 .f32)
    (T0 T1 : S192.Idx → Elt Bits .i32) (T2 : S1.Idx → Elt Bits .i32)
    (x0 : S4096x128.Idx → Elt Bits .i32) (x1 x2 : S1x1x2048x512.Idx → Elt Bits .f32) (x3 : S1x1x512x2048.Idx → Elt Bits .f32)
    (R : sProp 𝕄) : sProp 𝕄 :=
  iprop((a4.view.loc (c : Thread nD τ) ↦[a4.view.set]{fullShare} a4.view.rep x0)
    ∗ (a5.view.loc (c : Thread nD τ) ↦[a5.view.set]{fullShare} a5.view.rep x1)
    ∗ (a6.view.loc (c : Thread nD τ) ↦[a6.view.set]{fullShare} a6.view.rep x2)
    ∗ (a7.view.loc (c : Thread nD τ) ↦[a7.view.set]{fullShare} a7.view.rep x3)
    ∗ (tb0.view.loc (c : Thread nD τ) ↦{fullShare.right} T0)
    ∗ (tb1.view.loc (c : Thread nD τ) ↦{fullShare.right} T1)
    ∗ (tb2.view.loc (c : Thread nD τ) ↦{fullShare.right} T2)
    ∗ R)

set_option backward.proofsInPublic true in
set_option maxHeartbeats 16000000 in
/-- A point past the blocks in use: the body stores zeros and leaves the scratches. -/
noncomputable def runOff (c : Dev nD) (i : grid0.Coords) (a4 : Memref sig .tc .vmem S4096x128 .i32) (h4 : a4.IsWhole) (a5 : Memref sig .tc .vmem S1x1x2048x512 .f32) (h5 : a5.IsWhole) (a6 : Memref sig .tc .vmem S1x1x2048x512 .f32) (h6 : a6.IsWhole) (a7 : Memref sig .tc .vmem S1x1x512x2048 .f32) (h7 : a7.IsWhole) (a8 : Memref sig .tc .vmem S8192x128 .bf16) (h8 : a8.IsWhole)
    (T0 T1 : S192.Idx → Elt Bits .i32) (T2 : S1.Idx → Elt Bits .i32) (x0 : S4096x128.Idx → Elt Bits .i32) (x1 x2 : S1x1x2048x512.Idx → Elt Bits .f32) (x3 : S1x1x512x2048.Idx → Elt Bits .f32)
    (b0 : Buf (Elt Bits) ((c : Thread nD τ).loc cc0_scratch0)) (b1 : Buf (Elt Bits) ((c : Thread nD τ).loc cc0_scratch1)) (b2 : Buf (Elt Bits) ((c : Thread nD τ).loc cc0_scratch2))
    (k1 : k0_cond1 i (wNu T2) = 1#1) (k2 : ¬(wLd i T0 T2 = 1#1)) (k3 : ¬(k0_cond3 i (wNu T2) = 1#1)) :
    Σ' (o : List (View.Piece (Elt Bits) S8192x128 .bf16)) (e0 : Buf (Elt Bits) ((c : Thread nD τ).loc cc0_scratch0)) (e1 : Buf (Elt Bits) ((c : Thread nD τ).loc cc0_scratch1)), { e2 : Buf (Elt Bits) ((c : Thread nD τ).loc cc0_scratch2) //
      ∀ (K : PUnit → sProp 𝕄),
        Held c a4 a5 a6 a7 T0 T1 T2 x0 x1 x2 x3 iprop((∃ d, owns (c : Thread nD τ) a8 fullShare d)
          ∗ (sc0.view.loc (c : Thread nD τ) ↦{fullShare} b0) ∗ (sc1.view.loc (c : Thread nD τ) ↦{fullShare} b1) ∗ (sc2.view.loc (c : Thread nD τ) ↦{fullShare} b2)
          ∗ (Held c a4 a5 a6 a7 T0 T1 T2 x0 x1 x2 x3 iprop((∃ f, a8.view.loc (c : Thread nD τ) ↦[a8.view.set]{fullShare} a8.view.writes (Elt Bits) f o)
              ∗ (sc0.view.loc (c : Thread nD τ) ↦{fullShare} e0) ∗ (sc1.view.loc (c : Thread nD τ) ↦{fullShare} e1) ∗ (sc2.view.loc (c : Thread nD τ) ↦{fullShare} e2)) -∗ K ⟨⟩))
          ⊢ wp frame (wpE (defs₀ (F := Bits)) Variants.none c none) Set.univ (cc0_experts i tb0 (Memref.isWhole_whole _) tb1 (Memref.isWhole_whole _) tb2 (Memref.isWhole_whole _) a4 h4 a5 h5 a6 h6 a7 h7 a8 h8 sc0 (Memref.isWhole_whole _) sc1 (Memref.isWhole_whole _) sc2 (Memref.isWhole_whole _)) K } :=
  ⟨_, _, _, _, fun K => by
    unfold Held; try unfold owns
    unfold wNu at k1 k3; unfold wLd wNu wBe wBp at k2
    rw [cc0_experts_eq_skeleton]; unfold cc0_experts_skel
    iintro ⟨H0, H1, H2, H3, HT0, HT1, HT2, ⟨%d4, %f4, -, HO4⟩, HS0, HS1, HS2, Hk⟩
    have hS0 : sc0.IsWhole := Memref.isWhole_whole _
    have hS1 : sc1.IsWhole := Memref.isWhole_whole _
    have hS2 : sc2.IsWhole := Memref.isWhole_whole _
    have hT0 : tb0.IsWhole := Memref.isWhole_whole _
    have hT1 : tb1.IsWhole := Memref.isWhole_whole _
    have hT2 : tb2.IsWhole := Memref.isWhole_whole _
    sl_exec! (disch := first | exact k1 | exact k2 | exact k3)
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HO4]; · iexists _; iexact HO4
    isplitl [HS0]; · iexact HS0
    isplitl [HS1]; · iexact HS1
    iexact HS2⟩

set_option backward.proofsInPublic true in
set_option maxHeartbeats 16000000 in
/-- A point in use whose expert is the last point's: the body computes from the weights kept. -/
noncomputable def runKeep (c : Dev nD) (i : grid0.Coords) (a4 : Memref sig .tc .vmem S4096x128 .i32) (h4 : a4.IsWhole) (a5 : Memref sig .tc .vmem S1x1x2048x512 .f32) (h5 : a5.IsWhole) (a6 : Memref sig .tc .vmem S1x1x2048x512 .f32) (h6 : a6.IsWhole) (a7 : Memref sig .tc .vmem S1x1x512x2048 .f32) (h7 : a7.IsWhole) (a8 : Memref sig .tc .vmem S8192x128 .bf16) (h8 : a8.IsWhole)
    (T0 T1 : S192.Idx → Elt Bits .i32) (T2 : S1.Idx → Elt Bits .i32) (x0 : S4096x128.Idx → Elt Bits .i32) (x1 x2 : S1x1x2048x512.Idx → Elt Bits .f32) (x3 : S1x1x512x2048.Idx → Elt Bits .f32)
    (b0 : Buf (Elt Bits) ((c : Thread nD τ).loc cc0_scratch0)) (b1 : Buf (Elt Bits) ((c : Thread nD τ).loc cc0_scratch1)) (b2 : Buf (Elt Bits) ((c : Thread nD τ).loc cc0_scratch2))
    (k1 : ¬(k0_cond1 i (wNu T2) = 1#1)) (k2 : ¬(wLd i T0 T2 = 1#1)) (k3 : k0_cond3 i (wNu T2) = 1#1) :
    Σ' (o : List (View.Piece (Elt Bits) S4096x2x128 .bf16)) (e0 : Buf (Elt Bits) ((c : Thread nD τ).loc cc0_scratch0)) (e1 : Buf (Elt Bits) ((c : Thread nD τ).loc cc0_scratch1)), { e2 : Buf (Elt Bits) ((c : Thread nD τ).loc cc0_scratch2) //
      ∀ (K : PUnit → sProp 𝕄),
        Held c a4 a5 a6 a7 T0 T1 T2 x0 x1 x2 x3 iprop((∃ f, (a8.reshape S4096x2x128 reshapes_S8192x128_S4096x2x128.1 reshapes_S8192x128_S4096x2x128.2 h8.contiguous).view.loc (c : Thread nD τ) ↦[(a8.reshape S4096x2x128 reshapes_S8192x128_S4096x2x128.1 reshapes_S8192x128_S4096x2x128.2 h8.contiguous).view.set]{fullShare} f)
          ∗ (sc0.view.loc (c : Thread nD τ) ↦{fullShare} b0) ∗ (sc1.view.loc (c : Thread nD τ) ↦{fullShare} b1) ∗ (sc2.view.loc (c : Thread nD τ) ↦{fullShare} b2)
          ∗ (Held c a4 a5 a6 a7 T0 T1 T2 x0 x1 x2 x3 iprop((∃ f, (a8.reshape S4096x2x128 reshapes_S8192x128_S4096x2x128.1 reshapes_S8192x128_S4096x2x128.2 h8.contiguous).view.loc (c : Thread nD τ) ↦[(a8.reshape S4096x2x128 reshapes_S8192x128_S4096x2x128.1 reshapes_S8192x128_S4096x2x128.2 h8.contiguous).view.set]{fullShare} (a8.reshape S4096x2x128 reshapes_S8192x128_S4096x2x128.1 reshapes_S8192x128_S4096x2x128.2 h8.contiguous).view.writes (Elt Bits) f o)
              ∗ (sc0.view.loc (c : Thread nD τ) ↦{fullShare} e0) ∗ (sc1.view.loc (c : Thread nD τ) ↦{fullShare} e1) ∗ (sc2.view.loc (c : Thread nD τ) ↦{fullShare} e2)) -∗ K ⟨⟩))
          ⊢ wp frame (wpE (defs₀ (F := Bits)) Variants.none c none) Set.univ (cc0_experts i tb0 (Memref.isWhole_whole _) tb1 (Memref.isWhole_whole _) tb2 (Memref.isWhole_whole _) a4 h4 a5 h5 a6 h6 a7 h7 a8 h8 sc0 (Memref.isWhole_whole _) sc1 (Memref.isWhole_whole _) sc2 (Memref.isWhole_whole _)) K } :=
  ⟨_, _, _, _, fun K => by
    unfold Held; try unfold owns
    unfold wNu at k1 k3; unfold wLd wNu wBe wBp at k2
    rw [cc0_experts_eq_skeleton]; unfold cc0_experts_skel
    iintro ⟨H0, H1, H2, H3, HT0, HT1, HT2, ⟨%f4, HO4⟩, HS0, HS1, HS2, Hk⟩
    have hS0 : sc0.IsWhole := Memref.isWhole_whole _
    have hS1 : sc1.IsWhole := Memref.isWhole_whole _
    have hS2 : sc2.IsWhole := Memref.isWhole_whole _
    have hT0 : tb0.IsWhole := Memref.isWhole_whole _
    have hT1 : tb1.IsWhole := Memref.isWhole_whole _
    have hT2 : tb2.IsWhole := Memref.isWhole_whole _
    sl_exec! (disch := first | exact k1 | exact k2 | exact k3)
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HO4]; · iexists _; iexact HO4
    isplitl [HS0]; · iexact HS0
    isplitl [HS1]; · iexact HS1
    iexact HS2⟩

set_option backward.proofsInPublic true in
set_option maxHeartbeats 16000000 in
/-- A point in use of a new expert: the body loads the weights, then computes. -/
noncomputable def runLoad (c : Dev nD) (i : grid0.Coords) (a4 : Memref sig .tc .vmem S4096x128 .i32) (h4 : a4.IsWhole) (a5 : Memref sig .tc .vmem S1x1x2048x512 .f32) (h5 : a5.IsWhole) (a6 : Memref sig .tc .vmem S1x1x2048x512 .f32) (h6 : a6.IsWhole) (a7 : Memref sig .tc .vmem S1x1x512x2048 .f32) (h7 : a7.IsWhole) (a8 : Memref sig .tc .vmem S8192x128 .bf16) (h8 : a8.IsWhole)
    (T0 T1 : S192.Idx → Elt Bits .i32) (T2 : S1.Idx → Elt Bits .i32) (x0 : S4096x128.Idx → Elt Bits .i32) (x1 x2 : S1x1x2048x512.Idx → Elt Bits .f32) (x3 : S1x1x512x2048.Idx → Elt Bits .f32)
    (b0 : Buf (Elt Bits) ((c : Thread nD τ).loc cc0_scratch0)) (b1 : Buf (Elt Bits) ((c : Thread nD τ).loc cc0_scratch1)) (b2 : Buf (Elt Bits) ((c : Thread nD τ).loc cc0_scratch2))
    (k1 : ¬(k0_cond1 i (wNu T2) = 1#1)) (k2 : wLd i T0 T2 = 1#1) (k3 : k0_cond3 i (wNu T2) = 1#1) :
    Σ' (o : List (View.Piece (Elt Bits) S4096x2x128 .bf16)) (e0 : Buf (Elt Bits) ((c : Thread nD τ).loc cc0_scratch0)) (e1 : Buf (Elt Bits) ((c : Thread nD τ).loc cc0_scratch1)), { e2 : Buf (Elt Bits) ((c : Thread nD τ).loc cc0_scratch2) //
      ∀ (K : PUnit → sProp 𝕄),
        Held c a4 a5 a6 a7 T0 T1 T2 x0 x1 x2 x3 iprop((∃ f, (a8.reshape S4096x2x128 reshapes_S8192x128_S4096x2x128.1 reshapes_S8192x128_S4096x2x128.2 h8.contiguous).view.loc (c : Thread nD τ) ↦[(a8.reshape S4096x2x128 reshapes_S8192x128_S4096x2x128.1 reshapes_S8192x128_S4096x2x128.2 h8.contiguous).view.set]{fullShare} f)
          ∗ (sc0.view.loc (c : Thread nD τ) ↦{fullShare} b0) ∗ (sc1.view.loc (c : Thread nD τ) ↦{fullShare} b1) ∗ (sc2.view.loc (c : Thread nD τ) ↦{fullShare} b2)
          ∗ (Held c a4 a5 a6 a7 T0 T1 T2 x0 x1 x2 x3 iprop((∃ f, (a8.reshape S4096x2x128 reshapes_S8192x128_S4096x2x128.1 reshapes_S8192x128_S4096x2x128.2 h8.contiguous).view.loc (c : Thread nD τ) ↦[(a8.reshape S4096x2x128 reshapes_S8192x128_S4096x2x128.1 reshapes_S8192x128_S4096x2x128.2 h8.contiguous).view.set]{fullShare} (a8.reshape S4096x2x128 reshapes_S8192x128_S4096x2x128.1 reshapes_S8192x128_S4096x2x128.2 h8.contiguous).view.writes (Elt Bits) f o)
              ∗ (sc0.view.loc (c : Thread nD τ) ↦{fullShare} e0) ∗ (sc1.view.loc (c : Thread nD τ) ↦{fullShare} e1) ∗ (sc2.view.loc (c : Thread nD τ) ↦{fullShare} e2)) -∗ K ⟨⟩))
          ⊢ wp frame (wpE (defs₀ (F := Bits)) Variants.none c none) Set.univ (cc0_experts i tb0 (Memref.isWhole_whole _) tb1 (Memref.isWhole_whole _) tb2 (Memref.isWhole_whole _) a4 h4 a5 h5 a6 h6 a7 h7 a8 h8 sc0 (Memref.isWhole_whole _) sc1 (Memref.isWhole_whole _) sc2 (Memref.isWhole_whole _)) K } :=
  ⟨_, _, _, _, fun K => by
    unfold Held; try unfold owns
    unfold wNu at k1 k3; unfold wLd wNu wBe wBp at k2
    rw [cc0_experts_eq_skeleton]; unfold cc0_experts_skel
    iintro ⟨H0, H1, H2, H3, HT0, HT1, HT2, ⟨%f4, HO4⟩, HS0, HS1, HS2, Hk⟩
    have hS0 : sc0.IsWhole := Memref.isWhole_whole _
    have hS1 : sc1.IsWhole := Memref.isWhole_whole _
    have hS2 : sc2.IsWhole := Memref.isWhole_whole _
    have hT0 : tb0.IsWhole := Memref.isWhole_whole _
    have hT1 : tb1.IsWhole := Memref.isWhole_whole _
    have hT2 : tb2.IsWhole := Memref.isWhole_whole _
    sl_exec! (disch := first | exact k1 | exact k2 | exact k3)
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HO4]; · iexists _; iexact HO4
    isplitl [HS0]; · iexact HS0
    isplitl [HS1]; · iexact HS1
    iexact HS2⟩

end Cert.Experts.Hand

end
-- ==== Proof.ExpertsBlocks.lean ====
module

public import proofs.«01_k».proof.Proof.ExpertsRuns

@[expose] public section

set_option maxRecDepth 16384
set_option Elab.async false

noncomputable section

namespace Cert.Experts.Hand

open Cert.Experts Cert.Experts.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## What a point in use stores, as a function of its blocks -/

/-- Every eighth row of a block of packed words, from row `s`. -/
def lx (s : ℕ) (h : ∀ a, S512x128.size a = 0 ∨ ![s, 0] a + ![8, 1] a * (S512x128.size a - 1) < S4096x128.size a) (x0 : S4096x128.Idx → Elt Bits .i32) : S512x128.Idx → Elt Bits .i32 :=
  fun j => x0 ((⟨![s, 0], S512x128.size, ![8, 1], h⟩ : LoadRect S4096x128).idx j)

/-- The block's tokens, unpacked. -/
def bX (x0 : S4096x128.Idx → Elt Bits .i32) : FVec Bits S512x2048 .bf16 := k0_pay21 (k0_pay12 (lx 0 inb_S4096x128_S512x128_0_0_s_8_1 x0)) (k0_pay13 (lx 0 inb_S4096x128_S512x128_0_0_s_8_1 x0)) (k0_pay14 (lx 1 inb_S4096x128_S512x128_1_0_s_8_1 x0)) (k0_pay15 (lx 1 inb_S4096x128_S512x128_1_0_s_8_1 x0)) (k0_pay16 (lx 2 inb_S4096x128_S512x128_2_0_s_8_1 x0)) (k0_pay17 (lx 2 inb_S4096x128_S512x128_2_0_s_8_1 x0)) (k0_pay18 (lx 3 inb_S4096x128_S512x128_3_0_s_8_1 x0)) (k0_pay19 (lx 3 inb_S4096x128_S512x128_3_0_s_8_1 x0)) (lx 4 inb_S4096x128_S512x128_4_0_s_8_1 x0) (k0_pay20 (lx 4 inb_S4096x128_S512x128_4_0_s_8_1 x0)) (lx 5 inb_S4096x128_S512x128_5_0_s_8_1 x0) (lx 6 inb_S4096x128_S512x128_6_0_s_8_1 x0) (lx 7 inb_S4096x128_S512x128_7_0_s_8_1 x0)
/-- The first half of the hidden features. -/
def bH0 (x0 : S4096x128.Idx → Elt Bits .i32) (w1 w2 : S2048x512.Idx → Elt Bits .bf16) : FVec Bits S512x256 .bf16 := k0_pay22 (k0_pay12 (lx 0 inb_S4096x128_S512x128_0_0_s_8_1 x0)) (k0_pay13 (lx 0 inb_S4096x128_S512x128_0_0_s_8_1 x0)) (k0_pay14 (lx 1 inb_S4096x128_S512x128_1_0_s_8_1 x0)) (k0_pay15 (lx 1 inb_S4096x128_S512x128_1_0_s_8_1 x0)) (k0_pay16 (lx 2 inb_S4096x128_S512x128_2_0_s_8_1 x0)) (k0_pay17 (lx 2 inb_S4096x128_S512x128_2_0_s_8_1 x0)) (k0_pay18 (lx 3 inb_S4096x128_S512x128_3_0_s_8_1 x0)) (k0_pay19 (lx 3 inb_S4096x128_S512x128_3_0_s_8_1 x0)) (lx 4 inb_S4096x128_S512x128_4_0_s_8_1 x0) (k0_pay20 (lx 4 inb_S4096x128_S512x128_4_0_s_8_1 x0)) (lx 5 inb_S4096x128_S512x128_5_0_s_8_1 x0) (lx 6 inb_S4096x128_S512x128_6_0_s_8_1 x0) (lx 7 inb_S4096x128_S512x128_7_0_s_8_1 x0) (View.ld (Val := Elt Bits) w1 (Rect.unit (s := S2048x512) ![0, 0] S2048x256.size inb_S2048x512_S2048x256_0_0)) (View.ld (Val := Elt Bits) w2 (Rect.unit (s := S2048x512) ![0, 0] S2048x256.size inb_S2048x512_S2048x256_0_0))
/-- The hidden features. -/
def bH (x0 : S4096x128.Idx → Elt Bits .i32) (w1 w2 : S2048x512.Idx → Elt Bits .bf16) : FVec Bits S512x512 .bf16 := k0_pay23 (bX x0) (bH0 x0 w1 w2) (View.ld (Val := Elt Bits) w1 (Rect.unit (s := S2048x512) ![0, 256] S2048x256.size inb_S2048x512_S2048x256_0_256)) (View.ld (Val := Elt Bits) w2 (Rect.unit (s := S2048x512) ![0, 256] S2048x256.size inb_S2048x512_S2048x256_0_256))

/-- The eight strided stores of a point in use, last first. -/
def outPieces (x0 : S4096x128.Idx → Elt Bits .i32) (w1 w2 : S2048x512.Idx → Elt Bits .bf16) (w3 : S512x2048.Idx → Elt Bits .bf16) : List (View.Piece (Elt Bits) S4096x2x128 .bf16) :=
  [⟨⟨(⟨![7, 0, 0], S512x2x128.size, ![8, 1, 1], inb_S4096x2x128_S512x2x128_7_0_0_s_8_1_1⟩ : LoadRect S4096x2x128), spos_8_1_1⟩, k0_pay11 (bH x0 w1 w2) (View.ld (Val := Elt Bits) w3 (Rect.unit (s := S512x2048) ![0, 768] S512x256.size inb_S512x2048_S512x256_0_768)) (View.ld (Val := Elt Bits) w3 (Rect.unit (s := S512x2048) ![0, 1792] S512x256.size inb_S512x2048_S512x256_0_1792))⟩,
   ⟨⟨(⟨![6, 0, 0], S512x2x128.size, ![8, 1, 1], inb_S4096x2x128_S512x2x128_6_0_0_s_8_1_1⟩ : LoadRect S4096x2x128), spos_8_1_1⟩, k0_pay10 (bH x0 w1 w2) (View.ld (Val := Elt Bits) w3 (Rect.unit (s := S512x2048) ![0, 768] S512x256.size inb_S512x2048_S512x256_0_768)) (View.ld (Val := Elt Bits) w3 (Rect.unit (s := S512x2048) ![0, 1792] S512x256.size inb_S512x2048_S512x256_0_1792))⟩,
   ⟨⟨(⟨![5, 0, 0], S512x2x128.size, ![8, 1, 1], inb_S4096x2x128_S512x2x128_5_0_0_s_8_1_1⟩ : LoadRect S4096x2x128), spos_8_1_1⟩, k0_pay8 (bH x0 w1 w2) (View.ld (Val := Elt Bits) w3 (Rect.unit (s := S512x2048) ![0, 512] S512x256.size inb_S512x2048_S512x256_0_512)) (View.ld (Val := Elt Bits) w3 (Rect.unit (s := S512x2048) ![0, 1536] S512x256.size inb_S512x2048_S512x256_0_1536))⟩,
   ⟨⟨(⟨![4, 0, 0], S512x2x128.size, ![8, 1, 1], inb_S4096x2x128_S512x2x128_4_0_0_s_8_1_1⟩ : LoadRect S4096x2x128), spos_8_1_1⟩, k0_pay7 (bH x0 w1 w2) (View.ld (Val := Elt Bits) w3 (Rect.unit (s := S512x2048) ![0, 512] S512x256.size inb_S512x2048_S512x256_0_512)) (View.ld (Val := Elt Bits) w3 (Rect.unit (s := S512x2048) ![0, 1536] S512x256.size inb_S512x2048_S512x256_0_1536))⟩,
   ⟨⟨(⟨![3, 0, 0], S512x2x128.size, ![8, 1, 1], inb_S4096x2x128_S512x2x128_3_0_0_s_8_1_1⟩ : LoadRect S4096x2x128), spos_8_1_1⟩, k0_pay5 (k0_pay29 (bX x0) (bH0 x0 w1 w2) (View.ld (Val := Elt Bits) w1 (Rect.unit (s := S2048x512) ![0, 256] S2048x256.size inb_S2048x512_S2048x256_0_256)) (View.ld (Val := Elt Bits) w2 (Rect.unit (s := S2048x512) ![0, 256] S2048x256.size inb_S2048x512_S2048x256_0_256)) (View.ld (Val := Elt Bits) w3 (Rect.unit (s := S512x2048) ![0, 256] S512x256.size inb_S512x2048_S512x256_0_256)) (View.ld (Val := Elt Bits) w3 (Rect.unit (s := S512x2048) ![0, 1280] S512x256.size inb_S512x2048_S512x256_0_1280)))⟩,
   ⟨⟨(⟨![2, 0, 0], S512x2x128.size, ![8, 1, 1], inb_S4096x2x128_S512x2x128_2_0_0_s_8_1_1⟩ : LoadRect S4096x2x128), spos_8_1_1⟩, k0_pay28 (bX x0) (bH0 x0 w1 w2) (View.ld (Val := Elt Bits) w1 (Rect.unit (s := S2048x512) ![0, 256] S2048x256.size inb_S2048x512_S2048x256_0_256)) (View.ld (Val := Elt Bits) w2 (Rect.unit (s := S2048x512) ![0, 256] S2048x256.size inb_S2048x512_S2048x256_0_256)) (View.ld (Val := Elt Bits) w3 (Rect.unit (s := S512x2048) ![0, 256] S512x256.size inb_S512x2048_S512x256_0_256)) (View.ld (Val := Elt Bits) w3 (Rect.unit (s := S512x2048) ![0, 1280] S512x256.size inb_S512x2048_S512x256_0_1280))⟩,
   ⟨⟨(⟨![1, 0, 0], S512x2x128.size, ![8, 1, 1], inb_S4096x2x128_S512x2x128_1_0_0_s_8_1_1⟩ : LoadRect S4096x2x128), spos_8_1_1⟩, k0_pay26 (bX x0) (bH0 x0 w1 w2) (View.ld (Val := Elt Bits) w1 (Rect.unit (s := S2048x512) ![0, 256] S2048x256.size inb_S2048x512_S2048x256_0_256)) (View.ld (Val := Elt Bits) w2 (Rect.unit (s := S2048x512) ![0, 256] S2048x256.size inb_S2048x512_S2048x256_0_256)) (View.ld (Val := Elt Bits) w3 (Rect.unit (s := S512x2048) ![0, 0] S512x256.size inb_S512x2048_S512x256_0_0)) (View.ld (Val := Elt Bits) w3 (Rect.unit (s := S512x2048) ![0, 1024] S512x256.size inb_S512x2048_S512x256_0_1024))⟩,
   ⟨⟨(⟨![0, 0, 0], S512x2x128.size, ![8, 1, 1], inb_S4096x2x128_S512x2x128_0_0_0_s_8_1_1⟩ : LoadRect S4096x2x128), spos_8_1_1⟩, k0_pay25 (bX x0) (bH0 x0 w1 w2) (View.ld (Val := Elt Bits) w1 (Rect.unit (s := S2048x512) ![0, 256] S2048x256.size inb_S2048x512_S2048x256_0_256)) (View.ld (Val := Elt Bits) w2 (Rect.unit (s := S2048x512) ![0, 256] S2048x256.size inb_S2048x512_S2048x256_0_256)) (View.ld (Val := Elt Bits) w3 (Rect.unit (s := S512x2048) ![0, 0] S512x256.size inb_S512x2048_S512x256_0_0)) (View.ld (Val := Elt Bits) w3 (Rect.unit (s := S512x2048) ![0, 1024] S512x256.size inb_S512x2048_S512x256_0_1024))⟩]

/-- The eight stores cover the block: row `r` is written by the store of `r % 8`. -/
theorem outPieces_cover (x0 : S4096x128.Idx → Elt Bits .i32) (w1 w2 : S2048x512.Idx → Elt Bits .bf16) (w3 : S512x2048.Idx → Elt Bits .bf16) (y : S4096x2x128.Idx) : ∃ p ∈ outPieces x0 w1 w2 w3, y ∈ p.1.set := by
  have h0 : (y 0).val < 4096 := (y 0).isLt
  have h1 : (y 1).val < 2 := (y 1).isLt
  have h2 : (y 2).val < 128 := (y 2).isLt
  have key : ∀ (p : View.Piece (Elt Bits) S4096x2x128 .bf16) (s : ℕ), p.1.off = ![s, 0, 0] → p.1.size = S512x2x128.size → p.1.stride = ![8, 1, 1] →
      (y 0).val % 8 = s → y ∈ p.1.set := by
    intro p s ho hz hs hm
    refine p.1.mem_set.mpr fun a => ?_
    rw [ho, hz, hs]
    fin_cases a
    · exact ⟨(y 0).val / 8, show (y 0).val / 8 < 512 by omega, by show (y 0).val = ![s, 0, 0] 0 + ![8, 1, 1] 0 * ((y 0).val / 8); simp only [Matrix.cons_val_zero]; omega⟩
    · exact ⟨(y 1).val, h1, by show (y 1).val = ![s, 0, 0] 1 + ![8, 1, 1] 1 * (y 1).val; simp⟩
    · exact ⟨(y 2).val, h2, by show (y 2).val = ![s, 0, 0] 2 + ![8, 1, 1] 2 * (y 2).val; simp⟩
  have hc : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
  rcases hc with h | h | h | h | h | h | h | h
  · exact ⟨_, .tail _ (.tail _ (.tail _ (.tail _ (.tail _ (.tail _ (.tail _ (.head _))))))), key _ 0 rfl rfl rfl h⟩
  · exact ⟨_, .tail _ (.tail _ (.tail _ (.tail _ (.tail _ (.tail _ (.head _)))))), key _ 1 rfl rfl rfl h⟩
  · exact ⟨_, .tail _ (.tail _ (.tail _ (.tail _ (.tail _ (.head _))))), key _ 2 rfl rfl rfl h⟩
  · exact ⟨_, .tail _ (.tail _ (.tail _ (.tail _ (.head _)))), key _ 3 rfl rfl rfl h⟩
  · exact ⟨_, .tail _ (.tail _ (.tail _ (.head _))), key _ 4 rfl rfl rfl h⟩
  · exact ⟨_, .tail _ (.tail _ (.head _)), key _ 5 rfl rfl rfl h⟩
  · exact ⟨_, .tail _ (.head _), key _ 6 rfl rfl rfl h⟩
  · exact ⟨_, .head _, key _ 7 rfl rfl rfl h⟩

variable (c : Dev nD) (i : grid0.Coords) (a4 : Memref sig .tc .vmem S4096x128 .i32) (h4 : a4.IsWhole) (a5 : Memref sig .tc .vmem S1x1x2048x512 .f32) (h5 : a5.IsWhole) (a6 : Memref sig .tc .vmem S1x1x2048x512 .f32) (h6 : a6.IsWhole) (a7 : Memref sig .tc .vmem S1x1x512x2048 .f32) (h7 : a7.IsWhole) (a8 : Memref sig .tc .vmem S8192x128 .bf16) (h8 : a8.IsWhole)
    (T0 T1 : S192.Idx → Elt Bits .i32) (T2 : S1.Idx → Elt Bits .i32) (x0 : S4096x128.Idx → Elt Bits .i32) (x1 x2 : S1x1x2048x512.Idx → Elt Bits .f32) (x3 : S1x1x512x2048.Idx → Elt Bits .f32)
    (b0 : Buf (Elt Bits) ((c : Thread nD τ).loc cc0_scratch0)) (b1 : Buf (Elt Bits) ((c : Thread nD τ).loc cc0_scratch1)) (b2 : Buf (Elt Bits) ((c : Thread nD τ).loc cc0_scratch2))

set_option maxHeartbeats 4000000 in
/-- The stores of a point that keeps its weights. -/
theorem runKeep_pieces (k1) (k2) (k3) :
    (runKeep c i a4 h4 a5 h5 a6 h6 a7 h7 a8 h8 T0 T1 T2 x0 x1 x2 x3 b0 b1 b2 k1 k2 k3).1 = outPieces x0 (sc0.view.read (Elt Bits) b0) (sc1.view.read (Elt Bits) b1) (sc2.view.read (Elt Bits) b2) := by
  have e4 : ∀ (s : ℕ) (h), View.readAt (Elt Bits) a4.view (⟨![s, 0], S512x128.size, ![8, 1], h⟩ : LoadRect S4096x128) (a4.view.rep x0) = lx s h x0 := fun s h => by
    funext j; show a4.view.read (Elt Bits) (a4.view.rep x0) _ = _; rw [View.read_rep]; rfl
  unfold runKeep outPieces bH bH0 bX
  dsimp only
  sl_unfold_words
  simp only [e4]
  rfl

set_option maxHeartbeats 4000000 in
/-- The gate weights a loading point leaves. -/
theorem runLoad_e0 (k1) (k2) (k3) :
    sc0.view.read (Elt Bits) (runLoad c i a4 h4 a5 h5 a6 h6 a7 h7 a8 h8 T0 T1 T2 x0 x1 x2 x3 b0 b1 b2 k1 k2 k3).2.1 = k0_pay2 x1 := by
  unfold runLoad
  dsimp only
  sl_unfold_words
  rw [View.read_writes_full, View.readAt_rep_full]

set_option maxHeartbeats 4000000 in
/-- The up weights a loading point leaves. -/
theorem runLoad_e1 (k1) (k2) (k3) :
    sc1.view.read (Elt Bits) (runLoad c i a4 h4 a5 h5 a6 h6 a7 h7 a8 h8 T0 T1 T2 x0 x1 x2 x3 b0 b1 b2 k1 k2 k3).2.2.1 = k0_pay3 x2 := by
  unfold runLoad
  dsimp only
  sl_unfold_words
  rw [View.read_writes_full, View.readAt_rep_full]

set_option maxHeartbeats 4000000 in
/-- The down weights a loading point leaves. -/
theorem runLoad_e2 (k1) (k2) (k3) :
    sc2.view.read (Elt Bits) (runLoad c i a4 h4 a5 h5 a6 h6 a7 h7 a8 h8 T0 T1 T2 x0 x1 x2 x3 b0 b1 b2 k1 k2 k3).2.2.2.1 = k0_pay4 x3 := by
  unfold runLoad
  dsimp only
  sl_unfold_words
  rw [View.read_writes_full, View.readAt_rep_full]

set_option maxHeartbeats 4000000 in
/-- The stores of a point that loads its weights. -/
theorem runLoad_pieces (k1) (k2) (k3) :
    (runLoad c i a4 h4 a5 h5 a6 h6 a7 h7 a8 h8 T0 T1 T2 x0 x1 x2 x3 b0 b1 b2 k1 k2 k3).1 = outPieces x0 (k0_pay2 x1) (k0_pay3 x2) (k0_pay4 x3) := by
  rw [← runLoad_e0 c i a4 h4 a5 h5 a6 h6 a7 h7 a8 h8 T0 T1 T2 x0 x1 x2 x3 b0 b1 b2 k1 k2 k3, ← runLoad_e1 c i a4 h4 a5 h5 a6 h6 a7 h7 a8 h8 T0 T1 T2 x0 x1 x2 x3 b0 b1 b2 k1 k2 k3,
    ← runLoad_e2 c i a4 h4 a5 h5 a6 h6 a7 h7 a8 h8 T0 T1 T2 x0 x1 x2 x3 b0 b1 b2 k1 k2 k3]
  have e4 : ∀ (s : ℕ) (h), View.readAt (Elt Bits) a4.view (⟨![s, 0], S512x128.size, ![8, 1], h⟩ : LoadRect S4096x128) (a4.view.rep x0) = lx s h x0 := fun s h => by
    funext j; show a4.view.read (Elt Bits) (a4.view.rep x0) _ = _; rw [View.read_rep]; rfl
  unfold runLoad outPieces bH bH0 bX
  dsimp only
  sl_unfold_words
  simp only [e4]
  rfl

/-- The output block's row pair of a flat row. -/
def sq : S8192x128.Idx → S4096x2x128.Idx := fun y => (Shape.reshapeEquiv reshapes_S8192x128_S4096x2x128.1).symm y

/-- The output block of a point in use. -/
def blkUsed (x0 : S4096x128.Idx → Elt Bits .i32) (w1 w2 : S2048x512.Idx → Elt Bits .bf16) (w3 : S512x2048.Idx → Elt Bits .bf16) : S8192x128.Idx → Elt Bits .bf16 :=
  fun y => View.canon (outPieces x0 w1 w2 w3) (sq y)

/-- The output buffer, read after the eight stores. -/
theorem read_used (a8 : Memref sig .tc .vmem S8192x128 .bf16) (h8 : a8.IsWhole) (x0 : S4096x128.Idx → Elt Bits .i32) (w1 w2 : S2048x512.Idx → Elt Bits .bf16) (w3 : S512x2048.Idx → Elt Bits .bf16) (f) :
    a8.view.read (Elt Bits) ((a8.reshape S4096x2x128 reshapes_S8192x128_S4096x2x128.1 reshapes_S8192x128_S4096x2x128.2 h8.contiguous).view.writes (Elt Bits) f (outPieces x0 w1 w2 w3)) = blkUsed x0 w1 w2 w3 := by
  funext y
  have h := View.read_writes_apply_eq_canon (a8.reshape S4096x2x128 reshapes_S8192x128_S4096x2x128.1 reshapes_S8192x128_S4096x2x128.2 h8.contiguous).view f (sq y) (outPieces x0 w1 w2 w3) (outPieces_cover x0 w1 w2 w3 _)
  unfold blkUsed
  rw [← h]
  show _ = a8.view.read (Elt Bits) _ (Shape.reshapeEquiv reshapes_S8192x128_S4096x2x128.1 (sq y))
  unfold sq
  rw [Equiv.apply_symm_apply]

/-- The output buffer, read after the zero store. -/
theorem read_off (k1) (k2) (k3) (f) :
    a8.view.read (Elt Bits) (a8.view.writes (Elt Bits) f (runOff c i a4 h4 a5 h5 a6 h6 a7 h7 a8 h8 T0 T1 T2 x0 x1 x2 x3 b0 b1 b2 k1 k2 k3).1) = (k0_pay1 (F := Bits)) := by
  unfold runOff
  dsimp only
  sl_unfold_words
  rw [View.read_writes_full]

end Cert.Experts.Hand

end
-- ==== Proof.ExpertsFrame.lean ====
module

public import proofs.«01_k».proof.Proof.ExpertsBlocks
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Experts.Hand

open Cert.Experts Cert.Experts.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The proof's resource algebra: the rounds library's, for the pipeline's staging cells, embedded whole. -/
abbrev EP : Emb (UR sig nD τ) 𝕄 := emb₁

/-- The one device. -/
def c0 : Dev nD := ⟨0, by decide⟩

variable (m : (ℓ : Loc nD τ sig) → Buf (Elt Bits) ℓ) (ρ : Dev nD → PrngReg)

/-- The tables as the launch memory holds them. -/
def T0 : S192.Idx → Elt Bits .i32 := m ((c0 : Thread nD τ).loc main_arg0)
/-- The second table. -/
def T1 : S192.Idx → Elt Bits .i32 := m ((c0 : Thread nD τ).loc main_arg1)
/-- The count of blocks in use. -/
def T2 : S1.Idx → Elt Bits .i32 := m ((c0 : Thread nD τ).loc main_arg2)

set_option backward.proofsInPublic true in
/-- The tables together. -/
def pf : pre0.Contents (Elt Bits) := fun | ⟨0, _⟩ => T0 m | ⟨1, _⟩ => T1 m | ⟨2, _⟩ => T2 m | ⟨_ + 3, h⟩ => absurd h (by simp)

variable (hok : ok0 (F := Bits) (pf m))

/-- The pipeline at these tables. -/
def adm : (pcfg0 (F := Bits)).Adm := ⟨pf m, hok⟩
abbrev cfgA : Pipeline.Cfg sig Λ₀ := cfg0 (F := Bits) (adm m hok)
abbrev pcs : Fin 1 → Pipeline.Cfg sig Λ₀ := Pipeline.pin (pcfgs (F := Bits)) fun _ => adm m hok

/-- Point `t`'s coordinates. -/
abbrev crd (t : Fin (cfgA m hok).N) : (cfgA m hok).grid.Coords := (cfgA m hok).grid.coords t

abbrev ms0 (t : Fin (cfgA m hok).N) : Memref sig .tc .vmem S4096x128 .i32 := spec0_0.stage ((cfgA m hok).slots t (0 : Fin 5))
abbrev hs0 (t : Fin (cfgA m hok).N) : (ms0 m hok t).IsWhole := hstage0_0 (((cfgA m hok).slots t (0 : Fin 5)).cast nbuf0_0)
abbrev ms1 (t : Fin (cfgA m hok).N) : Memref sig .tc .vmem S1x1x2048x512 .f32 := spec0_1.stage ((cfgA m hok).slots t (1 : Fin 5))
abbrev hs1 (t : Fin (cfgA m hok).N) : (ms1 m hok t).IsWhole := hstage0_1 (((cfgA m hok).slots t (1 : Fin 5)).cast nbuf0_1)
abbrev ms2 (t : Fin (cfgA m hok).N) : Memref sig .tc .vmem S1x1x2048x512 .f32 := spec0_2.stage ((cfgA m hok).slots t (2 : Fin 5))
abbrev hs2 (t : Fin (cfgA m hok).N) : (ms2 m hok t).IsWhole := hstage0_2 (((cfgA m hok).slots t (2 : Fin 5)).cast nbuf0_2)
abbrev ms3 (t : Fin (cfgA m hok).N) : Memref sig .tc .vmem S1x1x512x2048 .f32 := spec0_3.stage ((cfgA m hok).slots t (3 : Fin 5))
abbrev hs3 (t : Fin (cfgA m hok).N) : (ms3 m hok t).IsWhole := hstage0_3 (((cfgA m hok).slots t (3 : Fin 5)).cast nbuf0_3)
abbrev ms4 (t : Fin (cfgA m hok).N) : Memref sig .tc .vmem S8192x128 .bf16 := spec0_4.stage ((cfgA m hok).slots t (4 : Fin 5))
abbrev hs4 (t : Fin (cfgA m hok).N) : (ms4 m hok t).IsWhole := hstage0_4 (((cfgA m hok).slots t (4 : Fin 5)).cast nbuf0_4)

/-- Window `w`'s block at point `t`, read off its array at launch. -/
def iblk (c : Dev nD) (w : Fin (cfgA m hok).W) (t : Fin (cfgA m hok).N) : (((cfgA m hok).win w).xblock (crd m hok t)).Idx → Elt Bits ((cfgA m hok).win w).elt :=
  (((cfgA m hok).win w).blk t).view.read (Elt Bits) ((s₀ m ρ).mem (((cfgA m hok).win w).arr.view.loc (c : Thread nD τ)))

/-- Whether a point is among the blocks in use. -/
abbrev Used (i : grid0.Coords) : Prop := k0_cond3 i (wNu (T2 m)) = 1#1

open Classical in
/-- The output block after point `t`. -/
def blk (c : Dev nD) (t : Fin (cfgA m hok).N) : S8192x128.Idx → Elt Bits .bf16 :=
  if Used m (crd m hok t) then blkUsed (iblk m ρ hok c (0 : Fin 5) t) (k0_pay2 (iblk m ρ hok c (1 : Fin 5) t)) (k0_pay3 (iblk m ρ hok c (2 : Fin 5) t)) (k0_pay4 (iblk m ρ hok c (3 : Fin 5) t))
  else (k0_pay1 (F := Bits))

/-- The invariant before a point: after a point in use each scratch holds that point's weights; the tables. -/
def Phi (c : Dev nD) (t : Fin ((cfgA m hok).N + 1)) : sProp 𝕄 :=
  iprop((∃ a, ⌜∀ s : Fin (cfgA m hok).N, s.val + 1 = t.val → Used m (crd m hok s) → sc0.view.read (Elt Bits) a = k0_pay2 (iblk m ρ hok c (1 : Fin 5) s)⌝ ∗ (sc0.view.loc (c : Thread nD τ) ↦{fullShare} a)) ∗ (∃ a, ⌜∀ s : Fin (cfgA m hok).N, s.val + 1 = t.val → Used m (crd m hok s) → sc1.view.read (Elt Bits) a = k0_pay3 (iblk m ρ hok c (2 : Fin 5) s)⌝ ∗ (sc1.view.loc (c : Thread nD τ) ↦{fullShare} a)) ∗ (∃ a, ⌜∀ s : Fin (cfgA m hok).N, s.val + 1 = t.val → Used m (crd m hok s) → sc2.view.read (Elt Bits) a = k0_pay4 (iblk m ρ hok c (3 : Fin 5) s)⌝ ∗ (sc2.view.loc (c : Thread nD τ) ↦{fullShare} a))
    ∗ (tb0.view.loc (c : Thread nD τ) ↦{fullShare.right} T0 m) ∗ (tb1.view.loc (c : Thread nD τ) ↦{fullShare.right} T1 m) ∗ (tb2.view.loc (c : Thread nD τ) ↦{fullShare.right} T2 m))

/-- The proof data of the pipeline on core `c`. -/
def dats (_ : Fin 1) (c : Dev nD) : Dat τ (Elt Bits) Unit ℕ (UR sig nD τ) ℕ (cfgA m hok) c where
  A w := (s₀ m ρ).mem (((cfgA m hok).win w).arr.view.loc (c : Thread nD τ))
  after w t := match w with
    | ⟨0, _⟩ => iblk m ρ hok c (0 : Fin 5) t
    | ⟨1, _⟩ => iblk m ρ hok c (1 : Fin 5) t
    | ⟨2, _⟩ => iblk m ρ hok c (2 : Fin 5) t
    | ⟨3, _⟩ => iblk m ρ hok c (3 : Fin 5) t
    | ⟨4, _⟩ => blk m ρ hok c t
  Φ t := Phi m ρ hok c t
  q _ := fullShare
  owed _ := 0

theorem after0 (c : Dev nD) (t : Fin (cfgA m hok).N) : (dats m ρ hok 0 c).after (0 : Fin 5) t = iblk m ρ hok c (0 : Fin 5) t := rfl
theorem after1 (c : Dev nD) (t : Fin (cfgA m hok).N) : (dats m ρ hok 0 c).after (1 : Fin 5) t = iblk m ρ hok c (1 : Fin 5) t := rfl
theorem after2 (c : Dev nD) (t : Fin (cfgA m hok).N) : (dats m ρ hok 0 c).after (2 : Fin 5) t = iblk m ρ hok c (2 : Fin 5) t := rfl
theorem after3 (c : Dev nD) (t : Fin (cfgA m hok).N) : (dats m ρ hok 0 c).after (3 : Fin 5) t = iblk m ρ hok c (3 : Fin 5) t := rfl
theorem after4 (c : Dev nD) (t : Fin (cfgA m hok).N) : (dats m ρ hok 0 c).after (4 : Fin 5) t = blk m ρ hok c t := rfl

/-- Input window 0 holds its block, fetched there or not. -/
theorem before0 (c : Dev nD) (t : Fin (cfgA m hok).N) (d) : (dats m ρ hok 0 c).before (0 : Fin 5) t d = iblk m ρ hok c (0 : Fin 5) t :=
  ((dats m ρ hok 0 c).before_in_eq_fetched (0 : Fin 5) rfl (fun _ => rfl) (fun _ _ _ => rfl) (fun t => by rw [after0]; unfold Dat.blockOf iblk; rfl) t d).trans
    (by unfold Dat.fetched Dat.blockOf iblk; rfl)

/-- Input window 1 holds its block, fetched there or not. -/
theorem before1 (c : Dev nD) (t : Fin (cfgA m hok).N) (d) : (dats m ρ hok 0 c).before (1 : Fin 5) t d = iblk m ρ hok c (1 : Fin 5) t :=
  ((dats m ρ hok 0 c).before_in_eq_fetched (1 : Fin 5) rfl (fun _ => rfl) (fun _ _ _ => rfl) (fun t => by rw [after1]; unfold Dat.blockOf iblk; rfl) t d).trans
    (by unfold Dat.fetched Dat.blockOf iblk; rfl)

/-- Input window 2 holds its block, fetched there or not. -/
theorem before2 (c : Dev nD) (t : Fin (cfgA m hok).N) (d) : (dats m ρ hok 0 c).before (2 : Fin 5) t d = iblk m ρ hok c (2 : Fin 5) t :=
  ((dats m ρ hok 0 c).before_in_eq_fetched (2 : Fin 5) rfl (fun _ => rfl) (fun _ _ _ => rfl) (fun t => by rw [after2]; unfold Dat.blockOf iblk; rfl) t d).trans
    (by unfold Dat.fetched Dat.blockOf iblk; rfl)

/-- Input window 3 holds its block, fetched there or not. -/
theorem before3 (c : Dev nD) (t : Fin (cfgA m hok).N) (d) : (dats m ρ hok 0 c).before (3 : Fin 5) t d = iblk m ρ hok c (3 : Fin 5) t :=
  ((dats m ρ hok 0 c).before_in_eq_fetched (3 : Fin 5) rfl (fun _ => rfl) (fun _ _ _ => rfl) (fun t => by rw [after3]; unfold Dat.blockOf iblk; rfl) t d).trans
    (by unfold Dat.fetched Dat.blockOf iblk; rfl)

/-- The body at point `t` on its staging memrefs, as the pipeline calls it. -/
abbrev bodyAt (t : Fin (cfgA m hok).N) : Prog (TpuEff nD τ sig (Elt Bits) Λ₀ .tc) PUnit :=
  cc0_experts (crd m hok t) tb0 (Memref.isWhole_whole _) tb1 (Memref.isWhole_whole _) tb2 (Memref.isWhole_whole _) (ms0 m hok t) (hs0 m hok t) (ms1 m hok t) (hs1 m hok t) (ms2 m hok t) (hs2 m hok t) (ms3 m hok t) (hs3 m hok t) (ms4 m hok t) (hs4 m hok t) sc0 (Memref.isWhole_whole _) sc1 (Memref.isWhole_whole _) sc2 (Memref.isWhole_whole _)

/-- The output's buffer, seen as row pairs. -/
theorem open_out (c : Dev nD) (a8 : Memref sig .tc .vmem S8192x128 .bf16) (h8 : a8.IsWhole) :
    (iprop(∃ d, owns (c : Thread nD τ) a8 fullShare d) : sProp 𝕄)
      ⊢ iprop(∃ f, (a8.reshape S4096x2x128 reshapes_S8192x128_S4096x2x128.1 reshapes_S8192x128_S4096x2x128.2 h8.contiguous).view.loc (c : Thread nD τ) ↦[(a8.reshape S4096x2x128 reshapes_S8192x128_S4096x2x128.1 reshapes_S8192x128_S4096x2x128.2 h8.contiguous).view.set]{fullShare} f) := by
  rw [Memref.set_view_reshape]
  unfold owns
  iintro ⟨%d, %f, -, H⟩
  iexists f
  iexact H

/-- The output's buffer back from its row pairs. -/
theorem close_out (c : Dev nD) (a8 : Memref sig .tc .vmem S8192x128 .bf16) (h8 : a8.IsWhole) (f) (d : S8192x128.Idx → Elt Bits .bf16) (h : a8.view.read (Elt Bits) f = d) :
    (iprop((a8.reshape S4096x2x128 reshapes_S8192x128_S4096x2x128.1 reshapes_S8192x128_S4096x2x128.2 h8.contiguous).view.loc (c : Thread nD τ) ↦[(a8.reshape S4096x2x128 reshapes_S8192x128_S4096x2x128.1 reshapes_S8192x128_S4096x2x128.2 h8.contiguous).view.set]{fullShare} f) : sProp 𝕄)
      ⊢ owns (c : Thread nD τ) a8 fullShare d := by
  rw [Memref.set_view_reshape]
  unfold owns
  iintro H
  iexists f
  isplitr; swap
  · iexact H
  · ipureintro; exact h

set_option maxHeartbeats 4000000 in
/-- The body at a point past the blocks in use. -/
theorem sound_Off (c : Dev nD) (t : Fin (cfgA m hok).N)
    (k1 : k0_cond1 (crd m hok t) (wNu (T2 m)) = 1#1) (k2 : ¬(wLd (crd m hok t) (T0 m) (T2 m) = 1#1)) (k3 : ¬(k0_cond3 (crd m hok t) (wNu (T2 m)) = 1#1)) :
    iprop(Phi m ρ hok c t.castSucc ∗ (dats m ρ hok 0 c).owesAt () t.castSucc
        ∗ owns (c : Thread nD τ) (ms0 m hok t) fullShare (iblk m ρ hok c (0 : Fin 5) t)
        ∗ owns (c : Thread nD τ) (ms1 m hok t) fullShare (iblk m ρ hok c (1 : Fin 5) t)
        ∗ owns (c : Thread nD τ) (ms2 m hok t) fullShare (iblk m ρ hok c (2 : Fin 5) t)
        ∗ owns (c : Thread nD τ) (ms3 m hok t) fullShare (iblk m ρ hok c (3 : Fin 5) t)
        ∗ (∃ d, owns (c : Thread nD τ) (ms4 m hok t) fullShare d))
      ⊢ wp frame (wpE (defs₀ (F := Bits)) Variants.none c none) Set.univ (bodyAt m hok t) fun _ =>
          iprop(Phi m ρ hok c t.succ ∗ (dats m ρ hok 0 c).owesAt () t.castSucc
            ∗ owns (c : Thread nD τ) (ms0 m hok t) fullShare (iblk m ρ hok c (0 : Fin 5) t)
            ∗ owns (c : Thread nD τ) (ms1 m hok t) fullShare (iblk m ρ hok c (1 : Fin 5) t)
            ∗ owns (c : Thread nD τ) (ms2 m hok t) fullShare (iblk m ρ hok c (2 : Fin 5) t)
            ∗ owns (c : Thread nD τ) (ms3 m hok t) fullShare (iblk m ρ hok c (3 : Fin 5) t)
            ∗ owns (c : Thread nD τ) (ms4 m hok t) fullShare (blk m ρ hok c t)) := by
  unfold Phi
  iintro ⟨⟨⟨%a0, %ha0, HS0⟩, ⟨%a1, %ha1, HS1⟩, ⟨%a2, %ha2, HS2⟩, HT0, HT1, HT2⟩, Ho, H0, H1, H2, H3, ⟨%d4, H4⟩⟩
  iapply ((runOff c (crd m hok t) (ms0 m hok t) (hs0 m hok t) (ms1 m hok t) (hs1 m hok t) (ms2 m hok t) (hs2 m hok t) (ms3 m hok t) (hs3 m hok t) (ms4 m hok t) (hs4 m hok t) (T0 m) (T1 m) (T2 m) (iblk m ρ hok c (0 : Fin 5) t) (iblk m ρ hok c (1 : Fin 5) t) (iblk m ρ hok c (2 : Fin 5) t) (iblk m ρ hok c (3 : Fin 5) t) a0 a1 a2 k1 k2 k3).2.2.2.2 _)
  unfold Held
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [HT2]; · iexact HT2
  isplitl [H4]; · iexists _; iexact H4
  isplitl [HS0]; · iexact HS0
  isplitl [HS1]; · iexact HS1
  isplitl [HS2]; · iexact HS2
  iintro ⟨H0, H1, H2, H3, HT0, HT1, HT2, ⟨%e4, H4⟩, HS0, HS1, HS2⟩
  isplitl [HS0 HS1 HS2 HT0 HT1 HT2]
  · try unfold Phi
    isplitl [HS0]
    · iexists _; isplitr; swap
      · iexact HS0
      · ipureintro; intro s hs hu; obtain rfl : s = t := Fin.ext (by simpa using hs); exact absurd hu k3
    isplitl [HS1]
    · iexists _; isplitr; swap
      · iexact HS1
      · ipureintro; intro s hs hu; obtain rfl : s = t := Fin.ext (by simpa using hs); exact absurd hu k3
    isplitl [HS2]
    · iexists _; isplitr; swap
      · iexact HS2
      · ipureintro; intro s hs hu; obtain rfl : s = t := Fin.ext (by simpa using hs); exact absurd hu k3
    isplitl [HT0]; · iexact HT0
    isplitl [HT1]; · iexact HT1
    iexact HT2
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  unfold owns; iexists _; isplitr; swap
  · iexact H4
  · ipureintro; exact (read_off ..).trans (if_neg k3).symm

set_option maxHeartbeats 4000000 in
/-- The body at a point in use that loads its weights. -/
theorem sound_Load (c : Dev nD) (t : Fin (cfgA m hok).N)
    (k1 : ¬(k0_cond1 (crd m hok t) (wNu (T2 m)) = 1#1)) (k2 : wLd (crd m hok t) (T0 m) (T2 m) = 1#1) (k3 : k0_cond3 (crd m hok t) (wNu (T2 m)) = 1#1) :
    iprop(Phi m ρ hok c t.castSucc ∗ (dats m ρ hok 0 c).owesAt () t.castSucc
        ∗ owns (c : Thread nD τ) (ms0 m hok t) fullShare (iblk m ρ hok c (0 : Fin 5) t)
        ∗ owns (c : Thread nD τ) (ms1 m hok t) fullShare (iblk m ρ hok c (1 : Fin 5) t)
        ∗ owns (c : Thread nD τ) (ms2 m hok t) fullShare (iblk m ρ hok c (2 : Fin 5) t)
        ∗ owns (c : Thread nD τ) (ms3 m hok t) fullShare (iblk m ρ hok c (3 : Fin 5) t)
        ∗ (∃ d, owns (c : Thread nD τ) (ms4 m hok t) fullShare d))
      ⊢ wp frame (wpE (defs₀ (F := Bits)) Variants.none c none) Set.univ (bodyAt m hok t) fun _ =>
          iprop(Phi m ρ hok c t.succ ∗ (dats m ρ hok 0 c).owesAt () t.castSucc
            ∗ owns (c : Thread nD τ) (ms0 m hok t) fullShare (iblk m ρ hok c (0 : Fin 5) t)
            ∗ owns (c : Thread nD τ) (ms1 m hok t) fullShare (iblk m ρ hok c (1 : Fin 5) t)
            ∗ owns (c : Thread nD τ) (ms2 m hok t) fullShare (iblk m ρ hok c (2 : Fin 5) t)
            ∗ owns (c : Thread nD τ) (ms3 m hok t) fullShare (iblk m ρ hok c (3 : Fin 5) t)
            ∗ owns (c : Thread nD τ) (ms4 m hok t) fullShare (blk m ρ hok c t)) := by
  unfold Phi
  iintro ⟨⟨⟨%a0, %ha0, HS0⟩, ⟨%a1, %ha1, HS1⟩, ⟨%a2, %ha2, HS2⟩, HT0, HT1, HT2⟩, Ho, H0, H1, H2, H3, ⟨%d4, H4⟩⟩
  have hread : ∀ e4, (ms4 m hok t).view.read (Elt Bits) (((ms4 m hok t).reshape S4096x2x128 reshapes_S8192x128_S4096x2x128.1 reshapes_S8192x128_S4096x2x128.2 (hs4 m hok t).contiguous).view.writes (Elt Bits) e4 (runLoad c (crd m hok t) (ms0 m hok t) (hs0 m hok t) (ms1 m hok t) (hs1 m hok t) (ms2 m hok t) (hs2 m hok t) (ms3 m hok t) (hs3 m hok t) (ms4 m hok t) (hs4 m hok t) (T0 m) (T1 m) (T2 m) (iblk m ρ hok c (0 : Fin 5) t) (iblk m ρ hok c (1 : Fin 5) t) (iblk m ρ hok c (2 : Fin 5) t) (iblk m ρ hok c (3 : Fin 5) t) a0 a1 a2 k1 k2 k3).1) = blk m ρ hok c t := fun e4 => by
    rw [runLoad_pieces]; exact (read_used (ms4 m hok t) (hs4 m hok t) _ _ _ _ _).trans (if_pos k3).symm
  iapply ((runLoad c (crd m hok t) (ms0 m hok t) (hs0 m hok t) (ms1 m hok t) (hs1 m hok t) (ms2 m hok t) (hs2 m hok t) (ms3 m hok t) (hs3 m hok t) (ms4 m hok t) (hs4 m hok t) (T0 m) (T1 m) (T2 m) (iblk m ρ hok c (0 : Fin 5) t) (iblk m ρ hok c (1 : Fin 5) t) (iblk m ρ hok c (2 : Fin 5) t) (iblk m ρ hok c (3 : Fin 5) t) a0 a1 a2 k1 k2 k3).2.2.2.2 _)
  unfold Held
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [HT2]; · iexact HT2
  isplitl [H4]; · iapply open_out c (ms4 m hok t) (hs4 m hok t); iexists _; iexact H4
  isplitl [HS0]; · iexact HS0
  isplitl [HS1]; · iexact HS1
  isplitl [HS2]; · iexact HS2
  iintro ⟨H0, H1, H2, H3, HT0, HT1, HT2, ⟨%e4, H4⟩, HS0, HS1, HS2⟩
  isplitl [HS0 HS1 HS2 HT0 HT1 HT2]
  · try unfold Phi
    isplitl [HS0]
    · iexists _; isplitr; swap
      · iexact HS0
      · ipureintro; intro s hs hu; obtain rfl : s = t := Fin.ext (by simpa using hs); exact runLoad_e0 ..
    isplitl [HS1]
    · iexists _; isplitr; swap
      · iexact HS1
      · ipureintro; intro s hs hu; obtain rfl : s = t := Fin.ext (by simpa using hs); exact runLoad_e1 ..
    isplitl [HS2]
    · iexists _; isplitr; swap
      · iexact HS2
      · ipureintro; intro s hs hu; obtain rfl : s = t := Fin.ext (by simpa using hs); exact runLoad_e2 ..
    isplitl [HT0]; · iexact HT0
    isplitl [HT1]; · iexact HT1
    iexact HT2
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  iapply close_out c (ms4 m hok t) (hs4 m hok t) _ _ (hread e4); iexact H4

set_option maxHeartbeats 4000000 in
/-- The body at a point in use that keeps its weights. -/
theorem sound_Keep (c : Dev nD) (t : Fin (cfgA m hok).N)
    (k1 : ¬(k0_cond1 (crd m hok t) (wNu (T2 m)) = 1#1)) (k2 : ¬(wLd (crd m hok t) (T0 m) (T2 m) = 1#1)) (k3 : k0_cond3 (crd m hok t) (wNu (T2 m)) = 1#1)
    (p : Fin (cfgA m hok).N) (hp1 : p.val + 1 = t.val) (hu1 : Used m (crd m hok p))
    (hblk1 : iblk m ρ hok c (1 : Fin 5) p = iblk m ρ hok c (1 : Fin 5) t) (hblk2 : iblk m ρ hok c (2 : Fin 5) p = iblk m ρ hok c (2 : Fin 5) t) (hblk3 : iblk m ρ hok c (3 : Fin 5) p = iblk m ρ hok c (3 : Fin 5) t) :
    iprop(Phi m ρ hok c t.castSucc ∗ (dats m ρ hok 0 c).owesAt () t.castSucc
        ∗ owns (c : Thread nD τ) (ms0 m hok t) fullShare (iblk m ρ hok c (0 : Fin 5) t)
        ∗ owns (c : Thread nD τ) (ms1 m hok t) fullShare (iblk m ρ hok c (1 : Fin 5) t)
        ∗ owns (c : Thread nD τ) (ms2 m hok t) fullShare (iblk m ρ hok c (2 : Fin 5) t)
        ∗ owns (c : Thread nD τ) (ms3 m hok t) fullShare (iblk m ρ hok c (3 : Fin 5) t)
        ∗ (∃ d, owns (c : Thread nD τ) (ms4 m hok t) fullShare d))
      ⊢ wp frame (wpE (defs₀ (F := Bits)) Variants.none c none) Set.univ (bodyAt m hok t) fun _ =>
          iprop(Phi m ρ hok c t.succ ∗ (dats m ρ hok 0 c).owesAt () t.castSucc
            ∗ owns (c : Thread nD τ) (ms0 m hok t) fullShare (iblk m ρ hok c (0 : Fin 5) t)
            ∗ owns (c : Thread nD τ) (ms1 m hok t) fullShare (iblk m ρ hok c (1 : Fin 5) t)
            ∗ owns (c : Thread nD τ) (ms2 m hok t) fullShare (iblk m ρ hok c (2 : Fin 5) t)
            ∗ owns (c : Thread nD τ) (ms3 m hok t) fullShare (iblk m ρ hok c (3 : Fin 5) t)
            ∗ owns (c : Thread nD τ) (ms4 m hok t) fullShare (blk m ρ hok c t)) := by
  unfold Phi
  iintro ⟨⟨⟨%a0, %ha0, HS0⟩, ⟨%a1, %ha1, HS1⟩, ⟨%a2, %ha2, HS2⟩, HT0, HT1, HT2⟩, Ho, H0, H1, H2, H3, ⟨%d4, H4⟩⟩
  have hread : ∀ e4, (ms4 m hok t).view.read (Elt Bits) (((ms4 m hok t).reshape S4096x2x128 reshapes_S8192x128_S4096x2x128.1 reshapes_S8192x128_S4096x2x128.2 (hs4 m hok t).contiguous).view.writes (Elt Bits) e4 (runKeep c (crd m hok t) (ms0 m hok t) (hs0 m hok t) (ms1 m hok t) (hs1 m hok t) (ms2 m hok t) (hs2 m hok t) (ms3 m hok t) (hs3 m hok t) (ms4 m hok t) (hs4 m hok t) (T0 m) (T1 m) (T2 m) (iblk m ρ hok c (0 : Fin 5) t) (iblk m ρ hok c (1 : Fin 5) t) (iblk m ρ hok c (2 : Fin 5) t) (iblk m ρ hok c (3 : Fin 5) t) a0 a1 a2 k1 k2 k3).1) = blk m ρ hok c t := fun e4 => by
    rw [runKeep_pieces, show sc0.view.read (Elt Bits) a0 = _ from (ha0 _ hp1 hu1).trans (congrArg k0_pay2 hblk1), show sc1.view.read (Elt Bits) a1 = _ from (ha1 _ hp1 hu1).trans (congrArg k0_pay3 hblk2), show sc2.view.read (Elt Bits) a2 = _ from (ha2 _ hp1 hu1).trans (congrArg k0_pay4 hblk3)]; exact (read_used (ms4 m hok t) (hs4 m hok t) _ _ _ _ _).trans (if_pos k3).symm
  iapply ((runKeep c (crd m hok t) (ms0 m hok t) (hs0 m hok t) (ms1 m hok t) (hs1 m hok t) (ms2 m hok t) (hs2 m hok t) (ms3 m hok t) (hs3 m hok t) (ms4 m hok t) (hs4 m hok t) (T0 m) (T1 m) (T2 m) (iblk m ρ hok c (0 : Fin 5) t) (iblk m ρ hok c (1 : Fin 5) t) (iblk m ρ hok c (2 : Fin 5) t) (iblk m ρ hok c (3 : Fin 5) t) a0 a1 a2 k1 k2 k3).2.2.2.2 _)
  unfold Held
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [HT2]; · iexact HT2
  isplitl [H4]; · iapply open_out c (ms4 m hok t) (hs4 m hok t); iexists _; iexact H4
  isplitl [HS0]; · iexact HS0
  isplitl [HS1]; · iexact HS1
  isplitl [HS2]; · iexact HS2
  iintro ⟨H0, H1, H2, H3, HT0, HT1, HT2, ⟨%e4, H4⟩, HS0, HS1, HS2⟩
  isplitl [HS0 HS1 HS2 HT0 HT1 HT2]
  · try unfold Phi
    isplitl [HS0]
    · iexists _; isplitr; swap
      · iexact HS0
      · ipureintro; intro s hs hu; obtain rfl : s = t := Fin.ext (by simpa using hs); exact (ha0 _ hp1 hu1).trans (congrArg k0_pay2 (hblk1))
    isplitl [HS1]
    · iexists _; isplitr; swap
      · iexact HS1
      · ipureintro; intro s hs hu; obtain rfl : s = t := Fin.ext (by simpa using hs); exact (ha1 _ hp1 hu1).trans (congrArg k0_pay3 (hblk2))
    isplitl [HS2]
    · iexists _; isplitr; swap
      · iexact HS2
      · ipureintro; intro s hs hu; obtain rfl : s = t := Fin.ext (by simpa using hs); exact (ha2 _ hp1 hu1).trans (congrArg k0_pay4 (hblk3))
    isplitl [HT0]; · iexact HT0
    isplitl [HT1]; · iexact HT1
    iexact HT2
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  iapply close_out c (ms4 m hok t) (hs4 m hok t) _ _ (hread e4); iexact H4

end Cert.Experts.Hand

end
-- ==== Proof.ExpertsIdealRuns.lean ====
module

public import proofs.«01_k».proof.Proof.Gen.ExpertsIdeal.Skeleton
public import proofs.«01_k».proof.Proof.Gen.ExpertsIdeal.Launch
public import Idealize.ShloMosaic.Lib.Pipeline.Kit
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.PureOps.Ideal
public import Idealize.ShloMosaic.Lib.VecWindow

@[expose] public section

set_option maxRecDepth 16384
set_option Elab.async false

noncomputable section

namespace Cert.ExpertsIdeal.Hand

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The block-to-expert table, whole. -/
abbrev tb0 : Memref sig .tc .smem S192 .i32 := Memref.whole main_arg0
/-- The block-to-block table, whole. -/
abbrev tb1 : Memref sig .tc .smem S192 .i32 := Memref.whole main_arg1
/-- The count of blocks in use, whole. -/
abbrev tb2 : Memref sig .tc .smem S1 .i32 := Memref.whole main_arg2
/-- The gate weights kept between points, whole. -/
abbrev sc0 : Memref sig .tc .vmem S2048x512 .bf16 := Memref.whole cc0_scratch0
/-- The up weights kept between points, whole. -/
abbrev sc1 : Memref sig .tc .vmem S2048x512 .bf16 := Memref.whole cc0_scratch1
/-- The down weights kept between points, whole. -/
abbrev sc2 : Memref sig .tc .vmem S512x2048 .bf16 := Memref.whole cc0_scratch2

/-- The count of blocks in use, as the body reads it. -/
def wNu (T2 : S1.Idx → Elt Ideal .i32) : BitVec 32 :=
  View.readAt (Elt Ideal) tb2.view (Rect.unit (s := S1) ![0] S1.size inb_S1_S1_0).toLoadRect T2 (Shape.Idx.first (numel1_S1.symm ▸ Nat.one_pos))
/-- This point's expert, as the body reads it. -/
def wBe (i : grid0.Coords) (T0 : S192.Idx → Elt Ideal .i32) : BitVec 32 :=
  View.readAt (Elt Ideal) tb0.view (Rect.unit (s := S192) (k0_off2 i) S1.size (k0_off2_inb i)).toLoadRect T0 (Shape.Idx.first (numel1_S1.symm ▸ Nat.one_pos))
/-- The expert of the point before (of the first point at the first), as the body reads it. -/
def wBp (i : grid0.Coords) (T0 : S192.Idx → Elt Ideal .i32) : BitVec 32 :=
  View.readAt (Elt Ideal) tb0.view (Rect.unit (s := S192) (k0_off3 i) S1.size (k0_off3_inb i)).toLoadRect T0 (Shape.Idx.first (numel1_S1.symm ▸ Nat.one_pos))
/-- The word that decides whether the weights are loaded anew. -/
def wLd (i : grid0.Coords) (T0 : S192.Idx → Elt Ideal .i32) (T2 : S1.Idx → Elt Ideal .i32) : BitVec 1 :=
  Scalar.cmpi .ne (Scalar.extui (Scalar.andi (Scalar.cmpi .slt (BitVec.ofNat 32 (i 0).val) (wNu T2))
    (Scalar.ori (Scalar.cmpi .eq (BitVec.ofNat 32 (i 0).val) 0#32) (Scalar.cmpi .ne (wBe i T0) (wBp i T0))))) 0#32

/-- What the body is handed at a point: its blocks, the tables, the output's buffer, the scratches. -/
def Held (c : Dev nD) (a4 : Memref sig .tc .vmem S4096x128 .i32) (a5 a6 : Memref sig .tc .vmem S1x1x2048x512 .f32) (a7 : Memref sig .tc .vmem S1x1x512x2048 .f32)
    (T0 T1 : S192.Idx → Elt Ideal .i32) (T2 : S1.Idx → Elt Ideal .i32)
    (x0 : S4096x128.Idx → Elt Ideal .i32) (x1 x2 : S1x1x2048x512.Idx → Elt Ideal .f32) (x3 : S1x1x512x2048.Idx → Elt Ideal .f32)
    (R : sProp 𝕄) : sProp 𝕄 :=
  iprop((a4.view.loc (c : Thread nD τ) ↦[a4.view.set]{fullShare} a4.view.rep x0)
    ∗ (a5.view.loc (c : Thread nD τ) ↦[a5.view.set]{fullShare} a5.view.rep x1)
    ∗ (a6.view.loc (c : Thread nD τ) ↦[a6.view.set]{fullShare} a6.view.rep x2)
    ∗ (a7.view.loc (c : Thread nD τ) ↦[a7.view.set]{fullShare} a7.view.rep x3)
    ∗ (tb0.view.loc (c : Thread nD τ) ↦{fullShare.right} T0)
    ∗ (tb1.view.loc (c : Thread nD τ) ↦{fullShare.right} T1)
    ∗ (tb2.view.loc (c : Thread nD τ) ↦{fullShare.right} T2)
    ∗ R)

set_option backward.proofsInPublic true in
set_option maxHeartbeats 16000000 in
/-- A point past the blocks in use: the body stores zeros and leaves the scratches. -/
noncomputable def runOff (c : Dev nD) (i : grid0.Coords) (a4 : Memref sig .tc .vmem S4096x128 .i32) (h4 : a4.IsWhole) (a5 : Memref sig .tc .vmem S1x1x2048x512 .f32) (h5 : a5.IsWhole) (a6 : Memref sig .tc .vmem S1x1x2048x512 .f32) (h6 : a6.IsWhole) (a7 : Memref sig .tc .vmem S1x1x512x2048 .f32) (h7 : a7.IsWhole) (a8 : Memref sig .tc .vmem S8192x128 .bf16) (h8 : a8.IsWhole)
    (T0 T1 : S192.Idx → Elt Ideal .i32) (T2 : S1.Idx → Elt Ideal .i32) (x0 : S4096x128.Idx → Elt Ideal .i32) (x1 x2 : S1x1x2048x512.Idx → Elt Ideal .f32) (x3 : S1x1x512x2048.Idx → Elt Ideal .f32)
    (b0 : Buf (Elt Ideal) ((c : Thread nD τ).loc cc0_scratch0)) (b1 : Buf (Elt Ideal) ((c : Thread nD τ).loc cc0_scratch1)) (b2 : Buf (Elt Ideal) ((c : Thread nD τ).loc cc0_scratch2))
    (k1 : k0_cond1 i (wNu T2) = 1#1) (k2 : ¬(wLd i T0 T2 = 1#1)) (k3 : ¬(k0_cond3 i (wNu T2) = 1#1)) :
    Σ' (o : List (View.Piece (Elt Ideal) S8192x128 .bf16)) (e0 : Buf (Elt Ideal) ((c : Thread nD τ).loc cc0_scratch0)) (e1 : Buf (Elt Ideal) ((c : Thread nD τ).loc cc0_scratch1)), { e2 : Buf (Elt Ideal) ((c : Thread nD τ).loc cc0_scratch2) //
      ∀ (K : PUnit → sProp 𝕄),
        Held c a4 a5 a6 a7 T0 T1 T2 x0 x1 x2 x3 iprop((∃ d, owns (c : Thread nD τ) a8 fullShare d)
          ∗ (sc0.view.loc (c : Thread nD τ) ↦{fullShare} b0) ∗ (sc1.view.loc (c : Thread nD τ) ↦{fullShare} b1) ∗ (sc2.view.loc (c : Thread nD τ) ↦{fullShare} b2)
          ∗ (Held c a4 a5 a6 a7 T0 T1 T2 x0 x1 x2 x3 iprop((∃ f, a8.view.loc (c : Thread nD τ) ↦[a8.view.set]{fullShare} a8.view.writes (Elt Ideal) f o)
              ∗ (sc0.view.loc (c : Thread nD τ) ↦{fullShare} e0) ∗ (sc1.view.loc (c : Thread nD τ) ↦{fullShare} e1) ∗ (sc2.view.loc (c : Thread nD τ) ↦{fullShare} e2)) -∗ K ⟨⟩))
          ⊢ wp frame (wpE (defs₀ (F := Ideal)) Variants.none c none) Set.univ (cc0_experts i tb0 (Memref.isWhole_whole _) tb1 (Memref.isWhole_whole _) tb2 (Memref.isWhole_whole _) a4 h4 a5 h5 a6 h6 a7 h7 a8 h8 sc0 (Memref.isWhole_whole _) sc1 (Memref.isWhole_whole _) sc2 (Memref.isWhole_whole _)) K } :=
  ⟨_, _, _, _, fun K => by
    unfold Held; try unfold owns
    unfold wNu at k1 k3; unfold wLd wNu wBe wBp at k2
    rw [cc0_experts_eq_skeleton]; unfold cc0_experts_skel
    iintro ⟨H0, H1, H2, H3, HT0, HT1, HT2, ⟨%d4, %f4, -, HO4⟩, HS0, HS1, HS2, Hk⟩
    have hS0 : sc0.IsWhole := Memref.isWhole_whole _
    have hS1 : sc1.IsWhole := Memref.isWhole_whole _
    have hS2 : sc2.IsWhole := Memref.isWhole_whole _
    have hT0 : tb0.IsWhole := Memref.isWhole_whole _
    have hT1 : tb1.IsWhole := Memref.isWhole_whole _
    have hT2 : tb2.IsWhole := Memref.isWhole_whole _
    sl_exec! (disch := first | exact k1 | exact k2 | exact k3)
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HO4]; · iexists _; iexact HO4
    isplitl [HS0]; · iexact HS0
    isplitl [HS1]; · iexact HS1
    iexact HS2⟩

set_option backward.proofsInPublic true in
set_option maxHeartbeats 16000000 in
/-- A point in use whose expert is the last point's: the body computes from the weights kept. -/
noncomputable def runKeep (c : Dev nD) (i : grid0.Coords) (a4 : Memref sig .tc .vmem S4096x128 .i32) (h4 : a4.IsWhole) (a5 : Memref sig .tc .vmem S1x1x2048x512 .f32) (h5 : a5.IsWhole) (a6 : Memref sig .tc .vmem S1x1x2048x512 .f32) (h6 : a6.IsWhole) (a7 : Memref sig .tc .vmem S1x1x512x2048 .f32) (h7 : a7.IsWhole) (a8 : Memref sig .tc .vmem S8192x128 .bf16) (h8 : a8.IsWhole)
    (T0 T1 : S192.Idx → Elt Ideal .i32) (T2 : S1.Idx → Elt Ideal .i32) (x0 : S4096x128.Idx → Elt Ideal .i32) (x1 x2 : S1x1x2048x512.Idx → Elt Ideal .f32) (x3 : S1x1x512x2048.Idx → Elt Ideal .f32)
    (b0 : Buf (Elt Ideal) ((c : Thread nD τ).loc cc0_scratch0)) (b1 : Buf (Elt Ideal) ((c : Thread nD τ).loc cc0_scratch1)) (b2 : Buf (Elt Ideal) ((c : Thread nD τ).loc cc0_scratch2))
    (k1 : ¬(k0_cond1 i (wNu T2) = 1#1)) (k2 : ¬(wLd i T0 T2 = 1#1)) (k3 : k0_cond3 i (wNu T2) = 1#1) :
    Σ' (o : List (View.Piece (Elt Ideal) S4096x2x128 .bf16)) (e0 : Buf (Elt Ideal) ((c : Thread nD τ).loc cc0_scratch0)) (e1 : Buf (Elt Ideal) ((c : Thread nD τ).loc cc0_scratch1)), { e2 : Buf (Elt Ideal) ((c : Thread nD τ).loc cc0_scratch2) //
      ∀ (K : PUnit → sProp 𝕄),
        Held c a4 a5 a6 a7 T0 T1 T2 x0 x1 x2 x3 iprop((∃ f, (a8.reshape S4096x2x128 reshapes_S8192x128_S4096x2x128.1 reshapes_S8192x128_S4096x2x128.2 h8.contiguous).view.loc (c : Thread nD τ) ↦[(a8.reshape S4096x2x128 reshapes_S8192x128_S4096x2x128.1 reshapes_S8192x128_S4096x2x128.2 h8.contiguous).view.set]{fullShare} f)
          ∗ (sc0.view.loc (c : Thread nD τ) ↦{fullShare} b0) ∗ (sc1.view.loc (c : Thread nD τ) ↦{fullShare} b1) ∗ (sc2.view.loc (c : Thread nD τ) ↦{fullShare} b2)
          ∗ (Held c a4 a5 a6 a7 T0 T1 T2 x0 x1 x2 x3 iprop((∃ f, (a8.reshape S4096x2x128 reshapes_S8192x128_S4096x2x128.1 reshapes_S8192x128_S4096x2x128.2 h8.contiguous).view.loc (c : Thread nD τ) ↦[(a8.reshape S4096x2x128 reshapes_S8192x128_S4096x2x128.1 reshapes_S8192x128_S4096x2x128.2 h8.contiguous).view.set]{fullShare} (a8.reshape S4096x2x128 reshapes_S8192x128_S4096x2x128.1 reshapes_S8192x128_S4096x2x128.2 h8.contiguous).view.writes (Elt Ideal) f o)
              ∗ (sc0.view.loc (c : Thread nD τ) ↦{fullShare} e0) ∗ (sc1.view.loc (c : Thread nD τ) ↦{fullShare} e1) ∗ (sc2.view.loc (c : Thread nD τ) ↦{fullShare} e2)) -∗ K ⟨⟩))
          ⊢ wp frame (wpE (defs₀ (F := Ideal)) Variants.none c none) Set.univ (cc0_experts i tb0 (Memref.isWhole_whole _) tb1 (Memref.isWhole_whole _) tb2 (Memref.isWhole_whole _) a4 h4 a5 h5 a6 h6 a7 h7 a8 h8 sc0 (Memref.isWhole_whole _) sc1 (Memref.isWhole_whole _) sc2 (Memref.isWhole_whole _)) K } :=
  ⟨_, _, _, _, fun K => by
    unfold Held; try unfold owns
    unfold wNu at k1 k3; unfold wLd wNu wBe wBp at k2
    rw [cc0_experts_eq_skeleton]; unfold cc0_experts_skel
    iintro ⟨H0, H1, H2, H3, HT0, HT1, HT2, ⟨%f4, HO4⟩, HS0, HS1, HS2, Hk⟩
    have hS0 : sc0.IsWhole := Memref.isWhole_whole _
    have hS1 : sc1.IsWhole := Memref.isWhole_whole _
    have hS2 : sc2.IsWhole := Memref.isWhole_whole _
    have hT0 : tb0.IsWhole := Memref.isWhole_whole _
    have hT1 : tb1.IsWhole := Memref.isWhole_whole _
    have hT2 : tb2.IsWhole := Memref.isWhole_whole _
    sl_exec! (disch := first | exact k1 | exact k2 | exact k3)
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HO4]; · iexists _; iexact HO4
    isplitl [HS0]; · iexact HS0
    isplitl [HS1]; · iexact HS1
    iexact HS2⟩

set_option backward.proofsInPublic true in
set_option maxHeartbeats 16000000 in
/-- A point in use of a new expert: the body loads the weights, then computes. -/
noncomputable def runLoad (c : Dev nD) (i : grid0.Coords) (a4 : Memref sig .tc .vmem S4096x128 .i32) (h4 : a4.IsWhole) (a5 : Memref sig .tc .vmem S1x1x2048x512 .f32) (h5 : a5.IsWhole) (a6 : Memref sig .tc .vmem S1x1x2048x512 .f32) (h6 : a6.IsWhole) (a7 : Memref sig .tc .vmem S1x1x512x2048 .f32) (h7 : a7.IsWhole) (a8 : Memref sig .tc .vmem S8192x128 .bf16) (h8 : a8.IsWhole)
    (T0 T1 : S192.Idx → Elt Ideal .i32) (T2 : S1.Idx → Elt Ideal .i32) (x0 : S4096x128.Idx → Elt Ideal .i32) (x1 x2 : S1x1x2048x512.Idx → Elt Ideal .f32) (x3 : S1x1x512x2048.Idx → Elt Ideal .f32)
    (b0 : Buf (Elt Ideal) ((c : Thread nD τ).loc cc0_scratch0)) (b1 : Buf (Elt Ideal) ((c : Thread nD τ).loc cc0_scratch1)) (b2 : Buf (Elt Ideal) ((c : Thread nD τ).loc cc0_scratch2))
    (k1 : ¬(k0_cond1 i (wNu T2) = 1#1)) (k2 : wLd i T0 T2 = 1#1) (k3 : k0_cond3 i (wNu T2) = 1#1) :
    Σ' (o : List (View.Piece (Elt Ideal) S4096x2x128 .bf16)) (e0 : Buf (Elt Ideal) ((c : Thread nD τ).loc cc0_scratch0)) (e1 : Buf (Elt Ideal) ((c : Thread nD τ).loc cc0_scratch1)), { e2 : Buf (Elt Ideal) ((c : Thread nD τ).loc cc0_scratch2) //
      ∀ (K : PUnit → sProp 𝕄),
        Held c a4 a5 a6 a7 T0 T1 T2 x0 x1 x2 x3 iprop((∃ f, (a8.reshape S4096x2x128 reshapes_S8192x128_S4096x2x128.1 reshapes_S8192x128_S4096x2x128.2 h8.contiguous).view.loc (c : Thread nD τ) ↦[(a8.reshape S4096x2x128 reshapes_S8192x128_S4096x2x128.1 reshapes_S8192x128_S4096x2x128.2 h8.contiguous).view.set]{fullShare} f)
          ∗ (sc0.view.loc (c : Thread nD τ) ↦{fullShare} b0) ∗ (sc1.view.loc (c : Thread nD τ) ↦{fullShare} b1) ∗ (sc2.view.loc (c : Thread nD τ) ↦{fullShare} b2)
          ∗ (Held c a4 a5 a6 a7 T0 T1 T2 x0 x1 x2 x3 iprop((∃ f, (a8.reshape S4096x2x128 reshapes_S8192x128_S4096x2x128.1 reshapes_S8192x128_S4096x2x128.2 h8.contiguous).view.loc (c : Thread nD τ) ↦[(a8.reshape S4096x2x128 reshapes_S8192x128_S4096x2x128.1 reshapes_S8192x128_S4096x2x128.2 h8.contiguous).view.set]{fullShare} (a8.reshape S4096x2x128 reshapes_S8192x128_S4096x2x128.1 reshapes_S8192x128_S4096x2x128.2 h8.contiguous).view.writes (Elt Ideal) f o)
              ∗ (sc0.view.loc (c : Thread nD τ) ↦{fullShare} e0) ∗ (sc1.view.loc (c : Thread nD τ) ↦{fullShare} e1) ∗ (sc2.view.loc (c : Thread nD τ) ↦{fullShare} e2)) -∗ K ⟨⟩))
          ⊢ wp frame (wpE (defs₀ (F := Ideal)) Variants.none c none) Set.univ (cc0_experts i tb0 (Memref.isWhole_whole _) tb1 (Memref.isWhole_whole _) tb2 (Memref.isWhole_whole _) a4 h4 a5 h5 a6 h6 a7 h7 a8 h8 sc0 (Memref.isWhole_whole _) sc1 (Memref.isWhole_whole _) sc2 (Memref.isWhole_whole _)) K } :=
  ⟨_, _, _, _, fun K => by
    unfold Held; try unfold owns
    unfold wNu at k1 k3; unfold wLd wNu wBe wBp at k2
    rw [cc0_experts_eq_skeleton]; unfold cc0_experts_skel
    iintro ⟨H0, H1, H2, H3, HT0, HT1, HT2, ⟨%f4, HO4⟩, HS0, HS1, HS2, Hk⟩
    have hS0 : sc0.IsWhole := Memref.isWhole_whole _
    have hS1 : sc1.IsWhole := Memref.isWhole_whole _
    have hS2 : sc2.IsWhole := Memref.isWhole_whole _
    have hT0 : tb0.IsWhole := Memref.isWhole_whole _
    have hT1 : tb1.IsWhole := Memref.isWhole_whole _
    have hT2 : tb2.IsWhole := Memref.isWhole_whole _
    sl_exec! (disch := first | exact k1 | exact k2 | exact k3)
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HO4]; · iexists _; iexact HO4
    isplitl [HS0]; · iexact HS0
    isplitl [HS1]; · iexact HS1
    iexact HS2⟩

end Cert.ExpertsIdeal.Hand

end
-- ==== Proof.ExpertsIdealBlocks.lean ====
module

public import proofs.«01_k».proof.Proof.ExpertsIdealRuns

@[expose] public section

set_option maxRecDepth 16384
set_option Elab.async false

noncomputable section

namespace Cert.ExpertsIdeal.Hand

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## What a point in use stores, as a function of its blocks -/

/-- Every eighth row of a block of packed words, from row `s`. -/
def lx (s : ℕ) (h : ∀ a, S512x128.size a = 0 ∨ ![s, 0] a + ![8, 1] a * (S512x128.size a - 1) < S4096x128.size a) (x0 : S4096x128.Idx → Elt Ideal .i32) : S512x128.Idx → Elt Ideal .i32 :=
  fun j => x0 ((⟨![s, 0], S512x128.size, ![8, 1], h⟩ : LoadRect S4096x128).idx j)

/-- The block's tokens, unpacked. -/
def bX (x0 : S4096x128.Idx → Elt Ideal .i32) : FVec Ideal S512x2048 .bf16 := k0_pay16 (k0_pay7 (lx 0 inb_S4096x128_S512x128_0_0_s_8_1 x0)) (k0_pay8 (lx 0 inb_S4096x128_S512x128_0_0_s_8_1 x0)) (k0_pay9 (lx 1 inb_S4096x128_S512x128_1_0_s_8_1 x0)) (k0_pay10 (lx 1 inb_S4096x128_S512x128_1_0_s_8_1 x0)) (k0_pay11 (lx 2 inb_S4096x128_S512x128_2_0_s_8_1 x0)) (k0_pay12 (lx 2 inb_S4096x128_S512x128_2_0_s_8_1 x0)) (k0_pay13 (lx 3 inb_S4096x128_S512x128_3_0_s_8_1 x0)) (k0_pay14 (lx 3 inb_S4096x128_S512x128_3_0_s_8_1 x0)) (lx 4 inb_S4096x128_S512x128_4_0_s_8_1 x0) (k0_pay15 (lx 4 inb_S4096x128_S512x128_4_0_s_8_1 x0)) (lx 5 inb_S4096x128_S512x128_5_0_s_8_1 x0) (lx 6 inb_S4096x128_S512x128_6_0_s_8_1 x0) (lx 7 inb_S4096x128_S512x128_7_0_s_8_1 x0)
/-- The first half of the hidden features. -/
def bH0 (x0 : S4096x128.Idx → Elt Ideal .i32) (w1 w2 : S2048x512.Idx → Elt Ideal .bf16) : FVec Ideal S512x256 .bf16 := k0_pay17 (k0_pay7 (lx 0 inb_S4096x128_S512x128_0_0_s_8_1 x0)) (k0_pay8 (lx 0 inb_S4096x128_S512x128_0_0_s_8_1 x0)) (k0_pay9 (lx 1 inb_S4096x128_S512x128_1_0_s_8_1 x0)) (k0_pay10 (lx 1 inb_S4096x128_S512x128_1_0_s_8_1 x0)) (k0_pay11 (lx 2 inb_S4096x128_S512x128_2_0_s_8_1 x0)) (k0_pay12 (lx 2 inb_S4096x128_S512x128_2_0_s_8_1 x0)) (k0_pay13 (lx 3 inb_S4096x128_S512x128_3_0_s_8_1 x0)) (k0_pay14 (lx 3 inb_S4096x128_S512x128_3_0_s_8_1 x0)) (lx 4 inb_S4096x128_S512x128_4_0_s_8_1 x0) (k0_pay15 (lx 4 inb_S4096x128_S512x128_4_0_s_8_1 x0)) (lx 5 inb_S4096x128_S512x128_5_0_s_8_1 x0) (lx 6 inb_S4096x128_S512x128_6_0_s_8_1 x0) (lx 7 inb_S4096x128_S512x128_7_0_s_8_1 x0) (View.ld (Val := Elt Ideal) w1 (Rect.unit (s := S2048x512) ![0, 0] S2048x256.size inb_S2048x512_S2048x256_0_0)) (View.ld (Val := Elt Ideal) w2 (Rect.unit (s := S2048x512) ![0, 0] S2048x256.size inb_S2048x512_S2048x256_0_0))
/-- The hidden features. -/
def bH (x0 : S4096x128.Idx → Elt Ideal .i32) (w1 w2 : S2048x512.Idx → Elt Ideal .bf16) : FVec Ideal S512x512 .bf16 := k0_pay18 (bX x0) (bH0 x0 w1 w2) (View.ld (Val := Elt Ideal) w1 (Rect.unit (s := S2048x512) ![0, 256] S2048x256.size inb_S2048x512_S2048x256_0_256)) (View.ld (Val := Elt Ideal) w2 (Rect.unit (s := S2048x512) ![0, 256] S2048x256.size inb_S2048x512_S2048x256_0_256))

/-- The eight strided stores of a point in use, last first. -/
def outPieces (x0 : S4096x128.Idx → Elt Ideal .i32) (w1 w2 : S2048x512.Idx → Elt Ideal .bf16) (w3 : S512x2048.Idx → Elt Ideal .bf16) : List (View.Piece (Elt Ideal) S4096x2x128 .bf16) :=
  [⟨⟨(⟨![7, 0, 0], S512x2x128.size, ![8, 1, 1], inb_S4096x2x128_S512x2x128_7_0_0_s_8_1_1⟩ : LoadRect S4096x2x128), spos_8_1_1⟩, k0_pay6 (k0_pay33 (bH x0 w1 w2) (View.ld (Val := Elt Ideal) w3 (Rect.unit (s := S512x2048) ![0, 768] S512x256.size inb_S512x2048_S512x256_0_768))) (k0_pay34 (bH x0 w1 w2) (View.ld (Val := Elt Ideal) w3 (Rect.unit (s := S512x2048) ![0, 1792] S512x256.size inb_S512x2048_S512x256_0_1792)))⟩,
   ⟨⟨(⟨![6, 0, 0], S512x2x128.size, ![8, 1, 1], inb_S4096x2x128_S512x2x128_6_0_0_s_8_1_1⟩ : LoadRect S4096x2x128), spos_8_1_1⟩, k0_pay5 (k0_pay35 (bH x0 w1 w2) (View.ld (Val := Elt Ideal) w3 (Rect.unit (s := S512x2048) ![0, 768] S512x256.size inb_S512x2048_S512x256_0_768))) (k0_pay36 (bH x0 w1 w2) (View.ld (Val := Elt Ideal) w3 (Rect.unit (s := S512x2048) ![0, 1792] S512x256.size inb_S512x2048_S512x256_0_1792)))⟩,
   ⟨⟨(⟨![5, 0, 0], S512x2x128.size, ![8, 1, 1], inb_S4096x2x128_S512x2x128_5_0_0_s_8_1_1⟩ : LoadRect S4096x2x128), spos_8_1_1⟩, k0_pay32 (bH x0 w1 w2) (View.ld (Val := Elt Ideal) w3 (Rect.unit (s := S512x2048) ![0, 512] S512x256.size inb_S512x2048_S512x256_0_512)) (View.ld (Val := Elt Ideal) w3 (Rect.unit (s := S512x2048) ![0, 1536] S512x256.size inb_S512x2048_S512x256_0_1536))⟩,
   ⟨⟨(⟨![4, 0, 0], S512x2x128.size, ![8, 1, 1], inb_S4096x2x128_S512x2x128_4_0_0_s_8_1_1⟩ : LoadRect S4096x2x128), spos_8_1_1⟩, k0_pay31 (bH x0 w1 w2) (View.ld (Val := Elt Ideal) w3 (Rect.unit (s := S512x2048) ![0, 512] S512x256.size inb_S512x2048_S512x256_0_512)) (View.ld (Val := Elt Ideal) w3 (Rect.unit (s := S512x2048) ![0, 1536] S512x256.size inb_S512x2048_S512x256_0_1536))⟩,
   ⟨⟨(⟨![3, 0, 0], S512x2x128.size, ![8, 1, 1], inb_S4096x2x128_S512x2x128_3_0_0_s_8_1_1⟩ : LoadRect S4096x2x128), spos_8_1_1⟩, k0_pay28 (k0_pay23 (bX x0) (bH0 x0 w1 w2) (View.ld (Val := Elt Ideal) w1 (Rect.unit (s := S2048x512) ![0, 256] S2048x256.size inb_S2048x512_S2048x256_0_256)) (View.ld (Val := Elt Ideal) w2 (Rect.unit (s := S2048x512) ![0, 256] S2048x256.size inb_S2048x512_S2048x256_0_256)) (View.ld (Val := Elt Ideal) w3 (Rect.unit (s := S512x2048) ![0, 256] S512x256.size inb_S512x2048_S512x256_0_256))) (k0_pay24 (bX x0) (bH0 x0 w1 w2) (View.ld (Val := Elt Ideal) w1 (Rect.unit (s := S2048x512) ![0, 256] S2048x256.size inb_S2048x512_S2048x256_0_256)) (View.ld (Val := Elt Ideal) w2 (Rect.unit (s := S2048x512) ![0, 256] S2048x256.size inb_S2048x512_S2048x256_0_256)) (View.ld (Val := Elt Ideal) w3 (Rect.unit (s := S512x2048) ![0, 1280] S512x256.size inb_S512x2048_S512x256_0_1280)))⟩,
   ⟨⟨(⟨![2, 0, 0], S512x2x128.size, ![8, 1, 1], inb_S4096x2x128_S512x2x128_2_0_0_s_8_1_1⟩ : LoadRect S4096x2x128), spos_8_1_1⟩, k0_pay27 (k0_pay25 (bX x0) (bH0 x0 w1 w2) (View.ld (Val := Elt Ideal) w1 (Rect.unit (s := S2048x512) ![0, 256] S2048x256.size inb_S2048x512_S2048x256_0_256)) (View.ld (Val := Elt Ideal) w2 (Rect.unit (s := S2048x512) ![0, 256] S2048x256.size inb_S2048x512_S2048x256_0_256)) (View.ld (Val := Elt Ideal) w3 (Rect.unit (s := S512x2048) ![0, 256] S512x256.size inb_S512x2048_S512x256_0_256))) (k0_pay26 (bX x0) (bH0 x0 w1 w2) (View.ld (Val := Elt Ideal) w1 (Rect.unit (s := S2048x512) ![0, 256] S2048x256.size inb_S2048x512_S2048x256_0_256)) (View.ld (Val := Elt Ideal) w2 (Rect.unit (s := S2048x512) ![0, 256] S2048x256.size inb_S2048x512_S2048x256_0_256)) (View.ld (Val := Elt Ideal) w3 (Rect.unit (s := S512x2048) ![0, 1280] S512x256.size inb_S512x2048_S512x256_0_1280)))⟩,
   ⟨⟨(⟨![1, 0, 0], S512x2x128.size, ![8, 1, 1], inb_S4096x2x128_S512x2x128_1_0_0_s_8_1_1⟩ : LoadRect S4096x2x128), spos_8_1_1⟩, k0_pay22 (bX x0) (bH0 x0 w1 w2) (View.ld (Val := Elt Ideal) w1 (Rect.unit (s := S2048x512) ![0, 256] S2048x256.size inb_S2048x512_S2048x256_0_256)) (View.ld (Val := Elt Ideal) w2 (Rect.unit (s := S2048x512) ![0, 256] S2048x256.size inb_S2048x512_S2048x256_0_256)) (View.ld (Val := Elt Ideal) w3 (Rect.unit (s := S512x2048) ![0, 0] S512x256.size inb_S512x2048_S512x256_0_0)) (View.ld (Val := Elt Ideal) w3 (Rect.unit (s := S512x2048) ![0, 1024] S512x256.size inb_S512x2048_S512x256_0_1024))⟩,
   ⟨⟨(⟨![0, 0, 0], S512x2x128.size, ![8, 1, 1], inb_S4096x2x128_S512x2x128_0_0_0_s_8_1_1⟩ : LoadRect S4096x2x128), spos_8_1_1⟩, k0_pay21 (bX x0) (bH0 x0 w1 w2) (View.ld (Val := Elt Ideal) w1 (Rect.unit (s := S2048x512) ![0, 256] S2048x256.size inb_S2048x512_S2048x256_0_256)) (View.ld (Val := Elt Ideal) w2 (Rect.unit (s := S2048x512) ![0, 256] S2048x256.size inb_S2048x512_S2048x256_0_256)) (View.ld (Val := Elt Ideal) w3 (Rect.unit (s := S512x2048) ![0, 0] S512x256.size inb_S512x2048_S512x256_0_0)) (View.ld (Val := Elt Ideal) w3 (Rect.unit (s := S512x2048) ![0, 1024] S512x256.size inb_S512x2048_S512x256_0_1024))⟩]

/-- The eight stores cover the block: row `r` is written by the store of `r % 8`. -/
theorem outPieces_cover (x0 : S4096x128.Idx → Elt Ideal .i32) (w1 w2 : S2048x512.Idx → Elt Ideal .bf16) (w3 : S512x2048.Idx → Elt Ideal .bf16) (y : S4096x2x128.Idx) : ∃ p ∈ outPieces x0 w1 w2 w3, y ∈ p.1.set := by
  have h0 : (y 0).val < 4096 := (y 0).isLt
  have h1 : (y 1).val < 2 := (y 1).isLt
  have h2 : (y 2).val < 128 := (y 2).isLt
  have key : ∀ (p : View.Piece (Elt Ideal) S4096x2x128 .bf16) (s : ℕ), p.1.off = ![s, 0, 0] → p.1.size = S512x2x128.size → p.1.stride = ![8, 1, 1] →
      (y 0).val % 8 = s → y ∈ p.1.set := by
    intro p s ho hz hs hm
    refine p.1.mem_set.mpr fun a => ?_
    rw [ho, hz, hs]
    fin_cases a
    · exact ⟨(y 0).val / 8, show (y 0).val / 8 < 512 by omega, by show (y 0).val = ![s, 0, 0] 0 + ![8, 1, 1] 0 * ((y 0).val / 8); simp only [Matrix.cons_val_zero]; omega⟩
    · exact ⟨(y 1).val, h1, by show (y 1).val = ![s, 0, 0] 1 + ![8, 1, 1] 1 * (y 1).val; simp⟩
    · exact ⟨(y 2).val, h2, by show (y 2).val = ![s, 0, 0] 2 + ![8, 1, 1] 2 * (y 2).val; simp⟩
  have hc : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
  rcases hc with h | h | h | h | h | h | h | h
  · exact ⟨_, .tail _ (.tail _ (.tail _ (.tail _ (.tail _ (.tail _ (.tail _ (.head _))))))), key _ 0 rfl rfl rfl h⟩
  · exact ⟨_, .tail _ (.tail _ (.tail _ (.tail _ (.tail _ (.tail _ (.head _)))))), key _ 1 rfl rfl rfl h⟩
  · exact ⟨_, .tail _ (.tail _ (.tail _ (.tail _ (.tail _ (.head _))))), key _ 2 rfl rfl rfl h⟩
  · exact ⟨_, .tail _ (.tail _ (.tail _ (.tail _ (.head _)))), key _ 3 rfl rfl rfl h⟩
  · exact ⟨_, .tail _ (.tail _ (.tail _ (.head _))), key _ 4 rfl rfl rfl h⟩
  · exact ⟨_, .tail _ (.tail _ (.head _)), key _ 5 rfl rfl rfl h⟩
  · exact ⟨_, .tail _ (.head _), key _ 6 rfl rfl rfl h⟩
  · exact ⟨_, .head _, key _ 7 rfl rfl rfl h⟩

variable (c : Dev nD) (i : grid0.Coords) (a4 : Memref sig .tc .vmem S4096x128 .i32) (h4 : a4.IsWhole) (a5 : Memref sig .tc .vmem S1x1x2048x512 .f32) (h5 : a5.IsWhole) (a6 : Memref sig .tc .vmem S1x1x2048x512 .f32) (h6 : a6.IsWhole) (a7 : Memref sig .tc .vmem S1x1x512x2048 .f32) (h7 : a7.IsWhole) (a8 : Memref sig .tc .vmem S8192x128 .bf16) (h8 : a8.IsWhole)
    (T0 T1 : S192.Idx → Elt Ideal .i32) (T2 : S1.Idx → Elt Ideal .i32) (x0 : S4096x128.Idx → Elt Ideal .i32) (x1 x2 : S1x1x2048x512.Idx → Elt Ideal .f32) (x3 : S1x1x512x2048.Idx → Elt Ideal .f32)
    (b0 : Buf (Elt Ideal) ((c : Thread nD τ).loc cc0_scratch0)) (b1 : Buf (Elt Ideal) ((c : Thread nD τ).loc cc0_scratch1)) (b2 : Buf (Elt Ideal) ((c : Thread nD τ).loc cc0_scratch2))

set_option maxHeartbeats 4000000 in
/-- The stores of a point that keeps its weights. -/
theorem runKeep_pieces (k1) (k2) (k3) :
    (runKeep c i a4 h4 a5 h5 a6 h6 a7 h7 a8 h8 T0 T1 T2 x0 x1 x2 x3 b0 b1 b2 k1 k2 k3).1 = outPieces x0 (sc0.view.read (Elt Ideal) b0) (sc1.view.read (Elt Ideal) b1) (sc2.view.read (Elt Ideal) b2) := by
  have e4 : ∀ (s : ℕ) (h), View.readAt (Elt Ideal) a4.view (⟨![s, 0], S512x128.size, ![8, 1], h⟩ : LoadRect S4096x128) (a4.view.rep x0) = lx s h x0 := fun s h => by
    funext j; show a4.view.read (Elt Ideal) (a4.view.rep x0) _ = _; rw [View.read_rep]; rfl
  unfold runKeep outPieces bH bH0 bX
  dsimp only
  sl_unfold_words
  simp only [e4]
  rfl

set_option maxHeartbeats 4000000 in
/-- The gate weights a loading point leaves. -/
theorem runLoad_e0 (k1) (k2) (k3) :
    sc0.view.read (Elt Ideal) (runLoad c i a4 h4 a5 h5 a6 h6 a7 h7 a8 h8 T0 T1 T2 x0 x1 x2 x3 b0 b1 b2 k1 k2 k3).2.1 = k0_pay2 x1 := by
  unfold runLoad
  dsimp only
  sl_unfold_words
  rw [View.read_writes_full, View.readAt_rep_full]

set_option maxHeartbeats 4000000 in
/-- The up weights a loading point leaves. -/
theorem runLoad_e1 (k1) (k2) (k3) :
    sc1.view.read (Elt Ideal) (runLoad c i a4 h4 a5 h5 a6 h6 a7 h7 a8 h8 T0 T1 T2 x0 x1 x2 x3 b0 b1 b2 k1 k2 k3).2.2.1 = k0_pay3 x2 := by
  unfold runLoad
  dsimp only
  sl_unfold_words
  rw [View.read_writes_full, View.readAt_rep_full]

set_option maxHeartbeats 4000000 in
/-- The down weights a loading point leaves. -/
theorem runLoad_e2 (k1) (k2) (k3) :
    sc2.view.read (Elt Ideal) (runLoad c i a4 h4 a5 h5 a6 h6 a7 h7 a8 h8 T0 T1 T2 x0 x1 x2 x3 b0 b1 b2 k1 k2 k3).2.2.2.1 = k0_pay4 x3 := by
  unfold runLoad
  dsimp only
  sl_unfold_words
  rw [View.read_writes_full, View.readAt_rep_full]

set_option maxHeartbeats 4000000 in
/-- The stores of a point that loads its weights. -/
theorem runLoad_pieces (k1) (k2) (k3) :
    (runLoad c i a4 h4 a5 h5 a6 h6 a7 h7 a8 h8 T0 T1 T2 x0 x1 x2 x3 b0 b1 b2 k1 k2 k3).1 = outPieces x0 (k0_pay2 x1) (k0_pay3 x2) (k0_pay4 x3) := by
  rw [← runLoad_e0 c i a4 h4 a5 h5 a6 h6 a7 h7 a8 h8 T0 T1 T2 x0 x1 x2 x3 b0 b1 b2 k1 k2 k3, ← runLoad_e1 c i a4 h4 a5 h5 a6 h6 a7 h7 a8 h8 T0 T1 T2 x0 x1 x2 x3 b0 b1 b2 k1 k2 k3,
    ← runLoad_e2 c i a4 h4 a5 h5 a6 h6 a7 h7 a8 h8 T0 T1 T2 x0 x1 x2 x3 b0 b1 b2 k1 k2 k3]
  have e4 : ∀ (s : ℕ) (h), View.readAt (Elt Ideal) a4.view (⟨![s, 0], S512x128.size, ![8, 1], h⟩ : LoadRect S4096x128) (a4.view.rep x0) = lx s h x0 := fun s h => by
    funext j; show a4.view.read (Elt Ideal) (a4.view.rep x0) _ = _; rw [View.read_rep]; rfl
  unfold runLoad outPieces bH bH0 bX
  dsimp only
  sl_unfold_words
  simp only [e4]
  rfl

/-- The output block's row pair of a flat row. -/
def sq : S8192x128.Idx → S4096x2x128.Idx := fun y => (Shape.reshapeEquiv reshapes_S8192x128_S4096x2x128.1).symm y

/-- The output block of a point in use. -/
def blkUsed (x0 : S4096x128.Idx → Elt Ideal .i32) (w1 w2 : S2048x512.Idx → Elt Ideal .bf16) (w3 : S512x2048.Idx → Elt Ideal .bf16) : S8192x128.Idx → Elt Ideal .bf16 :=
  fun y => View.canon (outPieces x0 w1 w2 w3) (sq y)

/-- The output buffer, read after the eight stores. -/
theorem read_used (a8 : Memref sig .tc .vmem S8192x128 .bf16) (h8 : a8.IsWhole) (x0 : S4096x128.Idx → Elt Ideal .i32) (w1 w2 : S2048x512.Idx → Elt Ideal .bf16) (w3 : S512x2048.Idx → Elt Ideal .bf16) (f) :
    a8.view.read (Elt Ideal) ((a8.reshape S4096x2x128 reshapes_S8192x128_S4096x2x128.1 reshapes_S8192x128_S4096x2x128.2 h8.contiguous).view.writes (Elt Ideal) f (outPieces x0 w1 w2 w3)) = blkUsed x0 w1 w2 w3 := by
  funext y
  have h := View.read_writes_apply_eq_canon (a8.reshape S4096x2x128 reshapes_S8192x128_S4096x2x128.1 reshapes_S8192x128_S4096x2x128.2 h8.contiguous).view f (sq y) (outPieces x0 w1 w2 w3) (outPieces_cover x0 w1 w2 w3 _)
  unfold blkUsed
  rw [← h]
  show _ = a8.view.read (Elt Ideal) _ (Shape.reshapeEquiv reshapes_S8192x128_S4096x2x128.1 (sq y))
  unfold sq
  rw [Equiv.apply_symm_apply]

/-- The output buffer, read after the zero store. -/
theorem read_off (k1) (k2) (k3) (f) :
    a8.view.read (Elt Ideal) (a8.view.writes (Elt Ideal) f (runOff c i a4 h4 a5 h5 a6 h6 a7 h7 a8 h8 T0 T1 T2 x0 x1 x2 x3 b0 b1 b2 k1 k2 k3).1) = (k0_pay1 (F := Ideal)) := by
  unfold runOff
  dsimp only
  sl_unfold_words
  rw [View.read_writes_full]

end Cert.ExpertsIdeal.Hand

end
-- ==== Proof.ExpertsIdealFrame.lean ====
module

public import proofs.«01_k».proof.Proof.ExpertsIdealBlocks
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.ExpertsIdeal.Hand

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The proof's resource algebra: the rounds library's, for the pipeline's staging cells, embedded whole. -/
abbrev EP : Emb (UR sig nD τ) 𝕄 := emb₁

/-- The one device. -/
def c0 : Dev nD := ⟨0, by decide⟩

variable (m : (ℓ : Loc nD τ sig) → Buf (Elt Ideal) ℓ) (ρ : Dev nD → PrngReg)

/-- The tables as the launch memory holds them. -/
def T0 : S192.Idx → Elt Ideal .i32 := m ((c0 : Thread nD τ).loc main_arg0)
/-- The second table. -/
def T1 : S192.Idx → Elt Ideal .i32 := m ((c0 : Thread nD τ).loc main_arg1)
/-- The count of blocks in use. -/
def T2 : S1.Idx → Elt Ideal .i32 := m ((c0 : Thread nD τ).loc main_arg2)

set_option backward.proofsInPublic true in
/-- The tables together. -/
def pf : pre0.Contents (Elt Ideal) := fun | ⟨0, _⟩ => T0 m | ⟨1, _⟩ => T1 m | ⟨2, _⟩ => T2 m | ⟨_ + 3, h⟩ => absurd h (by simp)

variable (hok : ok0 (F := Ideal) (pf m))

/-- The pipeline at these tables. -/
def adm : (pcfg0 (F := Ideal)).Adm := ⟨pf m, hok⟩
abbrev cfgA : Pipeline.Cfg sig Λ₀ := cfg0 (F := Ideal) (adm m hok)
abbrev pcs : Fin 1 → Pipeline.Cfg sig Λ₀ := Pipeline.pin (pcfgs (F := Ideal)) fun _ => adm m hok

/-- Point `t`'s coordinates. -/
abbrev crd (t : Fin (cfgA m hok).N) : (cfgA m hok).grid.Coords := (cfgA m hok).grid.coords t

abbrev ms0 (t : Fin (cfgA m hok).N) : Memref sig .tc .vmem S4096x128 .i32 := spec0_0.stage ((cfgA m hok).slots t (0 : Fin 5))
abbrev hs0 (t : Fin (cfgA m hok).N) : (ms0 m hok t).IsWhole := hstage0_0 (((cfgA m hok).slots t (0 : Fin 5)).cast nbuf0_0)
abbrev ms1 (t : Fin (cfgA m hok).N) : Memref sig .tc .vmem S1x1x2048x512 .f32 := spec0_1.stage ((cfgA m hok).slots t (1 : Fin 5))
abbrev hs1 (t : Fin (cfgA m hok).N) : (ms1 m hok t).IsWhole := hstage0_1 (((cfgA m hok).slots t (1 : Fin 5)).cast nbuf0_1)
abbrev ms2 (t : Fin (cfgA m hok).N) : Memref sig .tc .vmem S1x1x2048x512 .f32 := spec0_2.stage ((cfgA m hok).slots t (2 : Fin 5))
abbrev hs2 (t : Fin (cfgA m hok).N) : (ms2 m hok t).IsWhole := hstage0_2 (((cfgA m hok).slots t (2 : Fin 5)).cast nbuf0_2)
abbrev ms3 (t : Fin (cfgA m hok).N) : Memref sig .tc .vmem S1x1x512x2048 .f32 := spec0_3.stage ((cfgA m hok).slots t (3 : Fin 5))
abbrev hs3 (t : Fin (cfgA m hok).N) : (ms3 m hok t).IsWhole := hstage0_3 (((cfgA m hok).slots t (3 : Fin 5)).cast nbuf0_3)
abbrev ms4 (t : Fin (cfgA m hok).N) : Memref sig .tc .vmem S8192x128 .bf16 := spec0_4.stage ((cfgA m hok).slots t (4 : Fin 5))
abbrev hs4 (t : Fin (cfgA m hok).N) : (ms4 m hok t).IsWhole := hstage0_4 (((cfgA m hok).slots t (4 : Fin 5)).cast nbuf0_4)

/-- Window `w`'s block at point `t`, read off its array at launch. -/
def iblk (c : Dev nD) (w : Fin (cfgA m hok).W) (t : Fin (cfgA m hok).N) : (((cfgA m hok).win w).xblock (crd m hok t)).Idx → Elt Ideal ((cfgA m hok).win w).elt :=
  (((cfgA m hok).win w).blk t).view.read (Elt Ideal) ((s₀ m ρ).mem (((cfgA m hok).win w).arr.view.loc (c : Thread nD τ)))

/-- Whether a point is among the blocks in use. -/
abbrev Used (i : grid0.Coords) : Prop := k0_cond3 i (wNu (T2 m)) = 1#1

open Classical in
/-- The output block after point `t`. -/
def blk (c : Dev nD) (t : Fin (cfgA m hok).N) : S8192x128.Idx → Elt Ideal .bf16 :=
  if Used m (crd m hok t) then blkUsed (iblk m ρ hok c (0 : Fin 5) t) (k0_pay2 (iblk m ρ hok c (1 : Fin 5) t)) (k0_pay3 (iblk m ρ hok c (2 : Fin 5) t)) (k0_pay4 (iblk m ρ hok c (3 : Fin 5) t))
  else (k0_pay1 (F := Ideal))

/-- The invariant before a point: after a point in use each scratch holds that point's weights; the tables. -/
def Phi (c : Dev nD) (t : Fin ((cfgA m hok).N + 1)) : sProp 𝕄 :=
  iprop((∃ a, ⌜∀ s : Fin (cfgA m hok).N, s.val + 1 = t.val → Used m (crd m hok s) → sc0.view.read (Elt Ideal) a = k0_pay2 (iblk m ρ hok c (1 : Fin 5) s)⌝ ∗ (sc0.view.loc (c : Thread nD τ) ↦{fullShare} a)) ∗ (∃ a, ⌜∀ s : Fin (cfgA m hok).N, s.val + 1 = t.val → Used m (crd m hok s) → sc1.view.read (Elt Ideal) a = k0_pay3 (iblk m ρ hok c (2 : Fin 5) s)⌝ ∗ (sc1.view.loc (c : Thread nD τ) ↦{fullShare} a)) ∗ (∃ a, ⌜∀ s : Fin (cfgA m hok).N, s.val + 1 = t.val → Used m (crd m hok s) → sc2.view.read (Elt Ideal) a = k0_pay4 (iblk m ρ hok c (3 : Fin 5) s)⌝ ∗ (sc2.view.loc (c : Thread nD τ) ↦{fullShare} a))
    ∗ (tb0.view.loc (c : Thread nD τ) ↦{fullShare.right} T0 m) ∗ (tb1.view.loc (c : Thread nD τ) ↦{fullShare.right} T1 m) ∗ (tb2.view.loc (c : Thread nD τ) ↦{fullShare.right} T2 m))

/-- The proof data of the pipeline on core `c`. -/
def dats (_ : Fin 1) (c : Dev nD) : Dat τ (Elt Ideal) Unit ℕ (UR sig nD τ) ℕ (cfgA m hok) c where
  A w := (s₀ m ρ).mem (((cfgA m hok).win w).arr.view.loc (c : Thread nD τ))
  after w t := match w with
    | ⟨0, _⟩ => iblk m ρ hok c (0 : Fin 5) t
    | ⟨1, _⟩ => iblk m ρ hok c (1 : Fin 5) t
    | ⟨2, _⟩ => iblk m ρ hok c (2 : Fin 5) t
    | ⟨3, _⟩ => iblk m ρ hok c (3 : Fin 5) t
    | ⟨4, _⟩ => blk m ρ hok c t
  Φ t := Phi m ρ hok c t
  q _ := fullShare
  owed _ := 0

theorem after0 (c : Dev nD) (t : Fin (cfgA m hok).N) : (dats m ρ hok 0 c).after (0 : Fin 5) t = iblk m ρ hok c (0 : Fin 5) t := rfl
theorem after1 (c : Dev nD) (t : Fin (cfgA m hok).N) : (dats m ρ hok 0 c).after (1 : Fin 5) t = iblk m ρ hok c (1 : Fin 5) t := rfl
theorem after2 (c : Dev nD) (t : Fin (cfgA m hok).N) : (dats m ρ hok 0 c).after (2 : Fin 5) t = iblk m ρ hok c (2 : Fin 5) t := rfl
theorem after3 (c : Dev nD) (t : Fin (cfgA m hok).N) : (dats m ρ hok 0 c).after (3 : Fin 5) t = iblk m ρ hok c (3 : Fin 5) t := rfl
theorem after4 (c : Dev nD) (t : Fin (cfgA m hok).N) : (dats m ρ hok 0 c).after (4 : Fin 5) t = blk m ρ hok c t := rfl

/-- Input window 0 holds its block, fetched there or not. -/
theorem before0 (c : Dev nD) (t : Fin (cfgA m hok).N) (d) : (dats m ρ hok 0 c).before (0 : Fin 5) t d = iblk m ρ hok c (0 : Fin 5) t :=
  ((dats m ρ hok 0 c).before_in_eq_fetched (0 : Fin 5) rfl (fun _ => rfl) (fun _ _ _ => rfl) (fun t => by rw [after0]; unfold Dat.blockOf iblk; rfl) t d).trans
    (by unfold Dat.fetched Dat.blockOf iblk; rfl)

/-- Input window 1 holds its block, fetched there or not. -/
theorem before1 (c : Dev nD) (t : Fin (cfgA m hok).N) (d) : (dats m ρ hok 0 c).before (1 : Fin 5) t d = iblk m ρ hok c (1 : Fin 5) t :=
  ((dats m ρ hok 0 c).before_in_eq_fetched (1 : Fin 5) rfl (fun _ => rfl) (fun _ _ _ => rfl) (fun t => by rw [after1]; unfold Dat.blockOf iblk; rfl) t d).trans
    (by unfold Dat.fetched Dat.blockOf iblk; rfl)

/-- Input window 2 holds its block, fetched there or not. -/
theorem before2 (c : Dev nD) (t : Fin (cfgA m hok).N) (d) : (dats m ρ hok 0 c).before (2 : Fin 5) t d = iblk m ρ hok c (2 : Fin 5) t :=
  ((dats m ρ hok 0 c).before_in_eq_fetched (2 : Fin 5) rfl (fun _ => rfl) (fun _ _ _ => rfl) (fun t => by rw [after2]; unfold Dat.blockOf iblk; rfl) t d).trans
    (by unfold Dat.fetched Dat.blockOf iblk; rfl)

/-- Input window 3 holds its block, fetched there or not. -/
theorem before3 (c : Dev nD) (t : Fin (cfgA m hok).N) (d) : (dats m ρ hok 0 c).before (3 : Fin 5) t d = iblk m ρ hok c (3 : Fin 5) t :=
  ((dats m ρ hok 0 c).before_in_eq_fetched (3 : Fin 5) rfl (fun _ => rfl) (fun _ _ _ => rfl) (fun t => by rw [after3]; unfold Dat.blockOf iblk; rfl) t d).trans
    (by unfold Dat.fetched Dat.blockOf iblk; rfl)

/-- The body at point `t` on its staging memrefs, as the pipeline calls it. -/
abbrev bodyAt (t : Fin (cfgA m hok).N) : Prog (TpuEff nD τ sig (Elt Ideal) Λ₀ .tc) PUnit :=
  cc0_experts (crd m hok t) tb0 (Memref.isWhole_whole _) tb1 (Memref.isWhole_whole _) tb2 (Memref.isWhole_whole _) (ms0 m hok t) (hs0 m hok t) (ms1 m hok t) (hs1 m hok t) (ms2 m hok t) (hs2 m hok t) (ms3 m hok t) (hs3 m hok t) (ms4 m hok t) (hs4 m hok t) sc0 (Memref.isWhole_whole _) sc1 (Memref.isWhole_whole _) sc2 (Memref.isWhole_whole _)

/-- The output's buffer, seen as row pairs. -/
theorem open_out (c : Dev nD) (a8 : Memref sig .tc .vmem S8192x128 .bf16) (h8 : a8.IsWhole) :
    (iprop(∃ d, owns (c : Thread nD τ) a8 fullShare d) : sProp 𝕄)
      ⊢ iprop(∃ f, (a8.reshape S4096x2x128 reshapes_S8192x128_S4096x2x128.1 reshapes_S8192x128_S4096x2x128.2 h8.contiguous).view.loc (c : Thread nD τ) ↦[(a8.reshape S4096x2x128 reshapes_S8192x128_S4096x2x128.1 reshapes_S8192x128_S4096x2x128.2 h8.contiguous).view.set]{fullShare} f) := by
  rw [Memref.set_view_reshape]
  unfold owns
  iintro ⟨%d, %f, -, H⟩
  iexists f
  iexact H

/-- The output's buffer back from its row pairs. -/
theorem close_out (c : Dev nD) (a8 : Memref sig .tc .vmem S8192x128 .bf16) (h8 : a8.IsWhole) (f) (d : S8192x128.Idx → Elt Ideal .bf16) (h : a8.view.read (Elt Ideal) f = d) :
    (iprop((a8.reshape S4096x2x128 reshapes_S8192x128_S4096x2x128.1 reshapes_S8192x128_S4096x2x128.2 h8.contiguous).view.loc (c : Thread nD τ) ↦[(a8.reshape S4096x2x128 reshapes_S8192x128_S4096x2x128.1 reshapes_S8192x128_S4096x2x128.2 h8.contiguous).view.set]{fullShare} f) : sProp 𝕄)
      ⊢ owns (c : Thread nD τ) a8 fullShare d := by
  rw [Memref.set_view_reshape]
  unfold owns
  iintro H
  iexists f
  isplitr; swap
  · iexact H
  · ipureintro; exact h

set_option maxHeartbeats 4000000 in
/-- The body at a point past the blocks in use. -/
theorem sound_Off (c : Dev nD) (t : Fin (cfgA m hok).N)
    (k1 : k0_cond1 (crd m hok t) (wNu (T2 m)) = 1#1) (k2 : ¬(wLd (crd m hok t) (T0 m) (T2 m) = 1#1)) (k3 : ¬(k0_cond3 (crd m hok t) (wNu (T2 m)) = 1#1)) :
    iprop(Phi m ρ hok c t.castSucc ∗ (dats m ρ hok 0 c).owesAt () t.castSucc
        ∗ owns (c : Thread nD τ) (ms0 m hok t) fullShare (iblk m ρ hok c (0 : Fin 5) t)
        ∗ owns (c : Thread nD τ) (ms1 m hok t) fullShare (iblk m ρ hok c (1 : Fin 5) t)
        ∗ owns (c : Thread nD τ) (ms2 m hok t) fullShare (iblk m ρ hok c (2 : Fin 5) t)
        ∗ owns (c : Thread nD τ) (ms3 m hok t) fullShare (iblk m ρ hok c (3 : Fin 5) t)
        ∗ (∃ d, owns (c : Thread nD τ) (ms4 m hok t) fullShare d))
      ⊢ wp frame (wpE (defs₀ (F := Ideal)) Variants.none c none) Set.univ (bodyAt m hok t) fun _ =>
          iprop(Phi m ρ hok c t.succ ∗ (dats m ρ hok 0 c).owesAt () t.castSucc
            ∗ owns (c : Thread nD τ) (ms0 m hok t) fullShare (iblk m ρ hok c (0 : Fin 5) t)
            ∗ owns (c : Thread nD τ) (ms1 m hok t) fullShare (iblk m ρ hok c (1 : Fin 5) t)
            ∗ owns (c : Thread nD τ) (ms2 m hok t) fullShare (iblk m ρ hok c (2 : Fin 5) t)
            ∗ owns (c : Thread nD τ) (ms3 m hok t) fullShare (iblk m ρ hok c (3 : Fin 5) t)
            ∗ owns (c : Thread nD τ) (ms4 m hok t) fullShare (blk m ρ hok c t)) := by
  unfold Phi
  iintro ⟨⟨⟨%a0, %ha0, HS0⟩, ⟨%a1, %ha1, HS1⟩, ⟨%a2, %ha2, HS2⟩, HT0, HT1, HT2⟩, Ho, H0, H1, H2, H3, ⟨%d4, H4⟩⟩
  iapply ((runOff c (crd m hok t) (ms0 m hok t) (hs0 m hok t) (ms1 m hok t) (hs1 m hok t) (ms2 m hok t) (hs2 m hok t) (ms3 m hok t) (hs3 m hok t) (ms4 m hok t) (hs4 m hok t) (T0 m) (T1 m) (T2 m) (iblk m ρ hok c (0 : Fin 5) t) (iblk m ρ hok c (1 : Fin 5) t) (iblk m ρ hok c (2 : Fin 5) t) (iblk m ρ hok c (3 : Fin 5) t) a0 a1 a2 k1 k2 k3).2.2.2.2 _)
  unfold Held
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [HT2]; · iexact HT2
  isplitl [H4]; · iexists _; iexact H4
  isplitl [HS0]; · iexact HS0
  isplitl [HS1]; · iexact HS1
  isplitl [HS2]; · iexact HS2
  iintro ⟨H0, H1, H2, H3, HT0, HT1, HT2, ⟨%e4, H4⟩, HS0, HS1, HS2⟩
  isplitl [HS0 HS1 HS2 HT0 HT1 HT2]
  · try unfold Phi
    isplitl [HS0]
    · iexists _; isplitr; swap
      · iexact HS0
      · ipureintro; intro s hs hu; obtain rfl : s = t := Fin.ext (by simpa using hs); exact absurd hu k3
    isplitl [HS1]
    · iexists _; isplitr; swap
      · iexact HS1
      · ipureintro; intro s hs hu; obtain rfl : s = t := Fin.ext (by simpa using hs); exact absurd hu k3
    isplitl [HS2]
    · iexists _; isplitr; swap
      · iexact HS2
      · ipureintro; intro s hs hu; obtain rfl : s = t := Fin.ext (by simpa using hs); exact absurd hu k3
    isplitl [HT0]; · iexact HT0
    isplitl [HT1]; · iexact HT1
    iexact HT2
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  unfold owns; iexists _; isplitr; swap
  · iexact H4
  · ipureintro; exact (read_off ..).trans (if_neg k3).symm

set_option maxHeartbeats 4000000 in
/-- The body at a point in use that loads its weights. -/
theorem sound_Load (c : Dev nD) (t : Fin (cfgA m hok).N)
    (k1 : ¬(k0_cond1 (crd m hok t) (wNu (T2 m)) = 1#1)) (k2 : wLd (crd m hok t) (T0 m) (T2 m) = 1#1) (k3 : k0_cond3 (crd m hok t) (wNu (T2 m)) = 1#1) :
    iprop(Phi m ρ hok c t.castSucc ∗ (dats m ρ hok 0 c).owesAt () t.castSucc
        ∗ owns (c : Thread nD τ) (ms0 m hok t) fullShare (iblk m ρ hok c (0 : Fin 5) t)
        ∗ owns (c : Thread nD τ) (ms1 m hok t) fullShare (iblk m ρ hok c (1 : Fin 5) t)
        ∗ owns (c : Thread nD τ) (ms2 m hok t) fullShare (iblk m ρ hok c (2 : Fin 5) t)
        ∗ owns (c : Thread nD τ) (ms3 m hok t) fullShare (iblk m ρ hok c (3 : Fin 5) t)
        ∗ (∃ d, owns (c : Thread nD τ) (ms4 m hok t) fullShare d))
      ⊢ wp frame (wpE (defs₀ (F := Ideal)) Variants.none c none) Set.univ (bodyAt m hok t) fun _ =>
          iprop(Phi m ρ hok c t.succ ∗ (dats m ρ hok 0 c).owesAt () t.castSucc
            ∗ owns (c : Thread nD τ) (ms0 m hok t) fullShare (iblk m ρ hok c (0 : Fin 5) t)
            ∗ owns (c : Thread nD τ) (ms1 m hok t) fullShare (iblk m ρ hok c (1 : Fin 5) t)
            ∗ owns (c : Thread nD τ) (ms2 m hok t) fullShare (iblk m ρ hok c (2 : Fin 5) t)
            ∗ owns (c : Thread nD τ) (ms3 m hok t) fullShare (iblk m ρ hok c (3 : Fin 5) t)
            ∗ owns (c : Thread nD τ) (ms4 m hok t) fullShare (blk m ρ hok c t)) := by
  unfold Phi
  iintro ⟨⟨⟨%a0, %ha0, HS0⟩, ⟨%a1, %ha1, HS1⟩, ⟨%a2, %ha2, HS2⟩, HT0, HT1, HT2⟩, Ho, H0, H1, H2, H3, ⟨%d4, H4⟩⟩
  have hread : ∀ e4, (ms4 m hok t).view.read (Elt Ideal) (((ms4 m hok t).reshape S4096x2x128 reshapes_S8192x128_S4096x2x128.1 reshapes_S8192x128_S4096x2x128.2 (hs4 m hok t).contiguous).view.writes (Elt Ideal) e4 (runLoad c (crd m hok t) (ms0 m hok t) (hs0 m hok t) (ms1 m hok t) (hs1 m hok t) (ms2 m hok t) (hs2 m hok t) (ms3 m hok t) (hs3 m hok t) (ms4 m hok t) (hs4 m hok t) (T0 m) (T1 m) (T2 m) (iblk m ρ hok c (0 : Fin 5) t) (iblk m ρ hok c (1 : Fin 5) t) (iblk m ρ hok c (2 : Fin 5) t) (iblk m ρ hok c (3 : Fin 5) t) a0 a1 a2 k1 k2 k3).1) = blk m ρ hok c t := fun e4 => by
    rw [runLoad_pieces]; exact (read_used (ms4 m hok t) (hs4 m hok t) _ _ _ _ _).trans (if_pos k3).symm
  iapply ((runLoad c (crd m hok t) (ms0 m hok t) (hs0 m hok t) (ms1 m hok t) (hs1 m hok t) (ms2 m hok t) (hs2 m hok t) (ms3 m hok t) (hs3 m hok t) (ms4 m hok t) (hs4 m hok t) (T0 m) (T1 m) (T2 m) (iblk m ρ hok c (0 : Fin 5) t) (iblk m ρ hok c (1 : Fin 5) t) (iblk m ρ hok c (2 : Fin 5) t) (iblk m ρ hok c (3 : Fin 5) t) a0 a1 a2 k1 k2 k3).2.2.2.2 _)
  unfold Held
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [HT2]; · iexact HT2
  isplitl [H4]; · iapply open_out c (ms4 m hok t) (hs4 m hok t); iexists _; iexact H4
  isplitl [HS0]; · iexact HS0
  isplitl [HS1]; · iexact HS1
  isplitl [HS2]; · iexact HS2
  iintro ⟨H0, H1, H2, H3, HT0, HT1, HT2, ⟨%e4, H4⟩, HS0, HS1, HS2⟩
  isplitl [HS0 HS1 HS2 HT0 HT1 HT2]
  · try unfold Phi
    isplitl [HS0]
    · iexists _; isplitr; swap
      · iexact HS0
      · ipureintro; intro s hs hu; obtain rfl : s = t := Fin.ext (by simpa using hs); exact runLoad_e0 ..
    isplitl [HS1]
    · iexists _; isplitr; swap
      · iexact HS1
      · ipureintro; intro s hs hu; obtain rfl : s = t := Fin.ext (by simpa using hs); exact runLoad_e1 ..
    isplitl [HS2]
    · iexists _; isplitr; swap
      · iexact HS2
      · ipureintro; intro s hs hu; obtain rfl : s = t := Fin.ext (by simpa using hs); exact runLoad_e2 ..
    isplitl [HT0]; · iexact HT0
    isplitl [HT1]; · iexact HT1
    iexact HT2
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  iapply close_out c (ms4 m hok t) (hs4 m hok t) _ _ (hread e4); iexact H4

set_option maxHeartbeats 4000000 in
/-- The body at a point in use that keeps its weights. -/
theorem sound_Keep (c : Dev nD) (t : Fin (cfgA m hok).N)
    (k1 : ¬(k0_cond1 (crd m hok t) (wNu (T2 m)) = 1#1)) (k2 : ¬(wLd (crd m hok t) (T0 m) (T2 m) = 1#1)) (k3 : k0_cond3 (crd m hok t) (wNu (T2 m)) = 1#1)
    (p : Fin (cfgA m hok).N) (hp1 : p.val + 1 = t.val) (hu1 : Used m (crd m hok p))
    (hblk1 : iblk m ρ hok c (1 : Fin 5) p = iblk m ρ hok c (1 : Fin 5) t) (hblk2 : iblk m ρ hok c (2 : Fin 5) p = iblk m ρ hok c (2 : Fin 5) t) (hblk3 : iblk m ρ hok c (3 : Fin 5) p = iblk m ρ hok c (3 : Fin 5) t) :
    iprop(Phi m ρ hok c t.castSucc ∗ (dats m ρ hok 0 c).owesAt () t.castSucc
        ∗ owns (c : Thread nD τ) (ms0 m hok t) fullShare (iblk m ρ hok c (0 : Fin 5) t)
        ∗ owns (c : Thread nD τ) (ms1 m hok t) fullShare (iblk m ρ hok c (1 : Fin 5) t)
        ∗ owns (c : Thread nD τ) (ms2 m hok t) fullShare (iblk m ρ hok c (2 : Fin 5) t)
        ∗ owns (c : Thread nD τ) (ms3 m hok t) fullShare (iblk m ρ hok c (3 : Fin 5) t)
        ∗ (∃ d, owns (c : Thread nD τ) (ms4 m hok t) fullShare d))
      ⊢ wp frame (wpE (defs₀ (F := Ideal)) Variants.none c none) Set.univ (bodyAt m hok t) fun _ =>
          iprop(Phi m ρ hok c t.succ ∗ (dats m ρ hok 0 c).owesAt () t.castSucc
            ∗ owns (c : Thread nD τ) (ms0 m hok t) fullShare (iblk m ρ hok c (0 : Fin 5) t)
            ∗ owns (c : Thread nD τ) (ms1 m hok t) fullShare (iblk m ρ hok c (1 : Fin 5) t)
            ∗ owns (c : Thread nD τ) (ms2 m hok t) fullShare (iblk m ρ hok c (2 : Fin 5) t)
            ∗ owns (c : Thread nD τ) (ms3 m hok t) fullShare (iblk m ρ hok c (3 : Fin 5) t)
            ∗ owns (c : Thread nD τ) (ms4 m hok t) fullShare (blk m ρ hok c t)) := by
  unfold Phi
  iintro ⟨⟨⟨%a0, %ha0, HS0⟩, ⟨%a1, %ha1, HS1⟩, ⟨%a2, %ha2, HS2⟩, HT0, HT1, HT2⟩, Ho, H0, H1, H2, H3, ⟨%d4, H4⟩⟩
  have hread : ∀ e4, (ms4 m hok t).view.read (Elt Ideal) (((ms4 m hok t).reshape S4096x2x128 reshapes_S8192x128_S4096x2x128.1 reshapes_S8192x128_S4096x2x128.2 (hs4 m hok t).contiguous).view.writes (Elt Ideal) e4 (runKeep c (crd m hok t) (ms0 m hok t) (hs0 m hok t) (ms1 m hok t) (hs1 m hok t) (ms2 m hok t) (hs2 m hok t) (ms3 m hok t) (hs3 m hok t) (ms4 m hok t) (hs4 m hok t) (T0 m) (T1 m) (T2 m) (iblk m ρ hok c (0 : Fin 5) t) (iblk m ρ hok c (1 : Fin 5) t) (iblk m ρ hok c (2 : Fin 5) t) (iblk m ρ hok c (3 : Fin 5) t) a0 a1 a2 k1 k2 k3).1) = blk m ρ hok c t := fun e4 => by
    rw [runKeep_pieces, show sc0.view.read (Elt Ideal) a0 = _ from (ha0 _ hp1 hu1).trans (congrArg k0_pay2 hblk1), show sc1.view.read (Elt Ideal) a1 = _ from (ha1 _ hp1 hu1).trans (congrArg k0_pay3 hblk2), show sc2.view.read (Elt Ideal) a2 = _ from (ha2 _ hp1 hu1).trans (congrArg k0_pay4 hblk3)]; exact (read_used (ms4 m hok t) (hs4 m hok t) _ _ _ _ _).trans (if_pos k3).symm
  iapply ((runKeep c (crd m hok t) (ms0 m hok t) (hs0 m hok t) (ms1 m hok t) (hs1 m hok t) (ms2 m hok t) (hs2 m hok t) (ms3 m hok t) (hs3 m hok t) (ms4 m hok t) (hs4 m hok t) (T0 m) (T1 m) (T2 m) (iblk m ρ hok c (0 : Fin 5) t) (iblk m ρ hok c (1 : Fin 5) t) (iblk m ρ hok c (2 : Fin 5) t) (iblk m ρ hok c (3 : Fin 5) t) a0 a1 a2 k1 k2 k3).2.2.2.2 _)
  unfold Held
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [HT2]; · iexact HT2
  isplitl [H4]; · iapply open_out c (ms4 m hok t) (hs4 m hok t); iexists _; iexact H4
  isplitl [HS0]; · iexact HS0
  isplitl [HS1]; · iexact HS1
  isplitl [HS2]; · iexact HS2
  iintro ⟨H0, H1, H2, H3, HT0, HT1, HT2, ⟨%e4, H4⟩, HS0, HS1, HS2⟩
  isplitl [HS0 HS1 HS2 HT0 HT1 HT2]
  · try unfold Phi
    isplitl [HS0]
    · iexists _; isplitr; swap
      · iexact HS0
      · ipureintro; intro s hs hu; obtain rfl : s = t := Fin.ext (by simpa using hs); exact (ha0 _ hp1 hu1).trans (congrArg k0_pay2 (hblk1))
    isplitl [HS1]
    · iexists _; isplitr; swap
      · iexact HS1
      · ipureintro; intro s hs hu; obtain rfl : s = t := Fin.ext (by simpa using hs); exact (ha1 _ hp1 hu1).trans (congrArg k0_pay3 (hblk2))
    isplitl [HS2]
    · iexists _; isplitr; swap
      · iexact HS2
      · ipureintro; intro s hs hu; obtain rfl : s = t := Fin.ext (by simpa using hs); exact (ha2 _ hp1 hu1).trans (congrArg k0_pay4 (hblk3))
    isplitl [HT0]; · iexact HT0
    isplitl [HT1]; · iexact HT1
    iexact HT2
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  iapply close_out c (ms4 m hok t) (hs4 m hok t) _ _ (hread e4); iexact H4

end Cert.ExpertsIdeal.Hand

end
-- ==== Proof.ExpertsIdealLaunch.lean ====
module

public import proofs.«01_k».proof.Proof.ExpertsIdealFrame
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init
public import Idealize.ShloMosaic.Lib.Pipeline.Value
public import proofs.«01_k».proof.Proof.Gen.Pre_tables
public import proofs.«01_k».proof.Defs

@[expose] public section

set_option maxRecDepth 16384
set_option Elab.async false

noncomputable section

namespace Cert.ExpertsIdeal.Hand

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! ## The blocks of a point -/

variable (m : (ℓ : Loc nD τ sig) → Buf (Elt Ideal) ℓ) (ρ : Dev nD → PrngReg)

/-- A point's place in the tables. -/
def eI (i : grid0.Coords) : S192.Idx := fun a => ⟨(i 0).val, by
  obtain rfl : a = 0 := Subsingleton.elim _ _
  exact (i 0).isLt⟩

theorem idx_eI (i : grid0.Coords) (x : S192.Idx) (h : (x 0).val = (![(i 0).val] : Fin 1 → ℕ) 0 + 1 * 0) : x = eI i := by
  funext a
  obtain rfl : a = 0 := Subsingleton.elim _ _
  exact Fin.ext (by simpa [eI] using h)

/-- Window 0's block index, by the table. -/
theorem tr0 (i : grid0.Coords) : cc0_transform_0 k0_off1_inb numel1_S1 (pf m) i = ![(T1 m (eI i)).toNat, 0] := by
  unfold cc0_transform_0
  dsimp only
  rw [show (pf m).at 1 (Rect.unit (s := S192) ![(Scalar.indexCast (BitVec.ofNat 32 (i 0).val)).toNat] S1.size (k0_off1_inb i)) numel1_S1 = T1 m (eI i) from congrArg (T1 m) (idx_eI i _ (by
    rw [← k0_off1_eq i]; exact Rect.emb_apply _ _ (0 : Fin S192.rank)))]
  rfl

/-- Window 1's block index, by the table. -/
theorem tr1 (i : grid0.Coords) : cc0_transform_1 k0_off1_inb numel1_S1 (pf m) i = ![0, (T0 m (eI i)).toNat, 0, 0] := by
  unfold cc0_transform_1
  dsimp only
  rw [show (pf m).at 0 (Rect.unit (s := S192) ![(Scalar.indexCast (BitVec.ofNat 32 (i 0).val)).toNat] S1.size (k0_off1_inb i)) numel1_S1 = T0 m (eI i) from congrArg (T0 m) (idx_eI i _ (by
    rw [← k0_off1_eq i]; exact Rect.emb_apply _ _ (0 : Fin S192.rank)))]
  rfl

/-- Window 2's block index, by the table. -/
theorem tr2 (i : grid0.Coords) : cc0_transform_2 k0_off1_inb numel1_S1 (pf m) i = ![0, (T0 m (eI i)).toNat, 0, 0] := by
  unfold cc0_transform_2
  dsimp only
  rw [show (pf m).at 0 (Rect.unit (s := S192) ![(Scalar.indexCast (BitVec.ofNat 32 (i 0).val)).toNat] S1.size (k0_off1_inb i)) numel1_S1 = T0 m (eI i) from congrArg (T0 m) (idx_eI i _ (by
    rw [← k0_off1_eq i]; exact Rect.emb_apply _ _ (0 : Fin S192.rank)))]
  rfl

/-- Window 3's block index, by the table. -/
theorem tr3 (i : grid0.Coords) : cc0_transform_3 k0_off1_inb numel1_S1 (pf m) i = ![0, (T0 m (eI i)).toNat, 0, 0] := by
  unfold cc0_transform_3
  dsimp only
  rw [show (pf m).at 0 (Rect.unit (s := S192) ![(Scalar.indexCast (BitVec.ofNat 32 (i 0).val)).toNat] S1.size (k0_off1_inb i)) numel1_S1 = T0 m (eI i) from congrArg (T0 m) (idx_eI i _ (by
    rw [← k0_off1_eq i]; exact Rect.emb_apply _ _ (0 : Fin S192.rank)))]
  rfl

/-- A point's expert, as the body reads it. -/
theorem wBe_eq (i : grid0.Coords) (T : S192.Idx → Elt Ideal .i32) : wBe i T = T (eI i) :=
  congrArg T (idx_eI i _ (by rw [← k0_off2_eq i]; exact Rect.emb_apply _ _ (0 : Fin S192.rank)))

theorem k0_off3_eq : ∀ i : grid0.Coords, k0_off3 i = ![(i 0).val - 1] := by decide +kernel

/-- The expert of the point before, as the body reads it. -/
theorem wBp_eq (i j : grid0.Coords) (h : (j 0).val = (i 0).val - 1) (T : S192.Idx → Elt Ideal .i32) : wBp i T = T (eI j) :=
  congrArg T (idx_eI j _ (by rw [h, ← k0_off3_eq i]; exact Rect.emb_apply _ _ (0 : Fin S192.rank)))

variable (hok : ok0 (F := Ideal) (pf m))

/-- A point's one coordinate. -/
theorem crd_val (t : Fin (cfgA m hok).N) : (crd m hok t 0).val = t.val := by
  have ht : t.val < 192 := t.isLt
  rw [Pipeline.Grid.coords_val (G := grid0) t 0 (S := 1) (B := 192) (by decide) rfl]
  omega

/-- Window 0's block, element by element. -/
theorem iblk0_apply (c : Dev nD) (t : Fin (cfgA m hok).N) (y : S4096x128.Idx) (x : S786432x128.Idx)
    (hx : ∀ a, (x a).val = cc0_transform_0 k0_off1_inb numel1_S1 (pf m) (crd m hok t) a * S4096x128.size a + (y a).val) :
    iblk m ρ hok c (0 : Fin 5) t y = m ((c : Thread nD τ).loc main_arg3) x := by
  show m ((c : Thread nD τ).loc main_arg3) ((((cfgA m hok).win (0 : Fin 5)).rect t).emb y) = _
  congr 1
  funext a
  exact Fin.ext ((Pipeline.Window.rect_emb_val ((cfgA m hok).win (0 : Fin 5)) t y a rfl).trans (hx a).symm)

/-- Window 1's block, element by element. -/
theorem iblk1_apply (c : Dev nD) (t : Fin (cfgA m hok).N) (y : S1x1x2048x512.Idx) (x : S2x32x2048x512.Idx)
    (hx : ∀ a, (x a).val = cc0_transform_1 k0_off1_inb numel1_S1 (pf m) (crd m hok t) a * S1x1x2048x512.size a + (y a).val) :
    iblk m ρ hok c (1 : Fin 5) t y = m ((c : Thread nD τ).loc main_arg4) x := by
  show m ((c : Thread nD τ).loc main_arg4) ((((cfgA m hok).win (1 : Fin 5)).rect t).emb y) = _
  congr 1
  funext a
  exact Fin.ext ((Pipeline.Window.rect_emb_val ((cfgA m hok).win (1 : Fin 5)) t y a rfl).trans (hx a).symm)

/-- Window 2's block, element by element. -/
theorem iblk2_apply (c : Dev nD) (t : Fin (cfgA m hok).N) (y : S1x1x2048x512.Idx) (x : S2x32x2048x512.Idx)
    (hx : ∀ a, (x a).val = cc0_transform_2 k0_off1_inb numel1_S1 (pf m) (crd m hok t) a * S1x1x2048x512.size a + (y a).val) :
    iblk m ρ hok c (2 : Fin 5) t y = m ((c : Thread nD τ).loc main_arg5) x := by
  show m ((c : Thread nD τ).loc main_arg5) ((((cfgA m hok).win (2 : Fin 5)).rect t).emb y) = _
  congr 1
  funext a
  exact Fin.ext ((Pipeline.Window.rect_emb_val ((cfgA m hok).win (2 : Fin 5)) t y a rfl).trans (hx a).symm)

/-- Window 3's block, element by element. -/
theorem iblk3_apply (c : Dev nD) (t : Fin (cfgA m hok).N) (y : S1x1x512x2048.Idx) (x : S2x32x512x2048.Idx)
    (hx : ∀ a, (x a).val = cc0_transform_3 k0_off1_inb numel1_S1 (pf m) (crd m hok t) a * S1x1x512x2048.size a + (y a).val) :
    iblk m ρ hok c (3 : Fin 5) t y = m ((c : Thread nD τ).loc main_arg6) x := by
  show m ((c : Thread nD τ).loc main_arg6) ((((cfgA m hok).win (3 : Fin 5)).rect t).emb y) = _
  congr 1
  funext a
  exact Fin.ext ((Pipeline.Window.rect_emb_val ((cfgA m hok).win (3 : Fin 5)) t y a rfl).trans (hx a).symm)

/-- Window 1's block depends on the point's expert alone. -/
theorem iblk1_congr (c : Dev nD) (p t : Fin (cfgA m hok).N) (h : T0 m (eI (crd m hok p)) = T0 m (eI (crd m hok t))) : iblk m ρ hok c (1 : Fin 5) p = iblk m ρ hok c (1 : Fin 5) t := by
  funext y
  refine (iblk1_apply m ρ hok c p y _ (fun a => ?_)).trans (iblk1_apply m ρ hok c t y ((((cfgA m hok).win (1 : Fin 5)).rect t).emb y) (fun a => ?_)).symm
  · rw [tr1, h, ← tr1 m]
    exact Pipeline.Window.rect_emb_val ((cfgA m hok).win (1 : Fin 5)) t y a rfl
  · exact Pipeline.Window.rect_emb_val ((cfgA m hok).win (1 : Fin 5)) t y a rfl

/-- Window 2's block depends on the point's expert alone. -/
theorem iblk2_congr (c : Dev nD) (p t : Fin (cfgA m hok).N) (h : T0 m (eI (crd m hok p)) = T0 m (eI (crd m hok t))) : iblk m ρ hok c (2 : Fin 5) p = iblk m ρ hok c (2 : Fin 5) t := by
  funext y
  refine (iblk2_apply m ρ hok c p y _ (fun a => ?_)).trans (iblk2_apply m ρ hok c t y ((((cfgA m hok).win (2 : Fin 5)).rect t).emb y) (fun a => ?_)).symm
  · rw [tr2, h, ← tr2 m]
    exact Pipeline.Window.rect_emb_val ((cfgA m hok).win (2 : Fin 5)) t y a rfl
  · exact Pipeline.Window.rect_emb_val ((cfgA m hok).win (2 : Fin 5)) t y a rfl

/-- Window 3's block depends on the point's expert alone. -/
theorem iblk3_congr (c : Dev nD) (p t : Fin (cfgA m hok).N) (h : T0 m (eI (crd m hok p)) = T0 m (eI (crd m hok t))) : iblk m ρ hok c (3 : Fin 5) p = iblk m ρ hok c (3 : Fin 5) t := by
  funext y
  refine (iblk3_apply m ρ hok c p y _ (fun a => ?_)).trans (iblk3_apply m ρ hok c t y ((((cfgA m hok).win (3 : Fin 5)).rect t).emb y) (fun a => ?_)).symm
  · rw [tr3, h, ← tr3 m]
    exact Pipeline.Window.rect_emb_val ((cfgA m hok).win (3 : Fin 5)) t y a rfl
  · exact Pipeline.Window.rect_emb_val ((cfgA m hok).win (3 : Fin 5)) t y a rfl

/-! ## The body's decisions -/

theorem cond1_iff (i : grid0.Coords) (v : BitVec 32) : k0_cond1 i v = 1#1 ↔ ¬(k0_cond3 i v = 1#1) := by
  unfold k0_cond1 k0_cond3
  dsimp only
  generalize Scalar.cmpi .slt (BitVec.ofNat 32 (i 0).val) v = b
  revert b
  decide

theorem cond3_iff (i : grid0.Coords) (v : BitVec 32) : k0_cond3 i v = 1#1 ↔ Scalar.cmpi .slt (BitVec.ofNat 32 (i 0).val) v = 1#1 := by
  unfold k0_cond3
  dsimp only
  generalize Scalar.cmpi .slt (BitVec.ofNat 32 (i 0).val) v = b
  revert b
  decide

theorem wLd_cond3 (i : grid0.Coords) (T0 : S192.Idx → Elt Ideal .i32) (T2 : S1.Idx → Elt Ideal .i32) (h : wLd i T0 T2 = 1#1) : k0_cond3 i (wNu T2) = 1#1 := by
  rw [cond3_iff]
  unfold wLd at h
  generalize Scalar.cmpi .slt (BitVec.ofNat 32 (i 0).val) (wNu T2) = b at h ⊢
  generalize Scalar.ori (Scalar.cmpi .eq (BitVec.ofNat 32 (i 0).val) 0#32) (Scalar.cmpi .ne (wBe i T0) (wBp i T0)) = d at h
  revert b d
  decide

/-- A point in use that does not load: it is not the first, and its expert is that of the point before. -/
theorem keep_facts (i : grid0.Coords) (T0 : S192.Idx → Elt Ideal .i32) (T2 : S1.Idx → Elt Ideal .i32) (h2 : ¬(wLd i T0 T2 = 1#1)) (h3 : k0_cond3 i (wNu T2) = 1#1) :
    (i 0).val ≠ 0 ∧ wBe i T0 = wBp i T0 := by
  rw [cond3_iff] at h3
  unfold wLd at h2
  rw [h3] at h2
  constructor
  · intro h0
    rw [h0] at h2
    generalize Scalar.cmpi .ne (wBe i T0) (wBp i T0) = d at h2
    revert d
    decide
  · by_contra hne
    have e : Scalar.cmpi .ne (wBe i T0) (wBp i T0) = 1#1 := by
      show BitVec.ofBool (wBe i T0 != wBp i T0) = 1#1
      rw [bne_iff_ne.mpr hne]
      rfl
    rw [e] at h2
    generalize Scalar.cmpi .eq (BitVec.ofNat 32 (i 0).val) 0#32 = d at h2
    revert d
    decide

theorem slt_iff (n : ℕ) (hn : n < 192) (v : BitVec 32) : Scalar.cmpi .slt (BitVec.ofNat 32 n) v = 1#1 ↔ (n : ℤ) < v.toInt := by
  have e : (BitVec.ofNat 32 n).toInt = n := by
    rw [BitVec.toInt_eq_toNat_of_lt (by rw [BitVec.toNat_ofNat]; omega), BitVec.toNat_ofNat]
    omega
  unfold Scalar.cmpi IntOp.cmpi
  by_cases h : (n : ℤ) < v.toInt <;> simp [BitVec.slt, e, h]

/-- The blocks in use come first. -/
theorem used_mono (p t : Fin (cfgA m hok).N) (h : p.val ≤ t.val) (hu : Used m (crd m hok t)) : Used m (crd m hok p) := by
  have ht : t.val < 192 := t.isLt
  unfold Used at hu ⊢
  rw [cond3_iff, crd_val, slt_iff _ (by omega)] at hu ⊢
  omega

/-! ## The body at every point -/

set_option maxHeartbeats 4000000 in
/-- The body at point `t`, from what the pipeline hands it to what it leaves. -/
theorem sound_body (c : Dev nD) (t : Fin (cfgA m hok).N) :
    iprop((dats m ρ hok 0 c).Φ t.castSucc ∗ (dats m ρ hok 0 c).owesAt () t.castSucc
        ∗ (∃ d, owns (c : Thread nD τ) (ms0 m hok t) fullShare ((dats m ρ hok 0 c).before (0 : Fin 5) t d))
        ∗ (∃ d, owns (c : Thread nD τ) (ms1 m hok t) fullShare ((dats m ρ hok 0 c).before (1 : Fin 5) t d))
        ∗ (∃ d, owns (c : Thread nD τ) (ms2 m hok t) fullShare ((dats m ρ hok 0 c).before (2 : Fin 5) t d))
        ∗ (∃ d, owns (c : Thread nD τ) (ms3 m hok t) fullShare ((dats m ρ hok 0 c).before (3 : Fin 5) t d))
        ∗ (∃ d, owns (c : Thread nD τ) (ms4 m hok t) fullShare ((dats m ρ hok 0 c).before (4 : Fin 5) t d)))
      ⊢ wp frame (wpE (defs₀ (F := Ideal)) Variants.none c none) Set.univ (bodyAt m hok t) fun _ =>
          iprop((dats m ρ hok 0 c).Φ t.succ ∗ (dats m ρ hok 0 c).owesAt () t.succ
            ∗ bigSep Finset.univ fun w : Fin (cfgA m hok).W =>
                match (cfgA m hok).idle w ((cfgA m hok).grid.coords t) with
                | true =>
                  match ((cfgA m hok).win w).flush t with
                  | false => iprop(∃ d, owns (c : Thread nD τ) (((cfgA m hok).win w).stage ((cfgA m hok).slots t w)) fullShare ((dats m ρ hok 0 c).before w t d))
                  | true => owns (c : Thread nD τ) (((cfgA m hok).win w).stage ((cfgA m hok).slots t w)) fullShare ((dats m ρ hok 0 c).after w t)
                | false => owns (c : Thread nD τ) (((cfgA m hok).win w).stage ((cfgA m hok).slots t w)) fullShare ((dats m ρ hok 0 c).after w t)) := by
  rw [bigSep_W0]
  have i4 : (cfgA m hok).idle (4 : Fin 5) ((cfgA m hok).grid.coords t) = false := by
    show (!(k0_cond1 (crd m hok t) ((pf m).atD 2 ![0]) == 1#1) && !(k0_cond3 (crd m hok t) ((pf m).atD 2 ![0]) == 1#1)) = false
    generalize (pf m).atD 2 ![0] = v
    have h := cond1_iff (crd m hok t) v
    by_cases h3 : k0_cond3 (crd m hok t) v = 1#1
    · rw [h3]; simp
    · rw [h.mpr h3]; simp
  rewrite [i4]
  simp only [before0, before1, before2, before3, after0, after1, after2, after3, after4]
  rewrite [show (dats m ρ hok 0 c).Φ t.succ = Phi m ρ hok c t.succ from rfl, show (dats m ρ hok 0 c).Φ t.castSucc = Phi m ρ hok c t.castSucc from rfl,
    show (dats m ρ hok 0 c).owesAt () t.succ = (dats m ρ hok 0 c).owesAt () t.castSucc from rfl]
  have main : iprop(Phi m ρ hok c t.castSucc ∗ (dats m ρ hok 0 c).owesAt () t.castSucc
        ∗ owns (c : Thread nD τ) (ms0 m hok t) fullShare (iblk m ρ hok c (0 : Fin 5) t)
        ∗ owns (c : Thread nD τ) (ms1 m hok t) fullShare (iblk m ρ hok c (1 : Fin 5) t)
        ∗ owns (c : Thread nD τ) (ms2 m hok t) fullShare (iblk m ρ hok c (2 : Fin 5) t)
        ∗ owns (c : Thread nD τ) (ms3 m hok t) fullShare (iblk m ρ hok c (3 : Fin 5) t)
        ∗ (∃ d, owns (c : Thread nD τ) (ms4 m hok t) fullShare d))
      ⊢ wp frame (wpE (defs₀ (F := Ideal)) Variants.none c none) Set.univ (bodyAt m hok t) fun _ =>
          iprop(Phi m ρ hok c t.succ ∗ (dats m ρ hok 0 c).owesAt () t.castSucc
            ∗ owns (c : Thread nD τ) (ms0 m hok t) fullShare (iblk m ρ hok c (0 : Fin 5) t)
            ∗ owns (c : Thread nD τ) (ms1 m hok t) fullShare (iblk m ρ hok c (1 : Fin 5) t)
            ∗ owns (c : Thread nD τ) (ms2 m hok t) fullShare (iblk m ρ hok c (2 : Fin 5) t)
            ∗ owns (c : Thread nD τ) (ms3 m hok t) fullShare (iblk m ρ hok c (3 : Fin 5) t)
            ∗ owns (c : Thread nD τ) (ms4 m hok t) fullShare (blk m ρ hok c t)) := by
    by_cases k3 : k0_cond3 (crd m hok t) (wNu (T2 m)) = 1#1
    · have k1 : ¬(k0_cond1 (crd m hok t) (wNu (T2 m)) = 1#1) := fun h => (cond1_iff _ _).mp h k3
      by_cases k2 : wLd (crd m hok t) (T0 m) (T2 m) = 1#1
      · exact sound_Load m ρ hok c t k1 k2 k3
      · obtain ⟨hz, he⟩ := keep_facts _ _ _ k2 k3
        rw [crd_val] at hz
        have hp : t.val - 1 < (cfgA m hok).N := lt_of_le_of_lt (Nat.sub_le _ _) t.isLt
        have hb : T0 m (eI (crd m hok ⟨t.val - 1, hp⟩)) = T0 m (eI (crd m hok t)) := by
          rw [← wBe_eq (crd m hok t) (T0 m), he]
          exact (wBp_eq _ _ (by rw [crd_val, crd_val]) _).symm
        exact sound_Keep m ρ hok c t k1 k2 k3 ⟨t.val - 1, hp⟩ (by show t.val - 1 + 1 = t.val; omega) (used_mono m hok _ t (Nat.sub_le _ _) k3)
          (iblk1_congr m ρ hok c _ t hb) (iblk2_congr m ρ hok c _ t hb) (iblk3_congr m ρ hok c _ t hb)
    · exact sound_Off m ρ hok c t ((cond1_iff _ _).mpr k3) (fun h => k3 (wLd_cond3 _ _ _ h)) k3
  iintro ⟨HP, Ho, ⟨%d0, H0⟩, ⟨%d1, H1⟩, ⟨%d2, H2⟩, ⟨%d3, H3⟩, ⟨%d4, H4⟩⟩
  iapply main
  isplitl [HP]; · iexact HP
  isplitl [Ho]; · iexact Ho
  isplitl [H0]; · iexact H0
  isplitl [H1]; · iexact H1
  isplitl [H2]; · iexact H2
  isplitl [H3]; · iexact H3
  iexists _; iexact H4

/-- The library's body obligation, at every point. -/
theorem body_obligation (c : Dev nD) : BodyObligation (dats m ρ hok 0 c) (defs₀ (F := Ideal)) Variants.none () Set.univ := fun t => by
  rw [bigSep_W0]
  exact sound_body m ρ hok c t

/-! ## The launch -/

/-- The launch's resources. -/
def u₀ : UR sig nD τ :=
  initOf (Pipeline.cells (pcs m hok) ((launch0 (F := Ideal)).cellOf_inj fun _ => adm m hok))
    (Pipeline.launchToks (pcs m hok) ((launch0 (F := Ideal)).cellOf_inj fun _ => adm m hok))

theorem share_eq (c : Dev nD) (w : Fin (cfgA m hok).W) : (dats m ρ hok 0 c).share w = fullShare := by unfold Dat.share; split <;> rfl

/-- The tables as the launch hands them over, one by one. -/
theorem prefHeld_eq (c : Dev nD) (q : Fin 3 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1) ∗ (((c : Thread nD τ).loc main_arg2) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The invariant at the first point, from the tables and the scratches. -/
theorem phi0_intro (c : Dev nD) :
    iprop(BI.emp ∗ Pipeline.prefHeld pre0 c (fun _ => fullShare.right) (adm m hok).1 ∗ Pipeline.scopedRest spec0 c) ⊢ (dats m ρ hok 0 c).Φ 0 := by
  rw [prefHeld_eq, scopedRest0_eq, show (dats m ρ hok 0 c).Φ 0 = Phi m ρ hok c 0 from rfl]
  unfold Phi
  iintro ⟨-, ⟨HT0, HT1, HT2⟩, ⟨%a0, HS0⟩, ⟨%a1, HS1⟩, ⟨%a2, HS2⟩⟩
  isplitl [HS0]
  · iexists a0; isplitr; swap
    · iexact HS0
    · ipureintro; intro s h; exact absurd h (Nat.succ_ne_zero _)
  isplitl [HS1]
  · iexists a1; isplitr; swap
    · iexact HS1
    · ipureintro; intro s h; exact absurd h (Nat.succ_ne_zero _)
  isplitl [HS2]
  · iexists a2; isplitr; swap
    · iexact HS2
    · ipureintro; intro s h; exact absurd h (Nat.succ_ne_zero _)
  isplitl [HT0]
  · iexact HT0
  isplitl [HT1]
  · iexact HT1
  iexact HT2

/-- At the last point the scratches are given back. -/
theorem phiN_exit (c : Dev nD) : (dats m ρ hok 0 c).Φ (Fin.last (cfgA m hok).N) ⊢ iprop(BI.emp ∗ Pipeline.scopedRest spec0 c) := by
  rw [scopedRest0_eq, show (dats m ρ hok 0 c).Φ (Fin.last (cfgA m hok).N) = Phi m ρ hok c (Fin.last _) from rfl]
  unfold Phi
  iintro ⟨⟨%a0, -, HS0⟩, ⟨%a1, -, HS1⟩, ⟨%a2, -, HS2⟩, -, -, -⟩
  isplitr; · iempintro
  isplitl [HS0]
  · iexists a0; iexact HS0
  isplitl [HS1]
  · iexists a1; iexact HS1
  iexists a2; iexact HS2

/-- The final memory: every array as the pipeline computes it, every table as it was. -/
def QC : PUnit × MemSt nD τ sig (Elt Ideal) → Prop := fun r =>
  ∀ c : Dev nD, (∀ w : Fin (cfgA m hok).W, r.2.mem (((cfgA m hok).win w).arr.view.loc (c : Thread nD τ)) = (dats m ρ hok 0 c).arrAt w (cfgA m hok).N)
    ∧ ∀ j, r.2.mem ((c : Thread nD τ).loc (pre0.ref j)) = (adm m hok).1 j

theorem V_pre (c : Dev nD) (j : Fin 3) : m ((c : Thread nD τ).loc (pre0.ref j)) = (adm m hok).1 j := by
  obtain rfl : c = c0 := Subsingleton.elim _ _
  fin_cases j <;> rfl

set_option backward.isDefEq.respectTransparency.types false in
set_option maxHeartbeats 4000000 in
/-- From any memory with in-range tables and zero counters, every weakly fair execution terminates with the arrays as
    computed and every counter at zero. -/
theorem run_main_quiescent : θ_run (defs (F := Ideal)) (onTc (τ := τ) (main (F := Ideal))) (s₀ m ρ) (fun r => QC m ρ hok r ∧ r.2.sem = fun _ => 0) :=
  Pipeline.θ_run_region_noSem_pf_quiescent pcfgs (fun _ => adm m hok) (dats m ρ hok) () ((launch0 (F := Ideal)).cellOf_inj fun _ => adm m hok) (0 : Fin 1)
    (launch0 (F := Ideal)).win.to₀ (launch0 (F := Ideal)).pre EP defs₀ Variants.none m ρ main
    (hbody := fun c => (body_obligation m ρ hok c).loose) (hne := (launch0 (F := Ideal)).block_pos)
    (harr := (launch0 (F := Ideal)).arr_whole) (hstage := (launch0 (F := Ideal)).stage_whole) (howed := fun _ _ => rfl)
    (u₀ := u₀ m hok) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m hok) (dats m ρ hok) 0 (launch0 (F := Ideal)).win.arr_inj c (launch0 (F := Ideal)).arr_whole
      (share_eq m ρ hok c) _ _ fun _ => rfl)
    (hpf := V_pre m hok)
    (X := fun _ => iprop(emp)) (Y := fun _ => iprop(emp)) (Z := fun _ => iprop(emp))
    (hX := fun c => by rw [unscopedRestP0_eq]; iintro -; isplitr <;> iempintro)
    (hin := phi0_intro m ρ hok)
    (hout := phiN_exit m ρ hok)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The run with its result array and its arguments. -/
theorem run_value :
    θ_run (defs (F := Ideal)) (onTc (τ := τ) (main (F := Ideal))) ⟨m, fun _ => 0, ρ⟩ (fun r => (∀ c : Dev nD,
      r.2.mem ((c.tc : Thread nD τ).loc main_v0) = (dats m ρ hok 0 c).arrAt (4 : Fin 5) (cfgA m hok).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(h.1 c).1 (4 : Fin 5),
    ((h.1 c).2 0).trans (V_pre m hok c 0).symm, ((h.1 c).2 1).trans (V_pre m hok c 1).symm, ((h.1 c).2 2).trans (V_pre m hok c 2).symm,
    ((h.1 c).1 (0 : Fin 5)).trans ((dats m ρ hok 0 c).arrAt_in (0 : Fin 5) rfl _), ((h.1 c).1 (1 : Fin 5)).trans ((dats m ρ hok 0 c).arrAt_in (1 : Fin 5) rfl _),
    ((h.1 c).1 (2 : Fin 5)).trans ((dats m ρ hok 0 c).arrAt_in (2 : Fin 5) rfl _), ((h.1 c).1 (3 : Fin 5)).trans ((dats m ρ hok 0 c).arrAt_in (3 : Fin 5) rfl _)⟩, h.2⟩) (run_main_quiescent m ρ hok)

/-! ## The tables' ranges, from the precondition -/

theorem range_of (v : BitVec 32) (k : ℕ) (hk : k < 2 ^ 31) (h : Scalar.andi (Scalar.cmpi .sge v 0#32) (Scalar.cmpi .slt v (BitVec.ofNat 32 k)) = 1#1) : v.toNat < k := by
  have e : (BitVec.ofNat 32 k).toInt = k := by
    rw [BitVec.toInt_eq_toNat_of_lt (by rw [BitVec.toNat_ofNat]; omega), BitVec.toNat_ofNat]
    omega
  have sp : ∀ a b : BitVec 1, Scalar.andi a b = 1#1 → a = 1#1 ∧ b = 1#1 := by decide
  have ob : ∀ b : Bool, BitVec.ofBool b = 1#1 → b = true := by decide
  have h0 : (0#32).toInt ≤ v.toInt := of_decide_eq_true (ob _ (sp _ _ h).1)
  have h1 : v.toInt < (BitVec.ofNat 32 k).toInt := of_decide_eq_true (ob _ (sp _ _ h).2)
  rw [e] at h1
  rw [BitVec.toInt_zero] at h0
  rw [BitVec.toInt_eq_toNat_cond] at h0 h1
  have := v.isLt
  split at h0 <;> omega

set_option backward.proofsInPublic true in
/-- The tables are in range. -/
theorem ranges (hp : Cert.Pre_ExpertsIdeal m) (x : S192.Idx) : (T0 m x).toNat < 32 ∧ (T1 m x).toNat < 192 := by
  have h := congrFun (hp c0) x
  have h' : Scalar.andi (Scalar.andi (Scalar.cmpi .sge (T0 m x) 0#32) (Scalar.cmpi .slt (T0 m x) (BitVec.ofNat 32 32)))
      (Scalar.andi (Scalar.cmpi .sge (T1 m x) 0#32) (Scalar.cmpi .slt (T1 m x) (BitVec.ofNat 32 192))) = 1#1 := h
  have sp : ∀ a b : BitVec 1, Scalar.andi a b = 1#1 → a = 1#1 ∧ b = 1#1 := by decide
  obtain ⟨ha, hb⟩ := sp _ _ h'
  exact ⟨range_of _ 32 (by decide) ha, range_of _ 192 (by decide) hb⟩

/-- The launch's side condition on the tables. -/
theorem ok_of_pre (hp : Cert.Pre_ExpertsIdeal m) : ok0 (F := Ideal) (pf m) := by
  have hr := ranges m hp
  refine ⟨fun i => ⟨fun a => ?_, .inl rfl⟩, fun i => ⟨fun a => ?_, .inl rfl⟩, fun i => ⟨fun a => ?_, .inl rfl⟩, fun i => ⟨fun a => ?_, .inl rfl⟩⟩
  · rw [tr0]
    have := (hr (eI i)).2
    match a with
    | ⟨0, _⟩ => show ((T1 m (eI i)).toNat + 1) * 4096 ≤ 786432; omega
    | ⟨1, _⟩ => show (0 + 1) * 128 ≤ 128; omega
  · rw [tr1]
    have := (hr (eI i)).1
    match a with
    | ⟨0, _⟩ => show (0 + 1) * 1 ≤ 2; omega
    | ⟨1, _⟩ => show ((T0 m (eI i)).toNat + 1) * 1 ≤ 32; omega
    | ⟨2, _⟩ => show (0 + 1) * 2048 ≤ 2048; omega
    | ⟨3, _⟩ => show (0 + 1) * 512 ≤ 512; omega
  · rw [tr2]
    have := (hr (eI i)).1
    match a with
    | ⟨0, _⟩ => show (0 + 1) * 1 ≤ 2; omega
    | ⟨1, _⟩ => show ((T0 m (eI i)).toNat + 1) * 1 ≤ 32; omega
    | ⟨2, _⟩ => show (0 + 1) * 2048 ≤ 2048; omega
    | ⟨3, _⟩ => show (0 + 1) * 512 ≤ 512; omega
  · rw [tr3]
    have := (hr (eI i)).1
    match a with
    | ⟨0, _⟩ => show (0 + 1) * 1 ≤ 2; omega
    | ⟨1, _⟩ => show ((T0 m (eI i)).toNat + 1) * 1 ≤ 32; omega
    | ⟨2, _⟩ => show (0 + 1) * 512 ≤ 512; omega
    | ⟨3, _⟩ => show (0 + 1) * 2048 ≤ 2048; omega

/-- The frame: with the tables in range every execution terminates without a fault, leaves every argument as it was and
    every semaphore at zero. -/
theorem frame_claim : Cert.quiescent_ExpertsIdeal := fun m g hp =>
  (θ_run defs _ _).mono (fun _ h => ⟨fun c => (h.1 c).2, h.2⟩) (run_value m g (ok_of_pre m hp))

end Cert.ExpertsIdeal.Hand

end
-- ==== Proof.OutprojIdealFrame.lean ====
module

public import proofs.«01_k».proof.Proof.Gen.OutprojIdeal.Frame
public import proofs.«01_k».proof.Proof.Gen.OutprojIdeal.Skeleton
public import Idealize.ShloMosaic.Lib.Claim
public import Idealize.ShloMosaic.Lib.Writes
public import Idealize.ShloMosaic.Lib.Exec
public import Idealize.ShloMosaic.Lib.Pipeline.Kit

@[expose] public section

set_option maxRecDepth 16384
set_option Elab.async false

noncomputable section

namespace Cert.OutprojIdeal.Hand

open Cert.OutprojIdeal Cert.OutprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a point stores, as a function of its blocks -/

abbrev q0 : Rect S512x2048 := Rect.unit (s := S512x2048) ![0, 0] S256x2048.size inb_S512x2048_S256x2048_0_0
abbrev q1 : Rect S512x512 := Rect.unit (s := S512x512) ![0, 0] S256x512.size inb_S512x512_S256x512_0_0
abbrev q2 : Rect S2048x2048 := Rect.unit (s := S2048x2048) ![0, 0] S512x2048.size inb_S2048x2048_S512x2048_0_0
abbrev q3 : Rect S512x1024 := Rect.unit (s := S512x1024) ![0, 0] S256x1024.size inb_S512x1024_S256x1024_0_0
abbrev q4 : Rect S2048x2048 := Rect.unit (s := S2048x2048) ![512, 0] S1024x2048.size inb_S2048x2048_S1024x2048_512_0
abbrev q5 : Rect S2048x2048 := Rect.unit (s := S2048x2048) ![1536, 0] S512x2048.size inb_S2048x2048_S512x2048_1536_0
abbrev q6 : Rect S1x1x1x2048 := Rect.unit (s := S1x1x1x2048) ![0, 0, 0, 0] S1x1x1x2048.size inb_S1x1x1x2048_S1x1x1x2048_0_0_0_0
abbrev q7 : Rect S1x2048 := Rect.unit (s := S1x2048) ![0, 0] S1x2048.size inb_S1x2048_S1x2048_0_0
abbrev q8 : Rect S2048x128 := Rect.unit (s := S2048x128) ![0, 0] S2048x128.size inb_S2048x128_S2048x128_0_0
abbrev q9 : Rect S1x128 := Rect.unit (s := S1x128) ![0, 0] S1x128.size inb_S1x128_S1x128_0_0
abbrev q10 : Rect S512x128 := Rect.unit (s := S512x128) ![0, 0] S256x128.size inb_S512x128_S256x128_0_0
abbrev q11 : Rect S512x2048 := Rect.unit (s := S512x2048) ![256, 0] S256x2048.size inb_S512x2048_S256x2048_256_0
abbrev q12 : Rect S512x512 := Rect.unit (s := S512x512) ![256, 0] S256x512.size inb_S512x512_S256x512_256_0
abbrev q13 : Rect S512x1024 := Rect.unit (s := S512x1024) ![256, 0] S256x1024.size inb_S512x1024_S256x1024_256_0
abbrev q14 : Rect S512x128 := Rect.unit (s := S512x128) ![256, 0] S256x128.size inb_S512x128_S256x128_256_0

/-- What a point computes from its coordinates and its thirteen input blocks. -/
abbrev Of (F : FTy → Type) (α : Type) : Type :=
  grid0.Coords → Vec F S512x2048 .f32 → Vec F S512x2048 .f32 → Vec F S512x512 .bf16 → Vec F S512x1024 .bf16 → Vec F S512x512 .bf16 → Vec F S512x512 .bf16 → Vec F S2048x2048 .bf16 → Vec F S1x1x1x2048 .f32 → Vec F S1x2048 .f32 → Vec F S1x1x1x2048 .f32 → Vec F S1x1x1x2048 .f32 → Vec F S2048x128 .bf16 → Vec F S1x128 .f32 → α

def b_v22 : Of F (FVec F S256x2048 .f32) := fun i x0 x1 x2 x3 x4 x5 x6 x7 x8 x9 x10 x11 x12 =>
  k0_pay2 i (View.ld x0 q0) (View.ld x1 q0) (View.ld x4 q1) (View.ld x5 q1) (View.ld x2 q1) (View.ld x6 q2) (View.ld x3 q3) (View.ld x6 q4) (View.ld x6 q5) (View.ld x7 q6)
def b_v25 : Of F (FVec F S256x2048 .f32) := fun i x0 x1 x2 x3 x4 x5 x6 x7 x8 x9 x10 x11 x12 =>
  k0_pay3 i (View.ld x0 q0) (View.ld x1 q0) (View.ld x4 q1) (View.ld x5 q1) (View.ld x2 q1) (View.ld x6 q2) (View.ld x3 q3) (View.ld x6 q4) (View.ld x6 q5) (View.ld x7 q6)
def b_v46 : Of F (FVec F S256x2048 .f32) := fun i x0 x1 x2 x3 x4 x5 x6 x7 x8 x9 x10 x11 x12 =>
  k0_pay4 (b_v22 i x0 x1 x2 x3 x4 x5 x6 x7 x8 x9 x10 x11 x12) (View.ld x8 q7) (b_v25 i x0 x1 x2 x3 x4 x5 x6 x7 x8 x9 x10 x11 x12) (View.ld x9 q6) (View.ld x10 q6)
def b_v49_lo : Of F (FVec F S256x1024 .bf16) := fun i x0 x1 x2 x3 x4 x5 x6 x7 x8 x9 x10 x11 x12 =>
  k0_pay5 (b_v22 i x0 x1 x2 x3 x4 x5 x6 x7 x8 x9 x10 x11 x12) (View.ld x8 q7) (b_v25 i x0 x1 x2 x3 x4 x5 x6 x7 x8 x9 x10 x11 x12) (View.ld x9 q6) (View.ld x10 q6)
def b_v49_hi : Of F (FVec F S256x1024 .bf16) := fun i x0 x1 x2 x3 x4 x5 x6 x7 x8 x9 x10 x11 x12 =>
  k0_pay6 (b_v22 i x0 x1 x2 x3 x4 x5 x6 x7 x8 x9 x10 x11 x12) (View.ld x8 q7) (b_v25 i x0 x1 x2 x3 x4 x5 x6 x7 x8 x9 x10 x11 x12) (View.ld x9 q6) (View.ld x10 q6)
def b_v56_lo : Of F (FVec F S256x128 .bf16) := fun i x0 x1 x2 x3 x4 x5 x6 x7 x8 x9 x10 x11 x12 =>
  k0_pay9 (b_v22 i x0 x1 x2 x3 x4 x5 x6 x7 x8 x9 x10 x11 x12) (View.ld x8 q7) (b_v25 i x0 x1 x2 x3 x4 x5 x6 x7 x8 x9 x10 x11 x12) (View.ld x9 q6) (View.ld x10 q6)
def b_v56_hi : Of F (FVec F S256x128 .bf16) := fun i x0 x1 x2 x3 x4 x5 x6 x7 x8 x9 x10 x11 x12 =>
  k0_pay10 (b_v22 i x0 x1 x2 x3 x4 x5 x6 x7 x8 x9 x10 x11 x12) (View.ld x8 q7) (b_v25 i x0 x1 x2 x3 x4 x5 x6 x7 x8 x9 x10 x11 x12) (View.ld x9 q6) (View.ld x10 q6)
def b_v79 : Of F (FVec F S256x128 .f32) := fun i x0 x1 x2 x3 x4 x5 x6 x7 x8 x9 x10 x11 x12 =>
  k0_pay17 (b_v46 i x0 x1 x2 x3 x4 x5 x6 x7 x8 x9 x10 x11 x12) (View.ld x11 q8) (View.ld x12 q9)
def b_v103 : Of F (FVec F S256x2048 .f32) := fun i x0 x1 x2 x3 x4 x5 x6 x7 x8 x9 x10 x11 x12 =>
  k0_pay18 (BitVec.ofNat 32 (i 0).val) (View.ld x0 q11) (View.ld x1 q11) (View.ld x4 q12) (View.ld x5 q12) (View.ld x2 q12) (View.ld x6 q2) (View.ld x3 q13) (View.ld x6 q4) (View.ld x6 q5) (View.ld x7 q6)
def b_v127 : Of F (FVec F S256x2048 .f32) := fun i x0 x1 x2 x3 x4 x5 x6 x7 x8 x9 x10 x11 x12 =>
  k0_pay19 (b_v103 i x0 x1 x2 x3 x4 x5 x6 x7 x8 x9 x10 x11 x12) (View.ld x8 q7) (View.ld x9 q6) (View.ld x10 q6)
def b_v130_lo : Of F (FVec F S256x1024 .bf16) := fun i x0 x1 x2 x3 x4 x5 x6 x7 x8 x9 x10 x11 x12 =>
  k0_pay20 (b_v103 i x0 x1 x2 x3 x4 x5 x6 x7 x8 x9 x10 x11 x12) (View.ld x8 q7) (View.ld x9 q6) (View.ld x10 q6)
def b_v130_hi : Of F (FVec F S256x1024 .bf16) := fun i x0 x1 x2 x3 x4 x5 x6 x7 x8 x9 x10 x11 x12 =>
  k0_pay21 (b_v103 i x0 x1 x2 x3 x4 x5 x6 x7 x8 x9 x10 x11 x12) (View.ld x8 q7) (View.ld x9 q6) (View.ld x10 q6)
def b_v137_lo : Of F (FVec F S256x128 .bf16) := fun i x0 x1 x2 x3 x4 x5 x6 x7 x8 x9 x10 x11 x12 =>
  k0_pay24 (b_v103 i x0 x1 x2 x3 x4 x5 x6 x7 x8 x9 x10 x11 x12) (View.ld x8 q7) (View.ld x9 q6) (View.ld x10 q6)
def b_v137_hi : Of F (FVec F S256x128 .bf16) := fun i x0 x1 x2 x3 x4 x5 x6 x7 x8 x9 x10 x11 x12 =>
  k0_pay25 (b_v103 i x0 x1 x2 x3 x4 x5 x6 x7 x8 x9 x10 x11 x12) (View.ld x8 q7) (View.ld x9 q6) (View.ld x10 q6)
def b_v157 : Of F (FVec F S256x128 .f32) := fun i x0 x1 x2 x3 x4 x5 x6 x7 x8 x9 x10 x11 x12 =>
  k0_pay32 (b_v127 i x0 x1 x2 x3 x4 x5 x6 x7 x8 x9 x10 x11 x12) (View.ld x11 q8)
def b_v159 : Of F (FVec F S256x128 .f32) := fun i x0 x1 x2 x3 x4 x5 x6 x7 x8 x9 x10 x11 x12 =>
  k0_pay33 (View.ld x12 q9)

/-- The new residual rows of a point: the second half's store, then the first's. -/
def out13 : Of F (Vec F S512x2048 .f32) := fun i x0 x1 x2 x3 x4 x5 x6 x7 x8 x9 x10 x11 x12 =>
  View.canon [⟨q11, (k0_pay18 (BitVec.ofNat 32 (i 0).val) (View.ld x0 q11) (View.ld x1 q11) (View.ld x4 q12) (View.ld x5 q12) (View.ld x2 q12) (View.ld x6 q2) (View.ld x3 q13) (View.ld x6 q4) (View.ld x6 q5) (View.ld x7 q6))⟩,
    ⟨q0, (k0_pay2 i (View.ld x0 q0) (View.ld x1 q0) (View.ld x4 q1) (View.ld x5 q1) (View.ld x2 q1) (View.ld x6 q2) (View.ld x3 q3) (View.ld x6 q4) (View.ld x6 q5) (View.ld x7 q6))⟩]
theorem cover13 (p0 p1 : Vec F S256x2048 .f32) (y : S512x2048.Idx) :
    ∃ pc ∈ ([⟨q11, p0⟩, ⟨q0, p1⟩] : List (View.Piece (Elt F) S512x2048 .f32)), y ∈ pc.1.set :=
  View.cover_of_tiled [⟨q11, p0⟩, ⟨q0, p1⟩] S256x2048.size (by rfl) y

/-- The router logits of a point: the second half's store, then the first's. -/
def out15 : Of F (Vec F S512x128 .f32) := fun i x0 x1 x2 x3 x4 x5 x6 x7 x8 x9 x10 x11 x12 =>
  View.canon [⟨q14, (k0_pay1 (b_v157 i x0 x1 x2 x3 x4 x5 x6 x7 x8 x9 x10 x11 x12) (b_v159 i x0 x1 x2 x3 x4 x5 x6 x7 x8 x9 x10 x11 x12))⟩,
    ⟨q10, (b_v79 i x0 x1 x2 x3 x4 x5 x6 x7 x8 x9 x10 x11 x12)⟩]
theorem cover15 (p0 p1 : Vec F S256x128 .f32) (y : S512x128.Idx) :
    ∃ pc ∈ ([⟨q14, p0⟩, ⟨q10, p1⟩] : List (View.Piece (Elt F) S512x128 .f32)), y ∈ pc.1.set :=
  View.cover_of_tiled [⟨q14, p0⟩, ⟨q10, p1⟩] S256x128.size (by rfl) y

/-- The sixteen strided stores of the packed rows, last first. -/
def hList (p0 p1 p2 p3 p4 p5 p6 p7 p8 p9 p10 p11 p12 p13 p14 p15 : Vec F S256x2x128 .bf16) : List (View.Piece (Elt F) S4096x2x128 .bf16) :=
  [⟨⟨(⟨![2055, 0, 0], S256x2x128.size, ![8, 1, 1], inb_S4096x2x128_S256x2x128_2055_0_0_s_8_1_1⟩ : LoadRect S4096x2x128), spos_8_1_1⟩, p0⟩,
   ⟨⟨(⟨![2054, 0, 0], S256x2x128.size, ![8, 1, 1], inb_S4096x2x128_S256x2x128_2054_0_0_s_8_1_1⟩ : LoadRect S4096x2x128), spos_8_1_1⟩, p1⟩,
   ⟨⟨(⟨![2053, 0, 0], S256x2x128.size, ![8, 1, 1], inb_S4096x2x128_S256x2x128_2053_0_0_s_8_1_1⟩ : LoadRect S4096x2x128), spos_8_1_1⟩, p2⟩,
   ⟨⟨(⟨![2052, 0, 0], S256x2x128.size, ![8, 1, 1], inb_S4096x2x128_S256x2x128_2052_0_0_s_8_1_1⟩ : LoadRect S4096x2x128), spos_8_1_1⟩, p3⟩,
   ⟨⟨(⟨![2051, 0, 0], S256x2x128.size, ![8, 1, 1], inb_S4096x2x128_S256x2x128_2051_0_0_s_8_1_1⟩ : LoadRect S4096x2x128), spos_8_1_1⟩, p4⟩,
   ⟨⟨(⟨![2050, 0, 0], S256x2x128.size, ![8, 1, 1], inb_S4096x2x128_S256x2x128_2050_0_0_s_8_1_1⟩ : LoadRect S4096x2x128), spos_8_1_1⟩, p5⟩,
   ⟨⟨(⟨![2049, 0, 0], S256x2x128.size, ![8, 1, 1], inb_S4096x2x128_S256x2x128_2049_0_0_s_8_1_1⟩ : LoadRect S4096x2x128), spos_8_1_1⟩, p6⟩,
   ⟨⟨(⟨![2048, 0, 0], S256x2x128.size, ![8, 1, 1], inb_S4096x2x128_S256x2x128_2048_0_0_s_8_1_1⟩ : LoadRect S4096x2x128), spos_8_1_1⟩, p7⟩,
   ⟨⟨(⟨![7, 0, 0], S256x2x128.size, ![8, 1, 1], inb_S4096x2x128_S256x2x128_7_0_0_s_8_1_1⟩ : LoadRect S4096x2x128), spos_8_1_1⟩, p8⟩,
   ⟨⟨(⟨![6, 0, 0], S256x2x128.size, ![8, 1, 1], inb_S4096x2x128_S256x2x128_6_0_0_s_8_1_1⟩ : LoadRect S4096x2x128), spos_8_1_1⟩, p9⟩,
   ⟨⟨(⟨![5, 0, 0], S256x2x128.size, ![8, 1, 1], inb_S4096x2x128_S256x2x128_5_0_0_s_8_1_1⟩ : LoadRect S4096x2x128), spos_8_1_1⟩, p10⟩,
   ⟨⟨(⟨![4, 0, 0], S256x2x128.size, ![8, 1, 1], inb_S4096x2x128_S256x2x128_4_0_0_s_8_1_1⟩ : LoadRect S4096x2x128), spos_8_1_1⟩, p11⟩,
   ⟨⟨(⟨![3, 0, 0], S256x2x128.size, ![8, 1, 1], inb_S4096x2x128_S256x2x128_3_0_0_s_8_1_1⟩ : LoadRect S4096x2x128), spos_8_1_1⟩, p12⟩,
   ⟨⟨(⟨![2, 0, 0], S256x2x128.size, ![8, 1, 1], inb_S4096x2x128_S256x2x128_2_0_0_s_8_1_1⟩ : LoadRect S4096x2x128), spos_8_1_1⟩, p13⟩,
   ⟨⟨(⟨![1, 0, 0], S256x2x128.size, ![8, 1, 1], inb_S4096x2x128_S256x2x128_1_0_0_s_8_1_1⟩ : LoadRect S4096x2x128), spos_8_1_1⟩, p14⟩,
   ⟨⟨(⟨![0, 0, 0], S256x2x128.size, ![8, 1, 1], inb_S4096x2x128_S256x2x128_0_0_0_s_8_1_1⟩ : LoadRect S4096x2x128), spos_8_1_1⟩, p15⟩]

/-- They cover the block: pair row `q` is written by the store of half `q / 2048` and step `q % 8`. -/
theorem hList_cover (p0 p1 p2 p3 p4 p5 p6 p7 p8 p9 p10 p11 p12 p13 p14 p15 : Vec F S256x2x128 .bf16) (y : S4096x2x128.Idx) : ∃ p ∈ hList p0 p1 p2 p3 p4 p5 p6 p7 p8 p9 p10 p11 p12 p13 p14 p15, y ∈ p.1.set := by
  have h0 : (y 0).val < 4096 := (y 0).isLt
  have h1 : (y 1).val < 2 := (y 1).isLt
  have h2 : (y 2).val < 128 := (y 2).isLt
  have key : ∀ (p : View.Piece (Elt F) S4096x2x128 .bf16) (b s : ℕ), p.1.off = ![b + s, 0, 0] → p.1.size = S256x2x128.size → p.1.stride = ![8, 1, 1] →
      b ≤ (y 0).val → (y 0).val < b + 2048 → b % 8 = 0 → (y 0).val % 8 = s → y ∈ p.1.set := by
    intro p b s ho hz hs hb1 hb2 hb hm
    refine p.1.mem_set.mpr fun a => ?_
    rw [ho, hz, hs]
    fin_cases a
    · exact ⟨((y 0).val - b) / 8, show ((y 0).val - b) / 8 < 256 by omega, by show (y 0).val = ![b + s, 0, 0] 0 + ![8, 1, 1] 0 * (((y 0).val - b) / 8); simp only [Matrix.cons_val_zero]; omega⟩
    · exact ⟨(y 1).val, h1, by show (y 1).val = ![b + s, 0, 0] 1 + ![8, 1, 1] 1 * (y 1).val; simp⟩
    · exact ⟨(y 2).val, h2, by show (y 2).val = ![b + s, 0, 0] 2 + ![8, 1, 1] 2 * (y 2).val; simp⟩
  have hc : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
  rcases Nat.lt_or_ge (y 0).val 2048 with hb | hb
  · rcases hc with h | h | h | h | h | h | h | h
    · exact ⟨_, .tail _ (.tail _ (.tail _ (.tail _ (.tail _ (.tail _ (.tail _ (.tail _ (.tail _ (.tail _ (.tail _ (.tail _ (.tail _ (.tail _ (.tail _ (.head _))))))))))))))), key _ 0 0 rfl rfl rfl (by omega) (by omega) rfl h⟩
    · exact ⟨_, .tail _ (.tail _ (.tail _ (.tail _ (.tail _ (.tail _ (.tail _ (.tail _ (.tail _ (.tail _ (.tail _ (.tail _ (.tail _ (.tail _ (.head _)))))))))))))), key _ 0 1 rfl rfl rfl (by omega) (by omega) rfl h⟩
    · exact ⟨_, .tail _ (.tail _ (.tail _ (.tail _ (.tail _ (.tail _ (.tail _ (.tail _ (.tail _ (.tail _ (.tail _ (.tail _ (.tail _ (.head _))))))))))))), key _ 0 2 rfl rfl rfl (by omega) (by omega) rfl h⟩
    · exact ⟨_, .tail _ (.tail _ (.tail _ (.tail _ (.tail _ (.tail _ (.tail _ (.tail _ (.tail _ (.tail _ (.tail _ (.tail _ (.head _)))))))))))), key _ 0 3 rfl rfl rfl (by omega) (by omega) rfl h⟩
    · exact ⟨_, .tail _ (.tail _ (.tail _ (.tail _ (.tail _ (.tail _ (.tail _ (.tail _ (.tail _ (.tail _ (.tail _ (.head _))))))))))), key _ 0 4 rfl rfl rfl (by omega) (by omega) rfl h⟩
    · exact ⟨_, .tail _ (.tail _ (.tail _ (.tail _ (.tail _ (.tail _ (.tail _ (.tail _ (.tail _ (.tail _ (.head _)))))))))), key _ 0 5 rfl rfl rfl (by omega) (by omega) rfl h⟩
    · exact ⟨_, .tail _ (.tail _ (.tail _ (.tail _ (.tail _ (.tail _ (.tail _ (.tail _ (.tail _ (.head _))))))))), key _ 0 6 rfl rfl rfl (by omega) (by omega) rfl h⟩
    · exact ⟨_, .tail _ (.tail _ (.tail _ (.tail _ (.tail _ (.tail _ (.tail _ (.tail _ (.head _)))))))), key _ 0 7 rfl rfl rfl (by omega) (by omega) rfl h⟩
  · rcases hc with h | h | h | h | h | h | h | h
    · exact ⟨_, .tail _ (.tail _ (.tail _ (.tail _ (.tail _ (.tail _ (.tail _ (.head _))))))), key _ 2048 0 rfl rfl rfl hb (by omega) rfl h⟩
    · exact ⟨_, .tail _ (.tail _ (.tail _ (.tail _ (.tail _ (.tail _ (.head _)))))), key _ 2048 1 rfl rfl rfl hb (by omega) rfl h⟩
    · exact ⟨_, .tail _ (.tail _ (.tail _ (.tail _ (.tail _ (.head _))))), key _ 2048 2 rfl rfl rfl hb (by omega) rfl h⟩
    · exact ⟨_, .tail _ (.tail _ (.tail _ (.tail _ (.head _)))), key _ 2048 3 rfl rfl rfl hb (by omega) rfl h⟩
    · exact ⟨_, .tail _ (.tail _ (.tail _ (.head _))), key _ 2048 4 rfl rfl rfl hb (by omega) rfl h⟩
    · exact ⟨_, .tail _ (.tail _ (.head _)), key _ 2048 5 rfl rfl rfl hb (by omega) rfl h⟩
    · exact ⟨_, .tail _ (.head _), key _ 2048 6 rfl rfl rfl hb (by omega) rfl h⟩
    · exact ⟨_, .head _, key _ 2048 7 rfl rfl rfl hb (by omega) rfl h⟩

/-- The packed block's row pair of a flat row. -/
def sq : S8192x128.Idx → S4096x2x128.Idx := fun y => (Shape.reshapeEquiv reshapes_S8192x128_S4096x2x128.1).symm y

/-- The packed block, read after the sixteen stores. -/
theorem read_hList (a : Memref sig .tc .vmem S8192x128 .bf16) (h : a.IsWhole) (f) (p0 p1 p2 p3 p4 p5 p6 p7 p8 p9 p10 p11 p12 p13 p14 p15 : Vec F S256x2x128 .bf16) :
    a.view.read (Elt F) ((a.reshape S4096x2x128 reshapes_S8192x128_S4096x2x128.1 reshapes_S8192x128_S4096x2x128.2 h.contiguous).view.writes (Elt F) f (hList p0 p1 p2 p3 p4 p5 p6 p7 p8 p9 p10 p11 p12 p13 p14 p15)) = fun y => View.canon (hList p0 p1 p2 p3 p4 p5 p6 p7 p8 p9 p10 p11 p12 p13 p14 p15) (sq y) := by
  funext y
  have h' := View.read_writes_apply_eq_canon (a.reshape S4096x2x128 reshapes_S8192x128_S4096x2x128.1 reshapes_S8192x128_S4096x2x128.2 h.contiguous).view f (sq y) (hList p0 p1 p2 p3 p4 p5 p6 p7 p8 p9 p10 p11 p12 p13 p14 p15) (hList_cover p0 p1 p2 p3 p4 p5 p6 p7 p8 p9 p10 p11 p12 p13 p14 p15 _)
  rw [← h']
  show _ = a.view.read (Elt F) _ (Shape.reshapeEquiv reshapes_S8192x128_S4096x2x128.1 (sq y))
  unfold sq
  rw [Equiv.apply_symm_apply]

/-- The packed rows of a point. -/
def out14 : Of F (Vec F S8192x128 .bf16) := fun i x0 x1 x2 x3 x4 x5 x6 x7 x8 x9 x10 x11 x12 =>
  fun y => View.canon (hList ((k0_pay31 (b_v130_lo i x0 x1 x2 x3 x4 x5 x6 x7 x8 x9 x10 x11 x12) (b_v130_hi i x0 x1 x2 x3 x4 x5 x6 x7 x8 x9 x10 x11 x12))) ((k0_pay30 (b_v130_lo i x0 x1 x2 x3 x4 x5 x6 x7 x8 x9 x10 x11 x12) (b_v130_hi i x0 x1 x2 x3 x4 x5 x6 x7 x8 x9 x10 x11 x12))) ((k0_pay29 (b_v130_lo i x0 x1 x2 x3 x4 x5 x6 x7 x8 x9 x10 x11 x12) (b_v130_hi i x0 x1 x2 x3 x4 x5 x6 x7 x8 x9 x10 x11 x12))) ((k0_pay28 (b_v130_lo i x0 x1 x2 x3 x4 x5 x6 x7 x8 x9 x10 x11 x12) (b_v130_hi i x0 x1 x2 x3 x4 x5 x6 x7 x8 x9 x10 x11 x12))) ((k0_pay27 (b_v130_lo i x0 x1 x2 x3 x4 x5 x6 x7 x8 x9 x10 x11 x12) (b_v130_hi i x0 x1 x2 x3 x4 x5 x6 x7 x8 x9 x10 x11 x12))) ((k0_pay26 (b_v137_lo i x0 x1 x2 x3 x4 x5 x6 x7 x8 x9 x10 x11 x12) (b_v137_hi i x0 x1 x2 x3 x4 x5 x6 x7 x8 x9 x10 x11 x12))) ((k0_pay23 (b_v103 i x0 x1 x2 x3 x4 x5 x6 x7 x8 x9 x10 x11 x12) (View.ld x8 q7) (View.ld x9 q6) (View.ld x10 q6))) ((k0_pay22 (b_v103 i x0 x1 x2 x3 x4 x5 x6 x7 x8 x9 x10 x11 x12) (View.ld x8 q7) (View.ld x9 q6) (View.ld x10 q6))) ((k0_pay16 (b_v49_lo i x0 x1 x2 x3 x4 x5 x6 x7 x8 x9 x10 x11 x12) (b_v49_hi i x0 x1 x2 x3 x4 x5 x6 x7 x8 x9 x10 x11 x12))) ((k0_pay15 (b_v49_lo i x0 x1 x2 x3 x4 x5 x6 x7 x8 x9 x10 x11 x12) (b_v49_hi i x0 x1 x2 x3 x4 x5 x6 x7 x8 x9 x10 x11 x12))) ((k0_pay14 (b_v49_lo i x0 x1 x2 x3 x4 x5 x6 x7 x8 x9 x10 x11 x12) (b_v49_hi i x0 x1 x2 x3 x4 x5 x6 x7 x8 x9 x10 x11 x12))) ((k0_pay13 (b_v49_lo i x0 x1 x2 x3 x4 x5 x6 x7 x8 x9 x10 x11 x12) (b_v49_hi i x0 x1 x2 x3 x4 x5 x6 x7 x8 x9 x10 x11 x12))) ((k0_pay12 (b_v49_lo i x0 x1 x2 x3 x4 x5 x6 x7 x8 x9 x10 x11 x12) (b_v49_hi i x0 x1 x2 x3 x4 x5 x6 x7 x8 x9 x10 x11 x12))) ((k0_pay11 (b_v56_lo i x0 x1 x2 x3 x4 x5 x6 x7 x8 x9 x10 x11 x12) (b_v56_hi i x0 x1 x2 x3 x4 x5 x6 x7 x8 x9 x10 x11 x12))) ((k0_pay8 (b_v22 i x0 x1 x2 x3 x4 x5 x6 x7 x8 x9 x10 x11 x12) (View.ld x8 q7) (b_v25 i x0 x1 x2 x3 x4 x5 x6 x7 x8 x9 x10 x11 x12) (View.ld x9 q6) (View.ld x10 q6))) ((k0_pay7 (b_v22 i x0 x1 x2 x3 x4 x5 x6 x7 x8 x9 x10 x11 x12) (View.ld x8 q7) (b_v25 i x0 x1 x2 x3 x4 x5 x6 x7 x8 x9 x10 x11 x12) (View.ld x9 q6) (View.ld x10 q6)))) (sq y)

/-- The packed output's buffer, seen as row pairs. -/
theorem open_out (c : Dev nD) (a8 : Memref sig .tc .vmem S8192x128 .bf16) (h8 : a8.IsWhole) :
    (iprop(∃ d, owns (c : Thread nD τ) a8 fullShare d) : sProp 𝕄)
      ⊢ iprop(∃ f, (a8.reshape S4096x2x128 reshapes_S8192x128_S4096x2x128.1 reshapes_S8192x128_S4096x2x128.2 h8.contiguous).view.loc (c : Thread nD τ) ↦[(a8.reshape S4096x2x128 reshapes_S8192x128_S4096x2x128.1 reshapes_S8192x128_S4096x2x128.2 h8.contiguous).view.set]{fullShare} f) := by
  rw [Memref.set_view_reshape]
  unfold owns
  iintro ⟨%d, %f, -, H⟩
  iexists f
  iexact H

/-- The packed output's buffer back from its row pairs. -/
theorem close_out (c : Dev nD) (a8 : Memref sig .tc .vmem S8192x128 .bf16) (h8 : a8.IsWhole) (f) :
    (iprop((a8.reshape S4096x2x128 reshapes_S8192x128_S4096x2x128.1 reshapes_S8192x128_S4096x2x128.2 h8.contiguous).view.loc (c : Thread nD τ) ↦[(a8.reshape S4096x2x128 reshapes_S8192x128_S4096x2x128.1 reshapes_S8192x128_S4096x2x128.2 h8.contiguous).view.set]{fullShare} f) : sProp 𝕄)
      ⊢ iprop(a8.view.loc (c : Thread nD τ) ↦[a8.view.set]{fullShare} f) := by
  rw [Memref.set_view_reshape]

/-! ## The body's triple -/

set_option maxHeartbeats 8000000 in
/-- The body on whole staging buffers: the inputs' stay, the three outputs' end at the functions above. -/
theorem sound_kernel (c : Dev nD) (E : Set ℕ) (i : grid0.Coords) (arg1 : Memref sig .tc .vmem S512x2048 .f32) (harg1 : arg1.IsWhole) (arg2 : Memref sig .tc .vmem S512x2048 .f32) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S2048x2048 .bf16) (harg7 : arg7.IsWhole) (arg8 : Memref sig .tc .vmem S1x1x1x2048 .f32) (harg8 : arg8.IsWhole) (arg9 : Memref sig .tc .vmem S1x2048 .f32) (harg9 : arg9.IsWhole) (arg10 : Memref sig .tc .vmem S1x1x1x2048 .f32) (harg10 : arg10.IsWhole) (arg11 : Memref sig .tc .vmem S1x1x1x2048 .f32) (harg11 : arg11.IsWhole) (arg12 : Memref sig .tc .vmem S2048x128 .bf16) (harg12 : arg12.IsWhole) (arg13 : Memref sig .tc .vmem S1x128 .f32) (harg13 : arg13.IsWhole) (arg14 : Memref sig .tc .vmem S512x2048 .f32) (harg14 : arg14.IsWhole) (arg15 : Memref sig .tc .vmem S8192x128 .bf16) (harg15 : arg15.IsWhole) (arg16 : Memref sig .tc .vmem S512x128 .f32) (harg16 : arg16.IsWhole)
    (x0 : Vec F S512x2048 .f32) (x1 : Vec F S512x2048 .f32) (x2 : Vec F S512x512 .bf16) (x3 : Vec F S512x1024 .bf16) (x4 : Vec F S512x512 .bf16) (x5 : Vec F S512x512 .bf16) (x6 : Vec F S2048x2048 .bf16) (x7 : Vec F S1x1x1x2048 .f32) (x8 : Vec F S1x2048 .f32) (x9 : Vec F S1x1x1x2048 .f32) (x10 : Vec F S1x1x1x2048 .f32) (x11 : Vec F S2048x128 .bf16) (x12 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ f, (arg15.reshape S4096x2x128 reshapes_S8192x128_S4096x2x128.1 reshapes_S8192x128_S4096x2x128.2 harg15.contiguous).view.loc (c : Thread nD τ) ↦[(arg15.reshape S4096x2x128 reshapes_S8192x128_S4096x2x128.1 reshapes_S8192x128_S4096x2x128.2 harg15.contiguous).view.set]{fullShare} f) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out13 i x0 x1 x2 x3 x4 x5 x6 x7 x8 x9 x10 x11 x12) ∗ owns (c : Thread nD τ) arg15 fullShare (out14 i x0 x1 x2 x3 x4 x5 x6 x7 x8 x9 x10 x11 x12) ∗ owns (c : Thread nD τ) arg16 fullShare (out15 i x0 x1 x2 x3 x4 x5 x6 x7 x8 x9 x10 x11 x12)) -∗ K ⟨⟩))
      ⊢ wp frame (wpE (defs₀ (F := F)) Variants.none c none) E (cc0_outproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_outproj_eq_skeleton]; unfold cc0_outproj_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, H14⟩, ⟨%d15, %f15, -, H15⟩, Hk⟩
  subst hf0 hf1 hf2 hf3 hf4 hf5 hf6 hf7 hf8 hf9 hf10 hf11 hf12
  sl_exec!
  sl_step
  sl_exec!
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    refine (View.read_writes_eq_canon _ _ _ (cover13 _ _)).trans ?_
    rfl
  isplitl [H14]
  · iexists _; isplitr
    swap; · iapply (close_out c arg15 harg15 _); iexact H14
    ipureintro
    refine (read_hList arg15 harg15 _ _ _ _ _ _ _ _ _ _ _ _ _ _ _ _ _).trans ?_
    rfl
  iexists _; isplitr
  swap; · iexact H15
  ipureintro
  refine (View.read_writes_eq_canon _ _ _ (cover15 _ _)).trans ?_
  rfl

/-! ## The pipeline's data -/

variable (m : (ℓ : Loc nD τ sig) → Buf (Elt F) ℓ) (ρ : Dev nD → PrngReg)

/-- The pipeline's data on core `c`: an input's buffer holds its block at every point, an output's what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out13 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨14, _⟩ => out14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨15, _⟩ => out15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨k + 16, h⟩ => absurd (show k + 16 < 16 from h) (by omega)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = out13 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_14 (c : Dev nD) (t : Fin cfg0.N) : (dats m 0 c).after 14 t = out14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_15 (c : Dev nD) (t : Fin cfg0.N) : (dats m 0 c).after 15 t = out15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c Set.univ (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iapply open_out c (st0_14 t) (hstage0_14 ((cfg0.slots t 14).cast nbuf0_14)); iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch: every array at what the pipeline's data say, every other buffer as found, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- Every run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) (run_main m ρ)) ((θ_run defs _ _).mono (fun _ h => h.2) (run_main_quiescent m ρ))

end Cert.OutprojIdeal.Hand

end
-- ==== Proof.MixIdealConv.lean ====
module

public import proofs.«01_k».proof.Proof.Gen.MixIdeal.Frame
public import proofs.«01_k».proof.Proof.Gen.MixIdeal.Skeleton
public import Idealize.ShloMosaic.Lib.Claim
public import Idealize.ShloMosaic.Lib.Writes
public import Idealize.ShloMosaic.Lib.WritesUnit
public import Idealize.ShloMosaic.Lib.Exec
public import Idealize.ShloMosaic.Lib.Pipeline.Kit
public import Idealize.ShloMosaic.Lib.Pipeline.ValueKit.Tiles
public import Idealize.ShloMosaic.Lib.ValueLayout

@[expose] public section

set_option maxRecDepth 16384
set_option Elab.async false

noncomputable section

namespace Cert.MixIdeal.Hand

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 shapeCast_1ab_ab_apply broadcastTo_1b_ab_apply)

variable {F : FTy → Type} [FloatOps F]

local notation "𝕄" => MT nD τ sig Unit (Elt F) ℕ (UR sig nD τ) ℕ

/-! ## The convolution, element by element

A tile's rows with fifteen rows before and after stand in a block `E` of 288 rows, the tile's row `j` at row `j + 16`. The tap `k` of row
`j` is the row `j + k + 1`. The kernel adds the taps by their row's place among eight, the order of `taps`. -/

/-- The shape of a tile's rows with the rows around them. -/
abbrev SExt : Shape := ⟨2, ![288, 1024]⟩

/-- The taps in the order the kernel adds them. -/
abbrev taps : List (Fin 31) :=
  [7, 15, 23, 0, 8, 16, 24, 1, 9, 17, 25, 2, 10, 18, 26, 3, 11, 19, 27, 4, 12, 20, 28, 5, 13, 21, 29, 6, 14, 22, 30]

/-- The row the tap `k` reads, for every row of the tile. -/
def rowK (E : Vec F SExt .f32) (k : Fin 31) : FVec F S256x1024 .f32 := fun y =>
  E (ix2 (⟨(y 0).val + k.val + 1, by have h : (y 0).val < 256 := (y 0).isLt; have := k.isLt; show _ < 288; omega⟩ : Fin 288) (y 1))

/-- The tap `k`'s weights, for every row of the tile. -/
def tapK (w : Vec F S31x1024 .f32) (k : Fin 31) : FVec F S256x1024 .f32 := fun y => w (ix2 k (y 1))

/-- The convolution of the tile: the bias, and the taps added to it one by one. -/
def conv (E : Vec F SExt .f32) (w : Vec F S31x1024 .f32) (b : Vec F S1x1024 .f32) : FVec F S256x1024 .f32 :=
  taps.foldl (fun acc k => addf acc (mulf (rowK E k) (tapK w k))) (fun y => b (ix2 (0 : Fin 1) (y 1)))

/-- The eight shifted copies of the block hold it: the copy `r` at row `j` is the block's row `r + j`. -/
def Copies (X : Vec F S8x288x1024 .f32) (E : Vec F SExt .f32) : Prop :=
  ∀ (r : Fin 8) (j : Fin 288) (l : Fin 1024) (h : r.val + j.val < 288), j.val < 280 → X (ix3 r j l) = E (ix2 ⟨r.val + j.val, h⟩ l)

/-- One tap added, at one place. -/
theorem tap_step {n : ℕ} (X : Vec F S8x288x1024 .f32) (E : Vec F SExt .f32) (hX : Copies X E) (w : Vec F S31x1024 .f32)
    (c : ℕ) (t : Fin k0_t1_loop.trips) (k : Fin 31) (o : ℕ) (off : Fin k0_t1_loop.trips → Fin 3 → ℕ)
    (inb) (hsc : (⟨3, ![1, n, 128]⟩ : Shape).ShapeCasts ⟨2, ![n, 128]⟩) (hsl : (⟨2, ![n, 128]⟩ : Shape).Slices ![o, 0] S64x128)
    (kk : ℕ) (inw) (hb : S1x128.Broadcasts S64x128) (acc : FVec F S64x128 .f32) (ACC : FVec F S256x1024 .f32)
    (x : S64x128.Idx) (y : S256x1024.Idx) (hy0 : (y 0).val = 64 * t.val + (x 0).val) (hy1 : (y 1).val = c + (x 1).val)
    (hk : kk = k.val) (hn : o + 64 ≤ n)
    (hoff : ∀ t : Fin k0_t1_loop.trips, off t 0 = (k.val + 1) % 8 ∧ off t 1 + o = 64 * t.val + 8 * ((k.val + 1) / 8) ∧ off t 2 = c)
    (hacc : acc x = ACC y) :
    addf acc (mulf (extractStridedSlice S64x128 ![o, 0] (shapeCast ⟨2, ![n, 128]⟩
        (View.ld X (Rect.unit (s := S8x288x1024) (off t) (⟨3, ![1, n, 128]⟩ : Shape).size inb)) hsc) hsl)
      (broadcastTo S64x128 (View.ld w (Rect.unit (s := S31x1024) ![kk, c] S1x128.size inw)) hb)) x
      = addf ACC (mulf (rowK E k) (tapK w k)) y := by
  obtain ⟨h0, h1, h2⟩ := hoff t
  have hx0 : (x 0).val < 64 := (x 0).isLt
  have hx1 : (x 1).val < 128 := (x 1).isLt
  have ht : t.val < 4 := t.isLt.trans_eq (by decide +kernel)
  have hkk := k.isLt
  have hY1 : (y 1).val < 1024 := (y 1).isLt
  have e1 : extractStridedSlice S64x128 ![o, 0] (shapeCast ⟨2, ![n, 128]⟩
        (View.ld X (Rect.unit (s := S8x288x1024) (off t) (⟨3, ![1, n, 128]⟩ : Shape).size inb)) hsc) hsl x = rowK E k y := by
    refine (extractStridedSlice_apply _ _ hsl x (ix2 (⟨o + (x 0).val, by omega⟩ : Fin n) (⟨(x 1).val, hx1⟩ : Fin 128)) ?_).trans ?_
    · intro a
      match a with
      | ⟨0, _⟩ => rfl
      | ⟨1, _⟩ => exact (Nat.zero_add _).symm
    refine (shapeCast_1ab_ab_apply _ hsc _ _).trans ?_
    refine (View.ld_unit_apply_of _ _ _ _ _ (ix3 (⟨(k.val + 1) % 8, by omega⟩ : Fin 8)
      (⟨64 * t.val + 8 * ((k.val + 1) / 8) + (x 0).val, by omega⟩ : Fin 288) (⟨(y 1).val, hY1⟩ : Fin 1024)) ?_).trans ?_
    · intro a
      match a with
      | ⟨0, _⟩ => show (k.val + 1) % 8 = off t 0 + 0; omega
      | ⟨1, _⟩ => show 64 * t.val + 8 * ((k.val + 1) / 8) + (x 0).val = off t 1 + (o + (x 0).val); omega
      | ⟨2, _⟩ => show (y 1).val = off t 2 + (x 1).val; omega
    have hj : 64 * t.val + 8 * ((k.val + 1) / 8) + (x 0).val < 280 := by omega
    have hs : (k.val + 1) % 8 + (64 * t.val + 8 * ((k.val + 1) / 8) + (x 0).val) < 288 := by omega
    refine (hX _ _ _ hs hj).trans ?_
    refine congrArg E ?_
    funext a
    match a with
    | ⟨0, _⟩ =>
      refine Fin.ext ?_
      show (k.val + 1) % 8 + (64 * t.val + 8 * ((k.val + 1) / 8) + (x 0).val) = (y 0).val + k.val + 1
      omega
    | ⟨1, _⟩ => rfl
  have e2 : broadcastTo S64x128 (View.ld w (Rect.unit (s := S31x1024) ![kk, c] S1x128.size inw)) hb x = tapK w k y := by
    have ex : x = ix2 (⟨(x 0).val, hx0⟩ : Fin 64) (⟨(x 1).val, hx1⟩ : Fin 128) := funext fun a => match a with | ⟨0, _⟩ => rfl | ⟨1, _⟩ => rfl
    rw [ex]
    refine (broadcastTo_1b_ab_apply _ hb _ _).trans ?_
    refine View.ld_unit_apply_of _ _ _ _ _ (ix2 k (y 1)) ?_
    intro a
    match a with
    | ⟨0, _⟩ => show k.val = kk + 0; omega
    | ⟨1, _⟩ => exact hy1
  show FloatOps.addf (acc x) (FloatOps.mulf _ _) = FloatOps.addf (ACC y) (FloatOps.mulf _ _)
  rw [hacc, e1, e2]

/-- The bias, at one place. -/
theorem bias_step (b : Vec F S1x1024 .f32) (c : ℕ) (inb) (hb : S1x128.Broadcasts S64x128) (x : S64x128.Idx) (y : S256x1024.Idx)
    (hy1 : (y 1).val = c + (x 1).val) :
    broadcastTo S64x128 (View.ld b (Rect.unit (s := S1x1024) ![0, c] S1x128.size inb)) hb x = b (ix2 (0 : Fin 1) (y 1)) := by
  have ex : x = ix2 (⟨(x 0).val, (x 0).isLt⟩ : Fin 64) (⟨(x 1).val, (x 1).isLt⟩ : Fin 128) := funext fun a => match a with | ⟨0, _⟩ => rfl | ⟨1, _⟩ => rfl
  rw [ex]
  refine (broadcastTo_1b_ab_apply _ hb _ _).trans ?_
  refine View.ld_unit_apply_of _ _ _ _ _ (ix2 (0 : Fin 1) (y 1)) ?_
  intro a
  match a with
  | ⟨0, _⟩ => rfl
  | ⟨1, _⟩ => exact hy1

/-- A store of sixty-four rows of a column block, read at one place: what it holds there, or what stood before. -/
theorem store_step {sg : RefSig} {κ : Kind} {sp : Space} (v : View sg κ sp S256x1024 .f32) (f : v.ty.Contents (Elt F))
    (L : List (View.Piece (Elt F) S256x1024 .f32)) (t : Fin k0_t1_loop.trips) (off : Fin k0_t1_loop.trips → Fin 2 → ℕ) (c : ℕ)
    (hoff : ∀ t : Fin k0_t1_loop.trips, off t 0 = 64 * t.val ∧ off t 1 = c) (inb)
    (w : FVec F S64x128 .f32) (G : FVec F S256x1024 .f32) (y : S256x1024.Idx)
    (hw : ∀ x : S64x128.Idx, (y 0).val = 64 * t.val + (x 0).val → (y 1).val = c + (x 1).val → w x = G y)
    (hL : ¬ (64 * t.val ≤ (y 0).val ∧ (y 0).val < 64 * t.val + 64 ∧ c ≤ (y 1).val ∧ (y 1).val < c + 128) →
      v.read (Elt F) (v.writes (Elt F) f L) y = G y) :
    v.read (Elt F) (v.writes (Elt F) f (⟨Rect.unit (s := S256x1024) (off t) S64x128.size inb, w⟩ :: L)) y = G y := by
  obtain ⟨h0, h1⟩ := hoff t
  by_cases h : 64 * t.val ≤ (y 0).val ∧ (y 0).val < 64 * t.val + 64 ∧ c ≤ (y 1).val ∧ (y 1).val < c + 128
  · obtain ⟨a, b, d, e⟩ := h
    refine (View.read_writes_cons_unit_of_mem v f inb w L y
      (ix2 (⟨(y 0).val - 64 * t.val, by omega⟩ : Fin 64) (⟨(y 1).val - c, by omega⟩ : Fin 128)) rfl ?_).trans (hw _ ?_ ?_)
    · intro ax
      match ax with
      | ⟨0, _⟩ => show (y 0).val = off t 0 + ((y 0).val - 64 * t.val); omega
      | ⟨1, _⟩ => show (y 1).val = off t 1 + ((y 1).val - c); omega
    · show (y 0).val = 64 * t.val + ((y 0).val - 64 * t.val); omega
    · show (y 1).val = c + ((y 1).val - c); omega
  · refine Eq.trans ?_ (hL h)
    by_cases h' : 64 * t.val ≤ (y 0).val ∧ (y 0).val < 64 * t.val + 64
    · refine View.read_writes_cons_unit_of_not_mem v f inb w L y rfl (1 : Fin 2) ?_
      show (y 1).val < off t 1 ∨ off t 1 + 128 ≤ (y 1).val
      omega
    · refine View.read_writes_cons_unit_of_not_mem v f inb w L y rfl (0 : Fin 2) ?_
      show (y 0).val < off t 0 ∨ off t 0 + 64 ≤ (y 0).val
      omega

/-! ## One trip of the kernel's loop -/

section Loop

variable (c : Dev nD) (i : grid0.Coords) (arg1 : Memref sig .tc .vmem S256x512 .f32) (harg1 : arg1.IsWhole) (arg2 : Memref sig .tc .vmem S8x512 .f32) (harg2 : arg2.IsWhole) (arg3 : Memref sig .tc .vmem S8x512 .f32) (harg3 : arg3.IsWhole) (arg4 : Memref sig .tc .vmem S256x1024 .bf16) (harg4 : arg4.IsWhole) (arg5 : Memref sig .tc .vmem S16x1024 .bf16) (harg5 : arg5.IsWhole) (arg6 : Memref sig .tc .vmem S16x1024 .bf16) (harg6 : arg6.IsWhole) (arg7 : Memref sig .tc .vmem S4x128x128 .bf16) (harg7 : arg7.IsWhole) (arg8 : Memref sig .tc .vmem S1x512 .f32) (harg8 : arg8.IsWhole) (arg9 : Memref sig .tc .vmem S31x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S256x512 .bf16) (harg15 : arg15.IsWhole) (arg16 : Memref sig .tc .vmem S256x1024 .bf16) (harg16 : arg16.IsWhole) (arg17 : Memref sig .tc .vmem S272x512 .f32) (harg17 : arg17.IsWhole) (arg18 : Memref sig .tc .vmem S8x288x1024 .f32) (harg18 : arg18.IsWhole) (arg19 : Memref sig .tc .vmem S256x1024 .f32) (harg19 : arg19.IsWhole)
  (f9 : arg9.view.ty.Contents (Elt F)) (f10 : arg10.view.ty.Contents (Elt F)) (f18 : arg18.view.ty.Contents (Elt F))
  (E : Vec F SExt .f32)

/-- Before the trip `k`, the rows below `64 k` of the result are the convolution's. -/
def convInv (k : ℕ) (_ : Unit) : sProp 𝕄 :=
  iprop((arg9.view.loc (c : Thread nD τ) ↦[arg9.view.set]{fullShare} f9) ∗ (arg10.view.loc (c : Thread nD τ) ↦[arg10.view.set]{fullShare} f10)
    ∗ (arg18.view.loc (c : Thread nD τ) ↦[arg18.view.set]{fullShare} f18)
    ∗ ∃ f19, (arg19.view.loc (c : Thread nD τ) ↦[arg19.view.set]{fullShare} f19)
        ∗ ⌜∀ y : S256x1024.Idx, (y 0).val < 64 * k → arg19.view.read (Elt F) f19 y
            = conv E (arg9.view.read (Elt F) f9) (arg10.view.read (Elt F) f10) y⌝)

theorem trip (hX : Copies (arg18.view.read (Elt F) f18) E) (k : Fin k0_t1_loop.trips) (acc : Unit) :
    convInv c arg9 arg10 arg18 arg19 f9 f10 f18 E k acc
      ⊢ wp frame (wpE (defs₀ (F := F)) Variants.none (c : Thread nD τ) none) Set.univ
          (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k acc) (convInv c arg9 arg10 arg18 arg19 f9 f10 f18 E (k.val + 1)) := by
  unfold convInv k0_t1_body
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
  iintro ⟨H9, H10, H18, ⟨%f19, H19, %hf⟩⟩
  sl_exec!
  sl_step
  isplitl [H9]
  · iexact H9
  isplitl [H10]
  · iexact H10
  isplitl [H18]
  · iexact H18
  iexists _; isplitl [H19]
  · iexact H19
  ipureintro
  intro y hy
  simp only [View.readAt_eq_ld]
  refine store_step _ _ _ k _ 896 (by decide +kernel) _ _ _ _ ?_ (fun n896 => ?_)
  rotate_left
  refine store_step _ _ _ k _ 768 (by decide +kernel) _ _ _ _ ?_ (fun n768 => ?_)
  rotate_left
  refine store_step _ _ _ k _ 640 (by decide +kernel) _ _ _ _ ?_ (fun n640 => ?_)
  rotate_left
  refine store_step _ _ _ k _ 512 (by decide +kernel) _ _ _ _ ?_ (fun n512 => ?_)
  rotate_left
  refine store_step _ _ _ k _ 384 (by decide +kernel) _ _ _ _ ?_ (fun n384 => ?_)
  rotate_left
  refine store_step _ _ _ k _ 256 (by decide +kernel) _ _ _ _ ?_ (fun n256 => ?_)
  rotate_left
  refine store_step _ _ _ k _ 128 (by decide +kernel) _ _ _ _ ?_ (fun n128 => ?_)
  rotate_left
  refine store_step _ _ _ k _ 0 (by decide +kernel) _ _ _ _ ?_ (fun n0 => ?_)
  rotate_left
  · refine hf y ?_
    have hy1 : (y 1).val < 1024 := (y 1).isLt
    omega
  all_goals
    intro x h0 h1
    repeat delta trip.sl.r_1 trip.sl.r_2 trip.sl.r_3 trip.sl.r_4 trip.sl.r_5 trip.sl.r_6 trip.sl.r_7 trip.sl.r_8 trip.sl.r_9 trip.sl.r_10 trip.sl.r_11 trip.sl.r_12 trip.sl.r_13 trip.sl.r_14 trip.sl.r_15 trip.sl.r_16 trip.sl.r_17 trip.sl.r_18 trip.sl.r_19 trip.sl.r_20 trip.sl.r_21 trip.sl.r_22 trip.sl.r_23 trip.sl.r_24 trip.sl.r_25 trip.sl.r_26 trip.sl.r_27 trip.sl.r_28 trip.sl.r_29 trip.sl.r_30 trip.sl.r_31 trip.sl.r_32 trip.sl.r_33 trip.sl.r_34 trip.sl.r_35 trip.sl.r_36 trip.sl.r_37 trip.sl.r_38 trip.sl.r_39 trip.sl.r_40 trip.sl.r_41 trip.sl.r_42 trip.sl.r_43 trip.sl.r_44 trip.sl.r_45 trip.sl.r_46 trip.sl.r_47 trip.sl.r_48 trip.sl.r_49 trip.sl.r_50 trip.sl.r_51 trip.sl.r_52 trip.sl.r_53 trip.sl.r_54 trip.sl.r_55 trip.sl.r_56 trip.sl.r_57 trip.sl.r_58 trip.sl.r_59 trip.sl.r_60 trip.sl.r_61 trip.sl.r_62 trip.sl.r_63 trip.sl.r_64 trip.sl.r_65 trip.sl.r_66 trip.sl.r_67 trip.sl.r_68 trip.sl.r_69 trip.sl.r_70 trip.sl.r_71 trip.sl.r_72 trip.sl.r_73 trip.sl.r_74 trip.sl.r_75 trip.sl.r_76 trip.sl.r_77 trip.sl.r_78 trip.sl.r_79 trip.sl.r_80 trip.sl.r_81 trip.sl.r_82 trip.sl.r_83 trip.sl.r_84 trip.sl.r_85 trip.sl.r_86 trip.sl.r_87 trip.sl.r_88 trip.sl.r_89 trip.sl.r_90 trip.sl.r_91 trip.sl.r_92 trip.sl.r_93 trip.sl.r_94
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay130, View.readAt_eq_ld, shapeCast_self]
    unfold conv
    iterate 31
      refine tap_step _ E hX _ _ k _ _ _ _ _ _ _ _ _ _ _ x y h0 h1 rfl (by decide) (by decide +kernel) ?_
    exact bias_step _ _ _ _ _ _ h1

/-- The loop: the result's rows are the convolution's after it. -/
theorem loop_run (hX : Copies (arg18.view.read (Elt F) f18) E) (f19 : arg19.view.ty.Contents (Elt F))
    {β : Type} (kk : Unit → Prog (TpuEff nD τ sig (Elt F) Λ₀ .tc) β) (Q : β → sProp 𝕄) :
    iprop((arg9.view.loc (c : Thread nD τ) ↦[arg9.view.set]{fullShare} f9) ∗ (arg10.view.loc (c : Thread nD τ) ↦[arg10.view.set]{fullShare} f10)
      ∗ (arg18.view.loc (c : Thread nD τ) ↦[arg18.view.set]{fullShare} f18)
      ∗ (arg19.view.loc (c : Thread nD τ) ↦[arg19.view.set]{fullShare} f19)
      ∗ (∀ f, (⌜arg19.view.read (Elt F) f = conv E (arg9.view.read (Elt F) f9) (arg10.view.read (Elt F) f10)⌝
          ∗ (arg9.view.loc (c : Thread nD τ) ↦[arg9.view.set]{fullShare} f9) ∗ (arg10.view.loc (c : Thread nD τ) ↦[arg10.view.set]{fullShare} f10)
          ∗ (arg18.view.loc (c : Thread nD τ) ↦[arg18.view.set]{fullShare} f18)
          ∗ (arg19.view.loc (c : Thread nD τ) ↦[arg19.view.set]{fullShare} f))
        -∗ wp frame (wpE (defs₀ (F := F)) Variants.none (c : Thread nD τ) none) Set.univ (kk ()) Q))
      ⊢ wp frame (wpE (defs₀ (F := F)) Variants.none (c : Thread nD τ) none) Set.univ
          (Scf.Loop.for k0_t1_loop k0_t1_ok ⟨⟩ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) >>= kk) Q := by
  iintro ⟨H9, H10, H18, H19, Hk⟩
  iapply (Scf.wp_for_bind frame (wpE (defs₀ (F := F)) Variants.none (c : Thread nD τ) none) Set.univ k0_t1_loop.lb k0_t1_loop.ub k0_t1_loop.st
    k0_t1_ok ⟨⟩ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) (convInv c arg9 arg10 arg18 arg19 f9 f10 f18 E)
    (fun k acc => trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f9 f10 f18 E hX k acc)) $$ [H9 H10 H18 H19]
  · unfold convInv
    isplitl [H9]; · iexact H9
    isplitl [H10]; · iexact H10
    isplitl [H18]; · iexact H18
    iexists f19; isplitl [H19]; · iexact H19
    ipureintro
    intro y hy
    omega
  iintro %acc HI
  unfold convInv
  icases HI with ⟨H9, H10, H18, ⟨%f, H19, %hf⟩⟩
  iapply Hk $$ %f
  isplitr
  · ipureintro
    funext y
    exact hf y ((y 0).isLt.trans_le (by decide +kernel))
  isplitl [H9]; · iexact H9
  isplitl [H10]; · iexact H10
  isplitl [H18]; · iexact H18
  iexact H19

end Loop

end Cert.MixIdeal.Hand

end
-- ==== Proof.MixIdealFrame.lean ====
module

public import proofs.«01_k».proof.Proof.Gen.MixIdeal.Frame
public import proofs.«01_k».proof.Proof.Gen.MixIdeal.Skeleton
public import Idealize.ShloMosaic.Lib.Claim
public import Idealize.ShloMosaic.Lib.Writes
public import Idealize.ShloMosaic.Lib.WritesUnit
public import Idealize.ShloMosaic.Lib.Exec
public import Idealize.ShloMosaic.Lib.Pipeline.Kit
public import Idealize.ShloMosaic.Lib.Pipeline.ValueKit.Tiles
public import Idealize.ShloMosaic.Lib.ValueLayout
public import proofs.«01_k».proof.Proof.MixIdealConv
public import Idealize.ShloMosaic.Lib.VecWindow

@[expose] public section

set_option maxRecDepth 16384
set_option Elab.async false

noncomputable section

namespace Cert.MixIdeal.Hand

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 shapeCast_1ab_ab_apply broadcastTo_1b_ab_apply)

variable {F : FTy → Type} [FloatOps F]

local notation "𝕄" => MT nD τ sig Unit (Elt F) ℕ (UR sig nD τ) ℕ

/-! ## What a point stores, as a function of its blocks -/

/-- The tile's number in its sequence: the first thirty-two tiles are four sequences of eight, the others four of thirty-two. -/
def tileNo (i : grid0.Coords) : BitVec 32 :=
  let arg0 : BitVec 32 := BitVec.ofNat 32 (i 0).val
  let v2 : BitVec 32 := Scalar.select (Scalar.cmpi .eq 8#32 0#32) 1#32 8#32
  let v3 : BitVec 32 := Scalar.remsi arg0 v2
  let v8 : BitVec 1 := Scalar.andi (Scalar.xori (Scalar.cmpi .slt v3 0#32) (Scalar.cmpi .slt v2 0#32)) (Scalar.cmpi .ne v3 0#32)
  let v10 : BitVec 32 := Scalar.select v8 (Scalar.addi v3 v2) v3
  let v11 : BitVec 32 := Scalar.subi arg0 32#32
  let v13 : BitVec 32 := Scalar.select (Scalar.cmpi .eq 32#32 0#32) 1#32 32#32
  let v14 : BitVec 32 := Scalar.remsi v11 v13
  let v19 : BitVec 1 := Scalar.andi (Scalar.xori (Scalar.cmpi .slt v14 0#32) (Scalar.cmpi .slt v13 0#32)) (Scalar.cmpi .ne v14 0#32)
  let v21 : BitVec 32 := Scalar.select v19 (Scalar.addi v14 v13) v14
  Scalar.select (Scalar.cmpi .slt arg0 32#32) v10 v21

/-- The tiles of the tile's sequence. -/
def tilesOf (i : grid0.Coords) : BitVec 32 := Scalar.select (Scalar.cmpi .slt (BitVec.ofNat 32 (i 0).val) 32#32) 8#32 32#32

/-- Whether the tile is its sequence's first, and its last. -/
def isFirst (i : grid0.Coords) : BitVec 1 := Scalar.cmpi .eq (tileNo i) 0#32
def isLast (i : grid0.Coords) : BitVec 1 := Scalar.cmpi .eq (tileNo i) (Scalar.subi (tilesOf i) 1#32)

/-- The tile's first position, and its sequence's length. -/
def pos0 (i : grid0.Coords) : BitVec 32 := Scalar.muli (tileNo i) 256#32
def len (i : grid0.Coords) : BitVec 32 := Scalar.muli (tilesOf i) 256#32

/-- A whole block, loaded. -/
abbrev qZ : Rect S256x512 := Rect.unit (s := S256x512) ![0, 0] S256x512.size inb_S256x512_S256x512_0_0
abbrev qH : Rect S8x512 := Rect.unit (s := S8x512) ![0, 0] S8x512.size inb_S8x512_S8x512_0_0
abbrev qV : Rect S256x1024 := Rect.unit (s := S256x1024) ![0, 0] S256x1024.size inb_S256x1024_S256x1024_0_0
abbrev qW : Rect S16x1024 := Rect.unit (s := S16x1024) ![0, 0] S16x1024.size inb_S16x1024_S16x1024_0_0
abbrev qB : Rect S1x1024 := Rect.unit (s := S1x1024) ![0, 0] S1x1024.size inb_S1x1024_S1x1024_0_0
abbrev qM : Rect S1024x1024 := Rect.unit (s := S1024x1024) ![0, 0] S1024x1024.size inb_S1024x1024_S1024x1024_0_0

/-- The pooled half's rows with eight rows before and after. -/
def extZL (i : grid0.Coords) (x0 : Vec F S256x512 .f32) (x1 : Vec F S8x512 .f32) (x2 : Vec F S8x512 .f32) :
    List (View.Piece (Elt F) S272x512 .f32) :=
  [⟨Rect.unit (s := S272x512) ![264, 0] S8x512.size inb_S272x512_S8x512_264_0, k0_pay110 (isLast i) (View.ld x2 qH)⟩,
    ⟨Rect.unit (s := S272x512) ![8, 0] S256x512.size inb_S272x512_S256x512_8_0, k0_pay109 (View.ld x0 qZ)⟩,
    ⟨Rect.unit (s := S272x512) ![0, 0] S8x512.size inb_S272x512_S8x512_0_0, k0_pay108 (isFirst i) (View.ld x1 qH) k0_pay107⟩]

theorem extZL_cover (i : grid0.Coords) (x0 : Vec F S256x512 .f32) (x1 : Vec F S8x512 .f32) (x2 : Vec F S8x512 .f32) (y : S272x512.Idx) :
    ∃ p ∈ extZL i x0 x1 x2, y ∈ p.1.set := by
  have hy0 : (y 0).val < 272 := (y 0).isLt
  have hy1 : (y 1).val < 512 := (y 1).isLt
  unfold extZL
  by_cases h1 : (y 0).val < 8
  · refine ⟨_, .tail _ (.tail _ (.head _)), (Rect.mem_set_unit (inb := inb_S272x512_S8x512_0_0)).2 fun a => ?_⟩
    match a with
    | ⟨0, _⟩ => exact ⟨Nat.zero_le _, by show (y 0).val < 0 + 8; omega⟩
    | ⟨1, _⟩ => exact ⟨Nat.zero_le _, by show (y 1).val < 0 + 512; omega⟩
  by_cases h2 : (y 0).val < 264
  · refine ⟨_, .tail _ (.head _), (Rect.mem_set_unit (inb := inb_S272x512_S256x512_8_0)).2 fun a => ?_⟩
    match a with
    | ⟨0, _⟩ => exact ⟨by show 8 ≤ (y 0).val; omega, by show (y 0).val < 8 + 256; omega⟩
    | ⟨1, _⟩ => exact ⟨Nat.zero_le _, by show (y 1).val < 0 + 512; omega⟩
  · refine ⟨_, .head _, (Rect.mem_set_unit (inb := inb_S272x512_S8x512_264_0)).2 fun a => ?_⟩
    match a with
    | ⟨0, _⟩ => exact ⟨by show 264 ≤ (y 0).val; omega, by show (y 0).val < 264 + 8; omega⟩
    | ⟨1, _⟩ => exact ⟨Nat.zero_le _, by show (y 1).val < 0 + 512; omega⟩

def extZ (i : grid0.Coords) (x0 : Vec F S256x512 .f32) (x1 : Vec F S8x512 .f32) (x2 : Vec F S8x512 .f32) : Vec F S272x512 .f32 :=
  View.canon (extZL i x0 x1 x2)

/-- The convolved half's rows with sixteen rows before and after. -/
def extV (i : grid0.Coords) (x3 : Vec F S256x1024 .bf16) (x4 : Vec F S16x1024 .bf16) (x5 : Vec F S16x1024 .bf16) : Vec F SExt .f32 := fun y =>
  if h : (y 0).val < 16 then k0_pay120 (isFirst i) (View.ld x4 qW) (ix3 (0 : Fin 1) (⟨(y 0).val, h⟩ : Fin 16) (y 1))
  else if h' : (y 0).val < 272 then k0_pay121 (View.ld x3 qV) (ix3 (0 : Fin 1) (⟨(y 0).val - 16, by omega⟩ : Fin 256) (y 1))
  else k0_pay122 (isLast i) (View.ld x5 qW) (ix3 (0 : Fin 1) (⟨(y 0).val - 272, by have : (y 0).val < 288 := (y 0).isLt; omega⟩ : Fin 16) (y 1))

/-- The rows from the row `r` on of a column block of the pooled half. -/
def win (Z : Vec F S272x512 .f32) (c r : ℕ) (h : r ≤ 16 ∧ c ≤ 384) : FVec F S256x128 .f32 :=
  View.ld Z (Rect.unit (s := S272x512) ![r, c] S256x128.size (fun a => match a with
    | ⟨0, _⟩ => show r + 256 ≤ 272 by omega
    | ⟨1, _⟩ => show c + 128 ≤ 512 by omega))

/-- The sum of `n + 1` such blocks, each a row further on. -/
def total (Z : Vec F S272x512 .f32) (c r : ℕ) : (n : ℕ) → (r + n ≤ 16 ∧ c ≤ 384) → FVec F S256x128 .f32
  | 0, h => win Z c r ⟨by omega, h.2⟩
  | n + 1, h => addf (total Z c r n ⟨by omega, h.2⟩) (win Z c (r + (n + 1)) h)

/-- One column block of the pooled half's output: the window's mean less the row, through its projection, scaled. -/
def pool (i : grid0.Coords) (h h' : BitVec 32) (T : FVec F S256x128 .f32) (U : FVec F S256x128 .f32) (W : Vec F S1x128x128 .bf16)
    (s : Vec F S1x128 .f32) : FVec F S256x128 .bf16 :=
  truncf .bf16 (mulf (matmul dot_S256x128_S128x128_S256x128_1_0_0_1_n_n none
    (truncf .bf16 (subf (divf T (broadcastTo S256x128 (sitofp .f32 (subi
      (minsi (addi (k0_pay111 (pos0 i)) (broadcast S256x1 h)) (broadcast S256x1 (len i)))
      (maxsi (addi (k0_pay111 (pos0 i)) (broadcast S256x1 h')) (broadcast S256x1 0#32)))) broadcasts_S256x1_S256x128)) U) bitsLt_bf16_f32)
    (shapeCast S128x128 W shapeCasts_S1x128x128_S128x128) (constant S256x128 .f32 0x00000000#32))
    (broadcastTo S256x128 s broadcasts_S1x128_S256x128)) bitsLt_bf16_f32

/-- The tile's rows, loaded. -/
def wholeZ (x0 : Vec F S256x512 .f32) : FVec F S256x512 .f32 := View.ld x0 qZ

/-- The four stores of the pooled half. -/
def maL (i : grid0.Coords) (Z : Vec F S272x512 .f32) (x0 : Vec F S256x512 .f32) (x6 : Vec F S4x128x128 .bf16) (x7 : Vec F S1x512 .f32) :
    List (View.Piece (Elt F) S256x512 .bf16) :=
  [⟨Rect.unit (s := S256x512) ![0, 384] S256x128.size inb_S256x512_S256x128_0_384,
      pool i 8#32 4294967288#32 (total Z 384 0 15 (by decide)) (extractStridedSlice S256x128 ![0, 384] (wholeZ x0) slices_S256x512_o0_384_S256x128)
        (View.ld x6 (Rect.unit (s := S4x128x128) ![3, 0, 0] S1x128x128.size inb_S4x128x128_S1x128x128_3_0_0))
        (View.ld x7 (Rect.unit (s := S1x512) ![0, 384] S1x128.size inb_S1x512_S1x128_0_384))⟩,
    ⟨Rect.unit (s := S256x512) ![0, 256] S256x128.size inb_S256x512_S256x128_0_256,
      pool i 4#32 4294967292#32 (total Z 256 4 7 (by decide)) (extractStridedSlice S256x128 ![0, 256] (wholeZ x0) slices_S256x512_o0_256_S256x128)
        (View.ld x6 (Rect.unit (s := S4x128x128) ![2, 0, 0] S1x128x128.size inb_S4x128x128_S1x128x128_2_0_0))
        (View.ld x7 (Rect.unit (s := S1x512) ![0, 256] S1x128.size inb_S1x512_S1x128_0_256))⟩,
    ⟨Rect.unit (s := S256x512) ![0, 128] S256x128.size inb_S256x512_S256x128_0_128,
      pool i 2#32 4294967294#32 (total Z 128 6 3 (by decide)) (extractStridedSlice S256x128 ![0, 128] (wholeZ x0) slices_S256x512_o0_128_S256x128)
        (View.ld x6 (Rect.unit (s := S4x128x128) ![1, 0, 0] S1x128x128.size inb_S4x128x128_S1x128x128_1_0_0))
        (View.ld x7 (Rect.unit (s := S1x512) ![0, 128] S1x128.size inb_S1x512_S1x128_0_128))⟩,
    ⟨Rect.unit (s := S256x512) ![0, 0] S256x128.size inb_S256x512_S256x128_0_0,
      pool i 1#32 4294967295#32 (total Z 0 7 1 (by decide)) (extractStridedSlice S256x128 ![0, 0] (wholeZ x0) slices_S256x512_o0_0_S256x128)
        (View.ld x6 (Rect.unit (s := S4x128x128) ![0, 0, 0] S1x128x128.size inb_S4x128x128_S1x128x128_0_0_0))
        (View.ld x7 (Rect.unit (s := S1x512) ![0, 0] S1x128.size inb_S1x512_S1x128_0_0))⟩]

theorem maL_cover (i : grid0.Coords) (Z : Vec F S272x512 .f32) (x0 : Vec F S256x512 .f32) (x6 : Vec F S4x128x128 .bf16) (x7 : Vec F S1x512 .f32)
    (y : S256x512.Idx) : ∃ p ∈ maL i Z x0 x6 x7, y ∈ p.1.set :=
  View.cover_of_tiled (s := S256x512) (maL i Z x0 x6 x7) S256x128.size (by rfl) y

/-- The pooled half a point stores, and the convolved. -/
def out14 (i : grid0.Coords) (x0 : Vec F S256x512 .f32) (x1 : Vec F S8x512 .f32) (x2 : Vec F S8x512 .f32) (x3 : Vec F S256x1024 .bf16) (x4 : Vec F S16x1024 .bf16) (x5 : Vec F S16x1024 .bf16) (x6 : Vec F S4x128x128 .bf16) (x7 : Vec F S1x512 .f32) (x8 : Vec F S31x1024 .f32) (x9 : Vec F S1x1024 .f32) (x10 : Vec F S1x1024 .f32) (x11 : Vec F S1x1024 .f32) (x12 : Vec F S1024x1024 .bf16) (x13 : Vec F S1x1024 .f32) : Vec F S256x512 .bf16 := View.canon (maL i (extZ i x0 x1 x2) x0 x6 x7)
def out15 (i : grid0.Coords) (x0 : Vec F S256x512 .f32) (x1 : Vec F S8x512 .f32) (x2 : Vec F S8x512 .f32) (x3 : Vec F S256x1024 .bf16) (x4 : Vec F S16x1024 .bf16) (x5 : Vec F S16x1024 .bf16) (x6 : Vec F S4x128x128 .bf16) (x7 : Vec F S1x512 .f32) (x8 : Vec F S31x1024 .f32) (x9 : Vec F S1x1024 .f32) (x10 : Vec F S1x1024 .f32) (x11 : Vec F S1x1024 .f32) (x12 : Vec F S1024x1024 .bf16) (x13 : Vec F S1x1024 .f32) : Vec F S256x1024 .bf16 :=
  k0_pay1 (View.ld (conv (extV i x3 x4 x5) x8 x9) qV) (k0_pay131 (View.ld (conv (extV i x3 x4 x5) x8 x9) qV)) (Scalar.ofBits .f32 0x44800000#32)
    (View.ld x10 qB) (View.ld x11 qB) (View.ld x12 qM) (View.ld x13 qB)

/-! ## The eight shifted copies -/

theorem pay123_id (x : Vec F S1x280x1024 .f32) : k0_pay123 x = x := shapeCast_shapeCast x _ _
theorem pay124_id (x : Vec F S1x280x1024 .f32) : k0_pay124 x = x := shapeCast_shapeCast x _ _
theorem pay125_id (x : Vec F S1x280x1024 .f32) : k0_pay125 x = x := shapeCast_shapeCast x _ _
theorem pay126_id (x : Vec F S1x280x1024 .f32) : k0_pay126 x = x := shapeCast_shapeCast x _ _
theorem pay127_id (x : Vec F S1x280x1024 .f32) : k0_pay127 x = x := shapeCast_shapeCast x _ _
theorem pay128_id (x : Vec F S1x280x1024 .f32) : k0_pay128 x = x := shapeCast_shapeCast x _ _
theorem pay129_id (x : Vec F S1x280x1024 .f32) : k0_pay129 x = x := shapeCast_shapeCast x _ _

section Copy

variable {sg : RefSig} {κ : Kind} {sp : Space} (v : View sg κ sp S8x288x1024 .f32) (E : Vec F SExt .f32)

/-- The first `n + 1` copies stand after the stores `L`, whatever stood before. -/
def Good (n : ℕ) (L : List (View.Piece (Elt F) S8x288x1024 .f32)) : Prop :=
  ∀ (f : v.ty.Contents (Elt F)) (r : Fin 8) (j : Fin 288) (l : Fin 1024) (h : r.val + j.val < 288), r.val = 0 ∨ j.val < 280 → r.val ≤ n →
    v.read (Elt F) (v.writes (Elt F) f L) (ix3 r j l) = E (ix2 ⟨r.val + j.val, h⟩ l)

theorem shift_inb (n : ℕ) (hn : n + 1 < 8) (a : Fin S8x288x1024.rank) : ![0, n + 1, 0] a + S1x280x1024.size a ≤ S8x288x1024.size a :=
  match a with
  | ⟨0, _⟩ => show 0 + 1 ≤ 8 by omega
  | ⟨1, _⟩ => show n + 1 + 280 ≤ 288 by omega
  | ⟨2, _⟩ => show 0 + 1024 ≤ 1024 by omega

/-- One more copy, stored from the first. -/
theorem good_step (n : ℕ) (hn : n + 1 < 8) (L : List (View.Piece (Elt F) S8x288x1024 .f32)) (h : Good v E n L)
    (inb) (p q : FVec F S1x280x1024 .f32)
    (hq : v.readCov L (Rect.unit (s := S8x288x1024) ![0, n + 1, 0] S1x280x1024.size (shift_inb n hn)).toLoadRect = q) (hp : p = q) :
    Good v E (n + 1) (⟨Rect.unit (s := S8x288x1024) ![n + 1, 0, 0] S1x280x1024.size inb, p⟩ :: L) := by
  intro f r j l hs hj hr
  by_cases e : r.val = n + 1
  · have hj' : j.val < 280 := hj.resolve_left (by omega)
    refine (View.read_writes_cons_unit_of_mem v f inb p L _ (ix3 (0 : Fin 1) (⟨j.val, hj'⟩ : Fin 280) l) rfl ?_).trans ?_
    · intro a
      match a with
      | ⟨0, _⟩ => exact e
      | ⟨1, _⟩ => exact (Nat.zero_add _).symm
      | ⟨2, _⟩ => exact (Nat.zero_add _).symm
    subst hp hq
    refine Eq.trans ?_ ((h v.junk (0 : Fin 8) (⟨r.val + j.val, hs⟩ : Fin 288) l (by show 0 + (r.val + j.val) < 288; omega) (.inl rfl) (Nat.zero_le _)).trans ?_)
    · refine congrArg (v.read (Elt F) (v.writes (Elt F) v.junk L)) ?_
      funext a
      match a with
      | ⟨0, _⟩ => rfl
      | ⟨1, _⟩ => refine Fin.ext ?_; show n + 1 + 1 * j.val = r.val + j.val; omega
      | ⟨2, _⟩ => refine Fin.ext ?_; show 0 + 1 * l.val = l.val; omega
    · refine congrArg E ?_
      funext a
      match a with
      | ⟨0, _⟩ => refine Fin.ext ?_; show 0 + (r.val + j.val) = r.val + j.val; omega
      | ⟨1, _⟩ => rfl
  · refine (View.read_writes_cons_unit_of_not_mem v f inb p L _ rfl (0 : Fin 3) ?_).trans (h f r j l hs hj (by omega))
    show r.val < n + 1 ∨ n + 1 + 1 ≤ r.val
    omega

/-- The first copy: the tile's rows and the rows around them. -/
theorem good_zero (i : grid0.Coords) (x3 : Vec F S256x1024 .bf16) (x4 : Vec F S16x1024 .bf16) (x5 : Vec F S16x1024 .bf16) :
    Good v (extV i x3 x4 x5) 0
      [⟨Rect.unit (s := S8x288x1024) ![0, 272, 0] S1x16x1024.size inb_S8x288x1024_S1x16x1024_0_272_0, k0_pay122 (isLast i) (View.ld x5 qW)⟩,
       ⟨Rect.unit (s := S8x288x1024) ![0, 16, 0] S1x256x1024.size inb_S8x288x1024_S1x256x1024_0_16_0, k0_pay121 (View.ld x3 qV)⟩,
       ⟨Rect.unit (s := S8x288x1024) ![0, 0, 0] S1x16x1024.size inb_S8x288x1024_S1x16x1024_0_0_0, k0_pay120 (isFirst i) (View.ld x4 qW)⟩] := by
  intro f r j l hs hj hr
  have hr0 : r.val = 0 := by omega
  have hj288 := j.isLt
  unfold extV
  by_cases h1 : j.val < 16
  · rw [dif_pos (show r.val + j.val < 16 by omega)]
    refine (View.read_writes_cons_unit_of_not_mem v f _ _ _ _ rfl (1 : Fin 3) (.inl (show j.val < 272 by omega))).trans ?_
    refine (View.read_writes_cons_unit_of_not_mem v f _ _ _ _ rfl (1 : Fin 3) (.inl (show j.val < 16 by omega))).trans ?_
    refine View.read_writes_cons_unit_of_mem v f _ _ _ _ _ rfl ?_
    intro a
    match a with
    | ⟨0, _⟩ => exact hr0
    | ⟨1, _⟩ => show j.val = 0 + (r.val + j.val); omega
    | ⟨2, _⟩ => exact (Nat.zero_add _).symm
  rw [dif_neg (show ¬ r.val + j.val < 16 by omega)]
  by_cases h2 : j.val < 272
  · rw [dif_pos (show r.val + j.val < 272 by omega)]
    refine (View.read_writes_cons_unit_of_not_mem v f _ _ _ _ rfl (1 : Fin 3) (.inl (show j.val < 272 by omega))).trans ?_
    refine View.read_writes_cons_unit_of_mem v f _ _ _ _ _ rfl ?_
    intro a
    match a with
    | ⟨0, _⟩ => exact hr0
    | ⟨1, _⟩ => show j.val = 16 + (r.val + j.val - 16); omega
    | ⟨2, _⟩ => exact (Nat.zero_add _).symm
  rw [dif_neg (show ¬ r.val + j.val < 272 by omega)]
  refine View.read_writes_cons_unit_of_mem v f _ _ _ _ _ rfl ?_
  intro a
  match a with
  | ⟨0, _⟩ => exact hr0
  | ⟨1, _⟩ => show j.val = 272 + (r.val + j.val - 272); omega
  | ⟨2, _⟩ => exact (Nat.zero_add _).symm

/-- All eight stand. -/
theorem Good.copies {n : ℕ} {L : List (View.Piece (Elt F) S8x288x1024 .f32)} (h : Good v E n L) (hn : 7 ≤ n) (f : v.ty.Contents (Elt F)) :
    Copies (v.read (Elt F) (v.writes (Elt F) f L)) E := fun r j l hs hj => h f r j l hs (.inr hj) (by have := r.isLt; omega)

end Copy

/-! The four column blocks as the kernel computes them. -/

theorem covered {sg : RefSig} {κ : Kind} {sp : Space} (v : View sg κ sp S272x512 .f32) (i : grid0.Coords) (x0 : Vec F S256x512 .f32)
    (x1 : Vec F S8x512 .f32) (x2 : Vec F S8x512 .f32) (c r : ℕ) (h : r ≤ 16 ∧ c ≤ 384) (inb) :
    v.readCov (extZL i x0 x1 x2) (Rect.unit (s := S272x512) ![r, c] S256x128.size inb).toLoadRect = win (extZ i x0 x1 x2) c r h := by
  unfold win extZ
  exact View.readCov_eq_canon_ld v (extZL i x0 x1 x2) (Rect.unit (s := S272x512) ![r, c] S256x128.size inb) (extZL_cover i x0 x1 x2)

theorem pool_2 (i : grid0.Coords) (Z : Vec F S272x512 .f32) (x0 : Vec F S256x512 .f32) (P : Vec F S1x128x128 .bf16) (s : Vec F S1x128 .f32)
    (w0 w1 : Vec F S256x128 .f32)
    (h0 : w0 = win Z 0 7 (by decide)) (h1 : w1 = win Z 0 8 (by decide)) :
    k0_pay113 (k0_pay112 (pos0 i) (len i) (wholeZ x0) w0 w1 P) s
      = pool i 1#32 4294967295#32 (total Z 0 7 1 (by decide)) (extractStridedSlice S256x128 ![0, 0] (wholeZ x0) slices_S256x512_o0_0_S256x128) P s := by
  subst h0 h1
  simp only [total]
  rfl

theorem pool_4 (i : grid0.Coords) (Z : Vec F S272x512 .f32) (x0 : Vec F S256x512 .f32) (P : Vec F S1x128x128 .bf16) (s : Vec F S1x128 .f32)
    (w0 w1 w2 w3 : Vec F S256x128 .f32)
    (h0 : w0 = win Z 128 6 (by decide)) (h1 : w1 = win Z 128 7 (by decide)) (h2 : w2 = win Z 128 8 (by decide)) (h3 : w3 = win Z 128 9 (by decide)) :
    k0_pay114 (len i) (wholeZ x0) (k0_pay111 (pos0 i)) w0 w1 w2 w3 P s
      = pool i 2#32 4294967294#32 (total Z 128 6 3 (by decide)) (extractStridedSlice S256x128 ![0, 128] (wholeZ x0) slices_S256x512_o0_128_S256x128) P s := by
  subst h0 h1 h2 h3
  simp only [total]
  rfl

theorem pool_8 (i : grid0.Coords) (Z : Vec F S272x512 .f32) (x0 : Vec F S256x512 .f32) (P : Vec F S1x128x128 .bf16) (s : Vec F S1x128 .f32)
    (w0 w1 w2 w3 w4 w5 w6 w7 : Vec F S256x128 .f32)
    (h0 : w0 = win Z 256 4 (by decide)) (h1 : w1 = win Z 256 5 (by decide)) (h2 : w2 = win Z 256 6 (by decide)) (h3 : w3 = win Z 256 7 (by decide)) (h4 : w4 = win Z 256 8 (by decide)) (h5 : w5 = win Z 256 9 (by decide)) (h6 : w6 = win Z 256 10 (by decide)) (h7 : w7 = win Z 256 11 (by decide)) :
    k0_pay117 (k0_pay115 (len i) (wholeZ x0) (k0_pay111 (pos0 i)) w0 w1 w2 w3 w4 w5 w6 w7 P) (k0_pay116 s)
      = pool i 4#32 4294967292#32 (total Z 256 4 7 (by decide)) (extractStridedSlice S256x128 ![0, 256] (wholeZ x0) slices_S256x512_o0_256_S256x128) P s := by
  subst h0 h1 h2 h3 h4 h5 h6 h7
  simp only [total]
  rfl

theorem pool_16 (i : grid0.Coords) (Z : Vec F S272x512 .f32) (x0 : Vec F S256x512 .f32) (P : Vec F S1x128x128 .bf16) (s : Vec F S1x128 .f32)
    (w0 w1 w2 w3 w4 w5 w6 w7 w8 w9 w10 w11 w12 w13 w14 w15 : Vec F S256x128 .f32)
    (h0 : w0 = win Z 384 0 (by decide)) (h1 : w1 = win Z 384 1 (by decide)) (h2 : w2 = win Z 384 2 (by decide)) (h3 : w3 = win Z 384 3 (by decide)) (h4 : w4 = win Z 384 4 (by decide)) (h5 : w5 = win Z 384 5 (by decide)) (h6 : w6 = win Z 384 6 (by decide)) (h7 : w7 = win Z 384 7 (by decide)) (h8 : w8 = win Z 384 8 (by decide)) (h9 : w9 = win Z 384 9 (by decide)) (h10 : w10 = win Z 384 10 (by decide)) (h11 : w11 = win Z 384 11 (by decide)) (h12 : w12 = win Z 384 12 (by decide)) (h13 : w13 = win Z 384 13 (by decide)) (h14 : w14 = win Z 384 14 (by decide)) (h15 : w15 = win Z 384 15 (by decide)) :
    k0_pay119 (len i) (wholeZ x0) (k0_pay111 (pos0 i)) (k0_pay118 w0 w1 w2 w3 w4 w5 w6 w7 w8 w9 w10 w11 w12) w13 w14 w15 P s
      = pool i 8#32 4294967288#32 (total Z 384 0 15 (by decide)) (extractStridedSlice S256x128 ![0, 384] (wholeZ x0) slices_S256x512_o0_384_S256x128) P s := by
  subst h0 h1 h2 h3 h4 h5 h6 h7 h8 h9 h10 h11 h12 h13 h14 h15
  simp only [total]
  rfl

theorem cons_congr {s : Shape} {e : EltTy} (q : Rect s) {p p' : q.shape.Idx → Elt F e} {L L' : List (View.Piece (Elt F) s e)} (h : p = p') (h' : L = L') :
    (⟨q, p⟩ :: L : List (View.Piece (Elt F) s e)) = ⟨q, p'⟩ :: L' := by rw [h, h']

/-! ## The body's triple -/

set_option maxHeartbeats 8000000 in
/-- The body on whole buffers: the inputs' stay, the two outputs' end at the functions above, and the scratch is given back. -/
theorem sound_kernel (c : Dev nD) (i : grid0.Coords) (arg1 : Memref sig .tc .vmem S256x512 .f32) (harg1 : arg1.IsWhole) (arg2 : Memref sig .tc .vmem S8x512 .f32) (harg2 : arg2.IsWhole) (arg3 : Memref sig .tc .vmem S8x512 .f32) (harg3 : arg3.IsWhole) (arg4 : Memref sig .tc .vmem S256x1024 .bf16) (harg4 : arg4.IsWhole) (arg5 : Memref sig .tc .vmem S16x1024 .bf16) (harg5 : arg5.IsWhole) (arg6 : Memref sig .tc .vmem S16x1024 .bf16) (harg6 : arg6.IsWhole) (arg7 : Memref sig .tc .vmem S4x128x128 .bf16) (harg7 : arg7.IsWhole) (arg8 : Memref sig .tc .vmem S1x512 .f32) (harg8 : arg8.IsWhole) (arg9 : Memref sig .tc .vmem S31x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S256x512 .bf16) (harg15 : arg15.IsWhole) (arg16 : Memref sig .tc .vmem S256x1024 .bf16) (harg16 : arg16.IsWhole) (arg17 : Memref sig .tc .vmem S272x512 .f32) (harg17 : arg17.IsWhole) (arg18 : Memref sig .tc .vmem S8x288x1024 .f32) (harg18 : arg18.IsWhole) (arg19 : Memref sig .tc .vmem S256x1024 .f32) (harg19 : arg19.IsWhole)
    (x0 : Vec F S256x512 .f32) (x1 : Vec F S8x512 .f32) (x2 : Vec F S8x512 .f32) (x3 : Vec F S256x1024 .bf16) (x4 : Vec F S16x1024 .bf16) (x5 : Vec F S16x1024 .bf16) (x6 : Vec F S4x128x128 .bf16) (x7 : Vec F S1x512 .f32) (x8 : Vec F S31x1024 .f32) (x9 : Vec F S1x1024 .f32) (x10 : Vec F S1x1024 .f32) (x11 : Vec F S1x1024 .f32) (x12 : Vec F S1024x1024 .bf16) (x13 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d)
        ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out14 i x0 x1 x2 x3 x4 x5 x6 x7 x8 x9 x10 x11 x12 x13) ∗ owns (c : Thread nD τ) arg16 fullShare (out15 i x0 x1 x2 x3 x4 x5 x6 x7 x8 x9 x10 x11 x12 x13)
            ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) Set.univ (cc0_mix i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_mix_eq_skeleton]; unfold cc0_mix_skel
  simp only [k0_part39_eq_skeleton, k0_part40_eq_skeleton, k0_part41_eq_skeleton, k0_part42_eq_skeleton, k0_part43_eq_skeleton, k0_part44_eq_skeleton, k0_part45_eq_skeleton, k0_part46_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, Hk⟩
  subst hf1 hf2 hf3 hf4 hf5 hf6 hf7 hf8 hf9 hf10 hf11 hf12 hf13 hf14
  sl_exec!
  iapply (loop_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f9 f10 (E := extV i (arg4.view.read (Elt F) f4) (arg5.view.read (Elt F) f5) (arg6.view.read (Elt F) f6)))
  rotate_left
  isplitl [H9]; · iexact H9
  isplitl [H10]; · iexact H10
  isplitl [H18]; · iexact H18
  isplitl [H19]; · iexact H19
  iintro %g ⟨%hg, H9, H10, H18, H19⟩
  sl_exec!
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    refine (View.read_writes_junk_eq_canon _ _).trans (congrArg View.canon ?_)
    unfold maL
    refine cons_congr (F := F) (e := .bf16) (Rect.unit (s := S256x512) ![0, 384] S256x128.size inb_S256x512_S256x128_0_384) (pool_16 i _ _ _ _ _ _ _ _ _ _ _ _ _ _ _ _ _ _ _ _ (covered _ _ _ _ _ _ _ _ _) (covered _ _ _ _ _ _ _ _ _) (covered _ _ _ _ _ _ _ _ _) (covered _ _ _ _ _ _ _ _ _) (covered _ _ _ _ _ _ _ _ _) (covered _ _ _ _ _ _ _ _ _) (covered _ _ _ _ _ _ _ _ _) (covered _ _ _ _ _ _ _ _ _) (covered _ _ _ _ _ _ _ _ _) (covered _ _ _ _ _ _ _ _ _) (covered _ _ _ _ _ _ _ _ _) (covered _ _ _ _ _ _ _ _ _) (covered _ _ _ _ _ _ _ _ _) (covered _ _ _ _ _ _ _ _ _) (covered _ _ _ _ _ _ _ _ _) (covered _ _ _ _ _ _ _ _ _)) ?_
    refine cons_congr (F := F) (e := .bf16) (Rect.unit (s := S256x512) ![0, 256] S256x128.size inb_S256x512_S256x128_0_256) (pool_8 i _ _ _ _ _ _ _ _ _ _ _ _ (covered _ _ _ _ _ _ _ _ _) (covered _ _ _ _ _ _ _ _ _) (covered _ _ _ _ _ _ _ _ _) (covered _ _ _ _ _ _ _ _ _) (covered _ _ _ _ _ _ _ _ _) (covered _ _ _ _ _ _ _ _ _) (covered _ _ _ _ _ _ _ _ _) (covered _ _ _ _ _ _ _ _ _)) ?_
    refine cons_congr (F := F) (e := .bf16) (Rect.unit (s := S256x512) ![0, 128] S256x128.size inb_S256x512_S256x128_0_128) (pool_4 i _ _ _ _ _ _ _ _ (covered _ _ _ _ _ _ _ _ _) (covered _ _ _ _ _ _ _ _ _) (covered _ _ _ _ _ _ _ _ _) (covered _ _ _ _ _ _ _ _ _)) ?_
    refine cons_congr (F := F) (e := .bf16) (Rect.unit (s := S256x512) ![0, 0] S256x128.size inb_S256x512_S256x128_0_0) (pool_2 i _ _ _ _ _ _ (covered _ _ _ _ _ _ _ _ _) (covered _ _ _ _ _ _ _ _ _)) ?_
    rfl
  isplitl [H16]
  · iexists _; isplitr
    swap; · iexact H16
    ipureintro
    refine (View.read_writes_full _ _ _ _ _).trans ?_
    unfold out15
    rw [← hg]
    rfl
  isplitl [H17]
  · iexists _, _; isplitr
    swap; · iexact H17
    ipureintro; rfl
  isplitl [H18]
  · iexists _, _; isplitr
    swap; · iexact H18
    ipureintro; rfl
  iexists _, _; isplitr
  swap; · iexact H19
  ipureintro; rfl
  case hX =>
    refine Good.copies _ _ (n := 7) ?_ (le_refl 7) _
    refine good_step _ _ _ (by decide) _ ?_ _ _ _ rfl (pay129_id _)
    refine good_step _ _ _ (by decide) _ ?_ _ _ _ rfl (pay128_id _)
    refine good_step _ _ _ (by decide) _ ?_ _ _ _ rfl (pay127_id _)
    refine good_step _ _ _ (by decide) _ ?_ _ _ _ rfl (pay126_id _)
    refine good_step _ _ _ (by decide) _ ?_ _ _ _ rfl (pay125_id _)
    refine good_step _ _ _ (by decide) _ ?_ _ _ _ rfl (pay124_id _)
    refine good_step _ _ _ (by decide) _ ?_ _ _ _ rfl (pay123_id _)
    exact good_zero _ i _ _ _

/-! ## The pipeline's data -/

variable (m : (ℓ : Loc nD τ sig) → Buf (Elt F) ℓ) (ρ : Dev nD → PrngReg)

/-- The windows: an input's block at every point, an output's what the body stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => out14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨15, _⟩ => out15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨k + 16, h⟩ => absurd (show k + 16 < 16 from h) (by omega)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = out14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_15 (c : Dev nD) (t : Fin cfg0.N) : (dats m 0 c).after 15 t = out15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

/-- A whole buffer, as a block holds it. -/
theorem whole_out (c : Dev nD) (b : Ref sig .tc) (f) : owns (c : Thread nD τ) (Memref.whole b) fullShare f ⊢ ((c : Thread nD τ).loc b ↦{fullShare} f : sProp 𝕄) := by
  rw [owns_whole]

set_option maxHeartbeats 4000000 in
/-- The body at any point: the scratch is lent to it and taken back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  unfold Pipeline.ΦA
  rw [scopedRest0_eq]
  iintro ⟨⟨⟨⟨%s0, S0⟩, ⟨%s1, S1⟩, ⟨%s2, S2⟩⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [S0]; · iexists _; rw [owns_whole]; iexact S0
  isplitl [S1]; · iexists _; rw [owns_whole]; iexact S1
  isplitl [S2]; · iexists _; rw [owns_whole]; iexact S2
  iintro ⟨H0, H1, H2, H3, H4, H5, H6, H7, H8, H9, H10, H11, H12, H13, H14, H15, ⟨%e0, S0⟩, ⟨%e1, S1⟩, ⟨%e2, S2⟩⟩
  isplitl [S0 S1 S2 HR]
  · isplitl [S0 S1 S2]
    · isplitl [S0]; · iexists e0; iapply (whole_out c cc0_scratch0 e0); iexact S0
      isplitl [S1]; · iexists e1; iapply (whole_out c cc0_scratch1 e1); iexact S1
      iexists e2; iapply (whole_out c cc0_scratch2 e2); iexact S2
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch: every array at what the pipeline's data say, every other buffer as found, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- Every run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_main_quiescent m ρ))

end Cert.MixIdeal.Hand

end
-- ==== Proof.Frames.lean ====
module

public import proofs.«01_k».proof.Proof.ExpertsLaunch
public import proofs.«01_k».proof.Proof.ExpertsIdealLaunch
public import proofs.«01_k».proof.Proof.Gen.ReferenceIdeal.Run
public import proofs.«01_k».proof.Proof.Gen.Inproj.Frame
public import proofs.«01_k».proof.Proof.Gen.InprojIdeal.Frame
public import proofs.«01_k».proof.Proof.Gen.InprojRefIdeal.Run
public import proofs.«01_k».proof.Proof.OutprojFrame
public import proofs.«01_k».proof.Proof.OutprojIdealFrame
public import proofs.«01_k».proof.Proof.Gen.OutprojRefIdeal.Run
public import proofs.«01_k».proof.Proof.Gen.Mix
public import proofs.«01_k».proof.Proof.MixIdealFrame
public import proofs.«01_k».proof.Proof.Gen.MixRefIdeal.Run
public import Idealize.ShloMosaic.Lib.Bf16Pair

@[expose] public section

noncomputable section

namespace Cert.Proof

open Idealize.ShloMosaic Idealize.SL.Sem

/-- The experts' reference terminates and leaves its arguments as they were. -/
theorem frame_ref : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The input projection's reference terminates and leaves its arguments as they were. -/
theorem frame_inprojRef : Cert.quiescent_InprojRefIdeal := fun m ρ _ =>
  (θ_run Cert.InprojRefIdeal.defs _ _).mono (fun r h => ⟨fun c => (h c).2.2.2, Idealize.ShloMosaic.sem_eq_zero_of_no_sems (by decide) r.2⟩)
    (Cert.InprojRefIdeal.Value.run (F := Ideal) m ρ)

/-- The input projection's kernel terminates and leaves its arguments as they were. -/
theorem frame_inproj : Cert.quiescent_Inproj := fun m ρ _ => Cert.Inproj.Gen.frame m ρ

/-- The same over ideal values. -/
theorem frame_inprojIdeal : Cert.quiescent_InprojIdeal := fun m ρ _ => Cert.InprojIdeal.Gen.frame m ρ

/-- The output projection's reference terminates and leaves its arguments as they were. -/
theorem frame_outprojRef : Cert.quiescent_OutprojRefIdeal := fun m ρ _ =>
  (θ_run Cert.OutprojRefIdeal.defs _ _).mono (fun r h => ⟨fun c => (h c).2.2.2, Idealize.ShloMosaic.sem_eq_zero_of_no_sems (by decide) r.2⟩)
    (Cert.OutprojRefIdeal.Value.run (F := Ideal) m ρ)

/-- The output projection's kernel terminates and leaves its arguments as they were. -/
theorem frame_outproj : Cert.quiescent_Outproj := fun m ρ _ => Cert.Outproj.Hand.frame m ρ

/-- The same over ideal values. -/
theorem frame_outprojIdeal : Cert.quiescent_OutprojIdeal := fun m ρ _ => Cert.OutprojIdeal.Hand.frame m ρ

/-- The pooling and convolution's reference terminates and leaves its arguments as they were. -/
theorem frame_mixRef : Cert.quiescent_MixRefIdeal := fun m ρ _ =>
  (θ_run Cert.MixRefIdeal.defs _ _).mono (fun r h => ⟨fun c => (h c).2.2, Idealize.ShloMosaic.sem_eq_zero_of_no_sems (by decide) r.2⟩)
    (Cert.MixRefIdeal.Value.run (F := Ideal) m ρ)

/-- The pooling and convolution's kernel over ideal values terminates and leaves its arguments as they were. -/
theorem frame_mixIdeal : Cert.quiescent_MixIdeal := fun m ρ _ => Cert.MixIdeal.Hand.frame m ρ

set_option maxRecDepth 16384 in
set_option maxHeartbeats 4000000 in
/-- No rule changes the kernel for ideal values: both programs run the same body. -/
theorem body_mix : Cert.Mix.defs₀ (F := Bits) = Cert.MixIdeal.defs₀ (F := Bits) := by
  unfold Cert.Mix.defs₀ Cert.MixIdeal.defs₀
  congr 1
  funext l x
  match l, x with
  | 0, (t, s) => rfl
  | ⟨_ + 1, h⟩, _ => exact absurd h (Nat.not_lt.2 (Nat.le_add_left _ _))

theorem defs_mix : Cert.Mix.defs (F := Bits) = Cert.MixIdeal.defs (F := Bits) :=
  congrArg (Pipeline.defs (Cert.Mix.pcfgs (F := Bits))) body_mix

/-- The same over bits. -/
theorem frame_mix : Cert.quiescent_Mix := fun m ρ _ => by
  rw [defs_mix]
  exact Cert.MixIdeal.Hand.frame (F := Bits) m ρ

/-- The output projection's packing rule holds at the shapes it was used at. -/
theorem preserves_outproj : Cert.preserves_Outproj_OutprojIdeal :=
  ⟨IdealRules.bf16_pair.packStatement Cert.OutprojIdeal.S256x1024, IdealRules.bf16_pair.statement Cert.OutprojIdeal.S256x2x128 Cert.OutprojIdeal.S256x1x128⟩

/-- The experts' packing rule holds at the shapes it was used at. -/
theorem preserves_experts : Cert.preserves_Experts_ExpertsIdeal :=
  ⟨IdealRules.bf16_pair.packStatement Cert.ExpertsIdeal.S512x256, IdealRules.bf16_pair.statement Cert.ExpertsIdeal.S512x2x128 Cert.ExpertsIdeal.S512x1x128⟩

end Cert.Proof

end
-- ==== Proof.ExpertsSpec.lean ====
module

public import Idealize.ShloMosaic.PureOps.Ideal
public import Idealize.ShloMosaic.Lib.Pointwise

@[expose] public section

noncomputable section

namespace Cert.Spec

open Idealize.ShloMosaic

/-! ## The experts' result, entry by entry -/

/-- The value in a word's low half. -/
def loV (w : BitVec 32) : EReal := FloatOps.ofBits (F := Ideal) .f32 (w <<< 16)
/-- The value in a word's high half. -/
def hiV (w : BitVec 32) : EReal := FloatOps.ofBits (F := Ideal) .f32 (w &&& 4294901760#32)

/-- One gated hidden feature: `(a · logistic a) · b` of two dot products with a token's features. -/
def gate (x wa wb : Fin 2048 → EReal) : EReal :=
  (∑ d : Fin 2048, x d * wa d) * Ideal.logistic (∑ d : Fin 2048, x d * wa d) * (∑ d : Fin 2048, x d * wb d)

/-- Feature `d` of token `r` of block `b` of the packed tokens. -/
def tokG (xs : (⟨2, ![786432, 128]⟩ : Shape).Idx → BitVec 32) (b : Fin 192) (r : Fin 512) (d : Fin 2048) : EReal :=
  if d.val < 1024 then loV (xs (ix2 ⟨b.val * 4096 + (r.val * 8 + d.val / 128 % 8), by omega⟩ ⟨d.val % 128, by omega⟩))
  else hiV (xs (ix2 ⟨b.val * 4096 + (r.val * 8 + d.val / 128 % 8), by omega⟩ ⟨d.val % 128, by omega⟩))

/-- Feature `f` of token `r` that block `t` yields: the block's expert applied to the token it reads, zero past the blocks in use. -/
def entry (be bi : (⟨1, ![192]⟩ : Shape).Idx → BitVec 32) (nu : (⟨1, ![1]⟩ : Shape).Idx → BitVec 32) (xs : (⟨2, ![786432, 128]⟩ : Shape).Idx → BitVec 32)
    (w1 w2 : (⟨4, ![2, 32, 2048, 512]⟩ : Shape).Idx → EReal) (w3 : (⟨4, ![2, 32, 512, 2048]⟩ : Shape).Idx → EReal) (t : Fin 192) (r : Fin 512) (f : Fin 2048) : EReal :=
  if (t.val : ℤ) < (nu (ix1 0)).toInt then
    ∑ e : Fin 512, gate (tokG xs ⟨(bi (ix1 t)).toNat % 192, by omega⟩ r) (fun d => w1 (ix4 0 ⟨(be (ix1 t)).toNat % 32, by omega⟩ d e))
      (fun d => w2 (ix4 0 ⟨(be (ix1 t)).toNat % 32, by omega⟩ d e)) * w3 (ix4 0 ⟨(be (ix1 t)).toNat % 32, by omega⟩ e f)
  else 0

/-- The whole result: two rows of 128 features for a row of packed words, low halves first. -/
def outY (be bi : (⟨1, ![192]⟩ : Shape).Idx → BitVec 32) (nu : (⟨1, ![1]⟩ : Shape).Idx → BitVec 32) (xs : (⟨2, ![786432, 128]⟩ : Shape).Idx → BitVec 32)
    (w1 w2 : (⟨4, ![2, 32, 2048, 512]⟩ : Shape).Idx → EReal) (w3 : (⟨4, ![2, 32, 512, 2048]⟩ : Shape).Idx → EReal) (y : (⟨2, ![1572864, 128]⟩ : Shape).Idx) : EReal :=
  entry be bi nu xs w1 w2 w3 ⟨(y 0).val / 8192, by have : (y 0).val < 1572864 := (y 0).isLt; omega⟩ ⟨(y 0).val / 16 % 512, by omega⟩
    ⟨(y 0).val % 2 * 1024 + (y 0).val / 2 % 8 * 128 + (y 1).val, by have : (y 1).val < 128 := (y 1).isLt; omega⟩

end Cert.Spec

end
-- ==== Proof.ExpertsIdealPoint.lean ====
module

public import proofs.«01_k».proof.Proof.ExpertsIdealBlocks
public import Idealize.ShloMosaic.Lib.Pipeline.Value
public import Idealize.ShloMosaic.Lib.Pointwise
public import Idealize.ShloMosaic.Lib.MatmulPlain
public import proofs.«01_k».proof.Proof.ExpertsSpec

@[expose] public section

set_option maxRecDepth 16384
set_option Elab.async false

noncomputable section

namespace Cert.ExpertsIdeal.Hand

open Cert.ExpertsIdeal Cert.ExpertsIdeal.Gen
open Idealize.ShloMosaic
open Cert.Spec
open Idealize.SL Idealize.SL.Sem

/-! ## What a point in use stores, entry by entry -/

/-- Feature `d` of token `r` of a block of packed words. -/
def tok (x0 : S4096x128.Idx → Elt Ideal .i32) (r : Fin 512) (d : Fin 2048) : EReal :=
  if d.val < 1024 then loV (x0 (ix2 ⟨r.val * 8 + d.val / 128 % 8, by omega⟩ ⟨d.val % 128, by omega⟩))
  else hiV (x0 (ix2 ⟨r.val * 8 + d.val / 128 % 8, by omega⟩ ⟨d.val % 128, by omega⟩))

theorem lx_apply (s : ℕ) (hs : s < 8) (h) (x0 : S4096x128.Idx → Elt Ideal .i32) (r : Fin 512) (l : Fin 128) :
    lx s h x0 (ix2 r l) = x0 (ix2 ⟨r.val * 8 + s, by omega⟩ l) := by
  unfold lx
  congr 1
  funext a
  match a with
  | ⟨0, _⟩ => exact Fin.ext (show s + 8 * r.val = r.val * 8 + s by omega)
  | ⟨1, _⟩ => exact Fin.ext (show 0 + 1 * l.val = l.val by omega)

theorem shl16 (w : BitVec 32) : IntOp.shli .vector w 16#32 = w <<< 16 := by
  unfold IntOp.shli
  rw [if_pos (by decide)]
  rfl

/-- Blocks side by side, read at an entry. -/
theorem cat2 {A n N : ℕ} {α : Type} (xs : List ((s : Shape) × (s.Idx → α))) (h) (r : Fin A) (c : Fin N) (k : ℕ) (hk : k < xs.length) (x₁ : (⟨2, ![A, n]⟩ : Shape).Idx → α)
    (hxk : xs[k] = ⟨⟨2, ![A, n]⟩, x₁⟩) (pre : ℕ)
    (hpre : (((xs.take k).map (·.1)).map fun s : Shape => if h : s.rank = (⟨2, ![A, N]⟩ : Shape).rank then s.size ((1 : Fin 2).cast h.symm) else 0).sum = pre)
    (c' : Fin n) (ha : pre + c'.val = c.val) :
    concatenate (⟨2, ![A, N]⟩ : Shape) 1 xs h (ix2 r c) = x₁ (ix2 r c') :=
  concatenate_apply_piece (t := (⟨2, ![A, N]⟩ : Shape)) 1 xs h (ix2 r c) k hk ⟨2, ![A, n]⟩ x₁ hxk rfl pre hpre (ix2 r c') (fun b hb => by
    match b with
    | ⟨0, _⟩ => rfl
    | ⟨1, _⟩ => exact absurd rfl hb) ha

set_option maxHeartbeats 4000000 in
/-- The unpacked tokens, entry by entry. -/
theorem bX_apply (x0 : S4096x128.Idx → Elt Ideal .i32) (r : Fin 512) (d : Fin 2048) : bX x0 (ix2 r d) = tok x0 r d := by
  have hd := d.isLt
  have hc : d.val / 128 < 16 := by omega
  unfold bX k0_pay16
  rcases (by omega : d.val / 128 = 0 ∨ d.val / 128 = 1 ∨ d.val / 128 = 2 ∨ d.val / 128 = 3 ∨ d.val / 128 = 4 ∨ d.val / 128 = 5 ∨ d.val / 128 = 6 ∨ d.val / 128 = 7 ∨ d.val / 128 = 8 ∨ d.val / 128 = 9 ∨ d.val / 128 = 10 ∨ d.val / 128 = 11 ∨ d.val / 128 = 12 ∨ d.val / 128 = 13 ∨ d.val / 128 = 14 ∨ d.val / 128 = 15) with h | h | h | h | h | h | h | h | h | h | h | h | h | h | h | h
  · have ht : tok x0 r d = loV (x0 (ix2 ⟨r.val * 8 + 0, by omega⟩ ⟨d.val % 128, by omega⟩)) := by
      unfold tok
      simp only [h]
      first | exact if_pos (by omega) | exact if_neg (by omega)
    refine Eq.trans (cat2 _ _ r d 0 (by simp) (k0_pay7 (lx 0 inb_S4096x128_S512x128_0_0_s_8_1 x0)) rfl 0 rfl ⟨d.val % 128, by omega⟩ (show 0 + d.val % 128 = d.val by omega)) ?_
    · rw [ht, ← lx_apply 0 (by omega) inb_S4096x128_S512x128_0_0_s_8_1 x0 r ⟨d.val % 128, by omega⟩]
      unfold loV; rw [← shl16]; rfl
  · have ht : tok x0 r d = loV (x0 (ix2 ⟨r.val * 8 + 1, by omega⟩ ⟨d.val % 128, by omega⟩)) := by
      unfold tok
      simp only [h]
      first | exact if_pos (by omega) | exact if_neg (by omega)
    refine Eq.trans (cat2 _ _ r d 1 (by simp) (k0_pay7 (lx 1 inb_S4096x128_S512x128_1_0_s_8_1 x0)) rfl 128 rfl ⟨d.val % 128, by omega⟩ (show 128 + d.val % 128 = d.val by omega)) ?_
    · rw [ht, ← lx_apply 1 (by omega) inb_S4096x128_S512x128_1_0_s_8_1 x0 r ⟨d.val % 128, by omega⟩]
      unfold loV; rw [← shl16]; rfl
  · have ht : tok x0 r d = loV (x0 (ix2 ⟨r.val * 8 + 2, by omega⟩ ⟨d.val % 128, by omega⟩)) := by
      unfold tok
      simp only [h]
      first | exact if_pos (by omega) | exact if_neg (by omega)
    refine Eq.trans (cat2 _ _ r d 2 (by simp) (k0_pay7 (lx 2 inb_S4096x128_S512x128_2_0_s_8_1 x0)) rfl 256 rfl ⟨d.val % 128, by omega⟩ (show 256 + d.val % 128 = d.val by omega)) ?_
    · rw [ht, ← lx_apply 2 (by omega) inb_S4096x128_S512x128_2_0_s_8_1 x0 r ⟨d.val % 128, by omega⟩]
      unfold loV; rw [← shl16]; rfl
  · have ht : tok x0 r d = loV (x0 (ix2 ⟨r.val * 8 + 3, by omega⟩ ⟨d.val % 128, by omega⟩)) := by
      unfold tok
      simp only [h]
      first | exact if_pos (by omega) | exact if_neg (by omega)
    refine Eq.trans (cat2 _ _ r d 3 (by simp) (k0_pay7 (lx 3 inb_S4096x128_S512x128_3_0_s_8_1 x0)) rfl 384 rfl ⟨d.val % 128, by omega⟩ (show 384 + d.val % 128 = d.val by omega)) ?_
    · rw [ht, ← lx_apply 3 (by omega) inb_S4096x128_S512x128_3_0_s_8_1 x0 r ⟨d.val % 128, by omega⟩]
      unfold loV; rw [← shl16]; rfl
  · have ht : tok x0 r d = loV (x0 (ix2 ⟨r.val * 8 + 4, by omega⟩ ⟨d.val % 128, by omega⟩)) := by
      unfold tok
      simp only [h]
      first | exact if_pos (by omega) | exact if_neg (by omega)
    refine Eq.trans (cat2 _ _ r d 4 (by simp) (k0_pay7 (lx 4 inb_S4096x128_S512x128_4_0_s_8_1 x0)) rfl 512 rfl ⟨d.val % 128, by omega⟩ (show 512 + d.val % 128 = d.val by omega)) ?_
    · rw [ht, ← lx_apply 4 (by omega) inb_S4096x128_S512x128_4_0_s_8_1 x0 r ⟨d.val % 128, by omega⟩]
      unfold loV; rw [← shl16]; rfl
  · have ht : tok x0 r d = loV (x0 (ix2 ⟨r.val * 8 + 5, by omega⟩ ⟨d.val % 128, by omega⟩)) := by
      unfold tok
      simp only [h]
      first | exact if_pos (by omega) | exact if_neg (by omega)
    refine Eq.trans (cat2 _ _ r d 5 (by simp) (k0_pay7 (lx 5 inb_S4096x128_S512x128_5_0_s_8_1 x0)) rfl 640 rfl ⟨d.val % 128, by omega⟩ (show 640 + d.val % 128 = d.val by omega)) ?_
    · rw [ht, ← lx_apply 5 (by omega) inb_S4096x128_S512x128_5_0_s_8_1 x0 r ⟨d.val % 128, by omega⟩]
      unfold loV; rw [← shl16]; rfl
  · have ht : tok x0 r d = loV (x0 (ix2 ⟨r.val * 8 + 6, by omega⟩ ⟨d.val % 128, by omega⟩)) := by
      unfold tok
      simp only [h]
      first | exact if_pos (by omega) | exact if_neg (by omega)
    refine Eq.trans (cat2 _ _ r d 6 (by simp) (k0_pay7 (lx 6 inb_S4096x128_S512x128_6_0_s_8_1 x0)) rfl 768 rfl ⟨d.val % 128, by omega⟩ (show 768 + d.val % 128 = d.val by omega)) ?_
    · rw [ht, ← lx_apply 6 (by omega) inb_S4096x128_S512x128_6_0_s_8_1 x0 r ⟨d.val % 128, by omega⟩]
      unfold loV; rw [← shl16]; rfl
  · have ht : tok x0 r d = loV (x0 (ix2 ⟨r.val * 8 + 7, by omega⟩ ⟨d.val % 128, by omega⟩)) := by
      unfold tok
      simp only [h]
      first | exact if_pos (by omega) | exact if_neg (by omega)
    refine Eq.trans (cat2 _ _ r d 7 (by simp) (k0_pay7 (lx 7 inb_S4096x128_S512x128_7_0_s_8_1 x0)) rfl 896 rfl ⟨d.val % 128, by omega⟩ (show 896 + d.val % 128 = d.val by omega)) ?_
    · rw [ht, ← lx_apply 7 (by omega) inb_S4096x128_S512x128_7_0_s_8_1 x0 r ⟨d.val % 128, by omega⟩]
      unfold loV; rw [← shl16]; rfl
  · have ht : tok x0 r d = hiV (x0 (ix2 ⟨r.val * 8 + 0, by omega⟩ ⟨d.val % 128, by omega⟩)) := by
      unfold tok
      simp only [h]
      first | exact if_pos (by omega) | exact if_neg (by omega)
    refine Eq.trans (cat2 _ _ r d 8 (by simp) (k0_pay8 (lx 0 inb_S4096x128_S512x128_0_0_s_8_1 x0)) rfl 1024 rfl ⟨d.val % 128, by omega⟩ (show 1024 + d.val % 128 = d.val by omega)) ?_
    · rw [ht, ← lx_apply 0 (by omega) inb_S4096x128_S512x128_0_0_s_8_1 x0 r ⟨d.val % 128, by omega⟩]
      rfl
  · have ht : tok x0 r d = hiV (x0 (ix2 ⟨r.val * 8 + 1, by omega⟩ ⟨d.val % 128, by omega⟩)) := by
      unfold tok
      simp only [h]
      first | exact if_pos (by omega) | exact if_neg (by omega)
    refine Eq.trans (cat2 _ _ r d 9 (by simp) (k0_pay8 (lx 1 inb_S4096x128_S512x128_1_0_s_8_1 x0)) rfl 1152 rfl ⟨d.val % 128, by omega⟩ (show 1152 + d.val % 128 = d.val by omega)) ?_
    · rw [ht, ← lx_apply 1 (by omega) inb_S4096x128_S512x128_1_0_s_8_1 x0 r ⟨d.val % 128, by omega⟩]
      rfl
  · have ht : tok x0 r d = hiV (x0 (ix2 ⟨r.val * 8 + 2, by omega⟩ ⟨d.val % 128, by omega⟩)) := by
      unfold tok
      simp only [h]
      first | exact if_pos (by omega) | exact if_neg (by omega)
    refine Eq.trans (cat2 _ _ r d 10 (by simp) (k0_pay8 (lx 2 inb_S4096x128_S512x128_2_0_s_8_1 x0)) rfl 1280 rfl ⟨d.val % 128, by omega⟩ (show 1280 + d.val % 128 = d.val by omega)) ?_
    · rw [ht, ← lx_apply 2 (by omega) inb_S4096x128_S512x128_2_0_s_8_1 x0 r ⟨d.val % 128, by omega⟩]
      rfl
  · have ht : tok x0 r d = hiV (x0 (ix2 ⟨r.val * 8 + 3, by omega⟩ ⟨d.val % 128, by omega⟩)) := by
      unfold tok
      simp only [h]
      first | exact if_pos (by omega) | exact if_neg (by omega)
    refine Eq.trans (cat2 _ _ r d 11 (by simp) (k0_pay8 (lx 3 inb_S4096x128_S512x128_3_0_s_8_1 x0)) rfl 1408 rfl ⟨d.val % 128, by omega⟩ (show 1408 + d.val % 128 = d.val by omega)) ?_
    · rw [ht, ← lx_apply 3 (by omega) inb_S4096x128_S512x128_3_0_s_8_1 x0 r ⟨d.val % 128, by omega⟩]
      rfl
  · have ht : tok x0 r d = hiV (x0 (ix2 ⟨r.val * 8 + 4, by omega⟩ ⟨d.val % 128, by omega⟩)) := by
      unfold tok
      simp only [h]
      first | exact if_pos (by omega) | exact if_neg (by omega)
    refine Eq.trans (cat2 _ _ r d 12 (by simp) (k0_pay8 (lx 4 inb_S4096x128_S512x128_4_0_s_8_1 x0)) rfl 1536 rfl ⟨d.val % 128, by omega⟩ (show 1536 + d.val % 128 = d.val by omega)) ?_
    · rw [ht, ← lx_apply 4 (by omega) inb_S4096x128_S512x128_4_0_s_8_1 x0 r ⟨d.val % 128, by omega⟩]
      rfl
  · have ht : tok x0 r d = hiV (x0 (ix2 ⟨r.val * 8 + 5, by omega⟩ ⟨d.val % 128, by omega⟩)) := by
      unfold tok
      simp only [h]
      first | exact if_pos (by omega) | exact if_neg (by omega)
    refine Eq.trans (cat2 _ _ r d 13 (by simp) (k0_pay8 (lx 5 inb_S4096x128_S512x128_5_0_s_8_1 x0)) rfl 1664 rfl ⟨d.val % 128, by omega⟩ (show 1664 + d.val % 128 = d.val by omega)) ?_
    · rw [ht, ← lx_apply 5 (by omega) inb_S4096x128_S512x128_5_0_s_8_1 x0 r ⟨d.val % 128, by omega⟩]
      rfl
  · have ht : tok x0 r d = hiV (x0 (ix2 ⟨r.val * 8 + 6, by omega⟩ ⟨d.val % 128, by omega⟩)) := by
      unfold tok
      simp only [h]
      first | exact if_pos (by omega) | exact if_neg (by omega)
    refine Eq.trans (cat2 _ _ r d 14 (by simp) (k0_pay8 (lx 6 inb_S4096x128_S512x128_6_0_s_8_1 x0)) rfl 1792 rfl ⟨d.val % 128, by omega⟩ (show 1792 + d.val % 128 = d.val by omega)) ?_
    · rw [ht, ← lx_apply 6 (by omega) inb_S4096x128_S512x128_6_0_s_8_1 x0 r ⟨d.val % 128, by omega⟩]
      rfl
  · have ht : tok x0 r d = hiV (x0 (ix2 ⟨r.val * 8 + 7, by omega⟩ ⟨d.val % 128, by omega⟩)) := by
      unfold tok
      simp only [h]
      first | exact if_pos (by omega) | exact if_neg (by omega)
    refine Eq.trans (cat2 _ _ r d 15 (by simp) (k0_pay8 (lx 7 inb_S4096x128_S512x128_7_0_s_8_1 x0)) rfl 1920 rfl ⟨d.val % 128, by omega⟩ (show 1920 + d.val % 128 = d.val by omega)) ?_
    · rw [ht, ← lx_apply 7 (by omega) inb_S4096x128_S512x128_7_0_s_8_1 x0 r ⟨d.val % 128, by omega⟩]
      rfl

theorem ixe {a b : ℕ} (i : Fin a) (j : Fin b) : ValueIdx.ix2 i j = ix2 i j := by
  funext x
  match x with
  | ⟨0, _⟩ => rfl
  | ⟨1, _⟩ => rfl

theorem dotA (X : FVec Ideal S512x2048 .bf16) (w : FVec Ideal S2048x256 .bf16) (r : Fin 512) (e : Fin 256) :
    matmul dot_S512x2048_S2048x256_S512x256_1_0_0_1_n_n none X w (constant S512x256 .f32 0x00000000#32) (ix2 r e) = ∑ d : Fin 2048, X (ix2 r d) * w (ix2 d e) := by
  refine (Ideal.matmul_plain_apply (M := 512) (K := 2048) (N := 256) none X w (constant S512x256 .f32 0x00000000#32) r e).trans ?_
  show Ideal.ofBits .f32 0x00000000#32 + _ = _
  rw [Ideal.ofBits_zero_f32, zero_add]
  simp only [ixe]

theorem dotB (X : FVec Ideal S512x512 .bf16) (w : FVec Ideal S512x256 .bf16) (r : Fin 512) (e : Fin 256) :
    matmul dot_S512x512_S512x256_S512x256_1_0_0_1_n_n none X w (constant S512x256 .f32 0x00000000#32) (ix2 r e) = ∑ d : Fin 512, X (ix2 r d) * w (ix2 d e) := by
  refine (Ideal.matmul_plain_apply (M := 512) (K := 512) (N := 256) none X w (constant S512x256 .f32 0x00000000#32) r e).trans ?_
  show Ideal.ofBits .f32 0x00000000#32 + _ = _
  rw [Ideal.ofBits_zero_f32, zero_add]
  simp only [ixe]

theorem ldW (w : S2048x512.Idx → Elt Ideal .bf16) (k : ℕ) (hk : k + 256 ≤ 512) (inb) (d : Fin 2048) (e : Fin 256) :
    View.ld (Val := Elt Ideal) w (Rect.unit (s := S2048x512) ![0, k] S2048x256.size inb) (ix2 d e) = w (ix2 d ⟨k + e.val, by omega⟩) := by
  show w _ = _
  congr 1
  funext a
  match a with
  | ⟨0, _⟩ => exact Fin.ext (show 0 + 1 * d.val = d.val by omega)
  | ⟨1, _⟩ => exact Fin.ext (show k + 1 * e.val = k + e.val by omega)

theorem ldV (w : S512x2048.Idx → Elt Ideal .bf16) (k : ℕ) (hk : k + 256 ≤ 2048) (inb) (d : Fin 512) (e : Fin 256) :
    View.ld (Val := Elt Ideal) w (Rect.unit (s := S512x2048) ![0, k] S512x256.size inb) (ix2 d e) = w (ix2 d ⟨k + e.val, by omega⟩) := by
  show w _ = _
  congr 1
  funext a
  match a with
  | ⟨0, _⟩ => exact Fin.ext (show 0 + 1 * d.val = d.val by omega)
  | ⟨1, _⟩ => exact Fin.ext (show k + 1 * e.val = k + e.val by omega)

/-- The first half of the hidden features, entry by entry. -/
theorem bH0_apply (x0 : S4096x128.Idx → Elt Ideal .i32) (w1 w2 : S2048x512.Idx → Elt Ideal .bf16) (r : Fin 512) (e : Fin 256) :
    bH0 x0 w1 w2 (ix2 r e) = gate (tok x0 r) (fun d => w1 (ix2 d ⟨e.val, by omega⟩)) (fun d => w2 (ix2 d ⟨e.val, by omega⟩)) := by
  have key : ∀ (wa wb : FVec Ideal S2048x256 .bf16), (∀ d : Fin 2048, wa (ix2 d e) = w1 (ix2 d ⟨e.val, by omega⟩)) → (∀ d : Fin 2048, wb (ix2 d e) = w2 (ix2 d ⟨e.val, by omega⟩)) →
      matmul dot_S512x2048_S2048x256_S512x256_1_0_0_1_n_n none (bX x0) wa (constant S512x256 .f32 0x00000000#32) (ix2 r e)
        * Ideal.logistic (matmul dot_S512x2048_S2048x256_S512x256_1_0_0_1_n_n none (bX x0) wa (constant S512x256 .f32 0x00000000#32) (ix2 r e))
        * matmul dot_S512x2048_S2048x256_S512x256_1_0_0_1_n_n none (bX x0) wb (constant S512x256 .f32 0x00000000#32) (ix2 r e)
      = gate (tok x0 r) (fun d => w1 (ix2 d ⟨e.val, by omega⟩)) (fun d => w2 (ix2 d ⟨e.val, by omega⟩)) := by
    intro wa wb ha hb
    rw [dotA, dotA]
    unfold gate
    simp only [bX_apply, ha, hb]
  refine (show _ = _ from rfl).trans (key (View.ld (Val := Elt Ideal) w1 (Rect.unit (s := S2048x512) ![0, 0] S2048x256.size inb_S2048x512_S2048x256_0_0))
    (View.ld (Val := Elt Ideal) w2 (Rect.unit (s := S2048x512) ![0, 0] S2048x256.size inb_S2048x512_S2048x256_0_0)) (fun d => ?_) (fun d => ?_))
  · rw [ldW w1 0 (by omega)]; simp only [Nat.zero_add]
  · rw [ldW w2 0 (by omega)]; simp only [Nat.zero_add]

/-- The hidden features, entry by entry. -/
theorem bH_apply (x0 : S4096x128.Idx → Elt Ideal .i32) (w1 w2 : S2048x512.Idx → Elt Ideal .bf16) (r : Fin 512) (e : Fin 512) :
    bH x0 w1 w2 (ix2 r e) = gate (tok x0 r) (fun d => w1 (ix2 d e)) (fun d => w2 (ix2 d e)) := by
  have he := e.isLt
  unfold bH k0_pay18
  dsimp only
  by_cases h : e.val < 256
  · refine Eq.trans (cat2 _ _ r e 0 (by simp) _ rfl 0 rfl ⟨e.val, h⟩ (show 0 + e.val = e.val by omega)) ?_
    · exact bH0_apply x0 w1 w2 r ⟨e.val, h⟩
  · refine Eq.trans (cat2 _ _ r e 1 (by simp) _ rfl 256 rfl ⟨e.val - 256, by omega⟩ (show 256 + (e.val - 256) = e.val by omega)) ?_
    · have key : ∀ (wa wb : FVec Ideal S2048x256 .bf16), (∀ d : Fin 2048, wa (ix2 d ⟨e.val - 256, by omega⟩) = w1 (ix2 d e)) → (∀ d : Fin 2048, wb (ix2 d ⟨e.val - 256, by omega⟩) = w2 (ix2 d e)) →
          matmul dot_S512x2048_S2048x256_S512x256_1_0_0_1_n_n none (bX x0) wa (constant S512x256 .f32 0x00000000#32) (ix2 r ⟨e.val - 256, by omega⟩)
            * Ideal.logistic (matmul dot_S512x2048_S2048x256_S512x256_1_0_0_1_n_n none (bX x0) wa (constant S512x256 .f32 0x00000000#32) (ix2 r ⟨e.val - 256, by omega⟩))
            * matmul dot_S512x2048_S2048x256_S512x256_1_0_0_1_n_n none (bX x0) wb (constant S512x256 .f32 0x00000000#32) (ix2 r ⟨e.val - 256, by omega⟩)
          = gate (tok x0 r) (fun d => w1 (ix2 d e)) (fun d => w2 (ix2 d e)) := by
        intro wa wb ha hb
        rw [dotA, dotA]
        unfold gate
        simp only [bX_apply, ha, hb]
      refine (show _ = _ from rfl).trans (key (View.ld (Val := Elt Ideal) w1 (Rect.unit (s := S2048x512) ![0, 256] S2048x256.size inb_S2048x512_S2048x256_0_256))
        (View.ld (Val := Elt Ideal) w2 (Rect.unit (s := S2048x512) ![0, 256] S2048x256.size inb_S2048x512_S2048x256_0_256)) (fun d => ?_) (fun d => ?_))
      · rw [ldW w1 256 (by omega)]; congr 2; exact Fin.ext (show 256 + (e.val - 256) = e.val by omega)
      · rw [ldW w2 256 (by omega)]; congr 2; exact Fin.ext (show 256 + (e.val - 256) = e.val by omega)

/-- Two sets of columns stored as pairs of rows. -/
theorem pair_apply (lo hi : FVec Ideal S512x128 .bf16) (r : Fin 512) (h : Fin 2) (l : Fin 128) :
    interleaveRows S512x2x128 (shapeCast S512x1x128 lo shapeCasts_S512x128_S512x1x128) (shapeCast S512x1x128 hi shapeCasts_S512x128_S512x1x128) bitcasts_S512x2x128_w16_S512x1x128_w32 (ix3 r h l)
      = if h.val = 0 then lo (ix2 r l) else hi (ix2 r l) := by
  have sc : ∀ v : FVec Ideal S512x128 .bf16, shapeCast S512x1x128 v shapeCasts_S512x128_S512x1x128 (ix3 r (0 : Fin 1) l) = v (ix2 r l) := by
    intro v
    pointwise
  rw [interleaveRows_apply]
  have hh : S512x2x128.row (ix3 r h l) = h.val := rfl
  have hl := h.isLt
  rw [hh]
  by_cases h0 : h.val = 0
  · rw [if_pos (by omega), if_pos h0, ← sc lo]
    congr 1
    funext a
    match a with
    | ⟨0, _⟩ => rfl
    | ⟨1, _⟩ => exact Fin.ext (show h.val / 2 = 0 by omega)
    | ⟨2, _⟩ => rfl
  · rw [if_neg (by omega), if_neg h0, ← sc hi]
    congr 1
    funext a
    match a with
    | ⟨0, _⟩ => rfl
    | ⟨1, _⟩ => exact Fin.ext (show h.val / 2 = 0 by omega)
    | ⟨2, _⟩ => rfl

theorem slice_apply (o : ℕ) (ho : o + 128 ≤ 256) (v : FVec Ideal S512x256 .bf16) (hs) (r : Fin 512) (l : Fin 128) :
    extractStridedSlice S512x128 ![0, o] v hs (ix2 r l) = v (ix2 r ⟨o + l.val, by omega⟩) := by
  rw [extractStridedSlice_apply (k := ix2 r ⟨o + l.val, by omega⟩)]
  intro a
  match a with
  | ⟨0, _⟩ => exact (show r.val = 0 + r.val by omega)
  | ⟨1, _⟩ => rfl

/-- One output entry of a point in use: row `r`, column `f`. -/
def outV (x0 : S4096x128.Idx → Elt Ideal .i32) (w1 w2 : S2048x512.Idx → Elt Ideal .bf16) (w3 : S512x2048.Idx → Elt Ideal .bf16) (r : Fin 512) (f : Fin 2048) : EReal :=
  ∑ e : Fin 512, gate (tok x0 r) (fun d => w1 (ix2 d e)) (fun d => w2 (ix2 d e)) * w3 (ix2 e f)

/-- A product of the hidden features with 256 columns of the last weights. -/
theorem outV_of (x0 : S4096x128.Idx → Elt Ideal .i32) (w1 w2 : S2048x512.Idx → Elt Ideal .bf16) (w3 : S512x2048.Idx → Elt Ideal .bf16) (k : ℕ) (hk : k + 256 ≤ 2048) (inb) (r : Fin 512) (l : Fin 256) (f : Fin 2048) (hf : f.val = k + l.val) :
    matmul dot_S512x512_S512x256_S512x256_1_0_0_1_n_n none (bH x0 w1 w2) (φ₂ := .bf16) (View.ld (Val := Elt Ideal) w3 (Rect.unit (s := S512x2048) ![0, k] S512x256.size inb)) (constant S512x256 .f32 0x00000000#32) (ix2 r l)
      = outV x0 w1 w2 w3 r f := by
  rw [dotB]
  unfold outV
  refine Finset.sum_congr rfl fun e _ => ?_
  rw [bH_apply, ldV w3 k hk]
  congr 3
  exact Fin.ext hf.symm

/-- The stored entry a row pair's place holds. -/
def outG (x0 : S4096x128.Idx → Elt Ideal .i32) (w1 w2 : S2048x512.Idx → Elt Ideal .bf16) (w3 : S512x2048.Idx → Elt Ideal .bf16) (y : S4096x2x128.Idx) : EReal :=
  outV x0 w1 w2 w3 ⟨(y 0).val / 8, by have : (y 0).val < 4096 := (y 0).isLt; omega⟩
    ⟨(y 1).val * 1024 + (y 0).val % 8 * 128 + (y 2).val, by have : (y 1).val < 2 := (y 1).isLt; have : (y 2).val < 128 := (y 2).isLt; omega⟩

theorem outG_of (x0 : S4096x128.Idx → Elt Ideal .i32) (w1 w2 : S2048x512.Idx → Elt Ideal .bf16) (w3 : S512x2048.Idx → Elt Ideal .bf16) (s : ℕ) (hs : s < 8) (lo hi : FVec Ideal S512x128 .bf16)
    (hlo : ∀ (r : Fin 512) (l : Fin 128), lo (ix2 r l) = outV x0 w1 w2 w3 r ⟨s * 128 + l.val, by omega⟩)
    (hhi : ∀ (r : Fin 512) (l : Fin 128), hi (ix2 r l) = outV x0 w1 w2 w3 r ⟨1024 + s * 128 + l.val, by omega⟩)
    (h) (x : S512x2x128.Idx) :
    interleaveRows S512x2x128 (shapeCast S512x1x128 lo shapeCasts_S512x128_S512x1x128) (shapeCast S512x1x128 hi shapeCasts_S512x128_S512x1x128) bitcasts_S512x2x128_w16_S512x1x128_w32 x
      = outG x0 w1 w2 w3 ((⟨(⟨![s, 0, 0], S512x2x128.size, ![8, 1, 1], h⟩ : LoadRect S4096x2x128), spos_8_1_1⟩ : Rect S4096x2x128).emb x) := by
  obtain ⟨r, p, l, rfl⟩ : ∃ (r : Fin 512) (p : Fin 2) (l : Fin 128), x = ix3 r p l := ⟨x 0, x 1, x 2, by
    funext a
    match a with
    | ⟨0, _⟩ => rfl
    | ⟨1, _⟩ => rfl
    | ⟨2, _⟩ => rfl⟩
  have hp := p.isLt
  have hl := l.isLt
  rw [pair_apply, hlo, hhi]
  unfold outG
  by_cases h0 : p.val = 0
  · rw [if_pos h0]
    congr 1
    · exact Fin.ext (show r.val = (s + 8 * r.val) / 8 by omega)
    · exact Fin.ext (show s * 128 + l.val = (0 + 1 * p.val) * 1024 + (s + 8 * r.val) % 8 * 128 + (0 + 1 * l.val) by omega)
  · rw [if_neg h0]
    congr 1
    · exact Fin.ext (show r.val = (s + 8 * r.val) / 8 by omega)
    · exact Fin.ext (show 1024 + s * 128 + l.val = (0 + 1 * p.val) * 1024 + (s + 8 * r.val) % 8 * 128 + (0 + 1 * l.val) by omega)

set_option maxHeartbeats 4000000 in
/-- A point in use stores the products' entries. -/
theorem canon_out (x0 : S4096x128.Idx → Elt Ideal .i32) (w1 w2 : S2048x512.Idx → Elt Ideal .bf16) (w3 : S512x2048.Idx → Elt Ideal .bf16) (y : S4096x2x128.Idx) :
    View.canon (outPieces x0 w1 w2 w3) y = outG x0 w1 w2 w3 y := by
  refine View.canon_apply_of_pieces (Val := Elt Ideal) (outG x0 w1 w2 w3) (outPieces x0 w1 w2 w3) ?_ y (outPieces_cover x0 w1 w2 w3 y)
  unfold outPieces
  simp only [List.forall_mem_cons]
  refine ⟨fun x => ?_, fun x => ?_, fun x => ?_, fun x => ?_, fun x => ?_, fun x => ?_, fun x => ?_, fun x => ?_, fun p hp => absurd hp List.not_mem_nil⟩
  · exact outG_of x0 w1 w2 w3 7 (by omega) (extractStridedSlice S512x128 ![0, 128] (matmul dot_S512x512_S512x256_S512x256_1_0_0_1_n_n none (bH x0 w1 w2) (φ₂ := .bf16) (View.ld (Val := Elt Ideal) w3 (Rect.unit (s := S512x2048) ![0, 768] S512x256.size inb_S512x2048_S512x256_0_768)) (constant S512x256 .f32 0x00000000#32)) slices_S512x256_o0_128_S512x128) (extractStridedSlice S512x128 ![0, 128] (matmul dot_S512x512_S512x256_S512x256_1_0_0_1_n_n none (bH x0 w1 w2) (φ₂ := .bf16) (View.ld (Val := Elt Ideal) w3 (Rect.unit (s := S512x2048) ![0, 1792] S512x256.size inb_S512x2048_S512x256_0_1792)) (constant S512x256 .f32 0x00000000#32)) slices_S512x256_o0_128_S512x128) (fun r l => (slice_apply 128 (by omega) _ slices_S512x256_o0_128_S512x128 r l).trans (outV_of x0 w1 w2 w3 768 (by omega) inb_S512x2048_S512x256_0_768 r ⟨128 + l.val, by omega⟩ _ (by first | rfl | (show _ = _; dsimp only; omega)))) (fun r l => (slice_apply 128 (by omega) _ slices_S512x256_o0_128_S512x128 r l).trans (outV_of x0 w1 w2 w3 1792 (by omega) inb_S512x2048_S512x256_0_1792 r ⟨128 + l.val, by omega⟩ _ (by first | rfl | (show _ = _; dsimp only; omega)))) _ x
  · exact outG_of x0 w1 w2 w3 6 (by omega) (extractStridedSlice S512x128 ![0, 0] (matmul dot_S512x512_S512x256_S512x256_1_0_0_1_n_n none (bH x0 w1 w2) (φ₂ := .bf16) (View.ld (Val := Elt Ideal) w3 (Rect.unit (s := S512x2048) ![0, 768] S512x256.size inb_S512x2048_S512x256_0_768)) (constant S512x256 .f32 0x00000000#32)) slices_S512x256_o0_0_S512x128) (extractStridedSlice S512x128 ![0, 0] (matmul dot_S512x512_S512x256_S512x256_1_0_0_1_n_n none (bH x0 w1 w2) (φ₂ := .bf16) (View.ld (Val := Elt Ideal) w3 (Rect.unit (s := S512x2048) ![0, 1792] S512x256.size inb_S512x2048_S512x256_0_1792)) (constant S512x256 .f32 0x00000000#32)) slices_S512x256_o0_0_S512x128) (fun r l => (slice_apply 0 (by omega) _ slices_S512x256_o0_0_S512x128 r l).trans (outV_of x0 w1 w2 w3 768 (by omega) inb_S512x2048_S512x256_0_768 r ⟨0 + l.val, by omega⟩ _ (by first | rfl | (show _ = _; dsimp only; omega)))) (fun r l => (slice_apply 0 (by omega) _ slices_S512x256_o0_0_S512x128 r l).trans (outV_of x0 w1 w2 w3 1792 (by omega) inb_S512x2048_S512x256_0_1792 r ⟨0 + l.val, by omega⟩ _ (by first | rfl | (show _ = _; dsimp only; omega)))) _ x
  · exact outG_of x0 w1 w2 w3 5 (by omega) (extractStridedSlice S512x128 ![0, 128] (matmul dot_S512x512_S512x256_S512x256_1_0_0_1_n_n none (bH x0 w1 w2) (φ₂ := .bf16) (View.ld (Val := Elt Ideal) w3 (Rect.unit (s := S512x2048) ![0, 512] S512x256.size inb_S512x2048_S512x256_0_512)) (constant S512x256 .f32 0x00000000#32)) slices_S512x256_o0_128_S512x128) (extractStridedSlice S512x128 ![0, 128] (matmul dot_S512x512_S512x256_S512x256_1_0_0_1_n_n none (bH x0 w1 w2) (φ₂ := .bf16) (View.ld (Val := Elt Ideal) w3 (Rect.unit (s := S512x2048) ![0, 1536] S512x256.size inb_S512x2048_S512x256_0_1536)) (constant S512x256 .f32 0x00000000#32)) slices_S512x256_o0_128_S512x128) (fun r l => (slice_apply 128 (by omega) _ slices_S512x256_o0_128_S512x128 r l).trans (outV_of x0 w1 w2 w3 512 (by omega) inb_S512x2048_S512x256_0_512 r ⟨128 + l.val, by omega⟩ _ (by first | rfl | (show _ = _; dsimp only; omega)))) (fun r l => (slice_apply 128 (by omega) _ slices_S512x256_o0_128_S512x128 r l).trans (outV_of x0 w1 w2 w3 1536 (by omega) inb_S512x2048_S512x256_0_1536 r ⟨128 + l.val, by omega⟩ _ (by first | rfl | (show _ = _; dsimp only; omega)))) _ x
  · exact outG_of x0 w1 w2 w3 4 (by omega) (extractStridedSlice S512x128 ![0, 0] (matmul dot_S512x512_S512x256_S512x256_1_0_0_1_n_n none (bH x0 w1 w2) (φ₂ := .bf16) (View.ld (Val := Elt Ideal) w3 (Rect.unit (s := S512x2048) ![0, 512] S512x256.size inb_S512x2048_S512x256_0_512)) (constant S512x256 .f32 0x00000000#32)) slices_S512x256_o0_0_S512x128) (extractStridedSlice S512x128 ![0, 0] (matmul dot_S512x512_S512x256_S512x256_1_0_0_1_n_n none (bH x0 w1 w2) (φ₂ := .bf16) (View.ld (Val := Elt Ideal) w3 (Rect.unit (s := S512x2048) ![0, 1536] S512x256.size inb_S512x2048_S512x256_0_1536)) (constant S512x256 .f32 0x00000000#32)) slices_S512x256_o0_0_S512x128) (fun r l => (slice_apply 0 (by omega) _ slices_S512x256_o0_0_S512x128 r l).trans (outV_of x0 w1 w2 w3 512 (by omega) inb_S512x2048_S512x256_0_512 r ⟨0 + l.val, by omega⟩ _ (by first | rfl | (show _ = _; dsimp only; omega)))) (fun r l => (slice_apply 0 (by omega) _ slices_S512x256_o0_0_S512x128 r l).trans (outV_of x0 w1 w2 w3 1536 (by omega) inb_S512x2048_S512x256_0_1536 r ⟨0 + l.val, by omega⟩ _ (by first | rfl | (show _ = _; dsimp only; omega)))) _ x
  · exact outG_of x0 w1 w2 w3 3 (by omega) (extractStridedSlice S512x128 ![0, 128] (matmul dot_S512x512_S512x256_S512x256_1_0_0_1_n_n none (bH x0 w1 w2) (φ₂ := .bf16) (View.ld (Val := Elt Ideal) w3 (Rect.unit (s := S512x2048) ![0, 256] S512x256.size inb_S512x2048_S512x256_0_256)) (constant S512x256 .f32 0x00000000#32)) slices_S512x256_o0_128_S512x128) (extractStridedSlice S512x128 ![0, 128] (matmul dot_S512x512_S512x256_S512x256_1_0_0_1_n_n none (bH x0 w1 w2) (φ₂ := .bf16) (View.ld (Val := Elt Ideal) w3 (Rect.unit (s := S512x2048) ![0, 1280] S512x256.size inb_S512x2048_S512x256_0_1280)) (constant S512x256 .f32 0x00000000#32)) slices_S512x256_o0_128_S512x128) (fun r l => (slice_apply 128 (by omega) _ slices_S512x256_o0_128_S512x128 r l).trans (outV_of x0 w1 w2 w3 256 (by omega) inb_S512x2048_S512x256_0_256 r ⟨128 + l.val, by omega⟩ _ (by first | rfl | (show _ = _; dsimp only; omega)))) (fun r l => (slice_apply 128 (by omega) _ slices_S512x256_o0_128_S512x128 r l).trans (outV_of x0 w1 w2 w3 1280 (by omega) inb_S512x2048_S512x256_0_1280 r ⟨128 + l.val, by omega⟩ _ (by first | rfl | (show _ = _; dsimp only; omega)))) _ x
  · exact outG_of x0 w1 w2 w3 2 (by omega) (extractStridedSlice S512x128 ![0, 0] (matmul dot_S512x512_S512x256_S512x256_1_0_0_1_n_n none (bH x0 w1 w2) (φ₂ := .bf16) (View.ld (Val := Elt Ideal) w3 (Rect.unit (s := S512x2048) ![0, 256] S512x256.size inb_S512x2048_S512x256_0_256)) (constant S512x256 .f32 0x00000000#32)) slices_S512x256_o0_0_S512x128) (extractStridedSlice S512x128 ![0, 0] (matmul dot_S512x512_S512x256_S512x256_1_0_0_1_n_n none (bH x0 w1 w2) (φ₂ := .bf16) (View.ld (Val := Elt Ideal) w3 (Rect.unit (s := S512x2048) ![0, 1280] S512x256.size inb_S512x2048_S512x256_0_1280)) (constant S512x256 .f32 0x00000000#32)) slices_S512x256_o0_0_S512x128) (fun r l => (slice_apply 0 (by omega) _ slices_S512x256_o0_0_S512x128 r l).trans (outV_of x0 w1 w2 w3 256 (by omega) inb_S512x2048_S512x256_0_256 r ⟨0 + l.val, by omega⟩ _ (by first | rfl | (show _ = _; dsimp only; omega)))) (fun r l => (slice_apply 0 (by omega) _ slices_S512x256_o0_0_S512x128 r l).trans (outV_of x0 w1 w2 w3 1280 (by omega) inb_S512x2048_S512x256_0_1280 r ⟨0 + l.val, by omega⟩ _ (by first | rfl | (show _ = _; dsimp only; omega)))) _ x
  · exact outG_of x0 w1 w2 w3 1 (by omega) (extractStridedSlice S512x128 ![0, 128] (matmul dot_S512x512_S512x256_S512x256_1_0_0_1_n_n none (bH x0 w1 w2) (φ₂ := .bf16) (View.ld (Val := Elt Ideal) w3 (Rect.unit (s := S512x2048) ![0, 0] S512x256.size inb_S512x2048_S512x256_0_0)) (constant S512x256 .f32 0x00000000#32)) slices_S512x256_o0_128_S512x128) (extractStridedSlice S512x128 ![0, 128] (matmul dot_S512x512_S512x256_S512x256_1_0_0_1_n_n none (bH x0 w1 w2) (φ₂ := .bf16) (View.ld (Val := Elt Ideal) w3 (Rect.unit (s := S512x2048) ![0, 1024] S512x256.size inb_S512x2048_S512x256_0_1024)) (constant S512x256 .f32 0x00000000#32)) slices_S512x256_o0_128_S512x128) (fun r l => (slice_apply 128 (by omega) _ slices_S512x256_o0_128_S512x128 r l).trans (outV_of x0 w1 w2 w3 0 (by omega) inb_S512x2048_S512x256_0_0 r ⟨128 + l.val, by omega⟩ _ (by first | rfl | (show _ = _; dsimp only; omega)))) (fun r l => (slice_apply 128 (by omega) _ slices_S512x256_o0_128_S512x128 r l).trans (outV_of x0 w1 w2 w3 1024 (by omega) inb_S512x2048_S512x256_0_1024 r ⟨128 + l.val, by omega⟩ _ (by first | rfl | (show _ = _; dsimp only; omega)))) _ x
  · exact outG_of x0 w1 w2 w3 0 (by omega) (extractStridedSlice S512x128 ![0, 0] (matmul dot_S512x512_S512x256_S512x256_1_0_0_1_n_n none (bH x0 w1 w2) (φ₂ := .bf16) (View.ld (Val := Elt Ideal) w3 (Rect.unit (s := S512x2048) ![0, 0] S512x256.size inb_S512x2048_S512x256_0_0)) (constant S512x256 .f32 0x00000000#32)) slices_S512x256_o0_0_S512x128) (extractStridedSlice S512x128 ![0, 0] (matmul dot_S512x512_S512x256_S512x256_1_0_0_1_n_n none (bH x0 w1 w2) (φ₂ := .bf16) (View.ld (Val := Elt Ideal) w3 (Rect.unit (s := S512x2048) ![0, 1024] S512x256.size inb_S512x2048_S512x256_0_1024)) (constant S512x256 .f32 0x00000000#32)) slices_S512x256_o0_0_S512x128) (fun r l => (slice_apply 0 (by omega) _ slices_S512x256_o0_0_S512x128 r l).trans (outV_of x0 w1 w2 w3 0 (by omega) inb_S512x2048_S512x256_0_0 r ⟨0 + l.val, by omega⟩ _ (by first | rfl | (show _ = _; dsimp only; omega)))) (fun r l => (slice_apply 0 (by omega) _ slices_S512x256_o0_0_S512x128 r l).trans (outV_of x0 w1 w2 w3 1024 (by omega) inb_S512x2048_S512x256_0_1024 r ⟨0 + l.val, by omega⟩ _ (by first | rfl | (show _ = _; dsimp only; omega)))) _ x

end Cert.ExpertsIdeal.Hand

end
-- ==== Proof.ReferenceValue.lean ====
module

public import proofs.«01_k».proof.Proof.Gen.ReferenceIdeal.Run
public import proofs.«01_k».proof.Proof.ExpertsSpec
public import Idealize.ShloMosaic.Lib.StackMember
public import Idealize.ShloMosaic.Lib.ValueIdxCore
public import Idealize.ShloMosaic.Lib.Pipeline.Value

@[expose] public section

set_option maxRecDepth 16384
set_option Elab.async false

noncomputable section

namespace Cert.ReferenceIdeal.Hand

open Cert.ReferenceIdeal Cert.ReferenceIdeal.Gen
open Idealize.ShloMosaic
open Cert.Spec
open Idealize.SL Idealize.SL.Sem

/-! ## The reference's result, entry by entry -/

section Blocks
variable {α : Type}

/-- Whole slabs of a stack taken by a list of places. -/
abbrev slabDims (N A B G : Nat)
    (wf : GatherDims.WF ⟨3, ![N, A, B]⟩ ⟨2, ![G, 1]⟩ ⟨3, ![G, A, B]⟩ [1, 2] [0] [] [0] [] 1 ![1, A, B]) :
    GatherDims ⟨3, ![N, A, B]⟩ ⟨2, ![G, 1]⟩ ⟨3, ![G, A, B]⟩ where
  offsetDims := [1, 2]
  collapsedSliceDims := [0]
  operandBatchingDims := []
  startIndicesBatchingDims := []
  startIndexMap := [0]
  indexVectorDim := 1
  sliceSizes := ![1, A, B]
  wf := wf

/-- The taken stack, entry by entry. -/
theorem slab_apply {N A B G w : Nat} (hN : 0 < N)
    (wf : GatherDims.WF ⟨3, ![N, A, B]⟩ ⟨2, ![G, 1]⟩ ⟨3, ![G, A, B]⟩ [1, 2] [0] [] [0] [] 1 ![1, A, B])
    (x : (⟨3, ![N, A, B]⟩ : Shape).Idx → α) (idx : IVec ⟨2, ![G, 1]⟩ w) (g : Fin G) (a : Fin A) (b : Fin B) :
    Host.gather (slabDims N A B G wf) x idx (ix3 g a b) = x (ix3 ⟨min (idx (ix2 g 0)).toInt.toNat (N - 1), by omega⟩ a b) := by
  unfold Host.gather
  congr 1
  funext ax
  refine Fin.ext ?_
  show (slabDims N A B G wf).start (ix3 g a b) idx ax + (slabDims N A B G wf).batchCoord (ix3 g a b) ax + (slabDims N A B G wf).offCoord (ix3 g a b) ax = _
  rw [GatherDims.batchCoord_eq_zero _ _ _ List.not_mem_nil]
  obtain rfl | rfl | rfl : ax = 0 ∨ ax = 1 ∨ ax = 2 := by
    match ax with
    | ⟨0, _⟩ => exact Or.inl rfl
    | ⟨1, _⟩ => exact Or.inr (Or.inl rfl)
    | ⟨2, _⟩ => exact Or.inr (Or.inr rfl)
  · rw [GatherDims.offCoord_eq_zero _ _ _ (fun h => ((GatherDims.mem_sKept _ _).mp h).1 (List.mem_singleton.mpr rfl))]
    unfold GatherDims.start
    rw [dif_pos (show (0 : Fin 3) ∈ (slabDims N A B G wf).startIndexMap from List.mem_singleton.mpr rfl)]
    have hsi : (slabDims N A B G wf).siIdx (ix3 g a b) ⟨List.idxOf (0 : Fin 3) (slabDims N A B G wf).startIndexMap,
        List.idxOf_lt_length_iff.2 (List.mem_singleton.mpr rfl)⟩ = ix2 g 0 := by
      funext b; refine Fin.ext ?_
      match b with
      | ⟨0, _⟩ => rfl
      | ⟨1, _⟩ => rfl
    show min (idx ((slabDims N A B G wf).siIdx (ix3 g a b) ⟨List.idxOf (0 : Fin 3) (slabDims N A B G wf).startIndexMap, _⟩)).toInt.toNat _ + 0 + 0 = _
    rw [hsi]
    rfl
  · unfold GatherDims.start
    rw [dif_neg (by simp)]
    show 0 + 0 + a.val = a.val
    omega
  · unfold GatherDims.start
    rw [dif_neg (by simp)]
    show 0 + 0 + b.val = b.val
    omega

end Blocks

/-- A place in range taken by the wrapped index is itself. -/
theorem wrap_apply (n : ℕ) (hn : n < 2 ^ 31) (v : S192.Idx → BitVec 32) (x : S192.Idx) (hv : (v x).toNat < n) (k z : IVec S192 32) (hz : z x = 0#32) :
    (select (cmpi .slt v z) (addi v k) v x).toInt.toNat = (v x).toNat := by
  have h0 : IntOp.cmpi .slt (v x) (z x) = 0#1 := by
    rw [hz]
    unfold IntOp.cmpi
    have : (v x).slt 0#32 = false := by
      rw [BitVec.slt_eq_decide, decide_eq_false_iff_not, BitVec.toInt_zero, BitVec.toInt_eq_toNat_cond]
      split <;> omega
    simp [this]
  have : select (cmpi .slt v z) (addi v k) v x = v x := by
    show (if IntOp.cmpi .slt (v x) (z x) = 1#1 then _ else v x) = v x
    rw [h0]; rfl
  rw [this, BitVec.toInt_eq_toNat_cond]
  split <;> omega

/-- A table's wrapped entry, as the gather's index column holds it. -/
theorem wrapB (n : ℕ) (hn : n < 2 ^ 31) (v : S192.Idx → BitVec 32) (t : Fin 192) (hv : (v (ix1 t)).toNat < n) (k z : S192.Idx → BitVec 32) (h) (hz : z (ix1 t) = 0#32) :
    (broadcastInDim S192x1 ![0] h (select (cmpi .slt v z) (addi v k) v) (ix2 t 0)).toInt.toNat = (v (ix1 t)).toNat := by
  have e : broadcastInDim S192x1 ![0] h (select (cmpi .slt v z) (addi v k) v) (ix2 t 0) = select (cmpi .slt v z) (addi v k) v (ix1 t) := by
    pointwise
  rw [e]
  exact wrap_apply n hn v (ix1 t) hv k z hz

theorem ixe3 {a b c : ℕ} (i : Fin a) (j : Fin b) (k : Fin c) : ValueIdx.ix3 i j k = ix3 i j k := by
  funext x
  match x with
  | ⟨0, _⟩ => rfl
  | ⟨1, _⟩ => rfl
  | ⟨2, _⟩ => rfl

theorem dotA (A : FVec Ideal S192x512x2048 .f32) (B : FVec Ideal S192x2048x512 .f32) (g : Fin 192) (a : Fin 512) (b : Fin 512) :
    Host.dotGeneral dot_S192x512x2048_S192x2048x512_S192x512x512_2_1_1_2_0_0 none A B (ix3 g a b) = ∑ c : Fin 2048, A (ix3 g a c) * B (ix3 g c b) := by
  have h := StackMember.dotGeneral_stack_apply (φ₁ := .f32) (φ₂ := .f32) (G := 192) (m := 512) (k := 2048) (n := 512) dot_S192x512x2048_S192x2048x512_S192x512x512_2_1_1_2_0_0.wf none A B g a b
  simp only [ixe3] at h
  exact h

theorem dotB (A : FVec Ideal S192x512x512 .f32) (B : FVec Ideal S192x512x2048 .f32) (g : Fin 192) (a : Fin 512) (b : Fin 2048) :
    Host.dotGeneral dot_S192x512x512_S192x512x2048_S192x512x2048_2_1_1_2_0_0 none A B (ix3 g a b) = ∑ c : Fin 512, A (ix3 g a c) * B (ix3 g c b) := by
  have h := StackMember.dotGeneral_stack_apply (φ₁ := .f32) (φ₂ := .f32) (G := 192) (m := 512) (k := 512) (n := 2048) dot_S192x512x512_S192x512x2048_S192x512x2048_2_1_1_2_0_0.wf none A B g a b
  simp only [ixe3] at h
  exact h

/-- The rows of words' layout read back to a token and a feature. -/
theorem lay_apply (Y : FVec Ideal S192x512x2048 .f32) (h1) (h2) (h3) (hb) (y : S1572864x128.Idx) :
    (truncf .bf16 (shapeCast S1572864x128 (transpose S192x512x8x2x128 [0, 1, 3, 2, 4] (shapeCast S192x512x2x8x128 Y h1) h2) h3) hb : FVec Ideal S1572864x128 .bf16) y
      = Y (ix3 ⟨(y 0).val / 8192, by have : (y 0).val < 1572864 := (y 0).isLt; omega⟩ ⟨(y 0).val / 16 % 512, by omega⟩
        ⟨(y 0).val % 2 * 1024 + (y 0).val / 2 % 8 * 128 + (y 1).val, by have : (y 1).val < 128 := (y 1).isLt; omega⟩) := by
  have l0 : (y 0).val < 1572864 := (y 0).isLt
  have l1 : (y 1).val < 128 := (y 1).isLt
  show Y (Shape.reshapeEquiv h1 (_ : S192x512x2x8x128.Idx)) = _
  have e1 : Shape.reshapeEquiv h3 y = (ix5 ⟨(y 0).val / 8192, by omega⟩ ⟨(y 0).val / 16 % 512, by omega⟩ ⟨(y 0).val / 2 % 8, by omega⟩ ⟨(y 0).val % 2, by omega⟩ ⟨(y 1).val, l1⟩ : S192x512x8x2x128.Idx) :=
    Shape.reshapeEquiv_eq_of_vals h3 y _ _ _ (Shape.rowMajor_val_five _) (Shape.rowMajor_val_two _) (by
      show ((((y 0).val / 8192 * 512 + (y 0).val / 16 % 512) * 8 + (y 0).val / 2 % 8) * 2 + (y 0).val % 2) * 128 + (y 1).val = (y 0).val * 128 + (y 1).val
      omega)
  rw [e1]
  refine congrArg Y (Shape.reshapeEquiv_eq_of_vals h1 _ _ _ _ (Shape.rowMajor_val_three _) (Shape.rowMajor_val_five _) ?_)
  show ((y 0).val / 8192 * 512 + (y 0).val / 16 % 512) * 2048 + ((y 0).val % 2 * 1024 + (y 0).val / 2 % 8 * 128 + (y 1).val)
    = ((((y 0).val / 8192 * 512 + (y 0).val / 16 % 512) * 2 + (y 0).val % 2) * 8 + (y 0).val / 2 % 8) * 128 + (y 1).val
  omega

/-- Blocks past the ones in use are zero. -/
theorem sel_apply (nu : S1.Idx → BitVec 32) (Y Z : FVec Ideal S192x512x2048 .f32) (h1 h2 h3 h4) (t : Fin 192) (r : Fin 512) (f : Fin 2048) (hZ : Z (ix3 t r f) = 0) :
    select (broadcastInDim S192x512x2048 ![0, 1, 2] h1 (broadcastInDim S192x1x1 ![0] h2 (cmpi .slt (iotaInDim S192 32 0) (broadcastInDim S192 ![] h3 (shapeCast S_ nu h4))))) Y Z (ix3 t r f)
      = if (t.val : ℤ) < (nu (ix1 0)).toInt then Y (ix3 t r f) else 0 := by
  have hv : shapeCast S_ nu h4 = fun _ => nu (ix1 0) := by
    funext j
    show nu _ = _
    congr 1
    funext a
    match a with
    | ⟨0, _⟩ => exact Fin.ext (by have := (Shape.reshapeEquiv h4 j (0 : Fin 1)).isLt; show (Shape.reshapeEquiv h4 j (0 : Fin 1)).val = 0; simpa using this)
  rw [hv]
  show (if IntOp.cmpi .slt (BitVec.ofNat 32 t.val) (nu (ix1 0)) = 1#1 then Y (ix3 t r f) else Z (ix3 t r f)) = _
  have ht := t.isLt
  have hiff : IntOp.cmpi .slt (BitVec.ofNat 32 t.val) (nu (ix1 0)) = 1#1 ↔ (t.val : ℤ) < (nu (ix1 0)).toInt := by
    unfold IntOp.cmpi
    have e : (BitVec.ofNat 32 t.val).toInt = (t.val : ℤ) := by
      rw [BitVec.toInt_eq_toNat_cond, BitVec.toNat_ofNat, Nat.mod_eq_of_lt (by omega)]
      split <;> omega
    rw [show ∀ b : Bool, BitVec.ofBool b = 1#1 ↔ b = true by decide]
    rw [BitVec.slt_eq_decide, decide_eq_true_iff, e]
  simp only [hiff, hZ]

/-- The tokens a block reads. -/
theorem tok_apply (xs : S786432x128.Idx → BitVec 32) (bi : S192.Idx → BitVec 32) (h1 h2 h3 h4) (ix : IVec S192x1 32) (t : Fin 192) (r : Fin 512) (d : Fin 2048)
    (hix : (ix (ix2 t 0)).toInt.toNat = (bi (ix1 t)).toNat) (hr : (bi (ix1 t)).toNat < 192) :
    Host.gather gather_S192x512x2048_S192x1_S192x512x2048_12_0_n_n_0_1_15122048 (concatenate S192x512x2048 2 [⟨S192x512x1024, (bitcastToFloat (F := Ideal) .f32 (Host.shli (shapeCast S192x512x1024 xs h1) (broadcastInDim S192x512x1024 ![] h2 (constantI S_ 32 16#32))))⟩, ⟨S192x512x1024, (bitcastToFloat (F := Ideal) .f32 (andi (shapeCast S192x512x1024 xs h1) (broadcastInDim S192x512x1024 ![] h3 (constantI S_ 32 4294901760#32))))⟩] h4) ix (ix3 t r d)
      = tokG xs ⟨(bi (ix1 t)).toNat % 192, by omega⟩ r d := by
  have hd := d.isLt
  have hrr := r.isLt
  refine Eq.trans (slab_apply (N := 192) (A := 512) (B := 2048) (G := 192) (by decide) gather_S192x512x2048_S192x1_S192x512x2048_12_0_n_n_0_1_15122048.wf _ ix t r d) ?_
  rw [show (⟨min (ix (ix2 t 0)).toInt.toNat (192 - 1), by omega⟩ : Fin 192) = ⟨(bi (ix1 t)).toNat % 192, by omega⟩ from Fin.ext (by show min _ _ = (bi (ix1 t)).toNat % 192; rw [hix]; omega)]
  have hw : ∀ (b : Fin 192) (q : Fin 1024) , shapeCast S192x512x1024 xs h1 (ix3 b r q) = xs (ix2 ⟨b.val * 4096 + (r.val * 8 + q.val / 128), by omega⟩ ⟨q.val % 128, by omega⟩) := fun b q =>
    congrArg xs (Shape.reshapeEquiv_eq_of_vals h1 _ _ _ _ (Shape.rowMajor_val_two _) (Shape.rowMajor_val_three _) (by
      show (b.val * 4096 + (r.val * 8 + q.val / 128)) * 128 + q.val % 128 = (b.val * 512 + r.val) * 1024 + q.val
      omega))
  unfold tokG
  by_cases h : d.val < 1024
  · rw [if_pos h]
    refine Eq.trans (concatenate_apply_piece (t := S192x512x2048) 2 _ _ _ 0 (by simp) S192x512x1024 _ rfl rfl 0 rfl (ix3 ⟨(bi (ix1 t)).toNat % 192, by omega⟩ r ⟨d.val, h⟩) (fun b hb => ?_) (show 0 + d.val = d.val by omega)) ?_
    · match b with
      | ⟨0, _⟩ => rfl
      | ⟨1, _⟩ => rfl
      | ⟨2, _⟩ => exact absurd rfl hb
    · show FloatOps.ofBits (F := Ideal) .f32 (IntOp.shli .host (shapeCast S192x512x1024 xs h1 (ix3 ⟨(bi (ix1 t)).toNat % 192, by omega⟩ r ⟨d.val, h⟩)) 16#32) = _
      rw [hw]
      unfold loV IntOp.shli
      rw [if_pos (by decide)]
      have e : d.val / 128 % 8 = d.val / 128 := by omega
      simp only [e]
      rfl
  · rw [if_neg h]
    refine Eq.trans (concatenate_apply_piece (t := S192x512x2048) 2 _ _ _ 1 (by simp) S192x512x1024 _ rfl rfl 1024 rfl (ix3 ⟨(bi (ix1 t)).toNat % 192, by omega⟩ r ⟨d.val - 1024, by omega⟩) (fun b hb => ?_) (show 1024 + (d.val - 1024) = d.val by omega)) ?_
    · match b with
      | ⟨0, _⟩ => rfl
      | ⟨1, _⟩ => rfl
      | ⟨2, _⟩ => exact absurd rfl hb
    · show FloatOps.ofBits (F := Ideal) .f32 (IntOp.andi (shapeCast S192x512x1024 xs h1 (ix3 ⟨(bi (ix1 t)).toNat % 192, by omega⟩ r ⟨d.val - 1024, by omega⟩)) 4294901760#32) = _
      rw [hw]
      unfold hiV IntOp.andi
      have e : (d.val - 1024) / 128 = d.val / 128 % 8 := by omega
      have e' : (d.val - 1024) % 128 = d.val % 128 := by omega
      simp only [e, e']

/-- A block's gate or up weights. -/
theorem wA_apply (w : S2x32x2048x512.Idx → EReal) (be : S192.Idx → BitVec 32) (h1 h2) (ix : IVec S192x1 32) (t : Fin 192) (d : Fin 2048) (e : Fin 512)
    (hix : (ix (ix2 t 0)).toInt.toNat = (be (ix1 t)).toNat) (hr : (be (ix1 t)).toNat < 32) :
    Host.gather gather_S32x2048x512_S192x1_S192x2048x512_12_0_n_n_0_1_12048512 (shapeCast S32x2048x512 (extractStridedSlice S1x32x2048x512 ![0, 0, 0, 0] w h1) h2) ix (ix3 t d e)
      = w (ix4 0 ⟨(be (ix1 t)).toNat % 32, by omega⟩ d e) := by
  refine Eq.trans (slab_apply (N := 32) (A := 2048) (B := 512) (G := 192) (by decide) gather_S32x2048x512_S192x1_S192x2048x512_12_0_n_n_0_1_12048512.wf _ ix t d e) ?_
  rw [show (⟨min (ix (ix2 t 0)).toInt.toNat (32 - 1), by omega⟩ : Fin 32) = ⟨(be (ix1 t)).toNat % 32, by omega⟩ from Fin.ext (by show min _ _ = (be (ix1 t)).toNat % 32; rw [hix]; omega)]
  pointwise

/-- A block's down weights. -/
theorem wB_apply (w : S2x32x512x2048.Idx → EReal) (be : S192.Idx → BitVec 32) (h1 h2) (ix : IVec S192x1 32) (t : Fin 192) (d : Fin 512) (e : Fin 2048)
    (hix : (ix (ix2 t 0)).toInt.toNat = (be (ix1 t)).toNat) (hr : (be (ix1 t)).toNat < 32) :
    Host.gather gather_S32x512x2048_S192x1_S192x512x2048_12_0_n_n_0_1_15122048 (shapeCast S32x512x2048 (extractStridedSlice S1x32x512x2048 ![0, 0, 0, 0] w h1) h2) ix (ix3 t d e)
      = w (ix4 0 ⟨(be (ix1 t)).toNat % 32, by omega⟩ d e) := by
  refine Eq.trans (slab_apply (N := 32) (A := 512) (B := 2048) (G := 192) (by decide) gather_S32x512x2048_S192x1_S192x512x2048_12_0_n_n_0_1_15122048.wf _ ix t d e) ?_
  rw [show (⟨min (ix (ix2 t 0)).toInt.toNat (32 - 1), by omega⟩ : Fin 32) = ⟨(be (ix1 t)).toNat % 32, by omega⟩ from Fin.ext (by show min _ _ = (be (ix1 t)).toNat % 32; rw [hix]; omega)]
  pointwise

/-- The hidden features. -/
theorem hid_apply (X : FVec Ideal S192x512x2048 .f32) (A B : FVec Ideal S192x2048x512 .f32) (h1 h2) (t : Fin 192) (r e : Fin 512) :
    mulf (mulf (Host.dotGeneral dot_S192x512x2048_S192x2048x512_S192x512x512_2_1_1_2_0_0 none X A) (Host.divf (broadcastInDim S192x512x512 ![] h1 (constant S_ .f32 0x3F800000#32)) (addf (broadcastInDim S192x512x512 ![] h2 (constant S_ .f32 0x3F800000#32)) (Host.exp (Host.negf (Host.dotGeneral dot_S192x512x2048_S192x2048x512_S192x512x512_2_1_1_2_0_0 none X A)))))) (Host.dotGeneral dot_S192x512x2048_S192x2048x512_S192x512x512_2_1_1_2_0_0 none X B) (ix3 t r e)
      = gate (fun d => X (ix3 t r d)) (fun d => A (ix3 t d e)) (fun d => B (ix3 t d e)) := by
  show Host.dotGeneral dot_S192x512x2048_S192x2048x512_S192x512x512_2_1_1_2_0_0 none X A (ix3 t r e) * Ideal.div (Ideal.ofBits .f32 0x3F800000#32) (Ideal.ofBits .f32 0x3F800000#32 + Ideal.exp (-(Host.dotGeneral dot_S192x512x2048_S192x2048x512_S192x512x512_2_1_1_2_0_0 none X A (ix3 t r e))))
    * Host.dotGeneral dot_S192x512x2048_S192x2048x512_S192x512x512_2_1_1_2_0_0 none X B (ix3 t r e) = _
  rw [Ideal.ofBits_one_f32, dotA, dotA]
  rfl

variable (m : (ℓ : Loc nD τ sig) → Buf (Elt Ideal) ℓ)

set_option maxHeartbeats 4000000 in
/-- The reference's result is the experts' result. -/
theorem result_eq (c : Dev nD) (hb : ∀ x : S192.Idx, (m ((c.tc : Thread nD τ).loc main_arg0) x).toNat < 32 ∧ (m ((c.tc : Thread nD τ).loc main_arg1) x).toNat < 192) (y : S1572864x128.Idx) :
    Value.res_main_v56 (F := Ideal) m c y = outY (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) y := by
  unfold Value.res_main_v56
  show @Eq EReal _ _
  refine Eq.trans (lay_apply _ _ _ _ _ y) ?_
  unfold outY entry
  refine Eq.trans (sel_apply _ _ _ _ _ _ _ _ _ _ ?_) ?_
  · exact Ideal.ofBits_zero_f32
  refine if_congr Iff.rfl ?_ rfl
  refine Eq.trans (dotB _ _ _ _ _) ?_
  refine Finset.sum_congr rfl fun e _ => ?_
  refine congr (congrArg _ ?_) ?_
  · refine Eq.trans (hid_apply _ _ _ _ _ _ _ _) ?_
    refine congr (congr (congrArg gate (funext fun d => ?_)) (funext fun d => ?_)) (funext fun d => ?_)
    · exact tok_apply _ _ _ _ _ _ _ _ _ _ (wrapB 192 (by decide) _ _ (hb _).2 _ _ _ rfl) (hb _).2
    · exact wA_apply _ _ _ _ _ _ _ _ (wrapB 32 (by decide) _ _ (hb _).1 _ _ _ rfl) (hb _).1
    · exact wA_apply _ _ _ _ _ _ _ _ (wrapB 32 (by decide) _ _ (hb _).1 _ _ _ rfl) (hb _).1
  · exact wB_apply _ _ _ _ _ _ _ _ (wrapB 32 (by decide) _ _ (hb _).1 _ _ _ rfl) (hb _).1

end Cert.ReferenceIdeal.Hand

end
-- ==== Proof.ExpertsIdealValue.lean ====
module

public import proofs.«01_k».proof.Proof.ExpertsIdealLaunch
public import proofs.«01_k».proof.Proof.ExpertsIdealPoint
public import Idealize.ShloMosaic.Lib.Pipeline.Value
public import Idealize.ShloMosaic.Lib.Pointwise
public import Idealize.ShloMosaic.Lib.IdealHost
public import proofs.«01_k».proof.Proof.ReferenceValue

@[expose] public section

set_option maxRecDepth 16384
set_option Elab.async false

noncomputable section

namespace Cert.ExpertsIdeal.Hand

open Cert.ExpertsIdeal Cert.ExpertsIdeal.Gen
open Idealize.ShloMosaic
open Idealize.ShloMosaic.TcCoe
open Cert.Spec
open Idealize.SL Idealize.SL.Sem
open Idealize.ShloMosaic.Pipeline (Dat Cfg Window)

/-! ## The experts' whole result -/

/-- The gate weights of a block, without its leading axes. -/
theorem pay2_apply (x : S1x1x2048x512.Idx → Elt Ideal .f32) (d : Fin 2048) (e : Fin 512) : k0_pay2 x (ix2 d e) = x (ix4 0 0 d e) := by
  pointwise [k0_pay2]

/-- The up weights of a block, without its leading axes. -/
theorem pay3_apply (x : S1x1x2048x512.Idx → Elt Ideal .f32) (d : Fin 2048) (e : Fin 512) : k0_pay3 x (ix2 d e) = x (ix4 0 0 d e) := by
  pointwise [k0_pay3]

/-- The down weights of a block, without its leading axes. -/
theorem pay4_apply (x : S1x1x512x2048.Idx → Elt Ideal .f32) (d : Fin 512) (e : Fin 2048) : k0_pay4 x (ix2 d e) = x (ix4 0 0 d e) := by
  pointwise [k0_pay4]

/-- An output row's place among the row pairs. -/
theorem sq_eq (y : S8192x128.Idx) : sq y = ix3 ⟨(y 0).val / 2, by have : (y 0).val < 8192 := (y 0).isLt; omega⟩ ⟨(y 0).val % 2, by omega⟩ (⟨(y 1).val, (y 1).isLt⟩ : Fin 128) := by
  have l0 : (y 0).val < 8192 := (y 0).isLt
  have l1 : (y 1).val < 128 := (y 1).isLt
  unfold sq
  refine (Equiv.symm_apply_eq _).mpr ?_
  refine (Shape.reshapeEquiv_eq_of_vals _ _ _ _ _ (Shape.rowMajor_val_two _) (Shape.rowMajor_val_three _) ?_).symm
  show (y 0).val * 128 + (y 1).val = ((y 0).val / 2 * 2 + (y 0).val % 2) * 128 + (y 1).val
  omega

theorem wNu_eq (T2 : S1.Idx → Elt Ideal .i32) : wNu T2 = T2 (ix1 0) := by
  unfold wNu
  show T2 _ = T2 _
  congr 1
  funext a
  match a with
  | ⟨0, _⟩ => exact Subsingleton.elim (α := Fin 1) _ _

variable (m : (ℓ : Loc nD τ sig) → Buf (Elt Ideal) ℓ) (ρ : Dev nD → PrngReg)

/-- The experts' result at the launch's arrays. -/
def G (c : Dev nD) : S1572864x128.Idx → EReal :=
  outY (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

variable (hok : ok0 (F := Ideal) (pf m))

theorem eI_eq (t : Fin (cfgA m hok).N) : eI (crd m hok t) = ix1 (⟨t.val, show t.val < 192 from t.isLt⟩ : Fin 192) := by
  funext a
  match a with
  | ⟨0, _⟩ => exact Fin.ext (crd_val m hok t)

set_option maxHeartbeats 4000000 in
/-- A point's block is its part of the result. -/
theorem blk_apply (hr : ∀ x : S192.Idx, (T0 m x).toNat < 32 ∧ (T1 m x).toNat < 192) (t : Fin (cfgA m hok).N) (y : S8192x128.Idx) (x : S1572864x128.Idx)
    (h0 : (x 0).val = t.val * 8192 + (y 0).val) (h1 : (x 1).val = (y 1).val) : blk m ρ hok c0 t y = G m c0 x := by
  have ht : t.val < 192 := t.isLt
  have l0 : (y 0).val < 8192 := (y 0).isLt
  have l1 : (y 1).val < 128 := (y 1).isLt
  have e0 : (x 0).val / 8192 = t.val := by omega
  have hu : Used m (crd m hok t) ↔ (((x 0).val / 8192 : ℕ) : ℤ) < (m ((c0 : Thread nD τ).loc main_arg2) (ix1 0)).toInt := by
    unfold Used
    rw [cond3_iff, crd_val, slt_iff _ ht, wNu_eq, e0]
    rfl
  have et : (⟨(x 0).val / 8192, by have : (x 0).val < 1572864 := (x 0).isLt; omega⟩ : Fin 192) = ⟨t.val, ht⟩ := Fin.ext (by show (x 0).val / 8192 = t.val; omega)
  unfold blk G outY entry
  simp only [et]
  by_cases h : Used m (crd m hok t)
  · rw [if_pos h]
    refine Eq.trans ?_ (if_pos (hu.mp h)).symm
    unfold blkUsed
    rw [canon_out, sq_eq]
    show outV _ _ _ _ ⟨(y 0).val / 2 / 8, _⟩ ⟨(y 0).val % 2 * 1024 + (y 0).val / 2 % 8 * 128 + (y 1).val, _⟩ = _
    unfold outV
    have er : (⟨(x 0).val / 16 % 512, by omega⟩ : Fin 512) = ⟨(y 0).val / 2 / 8, by omega⟩ := Fin.ext (by show (x 0).val / 16 % 512 = (y 0).val / 2 / 8; omega)
    have ef : (⟨(x 0).val % 2 * 1024 + (x 0).val / 2 % 8 * 128 + (x 1).val, by omega⟩ : Fin 2048) = ⟨(y 0).val % 2 * 1024 + (y 0).val / 2 % 8 * 128 + (y 1).val, by omega⟩ :=
      Fin.ext (by show (x 0).val % 2 * 1024 + (x 0).val / 2 % 8 * 128 + (x 1).val = (y 0).val % 2 * 1024 + (y 0).val / 2 % 8 * 128 + (y 1).val; omega)
    have hbe := (hr (eI (crd m hok t))).1
    have hbi := (hr (eI (crd m hok t))).2
    rw [eI_eq] at hbe hbi
    refine Finset.sum_congr rfl fun e _ => ?_
    simp only [er, ef]
    refine congr (congrArg _ (congr (congr (congrArg gate (funext fun d => ?_)) (funext fun d => ?_)) (funext fun d => ?_))) ?_
    · unfold tok tokG
      have hw : ∀ (q : Fin 4096) (l : Fin 128) (q' : Fin 786432), q'.val = (T1 m (ix1 ⟨t.val, ht⟩)).toNat % 192 * 4096 + q.val →
          iblk m ρ hok c0 (0 : Fin 5) t (ix2 q l) = m ((c0 : Thread nD τ).loc main_arg3) (ix2 q' l) := fun q l q' hq =>
        iblk0_apply m ρ hok c0 t _ _ fun a => by
          rw [tr0, eI_eq]
          match a with
          | ⟨0, _⟩ => exact hq.trans (by rw [Nat.mod_eq_of_lt hbi]; rfl)
          | ⟨1, _⟩ => exact (show l.val = 0 * 128 + l.val by omega)
      split
      · exact congrArg loV (hw _ _ _ rfl)
      · exact congrArg hiV (hw _ _ _ rfl)
    · rw [pay2_apply]
      refine iblk1_apply m ρ hok c0 t _ _ fun a => ?_
      rw [tr1, eI_eq]
      match a with
      | ⟨0, _⟩ => rfl
      | ⟨1, _⟩ => exact (show (T0 m (ix1 ⟨t.val, ht⟩)).toNat % 32 = (T0 m (ix1 ⟨t.val, ht⟩)).toNat * 1 + 0 by omega)
      | ⟨2, _⟩ => exact (show d.val = 0 * 2048 + d.val by omega)
      | ⟨3, _⟩ => exact (show e.val = 0 * 512 + e.val by omega)
    · rw [pay3_apply]
      refine iblk2_apply m ρ hok c0 t _ _ fun a => ?_
      rw [tr2, eI_eq]
      match a with
      | ⟨0, _⟩ => rfl
      | ⟨1, _⟩ => exact (show (T0 m (ix1 ⟨t.val, ht⟩)).toNat % 32 = (T0 m (ix1 ⟨t.val, ht⟩)).toNat * 1 + 0 by omega)
      | ⟨2, _⟩ => exact (show d.val = 0 * 2048 + d.val by omega)
      | ⟨3, _⟩ => exact (show e.val = 0 * 512 + e.val by omega)
    · rw [pay4_apply]
      refine iblk3_apply m ρ hok c0 t _ _ fun a => ?_
      rw [tr3, eI_eq]
      match a with
      | ⟨0, _⟩ => rfl
      | ⟨1, _⟩ => exact (show (T0 m (ix1 ⟨t.val, ht⟩)).toNat % 32 = (T0 m (ix1 ⟨t.val, ht⟩)).toNat * 1 + 0 by omega)
      | ⟨2, _⟩ => exact (show e.val = 0 * 512 + e.val by omega)
      | ⟨3, _⟩ => exact (show (y 0).val % 2 * 1024 + (y 0).val / 2 % 8 * 128 + (y 1).val = 0 * 2048 + ((y 0).val % 2 * 1024 + (y 0).val / 2 % 8 * 128 + (y 1).val) by omega)
  · rw [if_neg h]
    refine Eq.trans ?_ (if_neg (fun q => h (hu.mpr q))).symm
    show Ideal.ofBits .bf16 0x0000#16 = 0
    exact Ideal.ofBits_zero_bf16

theorem tr4 (t : Fin (cfgA m hok).N) : ((cfgA m hok).win (4 : Fin 5)).index t = ![t.val, 0] := by
  have ht : t.val < 192 := t.isLt
  show cc0_transform_4 (crd m hok t) = _
  unfold cc0_transform_4
  rw [crd_val]
  funext a
  match a with
  | ⟨0, _⟩ => exact (show (BitVec.ofNat 32 t.val).toNat = t.val by rw [BitVec.toNat_ofNat]; omega)
  | ⟨1, _⟩ => rfl

/-- Every point writes its block back. -/
theorem flush4 (t : Fin (cfgA m hok).N) : ((cfgA m hok).win (4 : Fin 5)).flush t = true := by
  have ht : t.val < 192 := t.isLt
  unfold Window.flush
  by_cases hl : t.val + 1 = (cfgA m hok).N
  · simp [hl]
  · have hlt : t.val + 1 < (cfgA m hok).N := by have := t.isLt; omega
    have hne : ((cfgA m hok).win (4 : Fin 5)).index ⟨t.val + 1, hlt⟩ ≠ ((cfgA m hok).win (4 : Fin 5)).index t := by
      rw [tr4, tr4]
      intro he
      have := congrFun he (0 : Fin 2)
      simp at this
    rw [Bool.and_eq_true, Bool.or_eq_true]
    exact ⟨rfl, Or.inr (decide_eq_true ⟨hlt, hne⟩)⟩

/-- The result array after the run. -/
theorem arr4 (hr : ∀ x : S192.Idx, (T0 m x).toNat < 32 ∧ (T1 m x).toNat < 192) : (dats m ρ hok 0 c0).arrAt (4 : Fin 5) (cfgA m hok).N = G m c0 := by
  refine Dat.arrAt_eq_of_cover (dats m ρ hok 0 c0) (4 : Fin 5) (G m c0) (fun t _ => funext fun y => ?_) (fun i => ?_)
  · have h := Pipeline.Window.rect_emb_val ((cfgA m hok).win (4 : Fin 5)) t y
    rw [tr4] at h
    exact blk_apply m ρ hok hr t y _ (h (0 : Fin 2)) ((h (1 : Fin 2)).trans (by show 0 * 128 + (y (1 : Fin 2)).val = (y (1 : Fin 2)).val; omega))
  · have l0 : (i (0 : Fin 2)).val < 1572864 := (i (0 : Fin 2)).isLt
    obtain ⟨t, ht⟩ : ∃ t : Fin (cfgA m hok).N, t.val = (i (0 : Fin 2)).val / 8192 := ⟨⟨(i (0 : Fin 2)).val / 8192, by show _ < 192; omega⟩, rfl⟩
    refine ⟨t, flush4 m hok t, ?_⟩
    have h := Pipeline.Window.rect_emb_val ((cfgA m hok).win (4 : Fin 5)) t (ix2 (⟨(i (0 : Fin 2)).val % 8192, by omega⟩ : Fin 8192) (⟨(i (1 : Fin 2)).val, (i (1 : Fin 2)).isLt⟩ : Fin 128) : S8192x128.Idx)
    rw [tr4] at h
    have he : (((cfgA m hok).win (4 : Fin 5)).blk t).view.emb (ix2 (⟨(i (0 : Fin 2)).val % 8192, by omega⟩ : Fin 8192) (⟨(i (1 : Fin 2)).val, (i (1 : Fin 2)).isLt⟩ : Fin 128) : S8192x128.Idx) = i := by
      funext a
      match a with
      | ⟨0, _⟩ => exact Fin.ext ((h (0 : Fin 2)).trans (by show t.val * 8192 + (i (0 : Fin 2)).val % 8192 = (i (0 : Fin 2)).val; omega))
      | ⟨1, _⟩ => exact Fin.ext ((h (1 : Fin 2)).trans (by show 0 * 128 + (i (1 : Fin 2)).val = (i (1 : Fin 2)).val; omega))
    have hm := View.emb_mem_set (((cfgA m hok).win (4 : Fin 5)).blk t).view (ix2 (⟨(i (0 : Fin 2)).val % 8192, by omega⟩ : Fin 8192) (⟨(i (1 : Fin 2)).val, (i (1 : Fin 2)).isLt⟩ : Fin 128) : S8192x128.Idx)
    rw [he] at hm
    exact hm

end Cert.ExpertsIdeal.Hand

namespace Cert.Proof

open Idealize.ShloMosaic Idealize.ShloMosaic.TcCoe Idealize.SL Idealize.SL.Sem

/-- The experts' kernel and their plain reference end with equal results. -/
theorem algebraic_experts : Cert.algebraic_ExpertsIdeal_ReferenceIdeal := fun m g m' g' hp ha => by
  have hr := Cert.ExpertsIdeal.Hand.ranges m hp
  have hok := Cert.ExpertsIdeal.Hand.ok_of_pre m hp
  refine ⟨fun c => Cert.ExpertsIdeal.Hand.G m c, ?_, ?_⟩
  · refine (θ_run _ _ _).mono (fun r h c => ?_) (Cert.ExpertsIdeal.Hand.run_value m g hok)
    obtain rfl : c = Cert.ExpertsIdeal.Hand.c0 := Subsingleton.elim (α := Fin 1) _ _
    exact ⟨((h.1 _).1).trans (Cert.ExpertsIdeal.Hand.arr4 m g hok hr), (h.1 _).2⟩
  · refine (θ_run _ _ _).mono (fun r h c => ⟨(h c).1.trans ?_, (h c).2⟩) (Cert.ReferenceIdeal.Value.run (F := Ideal) m' g')
    obtain rfl : c = Cert.ExpertsIdeal.Hand.c0 := Subsingleton.elim (α := Fin 1) _ _
    obtain ⟨a0, a1, a2, a3, a4, a5, a6⟩ := ha Cert.ExpertsIdeal.Hand.c0
    funext y
    refine (Cert.ReferenceIdeal.Hand.result_eq m' Cert.ExpertsIdeal.Hand.c0 (fun x => ?_) y).trans ?_
    · rw [a0, a1]
      exact hr x
    · rw [a0, a1, a2, a3, a4, a5, a6]
      rfl

end Cert.Proof

end
-- ==== Proof.InprojSpec.lean ====
module

public import Idealize.ShloMosaic.PureOps.Ideal
public import Idealize.ShloMosaic.Lib.Pointwise

@[expose] public section

noncomputable section

namespace Cert.Spec

open Idealize.ShloMosaic

/-! ## The input projection's results, entry by entry -/

/-- A row's reciprocal root mean square: `1/√((Σ v²)/2048 + ε)`. -/
def rrms (v : Fin 2048 → EReal) : EReal :=
  Ideal.rsqrt (Ideal.div (∑ d : Fin 2048, v d * v d) (Ideal.ofBits .f32 0x45000000#32) + Ideal.ofBits .f32 0x358637BD#32)

/-- A row normalised, then scaled and shifted by its sequence's modulation. -/
def hid (v g sc sh : Fin 2048 → EReal) (d : Fin 2048) : EReal :=
  v d * rrms v * g d * (Ideal.ofBits .f32 0x3F800000#32 + sc d) + sh d

/-- A normalised row times one column of the weights. -/
def proj (v g sc sh w : Fin 2048 → EReal) : EReal := ∑ d : Fin 2048, hid v g sc sh d * w d

/-- Row `n` of the two inputs, one after the other. -/
def inRow (x0 : (⟨2, ![8192, 2048]⟩ : Shape).Idx → EReal) (x1 : (⟨2, ![32768, 2048]⟩ : Shape).Idx → EReal) (n : Fin 40960) (d : Fin 2048) : EReal :=
  if h : n.val < 8192 then x0 (ix2 ⟨n.val, h⟩ d) else x1 (ix2 ⟨n.val - 8192, by omega⟩ d)

/-- The sequence row `n` is of: four of 2048 rows, then four of 8192. -/
def seqOf (n : Fin 40960) : Fin 8 := ⟨if n.val < 8192 then n.val / 2048 else 4 + (n.val - 8192) / 8192, by split <;> omega⟩

/-- Entry `(n, j)` of the projection. -/
def zAt (x0 : (⟨2, ![8192, 2048]⟩ : Shape).Idx → EReal) (x1 : (⟨2, ![32768, 2048]⟩ : Shape).Idx → EReal) (g : (⟨2, ![1, 2048]⟩ : Shape).Idx → EReal)
    (md : (⟨4, ![8, 6, 1, 2048]⟩ : Shape).Idx → EReal) (w : (⟨2, ![2048, 3072]⟩ : Shape).Idx → EReal) (n : Fin 40960) (j : Fin 3072) : EReal :=
  proj (inRow x0 x1 n) (fun d => g (ix2 0 d)) (fun d => md (ix4 (seqOf n) 1 0 d)) (fun d => md (ix4 (seqOf n) 0 0 d)) (fun d => w (ix2 d j))

/-- The first result: columns 0 to 511 of the projection. -/
def zaG (x0 : (⟨2, ![8192, 2048]⟩ : Shape).Idx → EReal) (x1 : (⟨2, ![32768, 2048]⟩ : Shape).Idx → EReal) (g : (⟨2, ![1, 2048]⟩ : Shape).Idx → EReal)
    (md : (⟨4, ![8, 6, 1, 2048]⟩ : Shape).Idx → EReal) (w : (⟨2, ![2048, 3072]⟩ : Shape).Idx → EReal) (y : (⟨2, ![40960, 512]⟩ : Shape).Idx) : EReal :=
  zAt x0 x1 g md w ⟨(y 0).val, (y 0).isLt⟩ ⟨(y 1).val, by have : (y 1).val < 512 := (y 1).isLt; omega⟩

/-- The second result: columns 512 to 1535 times the logistic of columns 1536 to 2559. -/
def vG (x0 : (⟨2, ![8192, 2048]⟩ : Shape).Idx → EReal) (x1 : (⟨2, ![32768, 2048]⟩ : Shape).Idx → EReal) (g : (⟨2, ![1, 2048]⟩ : Shape).Idx → EReal)
    (md : (⟨4, ![8, 6, 1, 2048]⟩ : Shape).Idx → EReal) (w : (⟨2, ![2048, 3072]⟩ : Shape).Idx → EReal) (y : (⟨2, ![40960, 1024]⟩ : Shape).Idx) : EReal :=
  zAt x0 x1 g md w ⟨(y 0).val, (y 0).isLt⟩ ⟨512 + (y 1).val, by have : (y 1).val < 1024 := (y 1).isLt; omega⟩
    * Ideal.logistic (zAt x0 x1 g md w ⟨(y 0).val, (y 0).isLt⟩ ⟨1536 + (y 1).val, by have : (y 1).val < 1024 := (y 1).isLt; omega⟩)

/-- The third result: columns 2560 to 3071. -/
def zcG (x0 : (⟨2, ![8192, 2048]⟩ : Shape).Idx → EReal) (x1 : (⟨2, ![32768, 2048]⟩ : Shape).Idx → EReal) (g : (⟨2, ![1, 2048]⟩ : Shape).Idx → EReal)
    (md : (⟨4, ![8, 6, 1, 2048]⟩ : Shape).Idx → EReal) (w : (⟨2, ![2048, 3072]⟩ : Shape).Idx → EReal) (y : (⟨2, ![40960, 512]⟩ : Shape).Idx) : EReal :=
  zAt x0 x1 g md w ⟨(y 0).val, (y 0).isLt⟩ ⟨2560 + (y 1).val, by have : (y 1).val < 512 := (y 1).isLt; omega⟩

end Cert.Spec

end
-- ==== Proof.InprojRefValue.lean ====
module

public import proofs.«01_k».proof.Proof.Gen.InprojRefIdeal.Run
public import proofs.«01_k».proof.Proof.InprojSpec
public import Idealize.ShloMosaic.Lib.StackMember
public import Idealize.ShloMosaic.Lib.ValueIdxCore
public import Idealize.ShloMosaic.Lib.IdealHost

@[expose] public section

set_option maxRecDepth 16384
set_option Elab.async false

noncomputable section

namespace Cert.InprojRefIdeal.Hand

open Cert.InprojRefIdeal Cert.InprojRefIdeal.Gen
open Idealize.ShloMosaic
open Cert.Spec
open Idealize.SL Idealize.SL.Sem

/-! ## The reference's results, entry by entry -/

theorem ixe {a b : ℕ} (i : Fin a) (j : Fin b) : ValueIdx.ix2 i j = ix2 i j := by
  funext x
  match x with
  | ⟨0, _⟩ => rfl
  | ⟨1, _⟩ => rfl

/-- The two inputs' rows, one after the other. -/
theorem cat_apply (x0 : S8192x2048.Idx → EReal) (x1 : S32768x2048.Idx → EReal) (h) (n : Fin 40960) (d : Fin 2048) :
    concatenate S40960x2048 0 [⟨S8192x2048, x0⟩, ⟨S32768x2048, x1⟩] h (ix2 n d) = inRow x0 x1 n d := by
  unfold inRow
  have hn := n.isLt
  by_cases hl : n.val < 8192
  · rw [dif_pos hl]
    refine concatenate_apply_piece (t := S40960x2048) 0 _ _ _ 0 (by simp) S8192x2048 _ rfl rfl 0 rfl (ix2 ⟨n.val, hl⟩ d) (fun b hb => ?_) (show 0 + n.val = n.val by omega)
    match b with
    | ⟨0, _⟩ => exact absurd rfl hb
    | ⟨1, _⟩ => rfl
  · rw [dif_neg hl]
    refine concatenate_apply_piece (t := S40960x2048) 0 _ _ _ 1 (by simp) S32768x2048 _ rfl rfl 8192 rfl (ix2 ⟨n.val - 8192, by omega⟩ d) (fun b hb => ?_) (show 8192 + (n.val - 8192) = n.val by omega)
    match b with
    | ⟨0, _⟩ => exact absurd rfl hb
    | ⟨1, _⟩ => rfl

/-- The first four sequences' modulation, one row for a token. -/
theorem modA_apply (md : S8x6x1x2048.Idx → EReal) (h1 h2 h3 h4) (n : Fin 8192) (j : Fin 6) (d : Fin 2048) :
    shapeCast S8192x6x2048 (broadcastInDim S4x2048x6x2048 ![0, 2, 3] h1 (shapeCast S4x6x2048 (extractStridedSlice S4x6x1x2048 ![0, 0, 0, 0] md h2) h3)) h4 (ix3 n j d)
      = md (ix4 ⟨n.val / 2048, by omega⟩ j 0 d) := by
  have e : Shape.reshapeEquiv h4 (ix3 n j d) = (ix4 ⟨n.val / 2048, by omega⟩ ⟨n.val % 2048, by omega⟩ j d : S4x2048x6x2048.Idx) :=
    Shape.reshapeEquiv_eq_of_vals h4 _ _ _ _ (Shape.rowMajor_val_four _) (Shape.rowMajor_val_three _) (by
      show ((n.val / 2048 * 2048 + n.val % 2048) * 6 + j.val) * 2048 + d.val = (n.val * 6 + j.val) * 2048 + d.val
      omega)
  refine (congrArg (broadcastInDim S4x2048x6x2048 ![0, 2, 3] h1 (shapeCast S4x6x2048 (extractStridedSlice S4x6x1x2048 ![0, 0, 0, 0] md h2) h3)) e).trans ?_
  pointwise

/-- The last four sequences' modulation, one row for a token. -/
theorem modB_apply (md : S8x6x1x2048.Idx → EReal) (h1 h2 h3 h4) (n : Fin 32768) (j : Fin 6) (d : Fin 2048) :
    shapeCast S32768x6x2048 (broadcastInDim S4x8192x6x2048 ![0, 2, 3] h1 (shapeCast S4x6x2048 (extractStridedSlice S4x6x1x2048 ![4, 0, 0, 0] md h2) h3)) h4 (ix3 n j d)
      = md (ix4 ⟨4 + n.val / 8192, by omega⟩ j 0 d) := by
  have e : Shape.reshapeEquiv h4 (ix3 n j d) = (ix4 ⟨n.val / 8192, by omega⟩ ⟨n.val % 8192, by omega⟩ j d : S4x8192x6x2048.Idx) :=
    Shape.reshapeEquiv_eq_of_vals h4 _ _ _ _ (Shape.rowMajor_val_four _) (Shape.rowMajor_val_three _) (by
      show ((n.val / 8192 * 8192 + n.val % 8192) * 6 + j.val) * 2048 + d.val = (n.val * 6 + j.val) * 2048 + d.val
      omega)
  refine (congrArg (broadcastInDim S4x8192x6x2048 ![0, 2, 3] h1 (shapeCast S4x6x2048 (extractStridedSlice S4x6x1x2048 ![4, 0, 0, 0] md h2) h3)) e).trans ?_
  pointwise

/-- Both, one after the other. -/
theorem mod_apply (md : S8x6x1x2048.Idx → EReal) (A : S8192x6x2048.Idx → EReal) (B : S32768x6x2048.Idx → EReal) (h)
    (hA : ∀ n j d, A (ix3 n j d) = md (ix4 ⟨n.val / 2048, by omega⟩ j 0 d)) (hB : ∀ n j d, B (ix3 n j d) = md (ix4 ⟨4 + n.val / 8192, by omega⟩ j 0 d))
    (n : Fin 40960) (j : Fin 6) (d : Fin 2048) :
    concatenate S40960x6x2048 0 [⟨S8192x6x2048, A⟩, ⟨S32768x6x2048, B⟩] h (ix3 n j d) = md (ix4 (seqOf n) j 0 d) := by
  have hn := n.isLt
  by_cases hl : n.val < 8192
  · have e : seqOf n = ⟨n.val / 2048, by omega⟩ := Fin.ext (if_pos hl)
    rw [e]
    refine Eq.trans (concatenate_apply_piece (t := S40960x6x2048) 0 _ _ _ 0 (by simp) S8192x6x2048 _ rfl rfl 0 rfl (ix3 ⟨n.val, hl⟩ j d) (fun b hb => ?_) (show 0 + n.val = n.val by omega)) (hA _ _ _)
    match b with
    | ⟨0, _⟩ => exact absurd rfl hb
    | ⟨1, _⟩ => rfl
    | ⟨2, _⟩ => rfl
  · have e : seqOf n = ⟨4 + (n.val - 8192) / 8192, by omega⟩ := Fin.ext (if_neg hl)
    rw [e]
    refine Eq.trans (concatenate_apply_piece (t := S40960x6x2048) 0 _ _ _ 1 (by simp) S32768x6x2048 _ rfl rfl 8192 rfl (ix3 ⟨n.val - 8192, by omega⟩ j d) (fun b hb => ?_) (show 8192 + (n.val - 8192) = n.val by omega)) (hB _ _ _)
    match b with
    | ⟨0, _⟩ => exact absurd rfl hb
    | ⟨1, _⟩ => rfl
    | ⟨2, _⟩ => rfl

/-- One of a token's six modulation rows. -/
theorem row_apply (k : ℕ) (hk : k < 6) (M : S40960x6x2048.Idx → EReal) (h1 h2) (n : Fin 40960) (d : Fin 2048) :
    shapeCast S40960x2048 (extractStridedSlice S40960x1x2048 ![0, k, 0] M h1) h2 (ix2 n d) = M (ix3 n ⟨k, hk⟩ d) := by
  have e : Shape.reshapeEquiv h2 (ix2 n d) = (ix3 n 0 d : S40960x1x2048.Idx) :=
    Shape.reshapeEquiv_eq_of_vals h2 _ _ _ _ (Shape.rowMajor_val_three _) (Shape.rowMajor_val_two _) (by
      show (n.val * 1 + 0) * 2048 + d.val = n.val * 2048 + d.val
      omega)
  refine (congrArg (extractStridedSlice S40960x1x2048 ![0, k, 0] M h1) e).trans ?_
  refine congrArg M ?_
  funext a
  match a with
  | ⟨0, _⟩ => exact Fin.ext (show 0 + n.val = n.val by omega)
  | ⟨1, _⟩ => exact Fin.ext (show k + 0 = k by omega)
  | ⟨2, _⟩ => exact Fin.ext (show 0 + d.val = d.val by omega)

/-- The host's sum of a row's squares. -/
theorem sq_apply (X : FVec Ideal S40960x2048 .f32) (h1 : S40960x2048.ReducesTo [1] S40960) (h2) (n : Fin 40960) :
    Host.reduceAdd (mulf X X) (constant S_ .f32 0x00000000#32) h1 h2 (ix1 n) = ∑ d : Fin 2048, X (ix2 n d) * X (ix2 n d) := by
  pointwise

/-- The normalised, scaled and shifted rows. -/
theorem hid_apply (X S T : FVec Ideal S40960x2048 .f32) (g : FVec Ideal S1x2048 .f32) (h1 h2) (h3 : S40960x2048.ReducesTo [1] S40960) (h4 h5 h6 h7 h8) (n : Fin 40960) (d : Fin 2048) :
    addf (mulf (mulf (mulf X (broadcastInDim S40960x2048 ![0, 1] h1 (Host.rsqrt (addf (Host.divf (broadcastInDim S40960x1 ![0] h2 (Host.reduceAdd (mulf X X) (constant S_ .f32 0x00000000#32) h3 h4)) (broadcastInDim S40960x1 ![] h5 (constant S_ .f32 0x45000000#32))) (broadcastInDim S40960x1 ![] h6 (constant S_ .f32 0x358637BD#32)))))) (broadcastInDim S40960x2048 ![0, 1] h7 g))
      (addf (broadcastInDim S40960x2048 ![] h8 (constant S_ .f32 0x3F800000#32)) S)) T (ix2 n d)
      = hid (fun k => X (ix2 n k)) (fun k => g (ix2 0 k)) (fun k => S (ix2 n k)) (fun k => T (ix2 n k)) d := by
  have hs := sq_apply X h3 h4 n
  generalize Host.reduceAdd (mulf X X) (constant S_ .f32 0x00000000#32) h3 h4 = R at hs
  unfold hid rrms
  rw [← hs]
  pointwise

theorem dotZ (A : FVec Ideal S40960x2048 .f32) (B : FVec Ideal S2048x3072 .f32) (a : Fin 40960) (b : Fin 3072) :
    Host.dotGeneral dot_S40960x2048_S2048x3072_S40960x3072_1_0_0_1_n_n none A B (ix2 a b) = ∑ c : Fin 2048, A (ix2 a c) * B (ix2 c b) := by
  have h := StackMember.dotGeneral_plain_apply (φ₁ := .f32) (φ₂ := .f32) (m := 40960) (k := 2048) (n := 3072) none A B a b
  simp only [ixe] at h
  exact h

/-- The projection, entry by entry. -/
theorem z_apply (x0 : FVec Ideal S8192x2048 .f32) (x1 : FVec Ideal S32768x2048 .f32) (g : FVec Ideal S1x2048 .f32) (md : FVec Ideal S8x6x1x2048 .f32) (w : FVec Ideal S2048x3072 .bf16)
    (h0 h1 h2) (h3 : S40960x2048.ReducesTo [1] S40960) (h4 h5 h6 h7 h8 c1 c2 c3 c4 c5 c6 c7 c8 c9 c10 c11 c12 c13 hb) (n : Fin 40960) (j : Fin 3072) :
    Host.dotGeneral dot_S40960x2048_S2048x3072_S40960x3072_1_0_0_1_n_n none (addf (mulf (mulf (mulf (concatenate S40960x2048 0 [⟨S8192x2048, x0⟩, ⟨S32768x2048, x1⟩] h0) (broadcastInDim S40960x2048 ![0, 1] h1 (Host.rsqrt (addf (Host.divf (broadcastInDim S40960x1 ![0] h2 (Host.reduceAdd (mulf (concatenate S40960x2048 0 [⟨S8192x2048, x0⟩, ⟨S32768x2048, x1⟩] h0) (concatenate S40960x2048 0 [⟨S8192x2048, x0⟩, ⟨S32768x2048, x1⟩] h0)) (constant S_ .f32 0x00000000#32) h3 h4)) (broadcastInDim S40960x1 ![] h5 (constant S_ .f32 0x45000000#32))) (broadcastInDim S40960x1 ![] h6 (constant S_ .f32 0x358637BD#32)))))) (broadcastInDim S40960x2048 ![0, 1] h7 g))
      (addf (broadcastInDim S40960x2048 ![] h8 (constant S_ .f32 0x3F800000#32))
        (shapeCast S40960x2048 (extractStridedSlice S40960x1x2048 ![0, 1, 0] (concatenate S40960x6x2048 0 [⟨S8192x6x2048, (shapeCast S8192x6x2048 (broadcastInDim S4x2048x6x2048 ![0, 2, 3] c1 (shapeCast S4x6x2048 (extractStridedSlice S4x6x1x2048 ![0, 0, 0, 0] md c2) c3)) c4)⟩, ⟨S32768x6x2048, (shapeCast S32768x6x2048 (broadcastInDim S4x8192x6x2048 ![0, 2, 3] c5 (shapeCast S4x6x2048 (extractStridedSlice S4x6x1x2048 ![4, 0, 0, 0] md c6) c7)) c8)⟩] c9) c10) c11)))
        (shapeCast S40960x2048 (extractStridedSlice S40960x1x2048 ![0, 0, 0] (concatenate S40960x6x2048 0 [⟨S8192x6x2048, (shapeCast S8192x6x2048 (broadcastInDim S4x2048x6x2048 ![0, 2, 3] c1 (shapeCast S4x6x2048 (extractStridedSlice S4x6x1x2048 ![0, 0, 0, 0] md c2) c3)) c4)⟩, ⟨S32768x6x2048, (shapeCast S32768x6x2048 (broadcastInDim S4x8192x6x2048 ![0, 2, 3] c5 (shapeCast S4x6x2048 (extractStridedSlice S4x6x1x2048 ![4, 0, 0, 0] md c6) c7)) c8)⟩] c9) c12) c13)) (extf .f32 w hb) (ix2 n j)
      = zAt x0 x1 g md w n j := by
  refine Eq.trans (dotZ _ _ _ _) ?_
  unfold zAt proj
  refine Finset.sum_congr rfl fun d _ => ?_
  refine congr (congrArg _ ?_) rfl
  refine Eq.trans (hid_apply _ _ _ _ _ _ _ _ _ _ _ _ _ _) ?_
  refine congrFun (congr (congr (congr (congrArg hid (funext fun k => ?_)) rfl) (funext fun k => ?_)) (funext fun k => ?_)) d
  · exact cat_apply x0 x1 _ n k
  · refine Eq.trans (row_apply 1 (by omega) _ _ _ n k) ?_
    exact mod_apply md _ _ _ (fun _ _ _ => modA_apply md _ _ _ _ _ _ _) (fun _ _ _ => modB_apply md _ _ _ _ _ _ _) n _ k
  · refine Eq.trans (row_apply 0 (by omega) _ _ _ n k) ?_
    exact mod_apply md _ _ _ (fun _ _ _ => modA_apply md _ _ _ _ _ _ _) (fun _ _ _ => modB_apply md _ _ _ _ _ _ _) n _ k

/-- Some of the projection's columns. -/
theorem cols_apply {N : ℕ} (k : ℕ) (hk : k + N ≤ 3072) (Z : S40960x3072.Idx → EReal) (h) (y : (⟨2, ![40960, N]⟩ : Shape).Idx) :
    extractStridedSlice (⟨2, ![40960, N]⟩ : Shape) ![0, k] Z h y = Z (ix2 (⟨(y 0).val, (y 0).isLt⟩ : Fin 40960) (⟨k + (y 1).val, by have : (y 1).val < N := (y 1).isLt; omega⟩ : Fin 3072)) := by
  refine congrArg Z ?_
  funext a
  match a with
  | ⟨0, _⟩ => exact Fin.ext (show 0 + (y 0).val = (y 0).val by omega)
  | ⟨1, _⟩ => exact Fin.ext (show k + (y 1).val = k + (y 1).val from rfl)

/-- The gated product, entry by entry. -/
theorem gate_apply (A B : FVec Ideal S40960x1024 .f32) (h1 h2 hb) (y : S40960x1024.Idx) :
    (truncf .bf16 (mulf A (Host.divf (broadcastInDim S40960x1024 ![] h1 (constant S_ .f32 0x3F800000#32)) (addf (broadcastInDim S40960x1024 ![] h2 (constant S_ .f32 0x3F800000#32)) (Host.exp (Host.negf B))))) hb : FVec Ideal S40960x1024 .bf16) y
      = A y * Ideal.logistic (B y) := by
  show A y * Ideal.div (Ideal.ofBits .f32 0x3F800000#32) (Ideal.ofBits .f32 0x3F800000#32 + Ideal.exp (-(B y))) = _
  rw [Ideal.ofBits_one_f32]
  rfl

variable (m : (ℓ : Loc nD τ sig) → Buf (Elt Ideal) ℓ)

/-- The second result is the gated product of the projection's columns. -/
theorem v_eq (c : Dev nD) (y : S40960x1024.Idx) :
    Value.res_main_v43 (F := Ideal) m c y = vG (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) y := by
  unfold Value.res_main_v43 vG
  show @Eq EReal _ _
  refine Eq.trans (gate_apply _ _ _ _ _ y) ?_
  refine congr (congrArg _ ?_) (congrArg Ideal.logistic ?_)
  · exact (cols_apply (N := 1024) 512 (by omega) _ _ y).trans (z_apply _ _ _ _ _ _ _ _ _ _ _ _ _ _ _ _ _ _ _ _ _ _ _ _ _ _ _ _ _ _)
  · exact (cols_apply (N := 1024) 1536 (by omega) _ _ y).trans (z_apply _ _ _ _ _ _ _ _ _ _ _ _ _ _ _ _ _ _ _ _ _ _ _ _ _ _ _ _ _ _)

end Cert.InprojRefIdeal.Hand

end
-- ==== Proof.InprojIdealValue.lean ====
module

public import proofs.«01_k».proof.Proof.Gen.InprojIdeal.Value
public import proofs.«01_k».proof.Defs
public import proofs.«01_k».proof.Proof.InprojRefValue
public import Idealize.ShloMosaic.Lib.Pipeline.Value
public import Idealize.ShloMosaic.Lib.Pointwise
public import Idealize.ShloMosaic.Lib.MatmulPlain
public import Idealize.ShloMosaic.Lib.IdealHost

@[expose] public section

set_option maxRecDepth 16384
set_option Elab.async false

noncomputable section

namespace Cert.InprojIdeal.Hand

open Cert.InprojIdeal Cert.InprojIdeal.Gen
open Idealize.ShloMosaic
open Idealize.ShloMosaic.TcCoe
open Cert.Spec
open Idealize.SL Idealize.SL.Sem
open Idealize.ShloMosaic.Pipeline (Dat Cfg Window)
open Cert.InprojRefIdeal.Hand (ixe)

/-! ## What a grid point stores, entry by entry -/

/-- The first half's normalised rows. -/
theorem pay5_apply (i : grid0.Coords) (v1 v2 : Vec Ideal S256x2048 .f32) (v4 : Vec Ideal S1x2048 .f32) (v17 v23 : Vec Ideal S1x1x1x2048 .f32) (r : Fin 256) (d : Fin 2048) :
    k0_pay5 i v1 v2 v4 v17 v23 (ix2 r d) = hid (fun k => (Scalar.select (Scalar.cmpi .slt (BitVec.ofNat 32 (i 0).val) 16#32) v1 v2 : Vec Ideal S256x2048 .f32) (ix2 r k)) (fun k => v4 (ix2 0 k)) (fun k => v17 (ix4 0 0 0 k)) (fun k => v23 (ix4 0 0 0 k)) d := by
  unfold k0_pay5 hid rrms
  dsimp only
  generalize (Scalar.select (Scalar.cmpi .slt (BitVec.ofNat 32 (i 0).val) 16#32) v1 v2 : Vec Ideal S256x2048 .f32) = X
  pointwise

/-- The second half's normalised rows. -/
theorem pay1_apply (i : BitVec 32) (v1 v2 : Vec Ideal S256x2048 .f32) (v4 : Vec Ideal S1x2048 .f32) (v17 v23 : Vec Ideal S1x1x1x2048 .f32) (r : Fin 256) (d : Fin 2048) :
    k0_pay1 (k0_pay9 i v1 v2 v4) (k0_pay10 v17) v23 (ix2 r d) = hid (fun k => (Scalar.select (Scalar.cmpi .slt i 16#32) v1 v2 : Vec Ideal S256x2048 .f32) (ix2 r k)) (fun k => v4 (ix2 0 k)) (fun k => v17 (ix4 0 0 0 k)) (fun k => v23 (ix4 0 0 0 k)) d := by
  unfold k0_pay1 k0_pay9 k0_pay10 hid rrms
  dsimp only
  generalize (Scalar.select (Scalar.cmpi .slt i 16#32) v1 v2 : Vec Ideal S256x2048 .f32) = X
  pointwise

theorem dotA (X : FVec Ideal S256x2048 .bf16) (w : FVec Ideal S2048x512 .bf16) (r : Fin 256) (e : Fin 512) :
    matmul dot_S256x2048_S2048x512_S256x512_1_0_0_1_n_n none X w (constant S256x512 .f32 0x00000000#32) (ix2 r e) = ∑ d : Fin 2048, X (ix2 r d) * w (ix2 d e) := by
  refine (Ideal.matmul_plain_apply (M := 256) (K := 2048) (N := 512) none X w (constant S256x512 .f32 0x00000000#32) r e).trans ?_
  show Ideal.ofBits .f32 0x00000000#32 + _ = _
  rw [Ideal.ofBits_zero_f32, zero_add]
  simp only [ixe]

theorem dotB (X : FVec Ideal S256x2048 .bf16) (w : FVec Ideal S2048x1024 .bf16) (r : Fin 256) (e : Fin 1024) :
    matmul dot_S256x2048_S2048x1024_S256x1024_1_0_0_1_n_n none X w (constant S256x1024 .f32 0x00000000#32) (ix2 r e) = ∑ d : Fin 2048, X (ix2 r d) * w (ix2 d e) := by
  refine (Ideal.matmul_plain_apply (M := 256) (K := 2048) (N := 1024) none X w (constant S256x1024 .f32 0x00000000#32) r e).trans ?_
  show Ideal.ofBits .f32 0x00000000#32 + _ = _
  rw [Ideal.ofBits_zero_f32, zero_add]
  simp only [ixe]

/-- Rows of an input block. -/
theorem ldX (x : S512x2048.Idx → Elt Ideal .f32) (k : ℕ) (hk : k + 256 ≤ 512) (inb) (r : Fin 256) (d : Fin 2048) :
    View.ld (Val := Elt Ideal) x (Rect.unit (s := S512x2048) ![k, 0] S256x2048.size inb) (ix2 r d) = x (ix2 ⟨k + r.val, by omega⟩ d) := by
  show x _ = _
  congr 1
  funext a
  match a with
  | ⟨0, _⟩ => exact Fin.ext (show k + 1 * r.val = k + r.val by omega)
  | ⟨1, _⟩ => exact Fin.ext (show 0 + 1 * d.val = d.val by omega)

/-- Columns of the weights. -/
theorem ldW {N : ℕ} (x : S2048x3072.Idx → Elt Ideal .bf16) (k : ℕ) (hk : k + N ≤ 3072) (inb) (d : Fin 2048) (e : Fin N) :
    View.ld (Val := Elt Ideal) x (Rect.unit (s := S2048x3072) ![0, k] (⟨2, ![2048, N]⟩ : Shape).size inb) (ix2 d e) = x (ix2 d ⟨k + e.val, by omega⟩) := by
  show x _ = _
  congr 1
  funext a
  match a with
  | ⟨0, _⟩ => exact Fin.ext (show 0 + 1 * d.val = d.val by omega)
  | ⟨1, _⟩ => exact Fin.ext (show k + 1 * e.val = k + e.val by omega)

/-- The gain's row, whole. -/
theorem ldG (x : S1x2048.Idx → Elt Ideal .f32) (d : Fin 2048) : View.ld (Val := Elt Ideal) x r0_1 (ix2 0 d) = x (ix2 0 d) := by
  show x _ = _
  congr 1
  funext a
  match a with
  | ⟨0, _⟩ => rfl
  | ⟨1, _⟩ => exact Fin.ext (show 0 + 1 * d.val = d.val by omega)

/-- A modulation row, whole. -/
theorem ldM (x : S1x1x1x2048.Idx → Elt Ideal .f32) (d : Fin 2048) : View.ld (Val := Elt Ideal) x r0_2 (ix4 0 0 0 d) = x (ix4 0 0 0 d) := by
  show x _ = _
  congr 1
  funext a
  match a with
  | ⟨0, _⟩ => rfl
  | ⟨1, _⟩ => rfl
  | ⟨2, _⟩ => rfl
  | ⟨3, _⟩ => exact Fin.ext (show 0 + 1 * d.val = d.val by omega)

section Point
variable (i : grid0.Coords) (x0 x1 : Vec Ideal S512x2048 .f32) (x2 : Vec Ideal S1x2048 .f32) (x3 x4 : Vec Ideal S1x1x1x2048 .f32) (x5 : Vec Ideal S2048x3072 .bf16)

/-- The row a point projects: the first input's at its first sixteen points, the second's at the others. -/
def selRow (r : Fin 512) (k : Fin 2048) : EReal :=
  (Scalar.select (Scalar.cmpi .slt (BitVec.ofNat 32 (i 0).val) 16#32) x0 x1 : Vec Ideal S512x2048 .f32) (ix2 r k)

/-- Entry `(r, j)` of a point's projection. -/
def zB (r : Fin 512) (j : Fin 3072) : EReal :=
  proj (selRow i x0 x1 r) (fun d => x2 (ix2 0 d)) (fun d => x3 (ix4 0 0 0 d)) (fun d => x4 (ix4 0 0 0 d)) (fun d => x5 (ix2 d j))

theorem sel_ld (b : BitVec 1) (k : ℕ) (hk : k + 256 ≤ 512) (inb) (r : Fin 256) (d : Fin 2048) :
    (Scalar.select b (View.ld (Val := Elt Ideal) x0 (Rect.unit (s := S512x2048) ![k, 0] S256x2048.size inb)) (View.ld (Val := Elt Ideal) x1 (Rect.unit (s := S512x2048) ![k, 0] S256x2048.size inb)) : Vec Ideal S256x2048 .f32) (ix2 r d)
      = (Scalar.select b x0 x1 : Vec Ideal S512x2048 .f32) (ix2 ⟨k + r.val, by omega⟩ d) := by
  unfold Scalar.select
  split
  · exact ldX x0 k hk inb r d
  · exact ldX x1 k hk inb r d

/-- The first half's rows, from the point's blocks. -/
theorem lo_apply (r : Fin 256) (d : Fin 2048) :
    k0_pay11 i x0 x1 x2 x3 x4 x5 (ix2 r d) = hid (selRow i x0 x1 ⟨0 + r.val, by omega⟩) (fun d => x2 (ix2 0 d)) (fun d => x3 (ix4 0 0 0 d)) (fun d => x4 (ix4 0 0 0 d)) d := by
  unfold k0_pay11
  refine (pay5_apply _ _ _ _ _ _ r d).trans ?_
  refine congrFun (congr (congr (congr (congrArg hid (funext fun k => ?_)) (funext fun k => ?_)) (funext fun k => ?_)) (funext fun k => ?_)) d
  · exact sel_ld x0 x1 _ 0 (by omega) _ r k
  · exact ldG x2 k
  · exact ldM x3 k
  · exact ldM x4 k

/-- The second half's rows, from the point's blocks. -/
theorem hi_apply (r : Fin 256) (d : Fin 2048) :
    k0_pay1 (k0_pay12 i x0 x1 x2 x3 x4 x5) (k0_pay13 i x0 x1 x2 x3 x4 x5) (View.ld x4 r0_2) (ix2 r d) = hid (selRow i x0 x1 ⟨256 + r.val, by omega⟩) (fun d => x2 (ix2 0 d)) (fun d => x3 (ix4 0 0 0 d)) (fun d => x4 (ix4 0 0 0 d)) d := by
  unfold k0_pay12 k0_pay13
  refine (pay1_apply _ _ _ _ _ _ r d).trans ?_
  refine congrFun (congr (congr (congr (congrArg hid (funext fun k => ?_)) (funext fun k => ?_)) (funext fun k => ?_)) (funext fun k => ?_)) d
  · exact sel_ld x0 x1 _ 256 (by omega) _ r k
  · exact ldG x2 k
  · exact ldM x3 k
  · exact ldM x4 k

/-- 512 columns of the products of half a block's rows. -/
theorem mmA (H : FVec Ideal S256x2048 .bf16) (b : ℕ) (hb : b + 256 ≤ 512) (k : ℕ) (hk : k + 512 ≤ 3072) (inb)
    (hH : ∀ r d, H (ix2 r d) = hid (selRow i x0 x1 ⟨b + r.val, by omega⟩) (fun d => x2 (ix2 0 d)) (fun d => x3 (ix4 0 0 0 d)) (fun d => x4 (ix4 0 0 0 d)) d) (r : Fin 256) (e : Fin 512) :
    matmul dot_S256x2048_S2048x512_S256x512_1_0_0_1_n_n none H (φ₂ := .bf16) (View.ld (Val := Elt Ideal) x5 (Rect.unit (s := S2048x3072) ![0, k] S2048x512.size inb)) (constant S256x512 .f32 0x00000000#32) (ix2 r e)
      = zB i x0 x1 x2 x3 x4 x5 ⟨b + r.val, by omega⟩ ⟨k + e.val, by omega⟩ := by
  refine (dotA _ _ r e).trans ?_
  unfold zB proj
  exact Finset.sum_congr rfl fun d _ => congr (congrArg _ (hH r d)) (ldW (N := 512) x5 k hk inb d e)

/-- 1024 columns of the products of half a block's rows. -/
theorem mmB (H : FVec Ideal S256x2048 .bf16) (b : ℕ) (hb : b + 256 ≤ 512) (k : ℕ) (hk : k + 1024 ≤ 3072) (inb)
    (hH : ∀ r d, H (ix2 r d) = hid (selRow i x0 x1 ⟨b + r.val, by omega⟩) (fun d => x2 (ix2 0 d)) (fun d => x3 (ix4 0 0 0 d)) (fun d => x4 (ix4 0 0 0 d)) d) (r : Fin 256) (e : Fin 1024) :
    matmul dot_S256x2048_S2048x1024_S256x1024_1_0_0_1_n_n none H (φ₂ := .bf16) (View.ld (Val := Elt Ideal) x5 (Rect.unit (s := S2048x3072) ![0, k] S2048x1024.size inb)) (constant S256x1024 .f32 0x00000000#32) (ix2 r e)
      = zB i x0 x1 x2 x3 x4 x5 ⟨b + r.val, by omega⟩ ⟨k + e.val, by omega⟩ := by
  refine (dotB _ _ r e).trans ?_
  unfold zB proj
  exact Finset.sum_congr rfl fun d _ => congr (congrArg _ (hH r d)) (ldW (N := 1024) x5 k hk inb d e)

/-- What a point stores of the first result. -/
def gA (y : S512x512.Idx) : EReal :=
  zB i x0 x1 x2 x3 x4 x5 ⟨(y 0).val, (y 0).isLt⟩ ⟨0 + (y 1).val, by have : (y 1).val < 512 := (y 1).isLt; omega⟩

/-- What a point stores of the second result. -/
def gV (y : S512x1024.Idx) : EReal :=
  zB i x0 x1 x2 x3 x4 x5 ⟨(y 0).val, (y 0).isLt⟩ ⟨512 + (y 1).val, by have : (y 1).val < 1024 := (y 1).isLt; omega⟩
    * Ideal.logistic (zB i x0 x1 x2 x3 x4 x5 ⟨(y 0).val, (y 0).isLt⟩ ⟨1536 + (y 1).val, by have : (y 1).val < 1024 := (y 1).isLt; omega⟩)

/-- What a point stores of the third result. -/
def gC (y : S512x512.Idx) : EReal :=
  zB i x0 x1 x2 x3 x4 x5 ⟨(y 0).val, (y 0).isLt⟩ ⟨2560 + (y 1).val, by have : (y 1).val < 512 := (y 1).isLt; omega⟩

theorem emb512 (b : ℕ) (hb : b + 256 ≤ 512) (inb) (x : S256x512.Idx) :
    (Rect.unit (s := S512x512) ![b, 0] S256x512.size inb).emb x = (ix2 (⟨b + (x 0).val, by have : (x 0).val < 256 := (x 0).isLt; omega⟩ : Fin 512) (⟨(x 1).val, (x 1).isLt⟩ : Fin 512) : S512x512.Idx) := by
  funext a
  match a with
  | ⟨0, _⟩ => exact Fin.ext (show b + 1 * (x 0).val = b + (x 0).val by omega)
  | ⟨1, _⟩ => exact Fin.ext (show 0 + 1 * (x 1).val = (x 1).val by omega)

theorem emb1024 (b : ℕ) (hb : b + 256 ≤ 512) (inb) (x : S256x1024.Idx) :
    (Rect.unit (s := S512x1024) ![b, 0] S256x1024.size inb).emb x = (ix2 (⟨b + (x 0).val, by have : (x 0).val < 256 := (x 0).isLt; omega⟩ : Fin 512) (⟨(x 1).val, (x 1).isLt⟩ : Fin 1024) : S512x1024.Idx) := by
  funext a
  match a with
  | ⟨0, _⟩ => exact Fin.ext (show b + 1 * (x 0).val = b + (x 0).val by omega)
  | ⟨1, _⟩ => exact Fin.ext (show 0 + 1 * (x 1).val = (x 1).val by omega)

theorem eta512 (x : S256x512.Idx) : x = ix2 (⟨(x 0).val, (x 0).isLt⟩ : Fin 256) (⟨(x 1).val, (x 1).isLt⟩ : Fin 512) := by
  funext a
  match a with
  | ⟨0, _⟩ => rfl
  | ⟨1, _⟩ => rfl

theorem eta1024 (x : S256x1024.Idx) : x = ix2 (⟨(x 0).val, (x 0).isLt⟩ : Fin 256) (⟨(x 1).val, (x 1).isLt⟩ : Fin 1024) := by
  funext a
  match a with
  | ⟨0, _⟩ => rfl
  | ⟨1, _⟩ => rfl

/-- Half a block of the first result. -/
theorem pieceA (H : FVec Ideal S256x2048 .bf16) (b : ℕ) (hb : b + 256 ≤ 512) (inb inb')
    (hH : ∀ r d, H (ix2 r d) = hid (selRow i x0 x1 ⟨b + r.val, by omega⟩) (fun d => x2 (ix2 0 d)) (fun d => x3 (ix4 0 0 0 d)) (fun d => x4 (ix4 0 0 0 d)) d) (x : S256x512.Idx) :
    matmul dot_S256x2048_S2048x512_S256x512_1_0_0_1_n_n none H (φ₂ := .bf16) (View.ld (Val := Elt Ideal) x5 (Rect.unit (s := S2048x3072) ![0, 0] S2048x512.size inb)) (constant S256x512 .f32 0x00000000#32) x
      = gA i x0 x1 x2 x3 x4 x5 ((Rect.unit (s := S512x512) ![b, 0] S256x512.size inb').emb x) := by
  rw [emb512 b hb]
  refine (congrArg _ (eta512 x)).trans ?_
  exact mmA i x0 x1 x2 x3 x4 x5 H b hb 0 (by omega) inb hH _ _

/-- Half a block of the third result. -/
theorem pieceC (H : FVec Ideal S256x2048 .bf16) (b : ℕ) (hb : b + 256 ≤ 512) (inb inb')
    (hH : ∀ r d, H (ix2 r d) = hid (selRow i x0 x1 ⟨b + r.val, by omega⟩) (fun d => x2 (ix2 0 d)) (fun d => x3 (ix4 0 0 0 d)) (fun d => x4 (ix4 0 0 0 d)) d) (x : S256x512.Idx) :
    matmul dot_S256x2048_S2048x512_S256x512_1_0_0_1_n_n none H (φ₂ := .bf16) (View.ld (Val := Elt Ideal) x5 (Rect.unit (s := S2048x3072) ![0, 2560] S2048x512.size inb)) (constant S256x512 .f32 0x00000000#32) x
      = gC i x0 x1 x2 x3 x4 x5 ((Rect.unit (s := S512x512) ![b, 0] S256x512.size inb').emb x) := by
  rw [emb512 b hb]
  refine (congrArg _ (eta512 x)).trans ?_
  exact mmA i x0 x1 x2 x3 x4 x5 H b hb 2560 (by omega) inb hH _ _

/-- Half a block of the second result. -/
theorem pieceV (H : FVec Ideal S256x2048 .bf16) (b : ℕ) (hb : b + 256 ≤ 512) (inb inb2 inb')
    (hH : ∀ r d, H (ix2 r d) = hid (selRow i x0 x1 ⟨b + r.val, by omega⟩) (fun d => x2 (ix2 0 d)) (fun d => x3 (ix4 0 0 0 d)) (fun d => x4 (ix4 0 0 0 d)) d) (x : S256x1024.Idx) :
    mulf (matmul dot_S256x2048_S2048x1024_S256x1024_1_0_0_1_n_n none H (φ₂ := .bf16) (View.ld (Val := Elt Ideal) x5 (Rect.unit (s := S2048x3072) ![0, 512] S2048x1024.size inb)) (constant S256x1024 .f32 0x00000000#32))
      (logistic (matmul dot_S256x2048_S2048x1024_S256x1024_1_0_0_1_n_n none H (φ₂ := .bf16) (View.ld (Val := Elt Ideal) x5 (Rect.unit (s := S2048x3072) ![0, 1536] S2048x1024.size inb2)) (constant S256x1024 .f32 0x00000000#32))) x
      = gV i x0 x1 x2 x3 x4 x5 ((Rect.unit (s := S512x1024) ![b, 0] S256x1024.size inb').emb x) := by
  rw [emb1024 b hb]
  have e1 := mmB i x0 x1 x2 x3 x4 x5 H b hb 512 (by omega) inb hH (⟨(x 0).val, (x 0).isLt⟩ : Fin 256) (⟨(x 1).val, (x 1).isLt⟩ : Fin 1024)
  have e2 := mmB i x0 x1 x2 x3 x4 x5 H b hb 1536 (by omega) inb2 hH (⟨(x 0).val, (x 0).isLt⟩ : Fin 256) (⟨(x 1).val, (x 1).isLt⟩ : Fin 1024)
  rw [← eta1024 x] at e1 e2
  exact congr (congrArg (fun p q : EReal => p * q) e1) (congrArg Ideal.logistic e2)

/-- A point's block of the first result. -/
theorem out6_apply (y : S512x512.Idx) : out0_6 i x0 x1 x2 x3 x4 x5 y = gA i x0 x1 x2 x3 x4 x5 y := by
  unfold out0_6
  refine View.canon_apply_of_pieces (Val := Elt Ideal) (gA i x0 x1 x2 x3 x4 x5) _ ?_ y (cover0_6 _ _ y)
  simp only [List.forall_mem_cons]
  refine ⟨fun x => ?_, fun x => ?_, fun p hp => absurd hp List.not_mem_nil⟩
  · exact pieceA i x0 x1 x2 x3 x4 x5 _ 256 (by omega) _ _ (hi_apply i x0 x1 x2 x3 x4 x5) x
  · exact pieceA i x0 x1 x2 x3 x4 x5 _ 0 (by omega) _ _ (lo_apply i x0 x1 x2 x3 x4 x5) x

/-- A point's block of the second result. -/
theorem out7_apply (y : S512x1024.Idx) : out0_7 i x0 x1 x2 x3 x4 x5 y = gV i x0 x1 x2 x3 x4 x5 y := by
  unfold out0_7
  refine View.canon_apply_of_pieces (Val := Elt Ideal) (gV i x0 x1 x2 x3 x4 x5) _ ?_ y (cover0_7 _ _ y)
  simp only [List.forall_mem_cons]
  refine ⟨fun x => ?_, fun x => ?_, fun p hp => absurd hp List.not_mem_nil⟩
  · exact pieceV i x0 x1 x2 x3 x4 x5 _ 256 (by omega) _ _ _ (hi_apply i x0 x1 x2 x3 x4 x5) x
  · exact pieceV i x0 x1 x2 x3 x4 x5 _ 0 (by omega) _ _ _ (lo_apply i x0 x1 x2 x3 x4 x5) x

/-- A point's block of the third result. -/
theorem out8_apply (y : S512x512.Idx) : out0_8 i x0 x1 x2 x3 x4 x5 y = gC i x0 x1 x2 x3 x4 x5 y := by
  unfold out0_8
  refine View.canon_apply_of_pieces (Val := Elt Ideal) (gC i x0 x1 x2 x3 x4 x5) _ ?_ y (cover0_8 _ _ y)
  simp only [List.forall_mem_cons]
  refine ⟨fun x => ?_, fun x => ?_, fun p hp => absurd hp List.not_mem_nil⟩
  · exact pieceC i x0 x1 x2 x3 x4 x5 _ 256 (by omega) _ _ (hi_apply i x0 x1 x2 x3 x4 x5) x
  · exact pieceC i x0 x1 x2 x3 x4 x5 _ 0 (by omega) _ _ (lo_apply i x0 x1 x2 x3 x4 x5) x

end Point

/-! ## The blocks a point reads -/

theorem ix_0 : ∀ t : Fin cfg0.N, (cfg0.win 0).index t = ![min t.val 15, 0] := (by decide +kernel : ∀ t : Fin grid0.N, win0_0.index t = ![min t.val 15, 0])
theorem ix_1 : ∀ t : Fin cfg0.N, (cfg0.win 1).index t = ![t.val - 16, 0] := (by decide +kernel : ∀ t : Fin grid0.N, win0_1.index t = ![t.val - 16, 0])
theorem ix_2 : ∀ t : Fin cfg0.N, (cfg0.win 2).index t = ![0, 0] := (by decide +kernel : ∀ t : Fin grid0.N, win0_2.index t = ![0, 0])
theorem ix_3 : ∀ t : Fin cfg0.N, (cfg0.win 3).index t = ![if t.val < 16 then t.val / 4 else 4 + (t.val - 16) / 16, 1, 0, 0] :=
  (by decide +kernel : ∀ t : Fin grid0.N, win0_3.index t = ![if t.val < 16 then t.val / 4 else 4 + (t.val - 16) / 16, 1, 0, 0])
theorem ix_4 : ∀ t : Fin cfg0.N, (cfg0.win 4).index t = ![if t.val < 16 then t.val / 4 else 4 + (t.val - 16) / 16, 0, 0, 0] :=
  (by decide +kernel : ∀ t : Fin grid0.N, win0_4.index t = ![if t.val < 16 then t.val / 4 else 4 + (t.val - 16) / 16, 0, 0, 0])
theorem ix_5 : ∀ t : Fin cfg0.N, (cfg0.win 5).index t = ![0, 0] := (by decide +kernel : ∀ t : Fin grid0.N, win0_5.index t = ![0, 0])
theorem ix_6 : ∀ t : Fin cfg0.N, (cfg0.win 6).index t = ![t.val, 0] := (by decide +kernel : ∀ t : Fin grid0.N, win0_6.index t = ![t.val, 0])
theorem ix_7 : ∀ t : Fin cfg0.N, (cfg0.win 7).index t = ![t.val, 0] := (by decide +kernel : ∀ t : Fin grid0.N, win0_7.index t = ![t.val, 0])
theorem ix_8 : ∀ t : Fin cfg0.N, (cfg0.win 8).index t = ![t.val, 0] := (by decide +kernel : ∀ t : Fin grid0.N, win0_8.index t = ![t.val, 0])

/-- The first sixteen points read the first input. -/
theorem first_iff : ∀ t : Fin cfg0.N, Scalar.cmpi .slt (BitVec.ofNat 32 (grid0.coords t 0).val) 16#32 = 1#1 ↔ t.val < 16 :=
  (by decide +kernel : ∀ t : Fin grid0.N, Scalar.cmpi .slt (BitVec.ofNat 32 (grid0.coords t 0).val) 16#32 = 1#1 ↔ t.val < 16)

variable (m : (ℓ : Loc nD τ sig) → Buf (Elt Ideal) ℓ) (ρ : Dev nD → PrngReg)

theorem iblk0_apply (c : Dev nD) (t : Fin cfg0.N) (y : S512x2048.Idx) (x : S8192x2048.Idx)
    (hx : ∀ a, (x a).val = (cfg0.win 0).index t a * S512x2048.size a + (y a).val) : iblk m c 0 t y = m ((c : Thread nD τ).loc main_arg0) x := by
  show m ((c : Thread nD τ).loc main_arg0) (((cfg0.win 0).rect t).emb y) = _
  congr 1
  funext a
  exact Fin.ext ((Pipeline.Window.rect_emb_val (cfg0.win 0) t y a rfl).trans (hx a).symm)

theorem iblk1_apply (c : Dev nD) (t : Fin cfg0.N) (y : S512x2048.Idx) (x : S32768x2048.Idx)
    (hx : ∀ a, (x a).val = (cfg0.win 1).index t a * S512x2048.size a + (y a).val) : iblk m c 1 t y = m ((c : Thread nD τ).loc main_arg1) x := by
  show m ((c : Thread nD τ).loc main_arg1) (((cfg0.win 1).rect t).emb y) = _
  congr 1
  funext a
  exact Fin.ext ((Pipeline.Window.rect_emb_val (cfg0.win 1) t y a rfl).trans (hx a).symm)

theorem iblk2_apply (c : Dev nD) (t : Fin cfg0.N) (y : S1x2048.Idx) (x : S1x2048.Idx)
    (hx : ∀ a, (x a).val = (cfg0.win 2).index t a * S1x2048.size a + (y a).val) : iblk m c 2 t y = m ((c : Thread nD τ).loc main_arg2) x := by
  show m ((c : Thread nD τ).loc main_arg2) (((cfg0.win 2).rect t).emb y) = _
  congr 1
  funext a
  exact Fin.ext ((Pipeline.Window.rect_emb_val (cfg0.win 2) t y a rfl).trans (hx a).symm)

theorem iblk3_apply (c : Dev nD) (t : Fin cfg0.N) (y : S1x1x1x2048.Idx) (x : S8x6x1x2048.Idx)
    (hx : ∀ a, (x a).val = (cfg0.win 3).index t a * S1x1x1x2048.size a + (y a).val) : iblk m c 3 t y = m ((c : Thread nD τ).loc main_arg3) x := by
  show m ((c : Thread nD τ).loc main_arg3) (((cfg0.win 3).rect t).emb y) = _
  congr 1
  funext a
  exact Fin.ext ((Pipeline.Window.rect_emb_val (cfg0.win 3) t y a rfl).trans (hx a).symm)

theorem iblk4_apply (c : Dev nD) (t : Fin cfg0.N) (y : S1x1x1x2048.Idx) (x : S8x6x1x2048.Idx)
    (hx : ∀ a, (x a).val = (cfg0.win 4).index t a * S1x1x1x2048.size a + (y a).val) : iblk m c 4 t y = m ((c : Thread nD τ).loc main_arg3) x := by
  show m ((c : Thread nD τ).loc main_arg3) (((cfg0.win 4).rect t).emb y) = _
  congr 1
  funext a
  exact Fin.ext ((Pipeline.Window.rect_emb_val (cfg0.win 4) t y a rfl).trans (hx a).symm)

theorem iblk5_apply (c : Dev nD) (t : Fin cfg0.N) (y : S2048x3072.Idx) (x : S2048x3072.Idx)
    (hx : ∀ a, (x a).val = (cfg0.win 5).index t a * S2048x3072.size a + (y a).val) : iblk m c 5 t y = m ((c : Thread nD τ).loc main_arg4) x := by
  show m ((c : Thread nD τ).loc main_arg4) (((cfg0.win 5).rect t).emb y) = _
  congr 1
  funext a
  exact Fin.ext ((Pipeline.Window.rect_emb_val (cfg0.win 5) t y a rfl).trans (hx a).symm)

/-- A point's projection is its 512 rows of the whole one. -/
theorem zB_eq (c : Dev nD) (t : Fin cfg0.N) (r : Fin 512) (j : Fin 3072) (n : Fin 40960) (hn : n.val = t.val * 512 + r.val) :
    zB (grid0.coords t) (iblk m c 0 t) (iblk m c 1 t) (iblk m c 2 t) (iblk m c 3 t) (iblk m c 4 t) (iblk m c 5 t) r j
      = zAt (m ((c : Thread nD τ).loc main_arg0)) (m ((c : Thread nD τ).loc main_arg1)) (m ((c : Thread nD τ).loc main_arg2)) (m ((c : Thread nD τ).loc main_arg3)) (m ((c : Thread nD τ).loc main_arg4)) n j := by
  have ht : t.val < 80 := t.isLt
  have hr := r.isLt
  have hseq : (seqOf n).val = if t.val < 16 then t.val / 4 else 4 + (t.val - 16) / 16 := by
    show (if n.val < 8192 then n.val / 2048 else 4 + (n.val - 8192) / 8192) = _
    split <;> split <;> omega
  unfold zB zAt
  refine congr (congr (congr (congr (congrArg proj (funext fun k => ?_)) (funext fun k => ?_)) (funext fun k => ?_)) (funext fun k => ?_)) (funext fun k => ?_)
  · unfold selRow inRow
    by_cases hl : t.val < 16
    · have hn' : n.val < 8192 := by omega
      rw [dif_pos hn']
      refine (congrFun (if_pos ((first_iff t).mpr hl)) _).trans ?_
      refine iblk0_apply m c t _ _ fun a => ?_
      rw [ix_0]
      match a with
      | ⟨0, _⟩ => exact (show n.val = min t.val 15 * 512 + r.val by omega)
      | ⟨1, _⟩ => exact (show k.val = 0 * 2048 + k.val by omega)
    · have hn' : ¬ n.val < 8192 := by omega
      rw [dif_neg hn']
      refine (congrFun (if_neg (fun q => hl ((first_iff t).mp q))) _).trans ?_
      refine iblk1_apply m c t _ _ fun a => ?_
      rw [ix_1]
      match a with
      | ⟨0, _⟩ => exact (show n.val - 8192 = (t.val - 16) * 512 + r.val by omega)
      | ⟨1, _⟩ => exact (show k.val = 0 * 2048 + k.val by omega)
  · refine iblk2_apply m c t _ _ fun a => ?_
    rw [ix_2]
    match a with
    | ⟨0, _⟩ => rfl
    | ⟨1, _⟩ => exact (show k.val = 0 * 2048 + k.val by omega)
  · refine iblk3_apply m c t _ _ fun a => ?_
    rw [ix_3, ← hseq]
    match a with
    | ⟨0, _⟩ => exact (show (seqOf n).val = (seqOf n).val * 1 + 0 by omega)
    | ⟨1, _⟩ => rfl
    | ⟨2, _⟩ => rfl
    | ⟨3, _⟩ => exact (show k.val = 0 * 2048 + k.val by omega)
  · refine iblk4_apply m c t _ _ fun a => ?_
    rw [ix_4, ← hseq]
    match a with
    | ⟨0, _⟩ => exact (show (seqOf n).val = (seqOf n).val * 1 + 0 by omega)
    | ⟨1, _⟩ => rfl
    | ⟨2, _⟩ => rfl
    | ⟨3, _⟩ => exact (show k.val = 0 * 2048 + k.val by omega)
  · refine iblk5_apply m c t _ _ fun a => ?_
    rw [ix_5]
    match a with
    | ⟨0, _⟩ => exact (show k.val = 0 * 2048 + k.val by omega)
    | ⟨1, _⟩ => exact (show j.val = 0 * 3072 + j.val by omega)

/-! ## The whole results -/

/-- The first result at the launch's arrays. -/
def G6 (c : Dev nD) : S40960x512.Idx → EReal :=
  zaG (m ((c : Thread nD τ).loc main_arg0)) (m ((c : Thread nD τ).loc main_arg1)) (m ((c : Thread nD τ).loc main_arg2)) (m ((c : Thread nD τ).loc main_arg3)) (m ((c : Thread nD τ).loc main_arg4))

/-- The second result at the launch's arrays. -/
def G7 (c : Dev nD) : S40960x1024.Idx → EReal :=
  vG (m ((c : Thread nD τ).loc main_arg0)) (m ((c : Thread nD τ).loc main_arg1)) (m ((c : Thread nD τ).loc main_arg2)) (m ((c : Thread nD τ).loc main_arg3)) (m ((c : Thread nD τ).loc main_arg4))

/-- The third result at the launch's arrays. -/
def G8 (c : Dev nD) : S40960x512.Idx → EReal :=
  zcG (m ((c : Thread nD τ).loc main_arg0)) (m ((c : Thread nD τ).loc main_arg1)) (m ((c : Thread nD τ).loc main_arg2)) (m ((c : Thread nD τ).loc main_arg3)) (m ((c : Thread nD τ).loc main_arg4))

theorem pt6 (c : Dev nD) (t : Fin cfg0.N) (y : S512x512.Idx) (x : S40960x512.Idx) (h0 : (x 0).val = t.val * 512 + (y 0).val) (h1 : (x 1).val = (y 1).val) :
    out0_6 (grid0.coords t) (iblk m c 0 t) (iblk m c 1 t) (iblk m c 2 t) (iblk m c 3 t) (iblk m c 4 t) (iblk m c 5 t) y = G6 m c x := by
  refine (out6_apply _ _ _ _ _ _ _ y).trans ?_
  unfold gA G6 zaG
  refine (zB_eq m c t _ _ ⟨(x 0).val, (x 0).isLt⟩ h0).trans ?_
  exact congrArg _ (Fin.ext (by show 0 + (y 1).val = (x 1).val; omega))

/-- Output window 6's array after the run. -/
theorem arr6 (c : Dev nD) : (dats m 0 c).arrAt 6 cfg0.N = G6 m c := by
  refine Dat.arrAt_eq_of_cover (dats m 0 c) 6 (G6 m c) (fun t _ => ?_) (fun i => ?_)
  · rw [Value.flushed6 m c t]
    funext y
    have h := Pipeline.Window.rect_emb_val (cfg0.win 6) t y
    rw [ix_6] at h
    exact pt6 m c t y _ (h (0 : Fin 2)) ((h (1 : Fin 2)).trans (by show 0 * 512 + (y (1 : Fin 2)).val = (y (1 : Fin 2)).val; omega))
  · have l0 : (i (0 : Fin 2)).val < 40960 := (i (0 : Fin 2)).isLt
    obtain ⟨t, ht⟩ : ∃ t : Fin cfg0.N, t.val = (i (0 : Fin 2)).val / 512 := ⟨⟨(i (0 : Fin 2)).val / 512, by show _ < 80; omega⟩, rfl⟩
    refine ⟨t, flush0_6 t, ?_⟩
    have h := Pipeline.Window.rect_emb_val (cfg0.win 6) t (ix2 (⟨(i (0 : Fin 2)).val % 512, by omega⟩ : Fin 512) (⟨(i (1 : Fin 2)).val, (i (1 : Fin 2)).isLt⟩ : Fin 512) : S512x512.Idx)
    rw [ix_6] at h
    have he : ((cfg0.win 6).blk t).view.emb (ix2 (⟨(i (0 : Fin 2)).val % 512, by omega⟩ : Fin 512) (⟨(i (1 : Fin 2)).val, (i (1 : Fin 2)).isLt⟩ : Fin 512) : S512x512.Idx) = i := by
      funext a
      match a with
      | ⟨0, _⟩ => exact Fin.ext ((h (0 : Fin 2)).trans (by show t.val * 512 + (i (0 : Fin 2)).val % 512 = (i (0 : Fin 2)).val; omega))
      | ⟨1, _⟩ => exact Fin.ext ((h (1 : Fin 2)).trans (by show 0 * 512 + (i (1 : Fin 2)).val = (i (1 : Fin 2)).val; omega))
    have hm := View.emb_mem_set ((cfg0.win 6).blk t).view (ix2 (⟨(i (0 : Fin 2)).val % 512, by omega⟩ : Fin 512) (⟨(i (1 : Fin 2)).val, (i (1 : Fin 2)).isLt⟩ : Fin 512) : S512x512.Idx)
    rw [he] at hm
    exact hm

theorem pt7 (c : Dev nD) (t : Fin cfg0.N) (y : S512x1024.Idx) (x : S40960x1024.Idx) (h0 : (x 0).val = t.val * 512 + (y 0).val) (h1 : (x 1).val = (y 1).val) :
    out0_7 (grid0.coords t) (iblk m c 0 t) (iblk m c 1 t) (iblk m c 2 t) (iblk m c 3 t) (iblk m c 4 t) (iblk m c 5 t) y = G7 m c x := by
  refine (out7_apply _ _ _ _ _ _ _ y).trans ?_
  unfold gV G7 vG
  refine congr (congrArg _ ?_) (congrArg Ideal.logistic ?_)
  · refine (zB_eq m c t _ _ ⟨(x 0).val, (x 0).isLt⟩ h0).trans ?_
    exact congrArg _ (Fin.ext (by show 512 + (y 1).val = 512 + (x 1).val; omega))
  · refine (zB_eq m c t _ _ ⟨(x 0).val, (x 0).isLt⟩ h0).trans ?_
    exact congrArg _ (Fin.ext (by show 1536 + (y 1).val = 1536 + (x 1).val; omega))

/-- Output window 7's array after the run. -/
theorem arr7 (c : Dev nD) : (dats m 0 c).arrAt 7 cfg0.N = G7 m c := by
  refine Dat.arrAt_eq_of_cover (dats m 0 c) 7 (G7 m c) (fun t _ => ?_) (fun i => ?_)
  · rw [Value.flushed7 m c t]
    funext y
    have h := Pipeline.Window.rect_emb_val (cfg0.win 7) t y
    rw [ix_7] at h
    exact pt7 m c t y _ (h (0 : Fin 2)) ((h (1 : Fin 2)).trans (by show 0 * 1024 + (y (1 : Fin 2)).val = (y (1 : Fin 2)).val; omega))
  · have l0 : (i (0 : Fin 2)).val < 40960 := (i (0 : Fin 2)).isLt
    obtain ⟨t, ht⟩ : ∃ t : Fin cfg0.N, t.val = (i (0 : Fin 2)).val / 512 := ⟨⟨(i (0 : Fin 2)).val / 512, by show _ < 80; omega⟩, rfl⟩
    refine ⟨t, flush0_7 t, ?_⟩
    have h := Pipeline.Window.rect_emb_val (cfg0.win 7) t (ix2 (⟨(i (0 : Fin 2)).val % 512, by omega⟩ : Fin 512) (⟨(i (1 : Fin 2)).val, (i (1 : Fin 2)).isLt⟩ : Fin 1024) : S512x1024.Idx)
    rw [ix_7] at h
    have he : ((cfg0.win 7).blk t).view.emb (ix2 (⟨(i (0 : Fin 2)).val % 512, by omega⟩ : Fin 512) (⟨(i (1 : Fin 2)).val, (i (1 : Fin 2)).isLt⟩ : Fin 1024) : S512x1024.Idx) = i := by
      funext a
      match a with
      | ⟨0, _⟩ => exact Fin.ext ((h (0 : Fin 2)).trans (by show t.val * 512 + (i (0 : Fin 2)).val % 512 = (i (0 : Fin 2)).val; omega))
      | ⟨1, _⟩ => exact Fin.ext ((h (1 : Fin 2)).trans (by show 0 * 1024 + (i (1 : Fin 2)).val = (i (1 : Fin 2)).val; omega))
    have hm := View.emb_mem_set ((cfg0.win 7).blk t).view (ix2 (⟨(i (0 : Fin 2)).val % 512, by omega⟩ : Fin 512) (⟨(i (1 : Fin 2)).val, (i (1 : Fin 2)).isLt⟩ : Fin 1024) : S512x1024.Idx)
    rw [he] at hm
    exact hm

theorem pt8 (c : Dev nD) (t : Fin cfg0.N) (y : S512x512.Idx) (x : S40960x512.Idx) (h0 : (x 0).val = t.val * 512 + (y 0).val) (h1 : (x 1).val = (y 1).val) :
    out0_8 (grid0.coords t) (iblk m c 0 t) (iblk m c 1 t) (iblk m c 2 t) (iblk m c 3 t) (iblk m c 4 t) (iblk m c 5 t) y = G8 m c x := by
  refine (out8_apply _ _ _ _ _ _ _ y).trans ?_
  unfold gC G8 zcG
  refine (zB_eq m c t _ _ ⟨(x 0).val, (x 0).isLt⟩ h0).trans ?_
  exact congrArg _ (Fin.ext (by show 2560 + (y 1).val = 2560 + (x 1).val; omega))

/-- Output window 8's array after the run. -/
theorem arr8 (c : Dev nD) : (dats m 0 c).arrAt 8 cfg0.N = G8 m c := by
  refine Dat.arrAt_eq_of_cover (dats m 0 c) 8 (G8 m c) (fun t _ => ?_) (fun i => ?_)
  · rw [Value.flushed8 m c t]
    funext y
    have h := Pipeline.Window.rect_emb_val (cfg0.win 8) t y
    rw [ix_8] at h
    exact pt8 m c t y _ (h (0 : Fin 2)) ((h (1 : Fin 2)).trans (by show 0 * 512 + (y (1 : Fin 2)).val = (y (1 : Fin 2)).val; omega))
  · have l0 : (i (0 : Fin 2)).val < 40960 := (i (0 : Fin 2)).isLt
    obtain ⟨t, ht⟩ : ∃ t : Fin cfg0.N, t.val = (i (0 : Fin 2)).val / 512 := ⟨⟨(i (0 : Fin 2)).val / 512, by show _ < 80; omega⟩, rfl⟩
    refine ⟨t, flush0_8 t, ?_⟩
    have h := Pipeline.Window.rect_emb_val (cfg0.win 8) t (ix2 (⟨(i (0 : Fin 2)).val % 512, by omega⟩ : Fin 512) (⟨(i (1 : Fin 2)).val, (i (1 : Fin 2)).isLt⟩ : Fin 512) : S512x512.Idx)
    rw [ix_8] at h
    have he : ((cfg0.win 8).blk t).view.emb (ix2 (⟨(i (0 : Fin 2)).val % 512, by omega⟩ : Fin 512) (⟨(i (1 : Fin 2)).val, (i (1 : Fin 2)).isLt⟩ : Fin 512) : S512x512.Idx) = i := by
      funext a
      match a with
      | ⟨0, _⟩ => exact Fin.ext ((h (0 : Fin 2)).trans (by show t.val * 512 + (i (0 : Fin 2)).val % 512 = (i (0 : Fin 2)).val; omega))
      | ⟨1, _⟩ => exact Fin.ext ((h (1 : Fin 2)).trans (by show 0 * 512 + (i (1 : Fin 2)).val = (i (1 : Fin 2)).val; omega))
    have hm := View.emb_mem_set ((cfg0.win 8).blk t).view (ix2 (⟨(i (0 : Fin 2)).val % 512, by omega⟩ : Fin 512) (⟨(i (1 : Fin 2)).val, (i (1 : Fin 2)).isLt⟩ : Fin 512) : S512x512.Idx)
    rw [he] at hm
    exact hm

end Cert.InprojIdeal.Hand

namespace Cert.Proof

open Idealize.ShloMosaic Idealize.ShloMosaic.TcCoe Idealize.SL Idealize.SL.Sem

/-- The input projection's kernel and its plain reference end with equal results. -/
theorem algebraic_inproj : Cert.algebraic_InprojIdeal_InprojRefIdeal := fun m g m' g' _ ha => by
  refine ⟨fun c => Cert.InprojIdeal.Hand.G6 m c, fun c => Cert.InprojIdeal.Hand.G7 m c, fun c => Cert.InprojIdeal.Hand.G8 m c, ?_, ?_⟩
  · refine (θ_run _ _ _).mono (fun r h c => ?_) (Cert.InprojIdeal.Value.run_blocks (F := Ideal) m g)
    obtain ⟨e0, e1, e2, e⟩ := h c
    exact ⟨e0.trans (Cert.InprojIdeal.Hand.arr6 m c), e1.trans (Cert.InprojIdeal.Hand.arr7 m c), e2.trans (Cert.InprojIdeal.Hand.arr8 m c), e⟩
  · refine (θ_run _ _ _).mono (fun r h c => ?_) (Cert.InprojRefIdeal.Value.run (F := Ideal) m' g')
    obtain ⟨e0, e1, e2, e⟩ := h c
    obtain ⟨a0, a1, a2, a3, a4⟩ := ha c
    refine ⟨e0.trans (funext fun y => ?_), e1.trans (funext fun y => ?_), e2.trans (funext fun y => ?_), e⟩
    · refine ((Cert.InprojRefIdeal.Hand.cols_apply (N := 512) 0 (by omega) _ Cert.InprojRefIdeal.Gen.slices_S40960x3072_S40960x512_0_0 y).trans (Cert.InprojRefIdeal.Hand.z_apply (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2)) (m' ((c.tc : Thread Cert.InprojRefIdeal.nD Cert.InprojRefIdeal.τ).loc Cert.InprojRefIdeal.main_arg3)) (m' ((c.tc : Thread Cert.InprojRefIdeal.nD Cert.InprojRefIdeal.τ).loc Cert.InprojRefIdeal.main_arg4)) _ _ _ _ _ _ _ _ _ _ _ _ _ _ _ _ _ _ _ _ _ _ _ _ _)).trans ?_
      rw [a0, a1, a2, a3, a4]
      exact congrArg _ (Fin.ext (by show 0 + (y 1).val = (y 1).val; omega))
    · refine (Cert.InprojRefIdeal.Hand.v_eq m' c y).trans ?_
      rw [a0, a1, a2, a3, a4]
      rfl
    · refine ((Cert.InprojRefIdeal.Hand.cols_apply (N := 512) 2560 (by omega) _ Cert.InprojRefIdeal.Gen.slices_S40960x3072_S40960x512_0_2560 y).trans (Cert.InprojRefIdeal.Hand.z_apply (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2)) (m' ((c.tc : Thread Cert.InprojRefIdeal.nD Cert.InprojRefIdeal.τ).loc Cert.InprojRefIdeal.main_arg3)) (m' ((c.tc : Thread Cert.InprojRefIdeal.nD Cert.InprojRefIdeal.τ).loc Cert.InprojRefIdeal.main_arg4)) _ _ _ _ _ _ _ _ _ _ _ _ _ _ _ _ _ _ _ _ _ _ _ _ _)).trans ?_
      rw [a0, a1, a2, a3, a4]
      rfl

end Cert.Proof

end
-- ==== Proof.OutprojSpec.lean ====
module

public import proofs.«01_k».proof.Proof.InprojSpec

@[expose] public section

noncomputable section

namespace Cert.Spec

open Idealize.ShloMosaic

/-! ## The output projection's results, entry by entry -/

/-- Three groups of features, one after the other. -/
def mix3 (a : Fin 512 → EReal) (b : Fin 1024 → EReal) (c : Fin 512 → EReal) (e : Fin 2048) : EReal :=
  if h : e.val < 512 then a ⟨e.val, h⟩ else if h' : e.val < 1536 then b ⟨e.val - 512, by omega⟩ else c ⟨e.val - 1536, by omega⟩

/-- A row plus its gate times the mixed features' product with the weights. -/
def outRow (v g1 mx : Fin 2048 → EReal) (w : Fin 2048 → Fin 2048 → EReal) (d : Fin 2048) : EReal :=
  v d + g1 d * ∑ e : Fin 2048, mx e * w e d

/-- Row `n` of two arrays of 512 columns, one after the other. -/
def inRow512 (x0 : (⟨2, ![8192, 512]⟩ : Shape).Idx → EReal) (x1 : (⟨2, ![32768, 512]⟩ : Shape).Idx → EReal) (n : Fin 40960) (d : Fin 512) : EReal :=
  if h : n.val < 8192 then x0 (ix2 ⟨n.val, h⟩ d) else x1 (ix2 ⟨n.val - 8192, by omega⟩ d)

section
variable (x0 : (⟨2, ![8192, 2048]⟩ : Shape).Idx → EReal) (x1 : (⟨2, ![32768, 2048]⟩ : Shape).Idx → EReal)
  (ma : (⟨2, ![40960, 512]⟩ : Shape).Idx → EReal) (mb : (⟨2, ![40960, 1024]⟩ : Shape).Idx → EReal)
  (mc0 : (⟨2, ![8192, 512]⟩ : Shape).Idx → EReal) (mc1 : (⟨2, ![32768, 512]⟩ : Shape).Idx → EReal)
  (w : (⟨2, ![2048, 2048]⟩ : Shape).Idx → EReal) (md : (⟨4, ![8, 6, 1, 2048]⟩ : Shape).Idx → EReal)
  (g : (⟨2, ![1, 2048]⟩ : Shape).Idx → EReal) (wr : (⟨2, ![2048, 128]⟩ : Shape).Idx → EReal) (rb : (⟨2, ![1, 128]⟩ : Shape).Idx → EReal)

/-- Entry `(n, d)` of the first result: the residual row. -/
def xAt (n : Fin 40960) (d : Fin 2048) : EReal :=
  outRow (inRow x0 x1 n) (fun k => md (ix4 (seqOf n) 2 0 k)) (mix3 (fun k => ma (ix2 n k)) (fun k => mb (ix2 n k)) (inRow512 mc0 mc1 n)) (fun e k => w (ix2 e k)) d

/-- Entry `(n, d)` of the second result: the residual row normalised, scaled and shifted. -/
def hAt (n : Fin 40960) (d : Fin 2048) : EReal :=
  hid (xAt x0 x1 ma mb mc0 mc1 w md n) (fun k => g (ix2 0 k)) (fun k => md (ix4 (seqOf n) 4 0 k)) (fun k => md (ix4 (seqOf n) 3 0 k)) d

/-- Entry `(n, j)` of the third result: the router's score. -/
def lgAt (n : Fin 40960) (j : Fin 128) : EReal :=
  (∑ d : Fin 2048, hAt x0 x1 ma mb mc0 mc1 w md g n d * wr (ix2 d j)) + rb (ix2 0 j)

/-- The first result. -/
def xG (y : (⟨2, ![40960, 2048]⟩ : Shape).Idx) : EReal :=
  xAt x0 x1 ma mb mc0 mc1 w md ⟨(y 0).val, (y 0).isLt⟩ ⟨(y 1).val, (y 1).isLt⟩

/-- The second result, in rows of words: a token's sixteen rows hold features `128 j …` and `1024 + 128 j …` in turn. -/
def hG (y : (⟨2, ![655360, 128]⟩ : Shape).Idx) : EReal :=
  hAt x0 x1 ma mb mc0 mc1 w md g ⟨(y 0).val / 16, by have : (y 0).val < 655360 := (y 0).isLt; omega⟩
    ⟨(y 0).val % 2 * 1024 + (y 0).val / 2 % 8 * 128 + (y 1).val, by have : (y 1).val < 128 := (y 1).isLt; omega⟩

/-- The third result. -/
def lgG (y : (⟨2, ![40960, 128]⟩ : Shape).Idx) : EReal :=
  lgAt x0 x1 ma mb mc0 mc1 w md g wr rb ⟨(y 0).val, (y 0).isLt⟩ ⟨(y 1).val, (y 1).isLt⟩

end

/-- A product with three groups of features is the three groups' products added up. -/
theorem mix3_sum (a : Fin 512 → EReal) (b : Fin 1024 → EReal) (c : Fin 512 → EReal) (w : Fin 2048 → EReal) :
    ∑ e : Fin 2048, mix3 a b c e * w e
      = (∑ e : Fin 512, a e * w ⟨e.val, by omega⟩) + (∑ e : Fin 1024, b e * w ⟨512 + e.val, by omega⟩) + ∑ e : Fin 512, c e * w ⟨1536 + e.val, by omega⟩ := by
  refine (Fin.sum_univ_add (a := 512 + 1024) (b := 512) (fun e : Fin (512 + 1024 + 512) => mix3 a b c e * w e)).trans ?_
  refine congr (congrArg _ ((Fin.sum_univ_add (a := 512) (b := 1024) _).trans ?_)) ?_
  · refine congr (congrArg _ (Finset.sum_congr rfl fun e _ => ?_)) (Finset.sum_congr rfl fun e _ => ?_)
    · have h : mix3 a b c ⟨e.val, by omega⟩ = a e := dif_pos e.isLt
      exact congrArg (fun p : EReal => p * w ⟨e.val, by omega⟩) h
    · have h : mix3 a b c ⟨512 + e.val, by omega⟩ = b e := by
        refine (dif_neg (show ¬ (512 + e.val < 512) by omega)).trans ((dif_pos (show 512 + e.val < 1536 by omega)).trans (congrArg b (Fin.ext ?_)))
        show 512 + e.val - 512 = e.val
        omega
      exact congrArg (fun p : EReal => p * w ⟨512 + e.val, by omega⟩) h
  · refine Finset.sum_congr rfl fun e _ => ?_
    have h : mix3 a b c ⟨1536 + e.val, by omega⟩ = c e := by
      refine (dif_neg (show ¬ (1536 + e.val < 512) by omega)).trans ((dif_neg (show ¬ (1536 + e.val < 1536) by omega)).trans (congrArg c (Fin.ext ?_)))
      show 1536 + e.val - 1536 = e.val
      omega
    exact congrArg (fun p : EReal => p * w ⟨1536 + e.val, by omega⟩) h

end Cert.Spec

end
-- ==== Proof.OutprojIdealPoint.lean ====
module

public import proofs.«01_k».proof.Proof.OutprojIdealFrame
public import proofs.«01_k».proof.Proof.OutprojSpec
public import proofs.«01_k».proof.Proof.InprojRefValue
public import Idealize.ShloMosaic.Lib.Pipeline.Value
public import Idealize.ShloMosaic.Lib.Pointwise
public import Idealize.ShloMosaic.Lib.MatmulPlain
public import Idealize.ShloMosaic.Lib.IdealHost

@[expose] public section

set_option maxRecDepth 16384
set_option Elab.async false

noncomputable section

namespace Cert.OutprojIdeal.Hand

open Cert.OutprojIdeal Cert.OutprojIdeal.Gen
open Idealize.ShloMosaic
open Idealize.ShloMosaic.TcCoe
open Cert.Spec
open Idealize.SL Idealize.SL.Sem
open Cert.InprojRefIdeal.Hand (ixe)

/-! ## What a grid point stores, entry by entry -/

theorem dot512 (X : FVec Ideal S256x512 .bf16) (w : FVec Ideal S512x2048 .bf16) (r : Fin 256) (e : Fin 2048) :
    matmul dot_S256x512_S512x2048_S256x2048_1_0_0_1_n_n none X w (constant S256x2048 .f32 0x00000000#32) (ix2 r e) = ∑ d : Fin 512, X (ix2 r d) * w (ix2 d e) := by
  refine (Ideal.matmul_plain_apply (M := 256) (K := 512) (N := 2048) none X w (constant S256x2048 .f32 0x00000000#32) r e).trans ?_
  show Ideal.ofBits .f32 0x00000000#32 + _ = _
  rw [Ideal.ofBits_zero_f32, zero_add]
  simp only [ixe]

theorem dot1024 (X : FVec Ideal S256x1024 .bf16) (w : FVec Ideal S1024x2048 .bf16) (r : Fin 256) (e : Fin 2048) :
    matmul dot_S256x1024_S1024x2048_S256x2048_1_0_0_1_n_n none X w (constant S256x2048 .f32 0x00000000#32) (ix2 r e) = ∑ d : Fin 1024, X (ix2 r d) * w (ix2 d e) := by
  refine (Ideal.matmul_plain_apply (M := 256) (K := 1024) (N := 2048) none X w (constant S256x2048 .f32 0x00000000#32) r e).trans ?_
  show Ideal.ofBits .f32 0x00000000#32 + _ = _
  rw [Ideal.ofBits_zero_f32, zero_add]
  simp only [ixe]

theorem dotL (X : FVec Ideal S256x2048 .bf16) (w : FVec Ideal S2048x128 .bf16) (r : Fin 256) (e : Fin 128) :
    matmul dot_S256x2048_S2048x128_S256x128_1_0_0_1_n_n none X w (constant S256x128 .f32 0x00000000#32) (ix2 r e) = ∑ d : Fin 2048, X (ix2 r d) * w (ix2 d e) := by
  refine (Ideal.matmul_plain_apply (M := 256) (K := 2048) (N := 128) none X w (constant S256x128 .f32 0x00000000#32) r e).trans ?_
  show Ideal.ofBits .f32 0x00000000#32 + _ = _
  rw [Ideal.ofBits_zero_f32, zero_add]
  simp only [ixe]

/-- A row plus its gate times three terms. -/
theorem tail_apply (X A B C : FVec Ideal S256x2048 .f32) (v : Vec Ideal S1x1x1x2048 .f32) (h1 h2) (r : Fin 256) (d : Fin 2048) :
    addf X (mulf (broadcastTo S256x2048 (shapeCast S1x2048 v h1) h2) (addf (addf A B) C)) (ix2 r d)
      = X (ix2 r d) + v (ix4 0 0 0 d) * ((A (ix2 r d) + B (ix2 r d)) + C (ix2 r d)) := by
  pointwise

/-- Half a block's residual rows. -/
theorem pay18_apply (b : BitVec 32) (v82 v83 : Vec Ideal S256x2048 .f32) (v86 v87 v89 : Vec Ideal S256x512 .bf16) (v90 : Vec Ideal S512x2048 .bf16) (v92 : Vec Ideal S256x1024 .bf16) (v93 : Vec Ideal S1024x2048 .bf16) (v96 : Vec Ideal S512x2048 .bf16) (v99 : Vec Ideal S1x1x1x2048 .f32) (r : Fin 256) (d : Fin 2048) :
    k0_pay18 b v82 v83 v86 v87 v89 v90 v92 v93 v96 v99 (ix2 r d)
      = (Scalar.select (Scalar.cmpi .slt b 16#32) v82 v83 : Vec Ideal S256x2048 .f32) (ix2 r d) + v99 (ix4 0 0 0 d) *
        (((∑ e : Fin 512, v89 (ix2 r e) * v90 (ix2 e d)) + (∑ e : Fin 1024, v92 (ix2 r e) * v93 (ix2 e d))) + ∑ e : Fin 512, (Scalar.select (Scalar.cmpi .slt b 16#32) v86 v87 : Vec Ideal S256x512 .bf16) (ix2 r e) * v96 (ix2 e d)) := by
  unfold k0_pay18
  refine (tail_apply _ _ _ _ _ _ _ r d).trans ?_
  exact congrArg _ (congrArg _ (congr (congrArg _ (congr (congrArg _ (dot512 v89 v90 r d)) (dot1024 v92 v93 r d))) (dot512 _ v96 r d)))

/-- Half a block's normalised rows. -/
theorem pay19_apply (v103 : FVec Ideal S256x2048 .f32) (v105 : Vec Ideal S1x2048 .f32) (v118 v124 : Vec Ideal S1x1x1x2048 .f32) (r : Fin 256) (d : Fin 2048) :
    k0_pay19 v103 v105 v118 v124 (ix2 r d) = hid (fun k => v103 (ix2 r k)) (fun k => v105 (ix2 0 k)) (fun k => v118 (ix4 0 0 0 k)) (fun k => v124 (ix4 0 0 0 k)) d := by
  unfold k0_pay19 hid rrms
  dsimp only
  pointwise

/-- A row plus the router's bias. -/
theorem bias_apply (Z : FVec Ideal S256x128 .f32) (v : Vec Ideal S1x128 .f32) (h) (r : Fin 256) (j : Fin 128) :
    addf Z (broadcastTo S256x128 v h) (ix2 r j) = Z (ix2 r j) + v (ix2 0 j) := by
  pointwise

/-- Half a block's scores. -/
theorem pay17_apply (v46 : FVec Ideal S256x2048 .f32) (v75 : Vec Ideal S2048x128 .bf16) (v77 : Vec Ideal S1x128 .f32) (r : Fin 256) (j : Fin 128) :
    k0_pay17 v46 v75 v77 (ix2 r j) = (∑ d : Fin 2048, v46 (ix2 r d) * v75 (ix2 d j)) + v77 (ix2 0 j) := by
  have h := dotL (truncf .bf16 v46 bitsLt_bf16_f32) v75 r j
  unfold k0_pay17
  exact (bias_apply _ v77 _ r j).trans (congrArg (fun p : EReal => p + v77 (ix2 0 j)) h)

/-- Rows of a block. -/
theorem ldR {φ : EltTy} {R C N : ℕ} (x : (⟨2, ![R, C]⟩ : Shape).Idx → Elt Ideal φ) (k : ℕ) (hk : k + N ≤ R) (inb) (r : Fin N) (d : Fin C) :
    View.ld (Val := Elt Ideal) x (Rect.unit (s := (⟨2, ![R, C]⟩ : Shape)) ![k, 0] (⟨2, ![N, C]⟩ : Shape).size inb) (ix2 r d) = x (ix2 ⟨k + r.val, by omega⟩ d) := by
  show x _ = _
  congr 1
  funext a
  match a with
  | ⟨0, _⟩ => exact Fin.ext (show k + 1 * r.val = k + r.val by omega)
  | ⟨1, _⟩ => exact Fin.ext (show 0 + 1 * d.val = d.val by omega)

/-- A whole block. -/
theorem ldA {φ : EltTy} {R C : ℕ} (x : (⟨2, ![R, C]⟩ : Shape).Idx → Elt Ideal φ) (inb) (r : Fin R) (d : Fin C) :
    View.ld (Val := Elt Ideal) x (Rect.unit (s := (⟨2, ![R, C]⟩ : Shape)) ![0, 0] (⟨2, ![R, C]⟩ : Shape).size inb) (ix2 r d) = x (ix2 r d) := by
  show x _ = _
  congr 1
  funext a
  match a with
  | ⟨0, _⟩ => exact Fin.ext (show 0 + 1 * r.val = r.val by omega)
  | ⟨1, _⟩ => exact Fin.ext (show 0 + 1 * d.val = d.val by omega)

/-- A modulation row, whole. -/
theorem ldM (x : S1x1x1x2048.Idx → Elt Ideal .f32) (d : Fin 2048) : View.ld (Val := Elt Ideal) x q6 (ix4 0 0 0 d) = x (ix4 0 0 0 d) := by
  show x _ = _
  congr 1
  funext a
  match a with
  | ⟨0, _⟩ => rfl
  | ⟨1, _⟩ => rfl
  | ⟨2, _⟩ => rfl
  | ⟨3, _⟩ => exact Fin.ext (show 0 + 1 * d.val = d.val by omega)

/-- A choice of two blocks, then some of its rows. -/
theorem sel_ld {φ : EltTy} {R C N : ℕ} (b : BitVec 1) (x x' : (⟨2, ![R, C]⟩ : Shape).Idx → Elt Ideal φ) (k : ℕ) (hk : k + N ≤ R) (inb) (r : Fin N) (d : Fin C) :
    (Scalar.select b (View.ld (Val := Elt Ideal) x (Rect.unit (s := (⟨2, ![R, C]⟩ : Shape)) ![k, 0] (⟨2, ![N, C]⟩ : Shape).size inb)) (View.ld (Val := Elt Ideal) x' (Rect.unit (s := (⟨2, ![R, C]⟩ : Shape)) ![k, 0] (⟨2, ![N, C]⟩ : Shape).size inb)) : (⟨2, ![N, C]⟩ : Shape).Idx → Elt Ideal φ) (ix2 r d)
      = (Scalar.select b x x' : (⟨2, ![R, C]⟩ : Shape).Idx → Elt Ideal φ) (ix2 ⟨k + r.val, by omega⟩ d) := by
  unfold Scalar.select
  split
  · exact ldR x k hk inb r d
  · exact ldR x' k hk inb r d

/-- Two rows interleaved. -/
theorem pair_apply (lo hi : FVec Ideal S256x128 .bf16) (r : Fin 256) (h : Fin 2) (l : Fin 128) :
    interleaveRows S256x2x128 (shapeCast S256x1x128 lo shapeCasts_S256x128_S256x1x128) (shapeCast S256x1x128 hi shapeCasts_S256x128_S256x1x128) bitcasts_S256x2x128_w16_S256x1x128_w32 (ix3 r h l)
      = if h.val = 0 then lo (ix2 r l) else hi (ix2 r l) := by
  have sc : ∀ v : FVec Ideal S256x128 .bf16, shapeCast S256x1x128 v shapeCasts_S256x128_S256x1x128 (ix3 r (0 : Fin 1) l) = v (ix2 r l) := by
    intro v
    pointwise
  rw [interleaveRows_apply]
  have hh : S256x2x128.row (ix3 r h l) = h.val := rfl
  have hl := h.isLt
  rw [hh]
  by_cases h0 : h.val = 0
  · rw [if_pos (by omega), if_pos h0, ← sc lo]
    congr 1
    funext a
    match a with
    | ⟨0, _⟩ => rfl
    | ⟨1, _⟩ => exact Fin.ext (show h.val / 2 = 0 by omega)
    | ⟨2, _⟩ => rfl
  · rw [if_neg (by omega), if_neg h0, ← sc hi]
    congr 1
    funext a
    match a with
    | ⟨0, _⟩ => rfl
    | ⟨1, _⟩ => exact Fin.ext (show h.val / 2 = 0 by omega)
    | ⟨2, _⟩ => rfl

/-- 128 columns of one half of the features. -/
theorem slice2_apply (q o : ℕ) (hq : q + 1024 ≤ 2048) (ho : o + 128 ≤ 1024) (H : FVec Ideal S256x2048 .f32) (hs hs' hb) (r : Fin 256) (l : Fin 128) :
    (extractStridedSlice S256x128 ![0, o] (truncf .bf16 (extractStridedSlice S256x1024 ![0, q] H hs) hb : FVec Ideal S256x1024 .bf16) hs' : FVec Ideal S256x128 .bf16) (ix2 r l) = H (ix2 r ⟨q + (o + l.val), by omega⟩) := by
  show H _ = _
  congr 1
  funext a
  match a with
  | ⟨0, _⟩ => exact Fin.ext (show 0 + (0 + r.val) = r.val by omega)
  | ⟨1, _⟩ => exact Fin.ext (show q + (o + l.val) = q + (o + l.val) from rfl)

section Point
variable (i : grid0.Coords) (x0 x1 : Vec Ideal S512x2048 .f32) (x2 : Vec Ideal S512x512 .bf16) (x3 : Vec Ideal S512x1024 .bf16) (x4 x5 : Vec Ideal S512x512 .bf16) (x6 : Vec Ideal S2048x2048 .bf16) (x7 : Vec Ideal S1x1x1x2048 .f32) (x8 : Vec Ideal S1x2048 .f32) (x9 x10 : Vec Ideal S1x1x1x2048 .f32) (x11 : Vec Ideal S2048x128 .bf16) (x12 : Vec Ideal S1x128 .f32)

/-- The residual row a point reads: the first input's at its first sixteen points, the second's at the others. -/
def selRow (r : Fin 512) (k : Fin 2048) : EReal :=
  (Scalar.select (Scalar.cmpi .slt (BitVec.ofNat 32 (i 0).val) 16#32) x0 x1 : Vec Ideal S512x2048 .f32) (ix2 r k)

/-- The last mixed features a point reads, likewise. -/
def selMix (r : Fin 512) (k : Fin 512) : EReal :=
  (Scalar.select (Scalar.cmpi .slt (BitVec.ofNat 32 (i 0).val) 16#32) x4 x5 : Vec Ideal S512x512 .bf16) (ix2 r k)

/-- Entry `(r, d)` of a point's residual. -/
def xB (r : Fin 512) (d : Fin 2048) : EReal :=
  outRow (selRow i x0 x1 r) (fun k => x7 (ix4 0 0 0 k)) (mix3 (fun k => x2 (ix2 r k)) (fun k => x3 (ix2 r k)) (selMix i x4 x5 r)) (fun e k => x6 (ix2 e k)) d

/-- Entry `(r, d)` of a point's normalised rows. -/
def hB (r : Fin 512) (d : Fin 2048) : EReal :=
  hid (xB i x0 x1 x2 x3 x4 x5 x6 x7 r) (fun k => x8 (ix2 0 k)) (fun k => x9 (ix4 0 0 0 k)) (fun k => x10 (ix4 0 0 0 k)) d

/-- Entry `(r, j)` of a point's scores. -/
def lB (r : Fin 512) (j : Fin 128) : EReal :=
  (∑ d : Fin 2048, hB i x0 x1 x2 x3 x4 x5 x6 x7 x8 x9 x10 r d * x11 (ix2 d j)) + x12 (ix2 0 j)

theorem xhalf (b : ℕ) (hb : b + 256 ≤ 512) (i0 i1 i2) (r : Fin 256) (d : Fin 2048) :
    k0_pay18 (BitVec.ofNat 32 (i 0).val) (View.ld (Val := Elt Ideal) x0 (Rect.unit (s := S512x2048) ![b, 0] S256x2048.size i0)) (View.ld (Val := Elt Ideal) x1 (Rect.unit (s := S512x2048) ![b, 0] S256x2048.size i0))
      (View.ld (Val := Elt Ideal) x4 (Rect.unit (s := S512x512) ![b, 0] S256x512.size i1)) (View.ld (Val := Elt Ideal) x5 (Rect.unit (s := S512x512) ![b, 0] S256x512.size i1))
      (View.ld (Val := Elt Ideal) x2 (Rect.unit (s := S512x512) ![b, 0] S256x512.size i1)) (View.ld (Val := Elt Ideal) x6 q2)
      (View.ld (Val := Elt Ideal) x3 (Rect.unit (s := S512x1024) ![b, 0] S256x1024.size i2)) (View.ld (Val := Elt Ideal) x6 q4) (View.ld (Val := Elt Ideal) x6 q5) (View.ld (Val := Elt Ideal) x7 q6) (ix2 r d)
      = xB i x0 x1 x2 x3 x4 x5 x6 x7 ⟨b + r.val, by omega⟩ d := by
  refine (pay18_apply _ _ _ _ _ _ _ _ _ _ _ r d).trans ?_
  unfold xB outRow
  rw [mix3_sum]
  refine congr (congrArg _ (sel_ld (R := 512) (C := 2048) (N := 256) (φ := .f32) _ x0 x1 b hb i0 r d)) (congr (congrArg _ (ldM x7 d)) ?_)
  refine congr (congrArg _ (congr (congrArg _ ?_) ?_)) ?_
  · refine Finset.sum_congr rfl fun e _ => congr (congrArg _ (ldR (R := 512) (C := 512) (N := 256) (φ := .bf16) x2 b hb i1 r e)) ?_
    refine (ldR (R := 2048) (C := 2048) (N := 512) (φ := .bf16) x6 0 (by omega) _ e d).trans (congrArg (fun k : Fin 2048 => x6 (ix2 k d)) (Fin.ext ?_))
    show 0 + e.val = e.val
    omega
  · refine Finset.sum_congr rfl fun e _ => congr (congrArg _ (ldR (R := 512) (C := 1024) (N := 256) (φ := .bf16) x3 b hb i2 r e)) ?_
    exact ldR (R := 2048) (C := 2048) (N := 1024) (φ := .bf16) x6 512 (by omega) _ e d
  · refine Finset.sum_congr rfl fun e _ => congr (congrArg _ (sel_ld (R := 512) (C := 512) (N := 256) (φ := .bf16) _ x4 x5 b hb i1 r e)) ?_
    exact ldR (R := 2048) (C := 2048) (N := 512) (φ := .bf16) x6 1536 (by omega) _ e d

/-- The first half's residual rows, from the point's blocks. -/
theorem v22_apply (r : Fin 256) (d : Fin 2048) : b_v22 i x0 x1 x2 x3 x4 x5 x6 x7 x8 x9 x10 x11 x12 (ix2 r d) = xB i x0 x1 x2 x3 x4 x5 x6 x7 ⟨0 + r.val, by omega⟩ d :=
  xhalf i x0 x1 x2 x3 x4 x5 x6 x7 0 (by omega) _ _ _ r d

/-- The second half's residual rows, from the point's blocks. -/
theorem v103_apply (r : Fin 256) (d : Fin 2048) : b_v103 i x0 x1 x2 x3 x4 x5 x6 x7 x8 x9 x10 x11 x12 (ix2 r d) = xB i x0 x1 x2 x3 x4 x5 x6 x7 ⟨256 + r.val, by omega⟩ d :=
  xhalf i x0 x1 x2 x3 x4 x5 x6 x7 256 (by omega) _ _ _ r d

theorem hhalf (b : ℕ) (hb : b + 256 ≤ 512) (X : FVec Ideal S256x2048 .f32) (hX : ∀ r d, X (ix2 r d) = xB i x0 x1 x2 x3 x4 x5 x6 x7 ⟨b + r.val, by omega⟩ d) (r : Fin 256) (d : Fin 2048) :
    k0_pay19 X (View.ld (Val := Elt Ideal) x8 q7) (View.ld (Val := Elt Ideal) x9 q6) (View.ld (Val := Elt Ideal) x10 q6) (ix2 r d) = hB i x0 x1 x2 x3 x4 x5 x6 x7 x8 x9 x10 ⟨b + r.val, by omega⟩ d := by
  refine (pay19_apply _ _ _ _ r d).trans ?_
  unfold hB
  refine congrFun (congr (congr (congr (congrArg hid (funext fun k => hX r k)) (funext fun k => ?_)) (funext fun k => ldM x9 k)) (funext fun k => ldM x10 k)) d
  exact ldA (R := 1) (C := 2048) (φ := .f32) x8 _ 0 k

/-- The first half's normalised rows. -/
theorem v46_apply (r : Fin 256) (d : Fin 2048) : b_v46 i x0 x1 x2 x3 x4 x5 x6 x7 x8 x9 x10 x11 x12 (ix2 r d) = hB i x0 x1 x2 x3 x4 x5 x6 x7 x8 x9 x10 ⟨0 + r.val, by omega⟩ d :=
  hhalf i x0 x1 x2 x3 x4 x5 x6 x7 x8 x9 x10 0 (by omega) (b_v22 i x0 x1 x2 x3 x4 x5 x6 x7 x8 x9 x10 x11 x12) (v22_apply i x0 x1 x2 x3 x4 x5 x6 x7 x8 x9 x10 x11 x12) r d

/-- The second half's normalised rows. -/
theorem v127_apply (r : Fin 256) (d : Fin 2048) : b_v127 i x0 x1 x2 x3 x4 x5 x6 x7 x8 x9 x10 x11 x12 (ix2 r d) = hB i x0 x1 x2 x3 x4 x5 x6 x7 x8 x9 x10 ⟨256 + r.val, by omega⟩ d :=
  hhalf i x0 x1 x2 x3 x4 x5 x6 x7 x8 x9 x10 256 (by omega) (b_v103 i x0 x1 x2 x3 x4 x5 x6 x7 x8 x9 x10 x11 x12) (v103_apply i x0 x1 x2 x3 x4 x5 x6 x7 x8 x9 x10 x11 x12) r d

theorem lhalf (b : ℕ) (hb : b + 256 ≤ 512) (H : FVec Ideal S256x2048 .f32) (hH : ∀ r d, H (ix2 r d) = hB i x0 x1 x2 x3 x4 x5 x6 x7 x8 x9 x10 ⟨b + r.val, by omega⟩ d) (r : Fin 256) (j : Fin 128) :
    k0_pay17 H (View.ld (Val := Elt Ideal) x11 q8) (View.ld (Val := Elt Ideal) x12 q9) (ix2 r j) = lB i x0 x1 x2 x3 x4 x5 x6 x7 x8 x9 x10 x11 x12 ⟨b + r.val, by omega⟩ j := by
  refine (pay17_apply _ _ _ r j).trans ?_
  unfold lB
  refine congr (congrArg _ (Finset.sum_congr rfl fun d _ => congr (congrArg _ (hH r d)) ?_)) ?_
  · exact ldA (R := 2048) (C := 128) (φ := .bf16) x11 _ d j
  · exact ldA (R := 1) (C := 128) (φ := .f32) x12 _ 0 j

/-- What a point stores of the first result. -/
def gX (y : S512x2048.Idx) : EReal := xB i x0 x1 x2 x3 x4 x5 x6 x7 ⟨(y 0).val, (y 0).isLt⟩ ⟨(y 1).val, (y 1).isLt⟩

/-- What a point stores of the second result, by row pairs. -/
def gH (y : S4096x2x128.Idx) : EReal :=
  hB i x0 x1 x2 x3 x4 x5 x6 x7 x8 x9 x10 ⟨(y 0).val / 8, by have : (y 0).val < 4096 := (y 0).isLt; omega⟩
    ⟨(y 1).val * 1024 + (y 0).val % 8 * 128 + (y 2).val, by have : (y 1).val < 2 := (y 1).isLt; have : (y 2).val < 128 := (y 2).isLt; omega⟩

/-- What a point stores of the third result. -/
def gL (y : S512x128.Idx) : EReal := lB i x0 x1 x2 x3 x4 x5 x6 x7 x8 x9 x10 x11 x12 ⟨(y 0).val, (y 0).isLt⟩ ⟨(y 1).val, (y 1).isLt⟩

theorem pieceX (b : ℕ) (hb : b + 256 ≤ 512) (inb) (X : FVec Ideal S256x2048 .f32) (hX : ∀ r d, X (ix2 r d) = xB i x0 x1 x2 x3 x4 x5 x6 x7 ⟨b + r.val, by omega⟩ d) (x : S256x2048.Idx) :
    X x = gX i x0 x1 x2 x3 x4 x5 x6 x7 ((Rect.unit (s := S512x2048) ![b, 0] S256x2048.size inb).emb x) := by
  obtain ⟨r, d, rfl⟩ : ∃ (r : Fin 256) (d : Fin 2048), x = ix2 r d := ⟨x 0, x 1, by
    funext a
    match a with
    | ⟨0, _⟩ => rfl
    | ⟨1, _⟩ => rfl⟩
  refine (hX r d).trans ?_
  unfold gX
  exact congr (congrArg _ (Fin.ext (show b + r.val = b + 1 * r.val by omega))) (Fin.ext (show d.val = 0 + 1 * d.val by omega))

theorem pieceL (b : ℕ) (hb : b + 256 ≤ 512) (inb) (X : FVec Ideal S256x128 .f32) (hX : ∀ r d, X (ix2 r d) = lB i x0 x1 x2 x3 x4 x5 x6 x7 x8 x9 x10 x11 x12 ⟨b + r.val, by omega⟩ d) (x : S256x128.Idx) :
    X x = gL i x0 x1 x2 x3 x4 x5 x6 x7 x8 x9 x10 x11 x12 ((Rect.unit (s := S512x128) ![b, 0] S256x128.size inb).emb x) := by
  obtain ⟨r, d, rfl⟩ : ∃ (r : Fin 256) (d : Fin 128), x = ix2 r d := ⟨x 0, x 1, by
    funext a
    match a with
    | ⟨0, _⟩ => rfl
    | ⟨1, _⟩ => rfl⟩
  refine (hX r d).trans ?_
  unfold gL
  exact congr (congrArg _ (Fin.ext (show b + r.val = b + 1 * r.val by omega))) (Fin.ext (show d.val = 0 + 1 * d.val by omega))

theorem pieceH (u s o : ℕ) (hu : u + 256 ≤ 512) (hs : s < 8) (ho : o = 8 * u + s) (lo hi : FVec Ideal S256x128 .bf16)
    (hlo : ∀ (r : Fin 256) (l : Fin 128), lo (ix2 r l) = hB i x0 x1 x2 x3 x4 x5 x6 x7 x8 x9 x10 ⟨u + r.val, by omega⟩ ⟨0 + (s * 128 + l.val), by omega⟩)
    (hhi : ∀ (r : Fin 256) (l : Fin 128), hi (ix2 r l) = hB i x0 x1 x2 x3 x4 x5 x6 x7 x8 x9 x10 ⟨u + r.val, by omega⟩ ⟨1024 + (s * 128 + l.val), by omega⟩)
    (h) (x : S256x2x128.Idx) :
    interleaveRows S256x2x128 (shapeCast S256x1x128 lo shapeCasts_S256x128_S256x1x128) (shapeCast S256x1x128 hi shapeCasts_S256x128_S256x1x128) bitcasts_S256x2x128_w16_S256x1x128_w32 x
      = gH i x0 x1 x2 x3 x4 x5 x6 x7 x8 x9 x10 ((⟨(⟨![o, 0, 0], S256x2x128.size, ![8, 1, 1], h⟩ : LoadRect S4096x2x128), spos_8_1_1⟩ : Rect S4096x2x128).emb x) := by
  obtain ⟨r, p, l, rfl⟩ : ∃ (r : Fin 256) (p : Fin 2) (l : Fin 128), x = ix3 r p l := ⟨x 0, x 1, x 2, by
    funext a
    match a with
    | ⟨0, _⟩ => rfl
    | ⟨1, _⟩ => rfl
    | ⟨2, _⟩ => rfl⟩
  have hp := p.isLt
  have hl := l.isLt
  rw [pair_apply, hlo, hhi]
  unfold gH
  by_cases h0 : p.val = 0
  · rw [if_pos h0]
    refine congr (congrArg _ (Fin.ext ?_)) (Fin.ext ?_)
    · show u + r.val = (o + 8 * r.val) / 8
      omega
    · show 0 + (s * 128 + l.val) = (0 + 1 * p.val) * 1024 + (o + 8 * r.val) % 8 * 128 + (0 + 1 * l.val)
      omega
  · rw [if_neg h0]
    refine congr (congrArg _ (Fin.ext ?_)) (Fin.ext ?_)
    · show u + r.val = (o + 8 * r.val) / 8
      omega
    · show 1024 + (s * 128 + l.val) = (0 + 1 * p.val) * 1024 + (o + 8 * r.val) % 8 * 128 + (0 + 1 * l.val)
      omega

/-- 128 columns of one half's features, from its normalised rows. -/
theorem cols (u s o q : ℕ) (hu : u + 256 ≤ 512) (hs : s < 8) (ho : o = s * 128) (hq : q + 1024 ≤ 2048) (H : FVec Ideal S256x2048 .f32) (hH : ∀ r d, H (ix2 r d) = hB i x0 x1 x2 x3 x4 x5 x6 x7 x8 x9 x10 ⟨u + r.val, by omega⟩ d) (h h' hb) (r : Fin 256) (l : Fin 128) :
    (extractStridedSlice S256x128 ![0, o] (truncf .bf16 (extractStridedSlice S256x1024 ![0, q] H h) hb : FVec Ideal S256x1024 .bf16) h' : FVec Ideal S256x128 .bf16) (ix2 r l) = hB i x0 x1 x2 x3 x4 x5 x6 x7 x8 x9 x10 ⟨u + r.val, by omega⟩ ⟨q + (s * 128 + l.val), by omega⟩ := by
  subst ho
  exact (slice2_apply q (s * 128) hq (by omega) H h h' hb r l).trans (hH r _)

/-- A point's block of the first result. -/
theorem out13_apply (y : S512x2048.Idx) : out13 i x0 x1 x2 x3 x4 x5 x6 x7 x8 x9 x10 x11 x12 y = gX i x0 x1 x2 x3 x4 x5 x6 x7 y := by
  unfold out13
  refine View.canon_apply_of_pieces (Val := Elt Ideal) (gX i x0 x1 x2 x3 x4 x5 x6 x7) _ ?_ y (cover13 _ _ y)
  simp only [List.forall_mem_cons]
  refine ⟨fun x => ?_, fun x => ?_, fun p hp => absurd hp List.not_mem_nil⟩
  · exact pieceX i x0 x1 x2 x3 x4 x5 x6 x7 256 (by omega) _ (b_v103 i x0 x1 x2 x3 x4 x5 x6 x7 x8 x9 x10 x11 x12) (v103_apply i x0 x1 x2 x3 x4 x5 x6 x7 x8 x9 x10 x11 x12) x
  · exact pieceX i x0 x1 x2 x3 x4 x5 x6 x7 0 (by omega) _ (b_v22 i x0 x1 x2 x3 x4 x5 x6 x7 x8 x9 x10 x11 x12) (v22_apply i x0 x1 x2 x3 x4 x5 x6 x7 x8 x9 x10 x11 x12) x

/-- A point's block of the third result. -/
theorem out15_apply (y : S512x128.Idx) : out15 i x0 x1 x2 x3 x4 x5 x6 x7 x8 x9 x10 x11 x12 y = gL i x0 x1 x2 x3 x4 x5 x6 x7 x8 x9 x10 x11 x12 y := by
  unfold out15
  refine View.canon_apply_of_pieces (Val := Elt Ideal) (gL i x0 x1 x2 x3 x4 x5 x6 x7 x8 x9 x10 x11 x12) _ ?_ y (cover15 _ _ y)
  simp only [List.forall_mem_cons]
  refine ⟨fun x => ?_, fun x => ?_, fun p hp => absurd hp List.not_mem_nil⟩
  · exact pieceL i x0 x1 x2 x3 x4 x5 x6 x7 x8 x9 x10 x11 x12 256 (by omega) _ (k0_pay17 (b_v127 i x0 x1 x2 x3 x4 x5 x6 x7 x8 x9 x10 x11 x12) (View.ld x11 q8) (View.ld x12 q9)) (lhalf i x0 x1 x2 x3 x4 x5 x6 x7 x8 x9 x10 x11 x12 256 (by omega) _ (v127_apply i x0 x1 x2 x3 x4 x5 x6 x7 x8 x9 x10 x11 x12)) x
  · exact pieceL i x0 x1 x2 x3 x4 x5 x6 x7 x8 x9 x10 x11 x12 0 (by omega) _ (k0_pay17 (b_v46 i x0 x1 x2 x3 x4 x5 x6 x7 x8 x9 x10 x11 x12) (View.ld x11 q8) (View.ld x12 q9)) (lhalf i x0 x1 x2 x3 x4 x5 x6 x7 x8 x9 x10 x11 x12 0 (by omega) _ (v46_apply i x0 x1 x2 x3 x4 x5 x6 x7 x8 x9 x10 x11 x12)) x

/-- The row pair of a flat row. -/
theorem sq_apply (y : S8192x128.Idx) : sq y = (ix3 ⟨(y 0).val / 2, by have : (y 0).val < 8192 := (y 0).isLt; omega⟩ ⟨(y 0).val % 2, by omega⟩ ⟨(y 1).val, (y 1).isLt⟩ : S4096x2x128.Idx) := by
  unfold sq
  refine (Equiv.symm_apply_eq _).mpr (Shape.reshapeEquiv_eq_of_vals _ _ _ _ _ (Shape.rowMajor_val_two _) (Shape.rowMajor_val_three _) ?_).symm
  show (y 0).val * 128 + (y 1).val = ((y 0).val / 2 * 2 + (y 0).val % 2) * 128 + (y 1).val
  omega

end Point

end Cert.OutprojIdeal.Hand

end
-- ==== Proof.OutprojIdealPack.lean ====
module

public import proofs.«01_k».proof.Proof.OutprojIdealPoint
public import proofs.«01_k».proof.Proof.OutprojSpec
public import proofs.«01_k».proof.Proof.InprojRefValue
public import Idealize.ShloMosaic.Lib.Pipeline.Value
public import Idealize.ShloMosaic.Lib.Pointwise
public import Idealize.ShloMosaic.Lib.MatmulPlain
public import Idealize.ShloMosaic.Lib.IdealHost

@[expose] public section

set_option maxRecDepth 16384
set_option Elab.async false

noncomputable section

namespace Cert.OutprojIdeal.Hand

open Cert.OutprojIdeal Cert.OutprojIdeal.Gen
open Idealize.ShloMosaic
open Idealize.ShloMosaic.TcCoe
open Cert.Spec
open Idealize.SL Idealize.SL.Sem
open Cert.InprojRefIdeal.Hand (ixe)

/-! ## The packed rows a point stores -/

section Pack
variable (i : grid0.Coords) (x0 x1 : Vec Ideal S512x2048 .f32) (x2 : Vec Ideal S512x512 .bf16) (x3 : Vec Ideal S512x1024 .bf16) (x4 x5 : Vec Ideal S512x512 .bf16) (x6 : Vec Ideal S2048x2048 .bf16) (x7 : Vec Ideal S1x1x1x2048 .f32) (x8 : Vec Ideal S1x2048 .f32) (x9 x10 : Vec Ideal S1x1x1x2048 .f32) (x11 : Vec Ideal S2048x128 .bf16) (x12 : Vec Ideal S1x128 .f32)

theorem pack2055 (h) (x : S256x2x128.Idx) :
    k0_pay31 (b_v130_lo i x0 x1 x2 x3 x4 x5 x6 x7 x8 x9 x10 x11 x12) (b_v130_hi i x0 x1 x2 x3 x4 x5 x6 x7 x8 x9 x10 x11 x12) x = gH i x0 x1 x2 x3 x4 x5 x6 x7 x8 x9 x10 ((⟨(⟨![2055, 0, 0], S256x2x128.size, ![8, 1, 1], h⟩ : LoadRect S4096x2x128), spos_8_1_1⟩ : Rect S4096x2x128).emb x) := by
  have e := pieceH i x0 x1 x2 x3 x4 x5 x6 x7 x8 x9 x10 256 7 2055 (by omega) (by omega) rfl _ _ (cols i x0 x1 x2 x3 x4 x5 x6 x7 x8 x9 x10 256 7 896 0 (by omega) (by omega) rfl (by omega) (b_v127 i x0 x1 x2 x3 x4 x5 x6 x7 x8 x9 x10 x11 x12) (v127_apply i x0 x1 x2 x3 x4 x5 x6 x7 x8 x9 x10 x11 x12) slices_S256x2048_o0_0_S256x1024 slices_S256x1024_o0_896_S256x128 bitsLt_bf16_f32) (cols i x0 x1 x2 x3 x4 x5 x6 x7 x8 x9 x10 256 7 896 1024 (by omega) (by omega) rfl (by omega) (b_v127 i x0 x1 x2 x3 x4 x5 x6 x7 x8 x9 x10 x11 x12) (v127_apply i x0 x1 x2 x3 x4 x5 x6 x7 x8 x9 x10 x11 x12) slices_S256x2048_o0_1024_S256x1024 slices_S256x1024_o0_896_S256x128 bitsLt_bf16_f32) h x
  unfold b_v127 at e
  unfold k0_pay31 b_v130_lo b_v130_hi k0_pay20 k0_pay21
  exact e

theorem pack2054 (h) (x : S256x2x128.Idx) :
    k0_pay30 (b_v130_lo i x0 x1 x2 x3 x4 x5 x6 x7 x8 x9 x10 x11 x12) (b_v130_hi i x0 x1 x2 x3 x4 x5 x6 x7 x8 x9 x10 x11 x12) x = gH i x0 x1 x2 x3 x4 x5 x6 x7 x8 x9 x10 ((⟨(⟨![2054, 0, 0], S256x2x128.size, ![8, 1, 1], h⟩ : LoadRect S4096x2x128), spos_8_1_1⟩ : Rect S4096x2x128).emb x) := by
  have e := pieceH i x0 x1 x2 x3 x4 x5 x6 x7 x8 x9 x10 256 6 2054 (by omega) (by omega) rfl _ _ (cols i x0 x1 x2 x3 x4 x5 x6 x7 x8 x9 x10 256 6 768 0 (by omega) (by omega) rfl (by omega) (b_v127 i x0 x1 x2 x3 x4 x5 x6 x7 x8 x9 x10 x11 x12) (v127_apply i x0 x1 x2 x3 x4 x5 x6 x7 x8 x9 x10 x11 x12) slices_S256x2048_o0_0_S256x1024 slices_S256x1024_o0_768_S256x128 bitsLt_bf16_f32) (cols i x0 x1 x2 x3 x4 x5 x6 x7 x8 x9 x10 256 6 768 1024 (by omega) (by omega) rfl (by omega) (b_v127 i x0 x1 x2 x3 x4 x5 x6 x7 x8 x9 x10 x11 x12) (v127_apply i x0 x1 x2 x3 x4 x5 x6 x7 x8 x9 x10 x11 x12) slices_S256x2048_o0_1024_S256x1024 slices_S256x1024_o0_768_S256x128 bitsLt_bf16_f32) h x
  unfold b_v127 at e
  unfold k0_pay30 b_v130_lo b_v130_hi k0_pay20 k0_pay21
  exact e

theorem pack2053 (h) (x : S256x2x128.Idx) :
    k0_pay29 (b_v130_lo i x0 x1 x2 x3 x4 x5 x6 x7 x8 x9 x10 x11 x12) (b_v130_hi i x0 x1 x2 x3 x4 x5 x6 x7 x8 x9 x10 x11 x12) x = gH i x0 x1 x2 x3 x4 x5 x6 x7 x8 x9 x10 ((⟨(⟨![2053, 0, 0], S256x2x128.size, ![8, 1, 1], h⟩ : LoadRect S4096x2x128), spos_8_1_1⟩ : Rect S4096x2x128).emb x) := by
  have e := pieceH i x0 x1 x2 x3 x4 x5 x6 x7 x8 x9 x10 256 5 2053 (by omega) (by omega) rfl _ _ (cols i x0 x1 x2 x3 x4 x5 x6 x7 x8 x9 x10 256 5 640 0 (by omega) (by omega) rfl (by omega) (b_v127 i x0 x1 x2 x3 x4 x5 x6 x7 x8 x9 x10 x11 x12) (v127_apply i x0 x1 x2 x3 x4 x5 x6 x7 x8 x9 x10 x11 x12) slices_S256x2048_o0_0_S256x1024 slices_S256x1024_o0_640_S256x128 bitsLt_bf16_f32) (cols i x0 x1 x2 x3 x4 x5 x6 x7 x8 x9 x10 256 5 640 1024 (by omega) (by omega) rfl (by omega) (b_v127 i x0 x1 x2 x3 x4 x5 x6 x7 x8 x9 x10 x11 x12) (v127_apply i x0 x1 x2 x3 x4 x5 x6 x7 x8 x9 x10 x11 x12) slices_S256x2048_o0_1024_S256x1024 slices_S256x1024_o0_640_S256x128 bitsLt_bf16_f32) h x
  unfold b_v127 at e
  unfold k0_pay29 b_v130_lo b_v130_hi k0_pay20 k0_pay21
  exact e

theorem pack2052 (h) (x : S256x2x128.Idx) :
    k0_pay28 (b_v130_lo i x0 x1 x2 x3 x4 x5 x6 x7 x8 x9 x10 x11 x12) (b_v130_hi i x0 x1 x2 x3 x4 x5 x6 x7 x8 x9 x10 x11 x12) x = gH i x0 x1 x2 x3 x4 x5 x6 x7 x8 x9 x10 ((⟨(⟨![2052, 0, 0], S256x2x128.size, ![8, 1, 1], h⟩ : LoadRect S4096x2x128), spos_8_1_1⟩ : Rect S4096x2x128).emb x) := by
  have e := pieceH i x0 x1 x2 x3 x4 x5 x6 x7 x8 x9 x10 256 4 2052 (by omega) (by omega) rfl _ _ (cols i x0 x1 x2 x3 x4 x5 x6 x7 x8 x9 x10 256 4 512 0 (by omega) (by omega) rfl (by omega) (b_v127 i x0 x1 x2 x3 x4 x5 x6 x7 x8 x9 x10 x11 x12) (v127_apply i x0 x1 x2 x3 x4 x5 x6 x7 x8 x9 x10 x11 x12) slices_S256x2048_o0_0_S256x1024 slices_S256x1024_o0_512_S256x128 bitsLt_bf16_f32) (cols i x0 x1 x2 x3 x4 x5 x6 x7 x8 x9 x10 256 4 512 1024 (by omega) (by omega) rfl (by omega) (b_v127 i x0 x1 x2 x3 x4 x5 x6 x7 x8 x9 x10 x11 x12) (v127_apply i x0 x1 x2 x3 x4 x5 x6 x7 x8 x9 x10 x11 x12) slices_S256x2048_o0_1024_S256x1024 slices_S256x1024_o0_512_S256x128 bitsLt_bf16_f32) h x
  unfold b_v127 at e
  unfold k0_pay28 b_v130_lo b_v130_hi k0_pay20 k0_pay21
  exact e

theorem pack2051 (h) (x : S256x2x128.Idx) :
    k0_pay27 (b_v130_lo i x0 x1 x2 x3 x4 x5 x6 x7 x8 x9 x10 x11 x12) (b_v130_hi i x0 x1 x2 x3 x4 x5 x6 x7 x8 x9 x10 x11 x12) x = gH i x0 x1 x2 x3 x4 x5 x6 x7 x8 x9 x10 ((⟨(⟨![2051, 0, 0], S256x2x128.size, ![8, 1, 1], h⟩ : LoadRect S4096x2x128), spos_8_1_1⟩ : Rect S4096x2x128).emb x) := by
  have e := pieceH i x0 x1 x2 x3 x4 x5 x6 x7 x8 x9 x10 256 3 2051 (by omega) (by omega) rfl _ _ (cols i x0 x1 x2 x3 x4 x5 x6 x7 x8 x9 x10 256 3 384 0 (by omega) (by omega) rfl (by omega) (b_v127 i x0 x1 x2 x3 x4 x5 x6 x7 x8 x9 x10 x11 x12) (v127_apply i x0 x1 x2 x3 x4 x5 x6 x7 x8 x9 x10 x11 x12) slices_S256x2048_o0_0_S256x1024 slices_S256x1024_o0_384_S256x128 bitsLt_bf16_f32) (cols i x0 x1 x2 x3 x4 x5 x6 x7 x8 x9 x10 256 3 384 1024 (by omega) (by omega) rfl (by omega) (b_v127 i x0 x1 x2 x3 x4 x5 x6 x7 x8 x9 x10 x11 x12) (v127_apply i x0 x1 x2 x3 x4 x5 x6 x7 x8 x9 x10 x11 x12) slices_S256x2048_o0_1024_S256x1024 slices_S256x1024_o0_384_S256x128 bitsLt_bf16_f32) h x
  unfold b_v127 at e
  unfold k0_pay27 b_v130_lo b_v130_hi k0_pay20 k0_pay21
  exact e

theorem pack2050 (h) (x : S256x2x128.Idx) :
    k0_pay26 (b_v137_lo i x0 x1 x2 x3 x4 x5 x6 x7 x8 x9 x10 x11 x12) (b_v137_hi i x0 x1 x2 x3 x4 x5 x6 x7 x8 x9 x10 x11 x12) x = gH i x0 x1 x2 x3 x4 x5 x6 x7 x8 x9 x10 ((⟨(⟨![2050, 0, 0], S256x2x128.size, ![8, 1, 1], h⟩ : LoadRect S4096x2x128), spos_8_1_1⟩ : Rect S4096x2x128).emb x) := by
  have e := pieceH i x0 x1 x2 x3 x4 x5 x6 x7 x8 x9 x10 256 2 2050 (by omega) (by omega) rfl _ _ (cols i x0 x1 x2 x3 x4 x5 x6 x7 x8 x9 x10 256 2 256 0 (by omega) (by omega) rfl (by omega) (b_v127 i x0 x1 x2 x3 x4 x5 x6 x7 x8 x9 x10 x11 x12) (v127_apply i x0 x1 x2 x3 x4 x5 x6 x7 x8 x9 x10 x11 x12) slices_S256x2048_o0_0_S256x1024 slices_S256x1024_o0_256_S256x128 bitsLt_bf16_f32) (cols i x0 x1 x2 x3 x4 x5 x6 x7 x8 x9 x10 256 2 256 1024 (by omega) (by omega) rfl (by omega) (b_v127 i x0 x1 x2 x3 x4 x5 x6 x7 x8 x9 x10 x11 x12) (v127_apply i x0 x1 x2 x3 x4 x5 x6 x7 x8 x9 x10 x11 x12) slices_S256x2048_o0_1024_S256x1024 slices_S256x1024_o0_256_S256x128 bitsLt_bf16_f32) h x
  unfold b_v127 at e
  unfold k0_pay26 b_v137_lo b_v137_hi k0_pay24 k0_pay25 k0_pay20 k0_pay21
  exact e

theorem pack2049 (h) (x : S256x2x128.Idx) :
    k0_pay23 (b_v103 i x0 x1 x2 x3 x4 x5 x6 x7 x8 x9 x10 x11 x12) (View.ld x8 q7) (View.ld x9 q6) (View.ld x10 q6) x = gH i x0 x1 x2 x3 x4 x5 x6 x7 x8 x9 x10 ((⟨(⟨![2049, 0, 0], S256x2x128.size, ![8, 1, 1], h⟩ : LoadRect S4096x2x128), spos_8_1_1⟩ : Rect S4096x2x128).emb x) := by
  have e := pieceH i x0 x1 x2 x3 x4 x5 x6 x7 x8 x9 x10 256 1 2049 (by omega) (by omega) rfl _ _ (cols i x0 x1 x2 x3 x4 x5 x6 x7 x8 x9 x10 256 1 128 0 (by omega) (by omega) rfl (by omega) (b_v127 i x0 x1 x2 x3 x4 x5 x6 x7 x8 x9 x10 x11 x12) (v127_apply i x0 x1 x2 x3 x4 x5 x6 x7 x8 x9 x10 x11 x12) slices_S256x2048_o0_0_S256x1024 slices_S256x1024_o0_128_S256x128 bitsLt_bf16_f32) (cols i x0 x1 x2 x3 x4 x5 x6 x7 x8 x9 x10 256 1 128 1024 (by omega) (by omega) rfl (by omega) (b_v127 i x0 x1 x2 x3 x4 x5 x6 x7 x8 x9 x10 x11 x12) (v127_apply i x0 x1 x2 x3 x4 x5 x6 x7 x8 x9 x10 x11 x12) slices_S256x2048_o0_1024_S256x1024 slices_S256x1024_o0_128_S256x128 bitsLt_bf16_f32) h x
  unfold b_v127 at e
  unfold k0_pay23 k0_pay20 k0_pay21
  exact e

theorem pack2048 (h) (x : S256x2x128.Idx) :
    k0_pay22 (b_v103 i x0 x1 x2 x3 x4 x5 x6 x7 x8 x9 x10 x11 x12) (View.ld x8 q7) (View.ld x9 q6) (View.ld x10 q6) x = gH i x0 x1 x2 x3 x4 x5 x6 x7 x8 x9 x10 ((⟨(⟨![2048, 0, 0], S256x2x128.size, ![8, 1, 1], h⟩ : LoadRect S4096x2x128), spos_8_1_1⟩ : Rect S4096x2x128).emb x) := by
  have e := pieceH i x0 x1 x2 x3 x4 x5 x6 x7 x8 x9 x10 256 0 2048 (by omega) (by omega) rfl _ _ (cols i x0 x1 x2 x3 x4 x5 x6 x7 x8 x9 x10 256 0 0 0 (by omega) (by omega) rfl (by omega) (b_v127 i x0 x1 x2 x3 x4 x5 x6 x7 x8 x9 x10 x11 x12) (v127_apply i x0 x1 x2 x3 x4 x5 x6 x7 x8 x9 x10 x11 x12) slices_S256x2048_o0_0_S256x1024 slices_S256x1024_o0_0_S256x128 bitsLt_bf16_f32) (cols i x0 x1 x2 x3 x4 x5 x6 x7 x8 x9 x10 256 0 0 1024 (by omega) (by omega) rfl (by omega) (b_v127 i x0 x1 x2 x3 x4 x5 x6 x7 x8 x9 x10 x11 x12) (v127_apply i x0 x1 x2 x3 x4 x5 x6 x7 x8 x9 x10 x11 x12) slices_S256x2048_o0_1024_S256x1024 slices_S256x1024_o0_0_S256x128 bitsLt_bf16_f32) h x
  unfold b_v127 at e
  unfold k0_pay22 k0_pay20 k0_pay21
  exact e

theorem pack7 (h) (x : S256x2x128.Idx) :
    k0_pay16 (b_v49_lo i x0 x1 x2 x3 x4 x5 x6 x7 x8 x9 x10 x11 x12) (b_v49_hi i x0 x1 x2 x3 x4 x5 x6 x7 x8 x9 x10 x11 x12) x = gH i x0 x1 x2 x3 x4 x5 x6 x7 x8 x9 x10 ((⟨(⟨![7, 0, 0], S256x2x128.size, ![8, 1, 1], h⟩ : LoadRect S4096x2x128), spos_8_1_1⟩ : Rect S4096x2x128).emb x) := by
  have e := pieceH i x0 x1 x2 x3 x4 x5 x6 x7 x8 x9 x10 0 7 7 (by omega) (by omega) rfl _ _ (cols i x0 x1 x2 x3 x4 x5 x6 x7 x8 x9 x10 0 7 896 0 (by omega) (by omega) rfl (by omega) (b_v46 i x0 x1 x2 x3 x4 x5 x6 x7 x8 x9 x10 x11 x12) (v46_apply i x0 x1 x2 x3 x4 x5 x6 x7 x8 x9 x10 x11 x12) slices_S256x2048_o0_0_S256x1024 slices_S256x1024_o0_896_S256x128 bitsLt_bf16_f32) (cols i x0 x1 x2 x3 x4 x5 x6 x7 x8 x9 x10 0 7 896 1024 (by omega) (by omega) rfl (by omega) (b_v46 i x0 x1 x2 x3 x4 x5 x6 x7 x8 x9 x10 x11 x12) (v46_apply i x0 x1 x2 x3 x4 x5 x6 x7 x8 x9 x10 x11 x12) slices_S256x2048_o0_1024_S256x1024 slices_S256x1024_o0_896_S256x128 bitsLt_bf16_f32) h x
  unfold b_v46 at e
  unfold k0_pay16 b_v49_lo b_v49_hi k0_pay5 k0_pay6
  exact e

theorem pack6 (h) (x : S256x2x128.Idx) :
    k0_pay15 (b_v49_lo i x0 x1 x2 x3 x4 x5 x6 x7 x8 x9 x10 x11 x12) (b_v49_hi i x0 x1 x2 x3 x4 x5 x6 x7 x8 x9 x10 x11 x12) x = gH i x0 x1 x2 x3 x4 x5 x6 x7 x8 x9 x10 ((⟨(⟨![6, 0, 0], S256x2x128.size, ![8, 1, 1], h⟩ : LoadRect S4096x2x128), spos_8_1_1⟩ : Rect S4096x2x128).emb x) := by
  have e := pieceH i x0 x1 x2 x3 x4 x5 x6 x7 x8 x9 x10 0 6 6 (by omega) (by omega) rfl _ _ (cols i x0 x1 x2 x3 x4 x5 x6 x7 x8 x9 x10 0 6 768 0 (by omega) (by omega) rfl (by omega) (b_v46 i x0 x1 x2 x3 x4 x5 x6 x7 x8 x9 x10 x11 x12) (v46_apply i x0 x1 x2 x3 x4 x5 x6 x7 x8 x9 x10 x11 x12) slices_S256x2048_o0_0_S256x1024 slices_S256x1024_o0_768_S256x128 bitsLt_bf16_f32) (cols i x0 x1 x2 x3 x4 x5 x6 x7 x8 x9 x10 0 6 768 1024 (by omega) (by omega) rfl (by omega) (b_v46 i x0 x1 x2 x3 x4 x5 x6 x7 x8 x9 x10 x11 x12) (v46_apply i x0 x1 x2 x3 x4 x5 x6 x7 x8 x9 x10 x11 x12) slices_S256x2048_o0_1024_S256x1024 slices_S256x1024_o0_768_S256x128 bitsLt_bf16_f32) h x
  unfold b_v46 at e
  unfold k0_pay15 b_v49_lo b_v49_hi k0_pay5 k0_pay6
  exact e

theorem pack5 (h) (x : S256x2x128.Idx) :
    k0_pay14 (b_v49_lo i x0 x1 x2 x3 x4 x5 x6 x7 x8 x9 x10 x11 x12) (b_v49_hi i x0 x1 x2 x3 x4 x5 x6 x7 x8 x9 x10 x11 x12) x = gH i x0 x1 x2 x3 x4 x5 x6 x7 x8 x9 x10 ((⟨(⟨![5, 0, 0], S256x2x128.size, ![8, 1, 1], h⟩ : LoadRect S4096x2x128), spos_8_1_1⟩ : Rect S4096x2x128).emb x) := by
  have e := pieceH i x0 x1 x2 x3 x4 x5 x6 x7 x8 x9 x10 0 5 5 (by omega) (by omega) rfl _ _ (cols i x0 x1 x2 x3 x4 x5 x6 x7 x8 x9 x10 0 5 640 0 (by omega) (by omega) rfl (by omega) (b_v46 i x0 x1 x2 x3 x4 x5 x6 x7 x8 x9 x10 x11 x12) (v46_apply i x0 x1 x2 x3 x4 x5 x6 x7 x8 x9 x10 x11 x12) slices_S256x2048_o0_0_S256x1024 slices_S256x1024_o0_640_S256x128 bitsLt_bf16_f32) (cols i x0 x1 x2 x3 x4 x5 x6 x7 x8 x9 x10 0 5 640 1024 (by omega) (by omega) rfl (by omega) (b_v46 i x0 x1 x2 x3 x4 x5 x6 x7 x8 x9 x10 x11 x12) (v46_apply i x0 x1 x2 x3 x4 x5 x6 x7 x8 x9 x10 x11 x12) slices_S256x2048_o0_1024_S256x1024 slices_S256x1024_o0_640_S256x128 bitsLt_bf16_f32) h x
  unfold b_v46 at e
  unfold k0_pay14 b_v49_lo b_v49_hi k0_pay5 k0_pay6
  exact e

theorem pack4 (h) (x : S256x2x128.Idx) :
    k0_pay13 (b_v49_lo i x0 x1 x2 x3 x4 x5 x6 x7 x8 x9 x10 x11 x12) (b_v49_hi i x0 x1 x2 x3 x4 x5 x6 x7 x8 x9 x10 x11 x12) x = gH i x0 x1 x2 x3 x4 x5 x6 x7 x8 x9 x10 ((⟨(⟨![4, 0, 0], S256x2x128.size, ![8, 1, 1], h⟩ : LoadRect S4096x2x128), spos_8_1_1⟩ : Rect S4096x2x128).emb x) := by
  have e := pieceH i x0 x1 x2 x3 x4 x5 x6 x7 x8 x9 x10 0 4 4 (by omega) (by omega) rfl _ _ (cols i x0 x1 x2 x3 x4 x5 x6 x7 x8 x9 x10 0 4 512 0 (by omega) (by omega) rfl (by omega) (b_v46 i x0 x1 x2 x3 x4 x5 x6 x7 x8 x9 x10 x11 x12) (v46_apply i x0 x1 x2 x3 x4 x5 x6 x7 x8 x9 x10 x11 x12) slices_S256x2048_o0_0_S256x1024 slices_S256x1024_o0_512_S256x128 bitsLt_bf16_f32) (cols i x0 x1 x2 x3 x4 x5 x6 x7 x8 x9 x10 0 4 512 1024 (by omega) (by omega) rfl (by omega) (b_v46 i x0 x1 x2 x3 x4 x5 x6 x7 x8 x9 x10 x11 x12) (v46_apply i x0 x1 x2 x3 x4 x5 x6 x7 x8 x9 x10 x11 x12) slices_S256x2048_o0_1024_S256x1024 slices_S256x1024_o0_512_S256x128 bitsLt_bf16_f32) h x
  unfold b_v46 at e
  unfold k0_pay13 b_v49_lo b_v49_hi k0_pay5 k0_pay6
  exact e

theorem pack3 (h) (x : S256x2x128.Idx) :
    k0_pay12 (b_v49_lo i x0 x1 x2 x3 x4 x5 x6 x7 x8 x9 x10 x11 x12) (b_v49_hi i x0 x1 x2 x3 x4 x5 x6 x7 x8 x9 x10 x11 x12) x = gH i x0 x1 x2 x3 x4 x5 x6 x7 x8 x9 x10 ((⟨(⟨![3, 0, 0], S256x2x128.size, ![8, 1, 1], h⟩ : LoadRect S4096x2x128), spos_8_1_1⟩ : Rect S4096x2x128).emb x) := by
  have e := pieceH i x0 x1 x2 x3 x4 x5 x6 x7 x8 x9 x10 0 3 3 (by omega) (by omega) rfl _ _ (cols i x0 x1 x2 x3 x4 x5 x6 x7 x8 x9 x10 0 3 384 0 (by omega) (by omega) rfl (by omega) (b_v46 i x0 x1 x2 x3 x4 x5 x6 x7 x8 x9 x10 x11 x12) (v46_apply i x0 x1 x2 x3 x4 x5 x6 x7 x8 x9 x10 x11 x12) slices_S256x2048_o0_0_S256x1024 slices_S256x1024_o0_384_S256x128 bitsLt_bf16_f32) (cols i x0 x1 x2 x3 x4 x5 x6 x7 x8 x9 x10 0 3 384 1024 (by omega) (by omega) rfl (by omega) (b_v46 i x0 x1 x2 x3 x4 x5 x6 x7 x8 x9 x10 x11 x12) (v46_apply i x0 x1 x2 x3 x4 x5 x6 x7 x8 x9 x10 x11 x12) slices_S256x2048_o0_1024_S256x1024 slices_S256x1024_o0_384_S256x128 bitsLt_bf16_f32) h x
  unfold b_v46 at e
  unfold k0_pay12 b_v49_lo b_v49_hi k0_pay5 k0_pay6
  exact e

theorem pack2 (h) (x : S256x2x128.Idx) :
    k0_pay11 (b_v56_lo i x0 x1 x2 x3 x4 x5 x6 x7 x8 x9 x10 x11 x12) (b_v56_hi i x0 x1 x2 x3 x4 x5 x6 x7 x8 x9 x10 x11 x12) x = gH i x0 x1 x2 x3 x4 x5 x6 x7 x8 x9 x10 ((⟨(⟨![2, 0, 0], S256x2x128.size, ![8, 1, 1], h⟩ : LoadRect S4096x2x128), spos_8_1_1⟩ : Rect S4096x2x128).emb x) := by
  have e := pieceH i x0 x1 x2 x3 x4 x5 x6 x7 x8 x9 x10 0 2 2 (by omega) (by omega) rfl _ _ (cols i x0 x1 x2 x3 x4 x5 x6 x7 x8 x9 x10 0 2 256 0 (by omega) (by omega) rfl (by omega) (b_v46 i x0 x1 x2 x3 x4 x5 x6 x7 x8 x9 x10 x11 x12) (v46_apply i x0 x1 x2 x3 x4 x5 x6 x7 x8 x9 x10 x11 x12) slices_S256x2048_o0_0_S256x1024 slices_S256x1024_o0_256_S256x128 bitsLt_bf16_f32) (cols i x0 x1 x2 x3 x4 x5 x6 x7 x8 x9 x10 0 2 256 1024 (by omega) (by omega) rfl (by omega) (b_v46 i x0 x1 x2 x3 x4 x5 x6 x7 x8 x9 x10 x11 x12) (v46_apply i x0 x1 x2 x3 x4 x5 x6 x7 x8 x9 x10 x11 x12) slices_S256x2048_o0_1024_S256x1024 slices_S256x1024_o0_256_S256x128 bitsLt_bf16_f32) h x
  unfold b_v46 at e
  unfold k0_pay11 b_v56_lo b_v56_hi k0_pay9 k0_pay10 k0_pay5 k0_pay6
  exact e

theorem pack1 (h) (x : S256x2x128.Idx) :
    k0_pay8 (b_v22 i x0 x1 x2 x3 x4 x5 x6 x7 x8 x9 x10 x11 x12) (View.ld x8 q7) (b_v25 i x0 x1 x2 x3 x4 x5 x6 x7 x8 x9 x10 x11 x12) (View.ld x9 q6) (View.ld x10 q6) x = gH i x0 x1 x2 x3 x4 x5 x6 x7 x8 x9 x10 ((⟨(⟨![1, 0, 0], S256x2x128.size, ![8, 1, 1], h⟩ : LoadRect S4096x2x128), spos_8_1_1⟩ : Rect S4096x2x128).emb x) := by
  have e := pieceH i x0 x1 x2 x3 x4 x5 x6 x7 x8 x9 x10 0 1 1 (by omega) (by omega) rfl _ _ (cols i x0 x1 x2 x3 x4 x5 x6 x7 x8 x9 x10 0 1 128 0 (by omega) (by omega) rfl (by omega) (b_v46 i x0 x1 x2 x3 x4 x5 x6 x7 x8 x9 x10 x11 x12) (v46_apply i x0 x1 x2 x3 x4 x5 x6 x7 x8 x9 x10 x11 x12) slices_S256x2048_o0_0_S256x1024 slices_S256x1024_o0_128_S256x128 bitsLt_bf16_f32) (cols i x0 x1 x2 x3 x4 x5 x6 x7 x8 x9 x10 0 1 128 1024 (by omega) (by omega) rfl (by omega) (b_v46 i x0 x1 x2 x3 x4 x5 x6 x7 x8 x9 x10 x11 x12) (v46_apply i x0 x1 x2 x3 x4 x5 x6 x7 x8 x9 x10 x11 x12) slices_S256x2048_o0_1024_S256x1024 slices_S256x1024_o0_128_S256x128 bitsLt_bf16_f32) h x
  unfold b_v46 at e
  unfold k0_pay8 k0_pay5 k0_pay6
  exact e

theorem pack0 (h) (x : S256x2x128.Idx) :
    k0_pay7 (b_v22 i x0 x1 x2 x3 x4 x5 x6 x7 x8 x9 x10 x11 x12) (View.ld x8 q7) (b_v25 i x0 x1 x2 x3 x4 x5 x6 x7 x8 x9 x10 x11 x12) (View.ld x9 q6) (View.ld x10 q6) x = gH i x0 x1 x2 x3 x4 x5 x6 x7 x8 x9 x10 ((⟨(⟨![0, 0, 0], S256x2x128.size, ![8, 1, 1], h⟩ : LoadRect S4096x2x128), spos_8_1_1⟩ : Rect S4096x2x128).emb x) := by
  have e := pieceH i x0 x1 x2 x3 x4 x5 x6 x7 x8 x9 x10 0 0 0 (by omega) (by omega) rfl _ _ (cols i x0 x1 x2 x3 x4 x5 x6 x7 x8 x9 x10 0 0 0 0 (by omega) (by omega) rfl (by omega) (b_v46 i x0 x1 x2 x3 x4 x5 x6 x7 x8 x9 x10 x11 x12) (v46_apply i x0 x1 x2 x3 x4 x5 x6 x7 x8 x9 x10 x11 x12) slices_S256x2048_o0_0_S256x1024 slices_S256x1024_o0_0_S256x128 bitsLt_bf16_f32) (cols i x0 x1 x2 x3 x4 x5 x6 x7 x8 x9 x10 0 0 0 1024 (by omega) (by omega) rfl (by omega) (b_v46 i x0 x1 x2 x3 x4 x5 x6 x7 x8 x9 x10 x11 x12) (v46_apply i x0 x1 x2 x3 x4 x5 x6 x7 x8 x9 x10 x11 x12) slices_S256x2048_o0_1024_S256x1024 slices_S256x1024_o0_0_S256x128 bitsLt_bf16_f32) h x
  unfold b_v46 at e
  unfold k0_pay7 k0_pay5 k0_pay6
  exact e

/-- A point's block of the second result. -/
theorem out14_apply (y : S8192x128.Idx) : out14 i x0 x1 x2 x3 x4 x5 x6 x7 x8 x9 x10 x11 x12 y = gH i x0 x1 x2 x3 x4 x5 x6 x7 x8 x9 x10 (sq y) := by
  unfold out14
  refine View.canon_apply_of_pieces (Val := Elt Ideal) (gH i x0 x1 x2 x3 x4 x5 x6 x7 x8 x9 x10) _ ?_ (sq y) (hList_cover _ _ _ _ _ _ _ _ _ _ _ _ _ _ _ _ (sq y))
  unfold hList
  simp only [List.forall_mem_cons]
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun p hp => absurd hp List.not_mem_nil⟩
  · exact pack2055 i x0 x1 x2 x3 x4 x5 x6 x7 x8 x9 x10 x11 x12 _ x
  · exact pack2054 i x0 x1 x2 x3 x4 x5 x6 x7 x8 x9 x10 x11 x12 _ x
  · exact pack2053 i x0 x1 x2 x3 x4 x5 x6 x7 x8 x9 x10 x11 x12 _ x
  · exact pack2052 i x0 x1 x2 x3 x4 x5 x6 x7 x8 x9 x10 x11 x12 _ x
  · exact pack2051 i x0 x1 x2 x3 x4 x5 x6 x7 x8 x9 x10 x11 x12 _ x
  · exact pack2050 i x0 x1 x2 x3 x4 x5 x6 x7 x8 x9 x10 x11 x12 _ x
  · exact pack2049 i x0 x1 x2 x3 x4 x5 x6 x7 x8 x9 x10 x11 x12 _ x
  · exact pack2048 i x0 x1 x2 x3 x4 x5 x6 x7 x8 x9 x10 x11 x12 _ x
  · exact pack7 i x0 x1 x2 x3 x4 x5 x6 x7 x8 x9 x10 x11 x12 _ x
  · exact pack6 i x0 x1 x2 x3 x4 x5 x6 x7 x8 x9 x10 x11 x12 _ x
  · exact pack5 i x0 x1 x2 x3 x4 x5 x6 x7 x8 x9 x10 x11 x12 _ x
  · exact pack4 i x0 x1 x2 x3 x4 x5 x6 x7 x8 x9 x10 x11 x12 _ x
  · exact pack3 i x0 x1 x2 x3 x4 x5 x6 x7 x8 x9 x10 x11 x12 _ x
  · exact pack2 i x0 x1 x2 x3 x4 x5 x6 x7 x8 x9 x10 x11 x12 _ x
  · exact pack1 i x0 x1 x2 x3 x4 x5 x6 x7 x8 x9 x10 x11 x12 _ x
  · exact pack0 i x0 x1 x2 x3 x4 x5 x6 x7 x8 x9 x10 x11 x12 _ x

end Pack

end Cert.OutprojIdeal.Hand

end
-- ==== Proof.OutprojRefValue.lean ====
module

public import proofs.«01_k».proof.Proof.Gen.OutprojRefIdeal.Run
public import proofs.«01_k».proof.Proof.OutprojSpec
public import proofs.«01_k».proof.Proof.InprojRefValue
public import Idealize.ShloMosaic.Lib.StackMember
public import Idealize.ShloMosaic.Lib.ValueIdxCore
public import Idealize.ShloMosaic.Lib.IdealHost

@[expose] public section

set_option maxRecDepth 16384
set_option Elab.async false

noncomputable section

namespace Cert.OutprojRefIdeal.Hand

open Cert.OutprojRefIdeal Cert.OutprojRefIdeal.Gen
open Idealize.ShloMosaic
open Cert.Spec
open Idealize.SL Idealize.SL.Sem
open Cert.InprojRefIdeal.Hand (ixe cat_apply modA_apply modB_apply mod_apply row_apply hid_apply)

/-! ## The reference's results, entry by entry -/

/-- Two arrays of 512 columns, one after the other. -/
theorem cat512_apply (x0 : S8192x512.Idx → EReal) (x1 : S32768x512.Idx → EReal) (h) (n : Fin 40960) (d : Fin 512) :
    concatenate S40960x512 0 [⟨S8192x512, x0⟩, ⟨S32768x512, x1⟩] h (ix2 n d) = inRow512 x0 x1 n d := by
  unfold inRow512
  have hn := n.isLt
  by_cases hl : n.val < 8192
  · rw [dif_pos hl]
    refine concatenate_apply_piece (t := S40960x512) 0 _ _ _ 0 (by simp) S8192x512 _ rfl rfl 0 rfl (ix2 ⟨n.val, hl⟩ d) (fun b hb => ?_) (show 0 + n.val = n.val by omega)
    match b with
    | ⟨0, _⟩ => exact absurd rfl hb
    | ⟨1, _⟩ => rfl
  · rw [dif_neg hl]
    refine concatenate_apply_piece (t := S40960x512) 0 _ _ _ 1 (by simp) S32768x512 _ rfl rfl 8192 rfl (ix2 ⟨n.val - 8192, by omega⟩ d) (fun b hb => ?_) (show 8192 + (n.val - 8192) = n.val by omega)
    match b with
    | ⟨0, _⟩ => exact absurd rfl hb
    | ⟨1, _⟩ => rfl

/-- The three groups of features, side by side. -/
theorem mix_apply (A : S40960x512.Idx → EReal) (B : S40960x1024.Idx → EReal) (C : S40960x512.Idx → EReal) (h) (n : Fin 40960) (e : Fin 2048) :
    concatenate S40960x2048 1 [⟨S40960x512, A⟩, ⟨S40960x1024, B⟩, ⟨S40960x512, C⟩] h (ix2 n e) = mix3 (fun k => A (ix2 n k)) (fun k => B (ix2 n k)) (fun k => C (ix2 n k)) e := by
  unfold mix3
  have he := e.isLt
  by_cases h1 : e.val < 512
  · rw [dif_pos h1]
    refine concatenate_apply_piece (t := S40960x2048) 1 _ _ _ 0 (by simp) S40960x512 _ rfl rfl 0 rfl (ix2 n ⟨e.val, h1⟩) (fun b hb => ?_) (show 0 + e.val = e.val by omega)
    match b with
    | ⟨0, _⟩ => rfl
    | ⟨1, _⟩ => exact absurd rfl hb
  · rw [dif_neg h1]
    by_cases h2 : e.val < 1536
    · rw [dif_pos h2]
      refine concatenate_apply_piece (t := S40960x2048) 1 _ _ _ 1 (by simp) S40960x1024 _ rfl rfl 512 rfl (ix2 n ⟨e.val - 512, by omega⟩) (fun b hb => ?_) (show 512 + (e.val - 512) = e.val by omega)
      match b with
      | ⟨0, _⟩ => rfl
      | ⟨1, _⟩ => exact absurd rfl hb
    · rw [dif_neg h2]
      refine concatenate_apply_piece (t := S40960x2048) 1 _ _ _ 2 (by simp) S40960x512 _ rfl rfl 1536 rfl (ix2 n ⟨e.val - 1536, by omega⟩) (fun b hb => ?_) (show 1536 + (e.val - 1536) = e.val by omega)
      match b with
      | ⟨0, _⟩ => rfl
      | ⟨1, _⟩ => exact absurd rfl hb

theorem dotW (A : FVec Ideal S40960x2048 .f32) (B : FVec Ideal S2048x2048 .f32) (a : Fin 40960) (b : Fin 2048) :
    Host.dotGeneral dot_S40960x2048_S2048x2048_S40960x2048_1_0_0_1_n_n none A B (ix2 a b) = ∑ c : Fin 2048, A (ix2 a c) * B (ix2 c b) := by
  have h := StackMember.dotGeneral_plain_apply (φ₁ := .f32) (φ₂ := .f32) (m := 40960) (k := 2048) (n := 2048) none A B a b
  simp only [ixe] at h
  exact h

theorem dotR (A : FVec Ideal S40960x2048 .f32) (B : FVec Ideal S2048x128 .f32) (a : Fin 40960) (b : Fin 128) :
    Host.dotGeneral dot_S40960x2048_S2048x128_S40960x128_1_0_0_1_n_n none A B (ix2 a b) = ∑ c : Fin 2048, A (ix2 a c) * B (ix2 c b) := by
  have h := StackMember.dotGeneral_plain_apply (φ₁ := .f32) (φ₂ := .f32) (m := 40960) (k := 2048) (n := 128) none A B a b
  simp only [ixe] at h
  exact h

/-- A token's modulation row, from the eight sequences' rows. -/
theorem mrow_apply (k : ℕ) (hk : k < 6) (md : FVec Ideal S8x6x1x2048 .f32) (c1 c2 c3 c4 c5 c6 c7 c8 c9 c10 c11) (n : Fin 40960) (d : Fin 2048) :
    (shapeCast S40960x2048 (extractStridedSlice S40960x1x2048 ![0, k, 0] (concatenate S40960x6x2048 0 [⟨S8192x6x2048, (shapeCast S8192x6x2048 (broadcastInDim S4x2048x6x2048 ![0, 2, 3] c1 (shapeCast S4x6x2048 (extractStridedSlice S4x6x1x2048 ![0, 0, 0, 0] md c2) c3)) c4)⟩, ⟨S32768x6x2048, (shapeCast S32768x6x2048 (broadcastInDim S4x8192x6x2048 ![0, 2, 3] c5 (shapeCast S4x6x2048 (extractStridedSlice S4x6x1x2048 ![4, 0, 0, 0] md c6) c7)) c8)⟩] c9) c10) c11 : FVec Ideal S40960x2048 .f32) (ix2 n d)
      = md (ix4 (seqOf n) ⟨k, hk⟩ 0 d) := by
  refine Eq.trans (row_apply k hk _ _ _ n d) ?_
  exact mod_apply md _ _ _ (fun _ _ _ => modA_apply md _ _ _ _ _ _ _) (fun _ _ _ => modB_apply md _ _ _ _ _ _ _) n _ d

/-- The residual, entry by entry. -/
theorem x_apply (x0 : FVec Ideal S8192x2048 .f32) (x1 : FVec Ideal S32768x2048 .f32) (ma : FVec Ideal S40960x512 .bf16) (mb : FVec Ideal S40960x1024 .bf16) (mc0 : FVec Ideal S8192x512 .bf16) (mc1 : FVec Ideal S32768x512 .bf16)
    (w : FVec Ideal S2048x2048 .bf16) (md : FVec Ideal S8x6x1x2048 .f32) (h0 c1 c2 c3 c4 c5 c6 c7 c8 c9 c10 c11 b1 b2 b3 b4 b5 k1 k2) (n : Fin 40960) (d : Fin 2048) :
    addf (concatenate S40960x2048 0 [⟨S8192x2048, x0⟩, ⟨S32768x2048, x1⟩] h0)
      (mulf (shapeCast S40960x2048 (extractStridedSlice S40960x1x2048 ![0, 2, 0] (concatenate S40960x6x2048 0 [⟨S8192x6x2048, (shapeCast S8192x6x2048 (broadcastInDim S4x2048x6x2048 ![0, 2, 3] c1 (shapeCast S4x6x2048 (extractStridedSlice S4x6x1x2048 ![0, 0, 0, 0] md c2) c3)) c4)⟩, ⟨S32768x6x2048, (shapeCast S32768x6x2048 (broadcastInDim S4x8192x6x2048 ![0, 2, 3] c5 (shapeCast S4x6x2048 (extractStridedSlice S4x6x1x2048 ![4, 0, 0, 0] md c6) c7)) c8)⟩] c9) c10) c11)
        (Host.dotGeneral dot_S40960x2048_S2048x2048_S40960x2048_1_0_0_1_n_n none
          (concatenate S40960x2048 1 [⟨S40960x512, extf .f32 ma b1⟩, ⟨S40960x1024, extf .f32 mb b2⟩, ⟨S40960x512, concatenate S40960x512 0 [⟨S8192x512, extf .f32 mc0 b3⟩, ⟨S32768x512, extf .f32 mc1 b4⟩] k1⟩] k2) (extf .f32 w b5))) (ix2 n d)
      = xAt x0 x1 ma mb mc0 mc1 w md n d := by
  unfold xAt outRow
  refine congr (congrArg (fun p q : EReal => p + q) (cat_apply x0 x1 _ n d)) ?_
  refine congr (congrArg (fun p q : EReal => p * q) (mrow_apply 2 (by omega) md _ _ _ _ _ _ _ _ _ _ _ n d)) ?_
  refine (dotW _ _ n d).trans (Finset.sum_congr rfl fun e _ => ?_)
  refine congr (congrArg (fun p q : EReal => p * q) ((mix_apply _ _ _ _ n e).trans ?_)) rfl
  exact congrFun (congr rfl (funext fun k => cat512_apply mc0 mc1 _ n k)) e

/-- The rows of words' layout read back to a token and a feature. -/
theorem lay_apply (Y : FVec Ideal S40960x2048 .f32) (h1) (h2) (h3) (hb) (y : S655360x128.Idx) :
    (truncf .bf16 (shapeCast S655360x128 (transpose S40960x8x2x128 [0, 2, 1, 3] (shapeCast S40960x2x8x128 Y h1) h2) h3) hb : FVec Ideal S655360x128 .bf16) y
      = Y (ix2 ⟨(y 0).val / 16, by have : (y 0).val < 655360 := (y 0).isLt; omega⟩
        ⟨(y 0).val % 2 * 1024 + (y 0).val / 2 % 8 * 128 + (y 1).val, by have : (y 1).val < 128 := (y 1).isLt; omega⟩) := by
  have l0 : (y 0).val < 655360 := (y 0).isLt
  have l1 : (y 1).val < 128 := (y 1).isLt
  show Y (Shape.reshapeEquiv h1 (_ : S40960x2x8x128.Idx)) = _
  have e1 : Shape.reshapeEquiv h3 y = (ix4 ⟨(y 0).val / 16, by omega⟩ ⟨(y 0).val / 2 % 8, by omega⟩ ⟨(y 0).val % 2, by omega⟩ ⟨(y 1).val, l1⟩ : S40960x8x2x128.Idx) :=
    Shape.reshapeEquiv_eq_of_vals h3 y _ _ _ (Shape.rowMajor_val_four _) (Shape.rowMajor_val_two _) (by
      show (((y 0).val / 16 * 8 + (y 0).val / 2 % 8) * 2 + (y 0).val % 2) * 128 + (y 1).val = (y 0).val * 128 + (y 1).val
      omega)
  rw [e1]
  refine congrArg Y (Shape.reshapeEquiv_eq_of_vals h1 _ _ _ _ (Shape.rowMajor_val_two _) (Shape.rowMajor_val_four _) ?_)
  show (y 0).val / 16 * 2048 + ((y 0).val % 2 * 1024 + (y 0).val / 2 % 8 * 128 + (y 1).val)
    = (((y 0).val / 16 * 2 + (y 0).val % 2) * 8 + (y 0).val / 2 % 8) * 128 + (y 1).val
  omega

theorem eta (N M : ℕ) (y : (⟨2, ![N, M]⟩ : Shape).Idx) : y = ix2 (⟨(y 0).val, (y 0).isLt⟩ : Fin N) (⟨(y 1).val, (y 1).isLt⟩ : Fin M) := by
  funext a
  match a with
  | ⟨0, _⟩ => rfl
  | ⟨1, _⟩ => rfl

variable (m : (ℓ : Loc nD τ sig) → Buf (Elt Ideal) ℓ)

/-- The second result. -/
theorem h_eq (c : Dev nD) (y : S655360x128.Idx) :
    Value.res_main_v49 (F := Ideal) m c y = hG (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) y := by
  unfold Value.res_main_v49 hG hAt
  show @Eq EReal _ _
  refine Eq.trans (lay_apply _ _ _ _ _ y) ?_
  refine Eq.trans (hid_apply _ _ _ _ _ _ _ _ _ _ _ _ _ _) ?_
  refine congrFun (congr (congr (congr (congrArg hid (funext fun k => ?_)) rfl) (funext fun k => ?_)) (funext fun k => ?_)) _
  · exact x_apply _ _ _ _ _ _ _ _ _ _ _ _ _ _ _ _ _ _ _ _ _ _ _ _ _ _ _ _ k
  · exact mrow_apply 4 (by omega) _ _ _ _ _ _ _ _ _ _ _ _ _ k
  · exact mrow_apply 3 (by omega) _ _ _ _ _ _ _ _ _ _ _ _ _ k

/-- The third result. -/
theorem lg_eq (c : Dev nD) (y : S40960x128.Idx) :
    Value.res_main_v45 (F := Ideal) m c y = lgG (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) y := by
  unfold Value.res_main_v45 lgG lgAt
  refine (congrArg _ (eta 40960 128 y)).trans ?_
  show @Eq EReal _ _
  refine congr (congrArg (fun p q : EReal => p + q) ((dotR _ _ _ _).trans (Finset.sum_congr rfl fun d _ => ?_))) ?_
  · refine congr (congrArg (fun p q : EReal => p * q) ?_) rfl
    unfold hAt
    refine Eq.trans (hid_apply _ _ _ _ _ _ _ _ _ _ _ _ _ _) ?_
    refine congrFun (congr (congr (congr (congrArg hid (funext fun k => ?_)) rfl) (funext fun k => ?_)) (funext fun k => ?_)) _
    · exact x_apply _ _ _ _ _ _ _ _ _ _ _ _ _ _ _ _ _ _ _ _ _ _ _ _ _ _ _ _ k
    · exact mrow_apply 4 (by omega) _ _ _ _ _ _ _ _ _ _ _ _ _ k
    · exact mrow_apply 3 (by omega) _ _ _ _ _ _ _ _ _ _ _ _ _ k
  · refine congrArg (m ((c.tc : Thread nD τ).loc main_arg10)) ?_
    funext a
    match a with
    | ⟨0, _⟩ => exact Fin.ext rfl
    | ⟨1, _⟩ => exact Fin.ext rfl

end Cert.OutprojRefIdeal.Hand

end
-- ==== Proof.OutprojIdealValue.lean ====
module

public import proofs.«01_k».proof.Defs
public import proofs.«01_k».proof.Proof.OutprojIdealPack
public import proofs.«01_k».proof.Proof.OutprojRefValue
public import proofs.«01_k».proof.Proof.OutprojSpec
public import proofs.«01_k».proof.Proof.InprojRefValue
public import Idealize.ShloMosaic.Lib.Pipeline.Value
public import Idealize.ShloMosaic.Lib.Pointwise
public import Idealize.ShloMosaic.Lib.MatmulPlain
public import Idealize.ShloMosaic.Lib.IdealHost

@[expose] public section

set_option maxRecDepth 16384
set_option Elab.async false

noncomputable section

namespace Cert.OutprojIdeal.Hand

open Cert.OutprojIdeal Cert.OutprojIdeal.Gen
open Idealize.ShloMosaic
open Idealize.ShloMosaic.TcCoe
open Cert.Spec
open Idealize.SL Idealize.SL.Sem
open Idealize.ShloMosaic.Pipeline (Dat Cfg Window)

/-! ## The blocks a point reads -/

theorem ix_0 : ∀ t : Fin cfg0.N, (cfg0.win 0).index t = ![min t.val 15, 0] :=
  (by decide +kernel : ∀ t : Fin grid0.N, win0_0.index t = ![min t.val 15, 0])
theorem ix_1 : ∀ t : Fin cfg0.N, (cfg0.win 1).index t = ![t.val - 16, 0] :=
  (by decide +kernel : ∀ t : Fin grid0.N, win0_1.index t = ![t.val - 16, 0])
theorem ix_2 : ∀ t : Fin cfg0.N, (cfg0.win 2).index t = ![t.val, 0] :=
  (by decide +kernel : ∀ t : Fin grid0.N, win0_2.index t = ![t.val, 0])
theorem ix_3 : ∀ t : Fin cfg0.N, (cfg0.win 3).index t = ![t.val, 0] :=
  (by decide +kernel : ∀ t : Fin grid0.N, win0_3.index t = ![t.val, 0])
theorem ix_4 : ∀ t : Fin cfg0.N, (cfg0.win 4).index t = ![min t.val 15, 0] :=
  (by decide +kernel : ∀ t : Fin grid0.N, win0_4.index t = ![min t.val 15, 0])
theorem ix_5 : ∀ t : Fin cfg0.N, (cfg0.win 5).index t = ![t.val - 16, 0] :=
  (by decide +kernel : ∀ t : Fin grid0.N, win0_5.index t = ![t.val - 16, 0])
theorem ix_6 : ∀ t : Fin cfg0.N, (cfg0.win 6).index t = ![0, 0] :=
  (by decide +kernel : ∀ t : Fin grid0.N, win0_6.index t = ![0, 0])
theorem ix_7 : ∀ t : Fin cfg0.N, (cfg0.win 7).index t = ![if t.val < 16 then t.val / 4 else 4 + (t.val - 16) / 16, 2, 0, 0] :=
  (by decide +kernel : ∀ t : Fin grid0.N, win0_7.index t = ![if t.val < 16 then t.val / 4 else 4 + (t.val - 16) / 16, 2, 0, 0])
theorem ix_8 : ∀ t : Fin cfg0.N, (cfg0.win 8).index t = ![0, 0] :=
  (by decide +kernel : ∀ t : Fin grid0.N, win0_8.index t = ![0, 0])
theorem ix_9 : ∀ t : Fin cfg0.N, (cfg0.win 9).index t = ![if t.val < 16 then t.val / 4 else 4 + (t.val - 16) / 16, 4, 0, 0] :=
  (by decide +kernel : ∀ t : Fin grid0.N, win0_9.index t = ![if t.val < 16 then t.val / 4 else 4 + (t.val - 16) / 16, 4, 0, 0])
theorem ix_10 : ∀ t : Fin cfg0.N, (cfg0.win 10).index t = ![if t.val < 16 then t.val / 4 else 4 + (t.val - 16) / 16, 3, 0, 0] :=
  (by decide +kernel : ∀ t : Fin grid0.N, win0_10.index t = ![if t.val < 16 then t.val / 4 else 4 + (t.val - 16) / 16, 3, 0, 0])
theorem ix_11 : ∀ t : Fin cfg0.N, (cfg0.win 11).index t = ![0, 0] :=
  (by decide +kernel : ∀ t : Fin grid0.N, win0_11.index t = ![0, 0])
theorem ix_12 : ∀ t : Fin cfg0.N, (cfg0.win 12).index t = ![0, 0] :=
  (by decide +kernel : ∀ t : Fin grid0.N, win0_12.index t = ![0, 0])
theorem ix_13 : ∀ t : Fin cfg0.N, (cfg0.win 13).index t = ![t.val, 0] :=
  (by decide +kernel : ∀ t : Fin grid0.N, win0_13.index t = ![t.val, 0])
theorem ix_14 : ∀ t : Fin cfg0.N, (cfg0.win 14).index t = ![t.val, 0] :=
  (by decide +kernel : ∀ t : Fin grid0.N, win0_14.index t = ![t.val, 0])
theorem ix_15 : ∀ t : Fin cfg0.N, (cfg0.win 15).index t = ![t.val, 0] :=
  (by decide +kernel : ∀ t : Fin grid0.N, win0_15.index t = ![t.val, 0])

/-- The first sixteen points read the first inputs. -/
theorem first_iff : ∀ t : Fin cfg0.N, Scalar.cmpi .slt (BitVec.ofNat 32 (grid0.coords t 0).val) 16#32 = 1#1 ↔ t.val < 16 :=
  (by decide +kernel : ∀ t : Fin grid0.N, Scalar.cmpi .slt (BitVec.ofNat 32 (grid0.coords t 0).val) 16#32 = 1#1 ↔ t.val < 16)

variable (m : (ℓ : Loc nD τ sig) → Buf (Elt Ideal) ℓ) (ρ : Dev nD → PrngReg)

theorem iblk0_apply (c : Dev nD) (t : Fin cfg0.N) (y : S512x2048.Idx) (x : S8192x2048.Idx)
    (hx : ∀ a, (x a).val = (cfg0.win 0).index t a * S512x2048.size a + (y a).val) : iblk m c 0 t y = m ((c : Thread nD τ).loc main_arg0) x := by
  show m ((c : Thread nD τ).loc main_arg0) (((cfg0.win 0).rect t).emb y) = _
  congr 1
  funext a
  exact Fin.ext ((Pipeline.Window.rect_emb_val (cfg0.win 0) t y a rfl).trans (hx a).symm)

theorem iblk1_apply (c : Dev nD) (t : Fin cfg0.N) (y : S512x2048.Idx) (x : S32768x2048.Idx)
    (hx : ∀ a, (x a).val = (cfg0.win 1).index t a * S512x2048.size a + (y a).val) : iblk m c 1 t y = m ((c : Thread nD τ).loc main_arg1) x := by
  show m ((c : Thread nD τ).loc main_arg1) (((cfg0.win 1).rect t).emb y) = _
  congr 1
  funext a
  exact Fin.ext ((Pipeline.Window.rect_emb_val (cfg0.win 1) t y a rfl).trans (hx a).symm)

theorem iblk2_apply (c : Dev nD) (t : Fin cfg0.N) (y : S512x512.Idx) (x : S40960x512.Idx)
    (hx : ∀ a, (x a).val = (cfg0.win 2).index t a * S512x512.size a + (y a).val) : iblk m c 2 t y = m ((c : Thread nD τ).loc main_arg2) x := by
  show m ((c : Thread nD τ).loc main_arg2) (((cfg0.win 2).rect t).emb y) = _
  congr 1
  funext a
  exact Fin.ext ((Pipeline.Window.rect_emb_val (cfg0.win 2) t y a rfl).trans (hx a).symm)

theorem iblk3_apply (c : Dev nD) (t : Fin cfg0.N) (y : S512x1024.Idx) (x : S40960x1024.Idx)
    (hx : ∀ a, (x a).val = (cfg0.win 3).index t a * S512x1024.size a + (y a).val) : iblk m c 3 t y = m ((c : Thread nD τ).loc main_arg3) x := by
  show m ((c : Thread nD τ).loc main_arg3) (((cfg0.win 3).rect t).emb y) = _
  congr 1
  funext a
  exact Fin.ext ((Pipeline.Window.rect_emb_val (cfg0.win 3) t y a rfl).trans (hx a).symm)

theorem iblk4_apply (c : Dev nD) (t : Fin cfg0.N) (y : S512x512.Idx) (x : S8192x512.Idx)
    (hx : ∀ a, (x a).val = (cfg0.win 4).index t a * S512x512.size a + (y a).val) : iblk m c 4 t y = m ((c : Thread nD τ).loc main_arg4) x := by
  show m ((c : Thread nD τ).loc main_arg4) (((cfg0.win 4).rect t).emb y) = _
  congr 1
  funext a
  exact Fin.ext ((Pipeline.Window.rect_emb_val (cfg0.win 4) t y a rfl).trans (hx a).symm)

theorem iblk5_apply (c : Dev nD) (t : Fin cfg0.N) (y : S512x512.Idx) (x : S32768x512.Idx)
    (hx : ∀ a, (x a).val = (cfg0.win 5).index t a * S512x512.size a + (y a).val) : iblk m c 5 t y = m ((c : Thread nD τ).loc main_arg5) x := by
  show m ((c : Thread nD τ).loc main_arg5) (((cfg0.win 5).rect t).emb y) = _
  congr 1
  funext a
  exact Fin.ext ((Pipeline.Window.rect_emb_val (cfg0.win 5) t y a rfl).trans (hx a).symm)

theorem iblk6_apply (c : Dev nD) (t : Fin cfg0.N) (y : S2048x2048.Idx) (x : S2048x2048.Idx)
    (hx : ∀ a, (x a).val = (cfg0.win 6).index t a * S2048x2048.size a + (y a).val) : iblk m c 6 t y = m ((c : Thread nD τ).loc main_arg6) x := by
  show m ((c : Thread nD τ).loc main_arg6) (((cfg0.win 6).rect t).emb y) = _
  congr 1
  funext a
  exact Fin.ext ((Pipeline.Window.rect_emb_val (cfg0.win 6) t y a rfl).trans (hx a).symm)

theorem iblk7_apply (c : Dev nD) (t : Fin cfg0.N) (y : S1x1x1x2048.Idx) (x : S8x6x1x2048.Idx)
    (hx : ∀ a, (x a).val = (cfg0.win 7).index t a * S1x1x1x2048.size a + (y a).val) : iblk m c 7 t y = m ((c : Thread nD τ).loc main_arg7) x := by
  show m ((c : Thread nD τ).loc main_arg7) (((cfg0.win 7).rect t).emb y) = _
  congr 1
  funext a
  exact Fin.ext ((Pipeline.Window.rect_emb_val (cfg0.win 7) t y a rfl).trans (hx a).symm)

theorem iblk8_apply (c : Dev nD) (t : Fin cfg0.N) (y : S1x2048.Idx) (x : S1x2048.Idx)
    (hx : ∀ a, (x a).val = (cfg0.win 8).index t a * S1x2048.size a + (y a).val) : iblk m c 8 t y = m ((c : Thread nD τ).loc main_arg8) x := by
  show m ((c : Thread nD τ).loc main_arg8) (((cfg0.win 8).rect t).emb y) = _
  congr 1
  funext a
  exact Fin.ext ((Pipeline.Window.rect_emb_val (cfg0.win 8) t y a rfl).trans (hx a).symm)

theorem iblk9_apply (c : Dev nD) (t : Fin cfg0.N) (y : S1x1x1x2048.Idx) (x : S8x6x1x2048.Idx)
    (hx : ∀ a, (x a).val = (cfg0.win 9).index t a * S1x1x1x2048.size a + (y a).val) : iblk m c 9 t y = m ((c : Thread nD τ).loc main_arg7) x := by
  show m ((c : Thread nD τ).loc main_arg7) (((cfg0.win 9).rect t).emb y) = _
  congr 1
  funext a
  exact Fin.ext ((Pipeline.Window.rect_emb_val (cfg0.win 9) t y a rfl).trans (hx a).symm)

theorem iblk10_apply (c : Dev nD) (t : Fin cfg0.N) (y : S1x1x1x2048.Idx) (x : S8x6x1x2048.Idx)
    (hx : ∀ a, (x a).val = (cfg0.win 10).index t a * S1x1x1x2048.size a + (y a).val) : iblk m c 10 t y = m ((c : Thread nD τ).loc main_arg7) x := by
  show m ((c : Thread nD τ).loc main_arg7) (((cfg0.win 10).rect t).emb y) = _
  congr 1
  funext a
  exact Fin.ext ((Pipeline.Window.rect_emb_val (cfg0.win 10) t y a rfl).trans (hx a).symm)

theorem iblk11_apply (c : Dev nD) (t : Fin cfg0.N) (y : S2048x128.Idx) (x : S2048x128.Idx)
    (hx : ∀ a, (x a).val = (cfg0.win 11).index t a * S2048x128.size a + (y a).val) : iblk m c 11 t y = m ((c : Thread nD τ).loc main_arg9) x := by
  show m ((c : Thread nD τ).loc main_arg9) (((cfg0.win 11).rect t).emb y) = _
  congr 1
  funext a
  exact Fin.ext ((Pipeline.Window.rect_emb_val (cfg0.win 11) t y a rfl).trans (hx a).symm)

theorem iblk12_apply (c : Dev nD) (t : Fin cfg0.N) (y : S1x128.Idx) (x : S1x128.Idx)
    (hx : ∀ a, (x a).val = (cfg0.win 12).index t a * S1x128.size a + (y a).val) : iblk m c 12 t y = m ((c : Thread nD τ).loc main_arg10) x := by
  show m ((c : Thread nD τ).loc main_arg10) (((cfg0.win 12).rect t).emb y) = _
  congr 1
  funext a
  exact Fin.ext ((Pipeline.Window.rect_emb_val (cfg0.win 12) t y a rfl).trans (hx a).symm)

/-- A point's residual is its 512 rows of the whole one. -/
theorem xB_eq (c : Dev nD) (t : Fin cfg0.N) (r : Fin 512) (d : Fin 2048) (n : Fin 40960) (hn : n.val = t.val * 512 + r.val) :
    xB (grid0.coords t) (iblk m c 0 t) (iblk m c 1 t) (iblk m c 2 t) (iblk m c 3 t) (iblk m c 4 t) (iblk m c 5 t) (iblk m c 6 t) (iblk m c 7 t) r d
      = xAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) n d := by
  have ht : t.val < 80 := t.isLt
  have hr := r.isLt
  have hseq : (seqOf n).val = if t.val < 16 then t.val / 4 else 4 + (t.val - 16) / 16 := by
    show (if n.val < 8192 then n.val / 2048 else 4 + (n.val - 8192) / 8192) = _
    split <;> split <;> omega
  unfold xB xAt
  refine congrFun (congr (congr (congr (congrArg outRow (funext fun k => ?_)) (funext fun k => ?_)) (congr (congr (congrArg mix3 (funext fun k => ?_)) (funext fun k => ?_)) (funext fun k => ?_))) (funext fun e => funext fun k => ?_)) d
  · unfold selRow inRow
    by_cases hl : t.val < 16
    · have hn' : n.val < 8192 := by omega
      rw [dif_pos hn']
      refine (congrFun (if_pos ((first_iff t).mpr hl)) _).trans ?_
      refine iblk0_apply m c t _ _ fun a => ?_
      rw [ix_0]
      match a with
      | ⟨0, _⟩ => exact (show n.val = min t.val 15 * 512 + r.val by omega)
      | ⟨1, _⟩ => exact (show k.val = 0 * 2048 + k.val by omega)
    · have hn' : ¬ n.val < 8192 := by omega
      rw [dif_neg hn']
      refine (congrFun (if_neg (fun q => hl ((first_iff t).mp q))) _).trans ?_
      refine iblk1_apply m c t _ _ fun a => ?_
      rw [ix_1]
      match a with
      | ⟨0, _⟩ => exact (show n.val - 8192 = (t.val - 16) * 512 + r.val by omega)
      | ⟨1, _⟩ => exact (show k.val = 0 * 2048 + k.val by omega)
  · refine iblk7_apply m c t _ _ fun a => ?_
    rw [ix_7, ← hseq]
    match a with
    | ⟨0, _⟩ => exact (show (seqOf n).val = (seqOf n).val * 1 + 0 by omega)
    | ⟨1, _⟩ => rfl
    | ⟨2, _⟩ => rfl
    | ⟨3, _⟩ => exact (show k.val = 0 * 2048 + k.val by omega)
  · refine iblk2_apply m c t _ _ fun a => ?_
    rw [ix_2]
    match a with
    | ⟨0, _⟩ => exact hn
    | ⟨1, _⟩ => exact (show k.val = 0 * 512 + k.val by omega)
  · refine iblk3_apply m c t _ _ fun a => ?_
    rw [ix_3]
    match a with
    | ⟨0, _⟩ => exact hn
    | ⟨1, _⟩ => exact (show k.val = 0 * 1024 + k.val by omega)
  · unfold selMix inRow512
    by_cases hl : t.val < 16
    · have hn' : n.val < 8192 := by omega
      rw [dif_pos hn']
      refine (congrFun (if_pos ((first_iff t).mpr hl)) _).trans ?_
      refine iblk4_apply m c t _ _ fun a => ?_
      rw [ix_4]
      match a with
      | ⟨0, _⟩ => exact (show n.val = min t.val 15 * 512 + r.val by omega)
      | ⟨1, _⟩ => exact (show k.val = 0 * 512 + k.val by omega)
    · have hn' : ¬ n.val < 8192 := by omega
      rw [dif_neg hn']
      refine (congrFun (if_neg (fun q => hl ((first_iff t).mp q))) _).trans ?_
      refine iblk5_apply m c t _ _ fun a => ?_
      rw [ix_5]
      match a with
      | ⟨0, _⟩ => exact (show n.val - 8192 = (t.val - 16) * 512 + r.val by omega)
      | ⟨1, _⟩ => exact (show k.val = 0 * 512 + k.val by omega)
  · refine iblk6_apply m c t _ _ fun a => ?_
    rw [ix_6]
    match a with
    | ⟨0, _⟩ => exact (show e.val = 0 * 2048 + e.val by omega)
    | ⟨1, _⟩ => exact (show k.val = 0 * 2048 + k.val by omega)

/-- A point's normalised rows are its 512 rows of the whole ones. -/
theorem hB_eq (c : Dev nD) (t : Fin cfg0.N) (r : Fin 512) (d : Fin 2048) (n : Fin 40960) (hn : n.val = t.val * 512 + r.val) :
    hB (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) r d
      = hAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) n d := by
  have ht : t.val < 80 := t.isLt
  have hr := r.isLt
  have hseq : (seqOf n).val = if t.val < 16 then t.val / 4 else 4 + (t.val - 16) / 16 := by
    show (if n.val < 8192 then n.val / 2048 else 4 + (n.val - 8192) / 8192) = _
    split <;> split <;> omega
  unfold hB hAt
  refine congrFun (congr (congr (congr (congrArg hid (funext fun k => xB_eq m c t r k n hn)) (funext fun k => ?_)) (funext fun k => ?_)) (funext fun k => ?_)) d
  · refine iblk8_apply m c t _ _ fun a => ?_
    rw [ix_8]
    match a with
    | ⟨0, _⟩ => rfl
    | ⟨1, _⟩ => exact (show k.val = 0 * 2048 + k.val by omega)
  · refine iblk9_apply m c t _ _ fun a => ?_
    rw [ix_9, ← hseq]
    match a with
    | ⟨0, _⟩ => exact (show (seqOf n).val = (seqOf n).val * 1 + 0 by omega)
    | ⟨1, _⟩ => rfl
    | ⟨2, _⟩ => rfl
    | ⟨3, _⟩ => exact (show k.val = 0 * 2048 + k.val by omega)
  · refine iblk10_apply m c t _ _ fun a => ?_
    rw [ix_10, ← hseq]
    match a with
    | ⟨0, _⟩ => exact (show (seqOf n).val = (seqOf n).val * 1 + 0 by omega)
    | ⟨1, _⟩ => rfl
    | ⟨2, _⟩ => rfl
    | ⟨3, _⟩ => exact (show k.val = 0 * 2048 + k.val by omega)

/-- A point's scores are its 512 rows of the whole ones. -/
theorem lB_eq (c : Dev nD) (t : Fin cfg0.N) (r : Fin 512) (j : Fin 128) (n : Fin 40960) (hn : n.val = t.val * 512 + r.val) :
    lB (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r j
      = lgAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) n j := by
  unfold lB lgAt
  refine congr (congrArg _ (Finset.sum_congr rfl fun d _ => congr (congrArg _ (hB_eq m c t r d n hn)) ?_)) ?_
  · refine iblk11_apply m c t _ _ fun a => ?_
    rw [ix_11]
    match a with
    | ⟨0, _⟩ => exact (show d.val = 0 * 2048 + d.val by omega)
    | ⟨1, _⟩ => exact (show j.val = 0 * 128 + j.val by omega)
  · refine iblk12_apply m c t _ _ fun a => ?_
    rw [ix_12]
    match a with
    | ⟨0, _⟩ => rfl
    | ⟨1, _⟩ => exact (show j.val = 0 * 128 + j.val by omega)

/-! ## The whole results -/

/-- The first result at the launch's arrays. -/
def G13 (c : Dev nD) : S40960x2048.Idx → EReal :=
  xG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The second result at the launch's arrays. -/
def G14 (c : Dev nD) : S655360x128.Idx → EReal :=
  hG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The third result at the launch's arrays. -/
def G15 (c : Dev nD) : S40960x128.Idx → EReal :=
  lgG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

theorem pt13 (c : Dev nD) (t : Fin cfg0.N) (y : S512x2048.Idx) (x : S40960x2048.Idx) (h0 : (x 0).val = t.val * 512 + (y 0).val) (h1 : (x 1).val = (y 1).val) :
    out13 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = G13 m c x := by
  refine (out13_apply _ _ _ _ _ _ _ _ _ _ _ _ _ _ y).trans ?_
  unfold gX G13 xG
  refine (xB_eq m c t _ _ ⟨(x 0).val, (x 0).isLt⟩ h0).trans ?_
  exact congrArg _ (Fin.ext h1.symm)

theorem pt14 (c : Dev nD) (t : Fin cfg0.N) (y : S8192x128.Idx) (x : S655360x128.Idx) (h0 : (x 0).val = t.val * 8192 + (y 0).val) (h1 : (x 1).val = (y 1).val) :
    out14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = G14 m c x := by
  refine (out14_apply _ _ _ _ _ _ _ _ _ _ _ _ _ _ y).trans ?_
  have ly : (y 0).val < 8192 := (y 0).isLt
  have lx : (x 0).val < 655360 := (x 0).isLt
  rw [sq_apply]
  unfold gH G14 hG
  refine (hB_eq m c t _ _ ⟨(x 0).val / 16, by omega⟩ ?_).trans ?_
  · show (x 0).val / 16 = t.val * 512 + (y 0).val / 2 / 8
    omega
  · refine congrArg _ (Fin.ext ?_)
    show (y 0).val % 2 * 1024 + (y 0).val / 2 % 8 * 128 + (y 1).val = (x 0).val % 2 * 1024 + (x 0).val / 2 % 8 * 128 + (x 1).val
    omega

theorem pt15 (c : Dev nD) (t : Fin cfg0.N) (y : S512x128.Idx) (x : S40960x128.Idx) (h0 : (x 0).val = t.val * 512 + (y 0).val) (h1 : (x 1).val = (y 1).val) :
    out15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = G15 m c x := by
  refine (out15_apply _ _ _ _ _ _ _ _ _ _ _ _ _ _ y).trans ?_
  unfold gL G15 lgG
  refine (lB_eq m c t _ _ ⟨(x 0).val, (x 0).isLt⟩ h0).trans ?_
  exact congrArg _ (Fin.ext h1.symm)

/-- What a point writes back to output window 13's array. -/
theorem flushed13 (c : Dev nD) (t : Fin cfg0.N) :
    (dats m 0 c).flushed 13 t = (cfg0.win 13).cut (grid0.coords t) (out13 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  show (cfg0.win 13).cut (grid0.coords t) ((dats m 0 c).after 13 t) = _
  rw [after0_13]

/-- Output window 13's array after the run. -/
theorem arr13 (c : Dev nD) : (dats m 0 c).arrAt 13 cfg0.N = G13 m c := by
  refine Dat.arrAt_eq_of_cover (dats m 0 c) 13 (G13 m c) (fun t _ => ?_) (fun i => ?_)
  · rw [flushed13 m c t]
    funext y
    have h := Pipeline.Window.rect_emb_val (cfg0.win 13) t y
    rw [ix_13] at h
    exact pt13 m c t y _ (h (0 : Fin 2)) ((h (1 : Fin 2)).trans (by show 0 * 2048 + (y (1 : Fin 2)).val = (y (1 : Fin 2)).val; omega))
  · have l0 : (i (0 : Fin 2)).val < 40960 := (i (0 : Fin 2)).isLt
    obtain ⟨t, ht⟩ : ∃ t : Fin cfg0.N, t.val = (i (0 : Fin 2)).val / 512 := ⟨⟨(i (0 : Fin 2)).val / 512, by show _ < 80; omega⟩, rfl⟩
    refine ⟨t, flush0_13 t, ?_⟩
    have h := Pipeline.Window.rect_emb_val (cfg0.win 13) t (ix2 (⟨(i (0 : Fin 2)).val % 512, by omega⟩ : Fin 512) (⟨(i (1 : Fin 2)).val, (i (1 : Fin 2)).isLt⟩ : Fin 2048) : S512x2048.Idx)
    rw [ix_13] at h
    have he : ((cfg0.win 13).blk t).view.emb (ix2 (⟨(i (0 : Fin 2)).val % 512, by omega⟩ : Fin 512) (⟨(i (1 : Fin 2)).val, (i (1 : Fin 2)).isLt⟩ : Fin 2048) : S512x2048.Idx) = i := by
      funext a
      match a with
      | ⟨0, _⟩ => exact Fin.ext ((h (0 : Fin 2)).trans (by show t.val * 512 + (i (0 : Fin 2)).val % 512 = (i (0 : Fin 2)).val; omega))
      | ⟨1, _⟩ => exact Fin.ext ((h (1 : Fin 2)).trans (by show 0 * 2048 + (i (1 : Fin 2)).val = (i (1 : Fin 2)).val; omega))
    have hm := View.emb_mem_set ((cfg0.win 13).blk t).view (ix2 (⟨(i (0 : Fin 2)).val % 512, by omega⟩ : Fin 512) (⟨(i (1 : Fin 2)).val, (i (1 : Fin 2)).isLt⟩ : Fin 2048) : S512x2048.Idx)
    rw [he] at hm
    exact hm

/-- What a point writes back to output window 14's array. -/
theorem flushed14 (c : Dev nD) (t : Fin cfg0.N) :
    (dats m 0 c).flushed 14 t = (cfg0.win 14).cut (grid0.coords t) (out14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  show (cfg0.win 14).cut (grid0.coords t) ((dats m 0 c).after 14 t) = _
  rw [after0_14]

/-- Output window 14's array after the run. -/
theorem arr14 (c : Dev nD) : (dats m 0 c).arrAt 14 cfg0.N = G14 m c := by
  refine Dat.arrAt_eq_of_cover (dats m 0 c) 14 (G14 m c) (fun t _ => ?_) (fun i => ?_)
  · rw [flushed14 m c t]
    funext y
    have h := Pipeline.Window.rect_emb_val (cfg0.win 14) t y
    rw [ix_14] at h
    exact pt14 m c t y _ (h (0 : Fin 2)) ((h (1 : Fin 2)).trans (by show 0 * 128 + (y (1 : Fin 2)).val = (y (1 : Fin 2)).val; omega))
  · have l0 : (i (0 : Fin 2)).val < 655360 := (i (0 : Fin 2)).isLt
    obtain ⟨t, ht⟩ : ∃ t : Fin cfg0.N, t.val = (i (0 : Fin 2)).val / 8192 := ⟨⟨(i (0 : Fin 2)).val / 8192, by show _ < 80; omega⟩, rfl⟩
    refine ⟨t, flush0_14 t, ?_⟩
    have h := Pipeline.Window.rect_emb_val (cfg0.win 14) t (ix2 (⟨(i (0 : Fin 2)).val % 8192, by omega⟩ : Fin 8192) (⟨(i (1 : Fin 2)).val, (i (1 : Fin 2)).isLt⟩ : Fin 128) : S8192x128.Idx)
    rw [ix_14] at h
    have he : ((cfg0.win 14).blk t).view.emb (ix2 (⟨(i (0 : Fin 2)).val % 8192, by omega⟩ : Fin 8192) (⟨(i (1 : Fin 2)).val, (i (1 : Fin 2)).isLt⟩ : Fin 128) : S8192x128.Idx) = i := by
      funext a
      match a with
      | ⟨0, _⟩ => exact Fin.ext ((h (0 : Fin 2)).trans (by show t.val * 8192 + (i (0 : Fin 2)).val % 8192 = (i (0 : Fin 2)).val; omega))
      | ⟨1, _⟩ => exact Fin.ext ((h (1 : Fin 2)).trans (by show 0 * 128 + (i (1 : Fin 2)).val = (i (1 : Fin 2)).val; omega))
    have hm := View.emb_mem_set ((cfg0.win 14).blk t).view (ix2 (⟨(i (0 : Fin 2)).val % 8192, by omega⟩ : Fin 8192) (⟨(i (1 : Fin 2)).val, (i (1 : Fin 2)).isLt⟩ : Fin 128) : S8192x128.Idx)
    rw [he] at hm
    exact hm

/-- What a point writes back to output window 15's array. -/
theorem flushed15 (c : Dev nD) (t : Fin cfg0.N) :
    (dats m 0 c).flushed 15 t = (cfg0.win 15).cut (grid0.coords t) (out15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  show (cfg0.win 15).cut (grid0.coords t) ((dats m 0 c).after 15 t) = _
  rw [after0_15]

/-- Output window 15's array after the run. -/
theorem arr15 (c : Dev nD) : (dats m 0 c).arrAt 15 cfg0.N = G15 m c := by
  refine Dat.arrAt_eq_of_cover (dats m 0 c) 15 (G15 m c) (fun t _ => ?_) (fun i => ?_)
  · rw [flushed15 m c t]
    funext y
    have h := Pipeline.Window.rect_emb_val (cfg0.win 15) t y
    rw [ix_15] at h
    exact pt15 m c t y _ (h (0 : Fin 2)) ((h (1 : Fin 2)).trans (by show 0 * 128 + (y (1 : Fin 2)).val = (y (1 : Fin 2)).val; omega))
  · have l0 : (i (0 : Fin 2)).val < 40960 := (i (0 : Fin 2)).isLt
    obtain ⟨t, ht⟩ : ∃ t : Fin cfg0.N, t.val = (i (0 : Fin 2)).val / 512 := ⟨⟨(i (0 : Fin 2)).val / 512, by show _ < 80; omega⟩, rfl⟩
    refine ⟨t, flush0_15 t, ?_⟩
    have h := Pipeline.Window.rect_emb_val (cfg0.win 15) t (ix2 (⟨(i (0 : Fin 2)).val % 512, by omega⟩ : Fin 512) (⟨(i (1 : Fin 2)).val, (i (1 : Fin 2)).isLt⟩ : Fin 128) : S512x128.Idx)
    rw [ix_15] at h
    have he : ((cfg0.win 15).blk t).view.emb (ix2 (⟨(i (0 : Fin 2)).val % 512, by omega⟩ : Fin 512) (⟨(i (1 : Fin 2)).val, (i (1 : Fin 2)).isLt⟩ : Fin 128) : S512x128.Idx) = i := by
      funext a
      match a with
      | ⟨0, _⟩ => exact Fin.ext ((h (0 : Fin 2)).trans (by show t.val * 512 + (i (0 : Fin 2)).val % 512 = (i (0 : Fin 2)).val; omega))
      | ⟨1, _⟩ => exact Fin.ext ((h (1 : Fin 2)).trans (by show 0 * 128 + (i (1 : Fin 2)).val = (i (1 : Fin 2)).val; omega))
    have hm := View.emb_mem_set ((cfg0.win 15).blk t).view (ix2 (⟨(i (0 : Fin 2)).val % 512, by omega⟩ : Fin 512) (⟨(i (1 : Fin 2)).val, (i (1 : Fin 2)).isLt⟩ : Fin 128) : S512x128.Idx)
    rw [he] at hm
    exact hm

/-- Every run ends with the three results at the whole functions, and the arguments unchanged. -/
theorem run_value : θ_run defs (onTc (τ := τ) (main (F := Ideal))) ⟨m, fun _ => 0, ρ⟩ fun r => ∀ c : Dev nD,
      r.2.mem ((c : Thread nD τ).loc main_v0_0) = G13 m c
      ∧ r.2.mem ((c : Thread nD τ).loc main_v0_1) = G14 m c
      ∧ r.2.mem ((c : Thread nD τ).loc main_v0_2) = G15 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨((h c).1 13).trans (arr13 m c), ((h c).1 14).trans (arr14 m c), ((h c).1 15).trans (arr15 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 11).trans (((dats m 0 c).arrAt_in 11 rfl _).trans ((A_eq m c 11).trans (V_main_arg9 m c))),
      ((h c).1 12).trans (((dats m 0 c).arrAt_in 12 rfl _).trans ((A_eq m c 12).trans (V_main_arg10 m c)))⟩)
    (run_main m ρ)

end Cert.OutprojIdeal.Hand

namespace Cert.Proof

open Idealize.ShloMosaic Idealize.ShloMosaic.TcCoe Idealize.SL Idealize.SL.Sem

/-- The output projection's kernel and its plain reference end with equal results. -/
theorem algebraic_outproj : Cert.algebraic_OutprojIdeal_OutprojRefIdeal := fun m g m' g' _ ha => by
  refine ⟨fun c => Cert.OutprojIdeal.Hand.G13 m c, fun c => Cert.OutprojIdeal.Hand.G14 m c, fun c => Cert.OutprojIdeal.Hand.G15 m c, ?_, ?_⟩
  · exact Cert.OutprojIdeal.Hand.run_value m g
  · refine (θ_run _ _ _).mono (fun r h c => ?_) (Cert.OutprojRefIdeal.Value.run (F := Ideal) m' g')
    obtain ⟨e0, e1, e2, e⟩ := h c
    obtain ⟨a0, a1, a2, a3, a4, a5, a6, a7, a8, a9, a10⟩ := ha c
    refine ⟨e0.trans (funext fun y => ?_), e1.trans (funext fun y => ?_), e2.trans (funext fun y => ?_), e⟩
    · refine ((congrArg _ (Cert.OutprojRefIdeal.Hand.eta 40960 2048 y)).trans (Cert.OutprojRefIdeal.Hand.x_apply (m' ((c.tc : Thread Cert.OutprojRefIdeal.nD Cert.OutprojRefIdeal.τ).loc Cert.OutprojRefIdeal.main_arg0)) (m' ((c.tc : Thread Cert.OutprojRefIdeal.nD Cert.OutprojRefIdeal.τ).loc Cert.OutprojRefIdeal.main_arg1)) (m' ((c.tc : Thread Cert.OutprojRefIdeal.nD Cert.OutprojRefIdeal.τ).loc Cert.OutprojRefIdeal.main_arg2)) (m' ((c.tc : Thread Cert.OutprojRefIdeal.nD Cert.OutprojRefIdeal.τ).loc Cert.OutprojRefIdeal.main_arg3)) (m' ((c.tc : Thread Cert.OutprojRefIdeal.nD Cert.OutprojRefIdeal.τ).loc Cert.OutprojRefIdeal.main_arg4)) (m' ((c.tc : Thread Cert.OutprojRefIdeal.nD Cert.OutprojRefIdeal.τ).loc Cert.OutprojRefIdeal.main_arg5)) (m' ((c.tc : Thread Cert.OutprojRefIdeal.nD Cert.OutprojRefIdeal.τ).loc Cert.OutprojRefIdeal.main_arg6)) (m' ((c.tc : Thread Cert.OutprojRefIdeal.nD Cert.OutprojRefIdeal.τ).loc Cert.OutprojRefIdeal.main_arg7)) _ _ _ _ _ _ _ _ _ _ _ _ _ _ _ _ _ _ _ (⟨(y 0).val, (y 0).isLt⟩ : Fin 40960) (⟨(y 1).val, (y 1).isLt⟩ : Fin 2048))).trans ?_
      rw [a0, a1, a2, a3, a4, a5, a6, a7]
      rfl
    · refine (Cert.OutprojRefIdeal.Hand.h_eq m' c y).trans ?_
      rw [a0, a1, a2, a3, a4, a5, a6, a7, a8]
      rfl
    · refine (Cert.OutprojRefIdeal.Hand.lg_eq m' c y).trans ?_
      rw [a0, a1, a2, a3, a4, a5, a6, a7, a8, a9, a10]
      rfl

end Cert.Proof

end
-- ==== Proof.MixSpec.lean ====
module

public import proofs.«01_k».proof.Proof.InprojSpec

@[expose] public section

noncomputable section

namespace Cert.Spec

open Idealize.ShloMosaic

/-! ## The pooling's and the convolution's results, entry by entry -/

/-- The length of row `n`'s sequence. -/
def lenN (n : ℕ) : ℕ := if n < 8192 then 2048 else 8192

/-- Row `n`'s position in its sequence. -/
def posN (n : ℕ) : ℕ := n % lenN n

/-- The value `a` rows before row `n` and `k` after that, zero outside the row's sequence. -/
def nbr (u : Fin 40960 → EReal) (a : ℕ) (n : Fin 40960) (k : ℕ) : EReal :=
  if a ≤ posN n.val + k ∧ posN n.val + k < a + lenN n.val then u ⟨min (n.val + k - a) 40959, by omega⟩ else 0

/-- How many of the rows from `h` before to `h - 1` after a row lie in its sequence. -/
def cnt (p l h : BitVec 32) : EReal :=
  (((IntOp.subi (IntOp.minsi (IntOp.addi p h) l) (IntOp.maxsi (IntOp.subi p h) 0#32)).toInt : ℝ) : EReal)

/-- One column of one pool: the mean over a window less the row itself, times the pool's weights. -/
def poolRow (h : ℕ) (u : Fin 40960 → Fin 128 → EReal) (w : Fin 128 → Fin 128 → EReal) (n : Fin 40960) (d : Fin 128) : EReal :=
  ∑ e : Fin 128, (Ideal.div (∑ k ∈ Finset.range (2 * h), nbr (fun r => u r e) h n k)
    (cnt (BitVec.ofNat 32 (posN n.val)) (BitVec.ofNat 32 (lenN n.val)) (BitVec.ofNat 32 h)) - u n e) * w e d

/-- A row centred on its mean. -/
def centre (y : Fin 1024 → EReal) (d : Fin 1024) : EReal :=
  y d - Ideal.div (∑ k : Fin 1024, y k) (Ideal.ofBits .f32 0x44800000#32)

/-- A centred row, normalised, scaled and shifted. -/
def normed (c g b : Fin 1024 → EReal) (d : Fin 1024) : EReal :=
  c d * Ideal.rsqrt (Ideal.div (∑ k : Fin 1024, c k * c k) (Ideal.ofBits .f32 0x44800000#32) + Ideal.ofBits .f32 0x358637BD#32) * g d + b d

/-- A row's convolution. -/
def convRow (v : Fin 40960 → Fin 1024 → EReal) (w : Fin 31 → Fin 1024 → EReal) (b : Fin 1024 → EReal) (n : Fin 40960) (d : Fin 1024) : EReal :=
  (∑ k : Fin 31, nbr (fun r => v r d) 15 n k.val * w k d) + b d

/-- A row times its logistic function, multiplied by the weights. -/
def act (z : Fin 1024 → EReal) (w : Fin 1024 → Fin 1024 → EReal) (b : Fin 1024 → EReal) (e : Fin 1024) : EReal :=
  (∑ d : Fin 1024, (z d * Ideal.logistic (z d)) * w d e) + b e

/-- The first result, entry by entry. -/
def maG (x0 : (⟨2, ![40960, 512]⟩ : Shape).Idx → EReal) (pw : (⟨3, ![4, 128, 128]⟩ : Shape).Idx → EReal) (ps : (⟨2, ![1, 512]⟩ : Shape).Idx → EReal)
    (n : Fin 40960) (j : Fin 512) : EReal :=
  poolRow (2 ^ (j.val / 128)) (fun r e => x0 (ix2 r ⟨j.val / 128 * 128 + e.val, by omega⟩)) (fun e d => pw (ix3 ⟨j.val / 128, by omega⟩ e d)) n ⟨j.val % 128, by omega⟩
    * ps (ix2 0 j)

/-- The second result, entry by entry. -/
def mbG (x1 : (⟨2, ![40960, 1024]⟩ : Shape).Idx → EReal) (dw : (⟨2, ![31, 1024]⟩ : Shape).Idx → EReal) (db lg lb : (⟨2, ![1, 1024]⟩ : Shape).Idx → EReal)
    (pw : (⟨2, ![1024, 1024]⟩ : Shape).Idx → EReal) (pb : (⟨2, ![1, 1024]⟩ : Shape).Idx → EReal) (n : Fin 40960) (e : Fin 1024) : EReal :=
  act (normed (centre (convRow (fun r d => x1 (ix2 r d)) (fun k d => dw (ix2 k d)) (fun d => db (ix2 0 d)) n)) (fun d => lg (ix2 0 d)) (fun d => lb (ix2 0 d)))
    (fun d e => pw (ix2 d e)) (fun d => pb (ix2 0 d)) e

end Cert.Spec

end
-- ==== Proof.MixIdealPoint.lean ====
module

public import proofs.«01_k».proof.Proof.MixIdealFrame
public import proofs.«01_k».proof.Proof.MixSpec
public import proofs.«01_k».proof.Proof.OutprojIdealPoint
public import proofs.«01_k».proof.Proof.ReferenceValue

@[expose] public section

set_option maxRecDepth 16384
set_option Elab.async false

noncomputable section

namespace Cert.MixIdeal.Hand

open Cert.MixIdeal Cert.MixIdeal.Gen
open Idealize.ShloMosaic
open Idealize.ShloMosaic.TcCoe
open Cert.Spec
open Idealize.SL Idealize.SL.Sem
open Cert.InprojRefIdeal.Hand (ixe)
open Cert.ReferenceIdeal.Hand (ixe3)
open Cert.OutprojIdeal.Hand (ldR ldA)

/-! ## The neighbours of a tile's rows -/

/-- A row of a tile with its sequence's rows around it is a neighbour of one of the tile's own rows. -/
theorem halo_eq (u : Fin 40960 → EReal) (H t a k r y : ℕ) (E : EReal) (ht : t < 160) (hr : r < 256) (first last : BitVec 1)
    (hf : first = 1#1 ↔ posN (256 * t) = 0) (hl : last = 1#1 ↔ posN (256 * t) + 256 = lenN (256 * t)) (ha : a ≤ H) (hH : H ≤ 16)
    (hy : y + a = r + k + H) (hy' : y < 256 + 2 * H)
    (e1 : y < H → E = if first = 1#1 then 0 else u ⟨min (256 * t + y - H) 40959, by omega⟩)
    (e2 : H ≤ y → y < 256 + H → E = u ⟨min (256 * t + y - H) 40959, by omega⟩)
    (e3 : 256 + H ≤ y → E = if last = 1#1 then 0 else u ⟨min (256 * t + y - H) 40959, by omega⟩) :
    E = nbr u a ⟨256 * t + r, by omega⟩ k := by
  have hL : lenN (256 * t + r) = lenN (256 * t) := by
    unfold lenN
    split <;> split <;> omega
  have hP : posN (256 * t + r) = posN (256 * t) + r ∧ posN (256 * t) % 256 = 0 ∧ posN (256 * t) + 256 ≤ lenN (256 * t) ∧ lenN (256 * t) % 256 = 0 := by
    unfold posN
    rw [hL]
    unfold lenN
    split <;> omega
  have hI : (⟨min (256 * t + r + k - a) 40959, by omega⟩ : Fin 40960) = ⟨min (256 * t + y - H) 40959, by omega⟩ :=
    Fin.ext (show min (256 * t + r + k - a) 40959 = min (256 * t + y - H) 40959 by omega)
  obtain ⟨h1, h2, h3, h4⟩ := hP
  unfold nbr
  dsimp only
  rw [h1, hL, hI]
  by_cases c1 : y < H
  · rw [e1 c1]
    by_cases c : first = 1#1
    · rw [if_pos c, if_neg (by have := hf.mp c; omega)]
    · rw [if_neg c, if_pos (by have : ¬ posN (256 * t) = 0 := fun q => c (hf.mpr q); omega)]
  by_cases c2 : y < 256 + H
  · rw [e2 (by omega) c2, if_pos (by omega)]
  · rw [e3 (by omega)]
    by_cases c : last = 1#1
    · rw [if_pos c, if_neg (by have := hl.mp c; omega)]
    · rw [if_neg c, if_pos (by have : ¬ posN (256 * t) + 256 = lenN (256 * t) := fun q => c (hl.mpr q); omega)]

theorem first_iff : ∀ t : Fin cfg0.N, isFirst (grid0.coords t) = 1#1 ↔ posN (256 * t.val) = 0 :=
  (by decide +kernel : ∀ t : Fin grid0.N, isFirst (grid0.coords t) = 1#1 ↔ posN (256 * t.val) = 0)
theorem last_iff : ∀ t : Fin cfg0.N, isLast (grid0.coords t) = 1#1 ↔ posN (256 * t.val) + 256 = lenN (256 * t.val) :=
  (by decide +kernel : ∀ t : Fin grid0.N, isLast (grid0.coords t) = 1#1 ↔ posN (256 * t.val) + 256 = lenN (256 * t.val))
theorem pos0_eq : ∀ t : Fin cfg0.N, pos0 (grid0.coords t) = BitVec.ofNat 32 (posN (256 * t.val)) :=
  (by decide +kernel : ∀ t : Fin grid0.N, pos0 (grid0.coords t) = BitVec.ofNat 32 (posN (256 * t.val)))
theorem len_eq : ∀ t : Fin cfg0.N, len (grid0.coords t) = BitVec.ofNat 32 (lenN (256 * t.val)) :=
  (by decide +kernel : ∀ t : Fin grid0.N, len (grid0.coords t) = BitVec.ofNat 32 (lenN (256 * t.val)))

/-! ## The convolved half -/

/-- Adding terms one by one sums them. -/
theorem foldl_add {S : Shape} (f : Fin 31 → FVec Ideal S .f32) (y : S.Idx) : ∀ (l : List (Fin 31)) (b : FVec Ideal S .f32),
    (l.foldl (fun acc k => addf acc (f k)) b) y = b y + (l.map fun k => f k y).sum
  | [], b => (add_zero (b y : EReal)).symm
  | k :: l, b => by
    rw [List.foldl_cons, foldl_add f y l, List.map_cons, List.sum_cons]
    exact add_assoc (b y : EReal) (f k y) _

theorem conv_apply (E : Vec Ideal SExt .f32) (w : Vec Ideal S31x1024 .f32) (b : Vec Ideal S1x1024 .f32) (r : Fin 256) (d : Fin 1024) :
    conv E w b (ix2 r d) = (∑ k : Fin 31, E (ix2 ⟨r.val + k.val + 1, by omega⟩ d) * w (ix2 k d)) + b (ix2 0 d) := by
  unfold conv
  refine (foldl_add (fun k => mulf (rowK E k) (tapK w k)) (ix2 r d) taps _).trans ?_
  rw [add_comm]
  refine congr (congrArg (fun a b : EReal => a + b) ?_) (congrArg b (ixe _ _))
  have hp : taps.Perm (List.finRange 31) := by decide +kernel
  refine ((hp.map _).sum_eq).trans ?_
  rw [Fin.sum_univ_def]
  refine congrArg List.sum (List.map_congr_left fun k _ => ?_)
  exact congr (congrArg (fun a b : EReal => a * b) (congrArg E (ixe _ _))) (congrArg w (ixe _ _))

theorem dotM (X : FVec Ideal S256x1024 .bf16) (w : FVec Ideal S1024x1024 .bf16) (r : Fin 256) (e : Fin 1024) :
    matmul dot_S256x1024_S1024x1024_S256x1024_1_0_0_1_n_n none X w (constant S256x1024 .f32 0x00000000#32) (ix2 r e) = ∑ d : Fin 1024, X (ix2 r d) * w (ix2 d e) := by
  refine (Ideal.matmul_plain_apply (M := 256) (K := 1024) (N := 1024) none X w (constant S256x1024 .f32 0x00000000#32) r e).trans ?_
  show Ideal.ofBits .f32 0x00000000#32 + _ = _
  rw [Ideal.ofBits_zero_f32, zero_add]
  simp only [ixe]

theorem pay131_apply (v : Vec Ideal S256x1024 .f32) (r : Fin 256) : k0_pay131 v (ix2 r 0) = ∑ k : Fin 1024, v (ix2 r k) := by
  unfold k0_pay131
  dsimp only
  pointwise

/-- The stored rows, from the convolved ones. -/
theorem pay1_apply (v : Vec Ideal S256x1024 .f32) (g b : Vec Ideal S1x1024 .f32) (w : Vec Ideal S1024x1024 .bf16) (p : Vec Ideal S1x1024 .f32) (r : Fin 256) (e : Fin 1024) :
    k0_pay1 v (k0_pay131 v) (Scalar.ofBits .f32 0x44800000#32) g b w p (ix2 r e)
      = act (normed (centre fun k => v (ix2 r k)) (fun d => g (ix2 0 d)) (fun d => b (ix2 0 d))) (fun d e => w (ix2 d e)) (fun d => p (ix2 0 d)) e := by
  unfold k0_pay1 act normed centre
  dsimp only
  pointwise
  rw [pay131_apply v r]

/-! ## The rows around a tile -/

theorem sel_apply {S : Shape} (f : BitVec 1) (x : FVec Ideal S .f32) (y : S.Idx) :
    Scalar.select f (broadcast S (Scalar.ofBits .f32 0x00000000#32 : Ideal .f32)) x y = if f = 1#1 then (0 : EReal) else x y := by
  by_cases h : f = 1#1
  · rw [if_pos h]
    exact (congrFun (if_pos h) y).trans Ideal.ofBits_zero_f32
  · rw [if_neg h]
    exact congrFun (if_neg h) y

theorem pay108_apply (f : BitVec 1) (x : Vec Ideal S8x512 .f32) (r : Fin 8) (l : Fin 512) :
    k0_pay108 f (View.ld x qH) k0_pay107 (ix2 r l) = if f = 1#1 then (0 : EReal) else x (ix2 r l) := by
  refine (congrFun (shapeCast_self _ _) _).trans ((sel_apply f _ _).trans ?_)
  rw [ldA x]

theorem pay110_apply (f : BitVec 1) (x : Vec Ideal S8x512 .f32) (r : Fin 8) (l : Fin 512) :
    k0_pay110 f (View.ld x qH) (ix2 r l) = if f = 1#1 then (0 : EReal) else x (ix2 r l) := by
  refine (congrFun (shapeCast_self _ _) _).trans ((sel_apply f _ _).trans ?_)
  rw [ldA x]

theorem pay109_apply (x : Vec Ideal S256x512 .f32) (r : Fin 256) (l : Fin 512) : k0_pay109 (View.ld x qZ) (ix2 r l) = x (ix2 r l) :=
  (congrFun (shapeCast_self _ _) _).trans (ldA x _ _ _)

theorem pay120_apply (f : BitVec 1) (x : Vec Ideal S16x1024 .bf16) (r : Fin 16) (l : Fin 1024) :
    k0_pay120 f (View.ld x qW) (ix3 0 r l) = if f = 1#1 then (0 : EReal) else x (ix2 r l) := by
  rw [← ixe3]
  refine (ValueIdx.shapeCast_ab_1ab_apply _ _ _ _ _).trans ((sel_apply f _ _).trans ?_)
  rw [ixe]
  exact congrArg (fun z : EReal => if f = 1#1 then (0 : EReal) else z) (ldA x _ _ _)

theorem pay122_apply (f : BitVec 1) (x : Vec Ideal S16x1024 .bf16) (r : Fin 16) (l : Fin 1024) :
    k0_pay122 f (View.ld x qW) (ix3 0 r l) = if f = 1#1 then (0 : EReal) else x (ix2 r l) := pay120_apply f x r l

theorem pay121_apply (x : Vec Ideal S256x1024 .bf16) (r : Fin 256) (l : Fin 1024) : k0_pay121 (View.ld x qV) (ix3 0 r l) = x (ix2 r l) := by
  rw [← ixe3]
  unfold k0_pay121
  refine (ValueIdx.shapeCast_ab_1ab_apply (a := 256) (b := 1024) _ _ _ _ _).trans ?_
  rw [ixe]
  exact ldA x _ _ _

/-- The pooled half's rows with the rows around them, by their row. -/
def gZ (i : grid0.Coords) (x0 : Vec Ideal S256x512 .f32) (x1 x2 : Vec Ideal S8x512 .f32) (y : S272x512.Idx) : EReal :=
  if h : (y 0).val < 8 then k0_pay108 (isFirst i) (View.ld x1 qH) k0_pay107 (ix2 (⟨(y 0).val, h⟩ : Fin 8) (⟨(y 1).val, (y 1).isLt⟩ : Fin 512))
  else if h' : (y 0).val < 264 then k0_pay109 (View.ld x0 qZ) (ix2 (⟨(y 0).val - 8, by omega⟩ : Fin 256) (⟨(y 1).val, (y 1).isLt⟩ : Fin 512))
  else k0_pay110 (isLast i) (View.ld x2 qH) (ix2 (⟨(y 0).val - 264, by have : (y 0).val < 272 := (y 0).isLt; omega⟩ : Fin 8) (⟨(y 1).val, (y 1).isLt⟩ : Fin 512))

theorem extZ_apply (i : grid0.Coords) (x0 : Vec Ideal S256x512 .f32) (x1 x2 : Vec Ideal S8x512 .f32) (y : S272x512.Idx) : extZ i x0 x1 x2 y = gZ i x0 x1 x2 y := by
  unfold extZ
  refine View.canon_apply_of_pieces (Val := Elt Ideal) (gZ i x0 x1 x2) _ ?_ y (extZL_cover i x0 x1 x2 y)
  unfold extZL
  simp only [List.forall_mem_cons]
  refine ⟨fun x => ?_, fun x => ?_, fun x => ?_, fun p hp => absurd hp List.not_mem_nil⟩
  · have l0 : (x 0).val < 8 := (x 0).isLt
    unfold gZ
    rw [dif_neg (by show ¬ 264 + 1 * (x 0).val < 8; omega), dif_neg (by show ¬ 264 + 1 * (x 0).val < 264; omega)]
    refine congrArg _ (funext fun a => ?_)
    match a with
    | ⟨0, _⟩ => exact Fin.ext (by show (x 0).val = 264 + 1 * (x 0).val - 264; omega)
    | ⟨1, _⟩ => exact Fin.ext (by show (x 1).val = 0 + 1 * (x 1).val; omega)
  · have l0 : (x 0).val < 256 := (x 0).isLt
    unfold gZ
    rw [dif_neg (by show ¬ 8 + 1 * (x 0).val < 8; omega), dif_pos (by show 8 + 1 * (x 0).val < 264; omega)]
    refine congrArg _ (funext fun a => ?_)
    match a with
    | ⟨0, _⟩ => exact Fin.ext (by show (x 0).val = 8 + 1 * (x 0).val - 8; omega)
    | ⟨1, _⟩ => exact Fin.ext (by show (x 1).val = 0 + 1 * (x 1).val; omega)
  · have l0 : (x 0).val < 8 := (x 0).isLt
    unfold gZ
    rw [dif_pos (by show 0 + 1 * (x 0).val < 8; omega)]
    refine congrArg _ (funext fun a => ?_)
    match a with
    | ⟨0, _⟩ => exact Fin.ext (by show (x 0).val = 0 + 1 * (x 0).val; omega)
    | ⟨1, _⟩ => exact Fin.ext (by show (x 1).val = 0 + 1 * (x 1).val; omega)

section Halo

variable (t : Fin cfg0.N)

/-- A tile's pooled rows and the rows around them, as neighbours. -/
theorem extZ_nbr (z : S40960x512.Idx → EReal) (x0 : Vec Ideal S256x512 .f32) (x1 x2 : Vec Ideal S8x512 .f32)
    (h0 : ∀ (r : Fin 256) (l : Fin 512) (n : Fin 40960), n.val = 256 * t.val + r.val → x0 (ix2 r l) = z (ix2 n l))
    (h1 : t.val ≠ 0 → ∀ (r : Fin 8) (l : Fin 512) (n : Fin 40960), n.val + 8 = 256 * t.val + r.val → x1 (ix2 r l) = z (ix2 n l))
    (h2 : t.val ≠ 159 → ∀ (r : Fin 8) (l : Fin 512) (n : Fin 40960), n.val = 256 * t.val + 256 + r.val → x2 (ix2 r l) = z (ix2 n l))
    (a k r y : ℕ) (l : Fin 512) (hr : r < 256) (ha : a ≤ 8) (hy : y + a = r + k + 8) (hy' : y < 272) (n : Fin 40960) (hn : n.val = 256 * t.val + r) :
    extZ (grid0.coords t) x0 x1 x2 (ix2 (⟨y, hy'⟩ : Fin 272) l) = nbr (fun n => z (ix2 n l)) a n k := by
  have ht : t.val < 160 := t.isLt
  rw [show n = ⟨256 * t.val + r, by omega⟩ from Fin.ext hn]
  have f := first_iff t
  have g := last_iff t
  refine halo_eq (fun n => z (ix2 n l)) 8 t.val a k r y _ ht hr _ _ f g ha (by omega) hy (by omega) (fun q => ?_) (fun q q' => ?_) (fun q => ?_)
  · refine (extZ_apply _ _ _ _ _).trans ((dif_pos q).trans ((pay108_apply _ _ _ _).trans ?_))
    by_cases c : isFirst (grid0.coords t) = 1#1
    · rw [if_pos c, if_pos c]
    · rw [if_neg c, if_neg c]
      have c' : t.val ≠ 0 := fun e => c (f.mpr (by rw [e]; rfl))
      exact h1 c' _ _ _ (show min (256 * t.val + y - 8) 40959 + 8 = 256 * t.val + y by omega)
  · refine (extZ_apply _ _ _ _ _).trans ((dif_neg (show ¬ y < 8 by omega)).trans ((dif_pos q').trans ((pay109_apply _ _ _).trans ?_)))
    exact h0 _ _ _ (show min (256 * t.val + y - 8) 40959 = 256 * t.val + (y - 8) by omega)
  · refine (extZ_apply _ _ _ _ _).trans ((dif_neg (show ¬ y < 8 by omega)).trans ((dif_neg (show ¬ y < 264 by omega)).trans ((pay110_apply _ _ _ _).trans ?_)))
    by_cases c : isLast (grid0.coords t) = 1#1
    · rw [if_pos c, if_pos c]
    · rw [if_neg c, if_neg c]
      have c' : t.val ≠ 159 := fun e => c (g.mpr (by rw [e]; rfl))
      exact h2 c' _ _ _ (show min (256 * t.val + y - 8) 40959 = 256 * t.val + 256 + (y - 264) by omega)

/-- A tile's convolved rows and the rows around them, as neighbours. -/
theorem extV_nbr (z : S40960x1024.Idx → EReal) (x3 : Vec Ideal S256x1024 .bf16) (x4 x5 : Vec Ideal S16x1024 .bf16)
    (h0 : ∀ (r : Fin 256) (l : Fin 1024) (n : Fin 40960), n.val = 256 * t.val + r.val → x3 (ix2 r l) = z (ix2 n l))
    (h1 : t.val ≠ 0 → ∀ (r : Fin 16) (l : Fin 1024) (n : Fin 40960), n.val + 16 = 256 * t.val + r.val → x4 (ix2 r l) = z (ix2 n l))
    (h2 : t.val ≠ 159 → ∀ (r : Fin 16) (l : Fin 1024) (n : Fin 40960), n.val = 256 * t.val + 256 + r.val → x5 (ix2 r l) = z (ix2 n l))
    (k r y : ℕ) (l : Fin 1024) (hr : r < 256) (hy : y = r + k + 1) (hy' : y < 288) (n : Fin 40960) (hn : n.val = 256 * t.val + r) :
    extV (grid0.coords t) x3 x4 x5 (ix2 (⟨y, hy'⟩ : Fin 288) l) = nbr (fun n => z (ix2 n l)) 15 n k := by
  have ht : t.val < 160 := t.isLt
  rw [show n = ⟨256 * t.val + r, by omega⟩ from Fin.ext hn]
  have f := first_iff t
  have g := last_iff t
  refine halo_eq (fun n => z (ix2 n l)) 16 t.val 15 k r y _ ht hr _ _ f g (by omega) (by omega) (by omega) (by omega) (fun q => ?_) (fun q q' => ?_) (fun q => ?_)
  · refine (dif_pos q).trans (((congrArg _ (ixe3 _ _ _)).trans (pay120_apply _ _ _ _)).trans ?_)
    by_cases c : isFirst (grid0.coords t) = 1#1
    · rw [if_pos c, if_pos c]
    · rw [if_neg c, if_neg c]
      have c' : t.val ≠ 0 := fun e => c (f.mpr (by rw [e]; rfl))
      exact h1 c' _ _ _ (show min (256 * t.val + y - 16) 40959 + 16 = 256 * t.val + y by omega)
  · refine (dif_neg (show ¬ y < 16 by omega)).trans ((dif_pos q').trans (((congrArg _ (ixe3 _ _ _)).trans (pay121_apply _ _ _)).trans ?_))
    exact h0 _ _ _ (show min (256 * t.val + y - 16) 40959 = 256 * t.val + (y - 16) by omega)
  · refine (dif_neg (show ¬ y < 16 by omega)).trans ((dif_neg (show ¬ y < 272 by omega)).trans (((congrArg _ (ixe3 _ _ _)).trans (pay122_apply _ _ _ _)).trans ?_))
    by_cases c : isLast (grid0.coords t) = 1#1
    · rw [if_pos c, if_pos c]
    · rw [if_neg c, if_neg c]
      have c' : t.val ≠ 159 := fun e => c (g.mpr (by rw [e]; rfl))
      exact h2 c' _ _ _ (show min (256 * t.val + y - 16) 40959 = 256 * t.val + 256 + (y - 272) by omega)

end Halo

/-! ## The pooled half -/

/-- A running sum of windows is the sum over the window. -/
theorem total_apply (Z : Vec Ideal S272x512 .f32) (c r : ℕ) (y : Fin 256) (e : Fin 128) (f : ℕ → EReal) : ∀ (n : ℕ) (h : r + n ≤ 16 ∧ c ≤ 384),
    (∀ (k : ℕ) (hk : k ≤ n), Z (ix2 (⟨r + k + y.val, by omega⟩ : Fin 272) (⟨c + e.val, by omega⟩ : Fin 512)) = f k) →
    total Z c r n h (ix2 y e) = ∑ k ∈ Finset.range (n + 1), f k
  | 0, h, hf => by
    rw [Finset.sum_range_one, ← hf 0 le_rfl]
    show Z _ = Z _
    refine congrArg Z (funext fun a => ?_)
    match a with
    | ⟨0, _⟩ => exact Fin.ext (by show r + 1 * y.val = r + 0 + y.val; omega)
    | ⟨1, _⟩ => exact Fin.ext (by show c + 1 * e.val = c + e.val; omega)
  | n + 1, h, hf => by
    rw [Finset.sum_range_succ]
    refine congr (congrArg (fun a b : EReal => a + b) (total_apply Z c r y e f n _ fun k hk => hf k (by omega))) ?_
    rw [← hf (n + 1) le_rfl]
    show Z _ = Z _
    refine congrArg Z (funext fun a => ?_)
    match a with
    | ⟨0, _⟩ => exact Fin.ext (by show r + (n + 1) + 1 * y.val = r + (n + 1) + y.val; omega)
    | ⟨1, _⟩ => exact Fin.ext (by show c + 1 * e.val = c + e.val; omega)

theorem dotP (X : FVec Ideal S256x128 .bf16) (w : FVec Ideal S128x128 .bf16) (r : Fin 256) (e : Fin 128) :
    matmul dot_S256x128_S128x128_S256x128_1_0_0_1_n_n none X w (constant S256x128 .f32 0x00000000#32) (ix2 r e) = ∑ d : Fin 128, X (ix2 r d) * w (ix2 d e) := by
  refine (Ideal.matmul_plain_apply (M := 256) (K := 128) (N := 128) none X w (constant S256x128 .f32 0x00000000#32) r e).trans ?_
  show Ideal.ofBits .f32 0x00000000#32 + _ = _
  rw [Ideal.ofBits_zero_f32, zero_add]
  simp only [ixe]

/-- The positions of a tile's rows. -/
theorem pay111_apply (p : BitVec 32) (r : Fin 256) : k0_pay111 p (ix2 r 0) = p + BitVec.ofNat 32 r.val := by
  unfold k0_pay111
  dsimp only
  pointwise
  rfl

theorem pool_apply (i : grid0.Coords) (h h' : BitVec 32) (hh : h' = -h) (T U : FVec Ideal S256x128 .f32) (W : Vec Ideal S1x128x128 .bf16) (s : Vec Ideal S1x128 .f32) (r : Fin 256) (d : Fin 128) :
    pool i h h' T U W s (ix2 r d) = (∑ e : Fin 128, (Ideal.div (T (ix2 r e)) (cnt (pos0 i + BitVec.ofNat 32 r.val) (len i) h) - U (ix2 r e)) * W (ix3 0 e d)) * s (ix2 0 d) := by
  subst hh
  unfold pool
  have hc : FloatOps.sitofp (F := Ideal) .f32 (IntOp.subi (IntOp.minsi (IntOp.addi (k0_pay111 (pos0 i) (ix2 r 0)) h) (len i))
      (IntOp.maxsi (IntOp.addi (k0_pay111 (pos0 i) (ix2 r 0)) (-h)) 0#32)) = cnt (pos0 i + BitVec.ofNat 32 r.val) (len i) h := by
    rw [pay111_apply]
    unfold cnt
    rw [show IntOp.addi (pos0 i + BitVec.ofNat 32 r.val) (-h) = IntOp.subi (pos0 i + BitVec.ofNat 32 r.val) h from (BitVec.sub_eq_add_neg _ _).symm]
    rfl
  pointwise
  rw [hc]

end Cert.MixIdeal.Hand

end
-- ==== Proof.MixRefValue.lean ====
module

public import proofs.«01_k».proof.Proof.Gen.MixRefIdeal.Run
public import proofs.«01_k».proof.Proof.MixSpec
public import Idealize.ShloMosaic.Lib.Pointwise
public import Idealize.ShloMosaic.Lib.Pipeline.Value
public import Idealize.ShloMosaic.Lib.StackMember
public import Idealize.ShloMosaic.Lib.ValueIdxCore
public import Idealize.ShloMosaic.Lib.IdealHost

@[expose] public section

set_option maxRecDepth 16384
set_option Elab.async false

noncomputable section

namespace Cert.MixRefIdeal.Hand

open Cert.MixRefIdeal Cert.MixRefIdeal.Gen
open Idealize.ShloMosaic
open Cert.Spec
open Idealize.SL Idealize.SL.Sem

/-! ## Operations read at an index, at any number of neighbours -/

/-- A broadcast, read at an index. -/
theorem bid_apply {α : Type} {s t : Shape} (dims : Fin s.rank → Fin t.rank) (h : s.BroadcastsInDim t dims) (x : s.Idx → α) (j : t.Idx) (i : s.Idx)
    (hi : ∀ a, s.size a = 1 ∨ (i a).val = (j (dims a)).val) : broadcastInDim t dims h x j = x i := by
  unfold broadcastInDim
  congr 1
  funext a
  refine Fin.ext ?_
  split
  · next h1 =>
    have := (i a).isLt
    show 0 = (i a).val
    omega
  · next h1 =>
    rcases hi a with h2 | h2
    · exact absurd h2 h1
    · exact h2.symm

/-- Rows of an array, taken by a table of row numbers. -/
theorem rows_apply {α : Type} {w C : ℕ} (wf : GatherDims.WF ⟨2, ![40960, C]⟩ ⟨3, ![40960, w, 1]⟩ ⟨3, ![40960, w, C]⟩ [2] [0] [] [0] [] 2 ![1, C])
    (x : (⟨2, ![40960, C]⟩ : Shape).Idx → α) (idx : IVec ⟨3, ![40960, w, 1]⟩ 32) (n : Fin 40960) (k : Fin w) (l : Fin C) :
    Host.gather (⟨[2], [0], [], [], [0], 2, ![1, C], wf⟩ : GatherDims ⟨2, ![40960, C]⟩ ⟨3, ![40960, w, 1]⟩ ⟨3, ![40960, w, C]⟩) x idx (ix3 n k l)
      = x (ix2 ⟨min (idx (ix3 n k 0)).toInt.toNat 40959, by omega⟩ l) := by
  unfold Host.gather
  congr 1
  funext a
  refine Fin.ext ?_
  have h01 : a = 0 ∨ a = 1 := by
    match a with
    | ⟨0, _⟩ => exact Or.inl rfl
    | ⟨1, _⟩ => exact Or.inr rfl
  generalize hd : (⟨[2], [0], [], [], [0], 2, ![1, C], wf⟩ : GatherDims ⟨2, ![40960, C]⟩ ⟨3, ![40960, w, 1]⟩ ⟨3, ![40960, w, C]⟩) = dd
  show dd.start (ix3 n k l) idx a + dd.batchCoord (ix3 n k l) a + dd.offCoord (ix3 n k l) a = _
  rw [GatherDims.batchCoord_eq_zero _ _ _ (by subst hd; exact List.not_mem_nil)]
  rcases h01 with rfl | rfl
  · rw [GatherDims.offCoord_eq_zero _ _ _ (fun h => by subst hd; exact ((GatherDims.mem_sKept _ _).mp h).1 (List.mem_singleton.mpr rfl))]
    subst hd
    simp only [Nat.add_zero]
    unfold GatherDims.start
    rw [dif_pos (List.mem_singleton.mpr rfl)]
    refine congrArg (fun i : (⟨3, ![40960, w, 1]⟩ : Shape).Idx => min (idx i).toInt.toNat 40959) ?_
    funext b
    refine Fin.ext ?_
    match b with
    | ⟨0, _⟩ => rfl
    | ⟨1, _⟩ => rfl
    | ⟨2, _⟩ => rfl
  · subst hd
    unfold GatherDims.start
    rw [dif_neg (by simp)]
    unfold GatherDims.offCoord
    rw [dif_pos ((GatherDims.mem_sKept _ _).mpr ⟨by simp, List.not_mem_nil⟩)]
    show 0 + 0 + _ = l.val
    simp only [Nat.zero_add]
    rfl

/-- A sum of small words as an integer. -/
theorem word_eq (p k a : ℕ) : IntOp.addi (BitVec.ofNat 32 p) (IntOp.addi (BitVec.ofInt 32 (-(a : ℤ))) (BitVec.ofNat 32 k)) = BitVec.ofInt 32 ((p : ℤ) + k - a) := by
  show BitVec.ofNat 32 p + (BitVec.ofInt 32 (-(a : ℤ)) + BitVec.ofNat 32 k) = _
  rw [← BitVec.ofInt_natCast, ← BitVec.ofInt_natCast, ← BitVec.ofInt_add, ← BitVec.ofInt_add]
  congr 1
  omega

theorem word_int (x : ℤ) (h0 : -100000 < x) (h1 : x < 100000) : (BitVec.ofInt 32 x).toInt = x := by
  rw [BitVec.toInt_ofInt]
  exact Int.bmod_eq_of_le (by omega) (by omega)

theorem pos_lt (n : Fin 40960) : posN n.val < lenN n.val ∧ lenN n.val ≤ 8192 ∧ n.val < 40960 ∧ n.val + lenN n.val ≤ 40960 + posN n.val ∧ posN n.val ≤ n.val := by
  have h := n.isLt
  unfold posN lenN
  split <;> omega

/-- The neighbours' table of rows and the mask, read at an index. -/
theorem nbr_apply {w C : ℕ} (hw : w ≤ 31) (a : ℕ) (ha : a ≤ 31) (u : (⟨2, ![40960, C]⟩ : Shape).Idx → EReal) (P L : IVec S40960 32)
    (hP : ∀ n : Fin 40960, P (ix1 n) = BitVec.ofNat 32 (posN n.val)) (hL : ∀ n : Fin 40960, L (ix1 n) = BitVec.ofNat 32 (lenN n.val))
    (A R : IVec ⟨2, ![40960, w]⟩ 32)
    (hA : ∀ (n : Fin 40960) (k : Fin w), A (ix2 n k) = BitVec.ofInt 32 ((posN n.val : ℤ) + k.val - a))
    (hR : ∀ (n : Fin 40960) (k : Fin w), R (ix2 n k) = IntOp.minsi 40959#32 (IntOp.maxsi 0#32 (BitVec.ofInt 32 ((n.val : ℤ) + k.val - a))))
    (wf) (h1 h2 h3 h4 h5 h6 h7 h8 h9) (n : Fin 40960) (k : Fin w) (l : Fin C) :
    (select (broadcastInDim (⟨3, ![40960, w, C]⟩ : Shape) ![0, 1, 2] h1 (broadcastInDim (⟨3, ![40960, w, 1]⟩ : Shape) ![0, 1] h2
        (andi (cmpi .sge A (broadcastInDim (⟨2, ![40960, w]⟩ : Shape) ![] h3 (constantI S_ 32 0#32)))
          (cmpi .slt A (broadcastInDim (⟨2, ![40960, w]⟩ : Shape) ![0, 1] h4 (id (broadcastInDim S40960x1 ![0] h5 L)))))))
      (Host.gather (⟨[2], [0], [], [], [0], 2, ![1, C], wf⟩ : GatherDims ⟨2, ![40960, C]⟩ ⟨3, ![40960, w, 1]⟩ ⟨3, ![40960, w, C]⟩) u
        (broadcastInDim (⟨3, ![40960, w, 1]⟩ : Shape) ![0, 1] h6 (select (cmpi .slt R (broadcastInDim (⟨2, ![40960, w]⟩ : Shape) ![] h7 (constantI S_ 32 0#32)))
          (addi R (broadcastInDim (⟨2, ![40960, w]⟩ : Shape) ![] h8 (constantI S_ 32 40960#32))) R)))
      (broadcastInDim (⟨3, ![40960, w, C]⟩ : Shape) ![] h9 (id (constant (F := Ideal) S_ .f32 0x00000000#32))) : (⟨3, ![40960, w, C]⟩ : Shape).Idx → EReal) (ix3 n k l)
      = nbr (fun r => u (ix2 r l)) a n k.val := by
  obtain ⟨q1, q2, q3, q4, q5⟩ := pos_lt n
  have hk := k.isLt
  generalize hM : (andi (cmpi .sge A (broadcastInDim (⟨2, ![40960, w]⟩ : Shape) ![] h3 (constantI S_ 32 0#32)))
          (cmpi .slt A (broadcastInDim (⟨2, ![40960, w]⟩ : Shape) ![0, 1] h4 (id (broadcastInDim S40960x1 ![0] h5 L))))) = M
  have hm : M (ix2 n k) = IntOp.andi (IntOp.cmpi .sge (A (ix2 n k)) 0#32) (IntOp.cmpi .slt (A (ix2 n k)) (BitVec.ofNat 32 (lenN n.val))) := by
    rw [← hM]
    refine congrArg (fun z => IntOp.andi (IntOp.cmpi .sge (A (ix2 n k)) 0#32) (IntOp.cmpi .slt (A (ix2 n k)) z)) ?_
    refine (bid_apply _ h4 _ (ix2 n k) (ix2 n 0) (fun b => ?_)).trans ((bid_apply _ h5 L (ix2 n 0) (ix1 n) (fun b => ?_)).trans (hL n))
    · match b with
      | ⟨0, _⟩ => exact Or.inr rfl
      | ⟨1, _⟩ => exact Or.inl rfl
    · match b with
      | ⟨0, _⟩ => exact Or.inr rfl
  have e1 : broadcastInDim (⟨3, ![40960, w, C]⟩ : Shape) ![0, 1, 2] h1 (broadcastInDim (⟨3, ![40960, w, 1]⟩ : Shape) ![0, 1] h2 M) (ix3 n k l) = M (ix2 n k) := by
    refine (bid_apply _ h1 _ (ix3 n k l) (ix3 n k 0) (fun b => ?_)).trans (bid_apply _ h2 M (ix3 n k 0) (ix2 n k) (fun b => ?_))
    · match b with
      | ⟨0, _⟩ => exact Or.inr rfl
      | ⟨1, _⟩ => exact Or.inr rfl
      | ⟨2, _⟩ => exact Or.inl rfl
    · match b with
      | ⟨0, _⟩ => exact Or.inr rfl
      | ⟨1, _⟩ => exact Or.inr rfl
  have hr : (IntOp.minsi 40959#32 (IntOp.maxsi 0#32 (BitVec.ofInt 32 ((n.val : ℤ) + k.val - a)))).toInt = min 40959 (max 0 ((n.val : ℤ) + k.val - a)) := by
    have hx := word_int ((n.val : ℤ) + k.val - a) (by omega) (by omega)
    generalize BitVec.ofInt 32 ((n.val : ℤ) + k.val - a) = x at hx
    have z0 : (0#32 : BitVec 32).toInt = 0 := rfl
    have z1 : (40959#32 : BitVec 32).toInt = 40959 := rfl
    unfold IntOp.minsi IntOp.maxsi
    simp only [BitVec.slt, decide_eq_true_eq]
    split <;> split at * <;> omega
  have hs : (select (cmpi .slt R (broadcastInDim (⟨2, ![40960, w]⟩ : Shape) ![] h7 (constantI S_ 32 0#32)))
          (addi R (broadcastInDim (⟨2, ![40960, w]⟩ : Shape) ![] h8 (constantI S_ 32 40960#32))) R : IVec ⟨2, ![40960, w]⟩ 32) (ix2 n k) = R (ix2 n k) := by
    show Scalar.select (IntOp.cmpi .slt (R (ix2 n k)) 0#32) (IntOp.addi (R (ix2 n k)) 40960#32) (R (ix2 n k)) = _
    have : IntOp.cmpi .slt (R (ix2 n k)) 0#32 = 0#1 := by
      rw [hR]
      have hlt : (IntOp.minsi 40959#32 (IntOp.maxsi 0#32 (BitVec.ofInt 32 ((n.val : ℤ) + k.val - a)))).slt 0#32 = false := by
        simp only [BitVec.slt, decide_eq_false_iff_not]
        rw [hr]
        have z0 : (0#32 : BitVec 32).toInt = 0 := rfl
        omega
      show BitVec.ofBool (BitVec.slt _ _) = _
      rw [hlt]
      rfl
    rw [this]
    rfl
  generalize (select (cmpi .slt R (broadcastInDim (⟨2, ![40960, w]⟩ : Shape) ![] h7 (constantI S_ 32 0#32)))
          (addi R (broadcastInDim (⟨2, ![40960, w]⟩ : Shape) ![] h8 (constantI S_ 32 40960#32))) R : IVec ⟨2, ![40960, w]⟩ 32) = R' at hs
  have e2 := rows_apply wf u (broadcastInDim (⟨3, ![40960, w, 1]⟩ : Shape) ![0, 1] h6 R') n k l
  have e3 : broadcastInDim (⟨3, ![40960, w, 1]⟩ : Shape) ![0, 1] h6 R' (ix3 n k 0) = R (ix2 n k) := by
    refine (bid_apply _ h6 R' (ix3 n k 0) (ix2 n k) (fun b => ?_)).trans hs
    match b with
    | ⟨0, _⟩ => exact Or.inr rfl
    | ⟨1, _⟩ => exact Or.inr rfl
  show Scalar.select (broadcastInDim (⟨3, ![40960, w, C]⟩ : Shape) ![0, 1, 2] h1 (broadcastInDim (⟨3, ![40960, w, 1]⟩ : Shape) ![0, 1] h2 M) (ix3 n k l)) (Host.gather _ u _ (ix3 n k l)) (Ideal.ofBits .f32 0x00000000#32) = _
  rw [e1, e2, hm, hA, Ideal.ofBits_zero_f32]
  have hx := word_int ((posN n.val : ℤ) + k.val - a) (by omega) (by omega)
  have hl : (BitVec.ofNat 32 (lenN n.val)).toInt = lenN n.val := by
    rw [← BitVec.ofInt_natCast]
    exact word_int _ (by omega) (by omega)
  generalize BitVec.ofInt 32 ((posN n.val : ℤ) + k.val - a) = x at hx
  generalize BitVec.ofNat 32 (lenN n.val) = y at hl
  unfold nbr
  by_cases hin : a ≤ posN n.val + k.val ∧ posN n.val + k.val < a + lenN n.val
  · rw [if_pos hin]
    have c1 : IntOp.cmpi .sge x 0#32 = 1#1 := by
      show BitVec.ofBool (BitVec.sle _ _) = _
      have : BitVec.sle 0#32 x = true := by
        simp only [BitVec.sle, decide_eq_true_eq]
        have z0 : (0#32 : BitVec 32).toInt = 0 := rfl
        omega
      rw [this]
      rfl
    have c2 : IntOp.cmpi .slt x y = 1#1 := by
      show BitVec.ofBool (BitVec.slt _ _) = _
      have : BitVec.slt x y = true := by
        simp only [BitVec.slt, decide_eq_true_eq]
        omega
      rw [this]
      rfl
    rw [c1, c2]
    refine Eq.trans (if_pos rfl) ?_
    refine congrArg (fun r => u (ix2 r l)) (Fin.ext ?_)
    show min _ 40959 = min _ 40959
    rw [e3, hR, hr]
    omega
  · rw [if_neg hin]
    refine Eq.trans (if_neg ?_) rfl
    intro hc
    apply hin
    have c1 : BitVec.sle 0#32 x = true := by
      by_contra hf
      rw [Bool.not_eq_true] at hf
      have : IntOp.cmpi .sge x 0#32 = 0#1 := by
        show BitVec.ofBool (BitVec.sle _ _) = _
        rw [hf]
        rfl
      rw [this] at hc
      have hz : IntOp.andi 0#1 (IntOp.cmpi .slt x y) = 0#1 := BitVec.zero_and
      rw [hz] at hc
      exact absurd hc (by decide)
    have c2 : BitVec.slt x y = true := by
      by_contra hf
      rw [Bool.not_eq_true] at hf
      have : IntOp.cmpi .slt x y = 0#1 := by
        show BitVec.ofBool (BitVec.slt _ _) = _
        rw [hf]
        rfl
      rw [this] at hc
      have hz : IntOp.andi (IntOp.cmpi .sge x 0#32) 0#1 = 0#1 := BitVec.and_zero
      rw [hz] at hc
      exact absurd hc (by decide)
    simp only [BitVec.sle, BitVec.slt, decide_eq_true_eq] at c1 c2
    have z0 : (0#32 : BitVec 32).toInt = 0 := rfl
    omega

/-- The host's sum over the neighbours. -/
theorem sum_apply {w C : ℕ} (X : FVec Ideal (⟨3, ![40960, w, C]⟩ : Shape) .f32) (h1 : (⟨3, ![40960, w, C]⟩ : Shape).ReducesTo [1] ⟨2, ![40960, C]⟩) (h2) (n : Fin 40960) (l : Fin C) :
    Host.reduceAdd X (constant S_ .f32 0x00000000#32) h1 h2 (ix2 n l) = ∑ k : Fin w, X (ix3 n k l) := by
  pointwise

/-- The host's sum of a row. -/
theorem rsum_apply (X : FVec Ideal S40960x1024 .f32) (h1 : S40960x1024.ReducesTo [1] S40960) (h2) (n : Fin 40960) :
    Host.reduceAdd X (constant S_ .f32 0x00000000#32) h1 h2 (ix1 n) = ∑ k : Fin 1024, X (ix2 n k) := by
  pointwise

theorem dotP (A : FVec Ideal S40960x128 .f32) (B : FVec Ideal S128x128 .f32) (a : Fin 40960) (b : Fin 128) :
    Host.dotGeneral dot_S40960x128_S128x128_S40960x128_1_0_0_1_n_n none A B (ix2 a b) = ∑ c : Fin 128, A (ix2 a c) * B (ix2 c b) := by
  pointwise

theorem dotW (A : FVec Ideal S40960x1024 .f32) (B : FVec Ideal S1024x1024 .f32) (a : Fin 40960) (b : Fin 1024) :
    Host.dotGeneral dot_S40960x1024_S1024x1024_S40960x1024_1_0_0_1_n_n none A B (ix2 a b) = ∑ c : Fin 1024, A (ix2 a c) * B (ix2 c b) := by
  pointwise

/-- A reshaping, read at an index. -/
theorem cast_apply {α : Type} {s t : Shape} (h : s.ShapeCasts t) (X : s.Idx → α) (j : t.Idx) (i : s.Idx) (e : Shape.reshapeEquiv h j = i) : shapeCast t X h j = X i :=
  congrArg X e

/-- The positions, tiled. -/
theorem posA_apply (I : S2048.Idx → BitVec 32) (h1 h2 h3) (n : Fin 8192) :
    shapeCast S8192 (broadcastInDim S4x2048 ![0, 1] h1 (shapeCast S1x2048 I h2)) h3 (ix1 n) = I (ix1 ⟨n.val % 2048, by omega⟩) := by
  have e : Shape.reshapeEquiv h3 (ix1 n) = (ix2 ⟨n.val / 2048, by omega⟩ ⟨n.val % 2048, by omega⟩ : S4x2048.Idx) :=
    Shape.reshapeEquiv_eq_of_vals h3 _ _ _ _ (Shape.rowMajor_val_two _) (Shape.rowMajor_val_one _) (by
      show n.val / 2048 * 2048 + n.val % 2048 = n.val
      omega)
  refine (cast_apply h3 _ _ _ e).trans ((bid_apply _ h1 _ (ix2 ⟨n.val / 2048, by omega⟩ ⟨n.val % 2048, by omega⟩) (ix2 0 ⟨n.val % 2048, by omega⟩) (fun b => ?_)).trans ?_)
  · match b with
    | ⟨0, _⟩ => exact Or.inl rfl
    | ⟨1, _⟩ => exact Or.inr rfl
  · exact cast_apply h2 I (ix2 0 ⟨n.val % 2048, by omega⟩) (ix1 ⟨n.val % 2048, by omega⟩)
      (Shape.reshapeEquiv_eq_of_vals h2 _ _ _ _ (Shape.rowMajor_val_one _) (Shape.rowMajor_val_two _) (by
        show n.val % 2048 = 0 * 2048 + n.val % 2048
        omega))

theorem posB_apply (I : S8192.Idx → BitVec 32) (h1 h2 h3) (n : Fin 32768) :
    shapeCast S32768 (broadcastInDim S4x8192 ![0, 1] h1 (shapeCast S1x8192 I h2)) h3 (ix1 n) = I (ix1 ⟨n.val % 8192, by omega⟩) := by
  have e : Shape.reshapeEquiv h3 (ix1 n) = (ix2 ⟨n.val / 8192, by omega⟩ ⟨n.val % 8192, by omega⟩ : S4x8192.Idx) :=
    Shape.reshapeEquiv_eq_of_vals h3 _ _ _ _ (Shape.rowMajor_val_two _) (Shape.rowMajor_val_one _) (by
      show n.val / 8192 * 8192 + n.val % 8192 = n.val
      omega)
  refine (cast_apply h3 _ _ _ e).trans ((bid_apply _ h1 _ (ix2 ⟨n.val / 8192, by omega⟩ ⟨n.val % 8192, by omega⟩) (ix2 0 ⟨n.val % 8192, by omega⟩) (fun b => ?_)).trans ?_)
  · match b with
    | ⟨0, _⟩ => exact Or.inl rfl
    | ⟨1, _⟩ => exact Or.inr rfl
  · exact cast_apply h2 I (ix2 0 ⟨n.val % 8192, by omega⟩) (ix1 ⟨n.val % 8192, by omega⟩)
      (Shape.reshapeEquiv_eq_of_vals h2 _ _ _ _ (Shape.rowMajor_val_one _) (Shape.rowMajor_val_two _) (by
        show n.val % 8192 = 0 * 8192 + n.val % 8192
        omega))

/-- Two tables, one after the other. -/
theorem cat2_apply (A : S8192.Idx → BitVec 32) (B : S32768.Idx → BitVec 32) (h) (n : Fin 40960) :
    concatenate S40960 0 [⟨S8192, A⟩, ⟨S32768, B⟩] h (ix1 n) = if hl : n.val < 8192 then A (ix1 ⟨n.val, hl⟩) else B (ix1 ⟨n.val - 8192, by omega⟩) := by
  have hn := n.isLt
  split
  · next hl =>
    refine concatenate_apply_piece (t := S40960) 0 _ _ _ 0 (by simp) S8192 _ rfl rfl 0 rfl (ix1 ⟨n.val, hl⟩) (fun b hb => ?_) (show 0 + n.val = n.val by omega)
    match b with
    | ⟨0, _⟩ => exact absurd rfl hb
  · next hl =>
    refine concatenate_apply_piece (t := S40960) 0 _ _ _ 1 (by simp) S32768 _ rfl rfl 8192 rfl (ix1 ⟨n.val - 8192, by omega⟩) (fun b hb => ?_) (show 8192 + (n.val - 8192) = n.val by omega)
    match b with
    | ⟨0, _⟩ => exact absurd rfl hb

section
variable (V0 : Valuation τ sig (Elt Ideal))

theorem pos_apply (n : Fin 40960) : Value.res_main_v8 V0 (ix1 n) = BitVec.ofNat 32 (posN n.val) := by
  have hn := n.isLt
  unfold Value.res_main_v8
  refine (cat2_apply _ _ _ n).trans ?_
  unfold posN lenN
  split
  · exact posA_apply _ _ _ _ _
  · refine (posB_apply _ _ _ _ _).trans (congrArg (BitVec.ofNat 32) ?_)
    show (n.val - 8192) % 8192 = n.val % 8192
    omega

theorem len_apply (n : Fin 40960) : Value.res_main_v11 V0 (ix1 n) = BitVec.ofNat 32 (lenN n.val) := by
  unfold Value.res_main_v11
  refine (cat2_apply _ _ _ n).trans ?_
  unfold lenN
  split <;> rfl
end

/-- Where a row's neighbours lie in its sequence. -/
theorem at_apply {w : ℕ} (a : ℕ) (c : BitVec 32) (hc : c = BitVec.ofInt 32 (-(a : ℤ))) (P : IVec S40960 32) (p : Fin 40960 → ℕ) (hP : ∀ n : Fin 40960, P (ix1 n) = BitVec.ofNat 32 (p n))
    (h1 h2 h3 h4 h5) (n : Fin 40960) (k : Fin w) :
    (addi (broadcastInDim (⟨2, ![40960, w]⟩ : Shape) ![0, 1] h1 (broadcastInDim S40960x1 ![0] h2 P))
      (broadcastInDim (⟨2, ![40960, w]⟩ : Shape) ![0, 1] h3 (broadcastInDim (⟨2, ![1, w]⟩ : Shape) ![1] h4
        (addi (broadcastInDim (⟨1, ![w]⟩ : Shape) ![] h5 (constantI S_ 32 c)) (iotaInDim (⟨1, ![w]⟩ : Shape) 32 0)))) : IVec (⟨2, ![40960, w]⟩ : Shape) 32) (ix2 n k)
      = BitVec.ofInt 32 ((p n : ℤ) + k.val - a) := by
  rw [← word_eq, ← hc, ← hP n]
  refine congr (congrArg IntOp.addi ?_) ?_
  · refine (bid_apply _ h1 _ (ix2 n k) (ix2 n 0) (fun b => ?_)).trans (bid_apply _ h2 P (ix2 n 0) (ix1 n) (fun b => ?_))
    · match b with
      | ⟨0, _⟩ => exact Or.inr rfl
      | ⟨1, _⟩ => exact Or.inl rfl
    · match b with
      | ⟨0, _⟩ => exact Or.inr rfl
  · refine (bid_apply _ h3 _ (ix2 n k) (ix2 0 k) (fun b => ?_)).trans (bid_apply _ h4 _ (ix2 0 k) (ix1 k) (fun b => ?_))
    · match b with
      | ⟨0, _⟩ => exact Or.inl rfl
      | ⟨1, _⟩ => exact Or.inr rfl
    · match b with
      | ⟨0, _⟩ => exact Or.inr rfl

/-- One pool, entry by entry. -/
theorem pool_apply {w : ℕ} (h : ℕ) (hw : w = 2 * h) (hw' : w ≤ 31) (u : FVec Ideal S40960x128 .f32) (wt : FVec Ideal S128x128 .f32) (P L : IVec S40960 32)
    (hP : ∀ n : Fin 40960, P (ix1 n) = BitVec.ofNat 32 (posN n.val)) (hL : ∀ n : Fin 40960, L (ix1 n) = BitVec.ofNat 32 (lenN n.val))
    (X : FVec Ideal (⟨3, ![40960, w, 128]⟩ : Shape) .f32) (hX : ∀ (n : Fin 40960) (k : Fin w) (l : Fin 128), X (ix3 n k l) = nbr (fun r => u (ix2 r l)) h n k.val)
    (h1 : (⟨3, ![40960, w, 128]⟩ : Shape).ReducesTo [1] ⟨2, ![40960, 128]⟩) (h2 h3 h4 h5 h6 h7) (H : BitVec 32) (hH : H = BitVec.ofNat 32 h) (n : Fin 40960) (d : Fin 128) :
    Host.dotGeneral dot_S40960x128_S128x128_S40960x128_1_0_0_1_n_n none (subf (Host.divf (Host.reduceAdd X (constant S_ .f32 0x00000000#32) h1 h2)
      (broadcastInDim S40960x128 ![0, 1] h3 (broadcastInDim S40960x1 ![0] h4 (sitofp .f32 (subi (minsi (addi P (broadcastInDim S40960 ![] h5 (constantI S_ 32 H))) (id L))
        (maxsi (subi P (broadcastInDim S40960 ![] h6 (constantI S_ 32 H))) (broadcastInDim S40960 ![] h7 (constantI S_ 32 0#32)))))))) u) wt (ix2 n d)
      = poolRow h (fun r e => u (ix2 r e)) (fun e d => wt (ix2 e d)) n d := by
  refine (dotP _ _ n d).trans ?_
  unfold poolRow
  refine Finset.sum_congr rfl fun e _ => ?_
  refine congrArg (fun z => z * wt (ix2 e d)) ?_
  refine congrArg (fun z => z - u (ix2 n e)) ?_
  refine congr (congrArg Ideal.div ?_) ?_
  · refine (sum_apply X h1 h2 n e).trans ?_
    rw [← hw, Finset.sum_range]
    exact Finset.sum_congr rfl fun k _ => hX n k e
  · refine (bid_apply _ h3 _ (ix2 n e) (ix2 n 0) (fun b => ?_)).trans ((bid_apply _ h4 _ (ix2 n 0) (ix1 n) (fun b => ?_)).trans ?_)
    · match b with
      | ⟨0, _⟩ => exact Or.inr rfl
      | ⟨1, _⟩ => exact Or.inl rfl
    · match b with
      | ⟨0, _⟩ => exact Or.inr rfl
    · rw [← hP n, ← hL n, ← hH]
      rfl

/-! ## The two results -/

/-- The arguments and the intermediate arrays, as arrays of their shapes. -/
abbrev a0 (V0 : Valuation τ sig (Elt Ideal)) : FVec Ideal S40960x512 .f32 := V0 (Proc.devRef .tc main_arg0)
abbrev a1 (V0 : Valuation τ sig (Elt Ideal)) : FVec Ideal S40960x1024 .bf16 := V0 (Proc.devRef .tc main_arg1)
abbrev a2 (V0 : Valuation τ sig (Elt Ideal)) : FVec Ideal S4x128x128 .bf16 := V0 (Proc.devRef .tc main_arg2)
abbrev a3 (V0 : Valuation τ sig (Elt Ideal)) : FVec Ideal S1x512 .f32 := V0 (Proc.devRef .tc main_arg3)
abbrev a4 (V0 : Valuation τ sig (Elt Ideal)) : FVec Ideal S31x1024 .f32 := V0 (Proc.devRef .tc main_arg4)
abbrev a5 (V0 : Valuation τ sig (Elt Ideal)) : FVec Ideal S1x1024 .f32 := V0 (Proc.devRef .tc main_arg5)
abbrev a6 (V0 : Valuation τ sig (Elt Ideal)) : FVec Ideal S1x1024 .f32 := V0 (Proc.devRef .tc main_arg6)
abbrev a7 (V0 : Valuation τ sig (Elt Ideal)) : FVec Ideal S1x1024 .f32 := V0 (Proc.devRef .tc main_arg7)
abbrev a8 (V0 : Valuation τ sig (Elt Ideal)) : FVec Ideal S1024x1024 .bf16 := V0 (Proc.devRef .tc main_arg8)
abbrev a9 (V0 : Valuation τ sig (Elt Ideal)) : FVec Ideal S1x1024 .f32 := V0 (Proc.devRef .tc main_arg9)
def y216 (V0 : Valuation τ sig (Elt Ideal)) : FVec Ideal S40960x512 .f32 := Value.res_main_v216 V0
def y256 (V0 : Valuation τ sig (Elt Ideal)) : FVec Ideal S40960x1024 .f32 := Value.res_main_v256 V0
def y262 (V0 : Valuation τ sig (Elt Ideal)) : FVec Ideal S40960x1024 .f32 := Value.res_main_v262 V0
def y276 (V0 : Valuation τ sig (Elt Ideal)) : FVec Ideal S40960x1024 .f32 := Value.res_main_v276 V0

/-- Four pools, one beside the other. -/
theorem cat4_apply (A : Fin 4 → S40960x128.Idx → EReal) (h) (n : Fin 40960) (g : Fin 4) (d : Fin 128) :
    concatenate S40960x512 1 [⟨S40960x128, A 0⟩, ⟨S40960x128, A 1⟩, ⟨S40960x128, A 2⟩, ⟨S40960x128, A 3⟩] h (ix2 n (⟨g.val * 128 + d.val, by omega⟩ : Fin 512)) = A g (ix2 n d) := by
  match g with
  | ⟨0, _⟩ => exact concatenate_apply_piece (t := S40960x512) 1 _ _ _ 0 (by simp) S40960x128 (A 0) rfl rfl 0 rfl (ix2 n d) (fun b hb => match b, hb with | ⟨0, _⟩, _ => rfl | ⟨1, _⟩, hb => absurd rfl hb) rfl
  | ⟨1, _⟩ => exact concatenate_apply_piece (t := S40960x512) 1 _ _ _ 1 (by simp) S40960x128 (A 1) rfl rfl 128 rfl (ix2 n d) (fun b hb => match b, hb with | ⟨0, _⟩, _ => rfl | ⟨1, _⟩, hb => absurd rfl hb) rfl
  | ⟨2, _⟩ => exact concatenate_apply_piece (t := S40960x512) 1 _ _ _ 2 (by simp) S40960x128 (A 2) rfl rfl 256 rfl (ix2 n d) (fun b hb => match b, hb with | ⟨0, _⟩, _ => rfl | ⟨1, _⟩, hb => absurd rfl hb) rfl
  | ⟨3, _⟩ => exact concatenate_apply_piece (t := S40960x512) 1 _ _ _ 3 (by simp) S40960x128 (A 3) rfl rfl 384 rfl (ix2 n d) (fun b hb => match b, hb with | ⟨0, _⟩, _ => rfl | ⟨1, _⟩, hb => absurd rfl hb) rfl

/-- One group's columns. -/
theorem cut_apply (X : S40960x512.Idx → EReal) (g : ℕ) (hg : g < 4) (h) (n : Fin 40960) (e : Fin 128) :
    extractStridedSlice S40960x128 ![0, g * 128] X h (ix2 n e) = X (ix2 n ⟨g * 128 + e.val, by omega⟩) := by
  refine congrArg X ?_
  funext a
  match a with
  | ⟨0, _⟩ => exact Fin.ext (show 0 + n.val = n.val by omega)
  | ⟨1, _⟩ => rfl

/-- One group's weights. -/
theorem wt_apply (W : FVec Ideal S4x128x128 .bf16) (g : ℕ) (hg : g < 4) (h1 h2 h3) (e d : Fin 128) :
    (extf .f32 (shapeCast S128x128 (extractStridedSlice S1x128x128 ![g, 0, 0] W h1) h2) h3 : FVec Ideal S128x128 .f32) (ix2 e d) = W (ix3 ⟨g, hg⟩ e d) := by
  have e1 : Shape.reshapeEquiv h2 (ix2 e d) = (ix3 0 e d : S1x128x128.Idx) :=
    Shape.reshapeEquiv_eq_of_vals h2 _ _ _ _ (Shape.rowMajor_val_three _) (Shape.rowMajor_val_two _) (by
      show (0 * 128 + e.val) * 128 + d.val = e.val * 128 + d.val
      omega)
  refine (cast_apply h2 (extractStridedSlice S1x128x128 ![g, 0, 0] W h1) _ _ e1).trans (congrArg W ?_)
  funext a
  match a with
  | ⟨0, _⟩ => rfl
  | ⟨1, _⟩ => exact Fin.ext (show 0 + e.val = e.val by omega)
  | ⟨2, _⟩ => exact Fin.ext (show 0 + d.val = d.val by omega)

section
variable (V0 : Valuation τ sig (Elt Ideal))

/-- One group's pool, from the first argument and the weights. -/
theorem group_apply {w : ℕ} (g : ℕ) (hg : g < 4) (hw : w = 2 * 2 ^ g) (hw' : w ≤ 31) (x0 : FVec Ideal S40960x512 .f32) (W : FVec Ideal S4x128x128 .bf16)
    (X : FVec Ideal (⟨3, ![40960, w, 128]⟩ : Shape) .f32) (hs) (hX : ∀ (n : Fin 40960) (k : Fin w) (l : Fin 128),
      X (ix3 n k l) = nbr (fun r => (extractStridedSlice S40960x128 ![0, g * 128] x0 hs) (ix2 r l)) (2 ^ g) n k.val)
    (h1 : (⟨3, ![40960, w, 128]⟩ : Shape).ReducesTo [1] ⟨2, ![40960, 128]⟩) (h2 h3 h4 h5 h6 h7 h8 h9 h10) (H : BitVec 32) (hH : H = BitVec.ofNat 32 (2 ^ g)) (n : Fin 40960) (d : Fin 128) :
    Host.dotGeneral dot_S40960x128_S128x128_S40960x128_1_0_0_1_n_n none (subf (Host.divf (Host.reduceAdd X (constant S_ .f32 0x00000000#32) h1 h2)
      (broadcastInDim S40960x128 ![0, 1] h3 (broadcastInDim S40960x1 ![0] h4 (sitofp .f32 (subi (minsi (addi (Value.res_main_v8 V0) (broadcastInDim S40960 ![] h5 (constantI S_ 32 H))) (id (Value.res_main_v11 V0)))
        (maxsi (subi (Value.res_main_v8 V0) (broadcastInDim S40960 ![] h6 (constantI S_ 32 H))) (broadcastInDim S40960 ![] h7 (constantI S_ 32 0#32)))))))) (extractStridedSlice S40960x128 ![0, g * 128] x0 hs))
      (extf .f32 (shapeCast S128x128 (extractStridedSlice S1x128x128 ![g, 0, 0] W h8) h9) h10) (ix2 n d)
      = poolRow (2 ^ g) (fun r e => x0 (ix2 r ⟨g * 128 + e.val, by omega⟩)) (fun e d => W (ix3 ⟨g, hg⟩ e d)) n d := by
  refine (pool_apply (2 ^ g) hw hw' _ _ _ _ (pos_apply V0) (len_apply V0) X hX h1 h2 h3 h4 h5 h6 h7 H hH n d).trans ?_
  refine congr (congr (congr (congrArg (poolRow (2 ^ g)) ?_) ?_) rfl) rfl
  · funext r e
    exact cut_apply x0 g hg hs r e
  · funext e d
    exact wt_apply W g hg h8 h9 h10 e d

/-- Where the neighbours lie, cut to the array. -/
theorem row_apply {w : ℕ} (a : ℕ) (c : BitVec 32) (hc : c = BitVec.ofInt 32 (-(a : ℤ))) (h1 h2 h3 h4 h5 h6 h7) (n : Fin 40960) (k : Fin w) :
    (minsi (broadcastInDim (⟨2, ![40960, w]⟩ : Shape) ![] h6 (id (constantI S_ 32 40959#32))) (maxsi (broadcastInDim (⟨2, ![40960, w]⟩ : Shape) ![] h7 (id (constantI S_ 32 0#32)))
      (addi (broadcastInDim (⟨2, ![40960, w]⟩ : Shape) ![0, 1] h1 (broadcastInDim S40960x1 ![0] h2 (iotaInDim S40960 32 0)))
      (broadcastInDim (⟨2, ![40960, w]⟩ : Shape) ![0, 1] h3 (broadcastInDim (⟨2, ![1, w]⟩ : Shape) ![1] h4
        (addi (broadcastInDim (⟨1, ![w]⟩ : Shape) ![] h5 (constantI S_ 32 c)) (iotaInDim (⟨1, ![w]⟩ : Shape) 32 0)))))) : IVec (⟨2, ![40960, w]⟩ : Shape) 32) (ix2 n k)
      = IntOp.minsi 40959#32 (IntOp.maxsi 0#32 (BitVec.ofInt 32 ((n.val : ℤ) + k.val - a))) :=
  congrArg (fun z => IntOp.minsi 40959#32 (IntOp.maxsi 0#32 z)) (at_apply a c hc (iotaInDim S40960 32 0) (fun n => n.val) (fun _ => rfl) h1 h2 h3 h4 h5 n k)

/-- The pools, entry by entry. -/
theorem pools_apply (n : Fin 40960) (g : Fin 4) (d : Fin 128) :
    y216 V0 (ix2 n (⟨g.val * 128 + d.val, by omega⟩ : Fin 512))
      = poolRow (2 ^ g.val) (fun r e => a0 V0 (ix2 r ⟨g.val * 128 + e.val, by omega⟩)) (fun e d => a2 V0 (ix3 g e d)) n d := by
  unfold y216 Value.res_main_v216
  refine (cat4_apply ![_, _, _, _] _ n g d).trans ?_
  match g with
  | ⟨0, _⟩ =>
    exact group_apply V0 (w := 2) 0 (by omega) rfl (by omega) (a0 V0) (a2 V0) _ _
      (fun n k l => nbr_apply (by omega) 1 (by omega) _ _ _ (pos_apply V0) (len_apply V0) _ _ (fun n k => at_apply 1 _ rfl _ _ (pos_apply V0) _ _ _ _ _ n k)
        (fun n k => row_apply 1 _ rfl _ _ _ _ _ _ _ n k) _ _ _ _ _ _ _ _ _ _ n k l) _ _ _ _ _ _ _ _ _ _ _ rfl n d
  | ⟨1, _⟩ =>
    exact group_apply V0 (w := 4) 1 (by omega) rfl (by omega) (a0 V0) (a2 V0) _ _
      (fun n k l => nbr_apply (by omega) 2 (by omega) _ _ _ (pos_apply V0) (len_apply V0) _ _ (fun n k => at_apply 2 _ rfl _ _ (pos_apply V0) _ _ _ _ _ n k)
        (fun n k => row_apply 2 _ rfl _ _ _ _ _ _ _ n k) _ _ _ _ _ _ _ _ _ _ n k l) _ _ _ _ _ _ _ _ _ _ _ rfl n d
  | ⟨2, _⟩ =>
    exact group_apply V0 (w := 8) 2 (by omega) rfl (by omega) (a0 V0) (a2 V0) _ _
      (fun n k l => nbr_apply (by omega) 4 (by omega) _ _ _ (pos_apply V0) (len_apply V0) _ _ (fun n k => at_apply 4 _ rfl _ _ (pos_apply V0) _ _ _ _ _ n k)
        (fun n k => row_apply 4 _ rfl _ _ _ _ _ _ _ n k) _ _ _ _ _ _ _ _ _ _ n k l) _ _ _ _ _ _ _ _ _ _ _ rfl n d
  | ⟨3, _⟩ =>
    exact group_apply V0 (w := 16) 3 (by omega) rfl (by omega) (a0 V0) (a2 V0) _ _
      (fun n k l => nbr_apply (by omega) 8 (by omega) _ _ _ (pos_apply V0) (len_apply V0) _ _ (fun n k => at_apply 8 _ rfl _ _ (pos_apply V0) _ _ _ _ _ n k)
        (fun n k => row_apply 8 _ rfl _ _ _ _ _ _ _ n k) _ _ _ _ _ _ _ _ _ _ n k l) _ _ _ _ _ _ _ _ _ _ _ rfl n d
end

/-- The first result, entry by entry. -/
theorem ma_apply (V0 : Valuation τ sig (Elt Ideal)) (h1 h2) (n : Fin 40960) (j : Fin 512) :
    (truncf .bf16 (mulf (y216 V0) (broadcastInDim S40960x512 ![0, 1] h1 (a3 V0))) h2 : FVec Ideal S40960x512 .bf16) (ix2 n j)
      = maG (a0 V0) (a2 V0) (a3 V0) n j := by
  have hj := j.isLt
  have e : j = (⟨(⟨j.val / 128, by omega⟩ : Fin 4).val * 128 + (⟨j.val % 128, by omega⟩ : Fin 128).val, by show j.val / 128 * 128 + j.val % 128 < 512; omega⟩ : Fin 512) :=
    Fin.ext (show j.val = j.val / 128 * 128 + j.val % 128 by omega)
  have hp := pools_apply V0 n ⟨j.val / 128, by omega⟩ ⟨j.val % 128, by omega⟩
  rw [← e] at hp
  unfold maG
  show y216 V0 (ix2 n j) * broadcastInDim S40960x512 ![0, 1] h1 (a3 V0) (ix2 n j) = _
  rw [hp]
  refine congrArg _ (bid_apply _ h1 _ (ix2 n j) (ix2 0 j) (fun b => ?_))
  match b with
  | ⟨0, _⟩ => exact Or.inl rfl
  | ⟨1, _⟩ => exact Or.inr rfl

/-- A row, spread over all rows. -/
theorem row1 (x : FVec Ideal S1x1024 .f32) (h) (n : Fin 40960) (d : Fin 1024) : broadcastInDim S40960x1024 ![0, 1] h x (ix2 n d) = x (ix2 0 d) := by
  refine bid_apply _ h _ (ix2 n d) (ix2 0 d) (fun b => ?_)
  match b with
  | ⟨0, _⟩ => exact Or.inl rfl
  | ⟨1, _⟩ => exact Or.inr rfl

/-- The convolution, entry by entry. -/
theorem conv_apply (V0 : Valuation τ sig (Elt Ideal)) (n : Fin 40960) (d : Fin 1024) :
    y256 V0 (ix2 n d) = convRow (fun r d => a1 V0 (ix2 r d)) (fun k d => a4 V0 (ix2 k d)) (fun d => a5 V0 (ix2 0 d)) n d := by
  unfold y256 Value.res_main_v256 convRow
  refine congr (congrArg (fun a b : EReal => a + b) ?_) (row1 _ _ n d)
  refine (sum_apply (w := 31) (C := 1024) _ _ _ n d).trans (Finset.sum_congr rfl fun k _ => ?_)
  refine congr (congrArg (fun a b : EReal => a * b) ?_) ?_
  · exact nbr_apply (w := 31) (C := 1024) (by omega) 15 (by omega) _ _ _ (pos_apply V0) (len_apply V0) _ _ (fun n k => at_apply 15 _ rfl _ _ (pos_apply V0) _ _ _ _ _ n k)
        (fun n k => row_apply 15 _ rfl _ _ _ _ _ _ _ n k) _ _ _ _ _ _ _ _ _ _ n k d
  · refine (bid_apply _ bcast_S1x31x1024_S40960x31x1024_0_1_2 _ (ix3 n k d) (ix3 0 k d) (fun b => ?_)).trans (bid_apply _ bcast_S31x1024_S1x31x1024_1_2 _ (ix3 0 k d) (ix2 k d) (fun b => ?_))
    · match b with
      | ⟨0, _⟩ => exact Or.inl rfl
      | ⟨1, _⟩ => exact Or.inr rfl
      | ⟨2, _⟩ => exact Or.inr rfl
    · match b with
      | ⟨0, _⟩ => exact Or.inr rfl
      | ⟨1, _⟩ => exact Or.inr rfl

/-- A row's value, spread over its columns. -/
theorem col1 (x : FVec Ideal S40960x1 .f32) (h) (n : Fin 40960) (d : Fin 1024) : broadcastInDim S40960x1024 ![0, 1] h x (ix2 n d) = x (ix2 n 0) := by
  refine bid_apply _ h _ (ix2 n d) (ix2 n 0) (fun b => ?_)
  match b with
  | ⟨0, _⟩ => exact Or.inr rfl
  | ⟨1, _⟩ => exact Or.inl rfl

/-- A row's sum, as a column. -/
theorem col0 (x : FVec Ideal S40960 .f32) (h) (n : Fin 40960) : broadcastInDim S40960x1 ![0] h x (ix2 n 0) = x (ix1 n) := by
  refine bid_apply _ h _ (ix2 n 0) (ix1 n) (fun b => ?_)
  match b with
  | ⟨0, _⟩ => exact Or.inr rfl

theorem centre_apply (V0 : Valuation τ sig (Elt Ideal)) (n : Fin 40960) (d : Fin 1024) :
    y262 V0 (ix2 n d) = centre (fun k => y256 V0 (ix2 n k)) d := by
  unfold y262 Value.res_main_v262 centre
  refine congrArg (fun z => y256 V0 (ix2 n d) - z) ?_
  refine (col1 _ _ n d).trans ?_
  exact congrArg (fun z => Ideal.div z (Ideal.ofBits .f32 0x44800000#32)) ((col0 _ _ n).trans (rsum_apply _ _ _ n))

theorem norm_apply (C : FVec Ideal S40960x1024 .f32) (g b : FVec Ideal S1x1024 .f32) (h1 : S40960x1.BroadcastsInDim S40960x1024 ![0, 1]) (h2 : S40960.BroadcastsInDim S40960x1 ![0]) (h3 : S40960x1024.ReducesTo [1] S40960) (h4) (h5 h6 : S_.BroadcastsInDim S40960x1 ![]) (h7 h8) (n : Fin 40960) (d : Fin 1024) :
    addf (mulf (mulf C (broadcastInDim S40960x1024 ![0, 1] h1 (Host.rsqrt (addf (Host.divf (broadcastInDim S40960x1 ![0] h2 (Host.reduceAdd (mulf C C) (constant S_ .f32 0x00000000#32) h3 h4))
      (broadcastInDim S40960x1 ![] h5 (constant S_ .f32 0x44800000#32))) (broadcastInDim S40960x1 ![] h6 (constant S_ .f32 0x358637BD#32)))))) (broadcastInDim S40960x1024 ![0, 1] h7 g)) (broadcastInDim S40960x1024 ![0, 1] h8 b) (ix2 n d)
      = normed (fun k => C (ix2 n k)) (fun d => g (ix2 0 d)) (fun d => b (ix2 0 d)) d := by
  unfold normed
  refine congr (congrArg (fun a b : EReal => a + b) ?_) (row1 b h8 n d)
  refine congr (congrArg (fun a b : EReal => a * b) ?_) (row1 g h7 n d)
  refine congrArg (fun z : EReal => C (ix2 n d) * z) ?_
  refine (col1 _ h1 n d).trans ?_
  exact congrArg (fun z => Ideal.rsqrt (Ideal.div z (Ideal.ofBits .f32 0x44800000#32) + Ideal.ofBits .f32 0x358637BD#32)) ((col0 _ h2 n).trans (rsum_apply (mulf C C) h3 h4 n))

theorem normed_apply (V0 : Valuation τ sig (Elt Ideal)) (n : Fin 40960) (d : Fin 1024) :
    y276 V0 (ix2 n d) = normed (fun k => y262 V0 (ix2 n k)) (fun d => a6 V0 (ix2 0 d)) (fun d => a7 V0 (ix2 0 d)) d :=
  norm_apply (Value.res_main_v262 V0) (a6 V0) (a7 V0) _ _ _ _ _ _ _ _ n d

/-- The last product, entry by entry. -/
theorem act_apply (Z : FVec Ideal S40960x1024 .f32) (W : FVec Ideal S1024x1024 .bf16) (b : FVec Ideal S1x1024 .f32) (h1 h2 h3 h4 h5) (n : Fin 40960) (e : Fin 1024) :
    (truncf .bf16 (addf (Host.dotGeneral dot_S40960x1024_S1024x1024_S40960x1024_1_0_0_1_n_n none (mulf Z (Host.divf (broadcastInDim S40960x1024 ![] h1 (constant S_ .f32 0x3F800000#32))
      (addf (broadcastInDim S40960x1024 ![] h2 (constant S_ .f32 0x3F800000#32)) (Host.exp (Host.negf Z))))) (extf .f32 W h3)) (broadcastInDim S40960x1024 ![0, 1] h4 b)) h5 : FVec Ideal S40960x1024 .bf16) (ix2 n e)
      = act (fun d => Z (ix2 n d)) (fun d e => W (ix2 d e)) (fun d => b (ix2 0 d)) e := by
  unfold act
  refine congr (congrArg (fun a b : EReal => a + b) ?_) (row1 b h4 n e)
  refine (dotW _ _ n e).trans (Finset.sum_congr rfl fun d _ => ?_)
  refine congrArg (fun z => z * W (ix2 d e)) ?_
  refine congrArg (fun z => Z (ix2 n d) * z) ?_
  show Ideal.div (Ideal.ofBits .f32 0x3F800000#32) (Ideal.ofBits .f32 0x3F800000#32 + Ideal.exp (-(Z (ix2 n d)))) = _
  rw [Ideal.ofBits_one_f32]
  rfl

/-- The second result, entry by entry. -/
theorem mb_apply (V0 : Valuation τ sig (Elt Ideal)) (h1 h2 h3 h4 h5) (n : Fin 40960) (e : Fin 1024) :
    (truncf .bf16 (addf (Host.dotGeneral dot_S40960x1024_S1024x1024_S40960x1024_1_0_0_1_n_n none (mulf (y276 V0) (Host.divf (broadcastInDim S40960x1024 ![] h1 (constant S_ .f32 0x3F800000#32))
      (addf (broadcastInDim S40960x1024 ![] h2 (constant S_ .f32 0x3F800000#32)) (Host.exp (Host.negf (y276 V0)))))) (extf .f32 (a8 V0) h3)) (broadcastInDim S40960x1024 ![0, 1] h4 (a9 V0))) h5 : FVec Ideal S40960x1024 .bf16) (ix2 n e)
      = mbG (a1 V0) (a4 V0) (a5 V0) (a6 V0) (a7 V0) (a8 V0) (a9 V0) n e := by
  refine (act_apply _ _ _ _ _ _ _ _ n e).trans ?_
  unfold mbG
  refine congrArg (fun z => act z _ _ e) (funext fun d => ?_)
  refine (normed_apply V0 n d).trans (congrArg (fun z => normed z _ _ d) (funext fun k => ?_))
  exact (centre_apply V0 n k).trans (congrArg (fun z => centre z k) (funext fun l => conv_apply V0 n l))

end Cert.MixRefIdeal.Hand

end
-- ==== Proof.MixIdealValue.lean ====
module

public import proofs.«01_k».proof.Defs
public import proofs.«01_k».proof.Proof.MixIdealPoint
public import proofs.«01_k».proof.Proof.MixSpec
public import proofs.«01_k».proof.Proof.MixRefValue
public import proofs.«01_k».proof.Proof.Gen.MixRefIdeal.Run
public import proofs.«01_k».proof.Proof.OutprojRefValue
public import Idealize.ShloMosaic.Lib.Pipeline.Value

@[expose] public section

set_option maxRecDepth 16384
set_option Elab.async false

noncomputable section

namespace Cert.MixIdeal.Hand

open Cert.MixIdeal Cert.MixIdeal.Gen
open Idealize.ShloMosaic
open Idealize.ShloMosaic.TcCoe
open Cert.Spec
open Idealize.SL Idealize.SL.Sem
open Cert.InprojRefIdeal.Hand (ixe)
open Cert.ReferenceIdeal.Hand (ixe3)
open Cert.OutprojIdeal.Hand (ldR ldA)
open Idealize.ShloMosaic.Pipeline (Dat Cfg Window)

/-! ## The blocks a point reads -/

theorem ix_0 : ∀ t : Fin cfg0.N, (cfg0.win 0).index t = ![t.val, 0] :=
  (by decide +kernel : ∀ t : Fin grid0.N, win0_0.index t = ![t.val, 0])
theorem ix_1 : ∀ t : Fin cfg0.N, (cfg0.win 1).index t = ![32 * t.val - 1, 0] :=
  (by decide +kernel : ∀ t : Fin grid0.N, win0_1.index t = ![32 * t.val - 1, 0])
theorem ix_2 : ∀ t : Fin cfg0.N, (cfg0.win 2).index t = ![min (32 * (t.val + 1)) 5119, 0] :=
  (by decide +kernel : ∀ t : Fin grid0.N, win0_2.index t = ![min (32 * (t.val + 1)) 5119, 0])
theorem ix_3 : ∀ t : Fin cfg0.N, (cfg0.win 3).index t = ![t.val, 0] :=
  (by decide +kernel : ∀ t : Fin grid0.N, win0_3.index t = ![t.val, 0])
theorem ix_4 : ∀ t : Fin cfg0.N, (cfg0.win 4).index t = ![16 * t.val - 1, 0] :=
  (by decide +kernel : ∀ t : Fin grid0.N, win0_4.index t = ![16 * t.val - 1, 0])
theorem ix_5 : ∀ t : Fin cfg0.N, (cfg0.win 5).index t = ![min (16 * (t.val + 1)) 2559, 0] :=
  (by decide +kernel : ∀ t : Fin grid0.N, win0_5.index t = ![min (16 * (t.val + 1)) 2559, 0])
theorem ix_14 : ∀ t : Fin cfg0.N, (cfg0.win 14).index t = ![t.val, 0] :=
  (by decide +kernel : ∀ t : Fin grid0.N, win0_14.index t = ![t.val, 0])
theorem ix_15 : ∀ t : Fin cfg0.N, (cfg0.win 15).index t = ![t.val, 0] :=
  (by decide +kernel : ∀ t : Fin grid0.N, win0_15.index t = ![t.val, 0])
theorem ix_6 : ∀ t : Fin cfg0.N, (cfg0.win 6).index t = ![0, 0, 0] :=
  (by decide +kernel : ∀ t : Fin grid0.N, win0_6.index t = ![0, 0, 0])
theorem ix_7 : ∀ t : Fin cfg0.N, (cfg0.win 7).index t = ![0, 0] :=
  (by decide +kernel : ∀ t : Fin grid0.N, win0_7.index t = ![0, 0])
theorem ix_8 : ∀ t : Fin cfg0.N, (cfg0.win 8).index t = ![0, 0] :=
  (by decide +kernel : ∀ t : Fin grid0.N, win0_8.index t = ![0, 0])
theorem ix_9 : ∀ t : Fin cfg0.N, (cfg0.win 9).index t = ![0, 0] :=
  (by decide +kernel : ∀ t : Fin grid0.N, win0_9.index t = ![0, 0])
theorem ix_10 : ∀ t : Fin cfg0.N, (cfg0.win 10).index t = ![0, 0] :=
  (by decide +kernel : ∀ t : Fin grid0.N, win0_10.index t = ![0, 0])
theorem ix_11 : ∀ t : Fin cfg0.N, (cfg0.win 11).index t = ![0, 0] :=
  (by decide +kernel : ∀ t : Fin grid0.N, win0_11.index t = ![0, 0])
theorem ix_12 : ∀ t : Fin cfg0.N, (cfg0.win 12).index t = ![0, 0] :=
  (by decide +kernel : ∀ t : Fin grid0.N, win0_12.index t = ![0, 0])
theorem ix_13 : ∀ t : Fin cfg0.N, (cfg0.win 13).index t = ![0, 0] :=
  (by decide +kernel : ∀ t : Fin grid0.N, win0_13.index t = ![0, 0])

/-- The positions and the sequence's length of a tile's rows. -/
theorem pos_tile (t r : ℕ) (hr : r < 256) : lenN (256 * t + r) = lenN (256 * t) ∧ posN (256 * t + r) = posN (256 * t) + r := by
  have hL : lenN (256 * t + r) = lenN (256 * t) := by
    unfold lenN
    split <;> split <;> omega
  refine ⟨hL, ?_⟩
  unfold posN
  rw [hL]
  unfold lenN
  split <;> omega

section Pool

variable (t : Fin cfg0.N) (z : S40960x512.Idx → EReal) (x0 : Vec Ideal S256x512 .f32) (x1 x2 : Vec Ideal S8x512 .f32)
    (h0 : ∀ (r : Fin 256) (l : Fin 512) (n : Fin 40960), n.val = 256 * t.val + r.val → x0 (ix2 r l) = z (ix2 n l))
    (h1 : t.val ≠ 0 → ∀ (r : Fin 8) (l : Fin 512) (n : Fin 40960), n.val + 8 = 256 * t.val + r.val → x1 (ix2 r l) = z (ix2 n l))
    (h2 : t.val ≠ 159 → ∀ (r : Fin 8) (l : Fin 512) (n : Fin 40960), n.val = 256 * t.val + 256 + r.val → x2 (ix2 r l) = z (ix2 n l))
    (x6 : Vec Ideal S4x128x128 .bf16) (x7 : Vec Ideal S1x512 .f32)

include h0 h1 h2

/-- One column block of the pooled half. -/
theorem pool_maG (g c r' n : ℕ) (hg : g < 4) (hc : c = 128 * g) (hr' : r' + 2 ^ g = 8) (hn : n + 1 = 2 * 2 ^ g) (h h' : BitVec 32) (hh : h = BitVec.ofNat 32 (2 ^ g)) (hh' : h' = -h)
    (hT : r' + n ≤ 16 ∧ c ≤ 384) (sl i6 i7) (r : Fin 256) (d : Fin 128) (N : Fin 40960) (J : Fin 512) (hN : N.val = 256 * t.val + r.val) (hJ : J.val = c + d.val) :
    pool (grid0.coords t) h h' (total (extZ (grid0.coords t) x0 x1 x2) c r' n hT) (extractStridedSlice S256x128 ![0, c] (wholeZ x0) sl)
      (View.ld x6 (Rect.unit (s := S4x128x128) ![g, 0, 0] S1x128x128.size i6)) (View.ld x7 (Rect.unit (s := S1x512) ![0, c] S1x128.size i7)) (ix2 r d) = maG z x6 x7 N J := by
  have ht : t.val < 160 := t.isLt
  have hr := r.isLt
  have hd := d.isLt
  have e1 : J.val / 128 = g := by omega
  have e2 : J.val % 128 = d.val := by omega
  have hp := pos_tile t.val r.val hr
  refine (pool_apply _ h h' hh' _ _ _ _ r d).trans ?_
  unfold maG poolRow
  refine congr (congrArg (fun a b : EReal => a * b) (Finset.sum_congr rfl fun e _ => ?_)) ?_
  · have he := e.isLt
    have hJe : (⟨J.val / 128 * 128 + e.val, by omega⟩ : Fin 512) = ⟨c + e.val, by omega⟩ := Fin.ext (show J.val / 128 * 128 + e.val = c + e.val by omega)
    refine congr (congrArg (fun a b : EReal => a * b) (congr (congrArg (fun a b : EReal => a - b) (congr (congrArg Ideal.div ?_) ?_)) ?_)) ?_
    · dsimp only
      rw [hJe, e1, ← hn]
      refine total_apply _ c r' r e (fun k => nbr (fun n => z (ix2 n ⟨c + e.val, by omega⟩)) (2 ^ g) N k) n hT fun k hk => ?_
      exact extZ_nbr t z x0 x1 x2 h0 h1 h2 (2 ^ g) k r.val (r' + k + r.val) _ hr (by omega) (by omega) (by omega) N hN
    · rw [pos0_eq, len_eq, e1, hh, hN, hp.1, hp.2, BitVec.ofNat_add]
    · dsimp only
      rw [hJe]
      refine Eq.trans ?_ ((ldA x0 inb_S256x512_S256x512_0_0 r ⟨c + e.val, by omega⟩).trans (h0 r ⟨c + e.val, by omega⟩ N hN))
      refine congrArg (wholeZ x0) (funext fun a => ?_)
      match a with
      | ⟨0, _⟩ => exact Fin.ext (by show 0 + r.val = r.val; omega)
      | ⟨1, _⟩ => exact Fin.ext (by show c + e.val = c + e.val; omega)
    · show x6 _ = x6 _
      refine congrArg x6 (funext fun a => ?_)
      match a with
      | ⟨0, _⟩ => exact Fin.ext (by show g + 1 * 0 = J.val / 128; omega)
      | ⟨1, _⟩ => exact Fin.ext (by show 0 + 1 * e.val = e.val; omega)
      | ⟨2, _⟩ => exact Fin.ext (by show 0 + 1 * d.val = J.val % 128; omega)
  · show x7 _ = x7 _
    refine congrArg x7 (funext fun a => ?_)
    match a with
    | ⟨0, _⟩ => rfl
    | ⟨1, _⟩ => exact Fin.ext (by show c + 1 * d.val = J.val; omega)

/-- A tile's pooled rows as rows of the whole array. -/
def gP (y : S256x512.Idx) : EReal :=
  maG z x6 x7 ⟨256 * t.val + (y 0).val, by have : t.val < 160 := t.isLt; have : (y 0).val < 256 := (y 0).isLt; omega⟩ ⟨(y 1).val, (y 1).isLt⟩

theorem piece_maG (g c r' n : ℕ) (hg : g < 4) (hc : c = 128 * g) (hr' : r' + 2 ^ g = 8) (hn : n + 1 = 2 * 2 ^ g) (h h' : BitVec 32) (hh : h = BitVec.ofNat 32 (2 ^ g)) (hh' : h' = -h)
    (hT : r' + n ≤ 16 ∧ c ≤ 384) (sl i6 i7 ib) (x : S256x128.Idx) :
    pool (grid0.coords t) h h' (total (extZ (grid0.coords t) x0 x1 x2) c r' n hT) (extractStridedSlice S256x128 ![0, c] (wholeZ x0) sl)
      (View.ld x6 (Rect.unit (s := S4x128x128) ![g, 0, 0] S1x128x128.size i6)) (View.ld x7 (Rect.unit (s := S1x512) ![0, c] S1x128.size i7)) x
        = gP t z x6 x7 ((Rect.unit (s := S256x512) ![0, c] S256x128.size ib).emb x) := by
  refine (congrArg _ (Cert.OutprojRefIdeal.Hand.eta 256 128 x)).trans (pool_maG t z x0 x1 x2 h0 h1 h2 x6 x7 g c r' n hg hc hr' hn h h' hh hh' hT sl i6 i7 _ _ _ _ ?_ ?_)
  · show 256 * t.val + (0 + 1 * (x 0).val) = 256 * t.val + (x 0).val
    omega
  · show c + 1 * (x 1).val = c + (x 1).val
    omega

theorem maL_apply (y : S256x512.Idx) : View.canon (maL (grid0.coords t) (extZ (grid0.coords t) x0 x1 x2) x0 x6 x7) y = gP t z x6 x7 y := by
  refine View.canon_apply_of_pieces (Val := Elt Ideal) (gP t z x6 x7) _ ?_ y (maL_cover _ _ _ _ _ y)
  unfold maL
  simp only [List.forall_mem_cons]
  refine ⟨fun x => ?_, fun x => ?_, fun x => ?_, fun x => ?_, fun p hp => absurd hp List.not_mem_nil⟩
  · exact piece_maG t z x0 x1 x2 h0 h1 h2 x6 x7 3 384 0 15 (by omega) rfl rfl rfl _ _ rfl rfl _ _ _ _ _ x
  · exact piece_maG t z x0 x1 x2 h0 h1 h2 x6 x7 2 256 4 7 (by omega) rfl rfl rfl _ _ rfl rfl _ _ _ _ _ x
  · exact piece_maG t z x0 x1 x2 h0 h1 h2 x6 x7 1 128 6 3 (by omega) rfl rfl rfl _ _ rfl rfl _ _ _ _ _ x
  · exact piece_maG t z x0 x1 x2 h0 h1 h2 x6 x7 0 0 7 1 (by omega) rfl rfl rfl _ _ rfl rfl _ _ _ _ _ x

end Pool

section Conv

variable (t : Fin cfg0.N) (z : S40960x1024.Idx → EReal) (x3 : Vec Ideal S256x1024 .bf16) (x4 x5 : Vec Ideal S16x1024 .bf16)
    (h0 : ∀ (r : Fin 256) (l : Fin 1024) (n : Fin 40960), n.val = 256 * t.val + r.val → x3 (ix2 r l) = z (ix2 n l))
    (h1 : t.val ≠ 0 → ∀ (r : Fin 16) (l : Fin 1024) (n : Fin 40960), n.val + 16 = 256 * t.val + r.val → x4 (ix2 r l) = z (ix2 n l))
    (h2 : t.val ≠ 159 → ∀ (r : Fin 16) (l : Fin 1024) (n : Fin 40960), n.val = 256 * t.val + 256 + r.val → x5 (ix2 r l) = z (ix2 n l))
    (x8 : Vec Ideal S31x1024 .f32) (x9 x10 x11 : Vec Ideal S1x1024 .f32) (x12 : Vec Ideal S1024x1024 .bf16) (x13 : Vec Ideal S1x1024 .f32)

include h0 h1 h2

/-- A tile's convolved rows are rows of the whole array. -/
theorem pay1_mbG (r : Fin 256) (e : Fin 1024) (N : Fin 40960) (hN : N.val = 256 * t.val + r.val) :
    k0_pay1 (View.ld (conv (extV (grid0.coords t) x3 x4 x5) x8 x9) qV) (k0_pay131 (View.ld (conv (extV (grid0.coords t) x3 x4 x5) x8 x9) qV)) (Scalar.ofBits .f32 0x44800000#32)
      (View.ld x10 qB) (View.ld x11 qB) (View.ld x12 qM) (View.ld x13 qB) (ix2 r e) = mbG z x8 x9 x10 x11 x12 x13 N e := by
  refine (pay1_apply _ _ _ _ _ r e).trans ?_
  unfold mbG
  refine congrFun (congr (congr (congrArg act (congr (congr (congrArg normed (congrArg centre (funext fun d => ?_))) (funext fun d => ldA x10 _ 0 d)) (funext fun d => ldA x11 _ 0 d)))
    (funext fun d => funext fun e => ldA x12 _ d e)) (funext fun d => ldA x13 _ 0 d)) e
  refine (ldA (φ := .f32) (conv (extV (grid0.coords t) x3 x4 x5) x8 x9) _ r d).trans ((conv_apply _ x8 x9 r d).trans ?_)
  unfold convRow
  refine congrArg (fun a : EReal => a + x9 (ix2 0 d)) (Finset.sum_congr rfl fun k _ => ?_)
  exact congrArg (fun a : EReal => a * x8 (ix2 k d)) (extV_nbr t z x3 x4 x5 h0 h1 h2 k.val r.val _ d r.isLt rfl _ N hN)

end Conv

variable (m : (ℓ : Loc nD τ sig) → Buf (Elt Ideal) ℓ) (ρ : Dev nD → PrngReg)

theorem iblk0_apply (c : Dev nD) (t : Fin cfg0.N) (r : Fin 256) (l : Fin 512) (n : Fin 40960) (hn : n.val = 256 * t.val + r.val) :
    iblk m c 0 t (ix2 r l : S256x512.Idx) = m ((c : Thread nD τ).loc main_arg0) (ix2 n l : S40960x512.Idx) := by
  show m ((c : Thread nD τ).loc main_arg0) (((cfg0.win 0).rect t).emb (ix2 r l : S256x512.Idx)) = _
  refine congrArg (m ((c : Thread nD τ).loc main_arg0)) (funext fun a => Fin.ext ((Pipeline.Window.rect_emb_val (cfg0.win 0) t (ix2 r l : S256x512.Idx) a rfl).trans ?_))
  have ht : t.val < 160 := t.isLt
  rw [ix_0]
  match a with
  | ⟨0, _⟩ => exact (show t.val * 256 + r.val = n.val by omega)
  | ⟨1, _⟩ => exact (show 0 * 512 + l.val = l.val by omega)

theorem iblk1_apply (c : Dev nD) (t : Fin cfg0.N) (h : t.val ≠ 0) (r : Fin 8) (l : Fin 512) (n : Fin 40960) (hn : n.val + 8 = 256 * t.val + r.val) :
    iblk m c 1 t (ix2 r l : S8x512.Idx) = m ((c : Thread nD τ).loc main_arg0) (ix2 n l : S40960x512.Idx) := by
  show m ((c : Thread nD τ).loc main_arg0) (((cfg0.win 1).rect t).emb (ix2 r l : S8x512.Idx)) = _
  refine congrArg (m ((c : Thread nD τ).loc main_arg0)) (funext fun a => Fin.ext ((Pipeline.Window.rect_emb_val (cfg0.win 1) t (ix2 r l : S8x512.Idx) a rfl).trans ?_))
  have ht : t.val < 160 := t.isLt
  rw [ix_1]
  match a with
  | ⟨0, _⟩ => exact (show (32 * t.val - 1) * 8 + r.val = n.val by omega)
  | ⟨1, _⟩ => exact (show 0 * 512 + l.val = l.val by omega)

theorem iblk2_apply (c : Dev nD) (t : Fin cfg0.N) (h : t.val ≠ 159) (r : Fin 8) (l : Fin 512) (n : Fin 40960) (hn : n.val = 256 * t.val + 256 + r.val) :
    iblk m c 2 t (ix2 r l : S8x512.Idx) = m ((c : Thread nD τ).loc main_arg0) (ix2 n l : S40960x512.Idx) := by
  show m ((c : Thread nD τ).loc main_arg0) (((cfg0.win 2).rect t).emb (ix2 r l : S8x512.Idx)) = _
  refine congrArg (m ((c : Thread nD τ).loc main_arg0)) (funext fun a => Fin.ext ((Pipeline.Window.rect_emb_val (cfg0.win 2) t (ix2 r l : S8x512.Idx) a rfl).trans ?_))
  have ht : t.val < 160 := t.isLt
  rw [ix_2]
  match a with
  | ⟨0, _⟩ => exact (show min (32 * (t.val + 1)) 5119 * 8 + r.val = n.val by omega)
  | ⟨1, _⟩ => exact (show 0 * 512 + l.val = l.val by omega)

theorem iblk3_apply (c : Dev nD) (t : Fin cfg0.N) (r : Fin 256) (l : Fin 1024) (n : Fin 40960) (hn : n.val = 256 * t.val + r.val) :
    iblk m c 3 t (ix2 r l : S256x1024.Idx) = m ((c : Thread nD τ).loc main_arg1) (ix2 n l : S40960x1024.Idx) := by
  show m ((c : Thread nD τ).loc main_arg1) (((cfg0.win 3).rect t).emb (ix2 r l : S256x1024.Idx)) = _
  refine congrArg (m ((c : Thread nD τ).loc main_arg1)) (funext fun a => Fin.ext ((Pipeline.Window.rect_emb_val (cfg0.win 3) t (ix2 r l : S256x1024.Idx) a rfl).trans ?_))
  have ht : t.val < 160 := t.isLt
  rw [ix_3]
  match a with
  | ⟨0, _⟩ => exact (show t.val * 256 + r.val = n.val by omega)
  | ⟨1, _⟩ => exact (show 0 * 1024 + l.val = l.val by omega)

theorem iblk4_apply (c : Dev nD) (t : Fin cfg0.N) (h : t.val ≠ 0) (r : Fin 16) (l : Fin 1024) (n : Fin 40960) (hn : n.val + 16 = 256 * t.val + r.val) :
    iblk m c 4 t (ix2 r l : S16x1024.Idx) = m ((c : Thread nD τ).loc main_arg1) (ix2 n l : S40960x1024.Idx) := by
  show m ((c : Thread nD τ).loc main_arg1) (((cfg0.win 4).rect t).emb (ix2 r l : S16x1024.Idx)) = _
  refine congrArg (m ((c : Thread nD τ).loc main_arg1)) (funext fun a => Fin.ext ((Pipeline.Window.rect_emb_val (cfg0.win 4) t (ix2 r l : S16x1024.Idx) a rfl).trans ?_))
  have ht : t.val < 160 := t.isLt
  rw [ix_4]
  match a with
  | ⟨0, _⟩ => exact (show (16 * t.val - 1) * 16 + r.val = n.val by omega)
  | ⟨1, _⟩ => exact (show 0 * 1024 + l.val = l.val by omega)

theorem iblk5_apply (c : Dev nD) (t : Fin cfg0.N) (h : t.val ≠ 159) (r : Fin 16) (l : Fin 1024) (n : Fin 40960) (hn : n.val = 256 * t.val + 256 + r.val) :
    iblk m c 5 t (ix2 r l : S16x1024.Idx) = m ((c : Thread nD τ).loc main_arg1) (ix2 n l : S40960x1024.Idx) := by
  show m ((c : Thread nD τ).loc main_arg1) (((cfg0.win 5).rect t).emb (ix2 r l : S16x1024.Idx)) = _
  refine congrArg (m ((c : Thread nD τ).loc main_arg1)) (funext fun a => Fin.ext ((Pipeline.Window.rect_emb_val (cfg0.win 5) t (ix2 r l : S16x1024.Idx) a rfl).trans ?_))
  have ht : t.val < 160 := t.isLt
  rw [ix_5]
  match a with
  | ⟨0, _⟩ => exact (show min (16 * (t.val + 1)) 2559 * 16 + r.val = n.val by omega)
  | ⟨1, _⟩ => exact (show 0 * 1024 + l.val = l.val by omega)

theorem iblk6_eq (c : Dev nD) (t : Fin cfg0.N) : iblk m c 6 t = m ((c : Thread nD τ).loc main_arg2) := by
  funext y
  show m ((c : Thread nD τ).loc main_arg2) (((cfg0.win 6).rect t).emb y) = _
  refine congrArg (m ((c : Thread nD τ).loc main_arg2)) (funext fun a => Fin.ext ((Pipeline.Window.rect_emb_val (cfg0.win 6) t y a rfl).trans ?_))
  rw [ix_6]
  match a with
  | ⟨0, h⟩ => exact (show 0 * 4 + (y ⟨0, h⟩).val = (y ⟨0, h⟩).val by omega)
  | ⟨1, h⟩ => exact (show 0 * 128 + (y ⟨1, h⟩).val = (y ⟨1, h⟩).val by omega)
  | ⟨2, h⟩ => exact (show 0 * 128 + (y ⟨2, h⟩).val = (y ⟨2, h⟩).val by omega)

theorem iblk7_eq (c : Dev nD) (t : Fin cfg0.N) : iblk m c 7 t = m ((c : Thread nD τ).loc main_arg3) := by
  funext y
  show m ((c : Thread nD τ).loc main_arg3) (((cfg0.win 7).rect t).emb y) = _
  refine congrArg (m ((c : Thread nD τ).loc main_arg3)) (funext fun a => Fin.ext ((Pipeline.Window.rect_emb_val (cfg0.win 7) t y a rfl).trans ?_))
  rw [ix_7]
  match a with
  | ⟨0, h⟩ => exact (show 0 * 1 + (y ⟨0, h⟩).val = (y ⟨0, h⟩).val by omega)
  | ⟨1, h⟩ => exact (show 0 * 512 + (y ⟨1, h⟩).val = (y ⟨1, h⟩).val by omega)

theorem iblk8_eq (c : Dev nD) (t : Fin cfg0.N) : iblk m c 8 t = m ((c : Thread nD τ).loc main_arg4) := by
  funext y
  show m ((c : Thread nD τ).loc main_arg4) (((cfg0.win 8).rect t).emb y) = _
  refine congrArg (m ((c : Thread nD τ).loc main_arg4)) (funext fun a => Fin.ext ((Pipeline.Window.rect_emb_val (cfg0.win 8) t y a rfl).trans ?_))
  rw [ix_8]
  match a with
  | ⟨0, h⟩ => exact (show 0 * 31 + (y ⟨0, h⟩).val = (y ⟨0, h⟩).val by omega)
  | ⟨1, h⟩ => exact (show 0 * 1024 + (y ⟨1, h⟩).val = (y ⟨1, h⟩).val by omega)

theorem iblk9_eq (c : Dev nD) (t : Fin cfg0.N) : iblk m c 9 t = m ((c : Thread nD τ).loc main_arg5) := by
  funext y
  show m ((c : Thread nD τ).loc main_arg5) (((cfg0.win 9).rect t).emb y) = _
  refine congrArg (m ((c : Thread nD τ).loc main_arg5)) (funext fun a => Fin.ext ((Pipeline.Window.rect_emb_val (cfg0.win 9) t y a rfl).trans ?_))
  rw [ix_9]
  match a with
  | ⟨0, h⟩ => exact (show 0 * 1 + (y ⟨0, h⟩).val = (y ⟨0, h⟩).val by omega)
  | ⟨1, h⟩ => exact (show 0 * 1024 + (y ⟨1, h⟩).val = (y ⟨1, h⟩).val by omega)

theorem iblk10_eq (c : Dev nD) (t : Fin cfg0.N) : iblk m c 10 t = m ((c : Thread nD τ).loc main_arg6) := by
  funext y
  show m ((c : Thread nD τ).loc main_arg6) (((cfg0.win 10).rect t).emb y) = _
  refine congrArg (m ((c : Thread nD τ).loc main_arg6)) (funext fun a => Fin.ext ((Pipeline.Window.rect_emb_val (cfg0.win 10) t y a rfl).trans ?_))
  rw [ix_10]
  match a with
  | ⟨0, h⟩ => exact (show 0 * 1 + (y ⟨0, h⟩).val = (y ⟨0, h⟩).val by omega)
  | ⟨1, h⟩ => exact (show 0 * 1024 + (y ⟨1, h⟩).val = (y ⟨1, h⟩).val by omega)

theorem iblk11_eq (c : Dev nD) (t : Fin cfg0.N) : iblk m c 11 t = m ((c : Thread nD τ).loc main_arg7) := by
  funext y
  show m ((c : Thread nD τ).loc main_arg7) (((cfg0.win 11).rect t).emb y) = _
  refine congrArg (m ((c : Thread nD τ).loc main_arg7)) (funext fun a => Fin.ext ((Pipeline.Window.rect_emb_val (cfg0.win 11) t y a rfl).trans ?_))
  rw [ix_11]
  match a with
  | ⟨0, h⟩ => exact (show 0 * 1 + (y ⟨0, h⟩).val = (y ⟨0, h⟩).val by omega)
  | ⟨1, h⟩ => exact (show 0 * 1024 + (y ⟨1, h⟩).val = (y ⟨1, h⟩).val by omega)

theorem iblk12_eq (c : Dev nD) (t : Fin cfg0.N) : iblk m c 12 t = m ((c : Thread nD τ).loc main_arg8) := by
  funext y
  show m ((c : Thread nD τ).loc main_arg8) (((cfg0.win 12).rect t).emb y) = _
  refine congrArg (m ((c : Thread nD τ).loc main_arg8)) (funext fun a => Fin.ext ((Pipeline.Window.rect_emb_val (cfg0.win 12) t y a rfl).trans ?_))
  rw [ix_12]
  match a with
  | ⟨0, h⟩ => exact (show 0 * 1024 + (y ⟨0, h⟩).val = (y ⟨0, h⟩).val by omega)
  | ⟨1, h⟩ => exact (show 0 * 1024 + (y ⟨1, h⟩).val = (y ⟨1, h⟩).val by omega)

theorem iblk13_eq (c : Dev nD) (t : Fin cfg0.N) : iblk m c 13 t = m ((c : Thread nD τ).loc main_arg9) := by
  funext y
  show m ((c : Thread nD τ).loc main_arg9) (((cfg0.win 13).rect t).emb y) = _
  refine congrArg (m ((c : Thread nD τ).loc main_arg9)) (funext fun a => Fin.ext ((Pipeline.Window.rect_emb_val (cfg0.win 13) t y a rfl).trans ?_))
  rw [ix_13]
  match a with
  | ⟨0, h⟩ => exact (show 0 * 1 + (y ⟨0, h⟩).val = (y ⟨0, h⟩).val by omega)
  | ⟨1, h⟩ => exact (show 0 * 1024 + (y ⟨1, h⟩).val = (y ⟨1, h⟩).val by omega)

/-! ## The whole results -/

/-- The first result at the launch's arrays. -/
def G14 (c : Dev nD) : S40960x512.Idx → EReal := fun y =>
  maG (m ((c : Thread nD τ).loc main_arg0)) (m ((c : Thread nD τ).loc main_arg2)) (m ((c : Thread nD τ).loc main_arg3)) ⟨(y 0).val, (y 0).isLt⟩ ⟨(y 1).val, (y 1).isLt⟩

/-- The second result at the launch's arrays. -/
def G15 (c : Dev nD) : S40960x1024.Idx → EReal := fun y =>
  mbG (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) ⟨(y 0).val, (y 0).isLt⟩ ⟨(y 1).val, (y 1).isLt⟩

theorem pt14 (c : Dev nD) (t : Fin cfg0.N) (y : S256x512.Idx) (x : S40960x512.Idx) (h0 : (x 0).val = t.val * 256 + (y 0).val) (h1 : (x 1).val = (y 1).val) :
    out14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y = G14 m c x := by
  unfold out14
  refine (maL_apply t (m ((c : Thread nD τ).loc main_arg0)) _ _ _ (iblk0_apply m c t) (fun h => iblk1_apply m c t h) (fun h => iblk2_apply m c t h) _ _ y).trans ?_
  rw [iblk6_eq, iblk7_eq]
  unfold gP G14
  exact congr (congrArg _ (Fin.ext (show 256 * t.val + (y 0).val = (x 0).val by omega))) (Fin.ext h1.symm)

theorem pt15 (c : Dev nD) (t : Fin cfg0.N) (y : S256x1024.Idx) (x : S40960x1024.Idx) (h0 : (x 0).val = t.val * 256 + (y 0).val) (h1 : (x 1).val = (y 1).val) :
    out15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y = G15 m c x := by
  unfold out15
  refine (congrArg _ (Cert.OutprojRefIdeal.Hand.eta 256 1024 y)).trans ?_
  refine (pay1_mbG t (m ((c : Thread nD τ).loc main_arg1)) _ _ _ (iblk3_apply m c t) (fun h => iblk4_apply m c t h) (fun h => iblk5_apply m c t h) _ _ _ _ _ _ _ _ ⟨(x 0).val, (x 0).isLt⟩ ?_).trans ?_
  · show (x 0).val = 256 * t.val + (y 0).val
    omega
  · rw [iblk8_eq, iblk9_eq, iblk10_eq, iblk11_eq, iblk12_eq, iblk13_eq]
    unfold G15
    exact congrArg _ (Fin.ext h1.symm)

/-- What a point writes back to output window 14's array. -/
theorem flushed14 (c : Dev nD) (t : Fin cfg0.N) :
    (dats m 0 c).flushed 14 t = (cfg0.win 14).cut (grid0.coords t) (out14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  show (cfg0.win 14).cut (grid0.coords t) ((dats m 0 c).after 14 t) = _
  rw [after0_14]

/-- Output window 14's array after the run. -/
theorem arr14 (c : Dev nD) : (dats m 0 c).arrAt 14 cfg0.N = G14 m c := by
  refine Dat.arrAt_eq_of_cover (dats m 0 c) 14 (G14 m c) (fun t _ => ?_) (fun i => ?_)
  · rw [flushed14 m c t]
    funext y
    have h := Pipeline.Window.rect_emb_val (cfg0.win 14) t y
    rw [ix_14] at h
    exact pt14 m c t y _ (h (0 : Fin 2)) ((h (1 : Fin 2)).trans (by show 0 * 512 + (y (1 : Fin 2)).val = (y (1 : Fin 2)).val; omega))
  · have l0 : (i (0 : Fin 2)).val < 40960 := (i (0 : Fin 2)).isLt
    obtain ⟨t, ht⟩ : ∃ t : Fin cfg0.N, t.val = (i (0 : Fin 2)).val / 256 := ⟨⟨(i (0 : Fin 2)).val / 256, by show _ < 160; omega⟩, rfl⟩
    refine ⟨t, flush0_14 t, ?_⟩
    have h := Pipeline.Window.rect_emb_val (cfg0.win 14) t (ix2 (⟨(i (0 : Fin 2)).val % 256, by omega⟩ : Fin 256) (⟨(i (1 : Fin 2)).val, (i (1 : Fin 2)).isLt⟩ : Fin 512) : S256x512.Idx)
    rw [ix_14] at h
    have he : ((cfg0.win 14).blk t).view.emb (ix2 (⟨(i (0 : Fin 2)).val % 256, by omega⟩ : Fin 256) (⟨(i (1 : Fin 2)).val, (i (1 : Fin 2)).isLt⟩ : Fin 512) : S256x512.Idx) = i := by
      funext a
      match a with
      | ⟨0, _⟩ => exact Fin.ext ((h (0 : Fin 2)).trans (by show t.val * 256 + (i (0 : Fin 2)).val % 256 = (i (0 : Fin 2)).val; omega))
      | ⟨1, _⟩ => exact Fin.ext ((h (1 : Fin 2)).trans (by show 0 * 512 + (i (1 : Fin 2)).val = (i (1 : Fin 2)).val; omega))
    have hm := View.emb_mem_set ((cfg0.win 14).blk t).view (ix2 (⟨(i (0 : Fin 2)).val % 256, by omega⟩ : Fin 256) (⟨(i (1 : Fin 2)).val, (i (1 : Fin 2)).isLt⟩ : Fin 512) : S256x512.Idx)
    rw [he] at hm
    exact hm

/-- What a point writes back to output window 15's array. -/
theorem flushed15 (c : Dev nD) (t : Fin cfg0.N) :
    (dats m 0 c).flushed 15 t = (cfg0.win 15).cut (grid0.coords t) (out15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  show (cfg0.win 15).cut (grid0.coords t) ((dats m 0 c).after 15 t) = _
  rw [after0_15]

/-- Output window 15's array after the run. -/
theorem arr15 (c : Dev nD) : (dats m 0 c).arrAt 15 cfg0.N = G15 m c := by
  refine Dat.arrAt_eq_of_cover (dats m 0 c) 15 (G15 m c) (fun t _ => ?_) (fun i => ?_)
  · rw [flushed15 m c t]
    funext y
    have h := Pipeline.Window.rect_emb_val (cfg0.win 15) t y
    rw [ix_15] at h
    exact pt15 m c t y _ (h (0 : Fin 2)) ((h (1 : Fin 2)).trans (by show 0 * 1024 + (y (1 : Fin 2)).val = (y (1 : Fin 2)).val; omega))
  · have l0 : (i (0 : Fin 2)).val < 40960 := (i (0 : Fin 2)).isLt
    obtain ⟨t, ht⟩ : ∃ t : Fin cfg0.N, t.val = (i (0 : Fin 2)).val / 256 := ⟨⟨(i (0 : Fin 2)).val / 256, by show _ < 160; omega⟩, rfl⟩
    refine ⟨t, flush0_15 t, ?_⟩
    have h := Pipeline.Window.rect_emb_val (cfg0.win 15) t (ix2 (⟨(i (0 : Fin 2)).val % 256, by omega⟩ : Fin 256) (⟨(i (1 : Fin 2)).val, (i (1 : Fin 2)).isLt⟩ : Fin 1024) : S256x1024.Idx)
    rw [ix_15] at h
    have he : ((cfg0.win 15).blk t).view.emb (ix2 (⟨(i (0 : Fin 2)).val % 256, by omega⟩ : Fin 256) (⟨(i (1 : Fin 2)).val, (i (1 : Fin 2)).isLt⟩ : Fin 1024) : S256x1024.Idx) = i := by
      funext a
      match a with
      | ⟨0, _⟩ => exact Fin.ext ((h (0 : Fin 2)).trans (by show t.val * 256 + (i (0 : Fin 2)).val % 256 = (i (0 : Fin 2)).val; omega))
      | ⟨1, _⟩ => exact Fin.ext ((h (1 : Fin 2)).trans (by show 0 * 1024 + (i (1 : Fin 2)).val = (i (1 : Fin 2)).val; omega))
    have hm := View.emb_mem_set ((cfg0.win 15).blk t).view (ix2 (⟨(i (0 : Fin 2)).val % 256, by omega⟩ : Fin 256) (⟨(i (1 : Fin 2)).val, (i (1 : Fin 2)).isLt⟩ : Fin 1024) : S256x1024.Idx)
    rw [he] at hm
    exact hm

/-- Every run ends with the two results at the whole functions, and the arguments unchanged. -/
theorem run_value : θ_run defs (onTc (τ := τ) (main (F := Ideal))) ⟨m, fun _ => 0, ρ⟩ fun r => ∀ c : Dev nD,
      r.2.mem ((c : Thread nD τ).loc main_v0_0) = G14 m c
      ∧ r.2.mem ((c : Thread nD τ).loc main_v0_1) = G15 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨((h c).1 14).trans (arr14 m c), ((h c).1 15).trans (arr15 m c),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 6).trans (((dats m 0 c).arrAt_in 6 rfl _).trans ((A_eq m c 6).trans (V_main_arg2 m c))),
      ((h c).1 7).trans (((dats m 0 c).arrAt_in 7 rfl _).trans ((A_eq m c 7).trans (V_main_arg3 m c))),
      ((h c).1 8).trans (((dats m 0 c).arrAt_in 8 rfl _).trans ((A_eq m c 8).trans (V_main_arg4 m c))),
      ((h c).1 9).trans (((dats m 0 c).arrAt_in 9 rfl _).trans ((A_eq m c 9).trans (V_main_arg5 m c))),
      ((h c).1 10).trans (((dats m 0 c).arrAt_in 10 rfl _).trans ((A_eq m c 10).trans (V_main_arg6 m c))),
      ((h c).1 11).trans (((dats m 0 c).arrAt_in 11 rfl _).trans ((A_eq m c 11).trans (V_main_arg7 m c))),
      ((h c).1 12).trans (((dats m 0 c).arrAt_in 12 rfl _).trans ((A_eq m c 12).trans (V_main_arg8 m c))),
      ((h c).1 13).trans (((dats m 0 c).arrAt_in 13 rfl _).trans ((A_eq m c 13).trans (V_main_arg9 m c)))⟩)
    (run_main m ρ)

end Cert.MixIdeal.Hand

namespace Cert.Proof

open Idealize.ShloMosaic Idealize.ShloMosaic.TcCoe Idealize.SL Idealize.SL.Sem

/-- The pooling and convolution's kernel and its plain reference end with equal results. -/
theorem algebraic_mix : Cert.algebraic_MixIdeal_MixRefIdeal := fun m g m' g' _ ha => by
  refine ⟨fun c => Cert.MixIdeal.Hand.G14 m c, fun c => Cert.MixIdeal.Hand.G15 m c, ?_, ?_⟩
  · exact Cert.MixIdeal.Hand.run_value m g
  · refine (θ_run _ _ _).mono (fun r h c => ?_) (Cert.MixRefIdeal.Value.run (F := Ideal) m' g')
    obtain ⟨e0, e1, e⟩ := h c
    obtain ⟨a0, a1, a2, a3, a4, a5, a6, a7, a8, a9⟩ := ha c
    refine ⟨e0.trans (funext fun y => ?_), e1.trans (funext fun y => ?_), e⟩
    · refine ((congrArg _ (Cert.OutprojRefIdeal.Hand.eta 40960 512 y)).trans (Cert.MixRefIdeal.Hand.ma_apply (StableHlo.launchContents m' c) _ _ _ _)).trans ?_
      show Cert.Spec.maG (m' ((c.tc : Thread Cert.MixRefIdeal.nD Cert.MixRefIdeal.τ).loc Cert.MixRefIdeal.main_arg0)) (m' ((c.tc : Thread Cert.MixRefIdeal.nD Cert.MixRefIdeal.τ).loc Cert.MixRefIdeal.main_arg2)) (m' ((c.tc : Thread Cert.MixRefIdeal.nD Cert.MixRefIdeal.τ).loc Cert.MixRefIdeal.main_arg3)) _ _ = _
      rw [a0, a2, a3]
      rfl
    · refine ((congrArg _ (Cert.OutprojRefIdeal.Hand.eta 40960 1024 y)).trans (Cert.MixRefIdeal.Hand.mb_apply (StableHlo.launchContents m' c) _ _ _ _ _ _ _)).trans ?_
      show Cert.Spec.mbG (m' ((c.tc : Thread Cert.MixRefIdeal.nD Cert.MixRefIdeal.τ).loc Cert.MixRefIdeal.main_arg1)) (m' ((c.tc : Thread Cert.MixRefIdeal.nD Cert.MixRefIdeal.τ).loc Cert.MixRefIdeal.main_arg4)) (m' ((c.tc : Thread Cert.MixRefIdeal.nD Cert.MixRefIdeal.τ).loc Cert.MixRefIdeal.main_arg5)) (m' ((c.tc : Thread Cert.MixRefIdeal.nD Cert.MixRefIdeal.τ).loc Cert.MixRefIdeal.main_arg6)) (m' ((c.tc : Thread Cert.MixRefIdeal.nD Cert.MixRefIdeal.τ).loc Cert.MixRefIdeal.main_arg7)) (m' ((c.tc : Thread Cert.MixRefIdeal.nD Cert.MixRefIdeal.τ).loc Cert.MixRefIdeal.main_arg8)) (m' ((c.tc : Thread Cert.MixRefIdeal.nD Cert.MixRefIdeal.τ).loc Cert.MixRefIdeal.main_arg9)) _ _ = _
      rw [a1, a4, a5, a6, a7, a8, a9]
      rfl

end Cert.Proof

end
-- ==== Proof.lean ====
module

public import proofs.«01_k».proof.Defs
public import proofs.«01_k».proof.Proof.Gen.Experts
public import proofs.«01_k».proof.Proof.Gen.Experts.Skeleton
public import proofs.«01_k».proof.Proof.Gen.Experts.Launch
public import proofs.«01_k».proof.Proof.Gen.Experts.Flash
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Flash
public import proofs.«01_k».proof.Proof.Gen.ReferenceIdeal
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.Outproj
public import proofs.«01_k».proof.Proof.Gen.Outproj.Skeleton
public import proofs.«01_k».proof.Proof.Gen.Outproj.Launch
public import proofs.«01_k».proof.Proof.Gen.Outproj.Points
public import proofs.«01_k».proof.Proof.Gen.Outproj.Frame
public import proofs.«01_k».proof.Proof.Gen.OutprojIdeal
public import proofs.«01_k».proof.Proof.Gen.OutprojIdeal.Skeleton
public import proofs.«01_k».proof.Proof.Gen.OutprojIdeal.Launch
public import proofs.«01_k».proof.Proof.Gen.OutprojIdeal.Points
public import proofs.«01_k».proof.Proof.Gen.OutprojIdeal.Frame
public import proofs.«01_k».proof.Proof.Gen.OutprojRefIdeal
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.Pre_tables
public import proofs.«01_k».proof.Proof.Gen.ReferenceIdeal.Run
public import proofs.«01_k».proof.Proof.Gen.InprojIdeal.Value
public import proofs.«01_k».proof.Proof.Gen.InprojRefIdeal.Run
public import proofs.«01_k».proof.Proof.Gen.OutprojRefIdeal.Run
public import proofs.«01_k».proof.Proof.Gen.MixRefIdeal.Run
public import proofs.«01_k».proof.Proof.Frames
public import proofs.«01_k».proof.Proof.ExpertsIdealValue
public import proofs.«01_k».proof.Proof.InprojIdealValue
public import proofs.«01_k».proof.Proof.OutprojIdealValue
public import proofs.«01_k».proof.Proof.MixIdealValue
public import Idealize.ShloMosaic.Adequacy
public import Idealize.ShloMosaic.Init

@[expose] public section

noncomputable section

namespace Cert.Proof

open Idealize.ShloMosaic Idealize.SL.Sem Cert.Experts

theorem claim : Cert.Claim := ⟨Cert.Experts.Gen.facts, Cert.ExpertsIdeal.Gen.facts, Cert.ReferenceIdeal.Gen.facts, Cert.Inproj.Gen.facts, Cert.InprojIdeal.Gen.facts, Cert.InprojRefIdeal.Gen.facts, Cert.Outproj.Gen.facts, Cert.OutprojIdeal.Gen.facts, Cert.OutprojRefIdeal.Gen.facts, Cert.Mix.Gen.facts, Cert.MixIdeal.Gen.facts, Cert.MixRefIdeal.Gen.facts, Cert.Pre_tables.Gen.facts,
  Cert.Experts.Hand.frame_claim, Cert.ExpertsIdeal.Hand.frame_claim, frame_ref, frame_inproj, frame_inprojIdeal, frame_inprojRef,
  frame_outproj, frame_outprojIdeal, frame_outprojRef, frame_mix, frame_mixIdeal, frame_mixRef,
  preserves_experts, algebraic_experts, trivial, algebraic_inproj, preserves_outproj, algebraic_outproj, trivial, algebraic_mix⟩

end Cert.Proof

end
